-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 4096]⟩ ⟨2, ![4096, 4096]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 512]⟩ ⟨2, ![4096, 8192]⟩ 1 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 512]⟩ ⟨2, ![4096, 8192]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x4096 : Shape := ⟨2, ![256, 4096]⟩
abbrev S4096x512 : Shape := ⟨2, ![4096, 512]⟩
abbrev S4x256x4096 : Shape := ⟨3, ![4, 256, 4096]⟩
abbrev S4x8 : Shape := ⟨2, ![4, 8]⟩
abbrev S_ : Shape := ⟨0, ![]⟩
abbrev S1x1 : Shape := ⟨2, ![1, 1]⟩
abbrev S1x32x4096 : Shape := ⟨3, ![1, 32, 4096]⟩
abbrev S32x4096 : Shape := ⟨2, ![32, 4096]⟩
abbrev S256x512 : Shape := ⟨2, ![256, 512]⟩
abbrev S1x256x4096 : Shape := ⟨3, ![1, 256, 4096]⟩
abbrev S1x128x4096 : Shape := ⟨3, ![1, 128, 4096]⟩
abbrev S128x4096 : Shape := ⟨2, ![128, 4096]⟩
abbrev S128x512 : Shape := ⟨2, ![128, 512]⟩

abbrev nBuf : Space → Nat
  | .hbm => 3
  | .vmem => 5
  | .smem => 0
  | _ => 0

abbrev bufTy : (tb : Table) → Fin (tcTables nBuf tb) → BufTy
  | .hbm, ⟨0, _⟩ => ⟨S256x4096, .f32⟩
  | .hbm, ⟨1, _⟩ => ⟨S4096x512, .f32⟩
  | .hbm, ⟨2, _⟩ => ⟨S4096x512, .f32⟩
  | .local _ .vmem, ⟨0, _⟩ => ⟨S256x4096, .f32⟩
  | .local _ .vmem, ⟨1, _⟩ => ⟨S4096x512, .f32⟩
  | .local _ .vmem, ⟨2, _⟩ => ⟨S4096x512, .f32⟩
  | .local _ .vmem, ⟨3, _⟩ => ⟨S4x256x4096, .f32⟩
  | .local _ .vmem, ⟨4, _⟩ => ⟨S4x256x4096, .f32⟩
  | _, _ => ⟨S256x4096, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 3 → Bool
  | ⟨0, _⟩ => true
  | ⟨1, _⟩ => true
  | ⟨2, _⟩ => false
  | _ => false

abbrev dmaSemScoped : Fin 131 → Bool
  | ⟨i, _⟩ => dmaSemScopedAt i

abbrev sig : RefSig :=
  (ofTc nBuf bufTy 3 131 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 2

abbrev nD : Nat := 16
abbrev τ : Topo := Topo.v7x

variable {F : FTy → Type} [FloatOps F]

abbrev grid0 : Pipeline.Grid := .none

def k0_dev1 (d0 : Dev nD) : Nat :=
  let c0_i32_588 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c_m1_i32 : BitVec 32 := 4294967295#32
  let v33 : BitVec 32 := Scalar.addi v32 c_m1_i32
  let c32_i32 : BitVec 32 := 32#32
  let v34 : BitVec 32 := Scalar.addi v33 c32_i32
  let c16_i32_16 : BitVec 32 := 16#32
  let v35 : BitVec 32 := Scalar.remsi v34 c16_i32_16
  let c15_i32_46 : BitVec 32 := 15#32
  let v64 : BitVec 1 := Scalar.cmpi .eq v35 c15_i32_46
  let c4_i32_47 : BitVec 32 := 4#32
  let c14_i32_44 : BitVec 32 := 14#32
  let v62 : BitVec 1 := Scalar.cmpi .eq v35 c14_i32_44
  let c8_i32_45 : BitVec 32 := 8#32
  let c13_i32_42 : BitVec 32 := 13#32
  let v60 : BitVec 1 := Scalar.cmpi .eq v35 c13_i32_42
  let c12_i32_43 : BitVec 32 := 12#32
  let c12_i32_40 : BitVec 32 := 12#32
  let v58 : BitVec 1 := Scalar.cmpi .eq v35 c12_i32_40
  let c15_i32_41 : BitVec 32 := 15#32
  let c11_i32_38 : BitVec 32 := 11#32
  let v56 : BitVec 1 := Scalar.cmpi .eq v35 c11_i32_38
  let c11_i32_39 : BitVec 32 := 11#32
  let c10_i32_36 : BitVec 32 := 10#32
  let v54 : BitVec 1 := Scalar.cmpi .eq v35 c10_i32_36
  let c7_i32_37 : BitVec 32 := 7#32
  let c9_i32_34 : BitVec 32 := 9#32
  let v52 : BitVec 1 := Scalar.cmpi .eq v35 c9_i32_34
  let c3_i32_35 : BitVec 32 := 3#32
  let c8_i32_32 : BitVec 32 := 8#32
  let v50 : BitVec 1 := Scalar.cmpi .eq v35 c8_i32_32
  let c2_i32_33 : BitVec 32 := 2#32
  let c7_i32_30 : BitVec 32 := 7#32
  let v48 : BitVec 1 := Scalar.cmpi .eq v35 c7_i32_30
  let c6_i32_31 : BitVec 32 := 6#32
  let c6_i32_28 : BitVec 32 := 6#32
  let v46 : BitVec 1 := Scalar.cmpi .eq v35 c6_i32_28
  let c10_i32_29 : BitVec 32 := 10#32
  let c5_i32_26 : BitVec 32 := 5#32
  let v44 : BitVec 1 := Scalar.cmpi .eq v35 c5_i32_26
  let c14_i32_27 : BitVec 32 := 14#32
  let c4_i32_24 : BitVec 32 := 4#32
  let v42 : BitVec 1 := Scalar.cmpi .eq v35 c4_i32_24
  let c13_i32_25 : BitVec 32 := 13#32
  let c3_i32_22 : BitVec 32 := 3#32
  let v40 : BitVec 1 := Scalar.cmpi .eq v35 c3_i32_22
  let c9_i32_23 : BitVec 32 := 9#32
  let c2_i32_20 : BitVec 32 := 2#32
  let v38 : BitVec 1 := Scalar.cmpi .eq v35 c2_i32_20
  let c5_i32_21 : BitVec 32 := 5#32
  let c1_i32_17 : BitVec 32 := 1#32
  let v36 : BitVec 1 := Scalar.cmpi .eq v35 c1_i32_17
  let c1_i32_18 : BitVec 32 := 1#32
  let c0_i32_19 : BitVec 32 := 0#32
  let v37 : BitVec 32 := Scalar.select v36 c1_i32_18 c0_i32_19
  let v39 : BitVec 32 := Scalar.select v38 c5_i32_21 v37
  let v41 : BitVec 32 := Scalar.select v40 c9_i32_23 v39
  let v43 : BitVec 32 := Scalar.select v42 c13_i32_25 v41
  let v45 : BitVec 32 := Scalar.select v44 c14_i32_27 v43
  let v47 : BitVec 32 := Scalar.select v46 c10_i32_29 v45
  let v49 : BitVec 32 := Scalar.select v48 c6_i32_31 v47
  let v51 : BitVec 32 := Scalar.select v50 c2_i32_33 v49
  let v53 : BitVec 32 := Scalar.select v52 c3_i32_35 v51
  let v55 : BitVec 32 := Scalar.select v54 c7_i32_37 v53
  let v57 : BitVec 32 := Scalar.select v56 c11_i32_39 v55
  let v59 : BitVec 32 := Scalar.select v58 c15_i32_41 v57
  let v61 : BitVec 32 := Scalar.select v60 c12_i32_43 v59
  let v63 : BitVec 32 := Scalar.select v62 c8_i32_45 v61
  let v65 : BitVec 32 := Scalar.select v64 c4_i32_47 v63
  let c1_i32_587 : BitVec 32 := 1#32
  let v595 : BitVec 32 := Scalar.muli v65 c1_i32_587
  let v596 : BitVec 32 := Scalar.addi c0_i32_588 v595
  v596.toNat
def k0_dev2 (d0 : Dev nD) : Nat :=
  let c0_i32_591 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_48 : BitVec 32 := 1#32
  let v66 : BitVec 32 := Scalar.addi v32 c1_i32_48
  let c32_i32_49 : BitVec 32 := 32#32
  let v67 : BitVec 32 := Scalar.addi v66 c32_i32_49
  let c16_i32_50 : BitVec 32 := 16#32
  let v68 : BitVec 32 := Scalar.remsi v67 c16_i32_50
  let c15_i32_80 : BitVec 32 := 15#32
  let v97 : BitVec 1 := Scalar.cmpi .eq v68 c15_i32_80
  let c4_i32_81 : BitVec 32 := 4#32
  let c14_i32_78 : BitVec 32 := 14#32
  let v95 : BitVec 1 := Scalar.cmpi .eq v68 c14_i32_78
  let c8_i32_79 : BitVec 32 := 8#32
  let c13_i32_76 : BitVec 32 := 13#32
  let v93 : BitVec 1 := Scalar.cmpi .eq v68 c13_i32_76
  let c12_i32_77 : BitVec 32 := 12#32
  let c12_i32_74 : BitVec 32 := 12#32
  let v91 : BitVec 1 := Scalar.cmpi .eq v68 c12_i32_74
  let c15_i32_75 : BitVec 32 := 15#32
  let c11_i32_72 : BitVec 32 := 11#32
  let v89 : BitVec 1 := Scalar.cmpi .eq v68 c11_i32_72
  let c11_i32_73 : BitVec 32 := 11#32
  let c10_i32_70 : BitVec 32 := 10#32
  let v87 : BitVec 1 := Scalar.cmpi .eq v68 c10_i32_70
  let c7_i32_71 : BitVec 32 := 7#32
  let c9_i32_68 : BitVec 32 := 9#32
  let v85 : BitVec 1 := Scalar.cmpi .eq v68 c9_i32_68
  let c3_i32_69 : BitVec 32 := 3#32
  let c8_i32_66 : BitVec 32 := 8#32
  let v83 : BitVec 1 := Scalar.cmpi .eq v68 c8_i32_66
  let c2_i32_67 : BitVec 32 := 2#32
  let c7_i32_64 : BitVec 32 := 7#32
  let v81 : BitVec 1 := Scalar.cmpi .eq v68 c7_i32_64
  let c6_i32_65 : BitVec 32 := 6#32
  let c6_i32_62 : BitVec 32 := 6#32
  let v79 : BitVec 1 := Scalar.cmpi .eq v68 c6_i32_62
  let c10_i32_63 : BitVec 32 := 10#32
  let c5_i32_60 : BitVec 32 := 5#32
  let v77 : BitVec 1 := Scalar.cmpi .eq v68 c5_i32_60
  let c14_i32_61 : BitVec 32 := 14#32
  let c4_i32_58 : BitVec 32 := 4#32
  let v75 : BitVec 1 := Scalar.cmpi .eq v68 c4_i32_58
  let c13_i32_59 : BitVec 32 := 13#32
  let c3_i32_56 : BitVec 32 := 3#32
  let v73 : BitVec 1 := Scalar.cmpi .eq v68 c3_i32_56
  let c9_i32_57 : BitVec 32 := 9#32
  let c2_i32_54 : BitVec 32 := 2#32
  let v71 : BitVec 1 := Scalar.cmpi .eq v68 c2_i32_54
  let c5_i32_55 : BitVec 32 := 5#32
  let c1_i32_51 : BitVec 32 := 1#32
  let v69 : BitVec 1 := Scalar.cmpi .eq v68 c1_i32_51
  let c1_i32_52 : BitVec 32 := 1#32
  let c0_i32_53 : BitVec 32 := 0#32
  let v70 : BitVec 32 := Scalar.select v69 c1_i32_52 c0_i32_53
  let v72 : BitVec 32 := Scalar.select v71 c5_i32_55 v70
  let v74 : BitVec 32 := Scalar.select v73 c9_i32_57 v72
  let v76 : BitVec 32 := Scalar.select v75 c13_i32_59 v74
  let v78 : BitVec 32 := Scalar.select v77 c14_i32_61 v76
  let v80 : BitVec 32 := Scalar.select v79 c10_i32_63 v78
  let v82 : BitVec 32 := Scalar.select v81 c6_i32_65 v80
  let v84 : BitVec 32 := Scalar.select v83 c2_i32_67 v82
  let v86 : BitVec 32 := Scalar.select v85 c3_i32_69 v84
  let v88 : BitVec 32 := Scalar.select v87 c7_i32_71 v86
  let v90 : BitVec 32 := Scalar.select v89 c11_i32_73 v88
  let v92 : BitVec 32 := Scalar.select v91 c15_i32_75 v90
  let v94 : BitVec 32 := Scalar.select v93 c12_i32_77 v92
  let v96 : BitVec 32 := Scalar.select v95 c8_i32_79 v94
  let v98 : BitVec 32 := Scalar.select v97 c4_i32_81 v96
  let c1_i32_590 : BitVec 32 := 1#32
  let v597 : BitVec 32 := Scalar.muli v98 c1_i32_590
  let v598 : BitVec 32 := Scalar.addi c0_i32_591 v597
  v598.toNat
def k0_dev3 (d0 : Dev nD) : Nat :=
  let c0_i32_599 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_48 : BitVec 32 := 1#32
  let v66 : BitVec 32 := Scalar.addi v32 c1_i32_48
  let c32_i32_49 : BitVec 32 := 32#32
  let v67 : BitVec 32 := Scalar.addi v66 c32_i32_49
  let c16_i32_50 : BitVec 32 := 16#32
  let v68 : BitVec 32 := Scalar.remsi v67 c16_i32_50
  let c15_i32_80 : BitVec 32 := 15#32
  let v97 : BitVec 1 := Scalar.cmpi .eq v68 c15_i32_80
  let c4_i32_81 : BitVec 32 := 4#32
  let c14_i32_78 : BitVec 32 := 14#32
  let v95 : BitVec 1 := Scalar.cmpi .eq v68 c14_i32_78
  let c8_i32_79 : BitVec 32 := 8#32
  let c13_i32_76 : BitVec 32 := 13#32
  let v93 : BitVec 1 := Scalar.cmpi .eq v68 c13_i32_76
  let c12_i32_77 : BitVec 32 := 12#32
  let c12_i32_74 : BitVec 32 := 12#32
  let v91 : BitVec 1 := Scalar.cmpi .eq v68 c12_i32_74
  let c15_i32_75 : BitVec 32 := 15#32
  let c11_i32_72 : BitVec 32 := 11#32
  let v89 : BitVec 1 := Scalar.cmpi .eq v68 c11_i32_72
  let c11_i32_73 : BitVec 32 := 11#32
  let c10_i32_70 : BitVec 32 := 10#32
  let v87 : BitVec 1 := Scalar.cmpi .eq v68 c10_i32_70
  let c7_i32_71 : BitVec 32 := 7#32
  let c9_i32_68 : BitVec 32 := 9#32
  let v85 : BitVec 1 := Scalar.cmpi .eq v68 c9_i32_68
  let c3_i32_69 : BitVec 32 := 3#32
  let c8_i32_66 : BitVec 32 := 8#32
  let v83 : BitVec 1 := Scalar.cmpi .eq v68 c8_i32_66
  let c2_i32_67 : BitVec 32 := 2#32
  let c7_i32_64 : BitVec 32 := 7#32
  let v81 : BitVec 1 := Scalar.cmpi .eq v68 c7_i32_64
  let c6_i32_65 : BitVec 32 := 6#32
  let c6_i32_62 : BitVec 32 := 6#32
  let v79 : BitVec 1 := Scalar.cmpi .eq v68 c6_i32_62
  let c10_i32_63 : BitVec 32 := 10#32
  let c5_i32_60 : BitVec 32 := 5#32
  let v77 : BitVec 1 := Scalar.cmpi .eq v68 c5_i32_60
  let c14_i32_61 : BitVec 32 := 14#32
  let c4_i32_58 : BitVec 32 := 4#32
  let v75 : BitVec 1 := Scalar.cmpi .eq v68 c4_i32_58
  let c13_i32_59 : BitVec 32 := 13#32
  let c3_i32_56 : BitVec 32 := 3#32
  let v73 : BitVec 1 := Scalar.cmpi .eq v68 c3_i32_56
  let c9_i32_57 : BitVec 32 := 9#32
  let c2_i32_54 : BitVec 32 := 2#32
  let v71 : BitVec 1 := Scalar.cmpi .eq v68 c2_i32_54
  let c5_i32_55 : BitVec 32 := 5#32
  let c1_i32_51 : BitVec 32 := 1#32
  let v69 : BitVec 1 := Scalar.cmpi .eq v68 c1_i32_51
  let c1_i32_52 : BitVec 32 := 1#32
  let c0_i32_53 : BitVec 32 := 0#32
  let v70 : BitVec 32 := Scalar.select v69 c1_i32_52 c0_i32_53
  let v72 : BitVec 32 := Scalar.select v71 c5_i32_55 v70
  let v74 : BitVec 32 := Scalar.select v73 c9_i32_57 v72
  let v76 : BitVec 32 := Scalar.select v75 c13_i32_59 v74
  let v78 : BitVec 32 := Scalar.select v77 c14_i32_61 v76
  let v80 : BitVec 32 := Scalar.select v79 c10_i32_63 v78
  let v82 : BitVec 32 := Scalar.select v81 c6_i32_65 v80
  let v84 : BitVec 32 := Scalar.select v83 c2_i32_67 v82
  let v86 : BitVec 32 := Scalar.select v85 c3_i32_69 v84
  let v88 : BitVec 32 := Scalar.select v87 c7_i32_71 v86
  let v90 : BitVec 32 := Scalar.select v89 c11_i32_73 v88
  let v92 : BitVec 32 := Scalar.select v91 c15_i32_75 v90
  let v94 : BitVec 32 := Scalar.select v93 c12_i32_77 v92
  let v96 : BitVec 32 := Scalar.select v95 c8_i32_79 v94
  let v98 : BitVec 32 := Scalar.select v97 c4_i32_81 v96
  let c1_i32_598 : BitVec 32 := 1#32
  let v599 : BitVec 32 := Scalar.muli v98 c1_i32_598
  let v600 : BitVec 32 := Scalar.addi c0_i32_599 v599
  v600.toNat
def k0_dev4 (d0 : Dev nD) : Nat :=
  let c0_i32_610 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_48 : BitVec 32 := 1#32
  let v66 : BitVec 32 := Scalar.addi v32 c1_i32_48
  let c32_i32_49 : BitVec 32 := 32#32
  let v67 : BitVec 32 := Scalar.addi v66 c32_i32_49
  let c16_i32_50 : BitVec 32 := 16#32
  let v68 : BitVec 32 := Scalar.remsi v67 c16_i32_50
  let c15_i32_80 : BitVec 32 := 15#32
  let v97 : BitVec 1 := Scalar.cmpi .eq v68 c15_i32_80
  let c4_i32_81 : BitVec 32 := 4#32
  let c14_i32_78 : BitVec 32 := 14#32
  let v95 : BitVec 1 := Scalar.cmpi .eq v68 c14_i32_78
  let c8_i32_79 : BitVec 32 := 8#32
  let c13_i32_76 : BitVec 32 := 13#32
  let v93 : BitVec 1 := Scalar.cmpi .eq v68 c13_i32_76
  let c12_i32_77 : BitVec 32 := 12#32
  let c12_i32_74 : BitVec 32 := 12#32
  let v91 : BitVec 1 := Scalar.cmpi .eq v68 c12_i32_74
  let c15_i32_75 : BitVec 32 := 15#32
  let c11_i32_72 : BitVec 32 := 11#32
  let v89 : BitVec 1 := Scalar.cmpi .eq v68 c11_i32_72
  let c11_i32_73 : BitVec 32 := 11#32
  let c10_i32_70 : BitVec 32 := 10#32
  let v87 : BitVec 1 := Scalar.cmpi .eq v68 c10_i32_70
  let c7_i32_71 : BitVec 32 := 7#32
  let c9_i32_68 : BitVec 32 := 9#32
  let v85 : BitVec 1 := Scalar.cmpi .eq v68 c9_i32_68
  let c3_i32_69 : BitVec 32 := 3#32
  let c8_i32_66 : BitVec 32 := 8#32
  let v83 : BitVec 1 := Scalar.cmpi .eq v68 c8_i32_66
  let c2_i32_67 : BitVec 32 := 2#32
  let c7_i32_64 : BitVec 32 := 7#32
  let v81 : BitVec 1 := Scalar.cmpi .eq v68 c7_i32_64
  let c6_i32_65 : BitVec 32 := 6#32
  let c6_i32_62 : BitVec 32 := 6#32
  let v79 : BitVec 1 := Scalar.cmpi .eq v68 c6_i32_62
  let c10_i32_63 : BitVec 32 := 10#32
  let c5_i32_60 : BitVec 32 := 5#32
  let v77 : BitVec 1 := Scalar.cmpi .eq v68 c5_i32_60
  let c14_i32_61 : BitVec 32 := 14#32
  let c4_i32_58 : BitVec 32 := 4#32
  let v75 : BitVec 1 := Scalar.cmpi .eq v68 c4_i32_58
  let c13_i32_59 : BitVec 32 := 13#32
  let c3_i32_56 : BitVec 32 := 3#32
  let v73 : BitVec 1 := Scalar.cmpi .eq v68 c3_i32_56
  let c9_i32_57 : BitVec 32 := 9#32
  let c2_i32_54 : BitVec 32 := 2#32
  let v71 : BitVec 1 := Scalar.cmpi .eq v68 c2_i32_54
  let c5_i32_55 : BitVec 32 := 5#32
  let c1_i32_51 : BitVec 32 := 1#32
  let v69 : BitVec 1 := Scalar.cmpi .eq v68 c1_i32_51
  let c1_i32_52 : BitVec 32 := 1#32
  let c0_i32_53 : BitVec 32 := 0#32
  let v70 : BitVec 32 := Scalar.select v69 c1_i32_52 c0_i32_53
  let v72 : BitVec 32 := Scalar.select v71 c5_i32_55 v70
  let v74 : BitVec 32 := Scalar.select v73 c9_i32_57 v72
  let v76 : BitVec 32 := Scalar.select v75 c13_i32_59 v74
  let v78 : BitVec 32 := Scalar.select v77 c14_i32_61 v76
  let v80 : BitVec 32 := Scalar.select v79 c10_i32_63 v78
  let v82 : BitVec 32 := Scalar.select v81 c6_i32_65 v80
  let v84 : BitVec 32 := Scalar.select v83 c2_i32_67 v82
  let v86 : BitVec 32 := Scalar.select v85 c3_i32_69 v84
  let v88 : BitVec 32 := Scalar.select v87 c7_i32_71 v86
  let v90 : BitVec 32 := Scalar.select v89 c11_i32_73 v88
  let v92 : BitVec 32 := Scalar.select v91 c15_i32_75 v90
  let v94 : BitVec 32 := Scalar.select v93 c12_i32_77 v92
  let v96 : BitVec 32 := Scalar.select v95 c8_i32_79 v94
  let v98 : BitVec 32 := Scalar.select v97 c4_i32_81 v96
  let c1_i32_609 : BitVec 32 := 1#32
  let v608 : BitVec 32 := Scalar.muli v98 c1_i32_609
  let v609 : BitVec 32 := Scalar.addi c0_i32_610 v608
  v609.toNat
def k0_dev5 (d0 : Dev nD) : Nat :=
  let c0_i32_621 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_48 : BitVec 32 := 1#32
  let v66 : BitVec 32 := Scalar.addi v32 c1_i32_48
  let c32_i32_49 : BitVec 32 := 32#32
  let v67 : BitVec 32 := Scalar.addi v66 c32_i32_49
  let c16_i32_50 : BitVec 32 := 16#32
  let v68 : BitVec 32 := Scalar.remsi v67 c16_i32_50
  let c15_i32_80 : BitVec 32 := 15#32
  let v97 : BitVec 1 := Scalar.cmpi .eq v68 c15_i32_80
  let c4_i32_81 : BitVec 32 := 4#32
  let c14_i32_78 : BitVec 32 := 14#32
  let v95 : BitVec 1 := Scalar.cmpi .eq v68 c14_i32_78
  let c8_i32_79 : BitVec 32 := 8#32
  let c13_i32_76 : BitVec 32 := 13#32
  let v93 : BitVec 1 := Scalar.cmpi .eq v68 c13_i32_76
  let c12_i32_77 : BitVec 32 := 12#32
  let c12_i32_74 : BitVec 32 := 12#32
  let v91 : BitVec 1 := Scalar.cmpi .eq v68 c12_i32_74
  let c15_i32_75 : BitVec 32 := 15#32
  let c11_i32_72 : BitVec 32 := 11#32
  let v89 : BitVec 1 := Scalar.cmpi .eq v68 c11_i32_72
  let c11_i32_73 : BitVec 32 := 11#32
  let c10_i32_70 : BitVec 32 := 10#32
  let v87 : BitVec 1 := Scalar.cmpi .eq v68 c10_i32_70
  let c7_i32_71 : BitVec 32 := 7#32
  let c9_i32_68 : BitVec 32 := 9#32
  let v85 : BitVec 1 := Scalar.cmpi .eq v68 c9_i32_68
  let c3_i32_69 : BitVec 32 := 3#32
  let c8_i32_66 : BitVec 32 := 8#32
  let v83 : BitVec 1 := Scalar.cmpi .eq v68 c8_i32_66
  let c2_i32_67 : BitVec 32 := 2#32
  let c7_i32_64 : BitVec 32 := 7#32
  let v81 : BitVec 1 := Scalar.cmpi .eq v68 c7_i32_64
  let c6_i32_65 : BitVec 32 := 6#32
  let c6_i32_62 : BitVec 32 := 6#32
  let v79 : BitVec 1 := Scalar.cmpi .eq v68 c6_i32_62
  let c10_i32_63 : BitVec 32 := 10#32
  let c5_i32_60 : BitVec 32 := 5#32
  let v77 : BitVec 1 := Scalar.cmpi .eq v68 c5_i32_60
  let c14_i32_61 : BitVec 32 := 14#32
  let c4_i32_58 : BitVec 32 := 4#32
  let v75 : BitVec 1 := Scalar.cmpi .eq v68 c4_i32_58
  let c13_i32_59 : BitVec 32 := 13#32
  let c3_i32_56 : BitVec 32 := 3#32
  let v73 : BitVec 1 := Scalar.cmpi .eq v68 c3_i32_56
  let c9_i32_57 : BitVec 32 := 9#32
  let c2_i32_54 : BitVec 32 := 2#32
  let v71 : BitVec 1 := Scalar.cmpi .eq v68 c2_i32_54
  let c5_i32_55 : BitVec 32 := 5#32
  let c1_i32_51 : BitVec 32 := 1#32
  let v69 : BitVec 1 := Scalar.cmpi .eq v68 c1_i32_51
  let c1_i32_52 : BitVec 32 := 1#32
  let c0_i32_53 : BitVec 32 := 0#32
  let v70 : BitVec 32 := Scalar.select v69 c1_i32_52 c0_i32_53
  let v72 : BitVec 32 := Scalar.select v71 c5_i32_55 v70
  let v74 : BitVec 32 := Scalar.select v73 c9_i32_57 v72
  let v76 : BitVec 32 := Scalar.select v75 c13_i32_59 v74
  let v78 : BitVec 32 := Scalar.select v77 c14_i32_61 v76
  let v80 : BitVec 32 := Scalar.select v79 c10_i32_63 v78
  let v82 : BitVec 32 := Scalar.select v81 c6_i32_65 v80
  let v84 : BitVec 32 := Scalar.select v83 c2_i32_67 v82
  let v86 : BitVec 32 := Scalar.select v85 c3_i32_69 v84
  let v88 : BitVec 32 := Scalar.select v87 c7_i32_71 v86
  let v90 : BitVec 32 := Scalar.select v89 c11_i32_73 v88
  let v92 : BitVec 32 := Scalar.select v91 c15_i32_75 v90
  let v94 : BitVec 32 := Scalar.select v93 c12_i32_77 v92
  let v96 : BitVec 32 := Scalar.select v95 c8_i32_79 v94
  let v98 : BitVec 32 := Scalar.select v97 c4_i32_81 v96
  let c1_i32_620 : BitVec 32 := 1#32
  let v617 : BitVec 32 := Scalar.muli v98 c1_i32_620
  let v618 : BitVec 32 := Scalar.addi c0_i32_621 v617
  v618.toNat
def k0_dev6 (d0 : Dev nD) : Nat :=
  let c0_i32_631 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_48 : BitVec 32 := 1#32
  let v66 : BitVec 32 := Scalar.addi v32 c1_i32_48
  let c32_i32_49 : BitVec 32 := 32#32
  let v67 : BitVec 32 := Scalar.addi v66 c32_i32_49
  let c16_i32_50 : BitVec 32 := 16#32
  let v68 : BitVec 32 := Scalar.remsi v67 c16_i32_50
  let c15_i32_80 : BitVec 32 := 15#32
  let v97 : BitVec 1 := Scalar.cmpi .eq v68 c15_i32_80
  let c4_i32_81 : BitVec 32 := 4#32
  let c14_i32_78 : BitVec 32 := 14#32
  let v95 : BitVec 1 := Scalar.cmpi .eq v68 c14_i32_78
  let c8_i32_79 : BitVec 32 := 8#32
  let c13_i32_76 : BitVec 32 := 13#32
  let v93 : BitVec 1 := Scalar.cmpi .eq v68 c13_i32_76
  let c12_i32_77 : BitVec 32 := 12#32
  let c12_i32_74 : BitVec 32 := 12#32
  let v91 : BitVec 1 := Scalar.cmpi .eq v68 c12_i32_74
  let c15_i32_75 : BitVec 32 := 15#32
  let c11_i32_72 : BitVec 32 := 11#32
  let v89 : BitVec 1 := Scalar.cmpi .eq v68 c11_i32_72
  let c11_i32_73 : BitVec 32 := 11#32
  let c10_i32_70 : BitVec 32 := 10#32
  let v87 : BitVec 1 := Scalar.cmpi .eq v68 c10_i32_70
  let c7_i32_71 : BitVec 32 := 7#32
  let c9_i32_68 : BitVec 32 := 9#32
  let v85 : BitVec 1 := Scalar.cmpi .eq v68 c9_i32_68
  let c3_i32_69 : BitVec 32 := 3#32
  let c8_i32_66 : BitVec 32 := 8#32
  let v83 : BitVec 1 := Scalar.cmpi .eq v68 c8_i32_66
  let c2_i32_67 : BitVec 32 := 2#32
  let c7_i32_64 : BitVec 32 := 7#32
  let v81 : BitVec 1 := Scalar.cmpi .eq v68 c7_i32_64
  let c6_i32_65 : BitVec 32 := 6#32
  let c6_i32_62 : BitVec 32 := 6#32
  let v79 : BitVec 1 := Scalar.cmpi .eq v68 c6_i32_62
  let c10_i32_63 : BitVec 32 := 10#32
  let c5_i32_60 : BitVec 32 := 5#32
  let v77 : BitVec 1 := Scalar.cmpi .eq v68 c5_i32_60
  let c14_i32_61 : BitVec 32 := 14#32
  let c4_i32_58 : BitVec 32 := 4#32
  let v75 : BitVec 1 := Scalar.cmpi .eq v68 c4_i32_58
  let c13_i32_59 : BitVec 32 := 13#32
  let c3_i32_56 : BitVec 32 := 3#32
  let v73 : BitVec 1 := Scalar.cmpi .eq v68 c3_i32_56
  let c9_i32_57 : BitVec 32 := 9#32
  let c2_i32_54 : BitVec 32 := 2#32
  let v71 : BitVec 1 := Scalar.cmpi .eq v68 c2_i32_54
  let c5_i32_55 : BitVec 32 := 5#32
  let c1_i32_51 : BitVec 32 := 1#32
  let v69 : BitVec 1 := Scalar.cmpi .eq v68 c1_i32_51
  let c1_i32_52 : BitVec 32 := 1#32
  let c0_i32_53 : BitVec 32 := 0#32
  let v70 : BitVec 32 := Scalar.select v69 c1_i32_52 c0_i32_53
  let v72 : BitVec 32 := Scalar.select v71 c5_i32_55 v70
  let v74 : BitVec 32 := Scalar.select v73 c9_i32_57 v72
  let v76 : BitVec 32 := Scalar.select v75 c13_i32_59 v74
  let v78 : BitVec 32 := Scalar.select v77 c14_i32_61 v76
  let v80 : BitVec 32 := Scalar.select v79 c10_i32_63 v78
  let v82 : BitVec 32 := Scalar.select v81 c6_i32_65 v80
  let v84 : BitVec 32 := Scalar.select v83 c2_i32_67 v82
  let v86 : BitVec 32 := Scalar.select v85 c3_i32_69 v84
  let v88 : BitVec 32 := Scalar.select v87 c7_i32_71 v86
  let v90 : BitVec 32 := Scalar.select v89 c11_i32_73 v88
  let v92 : BitVec 32 := Scalar.select v91 c15_i32_75 v90
  let v94 : BitVec 32 := Scalar.select v93 c12_i32_77 v92
  let v96 : BitVec 32 := Scalar.select v95 c8_i32_79 v94
  let v98 : BitVec 32 := Scalar.select v97 c4_i32_81 v96
  let c1_i32_630 : BitVec 32 := 1#32
  let v626 : BitVec 32 := Scalar.muli v98 c1_i32_630
  let v627 : BitVec 32 := Scalar.addi c0_i32_631 v626
  v627.toNat
def k0_dev7 (d0 : Dev nD) : Nat :=
  let c0_i32_641 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_48 : BitVec 32 := 1#32
  let v66 : BitVec 32 := Scalar.addi v32 c1_i32_48
  let c32_i32_49 : BitVec 32 := 32#32
  let v67 : BitVec 32 := Scalar.addi v66 c32_i32_49
  let c16_i32_50 : BitVec 32 := 16#32
  let v68 : BitVec 32 := Scalar.remsi v67 c16_i32_50
  let c15_i32_80 : BitVec 32 := 15#32
  let v97 : BitVec 1 := Scalar.cmpi .eq v68 c15_i32_80
  let c4_i32_81 : BitVec 32 := 4#32
  let c14_i32_78 : BitVec 32 := 14#32
  let v95 : BitVec 1 := Scalar.cmpi .eq v68 c14_i32_78
  let c8_i32_79 : BitVec 32 := 8#32
  let c13_i32_76 : BitVec 32 := 13#32
  let v93 : BitVec 1 := Scalar.cmpi .eq v68 c13_i32_76
  let c12_i32_77 : BitVec 32 := 12#32
  let c12_i32_74 : BitVec 32 := 12#32
  let v91 : BitVec 1 := Scalar.cmpi .eq v68 c12_i32_74
  let c15_i32_75 : BitVec 32 := 15#32
  let c11_i32_72 : BitVec 32 := 11#32
  let v89 : BitVec 1 := Scalar.cmpi .eq v68 c11_i32_72
  let c11_i32_73 : BitVec 32 := 11#32
  let c10_i32_70 : BitVec 32 := 10#32
  let v87 : BitVec 1 := Scalar.cmpi .eq v68 c10_i32_70
  let c7_i32_71 : BitVec 32 := 7#32
  let c9_i32_68 : BitVec 32 := 9#32
  let v85 : BitVec 1 := Scalar.cmpi .eq v68 c9_i32_68
  let c3_i32_69 : BitVec 32 := 3#32
  let c8_i32_66 : BitVec 32 := 8#32
  let v83 : BitVec 1 := Scalar.cmpi .eq v68 c8_i32_66
  let c2_i32_67 : BitVec 32 := 2#32
  let c7_i32_64 : BitVec 32 := 7#32
  let v81 : BitVec 1 := Scalar.cmpi .eq v68 c7_i32_64
  let c6_i32_65 : BitVec 32 := 6#32
  let c6_i32_62 : BitVec 32 := 6#32
  let v79 : BitVec 1 := Scalar.cmpi .eq v68 c6_i32_62
  let c10_i32_63 : BitVec 32 := 10#32
  let c5_i32_60 : BitVec 32 := 5#32
  let v77 : BitVec 1 := Scalar.cmpi .eq v68 c5_i32_60
  let c14_i32_61 : BitVec 32 := 14#32
  let c4_i32_58 : BitVec 32 := 4#32
  let v75 : BitVec 1 := Scalar.cmpi .eq v68 c4_i32_58
  let c13_i32_59 : BitVec 32 := 13#32
  let c3_i32_56 : BitVec 32 := 3#32
  let v73 : BitVec 1 := Scalar.cmpi .eq v68 c3_i32_56
  let c9_i32_57 : BitVec 32 := 9#32
  let c2_i32_54 : BitVec 32 := 2#32
  let v71 : BitVec 1 := Scalar.cmpi .eq v68 c2_i32_54
  let c5_i32_55 : BitVec 32 := 5#32
  let c1_i32_51 : BitVec 32 := 1#32
  let v69 : BitVec 1 := Scalar.cmpi .eq v68 c1_i32_51
  let c1_i32_52 : BitVec 32 := 1#32
  let c0_i32_53 : BitVec 32 := 0#32
  let v70 : BitVec 32 := Scalar.select v69 c1_i32_52 c0_i32_53
  let v72 : BitVec 32 := Scalar.select v71 c5_i32_55 v70
  let v74 : BitVec 32 := Scalar.select v73 c9_i32_57 v72
  let v76 : BitVec 32 := Scalar.select v75 c13_i32_59 v74
  let v78 : BitVec 32 := Scalar.select v77 c14_i32_61 v76
  let v80 : BitVec 32 := Scalar.select v79 c10_i32_63 v78
  let v82 : BitVec 32 := Scalar.select v81 c6_i32_65 v80
  let v84 : BitVec 32 := Scalar.select v83 c2_i32_67 v82
  let v86 : BitVec 32 := Scalar.select v85 c3_i32_69 v84
  let v88 : BitVec 32 := Scalar.select v87 c7_i32_71 v86
  let v90 : BitVec 32 := Scalar.select v89 c11_i32_73 v88
  let v92 : BitVec 32 := Scalar.select v91 c15_i32_75 v90
  let v94 : BitVec 32 := Scalar.select v93 c12_i32_77 v92
  let v96 : BitVec 32 := Scalar.select v95 c8_i32_79 v94
  let v98 : BitVec 32 := Scalar.select v97 c4_i32_81 v96
  let c1_i32_640 : BitVec 32 := 1#32
  let v635 : BitVec 32 := Scalar.muli v98 c1_i32_640
  let v636 : BitVec 32 := Scalar.addi c0_i32_641 v635
  v636.toNat
def k0_dev8 (d0 : Dev nD) : Nat :=
  let c0_i32_651 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_48 : BitVec 32 := 1#32
  let v66 : BitVec 32 := Scalar.addi v32 c1_i32_48
  let c32_i32_49 : BitVec 32 := 32#32
  let v67 : BitVec 32 := Scalar.addi v66 c32_i32_49
  let c16_i32_50 : BitVec 32 := 16#32
  let v68 : BitVec 32 := Scalar.remsi v67 c16_i32_50
  let c15_i32_80 : BitVec 32 := 15#32
  let v97 : BitVec 1 := Scalar.cmpi .eq v68 c15_i32_80
  let c4_i32_81 : BitVec 32 := 4#32
  let c14_i32_78 : BitVec 32 := 14#32
  let v95 : BitVec 1 := Scalar.cmpi .eq v68 c14_i32_78
  let c8_i32_79 : BitVec 32 := 8#32
  let c13_i32_76 : BitVec 32 := 13#32
  let v93 : BitVec 1 := Scalar.cmpi .eq v68 c13_i32_76
  let c12_i32_77 : BitVec 32 := 12#32
  let c12_i32_74 : BitVec 32 := 12#32
  let v91 : BitVec 1 := Scalar.cmpi .eq v68 c12_i32_74
  let c15_i32_75 : BitVec 32 := 15#32
  let c11_i32_72 : BitVec 32 := 11#32
  let v89 : BitVec 1 := Scalar.cmpi .eq v68 c11_i32_72
  let c11_i32_73 : BitVec 32 := 11#32
  let c10_i32_70 : BitVec 32 := 10#32
  let v87 : BitVec 1 := Scalar.cmpi .eq v68 c10_i32_70
  let c7_i32_71 : BitVec 32 := 7#32
  let c9_i32_68 : BitVec 32 := 9#32
  let v85 : BitVec 1 := Scalar.cmpi .eq v68 c9_i32_68
  let c3_i32_69 : BitVec 32 := 3#32
  let c8_i32_66 : BitVec 32 := 8#32
  let v83 : BitVec 1 := Scalar.cmpi .eq v68 c8_i32_66
  let c2_i32_67 : BitVec 32 := 2#32
  let c7_i32_64 : BitVec 32 := 7#32
  let v81 : BitVec 1 := Scalar.cmpi .eq v68 c7_i32_64
  let c6_i32_65 : BitVec 32 := 6#32
  let c6_i32_62 : BitVec 32 := 6#32
  let v79 : BitVec 1 := Scalar.cmpi .eq v68 c6_i32_62
  let c10_i32_63 : BitVec 32 := 10#32
  let c5_i32_60 : BitVec 32 := 5#32
  let v77 : BitVec 1 := Scalar.cmpi .eq v68 c5_i32_60
  let c14_i32_61 : BitVec 32 := 14#32
  let c4_i32_58 : BitVec 32 := 4#32
  let v75 : BitVec 1 := Scalar.cmpi .eq v68 c4_i32_58
  let c13_i32_59 : BitVec 32 := 13#32
  let c3_i32_56 : BitVec 32 := 3#32
  let v73 : BitVec 1 := Scalar.cmpi .eq v68 c3_i32_56
  let c9_i32_57 : BitVec 32 := 9#32
  let c2_i32_54 : BitVec 32 := 2#32
  let v71 : BitVec 1 := Scalar.cmpi .eq v68 c2_i32_54
  let c5_i32_55 : BitVec 32 := 5#32
  let c1_i32_51 : BitVec 32 := 1#32
  let v69 : BitVec 1 := Scalar.cmpi .eq v68 c1_i32_51
  let c1_i32_52 : BitVec 32 := 1#32
  let c0_i32_53 : BitVec 32 := 0#32
  let v70 : BitVec 32 := Scalar.select v69 c1_i32_52 c0_i32_53
  let v72 : BitVec 32 := Scalar.select v71 c5_i32_55 v70
  let v74 : BitVec 32 := Scalar.select v73 c9_i32_57 v72
  let v76 : BitVec 32 := Scalar.select v75 c13_i32_59 v74
  let v78 : BitVec 32 := Scalar.select v77 c14_i32_61 v76
  let v80 : BitVec 32 := Scalar.select v79 c10_i32_63 v78
  let v82 : BitVec 32 := Scalar.select v81 c6_i32_65 v80
  let v84 : BitVec 32 := Scalar.select v83 c2_i32_67 v82
  let v86 : BitVec 32 := Scalar.select v85 c3_i32_69 v84
  let v88 : BitVec 32 := Scalar.select v87 c7_i32_71 v86
  let v90 : BitVec 32 := Scalar.select v89 c11_i32_73 v88
  let v92 : BitVec 32 := Scalar.select v91 c15_i32_75 v90
  let v94 : BitVec 32 := Scalar.select v93 c12_i32_77 v92
  let v96 : BitVec 32 := Scalar.select v95 c8_i32_79 v94
  let v98 : BitVec 32 := Scalar.select v97 c4_i32_81 v96
  let c1_i32_650 : BitVec 32 := 1#32
  let v644 : BitVec 32 := Scalar.muli v98 c1_i32_650
  let v645 : BitVec 32 := Scalar.addi c0_i32_651 v644
  v645.toNat
def k0_dev9 (d0 : Dev nD) : Nat :=
  let c0_i32_661 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_48 : BitVec 32 := 1#32
  let v66 : BitVec 32 := Scalar.addi v32 c1_i32_48
  let c32_i32_49 : BitVec 32 := 32#32
  let v67 : BitVec 32 := Scalar.addi v66 c32_i32_49
  let c16_i32_50 : BitVec 32 := 16#32
  let v68 : BitVec 32 := Scalar.remsi v67 c16_i32_50
  let c15_i32_80 : BitVec 32 := 15#32
  let v97 : BitVec 1 := Scalar.cmpi .eq v68 c15_i32_80
  let c4_i32_81 : BitVec 32 := 4#32
  let c14_i32_78 : BitVec 32 := 14#32
  let v95 : BitVec 1 := Scalar.cmpi .eq v68 c14_i32_78
  let c8_i32_79 : BitVec 32 := 8#32
  let c13_i32_76 : BitVec 32 := 13#32
  let v93 : BitVec 1 := Scalar.cmpi .eq v68 c13_i32_76
  let c12_i32_77 : BitVec 32 := 12#32
  let c12_i32_74 : BitVec 32 := 12#32
  let v91 : BitVec 1 := Scalar.cmpi .eq v68 c12_i32_74
  let c15_i32_75 : BitVec 32 := 15#32
  let c11_i32_72 : BitVec 32 := 11#32
  let v89 : BitVec 1 := Scalar.cmpi .eq v68 c11_i32_72
  let c11_i32_73 : BitVec 32 := 11#32
  let c10_i32_70 : BitVec 32 := 10#32
  let v87 : BitVec 1 := Scalar.cmpi .eq v68 c10_i32_70
  let c7_i32_71 : BitVec 32 := 7#32
  let c9_i32_68 : BitVec 32 := 9#32
  let v85 : BitVec 1 := Scalar.cmpi .eq v68 c9_i32_68
  let c3_i32_69 : BitVec 32 := 3#32
  let c8_i32_66 : BitVec 32 := 8#32
  let v83 : BitVec 1 := Scalar.cmpi .eq v68 c8_i32_66
  let c2_i32_67 : BitVec 32 := 2#32
  let c7_i32_64 : BitVec 32 := 7#32
  let v81 : BitVec 1 := Scalar.cmpi .eq v68 c7_i32_64
  let c6_i32_65 : BitVec 32 := 6#32
  let c6_i32_62 : BitVec 32 := 6#32
  let v79 : BitVec 1 := Scalar.cmpi .eq v68 c6_i32_62
  let c10_i32_63 : BitVec 32 := 10#32
  let c5_i32_60 : BitVec 32 := 5#32
  let v77 : BitVec 1 := Scalar.cmpi .eq v68 c5_i32_60
  let c14_i32_61 : BitVec 32 := 14#32
  let c4_i32_58 : BitVec 32 := 4#32
  let v75 : BitVec 1 := Scalar.cmpi .eq v68 c4_i32_58
  let c13_i32_59 : BitVec 32 := 13#32
  let c3_i32_56 : BitVec 32 := 3#32
  let v73 : BitVec 1 := Scalar.cmpi .eq v68 c3_i32_56
  let c9_i32_57 : BitVec 32 := 9#32
  let c2_i32_54 : BitVec 32 := 2#32
  let v71 : BitVec 1 := Scalar.cmpi .eq v68 c2_i32_54
  let c5_i32_55 : BitVec 32 := 5#32
  let c1_i32_51 : BitVec 32 := 1#32
  let v69 : BitVec 1 := Scalar.cmpi .eq v68 c1_i32_51
  let c1_i32_52 : BitVec 32 := 1#32
  let c0_i32_53 : BitVec 32 := 0#32
  let v70 : BitVec 32 := Scalar.select v69 c1_i32_52 c0_i32_53
  let v72 : BitVec 32 := Scalar.select v71 c5_i32_55 v70
  let v74 : BitVec 32 := Scalar.select v73 c9_i32_57 v72
  let v76 : BitVec 32 := Scalar.select v75 c13_i32_59 v74
  let v78 : BitVec 32 := Scalar.select v77 c14_i32_61 v76
  let v80 : BitVec 32 := Scalar.select v79 c10_i32_63 v78
  let v82 : BitVec 32 := Scalar.select v81 c6_i32_65 v80
  let v84 : BitVec 32 := Scalar.select v83 c2_i32_67 v82
  let v86 : BitVec 32 := Scalar.select v85 c3_i32_69 v84
  let v88 : BitVec 32 := Scalar.select v87 c7_i32_71 v86
  let v90 : BitVec 32 := Scalar.select v89 c11_i32_73 v88
  let v92 : BitVec 32 := Scalar.select v91 c15_i32_75 v90
  let v94 : BitVec 32 := Scalar.select v93 c12_i32_77 v92
  let v96 : BitVec 32 := Scalar.select v95 c8_i32_79 v94
  let v98 : BitVec 32 := Scalar.select v97 c4_i32_81 v96
  let c1_i32_660 : BitVec 32 := 1#32
  let v653 : BitVec 32 := Scalar.muli v98 c1_i32_660
  let v654 : BitVec 32 := Scalar.addi c0_i32_661 v653
  v654.toNat
def k0_dev10 (d0 : Dev nD) : Nat :=
  let c0_i32_671 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_48 : BitVec 32 := 1#32
  let v66 : BitVec 32 := Scalar.addi v32 c1_i32_48
  let c32_i32_49 : BitVec 32 := 32#32
  let v67 : BitVec 32 := Scalar.addi v66 c32_i32_49
  let c16_i32_50 : BitVec 32 := 16#32
  let v68 : BitVec 32 := Scalar.remsi v67 c16_i32_50
  let c15_i32_80 : BitVec 32 := 15#32
  let v97 : BitVec 1 := Scalar.cmpi .eq v68 c15_i32_80
  let c4_i32_81 : BitVec 32 := 4#32
  let c14_i32_78 : BitVec 32 := 14#32
  let v95 : BitVec 1 := Scalar.cmpi .eq v68 c14_i32_78
  let c8_i32_79 : BitVec 32 := 8#32
  let c13_i32_76 : BitVec 32 := 13#32
  let v93 : BitVec 1 := Scalar.cmpi .eq v68 c13_i32_76
  let c12_i32_77 : BitVec 32 := 12#32
  let c12_i32_74 : BitVec 32 := 12#32
  let v91 : BitVec 1 := Scalar.cmpi .eq v68 c12_i32_74
  let c15_i32_75 : BitVec 32 := 15#32
  let c11_i32_72 : BitVec 32 := 11#32
  let v89 : BitVec 1 := Scalar.cmpi .eq v68 c11_i32_72
  let c11_i32_73 : BitVec 32 := 11#32
  let c10_i32_70 : BitVec 32 := 10#32
  let v87 : BitVec 1 := Scalar.cmpi .eq v68 c10_i32_70
  let c7_i32_71 : BitVec 32 := 7#32
  let c9_i32_68 : BitVec 32 := 9#32
  let v85 : BitVec 1 := Scalar.cmpi .eq v68 c9_i32_68
  let c3_i32_69 : BitVec 32 := 3#32
  let c8_i32_66 : BitVec 32 := 8#32
  let v83 : BitVec 1 := Scalar.cmpi .eq v68 c8_i32_66
  let c2_i32_67 : BitVec 32 := 2#32
  let c7_i32_64 : BitVec 32 := 7#32
  let v81 : BitVec 1 := Scalar.cmpi .eq v68 c7_i32_64
  let c6_i32_65 : BitVec 32 := 6#32
  let c6_i32_62 : BitVec 32 := 6#32
  let v79 : BitVec 1 := Scalar.cmpi .eq v68 c6_i32_62
  let c10_i32_63 : BitVec 32 := 10#32
  let c5_i32_60 : BitVec 32 := 5#32
  let v77 : BitVec 1 := Scalar.cmpi .eq v68 c5_i32_60
  let c14_i32_61 : BitVec 32 := 14#32
  let c4_i32_58 : BitVec 32 := 4#32
  let v75 : BitVec 1 := Scalar.cmpi .eq v68 c4_i32_58
  let c13_i32_59 : BitVec 32 := 13#32
  let c3_i32_56 : BitVec 32 := 3#32
  let v73 : BitVec 1 := Scalar.cmpi .eq v68 c3_i32_56
  let c9_i32_57 : BitVec 32 := 9#32
  let c2_i32_54 : BitVec 32 := 2#32
  let v71 : BitVec 1 := Scalar.cmpi .eq v68 c2_i32_54
  let c5_i32_55 : BitVec 32 := 5#32
  let c1_i32_51 : BitVec 32 := 1#32
  let v69 : BitVec 1 := Scalar.cmpi .eq v68 c1_i32_51
  let c1_i32_52 : BitVec 32 := 1#32
  let c0_i32_53 : BitVec 32 := 0#32
  let v70 : BitVec 32 := Scalar.select v69 c1_i32_52 c0_i32_53
  let v72 : BitVec 32 := Scalar.select v71 c5_i32_55 v70
  let v74 : BitVec 32 := Scalar.select v73 c9_i32_57 v72
  let v76 : BitVec 32 := Scalar.select v75 c13_i32_59 v74
  let v78 : BitVec 32 := Scalar.select v77 c14_i32_61 v76
  let v80 : BitVec 32 := Scalar.select v79 c10_i32_63 v78
  let v82 : BitVec 32 := Scalar.select v81 c6_i32_65 v80
  let v84 : BitVec 32 := Scalar.select v83 c2_i32_67 v82
  let v86 : BitVec 32 := Scalar.select v85 c3_i32_69 v84
  let v88 : BitVec 32 := Scalar.select v87 c7_i32_71 v86
  let v90 : BitVec 32 := Scalar.select v89 c11_i32_73 v88
  let v92 : BitVec 32 := Scalar.select v91 c15_i32_75 v90
  let v94 : BitVec 32 := Scalar.select v93 c12_i32_77 v92
  let v96 : BitVec 32 := Scalar.select v95 c8_i32_79 v94
  let v98 : BitVec 32 := Scalar.select v97 c4_i32_81 v96
  let c1_i32_670 : BitVec 32 := 1#32
  let v662 : BitVec 32 := Scalar.muli v98 c1_i32_670
  let v663 : BitVec 32 := Scalar.addi c0_i32_671 v662
  v663.toNat
def k0_dev11 (d0 : Dev nD) : Nat :=
  let c0_i32_681 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c_m1_i32 : BitVec 32 := 4294967295#32
  let v33 : BitVec 32 := Scalar.addi v32 c_m1_i32
  let c32_i32 : BitVec 32 := 32#32
  let v34 : BitVec 32 := Scalar.addi v33 c32_i32
  let c16_i32_16 : BitVec 32 := 16#32
  let v35 : BitVec 32 := Scalar.remsi v34 c16_i32_16
  let c15_i32_46 : BitVec 32 := 15#32
  let v64 : BitVec 1 := Scalar.cmpi .eq v35 c15_i32_46
  let c4_i32_47 : BitVec 32 := 4#32
  let c14_i32_44 : BitVec 32 := 14#32
  let v62 : BitVec 1 := Scalar.cmpi .eq v35 c14_i32_44
  let c8_i32_45 : BitVec 32 := 8#32
  let c13_i32_42 : BitVec 32 := 13#32
  let v60 : BitVec 1 := Scalar.cmpi .eq v35 c13_i32_42
  let c12_i32_43 : BitVec 32 := 12#32
  let c12_i32_40 : BitVec 32 := 12#32
  let v58 : BitVec 1 := Scalar.cmpi .eq v35 c12_i32_40
  let c15_i32_41 : BitVec 32 := 15#32
  let c11_i32_38 : BitVec 32 := 11#32
  let v56 : BitVec 1 := Scalar.cmpi .eq v35 c11_i32_38
  let c11_i32_39 : BitVec 32 := 11#32
  let c10_i32_36 : BitVec 32 := 10#32
  let v54 : BitVec 1 := Scalar.cmpi .eq v35 c10_i32_36
  let c7_i32_37 : BitVec 32 := 7#32
  let c9_i32_34 : BitVec 32 := 9#32
  let v52 : BitVec 1 := Scalar.cmpi .eq v35 c9_i32_34
  let c3_i32_35 : BitVec 32 := 3#32
  let c8_i32_32 : BitVec 32 := 8#32
  let v50 : BitVec 1 := Scalar.cmpi .eq v35 c8_i32_32
  let c2_i32_33 : BitVec 32 := 2#32
  let c7_i32_30 : BitVec 32 := 7#32
  let v48 : BitVec 1 := Scalar.cmpi .eq v35 c7_i32_30
  let c6_i32_31 : BitVec 32 := 6#32
  let c6_i32_28 : BitVec 32 := 6#32
  let v46 : BitVec 1 := Scalar.cmpi .eq v35 c6_i32_28
  let c10_i32_29 : BitVec 32 := 10#32
  let c5_i32_26 : BitVec 32 := 5#32
  let v44 : BitVec 1 := Scalar.cmpi .eq v35 c5_i32_26
  let c14_i32_27 : BitVec 32 := 14#32
  let c4_i32_24 : BitVec 32 := 4#32
  let v42 : BitVec 1 := Scalar.cmpi .eq v35 c4_i32_24
  let c13_i32_25 : BitVec 32 := 13#32
  let c3_i32_22 : BitVec 32 := 3#32
  let v40 : BitVec 1 := Scalar.cmpi .eq v35 c3_i32_22
  let c9_i32_23 : BitVec 32 := 9#32
  let c2_i32_20 : BitVec 32 := 2#32
  let v38 : BitVec 1 := Scalar.cmpi .eq v35 c2_i32_20
  let c5_i32_21 : BitVec 32 := 5#32
  let c1_i32_17 : BitVec 32 := 1#32
  let v36 : BitVec 1 := Scalar.cmpi .eq v35 c1_i32_17
  let c1_i32_18 : BitVec 32 := 1#32
  let c0_i32_19 : BitVec 32 := 0#32
  let v37 : BitVec 32 := Scalar.select v36 c1_i32_18 c0_i32_19
  let v39 : BitVec 32 := Scalar.select v38 c5_i32_21 v37
  let v41 : BitVec 32 := Scalar.select v40 c9_i32_23 v39
  let v43 : BitVec 32 := Scalar.select v42 c13_i32_25 v41
  let v45 : BitVec 32 := Scalar.select v44 c14_i32_27 v43
  let v47 : BitVec 32 := Scalar.select v46 c10_i32_29 v45
  let v49 : BitVec 32 := Scalar.select v48 c6_i32_31 v47
  let v51 : BitVec 32 := Scalar.select v50 c2_i32_33 v49
  let v53 : BitVec 32 := Scalar.select v52 c3_i32_35 v51
  let v55 : BitVec 32 := Scalar.select v54 c7_i32_37 v53
  let v57 : BitVec 32 := Scalar.select v56 c11_i32_39 v55
  let v59 : BitVec 32 := Scalar.select v58 c15_i32_41 v57
  let v61 : BitVec 32 := Scalar.select v60 c12_i32_43 v59
  let v63 : BitVec 32 := Scalar.select v62 c8_i32_45 v61
  let v65 : BitVec 32 := Scalar.select v64 c4_i32_47 v63
  let c1_i32_680 : BitVec 32 := 1#32
  let v671 : BitVec 32 := Scalar.muli v65 c1_i32_680
  let v672 : BitVec 32 := Scalar.addi c0_i32_681 v671
  v672.toNat
def k0_dev12 (d0 : Dev nD) : Nat :=
  let c0_i32_692 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c_m1_i32 : BitVec 32 := 4294967295#32
  let v33 : BitVec 32 := Scalar.addi v32 c_m1_i32
  let c32_i32 : BitVec 32 := 32#32
  let v34 : BitVec 32 := Scalar.addi v33 c32_i32
  let c16_i32_16 : BitVec 32 := 16#32
  let v35 : BitVec 32 := Scalar.remsi v34 c16_i32_16
  let c15_i32_46 : BitVec 32 := 15#32
  let v64 : BitVec 1 := Scalar.cmpi .eq v35 c15_i32_46
  let c4_i32_47 : BitVec 32 := 4#32
  let c14_i32_44 : BitVec 32 := 14#32
  let v62 : BitVec 1 := Scalar.cmpi .eq v35 c14_i32_44
  let c8_i32_45 : BitVec 32 := 8#32
  let c13_i32_42 : BitVec 32 := 13#32
  let v60 : BitVec 1 := Scalar.cmpi .eq v35 c13_i32_42
  let c12_i32_43 : BitVec 32 := 12#32
  let c12_i32_40 : BitVec 32 := 12#32
  let v58 : BitVec 1 := Scalar.cmpi .eq v35 c12_i32_40
  let c15_i32_41 : BitVec 32 := 15#32
  let c11_i32_38 : BitVec 32 := 11#32
  let v56 : BitVec 1 := Scalar.cmpi .eq v35 c11_i32_38
  let c11_i32_39 : BitVec 32 := 11#32
  let c10_i32_36 : BitVec 32 := 10#32
  let v54 : BitVec 1 := Scalar.cmpi .eq v35 c10_i32_36
  let c7_i32_37 : BitVec 32 := 7#32
  let c9_i32_34 : BitVec 32 := 9#32
  let v52 : BitVec 1 := Scalar.cmpi .eq v35 c9_i32_34
  let c3_i32_35 : BitVec 32 := 3#32
  let c8_i32_32 : BitVec 32 := 8#32
  let v50 : BitVec 1 := Scalar.cmpi .eq v35 c8_i32_32
  let c2_i32_33 : BitVec 32 := 2#32
  let c7_i32_30 : BitVec 32 := 7#32
  let v48 : BitVec 1 := Scalar.cmpi .eq v35 c7_i32_30
  let c6_i32_31 : BitVec 32 := 6#32
  let c6_i32_28 : BitVec 32 := 6#32
  let v46 : BitVec 1 := Scalar.cmpi .eq v35 c6_i32_28
  let c10_i32_29 : BitVec 32 := 10#32
  let c5_i32_26 : BitVec 32 := 5#32
  let v44 : BitVec 1 := Scalar.cmpi .eq v35 c5_i32_26
  let c14_i32_27 : BitVec 32 := 14#32
  let c4_i32_24 : BitVec 32 := 4#32
  let v42 : BitVec 1 := Scalar.cmpi .eq v35 c4_i32_24
  let c13_i32_25 : BitVec 32 := 13#32
  let c3_i32_22 : BitVec 32 := 3#32
  let v40 : BitVec 1 := Scalar.cmpi .eq v35 c3_i32_22
  let c9_i32_23 : BitVec 32 := 9#32
  let c2_i32_20 : BitVec 32 := 2#32
  let v38 : BitVec 1 := Scalar.cmpi .eq v35 c2_i32_20
  let c5_i32_21 : BitVec 32 := 5#32
  let c1_i32_17 : BitVec 32 := 1#32
  let v36 : BitVec 1 := Scalar.cmpi .eq v35 c1_i32_17
  let c1_i32_18 : BitVec 32 := 1#32
  let c0_i32_19 : BitVec 32 := 0#32
  let v37 : BitVec 32 := Scalar.select v36 c1_i32_18 c0_i32_19
  let v39 : BitVec 32 := Scalar.select v38 c5_i32_21 v37
  let v41 : BitVec 32 := Scalar.select v40 c9_i32_23 v39
  let v43 : BitVec 32 := Scalar.select v42 c13_i32_25 v41
  let v45 : BitVec 32 := Scalar.select v44 c14_i32_27 v43
  let v47 : BitVec 32 := Scalar.select v46 c10_i32_29 v45
  let v49 : BitVec 32 := Scalar.select v48 c6_i32_31 v47
  let v51 : BitVec 32 := Scalar.select v50 c2_i32_33 v49
  let v53 : BitVec 32 := Scalar.select v52 c3_i32_35 v51
  let v55 : BitVec 32 := Scalar.select v54 c7_i32_37 v53
  let v57 : BitVec 32 := Scalar.select v56 c11_i32_39 v55
  let v59 : BitVec 32 := Scalar.select v58 c15_i32_41 v57
  let v61 : BitVec 32 := Scalar.select v60 c12_i32_43 v59
  let v63 : BitVec 32 := Scalar.select v62 c8_i32_45 v61
  let v65 : BitVec 32 := Scalar.select v64 c4_i32_47 v63
  let c1_i32_691 : BitVec 32 := 1#32
  let v680 : BitVec 32 := Scalar.muli v65 c1_i32_691
  let v681 : BitVec 32 := Scalar.addi c0_i32_692 v680
  v681.toNat
def k0_dev13 (d0 : Dev nD) : Nat :=
  let c0_i32_703 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c_m1_i32 : BitVec 32 := 4294967295#32
  let v33 : BitVec 32 := Scalar.addi v32 c_m1_i32
  let c32_i32 : BitVec 32 := 32#32
  let v34 : BitVec 32 := Scalar.addi v33 c32_i32
  let c16_i32_16 : BitVec 32 := 16#32
  let v35 : BitVec 32 := Scalar.remsi v34 c16_i32_16
  let c15_i32_46 : BitVec 32 := 15#32
  let v64 : BitVec 1 := Scalar.cmpi .eq v35 c15_i32_46
  let c4_i32_47 : BitVec 32 := 4#32
  let c14_i32_44 : BitVec 32 := 14#32
  let v62 : BitVec 1 := Scalar.cmpi .eq v35 c14_i32_44
  let c8_i32_45 : BitVec 32 := 8#32
  let c13_i32_42 : BitVec 32 := 13#32
  let v60 : BitVec 1 := Scalar.cmpi .eq v35 c13_i32_42
  let c12_i32_43 : BitVec 32 := 12#32
  let c12_i32_40 : BitVec 32 := 12#32
  let v58 : BitVec 1 := Scalar.cmpi .eq v35 c12_i32_40
  let c15_i32_41 : BitVec 32 := 15#32
  let c11_i32_38 : BitVec 32 := 11#32
  let v56 : BitVec 1 := Scalar.cmpi .eq v35 c11_i32_38
  let c11_i32_39 : BitVec 32 := 11#32
  let c10_i32_36 : BitVec 32 := 10#32
  let v54 : BitVec 1 := Scalar.cmpi .eq v35 c10_i32_36
  let c7_i32_37 : BitVec 32 := 7#32
  let c9_i32_34 : BitVec 32 := 9#32
  let v52 : BitVec 1 := Scalar.cmpi .eq v35 c9_i32_34
  let c3_i32_35 : BitVec 32 := 3#32
  let c8_i32_32 : BitVec 32 := 8#32
  let v50 : BitVec 1 := Scalar.cmpi .eq v35 c8_i32_32
  let c2_i32_33 : BitVec 32 := 2#32
  let c7_i32_30 : BitVec 32 := 7#32
  let v48 : BitVec 1 := Scalar.cmpi .eq v35 c7_i32_30
  let c6_i32_31 : BitVec 32 := 6#32
  let c6_i32_28 : BitVec 32 := 6#32
  let v46 : BitVec 1 := Scalar.cmpi .eq v35 c6_i32_28
  let c10_i32_29 : BitVec 32 := 10#32
  let c5_i32_26 : BitVec 32 := 5#32
  let v44 : BitVec 1 := Scalar.cmpi .eq v35 c5_i32_26
  let c14_i32_27 : BitVec 32 := 14#32
  let c4_i32_24 : BitVec 32 := 4#32
  let v42 : BitVec 1 := Scalar.cmpi .eq v35 c4_i32_24
  let c13_i32_25 : BitVec 32 := 13#32
  let c3_i32_22 : BitVec 32 := 3#32
  let v40 : BitVec 1 := Scalar.cmpi .eq v35 c3_i32_22
  let c9_i32_23 : BitVec 32 := 9#32
  let c2_i32_20 : BitVec 32 := 2#32
  let v38 : BitVec 1 := Scalar.cmpi .eq v35 c2_i32_20
  let c5_i32_21 : BitVec 32 := 5#32
  let c1_i32_17 : BitVec 32 := 1#32
  let v36 : BitVec 1 := Scalar.cmpi .eq v35 c1_i32_17
  let c1_i32_18 : BitVec 32 := 1#32
  let c0_i32_19 : BitVec 32 := 0#32
  let v37 : BitVec 32 := Scalar.select v36 c1_i32_18 c0_i32_19
  let v39 : BitVec 32 := Scalar.select v38 c5_i32_21 v37
  let v41 : BitVec 32 := Scalar.select v40 c9_i32_23 v39
  let v43 : BitVec 32 := Scalar.select v42 c13_i32_25 v41
  let v45 : BitVec 32 := Scalar.select v44 c14_i32_27 v43
  let v47 : BitVec 32 := Scalar.select v46 c10_i32_29 v45
  let v49 : BitVec 32 := Scalar.select v48 c6_i32_31 v47
  let v51 : BitVec 32 := Scalar.select v50 c2_i32_33 v49
  let v53 : BitVec 32 := Scalar.select v52 c3_i32_35 v51
  let v55 : BitVec 32 := Scalar.select v54 c7_i32_37 v53
  let v57 : BitVec 32 := Scalar.select v56 c11_i32_39 v55
  let v59 : BitVec 32 := Scalar.select v58 c15_i32_41 v57
  let v61 : BitVec 32 := Scalar.select v60 c12_i32_43 v59
  let v63 : BitVec 32 := Scalar.select v62 c8_i32_45 v61
  let v65 : BitVec 32 := Scalar.select v64 c4_i32_47 v63
  let c1_i32_702 : BitVec 32 := 1#32
  let v689 : BitVec 32 := Scalar.muli v65 c1_i32_702
  let v690 : BitVec 32 := Scalar.addi c0_i32_703 v689
  v690.toNat
def k0_dev14 (d0 : Dev nD) : Nat :=
  let c0_i32_714 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c_m1_i32 : BitVec 32 := 4294967295#32
  let v33 : BitVec 32 := Scalar.addi v32 c_m1_i32
  let c32_i32 : BitVec 32 := 32#32
  let v34 : BitVec 32 := Scalar.addi v33 c32_i32
  let c16_i32_16 : BitVec 32 := 16#32
  let v35 : BitVec 32 := Scalar.remsi v34 c16_i32_16
  let c15_i32_46 : BitVec 32 := 15#32
  let v64 : BitVec 1 := Scalar.cmpi .eq v35 c15_i32_46
  let c4_i32_47 : BitVec 32 := 4#32
  let c14_i32_44 : BitVec 32 := 14#32
  let v62 : BitVec 1 := Scalar.cmpi .eq v35 c14_i32_44
  let c8_i32_45 : BitVec 32 := 8#32
  let c13_i32_42 : BitVec 32 := 13#32
  let v60 : BitVec 1 := Scalar.cmpi .eq v35 c13_i32_42
  let c12_i32_43 : BitVec 32 := 12#32
  let c12_i32_40 : BitVec 32 := 12#32
  let v58 : BitVec 1 := Scalar.cmpi .eq v35 c12_i32_40
  let c15_i32_41 : BitVec 32 := 15#32
  let c11_i32_38 : BitVec 32 := 11#32
  let v56 : BitVec 1 := Scalar.cmpi .eq v35 c11_i32_38
  let c11_i32_39 : BitVec 32 := 11#32
  let c10_i32_36 : BitVec 32 := 10#32
  let v54 : BitVec 1 := Scalar.cmpi .eq v35 c10_i32_36
  let c7_i32_37 : BitVec 32 := 7#32
  let c9_i32_34 : BitVec 32 := 9#32
  let v52 : BitVec 1 := Scalar.cmpi .eq v35 c9_i32_34
  let c3_i32_35 : BitVec 32 := 3#32
  let c8_i32_32 : BitVec 32 := 8#32
  let v50 : BitVec 1 := Scalar.cmpi .eq v35 c8_i32_32
  let c2_i32_33 : BitVec 32 := 2#32
  let c7_i32_30 : BitVec 32 := 7#32
  let v48 : BitVec 1 := Scalar.cmpi .eq v35 c7_i32_30
  let c6_i32_31 : BitVec 32 := 6#32
  let c6_i32_28 : BitVec 32 := 6#32
  let v46 : BitVec 1 := Scalar.cmpi .eq v35 c6_i32_28
  let c10_i32_29 : BitVec 32 := 10#32
  let c5_i32_26 : BitVec 32 := 5#32
  let v44 : BitVec 1 := Scalar.cmpi .eq v35 c5_i32_26
  let c14_i32_27 : BitVec 32 := 14#32
  let c4_i32_24 : BitVec 32 := 4#32
  let v42 : BitVec 1 := Scalar.cmpi .eq v35 c4_i32_24
  let c13_i32_25 : BitVec 32 := 13#32
  let c3_i32_22 : BitVec 32 := 3#32
  let v40 : BitVec 1 := Scalar.cmpi .eq v35 c3_i32_22
  let c9_i32_23 : BitVec 32 := 9#32
  let c2_i32_20 : BitVec 32 := 2#32
  let v38 : BitVec 1 := Scalar.cmpi .eq v35 c2_i32_20
  let c5_i32_21 : BitVec 32 := 5#32
  let c1_i32_17 : BitVec 32 := 1#32
  let v36 : BitVec 1 := Scalar.cmpi .eq v35 c1_i32_17
  let c1_i32_18 : BitVec 32 := 1#32
  let c0_i32_19 : BitVec 32 := 0#32
  let v37 : BitVec 32 := Scalar.select v36 c1_i32_18 c0_i32_19
  let v39 : BitVec 32 := Scalar.select v38 c5_i32_21 v37
  let v41 : BitVec 32 := Scalar.select v40 c9_i32_23 v39
  let v43 : BitVec 32 := Scalar.select v42 c13_i32_25 v41
  let v45 : BitVec 32 := Scalar.select v44 c14_i32_27 v43
  let v47 : BitVec 32 := Scalar.select v46 c10_i32_29 v45
  let v49 : BitVec 32 := Scalar.select v48 c6_i32_31 v47
  let v51 : BitVec 32 := Scalar.select v50 c2_i32_33 v49
  let v53 : BitVec 32 := Scalar.select v52 c3_i32_35 v51
  let v55 : BitVec 32 := Scalar.select v54 c7_i32_37 v53
  let v57 : BitVec 32 := Scalar.select v56 c11_i32_39 v55
  let v59 : BitVec 32 := Scalar.select v58 c15_i32_41 v57
  let v61 : BitVec 32 := Scalar.select v60 c12_i32_43 v59
  let v63 : BitVec 32 := Scalar.select v62 c8_i32_45 v61
  let v65 : BitVec 32 := Scalar.select v64 c4_i32_47 v63
  let c1_i32_713 : BitVec 32 := 1#32
  let v698 : BitVec 32 := Scalar.muli v65 c1_i32_713
  let v699 : BitVec 32 := Scalar.addi c0_i32_714 v698
  v699.toNat
def k0_dev15 (d0 : Dev nD) : Nat :=
  let c0_i32_725 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c_m1_i32 : BitVec 32 := 4294967295#32
  let v33 : BitVec 32 := Scalar.addi v32 c_m1_i32
  let c32_i32 : BitVec 32 := 32#32
  let v34 : BitVec 32 := Scalar.addi v33 c32_i32
  let c16_i32_16 : BitVec 32 := 16#32
  let v35 : BitVec 32 := Scalar.remsi v34 c16_i32_16
  let c15_i32_46 : BitVec 32 := 15#32
  let v64 : BitVec 1 := Scalar.cmpi .eq v35 c15_i32_46
  let c4_i32_47 : BitVec 32 := 4#32
  let c14_i32_44 : BitVec 32 := 14#32
  let v62 : BitVec 1 := Scalar.cmpi .eq v35 c14_i32_44
  let c8_i32_45 : BitVec 32 := 8#32
  let c13_i32_42 : BitVec 32 := 13#32
  let v60 : BitVec 1 := Scalar.cmpi .eq v35 c13_i32_42
  let c12_i32_43 : BitVec 32 := 12#32
  let c12_i32_40 : BitVec 32 := 12#32
  let v58 : BitVec 1 := Scalar.cmpi .eq v35 c12_i32_40
  let c15_i32_41 : BitVec 32 := 15#32
  let c11_i32_38 : BitVec 32 := 11#32
  let v56 : BitVec 1 := Scalar.cmpi .eq v35 c11_i32_38
  let c11_i32_39 : BitVec 32 := 11#32
  let c10_i32_36 : BitVec 32 := 10#32
  let v54 : BitVec 1 := Scalar.cmpi .eq v35 c10_i32_36
  let c7_i32_37 : BitVec 32 := 7#32
  let c9_i32_34 : BitVec 32 := 9#32
  let v52 : BitVec 1 := Scalar.cmpi .eq v35 c9_i32_34
  let c3_i32_35 : BitVec 32 := 3#32
  let c8_i32_32 : BitVec 32 := 8#32
  let v50 : BitVec 1 := Scalar.cmpi .eq v35 c8_i32_32
  let c2_i32_33 : BitVec 32 := 2#32
  let c7_i32_30 : BitVec 32 := 7#32
  let v48 : BitVec 1 := Scalar.cmpi .eq v35 c7_i32_30
  let c6_i32_31 : BitVec 32 := 6#32
  let c6_i32_28 : BitVec 32 := 6#32
  let v46 : BitVec 1 := Scalar.cmpi .eq v35 c6_i32_28
  let c10_i32_29 : BitVec 32 := 10#32
  let c5_i32_26 : BitVec 32 := 5#32
  let v44 : BitVec 1 := Scalar.cmpi .eq v35 c5_i32_26
  let c14_i32_27 : BitVec 32 := 14#32
  let c4_i32_24 : BitVec 32 := 4#32
  let v42 : BitVec 1 := Scalar.cmpi .eq v35 c4_i32_24
  let c13_i32_25 : BitVec 32 := 13#32
  let c3_i32_22 : BitVec 32 := 3#32
  let v40 : BitVec 1 := Scalar.cmpi .eq v35 c3_i32_22
  let c9_i32_23 : BitVec 32 := 9#32
  let c2_i32_20 : BitVec 32 := 2#32
  let v38 : BitVec 1 := Scalar.cmpi .eq v35 c2_i32_20
  let c5_i32_21 : BitVec 32 := 5#32
  let c1_i32_17 : BitVec 32 := 1#32
  let v36 : BitVec 1 := Scalar.cmpi .eq v35 c1_i32_17
  let c1_i32_18 : BitVec 32 := 1#32
  let c0_i32_19 : BitVec 32 := 0#32
  let v37 : BitVec 32 := Scalar.select v36 c1_i32_18 c0_i32_19
  let v39 : BitVec 32 := Scalar.select v38 c5_i32_21 v37
  let v41 : BitVec 32 := Scalar.select v40 c9_i32_23 v39
  let v43 : BitVec 32 := Scalar.select v42 c13_i32_25 v41
  let v45 : BitVec 32 := Scalar.select v44 c14_i32_27 v43
  let v47 : BitVec 32 := Scalar.select v46 c10_i32_29 v45
  let v49 : BitVec 32 := Scalar.select v48 c6_i32_31 v47
  let v51 : BitVec 32 := Scalar.select v50 c2_i32_33 v49
  let v53 : BitVec 32 := Scalar.select v52 c3_i32_35 v51
  let v55 : BitVec 32 := Scalar.select v54 c7_i32_37 v53
  let v57 : BitVec 32 := Scalar.select v56 c11_i32_39 v55
  let v59 : BitVec 32 := Scalar.select v58 c15_i32_41 v57
  let v61 : BitVec 32 := Scalar.select v60 c12_i32_43 v59
  let v63 : BitVec 32 := Scalar.select v62 c8_i32_45 v61
  let v65 : BitVec 32 := Scalar.select v64 c4_i32_47 v63
  let c1_i32_724 : BitVec 32 := 1#32
  let v707 : BitVec 32 := Scalar.muli v65 c1_i32_724
  let v708 : BitVec 32 := Scalar.addi c0_i32_725 v707
  v708.toNat
def k0_dev16 (d0 : Dev nD) : Nat :=
  let c0_i32_736 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c_m1_i32 : BitVec 32 := 4294967295#32
  let v33 : BitVec 32 := Scalar.addi v32 c_m1_i32
  let c32_i32 : BitVec 32 := 32#32
  let v34 : BitVec 32 := Scalar.addi v33 c32_i32
  let c16_i32_16 : BitVec 32 := 16#32
  let v35 : BitVec 32 := Scalar.remsi v34 c16_i32_16
  let c15_i32_46 : BitVec 32 := 15#32
  let v64 : BitVec 1 := Scalar.cmpi .eq v35 c15_i32_46
  let c4_i32_47 : BitVec 32 := 4#32
  let c14_i32_44 : BitVec 32 := 14#32
  let v62 : BitVec 1 := Scalar.cmpi .eq v35 c14_i32_44
  let c8_i32_45 : BitVec 32 := 8#32
  let c13_i32_42 : BitVec 32 := 13#32
  let v60 : BitVec 1 := Scalar.cmpi .eq v35 c13_i32_42
  let c12_i32_43 : BitVec 32 := 12#32
  let c12_i32_40 : BitVec 32 := 12#32
  let v58 : BitVec 1 := Scalar.cmpi .eq v35 c12_i32_40
  let c15_i32_41 : BitVec 32 := 15#32
  let c11_i32_38 : BitVec 32 := 11#32
  let v56 : BitVec 1 := Scalar.cmpi .eq v35 c11_i32_38
  let c11_i32_39 : BitVec 32 := 11#32
  let c10_i32_36 : BitVec 32 := 10#32
  let v54 : BitVec 1 := Scalar.cmpi .eq v35 c10_i32_36
  let c7_i32_37 : BitVec 32 := 7#32
  let c9_i32_34 : BitVec 32 := 9#32
  let v52 : BitVec 1 := Scalar.cmpi .eq v35 c9_i32_34
  let c3_i32_35 : BitVec 32 := 3#32
  let c8_i32_32 : BitVec 32 := 8#32
  let v50 : BitVec 1 := Scalar.cmpi .eq v35 c8_i32_32
  let c2_i32_33 : BitVec 32 := 2#32
  let c7_i32_30 : BitVec 32 := 7#32
  let v48 : BitVec 1 := Scalar.cmpi .eq v35 c7_i32_30
  let c6_i32_31 : BitVec 32 := 6#32
  let c6_i32_28 : BitVec 32 := 6#32
  let v46 : BitVec 1 := Scalar.cmpi .eq v35 c6_i32_28
  let c10_i32_29 : BitVec 32 := 10#32
  let c5_i32_26 : BitVec 32 := 5#32
  let v44 : BitVec 1 := Scalar.cmpi .eq v35 c5_i32_26
  let c14_i32_27 : BitVec 32 := 14#32
  let c4_i32_24 : BitVec 32 := 4#32
  let v42 : BitVec 1 := Scalar.cmpi .eq v35 c4_i32_24
  let c13_i32_25 : BitVec 32 := 13#32
  let c3_i32_22 : BitVec 32 := 3#32
  let v40 : BitVec 1 := Scalar.cmpi .eq v35 c3_i32_22
  let c9_i32_23 : BitVec 32 := 9#32
  let c2_i32_20 : BitVec 32 := 2#32
  let v38 : BitVec 1 := Scalar.cmpi .eq v35 c2_i32_20
  let c5_i32_21 : BitVec 32 := 5#32
  let c1_i32_17 : BitVec 32 := 1#32
  let v36 : BitVec 1 := Scalar.cmpi .eq v35 c1_i32_17
  let c1_i32_18 : BitVec 32 := 1#32
  let c0_i32_19 : BitVec 32 := 0#32
  let v37 : BitVec 32 := Scalar.select v36 c1_i32_18 c0_i32_19
  let v39 : BitVec 32 := Scalar.select v38 c5_i32_21 v37
  let v41 : BitVec 32 := Scalar.select v40 c9_i32_23 v39
  let v43 : BitVec 32 := Scalar.select v42 c13_i32_25 v41
  let v45 : BitVec 32 := Scalar.select v44 c14_i32_27 v43
  let v47 : BitVec 32 := Scalar.select v46 c10_i32_29 v45
  let v49 : BitVec 32 := Scalar.select v48 c6_i32_31 v47
  let v51 : BitVec 32 := Scalar.select v50 c2_i32_33 v49
  let v53 : BitVec 32 := Scalar.select v52 c3_i32_35 v51
  let v55 : BitVec 32 := Scalar.select v54 c7_i32_37 v53
  let v57 : BitVec 32 := Scalar.select v56 c11_i32_39 v55
  let v59 : BitVec 32 := Scalar.select v58 c15_i32_41 v57
  let v61 : BitVec 32 := Scalar.select v60 c12_i32_43 v59
  let v63 : BitVec 32 := Scalar.select v62 c8_i32_45 v61
  let v65 : BitVec 32 := Scalar.select v64 c4_i32_47 v63
  let c1_i32_735 : BitVec 32 := 1#32
  let v716 : BitVec 32 := Scalar.muli v65 c1_i32_735
  let v717 : BitVec 32 := Scalar.addi c0_i32_736 v716
  v717.toNat
def k0_dev17 (d0 : Dev nD) : Nat :=
  let c0_i32_747 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c_m1_i32 : BitVec 32 := 4294967295#32
  let v33 : BitVec 32 := Scalar.addi v32 c_m1_i32
  let c32_i32 : BitVec 32 := 32#32
  let v34 : BitVec 32 := Scalar.addi v33 c32_i32
  let c16_i32_16 : BitVec 32 := 16#32
  let v35 : BitVec 32 := Scalar.remsi v34 c16_i32_16
  let c15_i32_46 : BitVec 32 := 15#32
  let v64 : BitVec 1 := Scalar.cmpi .eq v35 c15_i32_46
  let c4_i32_47 : BitVec 32 := 4#32
  let c14_i32_44 : BitVec 32 := 14#32
  let v62 : BitVec 1 := Scalar.cmpi .eq v35 c14_i32_44
  let c8_i32_45 : BitVec 32 := 8#32
  let c13_i32_42 : BitVec 32 := 13#32
  let v60 : BitVec 1 := Scalar.cmpi .eq v35 c13_i32_42
  let c12_i32_43 : BitVec 32 := 12#32
  let c12_i32_40 : BitVec 32 := 12#32
  let v58 : BitVec 1 := Scalar.cmpi .eq v35 c12_i32_40
  let c15_i32_41 : BitVec 32 := 15#32
  let c11_i32_38 : BitVec 32 := 11#32
  let v56 : BitVec 1 := Scalar.cmpi .eq v35 c11_i32_38
  let c11_i32_39 : BitVec 32 := 11#32
  let c10_i32_36 : BitVec 32 := 10#32
  let v54 : BitVec 1 := Scalar.cmpi .eq v35 c10_i32_36
  let c7_i32_37 : BitVec 32 := 7#32
  let c9_i32_34 : BitVec 32 := 9#32
  let v52 : BitVec 1 := Scalar.cmpi .eq v35 c9_i32_34
  let c3_i32_35 : BitVec 32 := 3#32
  let c8_i32_32 : BitVec 32 := 8#32
  let v50 : BitVec 1 := Scalar.cmpi .eq v35 c8_i32_32
  let c2_i32_33 : BitVec 32 := 2#32
  let c7_i32_30 : BitVec 32 := 7#32
  let v48 : BitVec 1 := Scalar.cmpi .eq v35 c7_i32_30
  let c6_i32_31 : BitVec 32 := 6#32
  let c6_i32_28 : BitVec 32 := 6#32
  let v46 : BitVec 1 := Scalar.cmpi .eq v35 c6_i32_28
  let c10_i32_29 : BitVec 32 := 10#32
  let c5_i32_26 : BitVec 32 := 5#32
  let v44 : BitVec 1 := Scalar.cmpi .eq v35 c5_i32_26
  let c14_i32_27 : BitVec 32 := 14#32
  let c4_i32_24 : BitVec 32 := 4#32
  let v42 : BitVec 1 := Scalar.cmpi .eq v35 c4_i32_24
  let c13_i32_25 : BitVec 32 := 13#32
  let c3_i32_22 : BitVec 32 := 3#32
  let v40 : BitVec 1 := Scalar.cmpi .eq v35 c3_i32_22
  let c9_i32_23 : BitVec 32 := 9#32
  let c2_i32_20 : BitVec 32 := 2#32
  let v38 : BitVec 1 := Scalar.cmpi .eq v35 c2_i32_20
  let c5_i32_21 : BitVec 32 := 5#32
  let c1_i32_17 : BitVec 32 := 1#32
  let v36 : BitVec 1 := Scalar.cmpi .eq v35 c1_i32_17
  let c1_i32_18 : BitVec 32 := 1#32
  let c0_i32_19 : BitVec 32 := 0#32
  let v37 : BitVec 32 := Scalar.select v36 c1_i32_18 c0_i32_19
  let v39 : BitVec 32 := Scalar.select v38 c5_i32_21 v37
  let v41 : BitVec 32 := Scalar.select v40 c9_i32_23 v39
  let v43 : BitVec 32 := Scalar.select v42 c13_i32_25 v41
  let v45 : BitVec 32 := Scalar.select v44 c14_i32_27 v43
  let v47 : BitVec 32 := Scalar.select v46 c10_i32_29 v45
  let v49 : BitVec 32 := Scalar.select v48 c6_i32_31 v47
  let v51 : BitVec 32 := Scalar.select v50 c2_i32_33 v49
  let v53 : BitVec 32 := Scalar.select v52 c3_i32_35 v51
  let v55 : BitVec 32 := Scalar.select v54 c7_i32_37 v53
  let v57 : BitVec 32 := Scalar.select v56 c11_i32_39 v55
  let v59 : BitVec 32 := Scalar.select v58 c15_i32_41 v57
  let v61 : BitVec 32 := Scalar.select v60 c12_i32_43 v59
  let v63 : BitVec 32 := Scalar.select v62 c8_i32_45 v61
  let v65 : BitVec 32 := Scalar.select v64 c4_i32_47 v63
  let c1_i32_746 : BitVec 32 := 1#32
  let v725 : BitVec 32 := Scalar.muli v65 c1_i32_746
  let v726 : BitVec 32 := Scalar.addi c0_i32_747 v725
  v726.toNat
def k0_dev18 (d0 : Dev nD) : Nat :=
  let c0_i32_758 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c_m1_i32 : BitVec 32 := 4294967295#32
  let v33 : BitVec 32 := Scalar.addi v32 c_m1_i32
  let c32_i32 : BitVec 32 := 32#32
  let v34 : BitVec 32 := Scalar.addi v33 c32_i32
  let c16_i32_16 : BitVec 32 := 16#32
  let v35 : BitVec 32 := Scalar.remsi v34 c16_i32_16
  let c15_i32_46 : BitVec 32 := 15#32
  let v64 : BitVec 1 := Scalar.cmpi .eq v35 c15_i32_46
  let c4_i32_47 : BitVec 32 := 4#32
  let c14_i32_44 : BitVec 32 := 14#32
  let v62 : BitVec 1 := Scalar.cmpi .eq v35 c14_i32_44
  let c8_i32_45 : BitVec 32 := 8#32
  let c13_i32_42 : BitVec 32 := 13#32
  let v60 : BitVec 1 := Scalar.cmpi .eq v35 c13_i32_42
  let c12_i32_43 : BitVec 32 := 12#32
  let c12_i32_40 : BitVec 32 := 12#32
  let v58 : BitVec 1 := Scalar.cmpi .eq v35 c12_i32_40
  let c15_i32_41 : BitVec 32 := 15#32
  let c11_i32_38 : BitVec 32 := 11#32
  let v56 : BitVec 1 := Scalar.cmpi .eq v35 c11_i32_38
  let c11_i32_39 : BitVec 32 := 11#32
  let c10_i32_36 : BitVec 32 := 10#32
  let v54 : BitVec 1 := Scalar.cmpi .eq v35 c10_i32_36
  let c7_i32_37 : BitVec 32 := 7#32
  let c9_i32_34 : BitVec 32 := 9#32
  let v52 : BitVec 1 := Scalar.cmpi .eq v35 c9_i32_34
  let c3_i32_35 : BitVec 32 := 3#32
  let c8_i32_32 : BitVec 32 := 8#32
  let v50 : BitVec 1 := Scalar.cmpi .eq v35 c8_i32_32
  let c2_i32_33 : BitVec 32 := 2#32
  let c7_i32_30 : BitVec 32 := 7#32
  let v48 : BitVec 1 := Scalar.cmpi .eq v35 c7_i32_30
  let c6_i32_31 : BitVec 32 := 6#32
  let c6_i32_28 : BitVec 32 := 6#32
  let v46 : BitVec 1 := Scalar.cmpi .eq v35 c6_i32_28
  let c10_i32_29 : BitVec 32 := 10#32
  let c5_i32_26 : BitVec 32 := 5#32
  let v44 : BitVec 1 := Scalar.cmpi .eq v35 c5_i32_26
  let c14_i32_27 : BitVec 32 := 14#32
  let c4_i32_24 : BitVec 32 := 4#32
  let v42 : BitVec 1 := Scalar.cmpi .eq v35 c4_i32_24
  let c13_i32_25 : BitVec 32 := 13#32
  let c3_i32_22 : BitVec 32 := 3#32
  let v40 : BitVec 1 := Scalar.cmpi .eq v35 c3_i32_22
  let c9_i32_23 : BitVec 32 := 9#32
  let c2_i32_20 : BitVec 32 := 2#32
  let v38 : BitVec 1 := Scalar.cmpi .eq v35 c2_i32_20
  let c5_i32_21 : BitVec 32 := 5#32
  let c1_i32_17 : BitVec 32 := 1#32
  let v36 : BitVec 1 := Scalar.cmpi .eq v35 c1_i32_17
  let c1_i32_18 : BitVec 32 := 1#32
  let c0_i32_19 : BitVec 32 := 0#32
  let v37 : BitVec 32 := Scalar.select v36 c1_i32_18 c0_i32_19
  let v39 : BitVec 32 := Scalar.select v38 c5_i32_21 v37
  let v41 : BitVec 32 := Scalar.select v40 c9_i32_23 v39
  let v43 : BitVec 32 := Scalar.select v42 c13_i32_25 v41
  let v45 : BitVec 32 := Scalar.select v44 c14_i32_27 v43
  let v47 : BitVec 32 := Scalar.select v46 c10_i32_29 v45
  let v49 : BitVec 32 := Scalar.select v48 c6_i32_31 v47
  let v51 : BitVec 32 := Scalar.select v50 c2_i32_33 v49
  let v53 : BitVec 32 := Scalar.select v52 c3_i32_35 v51
  let v55 : BitVec 32 := Scalar.select v54 c7_i32_37 v53
  let v57 : BitVec 32 := Scalar.select v56 c11_i32_39 v55
  let v59 : BitVec 32 := Scalar.select v58 c15_i32_41 v57
  let v61 : BitVec 32 := Scalar.select v60 c12_i32_43 v59
  let v63 : BitVec 32 := Scalar.select v62 c8_i32_45 v61
  let v65 : BitVec 32 := Scalar.select v64 c4_i32_47 v63
  let c1_i32_757 : BitVec 32 := 1#32
  let v734 : BitVec 32 := Scalar.muli v65 c1_i32_757
  let v735 : BitVec 32 := Scalar.addi c0_i32_758 v734
  v735.toNat
def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v748 : BitVec 32 := Scalar.muli v2 c256_i32
  let c0_i32_766 : BitVec 32 := 0#32
  let v749 : BitVec 32 := Scalar.addi v748 c0_i32_766
  let v750 : Index := Scalar.indexCast v749
  let c0_767 : Index := 0#32
  ![v750.toNat, 0]
def k0_dev19 (d0 : Dev nD) : Nat :=
  let c0_i32_786 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_48 : BitVec 32 := 1#32
  let v66 : BitVec 32 := Scalar.addi v32 c1_i32_48
  let c32_i32_49 : BitVec 32 := 32#32
  let v67 : BitVec 32 := Scalar.addi v66 c32_i32_49
  let c16_i32_50 : BitVec 32 := 16#32
  let v68 : BitVec 32 := Scalar.remsi v67 c16_i32_50
  let c15_i32_80 : BitVec 32 := 15#32
  let v97 : BitVec 1 := Scalar.cmpi .eq v68 c15_i32_80
  let c4_i32_81 : BitVec 32 := 4#32
  let c14_i32_78 : BitVec 32 := 14#32
  let v95 : BitVec 1 := Scalar.cmpi .eq v68 c14_i32_78
  let c8_i32_79 : BitVec 32 := 8#32
  let c13_i32_76 : BitVec 32 := 13#32
  let v93 : BitVec 1 := Scalar.cmpi .eq v68 c13_i32_76
  let c12_i32_77 : BitVec 32 := 12#32
  let c12_i32_74 : BitVec 32 := 12#32
  let v91 : BitVec 1 := Scalar.cmpi .eq v68 c12_i32_74
  let c15_i32_75 : BitVec 32 := 15#32
  let c11_i32_72 : BitVec 32 := 11#32
  let v89 : BitVec 1 := Scalar.cmpi .eq v68 c11_i32_72
  let c11_i32_73 : BitVec 32 := 11#32
  let c10_i32_70 : BitVec 32 := 10#32
  let v87 : BitVec 1 := Scalar.cmpi .eq v68 c10_i32_70
  let c7_i32_71 : BitVec 32 := 7#32
  let c9_i32_68 : BitVec 32 := 9#32
  let v85 : BitVec 1 := Scalar.cmpi .eq v68 c9_i32_68
  let c3_i32_69 : BitVec 32 := 3#32
  let c8_i32_66 : BitVec 32 := 8#32
  let v83 : BitVec 1 := Scalar.cmpi .eq v68 c8_i32_66
  let c2_i32_67 : BitVec 32 := 2#32
  let c7_i32_64 : BitVec 32 := 7#32
  let v81 : BitVec 1 := Scalar.cmpi .eq v68 c7_i32_64
  let c6_i32_65 : BitVec 32 := 6#32
  let c6_i32_62 : BitVec 32 := 6#32
  let v79 : BitVec 1 := Scalar.cmpi .eq v68 c6_i32_62
  let c10_i32_63 : BitVec 32 := 10#32
  let c5_i32_60 : BitVec 32 := 5#32
  let v77 : BitVec 1 := Scalar.cmpi .eq v68 c5_i32_60
  let c14_i32_61 : BitVec 32 := 14#32
  let c4_i32_58 : BitVec 32 := 4#32
  let v75 : BitVec 1 := Scalar.cmpi .eq v68 c4_i32_58
  let c13_i32_59 : BitVec 32 := 13#32
  let c3_i32_56 : BitVec 32 := 3#32
  let v73 : BitVec 1 := Scalar.cmpi .eq v68 c3_i32_56
  let c9_i32_57 : BitVec 32 := 9#32
  let c2_i32_54 : BitVec 32 := 2#32
  let v71 : BitVec 1 := Scalar.cmpi .eq v68 c2_i32_54
  let c5_i32_55 : BitVec 32 := 5#32
  let c1_i32_51 : BitVec 32 := 1#32
  let v69 : BitVec 1 := Scalar.cmpi .eq v68 c1_i32_51
  let c1_i32_52 : BitVec 32 := 1#32
  let c0_i32_53 : BitVec 32 := 0#32
  let v70 : BitVec 32 := Scalar.select v69 c1_i32_52 c0_i32_53
  let v72 : BitVec 32 := Scalar.select v71 c5_i32_55 v70
  let v74 : BitVec 32 := Scalar.select v73 c9_i32_57 v72
  let v76 : BitVec 32 := Scalar.select v75 c13_i32_59 v74
  let v78 : BitVec 32 := Scalar.select v77 c14_i32_61 v76
  let v80 : BitVec 32 := Scalar.select v79 c10_i32_63 v78
  let v82 : BitVec 32 := Scalar.select v81 c6_i32_65 v80
  let v84 : BitVec 32 := Scalar.select v83 c2_i32_67 v82
  let v86 : BitVec 32 := Scalar.select v85 c3_i32_69 v84
  let v88 : BitVec 32 := Scalar.select v87 c7_i32_71 v86
  let v90 : BitVec 32 := Scalar.select v89 c11_i32_73 v88
  let v92 : BitVec 32 := Scalar.select v91 c15_i32_75 v90
  let v94 : BitVec 32 := Scalar.select v93 c12_i32_77 v92
  let v96 : BitVec 32 := Scalar.select v95 c8_i32_79 v94
  let v98 : BitVec 32 := Scalar.select v97 c4_i32_81 v96
  let c1_i32_785 : BitVec 32 := 1#32
  let v759 : BitVec 32 := Scalar.muli v98 c1_i32_785
  let v760 : BitVec 32 := Scalar.addi c0_i32_786 v759
  v760.toNat
def k0_dev20 (d0 : Dev nD) : Nat :=
  let c0_i32_811 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_48 : BitVec 32 := 1#32
  let v66 : BitVec 32 := Scalar.addi v32 c1_i32_48
  let c32_i32_49 : BitVec 32 := 32#32
  let v67 : BitVec 32 := Scalar.addi v66 c32_i32_49
  let c16_i32_50 : BitVec 32 := 16#32
  let v68 : BitVec 32 := Scalar.remsi v67 c16_i32_50
  let c15_i32_80 : BitVec 32 := 15#32
  let v97 : BitVec 1 := Scalar.cmpi .eq v68 c15_i32_80
  let c4_i32_81 : BitVec 32 := 4#32
  let c14_i32_78 : BitVec 32 := 14#32
  let v95 : BitVec 1 := Scalar.cmpi .eq v68 c14_i32_78
  let c8_i32_79 : BitVec 32 := 8#32
  let c13_i32_76 : BitVec 32 := 13#32
  let v93 : BitVec 1 := Scalar.cmpi .eq v68 c13_i32_76
  let c12_i32_77 : BitVec 32 := 12#32
  let c12_i32_74 : BitVec 32 := 12#32
  let v91 : BitVec 1 := Scalar.cmpi .eq v68 c12_i32_74
  let c15_i32_75 : BitVec 32 := 15#32
  let c11_i32_72 : BitVec 32 := 11#32
  let v89 : BitVec 1 := Scalar.cmpi .eq v68 c11_i32_72
  let c11_i32_73 : BitVec 32 := 11#32
  let c10_i32_70 : BitVec 32 := 10#32
  let v87 : BitVec 1 := Scalar.cmpi .eq v68 c10_i32_70
  let c7_i32_71 : BitVec 32 := 7#32
  let c9_i32_68 : BitVec 32 := 9#32
  let v85 : BitVec 1 := Scalar.cmpi .eq v68 c9_i32_68
  let c3_i32_69 : BitVec 32 := 3#32
  let c8_i32_66 : BitVec 32 := 8#32
  let v83 : BitVec 1 := Scalar.cmpi .eq v68 c8_i32_66
  let c2_i32_67 : BitVec 32 := 2#32
  let c7_i32_64 : BitVec 32 := 7#32
  let v81 : BitVec 1 := Scalar.cmpi .eq v68 c7_i32_64
  let c6_i32_65 : BitVec 32 := 6#32
  let c6_i32_62 : BitVec 32 := 6#32
  let v79 : BitVec 1 := Scalar.cmpi .eq v68 c6_i32_62
  let c10_i32_63 : BitVec 32 := 10#32
  let c5_i32_60 : BitVec 32 := 5#32
  let v77 : BitVec 1 := Scalar.cmpi .eq v68 c5_i32_60
  let c14_i32_61 : BitVec 32 := 14#32
  let c4_i32_58 : BitVec 32 := 4#32
  let v75 : BitVec 1 := Scalar.cmpi .eq v68 c4_i32_58
  let c13_i32_59 : BitVec 32 := 13#32
  let c3_i32_56 : BitVec 32 := 3#32
  let v73 : BitVec 1 := Scalar.cmpi .eq v68 c3_i32_56
  let c9_i32_57 : BitVec 32 := 9#32
  let c2_i32_54 : BitVec 32 := 2#32
  let v71 : BitVec 1 := Scalar.cmpi .eq v68 c2_i32_54
  let c5_i32_55 : BitVec 32 := 5#32
  let c1_i32_51 : BitVec 32 := 1#32
  let v69 : BitVec 1 := Scalar.cmpi .eq v68 c1_i32_51
  let c1_i32_52 : BitVec 32 := 1#32
  let c0_i32_53 : BitVec 32 := 0#32
  let v70 : BitVec 32 := Scalar.select v69 c1_i32_52 c0_i32_53
  let v72 : BitVec 32 := Scalar.select v71 c5_i32_55 v70
  let v74 : BitVec 32 := Scalar.select v73 c9_i32_57 v72
  let v76 : BitVec 32 := Scalar.select v75 c13_i32_59 v74
  let v78 : BitVec 32 := Scalar.select v77 c14_i32_61 v76
  let v80 : BitVec 32 := Scalar.select v79 c10_i32_63 v78
  let v82 : BitVec 32 := Scalar.select v81 c6_i32_65 v80
  let v84 : BitVec 32 := Scalar.select v83 c2_i32_67 v82
  let v86 : BitVec 32 := Scalar.select v85 c3_i32_69 v84
  let v88 : BitVec 32 := Scalar.select v87 c7_i32_71 v86
  let v90 : BitVec 32 := Scalar.select v89 c11_i32_73 v88
  let v92 : BitVec 32 := Scalar.select v91 c15_i32_75 v90
  let v94 : BitVec 32 := Scalar.select v93 c12_i32_77 v92
  let v96 : BitVec 32 := Scalar.select v95 c8_i32_79 v94
  let v98 : BitVec 32 := Scalar.select v97 c4_i32_81 v96
  let c1_i32_810 : BitVec 32 := 1#32
  let v777 : BitVec 32 := Scalar.muli v98 c1_i32_810
  let v778 : BitVec 32 := Scalar.addi c0_i32_811 v777
  v778.toNat
def k0_dev21 (d0 : Dev nD) : Nat :=
  let c0_i32_836 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_48 : BitVec 32 := 1#32
  let v66 : BitVec 32 := Scalar.addi v32 c1_i32_48
  let c32_i32_49 : BitVec 32 := 32#32
  let v67 : BitVec 32 := Scalar.addi v66 c32_i32_49
  let c16_i32_50 : BitVec 32 := 16#32
  let v68 : BitVec 32 := Scalar.remsi v67 c16_i32_50
  let c15_i32_80 : BitVec 32 := 15#32
  let v97 : BitVec 1 := Scalar.cmpi .eq v68 c15_i32_80
  let c4_i32_81 : BitVec 32 := 4#32
  let c14_i32_78 : BitVec 32 := 14#32
  let v95 : BitVec 1 := Scalar.cmpi .eq v68 c14_i32_78
  let c8_i32_79 : BitVec 32 := 8#32
  let c13_i32_76 : BitVec 32 := 13#32
  let v93 : BitVec 1 := Scalar.cmpi .eq v68 c13_i32_76
  let c12_i32_77 : BitVec 32 := 12#32
  let c12_i32_74 : BitVec 32 := 12#32
  let v91 : BitVec 1 := Scalar.cmpi .eq v68 c12_i32_74
  let c15_i32_75 : BitVec 32 := 15#32
  let c11_i32_72 : BitVec 32 := 11#32
  let v89 : BitVec 1 := Scalar.cmpi .eq v68 c11_i32_72
  let c11_i32_73 : BitVec 32 := 11#32
  let c10_i32_70 : BitVec 32 := 10#32
  let v87 : BitVec 1 := Scalar.cmpi .eq v68 c10_i32_70
  let c7_i32_71 : BitVec 32 := 7#32
  let c9_i32_68 : BitVec 32 := 9#32
  let v85 : BitVec 1 := Scalar.cmpi .eq v68 c9_i32_68
  let c3_i32_69 : BitVec 32 := 3#32
  let c8_i32_66 : BitVec 32 := 8#32
  let v83 : BitVec 1 := Scalar.cmpi .eq v68 c8_i32_66
  let c2_i32_67 : BitVec 32 := 2#32
  let c7_i32_64 : BitVec 32 := 7#32
  let v81 : BitVec 1 := Scalar.cmpi .eq v68 c7_i32_64
  let c6_i32_65 : BitVec 32 := 6#32
  let c6_i32_62 : BitVec 32 := 6#32
  let v79 : BitVec 1 := Scalar.cmpi .eq v68 c6_i32_62
  let c10_i32_63 : BitVec 32 := 10#32
  let c5_i32_60 : BitVec 32 := 5#32
  let v77 : BitVec 1 := Scalar.cmpi .eq v68 c5_i32_60
  let c14_i32_61 : BitVec 32 := 14#32
  let c4_i32_58 : BitVec 32 := 4#32
  let v75 : BitVec 1 := Scalar.cmpi .eq v68 c4_i32_58
  let c13_i32_59 : BitVec 32 := 13#32
  let c3_i32_56 : BitVec 32 := 3#32
  let v73 : BitVec 1 := Scalar.cmpi .eq v68 c3_i32_56
  let c9_i32_57 : BitVec 32 := 9#32
  let c2_i32_54 : BitVec 32 := 2#32
  let v71 : BitVec 1 := Scalar.cmpi .eq v68 c2_i32_54
  let c5_i32_55 : BitVec 32 := 5#32
  let c1_i32_51 : BitVec 32 := 1#32
  let v69 : BitVec 1 := Scalar.cmpi .eq v68 c1_i32_51
  let c1_i32_52 : BitVec 32 := 1#32
  let c0_i32_53 : BitVec 32 := 0#32
  let v70 : BitVec 32 := Scalar.select v69 c1_i32_52 c0_i32_53
  let v72 : BitVec 32 := Scalar.select v71 c5_i32_55 v70
  let v74 : BitVec 32 := Scalar.select v73 c9_i32_57 v72
  let v76 : BitVec 32 := Scalar.select v75 c13_i32_59 v74
  let v78 : BitVec 32 := Scalar.select v77 c14_i32_61 v76
  let v80 : BitVec 32 := Scalar.select v79 c10_i32_63 v78
  let v82 : BitVec 32 := Scalar.select v81 c6_i32_65 v80
  let v84 : BitVec 32 := Scalar.select v83 c2_i32_67 v82
  let v86 : BitVec 32 := Scalar.select v85 c3_i32_69 v84
  let v88 : BitVec 32 := Scalar.select v87 c7_i32_71 v86
  let v90 : BitVec 32 := Scalar.select v89 c11_i32_73 v88
  let v92 : BitVec 32 := Scalar.select v91 c15_i32_75 v90
  let v94 : BitVec 32 := Scalar.select v93 c12_i32_77 v92
  let v96 : BitVec 32 := Scalar.select v95 c8_i32_79 v94
  let v98 : BitVec 32 := Scalar.select v97 c4_i32_81 v96
  let c1_i32_835 : BitVec 32 := 1#32
  let v795 : BitVec 32 := Scalar.muli v98 c1_i32_835
  let v796 : BitVec 32 := Scalar.addi c0_i32_836 v795
  v796.toNat
def k0_dev22 (d0 : Dev nD) : Nat :=
  let c0_i32_861 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_48 : BitVec 32 := 1#32
  let v66 : BitVec 32 := Scalar.addi v32 c1_i32_48
  let c32_i32_49 : BitVec 32 := 32#32
  let v67 : BitVec 32 := Scalar.addi v66 c32_i32_49
  let c16_i32_50 : BitVec 32 := 16#32
  let v68 : BitVec 32 := Scalar.remsi v67 c16_i32_50
  let c15_i32_80 : BitVec 32 := 15#32
  let v97 : BitVec 1 := Scalar.cmpi .eq v68 c15_i32_80
  let c4_i32_81 : BitVec 32 := 4#32
  let c14_i32_78 : BitVec 32 := 14#32
  let v95 : BitVec 1 := Scalar.cmpi .eq v68 c14_i32_78
  let c8_i32_79 : BitVec 32 := 8#32
  let c13_i32_76 : BitVec 32 := 13#32
  let v93 : BitVec 1 := Scalar.cmpi .eq v68 c13_i32_76
  let c12_i32_77 : BitVec 32 := 12#32
  let c12_i32_74 : BitVec 32 := 12#32
  let v91 : BitVec 1 := Scalar.cmpi .eq v68 c12_i32_74
  let c15_i32_75 : BitVec 32 := 15#32
  let c11_i32_72 : BitVec 32 := 11#32
  let v89 : BitVec 1 := Scalar.cmpi .eq v68 c11_i32_72
  let c11_i32_73 : BitVec 32 := 11#32
  let c10_i32_70 : BitVec 32 := 10#32
  let v87 : BitVec 1 := Scalar.cmpi .eq v68 c10_i32_70
  let c7_i32_71 : BitVec 32 := 7#32
  let c9_i32_68 : BitVec 32 := 9#32
  let v85 : BitVec 1 := Scalar.cmpi .eq v68 c9_i32_68
  let c3_i32_69 : BitVec 32 := 3#32
  let c8_i32_66 : BitVec 32 := 8#32
  let v83 : BitVec 1 := Scalar.cmpi .eq v68 c8_i32_66
  let c2_i32_67 : BitVec 32 := 2#32
  let c7_i32_64 : BitVec 32 := 7#32
  let v81 : BitVec 1 := Scalar.cmpi .eq v68 c7_i32_64
  let c6_i32_65 : BitVec 32 := 6#32
  let c6_i32_62 : BitVec 32 := 6#32
  let v79 : BitVec 1 := Scalar.cmpi .eq v68 c6_i32_62
  let c10_i32_63 : BitVec 32 := 10#32
  let c5_i32_60 : BitVec 32 := 5#32
  let v77 : BitVec 1 := Scalar.cmpi .eq v68 c5_i32_60
  let c14_i32_61 : BitVec 32 := 14#32
  let c4_i32_58 : BitVec 32 := 4#32
  let v75 : BitVec 1 := Scalar.cmpi .eq v68 c4_i32_58
  let c13_i32_59 : BitVec 32 := 13#32
  let c3_i32_56 : BitVec 32 := 3#32
  let v73 : BitVec 1 := Scalar.cmpi .eq v68 c3_i32_56
  let c9_i32_57 : BitVec 32 := 9#32
  let c2_i32_54 : BitVec 32 := 2#32
  let v71 : BitVec 1 := Scalar.cmpi .eq v68 c2_i32_54
  let c5_i32_55 : BitVec 32 := 5#32
  let c1_i32_51 : BitVec 32 := 1#32
  let v69 : BitVec 1 := Scalar.cmpi .eq v68 c1_i32_51
  let c1_i32_52 : BitVec 32 := 1#32
  let c0_i32_53 : BitVec 32 := 0#32
  let v70 : BitVec 32 := Scalar.select v69 c1_i32_52 c0_i32_53
  let v72 : BitVec 32 := Scalar.select v71 c5_i32_55 v70
  let v74 : BitVec 32 := Scalar.select v73 c9_i32_57 v72
  let v76 : BitVec 32 := Scalar.select v75 c13_i32_59 v74
  let v78 : BitVec 32 := Scalar.select v77 c14_i32_61 v76
  let v80 : BitVec 32 := Scalar.select v79 c10_i32_63 v78
  let v82 : BitVec 32 := Scalar.select v81 c6_i32_65 v80
  let v84 : BitVec 32 := Scalar.select v83 c2_i32_67 v82
  let v86 : BitVec 32 := Scalar.select v85 c3_i32_69 v84
  let v88 : BitVec 32 := Scalar.select v87 c7_i32_71 v86
  let v90 : BitVec 32 := Scalar.select v89 c11_i32_73 v88
  let v92 : BitVec 32 := Scalar.select v91 c15_i32_75 v90
  let v94 : BitVec 32 := Scalar.select v93 c12_i32_77 v92
  let v96 : BitVec 32 := Scalar.select v95 c8_i32_79 v94
  let v98 : BitVec 32 := Scalar.select v97 c4_i32_81 v96
  let c1_i32_860 : BitVec 32 := 1#32
  let v813 : BitVec 32 := Scalar.muli v98 c1_i32_860
  let v814 : BitVec 32 := Scalar.addi c0_i32_861 v813
  v814.toNat
def k0_dev23 (d0 : Dev nD) : Nat :=
  let c0_i32_886 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_48 : BitVec 32 := 1#32
  let v66 : BitVec 32 := Scalar.addi v32 c1_i32_48
  let c32_i32_49 : BitVec 32 := 32#32
  let v67 : BitVec 32 := Scalar.addi v66 c32_i32_49
  let c16_i32_50 : BitVec 32 := 16#32
  let v68 : BitVec 32 := Scalar.remsi v67 c16_i32_50
  let c15_i32_80 : BitVec 32 := 15#32
  let v97 : BitVec 1 := Scalar.cmpi .eq v68 c15_i32_80
  let c4_i32_81 : BitVec 32 := 4#32
  let c14_i32_78 : BitVec 32 := 14#32
  let v95 : BitVec 1 := Scalar.cmpi .eq v68 c14_i32_78
  let c8_i32_79 : BitVec 32 := 8#32
  let c13_i32_76 : BitVec 32 := 13#32
  let v93 : BitVec 1 := Scalar.cmpi .eq v68 c13_i32_76
  let c12_i32_77 : BitVec 32 := 12#32
  let c12_i32_74 : BitVec 32 := 12#32
  let v91 : BitVec 1 := Scalar.cmpi .eq v68 c12_i32_74
  let c15_i32_75 : BitVec 32 := 15#32
  let c11_i32_72 : BitVec 32 := 11#32
  let v89 : BitVec 1 := Scalar.cmpi .eq v68 c11_i32_72
  let c11_i32_73 : BitVec 32 := 11#32
  let c10_i32_70 : BitVec 32 := 10#32
  let v87 : BitVec 1 := Scalar.cmpi .eq v68 c10_i32_70
  let c7_i32_71 : BitVec 32 := 7#32
  let c9_i32_68 : BitVec 32 := 9#32
  let v85 : BitVec 1 := Scalar.cmpi .eq v68 c9_i32_68
  let c3_i32_69 : BitVec 32 := 3#32
  let c8_i32_66 : BitVec 32 := 8#32
  let v83 : BitVec 1 := Scalar.cmpi .eq v68 c8_i32_66
  let c2_i32_67 : BitVec 32 := 2#32
  let c7_i32_64 : BitVec 32 := 7#32
  let v81 : BitVec 1 := Scalar.cmpi .eq v68 c7_i32_64
  let c6_i32_65 : BitVec 32 := 6#32
  let c6_i32_62 : BitVec 32 := 6#32
  let v79 : BitVec 1 := Scalar.cmpi .eq v68 c6_i32_62
  let c10_i32_63 : BitVec 32 := 10#32
  let c5_i32_60 : BitVec 32 := 5#32
  let v77 : BitVec 1 := Scalar.cmpi .eq v68 c5_i32_60
  let c14_i32_61 : BitVec 32 := 14#32
  let c4_i32_58 : BitVec 32 := 4#32
  let v75 : BitVec 1 := Scalar.cmpi .eq v68 c4_i32_58
  let c13_i32_59 : BitVec 32 := 13#32
  let c3_i32_56 : BitVec 32 := 3#32
  let v73 : BitVec 1 := Scalar.cmpi .eq v68 c3_i32_56
  let c9_i32_57 : BitVec 32 := 9#32
  let c2_i32_54 : BitVec 32 := 2#32
  let v71 : BitVec 1 := Scalar.cmpi .eq v68 c2_i32_54
  let c5_i32_55 : BitVec 32 := 5#32
  let c1_i32_51 : BitVec 32 := 1#32
  let v69 : BitVec 1 := Scalar.cmpi .eq v68 c1_i32_51
  let c1_i32_52 : BitVec 32 := 1#32
  let c0_i32_53 : BitVec 32 := 0#32
  let v70 : BitVec 32 := Scalar.select v69 c1_i32_52 c0_i32_53
  let v72 : BitVec 32 := Scalar.select v71 c5_i32_55 v70
  let v74 : BitVec 32 := Scalar.select v73 c9_i32_57 v72
  let v76 : BitVec 32 := Scalar.select v75 c13_i32_59 v74
  let v78 : BitVec 32 := Scalar.select v77 c14_i32_61 v76
  let v80 : BitVec 32 := Scalar.select v79 c10_i32_63 v78
  let v82 : BitVec 32 := Scalar.select v81 c6_i32_65 v80
  let v84 : BitVec 32 := Scalar.select v83 c2_i32_67 v82
  let v86 : BitVec 32 := Scalar.select v85 c3_i32_69 v84
  let v88 : BitVec 32 := Scalar.select v87 c7_i32_71 v86
  let v90 : BitVec 32 := Scalar.select v89 c11_i32_73 v88
  let v92 : BitVec 32 := Scalar.select v91 c15_i32_75 v90
  let v94 : BitVec 32 := Scalar.select v93 c12_i32_77 v92
  let v96 : BitVec 32 := Scalar.select v95 c8_i32_79 v94
  let v98 : BitVec 32 := Scalar.select v97 c4_i32_81 v96
  let c1_i32_885 : BitVec 32 := 1#32
  let v831 : BitVec 32 := Scalar.muli v98 c1_i32_885
  let v832 : BitVec 32 := Scalar.addi c0_i32_886 v831
  v832.toNat
def k0_dev24 (d0 : Dev nD) : Nat :=
  let c0_i32_911 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_48 : BitVec 32 := 1#32
  let v66 : BitVec 32 := Scalar.addi v32 c1_i32_48
  let c32_i32_49 : BitVec 32 := 32#32
  let v67 : BitVec 32 := Scalar.addi v66 c32_i32_49
  let c16_i32_50 : BitVec 32 := 16#32
  let v68 : BitVec 32 := Scalar.remsi v67 c16_i32_50
  let c15_i32_80 : BitVec 32 := 15#32
  let v97 : BitVec 1 := Scalar.cmpi .eq v68 c15_i32_80
  let c4_i32_81 : BitVec 32 := 4#32
  let c14_i32_78 : BitVec 32 := 14#32
  let v95 : BitVec 1 := Scalar.cmpi .eq v68 c14_i32_78
  let c8_i32_79 : BitVec 32 := 8#32
  let c13_i32_76 : BitVec 32 := 13#32
  let v93 : BitVec 1 := Scalar.cmpi .eq v68 c13_i32_76
  let c12_i32_77 : BitVec 32 := 12#32
  let c12_i32_74 : BitVec 32 := 12#32
  let v91 : BitVec 1 := Scalar.cmpi .eq v68 c12_i32_74
  let c15_i32_75 : BitVec 32 := 15#32
  let c11_i32_72 : BitVec 32 := 11#32
  let v89 : BitVec 1 := Scalar.cmpi .eq v68 c11_i32_72
  let c11_i32_73 : BitVec 32 := 11#32
  let c10_i32_70 : BitVec 32 := 10#32
  let v87 : BitVec 1 := Scalar.cmpi .eq v68 c10_i32_70
  let c7_i32_71 : BitVec 32 := 7#32
  let c9_i32_68 : BitVec 32 := 9#32
  let v85 : BitVec 1 := Scalar.cmpi .eq v68 c9_i32_68
  let c3_i32_69 : BitVec 32 := 3#32
  let c8_i32_66 : BitVec 32 := 8#32
  let v83 : BitVec 1 := Scalar.cmpi .eq v68 c8_i32_66
  let c2_i32_67 : BitVec 32 := 2#32
  let c7_i32_64 : BitVec 32 := 7#32
  let v81 : BitVec 1 := Scalar.cmpi .eq v68 c7_i32_64
  let c6_i32_65 : BitVec 32 := 6#32
  let c6_i32_62 : BitVec 32 := 6#32
  let v79 : BitVec 1 := Scalar.cmpi .eq v68 c6_i32_62
  let c10_i32_63 : BitVec 32 := 10#32
  let c5_i32_60 : BitVec 32 := 5#32
  let v77 : BitVec 1 := Scalar.cmpi .eq v68 c5_i32_60
  let c14_i32_61 : BitVec 32 := 14#32
  let c4_i32_58 : BitVec 32 := 4#32
  let v75 : BitVec 1 := Scalar.cmpi .eq v68 c4_i32_58
  let c13_i32_59 : BitVec 32 := 13#32
  let c3_i32_56 : BitVec 32 := 3#32
  let v73 : BitVec 1 := Scalar.cmpi .eq v68 c3_i32_56
  let c9_i32_57 : BitVec 32 := 9#32
  let c2_i32_54 : BitVec 32 := 2#32
  let v71 : BitVec 1 := Scalar.cmpi .eq v68 c2_i32_54
  let c5_i32_55 : BitVec 32 := 5#32
  let c1_i32_51 : BitVec 32 := 1#32
  let v69 : BitVec 1 := Scalar.cmpi .eq v68 c1_i32_51
  let c1_i32_52 : BitVec 32 := 1#32
  let c0_i32_53 : BitVec 32 := 0#32
  let v70 : BitVec 32 := Scalar.select v69 c1_i32_52 c0_i32_53
  let v72 : BitVec 32 := Scalar.select v71 c5_i32_55 v70
  let v74 : BitVec 32 := Scalar.select v73 c9_i32_57 v72
  let v76 : BitVec 32 := Scalar.select v75 c13_i32_59 v74
  let v78 : BitVec 32 := Scalar.select v77 c14_i32_61 v76
  let v80 : BitVec 32 := Scalar.select v79 c10_i32_63 v78
  let v82 : BitVec 32 := Scalar.select v81 c6_i32_65 v80
  let v84 : BitVec 32 := Scalar.select v83 c2_i32_67 v82
  let v86 : BitVec 32 := Scalar.select v85 c3_i32_69 v84
  let v88 : BitVec 32 := Scalar.select v87 c7_i32_71 v86
  let v90 : BitVec 32 := Scalar.select v89 c11_i32_73 v88
  let v92 : BitVec 32 := Scalar.select v91 c15_i32_75 v90
  let v94 : BitVec 32 := Scalar.select v93 c12_i32_77 v92
  let v96 : BitVec 32 := Scalar.select v95 c8_i32_79 v94
  let v98 : BitVec 32 := Scalar.select v97 c4_i32_81 v96
  let c1_i32_910 : BitVec 32 := 1#32
  let v849 : BitVec 32 := Scalar.muli v98 c1_i32_910
  let v850 : BitVec 32 := Scalar.addi c0_i32_911 v849
  v850.toNat
def k0_dev25 (d0 : Dev nD) : Nat :=
  let c0_i32_936 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_48 : BitVec 32 := 1#32
  let v66 : BitVec 32 := Scalar.addi v32 c1_i32_48
  let c32_i32_49 : BitVec 32 := 32#32
  let v67 : BitVec 32 := Scalar.addi v66 c32_i32_49
  let c16_i32_50 : BitVec 32 := 16#32
  let v68 : BitVec 32 := Scalar.remsi v67 c16_i32_50
  let c15_i32_80 : BitVec 32 := 15#32
  let v97 : BitVec 1 := Scalar.cmpi .eq v68 c15_i32_80
  let c4_i32_81 : BitVec 32 := 4#32
  let c14_i32_78 : BitVec 32 := 14#32
  let v95 : BitVec 1 := Scalar.cmpi .eq v68 c14_i32_78
  let c8_i32_79 : BitVec 32 := 8#32
  let c13_i32_76 : BitVec 32 := 13#32
  let v93 : BitVec 1 := Scalar.cmpi .eq v68 c13_i32_76
  let c12_i32_77 : BitVec 32 := 12#32
  let c12_i32_74 : BitVec 32 := 12#32
  let v91 : BitVec 1 := Scalar.cmpi .eq v68 c12_i32_74
  let c15_i32_75 : BitVec 32 := 15#32
  let c11_i32_72 : BitVec 32 := 11#32
  let v89 : BitVec 1 := Scalar.cmpi .eq v68 c11_i32_72
  let c11_i32_73 : BitVec 32 := 11#32
  let c10_i32_70 : BitVec 32 := 10#32
  let v87 : BitVec 1 := Scalar.cmpi .eq v68 c10_i32_70
  let c7_i32_71 : BitVec 32 := 7#32
  let c9_i32_68 : BitVec 32 := 9#32
  let v85 : BitVec 1 := Scalar.cmpi .eq v68 c9_i32_68
  let c3_i32_69 : BitVec 32 := 3#32
  let c8_i32_66 : BitVec 32 := 8#32
  let v83 : BitVec 1 := Scalar.cmpi .eq v68 c8_i32_66
  let c2_i32_67 : BitVec 32 := 2#32
  let c7_i32_64 : BitVec 32 := 7#32
  let v81 : BitVec 1 := Scalar.cmpi .eq v68 c7_i32_64
  let c6_i32_65 : BitVec 32 := 6#32
  let c6_i32_62 : BitVec 32 := 6#32
  let v79 : BitVec 1 := Scalar.cmpi .eq v68 c6_i32_62
  let c10_i32_63 : BitVec 32 := 10#32
  let c5_i32_60 : BitVec 32 := 5#32
  let v77 : BitVec 1 := Scalar.cmpi .eq v68 c5_i32_60
  let c14_i32_61 : BitVec 32 := 14#32
  let c4_i32_58 : BitVec 32 := 4#32
  let v75 : BitVec 1 := Scalar.cmpi .eq v68 c4_i32_58
  let c13_i32_59 : BitVec 32 := 13#32
  let c3_i32_56 : BitVec 32 := 3#32
  let v73 : BitVec 1 := Scalar.cmpi .eq v68 c3_i32_56
  let c9_i32_57 : BitVec 32 := 9#32
  let c2_i32_54 : BitVec 32 := 2#32
  let v71 : BitVec 1 := Scalar.cmpi .eq v68 c2_i32_54
  let c5_i32_55 : BitVec 32 := 5#32
  let c1_i32_51 : BitVec 32 := 1#32
  let v69 : BitVec 1 := Scalar.cmpi .eq v68 c1_i32_51
  let c1_i32_52 : BitVec 32 := 1#32
  let c0_i32_53 : BitVec 32 := 0#32
  let v70 : BitVec 32 := Scalar.select v69 c1_i32_52 c0_i32_53
  let v72 : BitVec 32 := Scalar.select v71 c5_i32_55 v70
  let v74 : BitVec 32 := Scalar.select v73 c9_i32_57 v72
  let v76 : BitVec 32 := Scalar.select v75 c13_i32_59 v74
  let v78 : BitVec 32 := Scalar.select v77 c14_i32_61 v76
  let v80 : BitVec 32 := Scalar.select v79 c10_i32_63 v78
  let v82 : BitVec 32 := Scalar.select v81 c6_i32_65 v80
  let v84 : BitVec 32 := Scalar.select v83 c2_i32_67 v82
  let v86 : BitVec 32 := Scalar.select v85 c3_i32_69 v84
  let v88 : BitVec 32 := Scalar.select v87 c7_i32_71 v86
  let v90 : BitVec 32 := Scalar.select v89 c11_i32_73 v88
  let v92 : BitVec 32 := Scalar.select v91 c15_i32_75 v90
  let v94 : BitVec 32 := Scalar.select v93 c12_i32_77 v92
  let v96 : BitVec 32 := Scalar.select v95 c8_i32_79 v94
  let v98 : BitVec 32 := Scalar.select v97 c4_i32_81 v96
  let c1_i32_935 : BitVec 32 := 1#32
  let v867 : BitVec 32 := Scalar.muli v98 c1_i32_935
  let v868 : BitVec 32 := Scalar.addi c0_i32_936 v867
  v868.toNat
def k0_dev26 (d0 : Dev nD) : Nat :=
  let c0_i32_961 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_48 : BitVec 32 := 1#32
  let v66 : BitVec 32 := Scalar.addi v32 c1_i32_48
  let c32_i32_49 : BitVec 32 := 32#32
  let v67 : BitVec 32 := Scalar.addi v66 c32_i32_49
  let c16_i32_50 : BitVec 32 := 16#32
  let v68 : BitVec 32 := Scalar.remsi v67 c16_i32_50
  let c15_i32_80 : BitVec 32 := 15#32
  let v97 : BitVec 1 := Scalar.cmpi .eq v68 c15_i32_80
  let c4_i32_81 : BitVec 32 := 4#32
  let c14_i32_78 : BitVec 32 := 14#32
  let v95 : BitVec 1 := Scalar.cmpi .eq v68 c14_i32_78
  let c8_i32_79 : BitVec 32 := 8#32
  let c13_i32_76 : BitVec 32 := 13#32
  let v93 : BitVec 1 := Scalar.cmpi .eq v68 c13_i32_76
  let c12_i32_77 : BitVec 32 := 12#32
  let c12_i32_74 : BitVec 32 := 12#32
  let v91 : BitVec 1 := Scalar.cmpi .eq v68 c12_i32_74
  let c15_i32_75 : BitVec 32 := 15#32
  let c11_i32_72 : BitVec 32 := 11#32
  let v89 : BitVec 1 := Scalar.cmpi .eq v68 c11_i32_72
  let c11_i32_73 : BitVec 32 := 11#32
  let c10_i32_70 : BitVec 32 := 10#32
  let v87 : BitVec 1 := Scalar.cmpi .eq v68 c10_i32_70
  let c7_i32_71 : BitVec 32 := 7#32
  let c9_i32_68 : BitVec 32 := 9#32
  let v85 : BitVec 1 := Scalar.cmpi .eq v68 c9_i32_68
  let c3_i32_69 : BitVec 32 := 3#32
  let c8_i32_66 : BitVec 32 := 8#32
  let v83 : BitVec 1 := Scalar.cmpi .eq v68 c8_i32_66
  let c2_i32_67 : BitVec 32 := 2#32
  let c7_i32_64 : BitVec 32 := 7#32
  let v81 : BitVec 1 := Scalar.cmpi .eq v68 c7_i32_64
  let c6_i32_65 : BitVec 32 := 6#32
  let c6_i32_62 : BitVec 32 := 6#32
  let v79 : BitVec 1 := Scalar.cmpi .eq v68 c6_i32_62
  let c10_i32_63 : BitVec 32 := 10#32
  let c5_i32_60 : BitVec 32 := 5#32
  let v77 : BitVec 1 := Scalar.cmpi .eq v68 c5_i32_60
  let c14_i32_61 : BitVec 32 := 14#32
  let c4_i32_58 : BitVec 32 := 4#32
  let v75 : BitVec 1 := Scalar.cmpi .eq v68 c4_i32_58
  let c13_i32_59 : BitVec 32 := 13#32
  let c3_i32_56 : BitVec 32 := 3#32
  let v73 : BitVec 1 := Scalar.cmpi .eq v68 c3_i32_56
  let c9_i32_57 : BitVec 32 := 9#32
  let c2_i32_54 : BitVec 32 := 2#32
  let v71 : BitVec 1 := Scalar.cmpi .eq v68 c2_i32_54
  let c5_i32_55 : BitVec 32 := 5#32
  let c1_i32_51 : BitVec 32 := 1#32
  let v69 : BitVec 1 := Scalar.cmpi .eq v68 c1_i32_51
  let c1_i32_52 : BitVec 32 := 1#32
  let c0_i32_53 : BitVec 32 := 0#32
  let v70 : BitVec 32 := Scalar.select v69 c1_i32_52 c0_i32_53
  let v72 : BitVec 32 := Scalar.select v71 c5_i32_55 v70
  let v74 : BitVec 32 := Scalar.select v73 c9_i32_57 v72
  let v76 : BitVec 32 := Scalar.select v75 c13_i32_59 v74
  let v78 : BitVec 32 := Scalar.select v77 c14_i32_61 v76
  let v80 : BitVec 32 := Scalar.select v79 c10_i32_63 v78
  let v82 : BitVec 32 := Scalar.select v81 c6_i32_65 v80
  let v84 : BitVec 32 := Scalar.select v83 c2_i32_67 v82
  let v86 : BitVec 32 := Scalar.select v85 c3_i32_69 v84
  let v88 : BitVec 32 := Scalar.select v87 c7_i32_71 v86
  let v90 : BitVec 32 := Scalar.select v89 c11_i32_73 v88
  let v92 : BitVec 32 := Scalar.select v91 c15_i32_75 v90
  let v94 : BitVec 32 := Scalar.select v93 c12_i32_77 v92
  let v96 : BitVec 32 := Scalar.select v95 c8_i32_79 v94
  let v98 : BitVec 32 := Scalar.select v97 c4_i32_81 v96
  let c1_i32_960 : BitVec 32 := 1#32
  let v885 : BitVec 32 := Scalar.muli v98 c1_i32_960
  let v886 : BitVec 32 := Scalar.addi c0_i32_961 v885
  v886.toNat
def k0_dev27 (d0 : Dev nD) : Nat :=
  let c0_i32_986 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c_m1_i32 : BitVec 32 := 4294967295#32
  let v33 : BitVec 32 := Scalar.addi v32 c_m1_i32
  let c32_i32 : BitVec 32 := 32#32
  let v34 : BitVec 32 := Scalar.addi v33 c32_i32
  let c16_i32_16 : BitVec 32 := 16#32
  let v35 : BitVec 32 := Scalar.remsi v34 c16_i32_16
  let c15_i32_46 : BitVec 32 := 15#32
  let v64 : BitVec 1 := Scalar.cmpi .eq v35 c15_i32_46
  let c4_i32_47 : BitVec 32 := 4#32
  let c14_i32_44 : BitVec 32 := 14#32
  let v62 : BitVec 1 := Scalar.cmpi .eq v35 c14_i32_44
  let c8_i32_45 : BitVec 32 := 8#32
  let c13_i32_42 : BitVec 32 := 13#32
  let v60 : BitVec 1 := Scalar.cmpi .eq v35 c13_i32_42
  let c12_i32_43 : BitVec 32 := 12#32
  let c12_i32_40 : BitVec 32 := 12#32
  let v58 : BitVec 1 := Scalar.cmpi .eq v35 c12_i32_40
  let c15_i32_41 : BitVec 32 := 15#32
  let c11_i32_38 : BitVec 32 := 11#32
  let v56 : BitVec 1 := Scalar.cmpi .eq v35 c11_i32_38
  let c11_i32_39 : BitVec 32 := 11#32
  let c10_i32_36 : BitVec 32 := 10#32
  let v54 : BitVec 1 := Scalar.cmpi .eq v35 c10_i32_36
  let c7_i32_37 : BitVec 32 := 7#32
  let c9_i32_34 : BitVec 32 := 9#32
  let v52 : BitVec 1 := Scalar.cmpi .eq v35 c9_i32_34
  let c3_i32_35 : BitVec 32 := 3#32
  let c8_i32_32 : BitVec 32 := 8#32
  let v50 : BitVec 1 := Scalar.cmpi .eq v35 c8_i32_32
  let c2_i32_33 : BitVec 32 := 2#32
  let c7_i32_30 : BitVec 32 := 7#32
  let v48 : BitVec 1 := Scalar.cmpi .eq v35 c7_i32_30
  let c6_i32_31 : BitVec 32 := 6#32
  let c6_i32_28 : BitVec 32 := 6#32
  let v46 : BitVec 1 := Scalar.cmpi .eq v35 c6_i32_28
  let c10_i32_29 : BitVec 32 := 10#32
  let c5_i32_26 : BitVec 32 := 5#32
  let v44 : BitVec 1 := Scalar.cmpi .eq v35 c5_i32_26
  let c14_i32_27 : BitVec 32 := 14#32
  let c4_i32_24 : BitVec 32 := 4#32
  let v42 : BitVec 1 := Scalar.cmpi .eq v35 c4_i32_24
  let c13_i32_25 : BitVec 32 := 13#32
  let c3_i32_22 : BitVec 32 := 3#32
  let v40 : BitVec 1 := Scalar.cmpi .eq v35 c3_i32_22
  let c9_i32_23 : BitVec 32 := 9#32
  let c2_i32_20 : BitVec 32 := 2#32
  let v38 : BitVec 1 := Scalar.cmpi .eq v35 c2_i32_20
  let c5_i32_21 : BitVec 32 := 5#32
  let c1_i32_17 : BitVec 32 := 1#32
  let v36 : BitVec 1 := Scalar.cmpi .eq v35 c1_i32_17
  let c1_i32_18 : BitVec 32 := 1#32
  let c0_i32_19 : BitVec 32 := 0#32
  let v37 : BitVec 32 := Scalar.select v36 c1_i32_18 c0_i32_19
  let v39 : BitVec 32 := Scalar.select v38 c5_i32_21 v37
  let v41 : BitVec 32 := Scalar.select v40 c9_i32_23 v39
  let v43 : BitVec 32 := Scalar.select v42 c13_i32_25 v41
  let v45 : BitVec 32 := Scalar.select v44 c14_i32_27 v43
  let v47 : BitVec 32 := Scalar.select v46 c10_i32_29 v45
  let v49 : BitVec 32 := Scalar.select v48 c6_i32_31 v47
  let v51 : BitVec 32 := Scalar.select v50 c2_i32_33 v49
  let v53 : BitVec 32 := Scalar.select v52 c3_i32_35 v51
  let v55 : BitVec 32 := Scalar.select v54 c7_i32_37 v53
  let v57 : BitVec 32 := Scalar.select v56 c11_i32_39 v55
  let v59 : BitVec 32 := Scalar.select v58 c15_i32_41 v57
  let v61 : BitVec 32 := Scalar.select v60 c12_i32_43 v59
  let v63 : BitVec 32 := Scalar.select v62 c8_i32_45 v61
  let v65 : BitVec 32 := Scalar.select v64 c4_i32_47 v63
  let c1_i32_985 : BitVec 32 := 1#32
  let v903 : BitVec 32 := Scalar.muli v65 c1_i32_985
  let v904 : BitVec 32 := Scalar.addi c0_i32_986 v903
  v904.toNat
def k0_dev28 (d0 : Dev nD) : Nat :=
  let c0_i32_1011 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c_m1_i32 : BitVec 32 := 4294967295#32
  let v33 : BitVec 32 := Scalar.addi v32 c_m1_i32
  let c32_i32 : BitVec 32 := 32#32
  let v34 : BitVec 32 := Scalar.addi v33 c32_i32
  let c16_i32_16 : BitVec 32 := 16#32
  let v35 : BitVec 32 := Scalar.remsi v34 c16_i32_16
  let c15_i32_46 : BitVec 32 := 15#32
  let v64 : BitVec 1 := Scalar.cmpi .eq v35 c15_i32_46
  let c4_i32_47 : BitVec 32 := 4#32
  let c14_i32_44 : BitVec 32 := 14#32
  let v62 : BitVec 1 := Scalar.cmpi .eq v35 c14_i32_44
  let c8_i32_45 : BitVec 32 := 8#32
  let c13_i32_42 : BitVec 32 := 13#32
  let v60 : BitVec 1 := Scalar.cmpi .eq v35 c13_i32_42
  let c12_i32_43 : BitVec 32 := 12#32
  let c12_i32_40 : BitVec 32 := 12#32
  let v58 : BitVec 1 := Scalar.cmpi .eq v35 c12_i32_40
  let c15_i32_41 : BitVec 32 := 15#32
  let c11_i32_38 : BitVec 32 := 11#32
  let v56 : BitVec 1 := Scalar.cmpi .eq v35 c11_i32_38
  let c11_i32_39 : BitVec 32 := 11#32
  let c10_i32_36 : BitVec 32 := 10#32
  let v54 : BitVec 1 := Scalar.cmpi .eq v35 c10_i32_36
  let c7_i32_37 : BitVec 32 := 7#32
  let c9_i32_34 : BitVec 32 := 9#32
  let v52 : BitVec 1 := Scalar.cmpi .eq v35 c9_i32_34
  let c3_i32_35 : BitVec 32 := 3#32
  let c8_i32_32 : BitVec 32 := 8#32
  let v50 : BitVec 1 := Scalar.cmpi .eq v35 c8_i32_32
  let c2_i32_33 : BitVec 32 := 2#32
  let c7_i32_30 : BitVec 32 := 7#32
  let v48 : BitVec 1 := Scalar.cmpi .eq v35 c7_i32_30
  let c6_i32_31 : BitVec 32 := 6#32
  let c6_i32_28 : BitVec 32 := 6#32
  let v46 : BitVec 1 := Scalar.cmpi .eq v35 c6_i32_28
  let c10_i32_29 : BitVec 32 := 10#32
  let c5_i32_26 : BitVec 32 := 5#32
  let v44 : BitVec 1 := Scalar.cmpi .eq v35 c5_i32_26
  let c14_i32_27 : BitVec 32 := 14#32
  let c4_i32_24 : BitVec 32 := 4#32
  let v42 : BitVec 1 := Scalar.cmpi .eq v35 c4_i32_24
  let c13_i32_25 : BitVec 32 := 13#32
  let c3_i32_22 : BitVec 32 := 3#32
  let v40 : BitVec 1 := Scalar.cmpi .eq v35 c3_i32_22
  let c9_i32_23 : BitVec 32 := 9#32
  let c2_i32_20 : BitVec 32 := 2#32
  let v38 : BitVec 1 := Scalar.cmpi .eq v35 c2_i32_20
  let c5_i32_21 : BitVec 32 := 5#32
  let c1_i32_17 : BitVec 32 := 1#32
  let v36 : BitVec 1 := Scalar.cmpi .eq v35 c1_i32_17
  let c1_i32_18 : BitVec 32 := 1#32
  let c0_i32_19 : BitVec 32 := 0#32
  let v37 : BitVec 32 := Scalar.select v36 c1_i32_18 c0_i32_19
  let v39 : BitVec 32 := Scalar.select v38 c5_i32_21 v37
  let v41 : BitVec 32 := Scalar.select v40 c9_i32_23 v39
  let v43 : BitVec 32 := Scalar.select v42 c13_i32_25 v41
  let v45 : BitVec 32 := Scalar.select v44 c14_i32_27 v43
  let v47 : BitVec 32 := Scalar.select v46 c10_i32_29 v45
  let v49 : BitVec 32 := Scalar.select v48 c6_i32_31 v47
  let v51 : BitVec 32 := Scalar.select v50 c2_i32_33 v49
  let v53 : BitVec 32 := Scalar.select v52 c3_i32_35 v51
  let v55 : BitVec 32 := Scalar.select v54 c7_i32_37 v53
  let v57 : BitVec 32 := Scalar.select v56 c11_i32_39 v55
  let v59 : BitVec 32 := Scalar.select v58 c15_i32_41 v57
  let v61 : BitVec 32 := Scalar.select v60 c12_i32_43 v59
  let v63 : BitVec 32 := Scalar.select v62 c8_i32_45 v61
  let v65 : BitVec 32 := Scalar.select v64 c4_i32_47 v63
  let c1_i32_1010 : BitVec 32 := 1#32
  let v921 : BitVec 32 := Scalar.muli v65 c1_i32_1010
  let v922 : BitVec 32 := Scalar.addi c0_i32_1011 v921
  v922.toNat
def k0_dev29 (d0 : Dev nD) : Nat :=
  let c0_i32_1036 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c_m1_i32 : BitVec 32 := 4294967295#32
  let v33 : BitVec 32 := Scalar.addi v32 c_m1_i32
  let c32_i32 : BitVec 32 := 32#32
  let v34 : BitVec 32 := Scalar.addi v33 c32_i32
  let c16_i32_16 : BitVec 32 := 16#32
  let v35 : BitVec 32 := Scalar.remsi v34 c16_i32_16
  let c15_i32_46 : BitVec 32 := 15#32
  let v64 : BitVec 1 := Scalar.cmpi .eq v35 c15_i32_46
  let c4_i32_47 : BitVec 32 := 4#32
  let c14_i32_44 : BitVec 32 := 14#32
  let v62 : BitVec 1 := Scalar.cmpi .eq v35 c14_i32_44
  let c8_i32_45 : BitVec 32 := 8#32
  let c13_i32_42 : BitVec 32 := 13#32
  let v60 : BitVec 1 := Scalar.cmpi .eq v35 c13_i32_42
  let c12_i32_43 : BitVec 32 := 12#32
  let c12_i32_40 : BitVec 32 := 12#32
  let v58 : BitVec 1 := Scalar.cmpi .eq v35 c12_i32_40
  let c15_i32_41 : BitVec 32 := 15#32
  let c11_i32_38 : BitVec 32 := 11#32
  let v56 : BitVec 1 := Scalar.cmpi .eq v35 c11_i32_38
  let c11_i32_39 : BitVec 32 := 11#32
  let c10_i32_36 : BitVec 32 := 10#32
  let v54 : BitVec 1 := Scalar.cmpi .eq v35 c10_i32_36
  let c7_i32_37 : BitVec 32 := 7#32
  let c9_i32_34 : BitVec 32 := 9#32
  let v52 : BitVec 1 := Scalar.cmpi .eq v35 c9_i32_34
  let c3_i32_35 : BitVec 32 := 3#32
  let c8_i32_32 : BitVec 32 := 8#32
  let v50 : BitVec 1 := Scalar.cmpi .eq v35 c8_i32_32
  let c2_i32_33 : BitVec 32 := 2#32
  let c7_i32_30 : BitVec 32 := 7#32
  let v48 : BitVec 1 := Scalar.cmpi .eq v35 c7_i32_30
  let c6_i32_31 : BitVec 32 := 6#32
  let c6_i32_28 : BitVec 32 := 6#32
  let v46 : BitVec 1 := Scalar.cmpi .eq v35 c6_i32_28
  let c10_i32_29 : BitVec 32 := 10#32
  let c5_i32_26 : BitVec 32 := 5#32
  let v44 : BitVec 1 := Scalar.cmpi .eq v35 c5_i32_26
  let c14_i32_27 : BitVec 32 := 14#32
  let c4_i32_24 : BitVec 32 := 4#32
  let v42 : BitVec 1 := Scalar.cmpi .eq v35 c4_i32_24
  let c13_i32_25 : BitVec 32 := 13#32
  let c3_i32_22 : BitVec 32 := 3#32
  let v40 : BitVec 1 := Scalar.cmpi .eq v35 c3_i32_22
  let c9_i32_23 : BitVec 32 := 9#32
  let c2_i32_20 : BitVec 32 := 2#32
  let v38 : BitVec 1 := Scalar.cmpi .eq v35 c2_i32_20
  let c5_i32_21 : BitVec 32 := 5#32
  let c1_i32_17 : BitVec 32 := 1#32
  let v36 : BitVec 1 := Scalar.cmpi .eq v35 c1_i32_17
  let c1_i32_18 : BitVec 32 := 1#32
  let c0_i32_19 : BitVec 32 := 0#32
  let v37 : BitVec 32 := Scalar.select v36 c1_i32_18 c0_i32_19
  let v39 : BitVec 32 := Scalar.select v38 c5_i32_21 v37
  let v41 : BitVec 32 := Scalar.select v40 c9_i32_23 v39
  let v43 : BitVec 32 := Scalar.select v42 c13_i32_25 v41
  let v45 : BitVec 32 := Scalar.select v44 c14_i32_27 v43
  let v47 : BitVec 32 := Scalar.select v46 c10_i32_29 v45
  let v49 : BitVec 32 := Scalar.select v48 c6_i32_31 v47
  let v51 : BitVec 32 := Scalar.select v50 c2_i32_33 v49
  let v53 : BitVec 32 := Scalar.select v52 c3_i32_35 v51
  let v55 : BitVec 32 := Scalar.select v54 c7_i32_37 v53
  let v57 : BitVec 32 := Scalar.select v56 c11_i32_39 v55
  let v59 : BitVec 32 := Scalar.select v58 c15_i32_41 v57
  let v61 : BitVec 32 := Scalar.select v60 c12_i32_43 v59
  let v63 : BitVec 32 := Scalar.select v62 c8_i32_45 v61
  let v65 : BitVec 32 := Scalar.select v64 c4_i32_47 v63
  let c1_i32_1035 : BitVec 32 := 1#32
  let v939 : BitVec 32 := Scalar.muli v65 c1_i32_1035
  let v940 : BitVec 32 := Scalar.addi c0_i32_1036 v939
  v940.toNat
def k0_dev30 (d0 : Dev nD) : Nat :=
  let c0_i32_1061 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c_m1_i32 : BitVec 32 := 4294967295#32
  let v33 : BitVec 32 := Scalar.addi v32 c_m1_i32
  let c32_i32 : BitVec 32 := 32#32
  let v34 : BitVec 32 := Scalar.addi v33 c32_i32
  let c16_i32_16 : BitVec 32 := 16#32
  let v35 : BitVec 32 := Scalar.remsi v34 c16_i32_16
  let c15_i32_46 : BitVec 32 := 15#32
  let v64 : BitVec 1 := Scalar.cmpi .eq v35 c15_i32_46
  let c4_i32_47 : BitVec 32 := 4#32
  let c14_i32_44 : BitVec 32 := 14#32
  let v62 : BitVec 1 := Scalar.cmpi .eq v35 c14_i32_44
  let c8_i32_45 : BitVec 32 := 8#32
  let c13_i32_42 : BitVec 32 := 13#32
  let v60 : BitVec 1 := Scalar.cmpi .eq v35 c13_i32_42
  let c12_i32_43 : BitVec 32 := 12#32
  let c12_i32_40 : BitVec 32 := 12#32
  let v58 : BitVec 1 := Scalar.cmpi .eq v35 c12_i32_40
  let c15_i32_41 : BitVec 32 := 15#32
  let c11_i32_38 : BitVec 32 := 11#32
  let v56 : BitVec 1 := Scalar.cmpi .eq v35 c11_i32_38
  let c11_i32_39 : BitVec 32 := 11#32
  let c10_i32_36 : BitVec 32 := 10#32
  let v54 : BitVec 1 := Scalar.cmpi .eq v35 c10_i32_36
  let c7_i32_37 : BitVec 32 := 7#32
  let c9_i32_34 : BitVec 32 := 9#32
  let v52 : BitVec 1 := Scalar.cmpi .eq v35 c9_i32_34
  let c3_i32_35 : BitVec 32 := 3#32
  let c8_i32_32 : BitVec 32 := 8#32
  let v50 : BitVec 1 := Scalar.cmpi .eq v35 c8_i32_32
  let c2_i32_33 : BitVec 32 := 2#32
  let c7_i32_30 : BitVec 32 := 7#32
  let v48 : BitVec 1 := Scalar.cmpi .eq v35 c7_i32_30
  let c6_i32_31 : BitVec 32 := 6#32
  let c6_i32_28 : BitVec 32 := 6#32
  let v46 : BitVec 1 := Scalar.cmpi .eq v35 c6_i32_28
  let c10_i32_29 : BitVec 32 := 10#32
  let c5_i32_26 : BitVec 32 := 5#32
  let v44 : BitVec 1 := Scalar.cmpi .eq v35 c5_i32_26
  let c14_i32_27 : BitVec 32 := 14#32
  let c4_i32_24 : BitVec 32 := 4#32
  let v42 : BitVec 1 := Scalar.cmpi .eq v35 c4_i32_24
  let c13_i32_25 : BitVec 32 := 13#32
  let c3_i32_22 : BitVec 32 := 3#32
  let v40 : BitVec 1 := Scalar.cmpi .eq v35 c3_i32_22
  let c9_i32_23 : BitVec 32 := 9#32
  let c2_i32_20 : BitVec 32 := 2#32
  let v38 : BitVec 1 := Scalar.cmpi .eq v35 c2_i32_20
  let c5_i32_21 : BitVec 32 := 5#32
  let c1_i32_17 : BitVec 32 := 1#32
  let v36 : BitVec 1 := Scalar.cmpi .eq v35 c1_i32_17
  let c1_i32_18 : BitVec 32 := 1#32
  let c0_i32_19 : BitVec 32 := 0#32
  let v37 : BitVec 32 := Scalar.select v36 c1_i32_18 c0_i32_19
  let v39 : BitVec 32 := Scalar.select v38 c5_i32_21 v37
  let v41 : BitVec 32 := Scalar.select v40 c9_i32_23 v39
  let v43 : BitVec 32 := Scalar.select v42 c13_i32_25 v41
  let v45 : BitVec 32 := Scalar.select v44 c14_i32_27 v43
  let v47 : BitVec 32 := Scalar.select v46 c10_i32_29 v45
  let v49 : BitVec 32 := Scalar.select v48 c6_i32_31 v47
  let v51 : BitVec 32 := Scalar.select v50 c2_i32_33 v49
  let v53 : BitVec 32 := Scalar.select v52 c3_i32_35 v51
  let v55 : BitVec 32 := Scalar.select v54 c7_i32_37 v53
  let v57 : BitVec 32 := Scalar.select v56 c11_i32_39 v55
  let v59 : BitVec 32 := Scalar.select v58 c15_i32_41 v57
  let v61 : BitVec 32 := Scalar.select v60 c12_i32_43 v59
  let v63 : BitVec 32 := Scalar.select v62 c8_i32_45 v61
  let v65 : BitVec 32 := Scalar.select v64 c4_i32_47 v63
  let c1_i32_1060 : BitVec 32 := 1#32
  let v957 : BitVec 32 := Scalar.muli v65 c1_i32_1060
  let v958 : BitVec 32 := Scalar.addi c0_i32_1061 v957
  v958.toNat
def k0_dev31 (d0 : Dev nD) : Nat :=
  let c0_i32_1086 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c_m1_i32 : BitVec 32 := 4294967295#32
  let v33 : BitVec 32 := Scalar.addi v32 c_m1_i32
  let c32_i32 : BitVec 32 := 32#32
  let v34 : BitVec 32 := Scalar.addi v33 c32_i32
  let c16_i32_16 : BitVec 32 := 16#32
  let v35 : BitVec 32 := Scalar.remsi v34 c16_i32_16
  let c15_i32_46 : BitVec 32 := 15#32
  let v64 : BitVec 1 := Scalar.cmpi .eq v35 c15_i32_46
  let c4_i32_47 : BitVec 32 := 4#32
  let c14_i32_44 : BitVec 32 := 14#32
  let v62 : BitVec 1 := Scalar.cmpi .eq v35 c14_i32_44
  let c8_i32_45 : BitVec 32 := 8#32
  let c13_i32_42 : BitVec 32 := 13#32
  let v60 : BitVec 1 := Scalar.cmpi .eq v35 c13_i32_42
  let c12_i32_43 : BitVec 32 := 12#32
  let c12_i32_40 : BitVec 32 := 12#32
  let v58 : BitVec 1 := Scalar.cmpi .eq v35 c12_i32_40
  let c15_i32_41 : BitVec 32 := 15#32
  let c11_i32_38 : BitVec 32 := 11#32
  let v56 : BitVec 1 := Scalar.cmpi .eq v35 c11_i32_38
  let c11_i32_39 : BitVec 32 := 11#32
  let c10_i32_36 : BitVec 32 := 10#32
  let v54 : BitVec 1 := Scalar.cmpi .eq v35 c10_i32_36
  let c7_i32_37 : BitVec 32 := 7#32
  let c9_i32_34 : BitVec 32 := 9#32
  let v52 : BitVec 1 := Scalar.cmpi .eq v35 c9_i32_34
  let c3_i32_35 : BitVec 32 := 3#32
  let c8_i32_32 : BitVec 32 := 8#32
  let v50 : BitVec 1 := Scalar.cmpi .eq v35 c8_i32_32
  let c2_i32_33 : BitVec 32 := 2#32
  let c7_i32_30 : BitVec 32 := 7#32
  let v48 : BitVec 1 := Scalar.cmpi .eq v35 c7_i32_30
  let c6_i32_31 : BitVec 32 := 6#32
  let c6_i32_28 : BitVec 32 := 6#32
  let v46 : BitVec 1 := Scalar.cmpi .eq v35 c6_i32_28
  let c10_i32_29 : BitVec 32 := 10#32
  let c5_i32_26 : BitVec 32 := 5#32
  let v44 : BitVec 1 := Scalar.cmpi .eq v35 c5_i32_26
  let c14_i32_27 : BitVec 32 := 14#32
  let c4_i32_24 : BitVec 32 := 4#32
  let v42 : BitVec 1 := Scalar.cmpi .eq v35 c4_i32_24
  let c13_i32_25 : BitVec 32 := 13#32
  let c3_i32_22 : BitVec 32 := 3#32
  let v40 : BitVec 1 := Scalar.cmpi .eq v35 c3_i32_22
  let c9_i32_23 : BitVec 32 := 9#32
  let c2_i32_20 : BitVec 32 := 2#32
  let v38 : BitVec 1 := Scalar.cmpi .eq v35 c2_i32_20
  let c5_i32_21 : BitVec 32 := 5#32
  let c1_i32_17 : BitVec 32 := 1#32
  let v36 : BitVec 1 := Scalar.cmpi .eq v35 c1_i32_17
  let c1_i32_18 : BitVec 32 := 1#32
  let c0_i32_19 : BitVec 32 := 0#32
  let v37 : BitVec 32 := Scalar.select v36 c1_i32_18 c0_i32_19
  let v39 : BitVec 32 := Scalar.select v38 c5_i32_21 v37
  let v41 : BitVec 32 := Scalar.select v40 c9_i32_23 v39
  let v43 : BitVec 32 := Scalar.select v42 c13_i32_25 v41
  let v45 : BitVec 32 := Scalar.select v44 c14_i32_27 v43
  let v47 : BitVec 32 := Scalar.select v46 c10_i32_29 v45
  let v49 : BitVec 32 := Scalar.select v48 c6_i32_31 v47
  let v51 : BitVec 32 := Scalar.select v50 c2_i32_33 v49
  let v53 : BitVec 32 := Scalar.select v52 c3_i32_35 v51
  let v55 : BitVec 32 := Scalar.select v54 c7_i32_37 v53
  let v57 : BitVec 32 := Scalar.select v56 c11_i32_39 v55
  let v59 : BitVec 32 := Scalar.select v58 c15_i32_41 v57
  let v61 : BitVec 32 := Scalar.select v60 c12_i32_43 v59
  let v63 : BitVec 32 := Scalar.select v62 c8_i32_45 v61
  let v65 : BitVec 32 := Scalar.select v64 c4_i32_47 v63
  let c1_i32_1085 : BitVec 32 := 1#32
  let v975 : BitVec 32 := Scalar.muli v65 c1_i32_1085
  let v976 : BitVec 32 := Scalar.addi c0_i32_1086 v975
  v976.toNat
def k0_dev32 (d0 : Dev nD) : Nat :=
  let c0_i32_1111 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c_m1_i32 : BitVec 32 := 4294967295#32
  let v33 : BitVec 32 := Scalar.addi v32 c_m1_i32
  let c32_i32 : BitVec 32 := 32#32
  let v34 : BitVec 32 := Scalar.addi v33 c32_i32
  let c16_i32_16 : BitVec 32 := 16#32
  let v35 : BitVec 32 := Scalar.remsi v34 c16_i32_16
  let c15_i32_46 : BitVec 32 := 15#32
  let v64 : BitVec 1 := Scalar.cmpi .eq v35 c15_i32_46
  let c4_i32_47 : BitVec 32 := 4#32
  let c14_i32_44 : BitVec 32 := 14#32
  let v62 : BitVec 1 := Scalar.cmpi .eq v35 c14_i32_44
  let c8_i32_45 : BitVec 32 := 8#32
  let c13_i32_42 : BitVec 32 := 13#32
  let v60 : BitVec 1 := Scalar.cmpi .eq v35 c13_i32_42
  let c12_i32_43 : BitVec 32 := 12#32
  let c12_i32_40 : BitVec 32 := 12#32
  let v58 : BitVec 1 := Scalar.cmpi .eq v35 c12_i32_40
  let c15_i32_41 : BitVec 32 := 15#32
  let c11_i32_38 : BitVec 32 := 11#32
  let v56 : BitVec 1 := Scalar.cmpi .eq v35 c11_i32_38
  let c11_i32_39 : BitVec 32 := 11#32
  let c10_i32_36 : BitVec 32 := 10#32
  let v54 : BitVec 1 := Scalar.cmpi .eq v35 c10_i32_36
  let c7_i32_37 : BitVec 32 := 7#32
  let c9_i32_34 : BitVec 32 := 9#32
  let v52 : BitVec 1 := Scalar.cmpi .eq v35 c9_i32_34
  let c3_i32_35 : BitVec 32 := 3#32
  let c8_i32_32 : BitVec 32 := 8#32
  let v50 : BitVec 1 := Scalar.cmpi .eq v35 c8_i32_32
  let c2_i32_33 : BitVec 32 := 2#32
  let c7_i32_30 : BitVec 32 := 7#32
  let v48 : BitVec 1 := Scalar.cmpi .eq v35 c7_i32_30
  let c6_i32_31 : BitVec 32 := 6#32
  let c6_i32_28 : BitVec 32 := 6#32
  let v46 : BitVec 1 := Scalar.cmpi .eq v35 c6_i32_28
  let c10_i32_29 : BitVec 32 := 10#32
  let c5_i32_26 : BitVec 32 := 5#32
  let v44 : BitVec 1 := Scalar.cmpi .eq v35 c5_i32_26
  let c14_i32_27 : BitVec 32 := 14#32
  let c4_i32_24 : BitVec 32 := 4#32
  let v42 : BitVec 1 := Scalar.cmpi .eq v35 c4_i32_24
  let c13_i32_25 : BitVec 32 := 13#32
  let c3_i32_22 : BitVec 32 := 3#32
  let v40 : BitVec 1 := Scalar.cmpi .eq v35 c3_i32_22
  let c9_i32_23 : BitVec 32 := 9#32
  let c2_i32_20 : BitVec 32 := 2#32
  let v38 : BitVec 1 := Scalar.cmpi .eq v35 c2_i32_20
  let c5_i32_21 : BitVec 32 := 5#32
  let c1_i32_17 : BitVec 32 := 1#32
  let v36 : BitVec 1 := Scalar.cmpi .eq v35 c1_i32_17
  let c1_i32_18 : BitVec 32 := 1#32
  let c0_i32_19 : BitVec 32 := 0#32
  let v37 : BitVec 32 := Scalar.select v36 c1_i32_18 c0_i32_19
  let v39 : BitVec 32 := Scalar.select v38 c5_i32_21 v37
  let v41 : BitVec 32 := Scalar.select v40 c9_i32_23 v39
  let v43 : BitVec 32 := Scalar.select v42 c13_i32_25 v41
  let v45 : BitVec 32 := Scalar.select v44 c14_i32_27 v43
  let v47 : BitVec 32 := Scalar.select v46 c10_i32_29 v45
  let v49 : BitVec 32 := Scalar.select v48 c6_i32_31 v47
  let v51 : BitVec 32 := Scalar.select v50 c2_i32_33 v49
  let v53 : BitVec 32 := Scalar.select v52 c3_i32_35 v51
  let v55 : BitVec 32 := Scalar.select v54 c7_i32_37 v53
  let v57 : BitVec 32 := Scalar.select v56 c11_i32_39 v55
  let v59 : BitVec 32 := Scalar.select v58 c15_i32_41 v57
  let v61 : BitVec 32 := Scalar.select v60 c12_i32_43 v59
  let v63 : BitVec 32 := Scalar.select v62 c8_i32_45 v61
  let v65 : BitVec 32 := Scalar.select v64 c4_i32_47 v63
  let c1_i32_1110 : BitVec 32 := 1#32
  let v993 : BitVec 32 := Scalar.muli v65 c1_i32_1110
  let v994 : BitVec 32 := Scalar.addi c0_i32_1111 v993
  v994.toNat
def k0_dev33 (d0 : Dev nD) : Nat :=
  let c0_i32_1136 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c_m1_i32 : BitVec 32 := 4294967295#32
  let v33 : BitVec 32 := Scalar.addi v32 c_m1_i32
  let c32_i32 : BitVec 32 := 32#32
  let v34 : BitVec 32 := Scalar.addi v33 c32_i32
  let c16_i32_16 : BitVec 32 := 16#32
  let v35 : BitVec 32 := Scalar.remsi v34 c16_i32_16
  let c15_i32_46 : BitVec 32 := 15#32
  let v64 : BitVec 1 := Scalar.cmpi .eq v35 c15_i32_46
  let c4_i32_47 : BitVec 32 := 4#32
  let c14_i32_44 : BitVec 32 := 14#32
  let v62 : BitVec 1 := Scalar.cmpi .eq v35 c14_i32_44
  let c8_i32_45 : BitVec 32 := 8#32
  let c13_i32_42 : BitVec 32 := 13#32
  let v60 : BitVec 1 := Scalar.cmpi .eq v35 c13_i32_42
  let c12_i32_43 : BitVec 32 := 12#32
  let c12_i32_40 : BitVec 32 := 12#32
  let v58 : BitVec 1 := Scalar.cmpi .eq v35 c12_i32_40
  let c15_i32_41 : BitVec 32 := 15#32
  let c11_i32_38 : BitVec 32 := 11#32
  let v56 : BitVec 1 := Scalar.cmpi .eq v35 c11_i32_38
  let c11_i32_39 : BitVec 32 := 11#32
  let c10_i32_36 : BitVec 32 := 10#32
  let v54 : BitVec 1 := Scalar.cmpi .eq v35 c10_i32_36
  let c7_i32_37 : BitVec 32 := 7#32
  let c9_i32_34 : BitVec 32 := 9#32
  let v52 : BitVec 1 := Scalar.cmpi .eq v35 c9_i32_34
  let c3_i32_35 : BitVec 32 := 3#32
  let c8_i32_32 : BitVec 32 := 8#32
  let v50 : BitVec 1 := Scalar.cmpi .eq v35 c8_i32_32
  let c2_i32_33 : BitVec 32 := 2#32
  let c7_i32_30 : BitVec 32 := 7#32
  let v48 : BitVec 1 := Scalar.cmpi .eq v35 c7_i32_30
  let c6_i32_31 : BitVec 32 := 6#32
  let c6_i32_28 : BitVec 32 := 6#32
  let v46 : BitVec 1 := Scalar.cmpi .eq v35 c6_i32_28
  let c10_i32_29 : BitVec 32 := 10#32
  let c5_i32_26 : BitVec 32 := 5#32
  let v44 : BitVec 1 := Scalar.cmpi .eq v35 c5_i32_26
  let c14_i32_27 : BitVec 32 := 14#32
  let c4_i32_24 : BitVec 32 := 4#32
  let v42 : BitVec 1 := Scalar.cmpi .eq v35 c4_i32_24
  let c13_i32_25 : BitVec 32 := 13#32
  let c3_i32_22 : BitVec 32 := 3#32
  let v40 : BitVec 1 := Scalar.cmpi .eq v35 c3_i32_22
  let c9_i32_23 : BitVec 32 := 9#32
  let c2_i32_20 : BitVec 32 := 2#32
  let v38 : BitVec 1 := Scalar.cmpi .eq v35 c2_i32_20
  let c5_i32_21 : BitVec 32 := 5#32
  let c1_i32_17 : BitVec 32 := 1#32
  let v36 : BitVec 1 := Scalar.cmpi .eq v35 c1_i32_17
  let c1_i32_18 : BitVec 32 := 1#32
  let c0_i32_19 : BitVec 32 := 0#32
  let v37 : BitVec 32 := Scalar.select v36 c1_i32_18 c0_i32_19
  let v39 : BitVec 32 := Scalar.select v38 c5_i32_21 v37
  let v41 : BitVec 32 := Scalar.select v40 c9_i32_23 v39
  let v43 : BitVec 32 := Scalar.select v42 c13_i32_25 v41
  let v45 : BitVec 32 := Scalar.select v44 c14_i32_27 v43
  let v47 : BitVec 32 := Scalar.select v46 c10_i32_29 v45
  let v49 : BitVec 32 := Scalar.select v48 c6_i32_31 v47
  let v51 : BitVec 32 := Scalar.select v50 c2_i32_33 v49
  let v53 : BitVec 32 := Scalar.select v52 c3_i32_35 v51
  let v55 : BitVec 32 := Scalar.select v54 c7_i32_37 v53
  let v57 : BitVec 32 := Scalar.select v56 c11_i32_39 v55
  let v59 : BitVec 32 := Scalar.select v58 c15_i32_41 v57
  let v61 : BitVec 32 := Scalar.select v60 c12_i32_43 v59
  let v63 : BitVec 32 := Scalar.select v62 c8_i32_45 v61
  let v65 : BitVec 32 := Scalar.select v64 c4_i32_47 v63
  let c1_i32_1135 : BitVec 32 := 1#32
  let v1011 : BitVec 32 := Scalar.muli v65 c1_i32_1135
  let v1012 : BitVec 32 := Scalar.addi c0_i32_1136 v1011
  v1012.toNat
def k0_dev34 (d0 : Dev nD) : Nat :=
  let c0_i32_1161 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c_m1_i32 : BitVec 32 := 4294967295#32
  let v33 : BitVec 32 := Scalar.addi v32 c_m1_i32
  let c32_i32 : BitVec 32 := 32#32
  let v34 : BitVec 32 := Scalar.addi v33 c32_i32
  let c16_i32_16 : BitVec 32 := 16#32
  let v35 : BitVec 32 := Scalar.remsi v34 c16_i32_16
  let c15_i32_46 : BitVec 32 := 15#32
  let v64 : BitVec 1 := Scalar.cmpi .eq v35 c15_i32_46
  let c4_i32_47 : BitVec 32 := 4#32
  let c14_i32_44 : BitVec 32 := 14#32
  let v62 : BitVec 1 := Scalar.cmpi .eq v35 c14_i32_44
  let c8_i32_45 : BitVec 32 := 8#32
  let c13_i32_42 : BitVec 32 := 13#32
  let v60 : BitVec 1 := Scalar.cmpi .eq v35 c13_i32_42
  let c12_i32_43 : BitVec 32 := 12#32
  let c12_i32_40 : BitVec 32 := 12#32
  let v58 : BitVec 1 := Scalar.cmpi .eq v35 c12_i32_40
  let c15_i32_41 : BitVec 32 := 15#32
  let c11_i32_38 : BitVec 32 := 11#32
  let v56 : BitVec 1 := Scalar.cmpi .eq v35 c11_i32_38
  let c11_i32_39 : BitVec 32 := 11#32
  let c10_i32_36 : BitVec 32 := 10#32
  let v54 : BitVec 1 := Scalar.cmpi .eq v35 c10_i32_36
  let c7_i32_37 : BitVec 32 := 7#32
  let c9_i32_34 : BitVec 32 := 9#32
  let v52 : BitVec 1 := Scalar.cmpi .eq v35 c9_i32_34
  let c3_i32_35 : BitVec 32 := 3#32
  let c8_i32_32 : BitVec 32 := 8#32
  let v50 : BitVec 1 := Scalar.cmpi .eq v35 c8_i32_32
  let c2_i32_33 : BitVec 32 := 2#32
  let c7_i32_30 : BitVec 32 := 7#32
  let v48 : BitVec 1 := Scalar.cmpi .eq v35 c7_i32_30
  let c6_i32_31 : BitVec 32 := 6#32
  let c6_i32_28 : BitVec 32 := 6#32
  let v46 : BitVec 1 := Scalar.cmpi .eq v35 c6_i32_28
  let c10_i32_29 : BitVec 32 := 10#32
  let c5_i32_26 : BitVec 32 := 5#32
  let v44 : BitVec 1 := Scalar.cmpi .eq v35 c5_i32_26
  let c14_i32_27 : BitVec 32 := 14#32
  let c4_i32_24 : BitVec 32 := 4#32
  let v42 : BitVec 1 := Scalar.cmpi .eq v35 c4_i32_24
  let c13_i32_25 : BitVec 32 := 13#32
  let c3_i32_22 : BitVec 32 := 3#32
  let v40 : BitVec 1 := Scalar.cmpi .eq v35 c3_i32_22
  let c9_i32_23 : BitVec 32 := 9#32
  let c2_i32_20 : BitVec 32 := 2#32
  let v38 : BitVec 1 := Scalar.cmpi .eq v35 c2_i32_20
  let c5_i32_21 : BitVec 32 := 5#32
  let c1_i32_17 : BitVec 32 := 1#32
  let v36 : BitVec 1 := Scalar.cmpi .eq v35 c1_i32_17
  let c1_i32_18 : BitVec 32 := 1#32
  let c0_i32_19 : BitVec 32 := 0#32
  let v37 : BitVec 32 := Scalar.select v36 c1_i32_18 c0_i32_19
  let v39 : BitVec 32 := Scalar.select v38 c5_i32_21 v37
  let v41 : BitVec 32 := Scalar.select v40 c9_i32_23 v39
  let v43 : BitVec 32 := Scalar.select v42 c13_i32_25 v41
  let v45 : BitVec 32 := Scalar.select v44 c14_i32_27 v43
  let v47 : BitVec 32 := Scalar.select v46 c10_i32_29 v45
  let v49 : BitVec 32 := Scalar.select v48 c6_i32_31 v47
  let v51 : BitVec 32 := Scalar.select v50 c2_i32_33 v49
  let v53 : BitVec 32 := Scalar.select v52 c3_i32_35 v51
  let v55 : BitVec 32 := Scalar.select v54 c7_i32_37 v53
  let v57 : BitVec 32 := Scalar.select v56 c11_i32_39 v55
  let v59 : BitVec 32 := Scalar.select v58 c15_i32_41 v57
  let v61 : BitVec 32 := Scalar.select v60 c12_i32_43 v59
  let v63 : BitVec 32 := Scalar.select v62 c8_i32_45 v61
  let v65 : BitVec 32 := Scalar.select v64 c4_i32_47 v63
  let c1_i32_1160 : BitVec 32 := 1#32
  let v1029 : BitVec 32 := Scalar.muli v65 c1_i32_1160
  let v1030 : BitVec 32 := Scalar.addi c0_i32_1161 v1029
  v1030.toNat
def k0_off2 (d0 : Dev nD) (c_m1_i32_82 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let v99 : BitVec 32 := Scalar.addi v32 c_m1_i32_82
  let c32_i32_83 : BitVec 32 := 32#32
  let v100 : BitVec 32 := Scalar.addi v99 c32_i32_83
  let c16_i32_84 : BitVec 32 := 16#32
  let v101 : BitVec 32 := Scalar.remsi v100 c16_i32_84
  let c15_i32_114 : BitVec 32 := 15#32
  let v130 : BitVec 1 := Scalar.cmpi .eq v101 c15_i32_114
  let c4_i32_115 : BitVec 32 := 4#32
  let c14_i32_112 : BitVec 32 := 14#32
  let v128 : BitVec 1 := Scalar.cmpi .eq v101 c14_i32_112
  let c8_i32_113 : BitVec 32 := 8#32
  let c13_i32_110 : BitVec 32 := 13#32
  let v126 : BitVec 1 := Scalar.cmpi .eq v101 c13_i32_110
  let c12_i32_111 : BitVec 32 := 12#32
  let c12_i32_108 : BitVec 32 := 12#32
  let v124 : BitVec 1 := Scalar.cmpi .eq v101 c12_i32_108
  let c15_i32_109 : BitVec 32 := 15#32
  let c11_i32_106 : BitVec 32 := 11#32
  let v122 : BitVec 1 := Scalar.cmpi .eq v101 c11_i32_106
  let c11_i32_107 : BitVec 32 := 11#32
  let c10_i32_104 : BitVec 32 := 10#32
  let v120 : BitVec 1 := Scalar.cmpi .eq v101 c10_i32_104
  let c7_i32_105 : BitVec 32 := 7#32
  let c9_i32_102 : BitVec 32 := 9#32
  let v118 : BitVec 1 := Scalar.cmpi .eq v101 c9_i32_102
  let c3_i32_103 : BitVec 32 := 3#32
  let c8_i32_100 : BitVec 32 := 8#32
  let v116 : BitVec 1 := Scalar.cmpi .eq v101 c8_i32_100
  let c2_i32_101 : BitVec 32 := 2#32
  let c7_i32_98 : BitVec 32 := 7#32
  let v114 : BitVec 1 := Scalar.cmpi .eq v101 c7_i32_98
  let c6_i32_99 : BitVec 32 := 6#32
  let c6_i32_96 : BitVec 32 := 6#32
  let v112 : BitVec 1 := Scalar.cmpi .eq v101 c6_i32_96
  let c10_i32_97 : BitVec 32 := 10#32
  let c5_i32_94 : BitVec 32 := 5#32
  let v110 : BitVec 1 := Scalar.cmpi .eq v101 c5_i32_94
  let c14_i32_95 : BitVec 32 := 14#32
  let c4_i32_92 : BitVec 32 := 4#32
  let v108 : BitVec 1 := Scalar.cmpi .eq v101 c4_i32_92
  let c13_i32_93 : BitVec 32 := 13#32
  let c3_i32_90 : BitVec 32 := 3#32
  let v106 : BitVec 1 := Scalar.cmpi .eq v101 c3_i32_90
  let c9_i32_91 : BitVec 32 := 9#32
  let c2_i32_88 : BitVec 32 := 2#32
  let v104 : BitVec 1 := Scalar.cmpi .eq v101 c2_i32_88
  let c5_i32_89 : BitVec 32 := 5#32
  let c1_i32_85 : BitVec 32 := 1#32
  let v102 : BitVec 1 := Scalar.cmpi .eq v101 c1_i32_85
  let c1_i32_86 : BitVec 32 := 1#32
  let c0_i32_87 : BitVec 32 := 0#32
  let v103 : BitVec 32 := Scalar.select v102 c1_i32_86 c0_i32_87
  let v105 : BitVec 32 := Scalar.select v104 c5_i32_89 v103
  let v107 : BitVec 32 := Scalar.select v106 c9_i32_91 v105
  let v109 : BitVec 32 := Scalar.select v108 c13_i32_93 v107
  let v111 : BitVec 32 := Scalar.select v110 c14_i32_95 v109
  let v113 : BitVec 32 := Scalar.select v112 c10_i32_97 v111
  let v115 : BitVec 32 := Scalar.select v114 c6_i32_99 v113
  let v117 : BitVec 32 := Scalar.select v116 c2_i32_101 v115
  let v119 : BitVec 32 := Scalar.select v118 c3_i32_103 v117
  let v121 : BitVec 32 := Scalar.select v120 c7_i32_105 v119
  let v123 : BitVec 32 := Scalar.select v122 c11_i32_107 v121
  let v125 : BitVec 32 := Scalar.select v124 c15_i32_109 v123
  let v127 : BitVec 32 := Scalar.select v126 c12_i32_111 v125
  let v129 : BitVec 32 := Scalar.select v128 c8_i32_113 v127
  let v131 : BitVec 32 := Scalar.select v130 c4_i32_115 v129
  let c256_i32_1176 : BitVec 32 := 256#32
  let v1046 : BitVec 32 := Scalar.muli v131 c256_i32_1176
  let c0_i32_1177 : BitVec 32 := 0#32
  let v1047 : BitVec 32 := Scalar.addi v1046 c0_i32_1177
  let v1048 : Index := Scalar.indexCast v1047
  let c0_1178 : Index := 0#32
  ![v1048.toNat, 0]
def k0_off2_at (r : Fin 14) : BitVec 32 :=
  if r.val < 7 then
    if r.val < 3 then
      if r.val < 1 then
        4294967295#32
      else
        if r.val < 2 then
          1#32
        else
          4294967294#32
    else
      if r.val < 5 then
        if r.val < 4 then
          2#32
        else
          4294967293#32
      else
        if r.val < 6 then
          3#32
        else
          4294967292#32
  else
    if r.val < 10 then
      if r.val < 8 then
        4#32
      else
        if r.val < 9 then
          4294967291#32
        else
          5#32
    else
      if r.val < 12 then
        if r.val < 11 then
          4294967290#32
        else
          6#32
      else
        if r.val < 13 then
          4294967289#32
        else
          7#32
def k0_dev35 (d0 : Dev nD) : Nat :=
  let c0_i32_1371 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_48 : BitVec 32 := 1#32
  let v66 : BitVec 32 := Scalar.addi v32 c1_i32_48
  let c32_i32_49 : BitVec 32 := 32#32
  let v67 : BitVec 32 := Scalar.addi v66 c32_i32_49
  let c16_i32_50 : BitVec 32 := 16#32
  let v68 : BitVec 32 := Scalar.remsi v67 c16_i32_50
  let c15_i32_80 : BitVec 32 := 15#32
  let v97 : BitVec 1 := Scalar.cmpi .eq v68 c15_i32_80
  let c4_i32_81 : BitVec 32 := 4#32
  let c14_i32_78 : BitVec 32 := 14#32
  let v95 : BitVec 1 := Scalar.cmpi .eq v68 c14_i32_78
  let c8_i32_79 : BitVec 32 := 8#32
  let c13_i32_76 : BitVec 32 := 13#32
  let v93 : BitVec 1 := Scalar.cmpi .eq v68 c13_i32_76
  let c12_i32_77 : BitVec 32 := 12#32
  let c12_i32_74 : BitVec 32 := 12#32
  let v91 : BitVec 1 := Scalar.cmpi .eq v68 c12_i32_74
  let c15_i32_75 : BitVec 32 := 15#32
  let c11_i32_72 : BitVec 32 := 11#32
  let v89 : BitVec 1 := Scalar.cmpi .eq v68 c11_i32_72
  let c11_i32_73 : BitVec 32 := 11#32
  let c10_i32_70 : BitVec 32 := 10#32
  let v87 : BitVec 1 := Scalar.cmpi .eq v68 c10_i32_70
  let c7_i32_71 : BitVec 32 := 7#32
  let c9_i32_68 : BitVec 32 := 9#32
  let v85 : BitVec 1 := Scalar.cmpi .eq v68 c9_i32_68
  let c3_i32_69 : BitVec 32 := 3#32
  let c8_i32_66 : BitVec 32 := 8#32
  let v83 : BitVec 1 := Scalar.cmpi .eq v68 c8_i32_66
  let c2_i32_67 : BitVec 32 := 2#32
  let c7_i32_64 : BitVec 32 := 7#32
  let v81 : BitVec 1 := Scalar.cmpi .eq v68 c7_i32_64
  let c6_i32_65 : BitVec 32 := 6#32
  let c6_i32_62 : BitVec 32 := 6#32
  let v79 : BitVec 1 := Scalar.cmpi .eq v68 c6_i32_62
  let c10_i32_63 : BitVec 32 := 10#32
  let c5_i32_60 : BitVec 32 := 5#32
  let v77 : BitVec 1 := Scalar.cmpi .eq v68 c5_i32_60
  let c14_i32_61 : BitVec 32 := 14#32
  let c4_i32_58 : BitVec 32 := 4#32
  let v75 : BitVec 1 := Scalar.cmpi .eq v68 c4_i32_58
  let c13_i32_59 : BitVec 32 := 13#32
  let c3_i32_56 : BitVec 32 := 3#32
  let v73 : BitVec 1 := Scalar.cmpi .eq v68 c3_i32_56
  let c9_i32_57 : BitVec 32 := 9#32
  let c2_i32_54 : BitVec 32 := 2#32
  let v71 : BitVec 1 := Scalar.cmpi .eq v68 c2_i32_54
  let c5_i32_55 : BitVec 32 := 5#32
  let c1_i32_51 : BitVec 32 := 1#32
  let v69 : BitVec 1 := Scalar.cmpi .eq v68 c1_i32_51
  let c1_i32_52 : BitVec 32 := 1#32
  let c0_i32_53 : BitVec 32 := 0#32
  let v70 : BitVec 32 := Scalar.select v69 c1_i32_52 c0_i32_53
  let v72 : BitVec 32 := Scalar.select v71 c5_i32_55 v70
  let v74 : BitVec 32 := Scalar.select v73 c9_i32_57 v72
  let v76 : BitVec 32 := Scalar.select v75 c13_i32_59 v74
  let v78 : BitVec 32 := Scalar.select v77 c14_i32_61 v76
  let v80 : BitVec 32 := Scalar.select v79 c10_i32_63 v78
  let v82 : BitVec 32 := Scalar.select v81 c6_i32_65 v80
  let v84 : BitVec 32 := Scalar.select v83 c2_i32_67 v82
  let v86 : BitVec 32 := Scalar.select v85 c3_i32_69 v84
  let v88 : BitVec 32 := Scalar.select v87 c7_i32_71 v86
  let v90 : BitVec 32 := Scalar.select v89 c11_i32_73 v88
  let v92 : BitVec 32 := Scalar.select v91 c15_i32_75 v90
  let v94 : BitVec 32 := Scalar.select v93 c12_i32_77 v92
  let v96 : BitVec 32 := Scalar.select v95 c8_i32_79 v94
  let v98 : BitVec 32 := Scalar.select v97 c4_i32_81 v96
  let c1_i32_1370 : BitVec 32 := 1#32
  let v1149 : BitVec 32 := Scalar.muli v98 c1_i32_1370
  let v1150 : BitVec 32 := Scalar.addi c0_i32_1371 v1149
  v1150.toNat
def k0_dev36 (d0 : Dev nD) : Nat :=
  let c0_i32_1399 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_48 : BitVec 32 := 1#32
  let v66 : BitVec 32 := Scalar.addi v32 c1_i32_48
  let c32_i32_49 : BitVec 32 := 32#32
  let v67 : BitVec 32 := Scalar.addi v66 c32_i32_49
  let c16_i32_50 : BitVec 32 := 16#32
  let v68 : BitVec 32 := Scalar.remsi v67 c16_i32_50
  let c15_i32_80 : BitVec 32 := 15#32
  let v97 : BitVec 1 := Scalar.cmpi .eq v68 c15_i32_80
  let c4_i32_81 : BitVec 32 := 4#32
  let c14_i32_78 : BitVec 32 := 14#32
  let v95 : BitVec 1 := Scalar.cmpi .eq v68 c14_i32_78
  let c8_i32_79 : BitVec 32 := 8#32
  let c13_i32_76 : BitVec 32 := 13#32
  let v93 : BitVec 1 := Scalar.cmpi .eq v68 c13_i32_76
  let c12_i32_77 : BitVec 32 := 12#32
  let c12_i32_74 : BitVec 32 := 12#32
  let v91 : BitVec 1 := Scalar.cmpi .eq v68 c12_i32_74
  let c15_i32_75 : BitVec 32 := 15#32
  let c11_i32_72 : BitVec 32 := 11#32
  let v89 : BitVec 1 := Scalar.cmpi .eq v68 c11_i32_72
  let c11_i32_73 : BitVec 32 := 11#32
  let c10_i32_70 : BitVec 32 := 10#32
  let v87 : BitVec 1 := Scalar.cmpi .eq v68 c10_i32_70
  let c7_i32_71 : BitVec 32 := 7#32
  let c9_i32_68 : BitVec 32 := 9#32
  let v85 : BitVec 1 := Scalar.cmpi .eq v68 c9_i32_68
  let c3_i32_69 : BitVec 32 := 3#32
  let c8_i32_66 : BitVec 32 := 8#32
  let v83 : BitVec 1 := Scalar.cmpi .eq v68 c8_i32_66
  let c2_i32_67 : BitVec 32 := 2#32
  let c7_i32_64 : BitVec 32 := 7#32
  let v81 : BitVec 1 := Scalar.cmpi .eq v68 c7_i32_64
  let c6_i32_65 : BitVec 32 := 6#32
  let c6_i32_62 : BitVec 32 := 6#32
  let v79 : BitVec 1 := Scalar.cmpi .eq v68 c6_i32_62
  let c10_i32_63 : BitVec 32 := 10#32
  let c5_i32_60 : BitVec 32 := 5#32
  let v77 : BitVec 1 := Scalar.cmpi .eq v68 c5_i32_60
  let c14_i32_61 : BitVec 32 := 14#32
  let c4_i32_58 : BitVec 32 := 4#32
  let v75 : BitVec 1 := Scalar.cmpi .eq v68 c4_i32_58
  let c13_i32_59 : BitVec 32 := 13#32
  let c3_i32_56 : BitVec 32 := 3#32
  let v73 : BitVec 1 := Scalar.cmpi .eq v68 c3_i32_56
  let c9_i32_57 : BitVec 32 := 9#32
  let c2_i32_54 : BitVec 32 := 2#32
  let v71 : BitVec 1 := Scalar.cmpi .eq v68 c2_i32_54
  let c5_i32_55 : BitVec 32 := 5#32
  let c1_i32_51 : BitVec 32 := 1#32
  let v69 : BitVec 1 := Scalar.cmpi .eq v68 c1_i32_51
  let c1_i32_52 : BitVec 32 := 1#32
  let c0_i32_53 : BitVec 32 := 0#32
  let v70 : BitVec 32 := Scalar.select v69 c1_i32_52 c0_i32_53
  let v72 : BitVec 32 := Scalar.select v71 c5_i32_55 v70
  let v74 : BitVec 32 := Scalar.select v73 c9_i32_57 v72
  let v76 : BitVec 32 := Scalar.select v75 c13_i32_59 v74
  let v78 : BitVec 32 := Scalar.select v77 c14_i32_61 v76
  let v80 : BitVec 32 := Scalar.select v79 c10_i32_63 v78
  let v82 : BitVec 32 := Scalar.select v81 c6_i32_65 v80
  let v84 : BitVec 32 := Scalar.select v83 c2_i32_67 v82
  let v86 : BitVec 32 := Scalar.select v85 c3_i32_69 v84
  let v88 : BitVec 32 := Scalar.select v87 c7_i32_71 v86
  let v90 : BitVec 32 := Scalar.select v89 c11_i32_73 v88
  let v92 : BitVec 32 := Scalar.select v91 c15_i32_75 v90
  let v94 : BitVec 32 := Scalar.select v93 c12_i32_77 v92
  let v96 : BitVec 32 := Scalar.select v95 c8_i32_79 v94
  let v98 : BitVec 32 := Scalar.select v97 c4_i32_81 v96
  let c1_i32_1398 : BitVec 32 := 1#32
  let v1169 : BitVec 32 := Scalar.muli v98 c1_i32_1398
  let v1170 : BitVec 32 := Scalar.addi c0_i32_1399 v1169
  v1170.toNat
def k0_dev37 (d0 : Dev nD) : Nat :=
  let c0_i32_1427 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_48 : BitVec 32 := 1#32
  let v66 : BitVec 32 := Scalar.addi v32 c1_i32_48
  let c32_i32_49 : BitVec 32 := 32#32
  let v67 : BitVec 32 := Scalar.addi v66 c32_i32_49
  let c16_i32_50 : BitVec 32 := 16#32
  let v68 : BitVec 32 := Scalar.remsi v67 c16_i32_50
  let c15_i32_80 : BitVec 32 := 15#32
  let v97 : BitVec 1 := Scalar.cmpi .eq v68 c15_i32_80
  let c4_i32_81 : BitVec 32 := 4#32
  let c14_i32_78 : BitVec 32 := 14#32
  let v95 : BitVec 1 := Scalar.cmpi .eq v68 c14_i32_78
  let c8_i32_79 : BitVec 32 := 8#32
  let c13_i32_76 : BitVec 32 := 13#32
  let v93 : BitVec 1 := Scalar.cmpi .eq v68 c13_i32_76
  let c12_i32_77 : BitVec 32 := 12#32
  let c12_i32_74 : BitVec 32 := 12#32
  let v91 : BitVec 1 := Scalar.cmpi .eq v68 c12_i32_74
  let c15_i32_75 : BitVec 32 := 15#32
  let c11_i32_72 : BitVec 32 := 11#32
  let v89 : BitVec 1 := Scalar.cmpi .eq v68 c11_i32_72
  let c11_i32_73 : BitVec 32 := 11#32
  let c10_i32_70 : BitVec 32 := 10#32
  let v87 : BitVec 1 := Scalar.cmpi .eq v68 c10_i32_70
  let c7_i32_71 : BitVec 32 := 7#32
  let c9_i32_68 : BitVec 32 := 9#32
  let v85 : BitVec 1 := Scalar.cmpi .eq v68 c9_i32_68
  let c3_i32_69 : BitVec 32 := 3#32
  let c8_i32_66 : BitVec 32 := 8#32
  let v83 : BitVec 1 := Scalar.cmpi .eq v68 c8_i32_66
  let c2_i32_67 : BitVec 32 := 2#32
  let c7_i32_64 : BitVec 32 := 7#32
  let v81 : BitVec 1 := Scalar.cmpi .eq v68 c7_i32_64
  let c6_i32_65 : BitVec 32 := 6#32
  let c6_i32_62 : BitVec 32 := 6#32
  let v79 : BitVec 1 := Scalar.cmpi .eq v68 c6_i32_62
  let c10_i32_63 : BitVec 32 := 10#32
  let c5_i32_60 : BitVec 32 := 5#32
  let v77 : BitVec 1 := Scalar.cmpi .eq v68 c5_i32_60
  let c14_i32_61 : BitVec 32 := 14#32
  let c4_i32_58 : BitVec 32 := 4#32
  let v75 : BitVec 1 := Scalar.cmpi .eq v68 c4_i32_58
  let c13_i32_59 : BitVec 32 := 13#32
  let c3_i32_56 : BitVec 32 := 3#32
  let v73 : BitVec 1 := Scalar.cmpi .eq v68 c3_i32_56
  let c9_i32_57 : BitVec 32 := 9#32
  let c2_i32_54 : BitVec 32 := 2#32
  let v71 : BitVec 1 := Scalar.cmpi .eq v68 c2_i32_54
  let c5_i32_55 : BitVec 32 := 5#32
  let c1_i32_51 : BitVec 32 := 1#32
  let v69 : BitVec 1 := Scalar.cmpi .eq v68 c1_i32_51
  let c1_i32_52 : BitVec 32 := 1#32
  let c0_i32_53 : BitVec 32 := 0#32
  let v70 : BitVec 32 := Scalar.select v69 c1_i32_52 c0_i32_53
  let v72 : BitVec 32 := Scalar.select v71 c5_i32_55 v70
  let v74 : BitVec 32 := Scalar.select v73 c9_i32_57 v72
  let v76 : BitVec 32 := Scalar.select v75 c13_i32_59 v74
  let v78 : BitVec 32 := Scalar.select v77 c14_i32_61 v76
  let v80 : BitVec 32 := Scalar.select v79 c10_i32_63 v78
  let v82 : BitVec 32 := Scalar.select v81 c6_i32_65 v80
  let v84 : BitVec 32 := Scalar.select v83 c2_i32_67 v82
  let v86 : BitVec 32 := Scalar.select v85 c3_i32_69 v84
  let v88 : BitVec 32 := Scalar.select v87 c7_i32_71 v86
  let v90 : BitVec 32 := Scalar.select v89 c11_i32_73 v88
  let v92 : BitVec 32 := Scalar.select v91 c15_i32_75 v90
  let v94 : BitVec 32 := Scalar.select v93 c12_i32_77 v92
  let v96 : BitVec 32 := Scalar.select v95 c8_i32_79 v94
  let v98 : BitVec 32 := Scalar.select v97 c4_i32_81 v96
  let c1_i32_1426 : BitVec 32 := 1#32
  let v1189 : BitVec 32 := Scalar.muli v98 c1_i32_1426
  let v1190 : BitVec 32 := Scalar.addi c0_i32_1427 v1189
  v1190.toNat
def k0_dev38 (d0 : Dev nD) : Nat :=
  let c0_i32_1455 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_48 : BitVec 32 := 1#32
  let v66 : BitVec 32 := Scalar.addi v32 c1_i32_48
  let c32_i32_49 : BitVec 32 := 32#32
  let v67 : BitVec 32 := Scalar.addi v66 c32_i32_49
  let c16_i32_50 : BitVec 32 := 16#32
  let v68 : BitVec 32 := Scalar.remsi v67 c16_i32_50
  let c15_i32_80 : BitVec 32 := 15#32
  let v97 : BitVec 1 := Scalar.cmpi .eq v68 c15_i32_80
  let c4_i32_81 : BitVec 32 := 4#32
  let c14_i32_78 : BitVec 32 := 14#32
  let v95 : BitVec 1 := Scalar.cmpi .eq v68 c14_i32_78
  let c8_i32_79 : BitVec 32 := 8#32
  let c13_i32_76 : BitVec 32 := 13#32
  let v93 : BitVec 1 := Scalar.cmpi .eq v68 c13_i32_76
  let c12_i32_77 : BitVec 32 := 12#32
  let c12_i32_74 : BitVec 32 := 12#32
  let v91 : BitVec 1 := Scalar.cmpi .eq v68 c12_i32_74
  let c15_i32_75 : BitVec 32 := 15#32
  let c11_i32_72 : BitVec 32 := 11#32
  let v89 : BitVec 1 := Scalar.cmpi .eq v68 c11_i32_72
  let c11_i32_73 : BitVec 32 := 11#32
  let c10_i32_70 : BitVec 32 := 10#32
  let v87 : BitVec 1 := Scalar.cmpi .eq v68 c10_i32_70
  let c7_i32_71 : BitVec 32 := 7#32
  let c9_i32_68 : BitVec 32 := 9#32
  let v85 : BitVec 1 := Scalar.cmpi .eq v68 c9_i32_68
  let c3_i32_69 : BitVec 32 := 3#32
  let c8_i32_66 : BitVec 32 := 8#32
  let v83 : BitVec 1 := Scalar.cmpi .eq v68 c8_i32_66
  let c2_i32_67 : BitVec 32 := 2#32
  let c7_i32_64 : BitVec 32 := 7#32
  let v81 : BitVec 1 := Scalar.cmpi .eq v68 c7_i32_64
  let c6_i32_65 : BitVec 32 := 6#32
  let c6_i32_62 : BitVec 32 := 6#32
  let v79 : BitVec 1 := Scalar.cmpi .eq v68 c6_i32_62
  let c10_i32_63 : BitVec 32 := 10#32
  let c5_i32_60 : BitVec 32 := 5#32
  let v77 : BitVec 1 := Scalar.cmpi .eq v68 c5_i32_60
  let c14_i32_61 : BitVec 32 := 14#32
  let c4_i32_58 : BitVec 32 := 4#32
  let v75 : BitVec 1 := Scalar.cmpi .eq v68 c4_i32_58
  let c13_i32_59 : BitVec 32 := 13#32
  let c3_i32_56 : BitVec 32 := 3#32
  let v73 : BitVec 1 := Scalar.cmpi .eq v68 c3_i32_56
  let c9_i32_57 : BitVec 32 := 9#32
  let c2_i32_54 : BitVec 32 := 2#32
  let v71 : BitVec 1 := Scalar.cmpi .eq v68 c2_i32_54
  let c5_i32_55 : BitVec 32 := 5#32
  let c1_i32_51 : BitVec 32 := 1#32
  let v69 : BitVec 1 := Scalar.cmpi .eq v68 c1_i32_51
  let c1_i32_52 : BitVec 32 := 1#32
  let c0_i32_53 : BitVec 32 := 0#32
  let v70 : BitVec 32 := Scalar.select v69 c1_i32_52 c0_i32_53
  let v72 : BitVec 32 := Scalar.select v71 c5_i32_55 v70
  let v74 : BitVec 32 := Scalar.select v73 c9_i32_57 v72
  let v76 : BitVec 32 := Scalar.select v75 c13_i32_59 v74
  let v78 : BitVec 32 := Scalar.select v77 c14_i32_61 v76
  let v80 : BitVec 32 := Scalar.select v79 c10_i32_63 v78
  let v82 : BitVec 32 := Scalar.select v81 c6_i32_65 v80
  let v84 : BitVec 32 := Scalar.select v83 c2_i32_67 v82
  let v86 : BitVec 32 := Scalar.select v85 c3_i32_69 v84
  let v88 : BitVec 32 := Scalar.select v87 c7_i32_71 v86
  let v90 : BitVec 32 := Scalar.select v89 c11_i32_73 v88
  let v92 : BitVec 32 := Scalar.select v91 c15_i32_75 v90
  let v94 : BitVec 32 := Scalar.select v93 c12_i32_77 v92
  let v96 : BitVec 32 := Scalar.select v95 c8_i32_79 v94
  let v98 : BitVec 32 := Scalar.select v97 c4_i32_81 v96
  let c1_i32_1454 : BitVec 32 := 1#32
  let v1209 : BitVec 32 := Scalar.muli v98 c1_i32_1454
  let v1210 : BitVec 32 := Scalar.addi c0_i32_1455 v1209
  v1210.toNat
def k0_dev39 (d0 : Dev nD) : Nat :=
  let c0_i32_1483 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_48 : BitVec 32 := 1#32
  let v66 : BitVec 32 := Scalar.addi v32 c1_i32_48
  let c32_i32_49 : BitVec 32 := 32#32
  let v67 : BitVec 32 := Scalar.addi v66 c32_i32_49
  let c16_i32_50 : BitVec 32 := 16#32
  let v68 : BitVec 32 := Scalar.remsi v67 c16_i32_50
  let c15_i32_80 : BitVec 32 := 15#32
  let v97 : BitVec 1 := Scalar.cmpi .eq v68 c15_i32_80
  let c4_i32_81 : BitVec 32 := 4#32
  let c14_i32_78 : BitVec 32 := 14#32
  let v95 : BitVec 1 := Scalar.cmpi .eq v68 c14_i32_78
  let c8_i32_79 : BitVec 32 := 8#32
  let c13_i32_76 : BitVec 32 := 13#32
  let v93 : BitVec 1 := Scalar.cmpi .eq v68 c13_i32_76
  let c12_i32_77 : BitVec 32 := 12#32
  let c12_i32_74 : BitVec 32 := 12#32
  let v91 : BitVec 1 := Scalar.cmpi .eq v68 c12_i32_74
  let c15_i32_75 : BitVec 32 := 15#32
  let c11_i32_72 : BitVec 32 := 11#32
  let v89 : BitVec 1 := Scalar.cmpi .eq v68 c11_i32_72
  let c11_i32_73 : BitVec 32 := 11#32
  let c10_i32_70 : BitVec 32 := 10#32
  let v87 : BitVec 1 := Scalar.cmpi .eq v68 c10_i32_70
  let c7_i32_71 : BitVec 32 := 7#32
  let c9_i32_68 : BitVec 32 := 9#32
  let v85 : BitVec 1 := Scalar.cmpi .eq v68 c9_i32_68
  let c3_i32_69 : BitVec 32 := 3#32
  let c8_i32_66 : BitVec 32 := 8#32
  let v83 : BitVec 1 := Scalar.cmpi .eq v68 c8_i32_66
  let c2_i32_67 : BitVec 32 := 2#32
  let c7_i32_64 : BitVec 32 := 7#32
  let v81 : BitVec 1 := Scalar.cmpi .eq v68 c7_i32_64
  let c6_i32_65 : BitVec 32 := 6#32
  let c6_i32_62 : BitVec 32 := 6#32
  let v79 : BitVec 1 := Scalar.cmpi .eq v68 c6_i32_62
  let c10_i32_63 : BitVec 32 := 10#32
  let c5_i32_60 : BitVec 32 := 5#32
  let v77 : BitVec 1 := Scalar.cmpi .eq v68 c5_i32_60
  let c14_i32_61 : BitVec 32 := 14#32
  let c4_i32_58 : BitVec 32 := 4#32
  let v75 : BitVec 1 := Scalar.cmpi .eq v68 c4_i32_58
  let c13_i32_59 : BitVec 32 := 13#32
  let c3_i32_56 : BitVec 32 := 3#32
  let v73 : BitVec 1 := Scalar.cmpi .eq v68 c3_i32_56
  let c9_i32_57 : BitVec 32 := 9#32
  let c2_i32_54 : BitVec 32 := 2#32
  let v71 : BitVec 1 := Scalar.cmpi .eq v68 c2_i32_54
  let c5_i32_55 : BitVec 32 := 5#32
  let c1_i32_51 : BitVec 32 := 1#32
  let v69 : BitVec 1 := Scalar.cmpi .eq v68 c1_i32_51
  let c1_i32_52 : BitVec 32 := 1#32
  let c0_i32_53 : BitVec 32 := 0#32
  let v70 : BitVec 32 := Scalar.select v69 c1_i32_52 c0_i32_53
  let v72 : BitVec 32 := Scalar.select v71 c5_i32_55 v70
  let v74 : BitVec 32 := Scalar.select v73 c9_i32_57 v72
  let v76 : BitVec 32 := Scalar.select v75 c13_i32_59 v74
  let v78 : BitVec 32 := Scalar.select v77 c14_i32_61 v76
  let v80 : BitVec 32 := Scalar.select v79 c10_i32_63 v78
  let v82 : BitVec 32 := Scalar.select v81 c6_i32_65 v80
  let v84 : BitVec 32 := Scalar.select v83 c2_i32_67 v82
  let v86 : BitVec 32 := Scalar.select v85 c3_i32_69 v84
  let v88 : BitVec 32 := Scalar.select v87 c7_i32_71 v86
  let v90 : BitVec 32 := Scalar.select v89 c11_i32_73 v88
  let v92 : BitVec 32 := Scalar.select v91 c15_i32_75 v90
  let v94 : BitVec 32 := Scalar.select v93 c12_i32_77 v92
  let v96 : BitVec 32 := Scalar.select v95 c8_i32_79 v94
  let v98 : BitVec 32 := Scalar.select v97 c4_i32_81 v96
  let c1_i32_1482 : BitVec 32 := 1#32
  let v1229 : BitVec 32 := Scalar.muli v98 c1_i32_1482
  let v1230 : BitVec 32 := Scalar.addi c0_i32_1483 v1229
  v1230.toNat
def k0_dev40 (d0 : Dev nD) : Nat :=
  let c0_i32_1511 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_48 : BitVec 32 := 1#32
  let v66 : BitVec 32 := Scalar.addi v32 c1_i32_48
  let c32_i32_49 : BitVec 32 := 32#32
  let v67 : BitVec 32 := Scalar.addi v66 c32_i32_49
  let c16_i32_50 : BitVec 32 := 16#32
  let v68 : BitVec 32 := Scalar.remsi v67 c16_i32_50
  let c15_i32_80 : BitVec 32 := 15#32
  let v97 : BitVec 1 := Scalar.cmpi .eq v68 c15_i32_80
  let c4_i32_81 : BitVec 32 := 4#32
  let c14_i32_78 : BitVec 32 := 14#32
  let v95 : BitVec 1 := Scalar.cmpi .eq v68 c14_i32_78
  let c8_i32_79 : BitVec 32 := 8#32
  let c13_i32_76 : BitVec 32 := 13#32
  let v93 : BitVec 1 := Scalar.cmpi .eq v68 c13_i32_76
  let c12_i32_77 : BitVec 32 := 12#32
  let c12_i32_74 : BitVec 32 := 12#32
  let v91 : BitVec 1 := Scalar.cmpi .eq v68 c12_i32_74
  let c15_i32_75 : BitVec 32 := 15#32
  let c11_i32_72 : BitVec 32 := 11#32
  let v89 : BitVec 1 := Scalar.cmpi .eq v68 c11_i32_72
  let c11_i32_73 : BitVec 32 := 11#32
  let c10_i32_70 : BitVec 32 := 10#32
  let v87 : BitVec 1 := Scalar.cmpi .eq v68 c10_i32_70
  let c7_i32_71 : BitVec 32 := 7#32
  let c9_i32_68 : BitVec 32 := 9#32
  let v85 : BitVec 1 := Scalar.cmpi .eq v68 c9_i32_68
  let c3_i32_69 : BitVec 32 := 3#32
  let c8_i32_66 : BitVec 32 := 8#32
  let v83 : BitVec 1 := Scalar.cmpi .eq v68 c8_i32_66
  let c2_i32_67 : BitVec 32 := 2#32
  let c7_i32_64 : BitVec 32 := 7#32
  let v81 : BitVec 1 := Scalar.cmpi .eq v68 c7_i32_64
  let c6_i32_65 : BitVec 32 := 6#32
  let c6_i32_62 : BitVec 32 := 6#32
  let v79 : BitVec 1 := Scalar.cmpi .eq v68 c6_i32_62
  let c10_i32_63 : BitVec 32 := 10#32
  let c5_i32_60 : BitVec 32 := 5#32
  let v77 : BitVec 1 := Scalar.cmpi .eq v68 c5_i32_60
  let c14_i32_61 : BitVec 32 := 14#32
  let c4_i32_58 : BitVec 32 := 4#32
  let v75 : BitVec 1 := Scalar.cmpi .eq v68 c4_i32_58
  let c13_i32_59 : BitVec 32 := 13#32
  let c3_i32_56 : BitVec 32 := 3#32
  let v73 : BitVec 1 := Scalar.cmpi .eq v68 c3_i32_56
  let c9_i32_57 : BitVec 32 := 9#32
  let c2_i32_54 : BitVec 32 := 2#32
  let v71 : BitVec 1 := Scalar.cmpi .eq v68 c2_i32_54
  let c5_i32_55 : BitVec 32 := 5#32
  let c1_i32_51 : BitVec 32 := 1#32
  let v69 : BitVec 1 := Scalar.cmpi .eq v68 c1_i32_51
  let c1_i32_52 : BitVec 32 := 1#32
  let c0_i32_53 : BitVec 32 := 0#32
  let v70 : BitVec 32 := Scalar.select v69 c1_i32_52 c0_i32_53
  let v72 : BitVec 32 := Scalar.select v71 c5_i32_55 v70
  let v74 : BitVec 32 := Scalar.select v73 c9_i32_57 v72
  let v76 : BitVec 32 := Scalar.select v75 c13_i32_59 v74
  let v78 : BitVec 32 := Scalar.select v77 c14_i32_61 v76
  let v80 : BitVec 32 := Scalar.select v79 c10_i32_63 v78
  let v82 : BitVec 32 := Scalar.select v81 c6_i32_65 v80
  let v84 : BitVec 32 := Scalar.select v83 c2_i32_67 v82
  let v86 : BitVec 32 := Scalar.select v85 c3_i32_69 v84
  let v88 : BitVec 32 := Scalar.select v87 c7_i32_71 v86
  let v90 : BitVec 32 := Scalar.select v89 c11_i32_73 v88
  let v92 : BitVec 32 := Scalar.select v91 c15_i32_75 v90
  let v94 : BitVec 32 := Scalar.select v93 c12_i32_77 v92
  let v96 : BitVec 32 := Scalar.select v95 c8_i32_79 v94
  let v98 : BitVec 32 := Scalar.select v97 c4_i32_81 v96
  let c1_i32_1510 : BitVec 32 := 1#32
  let v1249 : BitVec 32 := Scalar.muli v98 c1_i32_1510
  let v1250 : BitVec 32 := Scalar.addi c0_i32_1511 v1249
  v1250.toNat
def k0_dev41 (d0 : Dev nD) : Nat :=
  let c0_i32_1539 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_48 : BitVec 32 := 1#32
  let v66 : BitVec 32 := Scalar.addi v32 c1_i32_48
  let c32_i32_49 : BitVec 32 := 32#32
  let v67 : BitVec 32 := Scalar.addi v66 c32_i32_49
  let c16_i32_50 : BitVec 32 := 16#32
  let v68 : BitVec 32 := Scalar.remsi v67 c16_i32_50
  let c15_i32_80 : BitVec 32 := 15#32
  let v97 : BitVec 1 := Scalar.cmpi .eq v68 c15_i32_80
  let c4_i32_81 : BitVec 32 := 4#32
  let c14_i32_78 : BitVec 32 := 14#32
  let v95 : BitVec 1 := Scalar.cmpi .eq v68 c14_i32_78
  let c8_i32_79 : BitVec 32 := 8#32
  let c13_i32_76 : BitVec 32 := 13#32
  let v93 : BitVec 1 := Scalar.cmpi .eq v68 c13_i32_76
  let c12_i32_77 : BitVec 32 := 12#32
  let c12_i32_74 : BitVec 32 := 12#32
  let v91 : BitVec 1 := Scalar.cmpi .eq v68 c12_i32_74
  let c15_i32_75 : BitVec 32 := 15#32
  let c11_i32_72 : BitVec 32 := 11#32
  let v89 : BitVec 1 := Scalar.cmpi .eq v68 c11_i32_72
  let c11_i32_73 : BitVec 32 := 11#32
  let c10_i32_70 : BitVec 32 := 10#32
  let v87 : BitVec 1 := Scalar.cmpi .eq v68 c10_i32_70
  let c7_i32_71 : BitVec 32 := 7#32
  let c9_i32_68 : BitVec 32 := 9#32
  let v85 : BitVec 1 := Scalar.cmpi .eq v68 c9_i32_68
  let c3_i32_69 : BitVec 32 := 3#32
  let c8_i32_66 : BitVec 32 := 8#32
  let v83 : BitVec 1 := Scalar.cmpi .eq v68 c8_i32_66
  let c2_i32_67 : BitVec 32 := 2#32
  let c7_i32_64 : BitVec 32 := 7#32
  let v81 : BitVec 1 := Scalar.cmpi .eq v68 c7_i32_64
  let c6_i32_65 : BitVec 32 := 6#32
  let c6_i32_62 : BitVec 32 := 6#32
  let v79 : BitVec 1 := Scalar.cmpi .eq v68 c6_i32_62
  let c10_i32_63 : BitVec 32 := 10#32
  let c5_i32_60 : BitVec 32 := 5#32
  let v77 : BitVec 1 := Scalar.cmpi .eq v68 c5_i32_60
  let c14_i32_61 : BitVec 32 := 14#32
  let c4_i32_58 : BitVec 32 := 4#32
  let v75 : BitVec 1 := Scalar.cmpi .eq v68 c4_i32_58
  let c13_i32_59 : BitVec 32 := 13#32
  let c3_i32_56 : BitVec 32 := 3#32
  let v73 : BitVec 1 := Scalar.cmpi .eq v68 c3_i32_56
  let c9_i32_57 : BitVec 32 := 9#32
  let c2_i32_54 : BitVec 32 := 2#32
  let v71 : BitVec 1 := Scalar.cmpi .eq v68 c2_i32_54
  let c5_i32_55 : BitVec 32 := 5#32
  let c1_i32_51 : BitVec 32 := 1#32
  let v69 : BitVec 1 := Scalar.cmpi .eq v68 c1_i32_51
  let c1_i32_52 : BitVec 32 := 1#32
  let c0_i32_53 : BitVec 32 := 0#32
  let v70 : BitVec 32 := Scalar.select v69 c1_i32_52 c0_i32_53
  let v72 : BitVec 32 := Scalar.select v71 c5_i32_55 v70
  let v74 : BitVec 32 := Scalar.select v73 c9_i32_57 v72
  let v76 : BitVec 32 := Scalar.select v75 c13_i32_59 v74
  let v78 : BitVec 32 := Scalar.select v77 c14_i32_61 v76
  let v80 : BitVec 32 := Scalar.select v79 c10_i32_63 v78
  let v82 : BitVec 32 := Scalar.select v81 c6_i32_65 v80
  let v84 : BitVec 32 := Scalar.select v83 c2_i32_67 v82
  let v86 : BitVec 32 := Scalar.select v85 c3_i32_69 v84
  let v88 : BitVec 32 := Scalar.select v87 c7_i32_71 v86
  let v90 : BitVec 32 := Scalar.select v89 c11_i32_73 v88
  let v92 : BitVec 32 := Scalar.select v91 c15_i32_75 v90
  let v94 : BitVec 32 := Scalar.select v93 c12_i32_77 v92
  let v96 : BitVec 32 := Scalar.select v95 c8_i32_79 v94
  let v98 : BitVec 32 := Scalar.select v97 c4_i32_81 v96
  let c1_i32_1538 : BitVec 32 := 1#32
  let v1269 : BitVec 32 := Scalar.muli v98 c1_i32_1538
  let v1270 : BitVec 32 := Scalar.addi c0_i32_1539 v1269
  v1270.toNat
def k0_dev42 (d0 : Dev nD) : Nat :=
  let c0_i32_1567 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_48 : BitVec 32 := 1#32
  let v66 : BitVec 32 := Scalar.addi v32 c1_i32_48
  let c32_i32_49 : BitVec 32 := 32#32
  let v67 : BitVec 32 := Scalar.addi v66 c32_i32_49
  let c16_i32_50 : BitVec 32 := 16#32
  let v68 : BitVec 32 := Scalar.remsi v67 c16_i32_50
  let c15_i32_80 : BitVec 32 := 15#32
  let v97 : BitVec 1 := Scalar.cmpi .eq v68 c15_i32_80
  let c4_i32_81 : BitVec 32 := 4#32
  let c14_i32_78 : BitVec 32 := 14#32
  let v95 : BitVec 1 := Scalar.cmpi .eq v68 c14_i32_78
  let c8_i32_79 : BitVec 32 := 8#32
  let c13_i32_76 : BitVec 32 := 13#32
  let v93 : BitVec 1 := Scalar.cmpi .eq v68 c13_i32_76
  let c12_i32_77 : BitVec 32 := 12#32
  let c12_i32_74 : BitVec 32 := 12#32
  let v91 : BitVec 1 := Scalar.cmpi .eq v68 c12_i32_74
  let c15_i32_75 : BitVec 32 := 15#32
  let c11_i32_72 : BitVec 32 := 11#32
  let v89 : BitVec 1 := Scalar.cmpi .eq v68 c11_i32_72
  let c11_i32_73 : BitVec 32 := 11#32
  let c10_i32_70 : BitVec 32 := 10#32
  let v87 : BitVec 1 := Scalar.cmpi .eq v68 c10_i32_70
  let c7_i32_71 : BitVec 32 := 7#32
  let c9_i32_68 : BitVec 32 := 9#32
  let v85 : BitVec 1 := Scalar.cmpi .eq v68 c9_i32_68
  let c3_i32_69 : BitVec 32 := 3#32
  let c8_i32_66 : BitVec 32 := 8#32
  let v83 : BitVec 1 := Scalar.cmpi .eq v68 c8_i32_66
  let c2_i32_67 : BitVec 32 := 2#32
  let c7_i32_64 : BitVec 32 := 7#32
  let v81 : BitVec 1 := Scalar.cmpi .eq v68 c7_i32_64
  let c6_i32_65 : BitVec 32 := 6#32
  let c6_i32_62 : BitVec 32 := 6#32
  let v79 : BitVec 1 := Scalar.cmpi .eq v68 c6_i32_62
  let c10_i32_63 : BitVec 32 := 10#32
  let c5_i32_60 : BitVec 32 := 5#32
  let v77 : BitVec 1 := Scalar.cmpi .eq v68 c5_i32_60
  let c14_i32_61 : BitVec 32 := 14#32
  let c4_i32_58 : BitVec 32 := 4#32
  let v75 : BitVec 1 := Scalar.cmpi .eq v68 c4_i32_58
  let c13_i32_59 : BitVec 32 := 13#32
  let c3_i32_56 : BitVec 32 := 3#32
  let v73 : BitVec 1 := Scalar.cmpi .eq v68 c3_i32_56
  let c9_i32_57 : BitVec 32 := 9#32
  let c2_i32_54 : BitVec 32 := 2#32
  let v71 : BitVec 1 := Scalar.cmpi .eq v68 c2_i32_54
  let c5_i32_55 : BitVec 32 := 5#32
  let c1_i32_51 : BitVec 32 := 1#32
  let v69 : BitVec 1 := Scalar.cmpi .eq v68 c1_i32_51
  let c1_i32_52 : BitVec 32 := 1#32
  let c0_i32_53 : BitVec 32 := 0#32
  let v70 : BitVec 32 := Scalar.select v69 c1_i32_52 c0_i32_53
  let v72 : BitVec 32 := Scalar.select v71 c5_i32_55 v70
  let v74 : BitVec 32 := Scalar.select v73 c9_i32_57 v72
  let v76 : BitVec 32 := Scalar.select v75 c13_i32_59 v74
  let v78 : BitVec 32 := Scalar.select v77 c14_i32_61 v76
  let v80 : BitVec 32 := Scalar.select v79 c10_i32_63 v78
  let v82 : BitVec 32 := Scalar.select v81 c6_i32_65 v80
  let v84 : BitVec 32 := Scalar.select v83 c2_i32_67 v82
  let v86 : BitVec 32 := Scalar.select v85 c3_i32_69 v84
  let v88 : BitVec 32 := Scalar.select v87 c7_i32_71 v86
  let v90 : BitVec 32 := Scalar.select v89 c11_i32_73 v88
  let v92 : BitVec 32 := Scalar.select v91 c15_i32_75 v90
  let v94 : BitVec 32 := Scalar.select v93 c12_i32_77 v92
  let v96 : BitVec 32 := Scalar.select v95 c8_i32_79 v94
  let v98 : BitVec 32 := Scalar.select v97 c4_i32_81 v96
  let c1_i32_1566 : BitVec 32 := 1#32
  let v1289 : BitVec 32 := Scalar.muli v98 c1_i32_1566
  let v1290 : BitVec 32 := Scalar.addi c0_i32_1567 v1289
  v1290.toNat
def k0_dev43 (d0 : Dev nD) : Nat :=
  let c0_i32_1595 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c_m1_i32 : BitVec 32 := 4294967295#32
  let v33 : BitVec 32 := Scalar.addi v32 c_m1_i32
  let c32_i32 : BitVec 32 := 32#32
  let v34 : BitVec 32 := Scalar.addi v33 c32_i32
  let c16_i32_16 : BitVec 32 := 16#32
  let v35 : BitVec 32 := Scalar.remsi v34 c16_i32_16
  let c15_i32_46 : BitVec 32 := 15#32
  let v64 : BitVec 1 := Scalar.cmpi .eq v35 c15_i32_46
  let c4_i32_47 : BitVec 32 := 4#32
  let c14_i32_44 : BitVec 32 := 14#32
  let v62 : BitVec 1 := Scalar.cmpi .eq v35 c14_i32_44
  let c8_i32_45 : BitVec 32 := 8#32
  let c13_i32_42 : BitVec 32 := 13#32
  let v60 : BitVec 1 := Scalar.cmpi .eq v35 c13_i32_42
  let c12_i32_43 : BitVec 32 := 12#32
  let c12_i32_40 : BitVec 32 := 12#32
  let v58 : BitVec 1 := Scalar.cmpi .eq v35 c12_i32_40
  let c15_i32_41 : BitVec 32 := 15#32
  let c11_i32_38 : BitVec 32 := 11#32
  let v56 : BitVec 1 := Scalar.cmpi .eq v35 c11_i32_38
  let c11_i32_39 : BitVec 32 := 11#32
  let c10_i32_36 : BitVec 32 := 10#32
  let v54 : BitVec 1 := Scalar.cmpi .eq v35 c10_i32_36
  let c7_i32_37 : BitVec 32 := 7#32
  let c9_i32_34 : BitVec 32 := 9#32
  let v52 : BitVec 1 := Scalar.cmpi .eq v35 c9_i32_34
  let c3_i32_35 : BitVec 32 := 3#32
  let c8_i32_32 : BitVec 32 := 8#32
  let v50 : BitVec 1 := Scalar.cmpi .eq v35 c8_i32_32
  let c2_i32_33 : BitVec 32 := 2#32
  let c7_i32_30 : BitVec 32 := 7#32
  let v48 : BitVec 1 := Scalar.cmpi .eq v35 c7_i32_30
  let c6_i32_31 : BitVec 32 := 6#32
  let c6_i32_28 : BitVec 32 := 6#32
  let v46 : BitVec 1 := Scalar.cmpi .eq v35 c6_i32_28
  let c10_i32_29 : BitVec 32 := 10#32
  let c5_i32_26 : BitVec 32 := 5#32
  let v44 : BitVec 1 := Scalar.cmpi .eq v35 c5_i32_26
  let c14_i32_27 : BitVec 32 := 14#32
  let c4_i32_24 : BitVec 32 := 4#32
  let v42 : BitVec 1 := Scalar.cmpi .eq v35 c4_i32_24
  let c13_i32_25 : BitVec 32 := 13#32
  let c3_i32_22 : BitVec 32 := 3#32
  let v40 : BitVec 1 := Scalar.cmpi .eq v35 c3_i32_22
  let c9_i32_23 : BitVec 32 := 9#32
  let c2_i32_20 : BitVec 32 := 2#32
  let v38 : BitVec 1 := Scalar.cmpi .eq v35 c2_i32_20
  let c5_i32_21 : BitVec 32 := 5#32
  let c1_i32_17 : BitVec 32 := 1#32
  let v36 : BitVec 1 := Scalar.cmpi .eq v35 c1_i32_17
  let c1_i32_18 : BitVec 32 := 1#32
  let c0_i32_19 : BitVec 32 := 0#32
  let v37 : BitVec 32 := Scalar.select v36 c1_i32_18 c0_i32_19
  let v39 : BitVec 32 := Scalar.select v38 c5_i32_21 v37
  let v41 : BitVec 32 := Scalar.select v40 c9_i32_23 v39
  let v43 : BitVec 32 := Scalar.select v42 c13_i32_25 v41
  let v45 : BitVec 32 := Scalar.select v44 c14_i32_27 v43
  let v47 : BitVec 32 := Scalar.select v46 c10_i32_29 v45
  let v49 : BitVec 32 := Scalar.select v48 c6_i32_31 v47
  let v51 : BitVec 32 := Scalar.select v50 c2_i32_33 v49
  let v53 : BitVec 32 := Scalar.select v52 c3_i32_35 v51
  let v55 : BitVec 32 := Scalar.select v54 c7_i32_37 v53
  let v57 : BitVec 32 := Scalar.select v56 c11_i32_39 v55
  let v59 : BitVec 32 := Scalar.select v58 c15_i32_41 v57
  let v61 : BitVec 32 := Scalar.select v60 c12_i32_43 v59
  let v63 : BitVec 32 := Scalar.select v62 c8_i32_45 v61
  let v65 : BitVec 32 := Scalar.select v64 c4_i32_47 v63
  let c1_i32_1594 : BitVec 32 := 1#32
  let v1309 : BitVec 32 := Scalar.muli v65 c1_i32_1594
  let v1310 : BitVec 32 := Scalar.addi c0_i32_1595 v1309
  v1310.toNat
def k0_dev44 (d0 : Dev nD) : Nat :=
  let c0_i32_1623 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c_m1_i32 : BitVec 32 := 4294967295#32
  let v33 : BitVec 32 := Scalar.addi v32 c_m1_i32
  let c32_i32 : BitVec 32 := 32#32
  let v34 : BitVec 32 := Scalar.addi v33 c32_i32
  let c16_i32_16 : BitVec 32 := 16#32
  let v35 : BitVec 32 := Scalar.remsi v34 c16_i32_16
  let c15_i32_46 : BitVec 32 := 15#32
  let v64 : BitVec 1 := Scalar.cmpi .eq v35 c15_i32_46
  let c4_i32_47 : BitVec 32 := 4#32
  let c14_i32_44 : BitVec 32 := 14#32
  let v62 : BitVec 1 := Scalar.cmpi .eq v35 c14_i32_44
  let c8_i32_45 : BitVec 32 := 8#32
  let c13_i32_42 : BitVec 32 := 13#32
  let v60 : BitVec 1 := Scalar.cmpi .eq v35 c13_i32_42
  let c12_i32_43 : BitVec 32 := 12#32
  let c12_i32_40 : BitVec 32 := 12#32
  let v58 : BitVec 1 := Scalar.cmpi .eq v35 c12_i32_40
  let c15_i32_41 : BitVec 32 := 15#32
  let c11_i32_38 : BitVec 32 := 11#32
  let v56 : BitVec 1 := Scalar.cmpi .eq v35 c11_i32_38
  let c11_i32_39 : BitVec 32 := 11#32
  let c10_i32_36 : BitVec 32 := 10#32
  let v54 : BitVec 1 := Scalar.cmpi .eq v35 c10_i32_36
  let c7_i32_37 : BitVec 32 := 7#32
  let c9_i32_34 : BitVec 32 := 9#32
  let v52 : BitVec 1 := Scalar.cmpi .eq v35 c9_i32_34
  let c3_i32_35 : BitVec 32 := 3#32
  let c8_i32_32 : BitVec 32 := 8#32
  let v50 : BitVec 1 := Scalar.cmpi .eq v35 c8_i32_32
  let c2_i32_33 : BitVec 32 := 2#32
  let c7_i32_30 : BitVec 32 := 7#32
  let v48 : BitVec 1 := Scalar.cmpi .eq v35 c7_i32_30
  let c6_i32_31 : BitVec 32 := 6#32
  let c6_i32_28 : BitVec 32 := 6#32
  let v46 : BitVec 1 := Scalar.cmpi .eq v35 c6_i32_28
  let c10_i32_29 : BitVec 32 := 10#32
  let c5_i32_26 : BitVec 32 := 5#32
  let v44 : BitVec 1 := Scalar.cmpi .eq v35 c5_i32_26
  let c14_i32_27 : BitVec 32 := 14#32
  let c4_i32_24 : BitVec 32 := 4#32
  let v42 : BitVec 1 := Scalar.cmpi .eq v35 c4_i32_24
  let c13_i32_25 : BitVec 32 := 13#32
  let c3_i32_22 : BitVec 32 := 3#32
  let v40 : BitVec 1 := Scalar.cmpi .eq v35 c3_i32_22
  let c9_i32_23 : BitVec 32 := 9#32
  let c2_i32_20 : BitVec 32 := 2#32
  let v38 : BitVec 1 := Scalar.cmpi .eq v35 c2_i32_20
  let c5_i32_21 : BitVec 32 := 5#32
  let c1_i32_17 : BitVec 32 := 1#32
  let v36 : BitVec 1 := Scalar.cmpi .eq v35 c1_i32_17
  let c1_i32_18 : BitVec 32 := 1#32
  let c0_i32_19 : BitVec 32 := 0#32
  let v37 : BitVec 32 := Scalar.select v36 c1_i32_18 c0_i32_19
  let v39 : BitVec 32 := Scalar.select v38 c5_i32_21 v37
  let v41 : BitVec 32 := Scalar.select v40 c9_i32_23 v39
  let v43 : BitVec 32 := Scalar.select v42 c13_i32_25 v41
  let v45 : BitVec 32 := Scalar.select v44 c14_i32_27 v43
  let v47 : BitVec 32 := Scalar.select v46 c10_i32_29 v45
  let v49 : BitVec 32 := Scalar.select v48 c6_i32_31 v47
  let v51 : BitVec 32 := Scalar.select v50 c2_i32_33 v49
  let v53 : BitVec 32 := Scalar.select v52 c3_i32_35 v51
  let v55 : BitVec 32 := Scalar.select v54 c7_i32_37 v53
  let v57 : BitVec 32 := Scalar.select v56 c11_i32_39 v55
  let v59 : BitVec 32 := Scalar.select v58 c15_i32_41 v57
  let v61 : BitVec 32 := Scalar.select v60 c12_i32_43 v59
  let v63 : BitVec 32 := Scalar.select v62 c8_i32_45 v61
  let v65 : BitVec 32 := Scalar.select v64 c4_i32_47 v63
  let c1_i32_1622 : BitVec 32 := 1#32
  let v1329 : BitVec 32 := Scalar.muli v65 c1_i32_1622
  let v1330 : BitVec 32 := Scalar.addi c0_i32_1623 v1329
  v1330.toNat
def k0_dev45 (d0 : Dev nD) : Nat :=
  let c0_i32_1651 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c_m1_i32 : BitVec 32 := 4294967295#32
  let v33 : BitVec 32 := Scalar.addi v32 c_m1_i32
  let c32_i32 : BitVec 32 := 32#32
  let v34 : BitVec 32 := Scalar.addi v33 c32_i32
  let c16_i32_16 : BitVec 32 := 16#32
  let v35 : BitVec 32 := Scalar.remsi v34 c16_i32_16
  let c15_i32_46 : BitVec 32 := 15#32
  let v64 : BitVec 1 := Scalar.cmpi .eq v35 c15_i32_46
  let c4_i32_47 : BitVec 32 := 4#32
  let c14_i32_44 : BitVec 32 := 14#32
  let v62 : BitVec 1 := Scalar.cmpi .eq v35 c14_i32_44
  let c8_i32_45 : BitVec 32 := 8#32
  let c13_i32_42 : BitVec 32 := 13#32
  let v60 : BitVec 1 := Scalar.cmpi .eq v35 c13_i32_42
  let c12_i32_43 : BitVec 32 := 12#32
  let c12_i32_40 : BitVec 32 := 12#32
  let v58 : BitVec 1 := Scalar.cmpi .eq v35 c12_i32_40
  let c15_i32_41 : BitVec 32 := 15#32
  let c11_i32_38 : BitVec 32 := 11#32
  let v56 : BitVec 1 := Scalar.cmpi .eq v35 c11_i32_38
  let c11_i32_39 : BitVec 32 := 11#32
  let c10_i32_36 : BitVec 32 := 10#32
  let v54 : BitVec 1 := Scalar.cmpi .eq v35 c10_i32_36
  let c7_i32_37 : BitVec 32 := 7#32
  let c9_i32_34 : BitVec 32 := 9#32
  let v52 : BitVec 1 := Scalar.cmpi .eq v35 c9_i32_34
  let c3_i32_35 : BitVec 32 := 3#32
  let c8_i32_32 : BitVec 32 := 8#32
  let v50 : BitVec 1 := Scalar.cmpi .eq v35 c8_i32_32
  let c2_i32_33 : BitVec 32 := 2#32
  let c7_i32_30 : BitVec 32 := 7#32
  let v48 : BitVec 1 := Scalar.cmpi .eq v35 c7_i32_30
  let c6_i32_31 : BitVec 32 := 6#32
  let c6_i32_28 : BitVec 32 := 6#32
  let v46 : BitVec 1 := Scalar.cmpi .eq v35 c6_i32_28
  let c10_i32_29 : BitVec 32 := 10#32
  let c5_i32_26 : BitVec 32 := 5#32
  let v44 : BitVec 1 := Scalar.cmpi .eq v35 c5_i32_26
  let c14_i32_27 : BitVec 32 := 14#32
  let c4_i32_24 : BitVec 32 := 4#32
  let v42 : BitVec 1 := Scalar.cmpi .eq v35 c4_i32_24
  let c13_i32_25 : BitVec 32 := 13#32
  let c3_i32_22 : BitVec 32 := 3#32
  let v40 : BitVec 1 := Scalar.cmpi .eq v35 c3_i32_22
  let c9_i32_23 : BitVec 32 := 9#32
  let c2_i32_20 : BitVec 32 := 2#32
  let v38 : BitVec 1 := Scalar.cmpi .eq v35 c2_i32_20
  let c5_i32_21 : BitVec 32 := 5#32
  let c1_i32_17 : BitVec 32 := 1#32
  let v36 : BitVec 1 := Scalar.cmpi .eq v35 c1_i32_17
  let c1_i32_18 : BitVec 32 := 1#32
  let c0_i32_19 : BitVec 32 := 0#32
  let v37 : BitVec 32 := Scalar.select v36 c1_i32_18 c0_i32_19
  let v39 : BitVec 32 := Scalar.select v38 c5_i32_21 v37
  let v41 : BitVec 32 := Scalar.select v40 c9_i32_23 v39
  let v43 : BitVec 32 := Scalar.select v42 c13_i32_25 v41
  let v45 : BitVec 32 := Scalar.select v44 c14_i32_27 v43
  let v47 : BitVec 32 := Scalar.select v46 c10_i32_29 v45
  let v49 : BitVec 32 := Scalar.select v48 c6_i32_31 v47
  let v51 : BitVec 32 := Scalar.select v50 c2_i32_33 v49
  let v53 : BitVec 32 := Scalar.select v52 c3_i32_35 v51
  let v55 : BitVec 32 := Scalar.select v54 c7_i32_37 v53
  let v57 : BitVec 32 := Scalar.select v56 c11_i32_39 v55
  let v59 : BitVec 32 := Scalar.select v58 c15_i32_41 v57
  let v61 : BitVec 32 := Scalar.select v60 c12_i32_43 v59
  let v63 : BitVec 32 := Scalar.select v62 c8_i32_45 v61
  let v65 : BitVec 32 := Scalar.select v64 c4_i32_47 v63
  let c1_i32_1650 : BitVec 32 := 1#32
  let v1349 : BitVec 32 := Scalar.muli v65 c1_i32_1650
  let v1350 : BitVec 32 := Scalar.addi c0_i32_1651 v1349
  v1350.toNat
def k0_dev46 (d0 : Dev nD) : Nat :=
  let c0_i32_1679 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c_m1_i32 : BitVec 32 := 4294967295#32
  let v33 : BitVec 32 := Scalar.addi v32 c_m1_i32
  let c32_i32 : BitVec 32 := 32#32
  let v34 : BitVec 32 := Scalar.addi v33 c32_i32
  let c16_i32_16 : BitVec 32 := 16#32
  let v35 : BitVec 32 := Scalar.remsi v34 c16_i32_16
  let c15_i32_46 : BitVec 32 := 15#32
  let v64 : BitVec 1 := Scalar.cmpi .eq v35 c15_i32_46
  let c4_i32_47 : BitVec 32 := 4#32
  let c14_i32_44 : BitVec 32 := 14#32
  let v62 : BitVec 1 := Scalar.cmpi .eq v35 c14_i32_44
  let c8_i32_45 : BitVec 32 := 8#32
  let c13_i32_42 : BitVec 32 := 13#32
  let v60 : BitVec 1 := Scalar.cmpi .eq v35 c13_i32_42
  let c12_i32_43 : BitVec 32 := 12#32
  let c12_i32_40 : BitVec 32 := 12#32
  let v58 : BitVec 1 := Scalar.cmpi .eq v35 c12_i32_40
  let c15_i32_41 : BitVec 32 := 15#32
  let c11_i32_38 : BitVec 32 := 11#32
  let v56 : BitVec 1 := Scalar.cmpi .eq v35 c11_i32_38
  let c11_i32_39 : BitVec 32 := 11#32
  let c10_i32_36 : BitVec 32 := 10#32
  let v54 : BitVec 1 := Scalar.cmpi .eq v35 c10_i32_36
  let c7_i32_37 : BitVec 32 := 7#32
  let c9_i32_34 : BitVec 32 := 9#32
  let v52 : BitVec 1 := Scalar.cmpi .eq v35 c9_i32_34
  let c3_i32_35 : BitVec 32 := 3#32
  let c8_i32_32 : BitVec 32 := 8#32
  let v50 : BitVec 1 := Scalar.cmpi .eq v35 c8_i32_32
  let c2_i32_33 : BitVec 32 := 2#32
  let c7_i32_30 : BitVec 32 := 7#32
  let v48 : BitVec 1 := Scalar.cmpi .eq v35 c7_i32_30
  let c6_i32_31 : BitVec 32 := 6#32
  let c6_i32_28 : BitVec 32 := 6#32
  let v46 : BitVec 1 := Scalar.cmpi .eq v35 c6_i32_28
  let c10_i32_29 : BitVec 32 := 10#32
  let c5_i32_26 : BitVec 32 := 5#32
  let v44 : BitVec 1 := Scalar.cmpi .eq v35 c5_i32_26
  let c14_i32_27 : BitVec 32 := 14#32
  let c4_i32_24 : BitVec 32 := 4#32
  let v42 : BitVec 1 := Scalar.cmpi .eq v35 c4_i32_24
  let c13_i32_25 : BitVec 32 := 13#32
  let c3_i32_22 : BitVec 32 := 3#32
  let v40 : BitVec 1 := Scalar.cmpi .eq v35 c3_i32_22
  let c9_i32_23 : BitVec 32 := 9#32
  let c2_i32_20 : BitVec 32 := 2#32
  let v38 : BitVec 1 := Scalar.cmpi .eq v35 c2_i32_20
  let c5_i32_21 : BitVec 32 := 5#32
  let c1_i32_17 : BitVec 32 := 1#32
  let v36 : BitVec 1 := Scalar.cmpi .eq v35 c1_i32_17
  let c1_i32_18 : BitVec 32 := 1#32
  let c0_i32_19 : BitVec 32 := 0#32
  let v37 : BitVec 32 := Scalar.select v36 c1_i32_18 c0_i32_19
  let v39 : BitVec 32 := Scalar.select v38 c5_i32_21 v37
  let v41 : BitVec 32 := Scalar.select v40 c9_i32_23 v39
  let v43 : BitVec 32 := Scalar.select v42 c13_i32_25 v41
  let v45 : BitVec 32 := Scalar.select v44 c14_i32_27 v43
  let v47 : BitVec 32 := Scalar.select v46 c10_i32_29 v45
  let v49 : BitVec 32 := Scalar.select v48 c6_i32_31 v47
  let v51 : BitVec 32 := Scalar.select v50 c2_i32_33 v49
  let v53 : BitVec 32 := Scalar.select v52 c3_i32_35 v51
  let v55 : BitVec 32 := Scalar.select v54 c7_i32_37 v53
  let v57 : BitVec 32 := Scalar.select v56 c11_i32_39 v55
  let v59 : BitVec 32 := Scalar.select v58 c15_i32_41 v57
  let v61 : BitVec 32 := Scalar.select v60 c12_i32_43 v59
  let v63 : BitVec 32 := Scalar.select v62 c8_i32_45 v61
  let v65 : BitVec 32 := Scalar.select v64 c4_i32_47 v63
  let c1_i32_1678 : BitVec 32 := 1#32
  let v1369 : BitVec 32 := Scalar.muli v65 c1_i32_1678
  let v1370 : BitVec 32 := Scalar.addi c0_i32_1679 v1369
  v1370.toNat
def k0_dev47 (d0 : Dev nD) : Nat :=
  let c0_i32_1707 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c_m1_i32 : BitVec 32 := 4294967295#32
  let v33 : BitVec 32 := Scalar.addi v32 c_m1_i32
  let c32_i32 : BitVec 32 := 32#32
  let v34 : BitVec 32 := Scalar.addi v33 c32_i32
  let c16_i32_16 : BitVec 32 := 16#32
  let v35 : BitVec 32 := Scalar.remsi v34 c16_i32_16
  let c15_i32_46 : BitVec 32 := 15#32
  let v64 : BitVec 1 := Scalar.cmpi .eq v35 c15_i32_46
  let c4_i32_47 : BitVec 32 := 4#32
  let c14_i32_44 : BitVec 32 := 14#32
  let v62 : BitVec 1 := Scalar.cmpi .eq v35 c14_i32_44
  let c8_i32_45 : BitVec 32 := 8#32
  let c13_i32_42 : BitVec 32 := 13#32
  let v60 : BitVec 1 := Scalar.cmpi .eq v35 c13_i32_42
  let c12_i32_43 : BitVec 32 := 12#32
  let c12_i32_40 : BitVec 32 := 12#32
  let v58 : BitVec 1 := Scalar.cmpi .eq v35 c12_i32_40
  let c15_i32_41 : BitVec 32 := 15#32
  let c11_i32_38 : BitVec 32 := 11#32
  let v56 : BitVec 1 := Scalar.cmpi .eq v35 c11_i32_38
  let c11_i32_39 : BitVec 32 := 11#32
  let c10_i32_36 : BitVec 32 := 10#32
  let v54 : BitVec 1 := Scalar.cmpi .eq v35 c10_i32_36
  let c7_i32_37 : BitVec 32 := 7#32
  let c9_i32_34 : BitVec 32 := 9#32
  let v52 : BitVec 1 := Scalar.cmpi .eq v35 c9_i32_34
  let c3_i32_35 : BitVec 32 := 3#32
  let c8_i32_32 : BitVec 32 := 8#32
  let v50 : BitVec 1 := Scalar.cmpi .eq v35 c8_i32_32
  let c2_i32_33 : BitVec 32 := 2#32
  let c7_i32_30 : BitVec 32 := 7#32
  let v48 : BitVec 1 := Scalar.cmpi .eq v35 c7_i32_30
  let c6_i32_31 : BitVec 32 := 6#32
  let c6_i32_28 : BitVec 32 := 6#32
  let v46 : BitVec 1 := Scalar.cmpi .eq v35 c6_i32_28
  let c10_i32_29 : BitVec 32 := 10#32
  let c5_i32_26 : BitVec 32 := 5#32
  let v44 : BitVec 1 := Scalar.cmpi .eq v35 c5_i32_26
  let c14_i32_27 : BitVec 32 := 14#32
  let c4_i32_24 : BitVec 32 := 4#32
  let v42 : BitVec 1 := Scalar.cmpi .eq v35 c4_i32_24
  let c13_i32_25 : BitVec 32 := 13#32
  let c3_i32_22 : BitVec 32 := 3#32
  let v40 : BitVec 1 := Scalar.cmpi .eq v35 c3_i32_22
  let c9_i32_23 : BitVec 32 := 9#32
  let c2_i32_20 : BitVec 32 := 2#32
  let v38 : BitVec 1 := Scalar.cmpi .eq v35 c2_i32_20
  let c5_i32_21 : BitVec 32 := 5#32
  let c1_i32_17 : BitVec 32 := 1#32
  let v36 : BitVec 1 := Scalar.cmpi .eq v35 c1_i32_17
  let c1_i32_18 : BitVec 32 := 1#32
  let c0_i32_19 : BitVec 32 := 0#32
  let v37 : BitVec 32 := Scalar.select v36 c1_i32_18 c0_i32_19
  let v39 : BitVec 32 := Scalar.select v38 c5_i32_21 v37
  let v41 : BitVec 32 := Scalar.select v40 c9_i32_23 v39
  let v43 : BitVec 32 := Scalar.select v42 c13_i32_25 v41
  let v45 : BitVec 32 := Scalar.select v44 c14_i32_27 v43
  let v47 : BitVec 32 := Scalar.select v46 c10_i32_29 v45
  let v49 : BitVec 32 := Scalar.select v48 c6_i32_31 v47
  let v51 : BitVec 32 := Scalar.select v50 c2_i32_33 v49
  let v53 : BitVec 32 := Scalar.select v52 c3_i32_35 v51
  let v55 : BitVec 32 := Scalar.select v54 c7_i32_37 v53
  let v57 : BitVec 32 := Scalar.select v56 c11_i32_39 v55
  let v59 : BitVec 32 := Scalar.select v58 c15_i32_41 v57
  let v61 : BitVec 32 := Scalar.select v60 c12_i32_43 v59
  let v63 : BitVec 32 := Scalar.select v62 c8_i32_45 v61
  let v65 : BitVec 32 := Scalar.select v64 c4_i32_47 v63
  let c1_i32_1706 : BitVec 32 := 1#32
  let v1389 : BitVec 32 := Scalar.muli v65 c1_i32_1706
  let v1390 : BitVec 32 := Scalar.addi c0_i32_1707 v1389
  v1390.toNat
def k0_dev48 (d0 : Dev nD) : Nat :=
  let c0_i32_1735 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c_m1_i32 : BitVec 32 := 4294967295#32
  let v33 : BitVec 32 := Scalar.addi v32 c_m1_i32
  let c32_i32 : BitVec 32 := 32#32
  let v34 : BitVec 32 := Scalar.addi v33 c32_i32
  let c16_i32_16 : BitVec 32 := 16#32
  let v35 : BitVec 32 := Scalar.remsi v34 c16_i32_16
  let c15_i32_46 : BitVec 32 := 15#32
  let v64 : BitVec 1 := Scalar.cmpi .eq v35 c15_i32_46
  let c4_i32_47 : BitVec 32 := 4#32
  let c14_i32_44 : BitVec 32 := 14#32
  let v62 : BitVec 1 := Scalar.cmpi .eq v35 c14_i32_44
  let c8_i32_45 : BitVec 32 := 8#32
  let c13_i32_42 : BitVec 32 := 13#32
  let v60 : BitVec 1 := Scalar.cmpi .eq v35 c13_i32_42
  let c12_i32_43 : BitVec 32 := 12#32
  let c12_i32_40 : BitVec 32 := 12#32
  let v58 : BitVec 1 := Scalar.cmpi .eq v35 c12_i32_40
  let c15_i32_41 : BitVec 32 := 15#32
  let c11_i32_38 : BitVec 32 := 11#32
  let v56 : BitVec 1 := Scalar.cmpi .eq v35 c11_i32_38
  let c11_i32_39 : BitVec 32 := 11#32
  let c10_i32_36 : BitVec 32 := 10#32
  let v54 : BitVec 1 := Scalar.cmpi .eq v35 c10_i32_36
  let c7_i32_37 : BitVec 32 := 7#32
  let c9_i32_34 : BitVec 32 := 9#32
  let v52 : BitVec 1 := Scalar.cmpi .eq v35 c9_i32_34
  let c3_i32_35 : BitVec 32 := 3#32
  let c8_i32_32 : BitVec 32 := 8#32
  let v50 : BitVec 1 := Scalar.cmpi .eq v35 c8_i32_32
  let c2_i32_33 : BitVec 32 := 2#32
  let c7_i32_30 : BitVec 32 := 7#32
  let v48 : BitVec 1 := Scalar.cmpi .eq v35 c7_i32_30
  let c6_i32_31 : BitVec 32 := 6#32
  let c6_i32_28 : BitVec 32 := 6#32
  let v46 : BitVec 1 := Scalar.cmpi .eq v35 c6_i32_28
  let c10_i32_29 : BitVec 32 := 10#32
  let c5_i32_26 : BitVec 32 := 5#32
  let v44 : BitVec 1 := Scalar.cmpi .eq v35 c5_i32_26
  let c14_i32_27 : BitVec 32 := 14#32
  let c4_i32_24 : BitVec 32 := 4#32
  let v42 : BitVec 1 := Scalar.cmpi .eq v35 c4_i32_24
  let c13_i32_25 : BitVec 32 := 13#32
  let c3_i32_22 : BitVec 32 := 3#32
  let v40 : BitVec 1 := Scalar.cmpi .eq v35 c3_i32_22
  let c9_i32_23 : BitVec 32 := 9#32
  let c2_i32_20 : BitVec 32 := 2#32
  let v38 : BitVec 1 := Scalar.cmpi .eq v35 c2_i32_20
  let c5_i32_21 : BitVec 32 := 5#32
  let c1_i32_17 : BitVec 32 := 1#32
  let v36 : BitVec 1 := Scalar.cmpi .eq v35 c1_i32_17
  let c1_i32_18 : BitVec 32 := 1#32
  let c0_i32_19 : BitVec 32 := 0#32
  let v37 : BitVec 32 := Scalar.select v36 c1_i32_18 c0_i32_19
  let v39 : BitVec 32 := Scalar.select v38 c5_i32_21 v37
  let v41 : BitVec 32 := Scalar.select v40 c9_i32_23 v39
  let v43 : BitVec 32 := Scalar.select v42 c13_i32_25 v41
  let v45 : BitVec 32 := Scalar.select v44 c14_i32_27 v43
  let v47 : BitVec 32 := Scalar.select v46 c10_i32_29 v45
  let v49 : BitVec 32 := Scalar.select v48 c6_i32_31 v47
  let v51 : BitVec 32 := Scalar.select v50 c2_i32_33 v49
  let v53 : BitVec 32 := Scalar.select v52 c3_i32_35 v51
  let v55 : BitVec 32 := Scalar.select v54 c7_i32_37 v53
  let v57 : BitVec 32 := Scalar.select v56 c11_i32_39 v55
  let v59 : BitVec 32 := Scalar.select v58 c15_i32_41 v57
  let v61 : BitVec 32 := Scalar.select v60 c12_i32_43 v59
  let v63 : BitVec 32 := Scalar.select v62 c8_i32_45 v61
  let v65 : BitVec 32 := Scalar.select v64 c4_i32_47 v63
  let c1_i32_1734 : BitVec 32 := 1#32
  let v1409 : BitVec 32 := Scalar.muli v65 c1_i32_1734
  let v1410 : BitVec 32 := Scalar.addi c0_i32_1735 v1409
  v1410.toNat
def k0_dev49 (d0 : Dev nD) : Nat :=
  let c0_i32_1763 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c_m1_i32 : BitVec 32 := 4294967295#32
  let v33 : BitVec 32 := Scalar.addi v32 c_m1_i32
  let c32_i32 : BitVec 32 := 32#32
  let v34 : BitVec 32 := Scalar.addi v33 c32_i32
  let c16_i32_16 : BitVec 32 := 16#32
  let v35 : BitVec 32 := Scalar.remsi v34 c16_i32_16
  let c15_i32_46 : BitVec 32 := 15#32
  let v64 : BitVec 1 := Scalar.cmpi .eq v35 c15_i32_46
  let c4_i32_47 : BitVec 32 := 4#32
  let c14_i32_44 : BitVec 32 := 14#32
  let v62 : BitVec 1 := Scalar.cmpi .eq v35 c14_i32_44
  let c8_i32_45 : BitVec 32 := 8#32
  let c13_i32_42 : BitVec 32 := 13#32
  let v60 : BitVec 1 := Scalar.cmpi .eq v35 c13_i32_42
  let c12_i32_43 : BitVec 32 := 12#32
  let c12_i32_40 : BitVec 32 := 12#32
  let v58 : BitVec 1 := Scalar.cmpi .eq v35 c12_i32_40
  let c15_i32_41 : BitVec 32 := 15#32
  let c11_i32_38 : BitVec 32 := 11#32
  let v56 : BitVec 1 := Scalar.cmpi .eq v35 c11_i32_38
  let c11_i32_39 : BitVec 32 := 11#32
  let c10_i32_36 : BitVec 32 := 10#32
  let v54 : BitVec 1 := Scalar.cmpi .eq v35 c10_i32_36
  let c7_i32_37 : BitVec 32 := 7#32
  let c9_i32_34 : BitVec 32 := 9#32
  let v52 : BitVec 1 := Scalar.cmpi .eq v35 c9_i32_34
  let c3_i32_35 : BitVec 32 := 3#32
  let c8_i32_32 : BitVec 32 := 8#32
  let v50 : BitVec 1 := Scalar.cmpi .eq v35 c8_i32_32
  let c2_i32_33 : BitVec 32 := 2#32
  let c7_i32_30 : BitVec 32 := 7#32
  let v48 : BitVec 1 := Scalar.cmpi .eq v35 c7_i32_30
  let c6_i32_31 : BitVec 32 := 6#32
  let c6_i32_28 : BitVec 32 := 6#32
  let v46 : BitVec 1 := Scalar.cmpi .eq v35 c6_i32_28
  let c10_i32_29 : BitVec 32 := 10#32
  let c5_i32_26 : BitVec 32 := 5#32
  let v44 : BitVec 1 := Scalar.cmpi .eq v35 c5_i32_26
  let c14_i32_27 : BitVec 32 := 14#32
  let c4_i32_24 : BitVec 32 := 4#32
  let v42 : BitVec 1 := Scalar.cmpi .eq v35 c4_i32_24
  let c13_i32_25 : BitVec 32 := 13#32
  let c3_i32_22 : BitVec 32 := 3#32
  let v40 : BitVec 1 := Scalar.cmpi .eq v35 c3_i32_22
  let c9_i32_23 : BitVec 32 := 9#32
  let c2_i32_20 : BitVec 32 := 2#32
  let v38 : BitVec 1 := Scalar.cmpi .eq v35 c2_i32_20
  let c5_i32_21 : BitVec 32 := 5#32
  let c1_i32_17 : BitVec 32 := 1#32
  let v36 : BitVec 1 := Scalar.cmpi .eq v35 c1_i32_17
  let c1_i32_18 : BitVec 32 := 1#32
  let c0_i32_19 : BitVec 32 := 0#32
  let v37 : BitVec 32 := Scalar.select v36 c1_i32_18 c0_i32_19
  let v39 : BitVec 32 := Scalar.select v38 c5_i32_21 v37
  let v41 : BitVec 32 := Scalar.select v40 c9_i32_23 v39
  let v43 : BitVec 32 := Scalar.select v42 c13_i32_25 v41
  let v45 : BitVec 32 := Scalar.select v44 c14_i32_27 v43
  let v47 : BitVec 32 := Scalar.select v46 c10_i32_29 v45
  let v49 : BitVec 32 := Scalar.select v48 c6_i32_31 v47
  let v51 : BitVec 32 := Scalar.select v50 c2_i32_33 v49
  let v53 : BitVec 32 := Scalar.select v52 c3_i32_35 v51
  let v55 : BitVec 32 := Scalar.select v54 c7_i32_37 v53
  let v57 : BitVec 32 := Scalar.select v56 c11_i32_39 v55
  let v59 : BitVec 32 := Scalar.select v58 c15_i32_41 v57
  let v61 : BitVec 32 := Scalar.select v60 c12_i32_43 v59
  let v63 : BitVec 32 := Scalar.select v62 c8_i32_45 v61
  let v65 : BitVec 32 := Scalar.select v64 c4_i32_47 v63
  let c1_i32_1762 : BitVec 32 := 1#32
  let v1429 : BitVec 32 := Scalar.muli v65 c1_i32_1762
  let v1430 : BitVec 32 := Scalar.addi c0_i32_1763 v1429
  v1430.toNat
def k0_dev50 (d0 : Dev nD) : Nat :=
  let c0_i32_1791 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c_m1_i32 : BitVec 32 := 4294967295#32
  let v33 : BitVec 32 := Scalar.addi v32 c_m1_i32
  let c32_i32 : BitVec 32 := 32#32
  let v34 : BitVec 32 := Scalar.addi v33 c32_i32
  let c16_i32_16 : BitVec 32 := 16#32
  let v35 : BitVec 32 := Scalar.remsi v34 c16_i32_16
  let c15_i32_46 : BitVec 32 := 15#32
  let v64 : BitVec 1 := Scalar.cmpi .eq v35 c15_i32_46
  let c4_i32_47 : BitVec 32 := 4#32
  let c14_i32_44 : BitVec 32 := 14#32
  let v62 : BitVec 1 := Scalar.cmpi .eq v35 c14_i32_44
  let c8_i32_45 : BitVec 32 := 8#32
  let c13_i32_42 : BitVec 32 := 13#32
  let v60 : BitVec 1 := Scalar.cmpi .eq v35 c13_i32_42
  let c12_i32_43 : BitVec 32 := 12#32
  let c12_i32_40 : BitVec 32 := 12#32
  let v58 : BitVec 1 := Scalar.cmpi .eq v35 c12_i32_40
  let c15_i32_41 : BitVec 32 := 15#32
  let c11_i32_38 : BitVec 32 := 11#32
  let v56 : BitVec 1 := Scalar.cmpi .eq v35 c11_i32_38
  let c11_i32_39 : BitVec 32 := 11#32
  let c10_i32_36 : BitVec 32 := 10#32
  let v54 : BitVec 1 := Scalar.cmpi .eq v35 c10_i32_36
  let c7_i32_37 : BitVec 32 := 7#32
  let c9_i32_34 : BitVec 32 := 9#32
  let v52 : BitVec 1 := Scalar.cmpi .eq v35 c9_i32_34
  let c3_i32_35 : BitVec 32 := 3#32
  let c8_i32_32 : BitVec 32 := 8#32
  let v50 : BitVec 1 := Scalar.cmpi .eq v35 c8_i32_32
  let c2_i32_33 : BitVec 32 := 2#32
  let c7_i32_30 : BitVec 32 := 7#32
  let v48 : BitVec 1 := Scalar.cmpi .eq v35 c7_i32_30
  let c6_i32_31 : BitVec 32 := 6#32
  let c6_i32_28 : BitVec 32 := 6#32
  let v46 : BitVec 1 := Scalar.cmpi .eq v35 c6_i32_28
  let c10_i32_29 : BitVec 32 := 10#32
  let c5_i32_26 : BitVec 32 := 5#32
  let v44 : BitVec 1 := Scalar.cmpi .eq v35 c5_i32_26
  let c14_i32_27 : BitVec 32 := 14#32
  let c4_i32_24 : BitVec 32 := 4#32
  let v42 : BitVec 1 := Scalar.cmpi .eq v35 c4_i32_24
  let c13_i32_25 : BitVec 32 := 13#32
  let c3_i32_22 : BitVec 32 := 3#32
  let v40 : BitVec 1 := Scalar.cmpi .eq v35 c3_i32_22
  let c9_i32_23 : BitVec 32 := 9#32
  let c2_i32_20 : BitVec 32 := 2#32
  let v38 : BitVec 1 := Scalar.cmpi .eq v35 c2_i32_20
  let c5_i32_21 : BitVec 32 := 5#32
  let c1_i32_17 : BitVec 32 := 1#32
  let v36 : BitVec 1 := Scalar.cmpi .eq v35 c1_i32_17
  let c1_i32_18 : BitVec 32 := 1#32
  let c0_i32_19 : BitVec 32 := 0#32
  let v37 : BitVec 32 := Scalar.select v36 c1_i32_18 c0_i32_19
  let v39 : BitVec 32 := Scalar.select v38 c5_i32_21 v37
  let v41 : BitVec 32 := Scalar.select v40 c9_i32_23 v39
  let v43 : BitVec 32 := Scalar.select v42 c13_i32_25 v41
  let v45 : BitVec 32 := Scalar.select v44 c14_i32_27 v43
  let v47 : BitVec 32 := Scalar.select v46 c10_i32_29 v45
  let v49 : BitVec 32 := Scalar.select v48 c6_i32_31 v47
  let v51 : BitVec 32 := Scalar.select v50 c2_i32_33 v49
  let v53 : BitVec 32 := Scalar.select v52 c3_i32_35 v51
  let v55 : BitVec 32 := Scalar.select v54 c7_i32_37 v53
  let v57 : BitVec 32 := Scalar.select v56 c11_i32_39 v55
  let v59 : BitVec 32 := Scalar.select v58 c15_i32_41 v57
  let v61 : BitVec 32 := Scalar.select v60 c12_i32_43 v59
  let v63 : BitVec 32 := Scalar.select v62 c8_i32_45 v61
  let v65 : BitVec 32 := Scalar.select v64 c4_i32_47 v63
  let c1_i32_1790 : BitVec 32 := 1#32
  let v1449 : BitVec 32 := Scalar.muli v65 c1_i32_1790
  let v1450 : BitVec 32 := Scalar.addi c0_i32_1791 v1449
  v1450.toNat
def k0_dev51 (d0 : Dev nD) : Nat :=
  let c0_i32_2030 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c_m1_i32 : BitVec 32 := 4294967295#32
  let v33 : BitVec 32 := Scalar.addi v32 c_m1_i32
  let c32_i32 : BitVec 32 := 32#32
  let v34 : BitVec 32 := Scalar.addi v33 c32_i32
  let c16_i32_16 : BitVec 32 := 16#32
  let v35 : BitVec 32 := Scalar.remsi v34 c16_i32_16
  let c15_i32_46 : BitVec 32 := 15#32
  let v64 : BitVec 1 := Scalar.cmpi .eq v35 c15_i32_46
  let c4_i32_47 : BitVec 32 := 4#32
  let c14_i32_44 : BitVec 32 := 14#32
  let v62 : BitVec 1 := Scalar.cmpi .eq v35 c14_i32_44
  let c8_i32_45 : BitVec 32 := 8#32
  let c13_i32_42 : BitVec 32 := 13#32
  let v60 : BitVec 1 := Scalar.cmpi .eq v35 c13_i32_42
  let c12_i32_43 : BitVec 32 := 12#32
  let c12_i32_40 : BitVec 32 := 12#32
  let v58 : BitVec 1 := Scalar.cmpi .eq v35 c12_i32_40
  let c15_i32_41 : BitVec 32 := 15#32
  let c11_i32_38 : BitVec 32 := 11#32
  let v56 : BitVec 1 := Scalar.cmpi .eq v35 c11_i32_38
  let c11_i32_39 : BitVec 32 := 11#32
  let c10_i32_36 : BitVec 32 := 10#32
  let v54 : BitVec 1 := Scalar.cmpi .eq v35 c10_i32_36
  let c7_i32_37 : BitVec 32 := 7#32
  let c9_i32_34 : BitVec 32 := 9#32
  let v52 : BitVec 1 := Scalar.cmpi .eq v35 c9_i32_34
  let c3_i32_35 : BitVec 32 := 3#32
  let c8_i32_32 : BitVec 32 := 8#32
  let v50 : BitVec 1 := Scalar.cmpi .eq v35 c8_i32_32
  let c2_i32_33 : BitVec 32 := 2#32
  let c7_i32_30 : BitVec 32 := 7#32
  let v48 : BitVec 1 := Scalar.cmpi .eq v35 c7_i32_30
  let c6_i32_31 : BitVec 32 := 6#32
  let c6_i32_28 : BitVec 32 := 6#32
  let v46 : BitVec 1 := Scalar.cmpi .eq v35 c6_i32_28
  let c10_i32_29 : BitVec 32 := 10#32
  let c5_i32_26 : BitVec 32 := 5#32
  let v44 : BitVec 1 := Scalar.cmpi .eq v35 c5_i32_26
  let c14_i32_27 : BitVec 32 := 14#32
  let c4_i32_24 : BitVec 32 := 4#32
  let v42 : BitVec 1 := Scalar.cmpi .eq v35 c4_i32_24
  let c13_i32_25 : BitVec 32 := 13#32
  let c3_i32_22 : BitVec 32 := 3#32
  let v40 : BitVec 1 := Scalar.cmpi .eq v35 c3_i32_22
  let c9_i32_23 : BitVec 32 := 9#32
  let c2_i32_20 : BitVec 32 := 2#32
  let v38 : BitVec 1 := Scalar.cmpi .eq v35 c2_i32_20
  let c5_i32_21 : BitVec 32 := 5#32
  let c1_i32_17 : BitVec 32 := 1#32
  let v36 : BitVec 1 := Scalar.cmpi .eq v35 c1_i32_17
  let c1_i32_18 : BitVec 32 := 1#32
  let c0_i32_19 : BitVec 32 := 0#32
  let v37 : BitVec 32 := Scalar.select v36 c1_i32_18 c0_i32_19
  let v39 : BitVec 32 := Scalar.select v38 c5_i32_21 v37
  let v41 : BitVec 32 := Scalar.select v40 c9_i32_23 v39
  let v43 : BitVec 32 := Scalar.select v42 c13_i32_25 v41
  let v45 : BitVec 32 := Scalar.select v44 c14_i32_27 v43
  let v47 : BitVec 32 := Scalar.select v46 c10_i32_29 v45
  let v49 : BitVec 32 := Scalar.select v48 c6_i32_31 v47
  let v51 : BitVec 32 := Scalar.select v50 c2_i32_33 v49
  let v53 : BitVec 32 := Scalar.select v52 c3_i32_35 v51
  let v55 : BitVec 32 := Scalar.select v54 c7_i32_37 v53
  let v57 : BitVec 32 := Scalar.select v56 c11_i32_39 v55
  let v59 : BitVec 32 := Scalar.select v58 c15_i32_41 v57
  let v61 : BitVec 32 := Scalar.select v60 c12_i32_43 v59
  let v63 : BitVec 32 := Scalar.select v62 c8_i32_45 v61
  let v65 : BitVec 32 := Scalar.select v64 c4_i32_47 v63
  let c1_i32_2029 : BitVec 32 := 1#32
  let v1592 : BitVec 32 := Scalar.muli v65 c1_i32_2029
  let v1593 : BitVec 32 := Scalar.addi c0_i32_2030 v1592
  v1593.toNat
def k0_dev52 (d0 : Dev nD) : Nat :=
  let c0_i32_2033 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_48 : BitVec 32 := 1#32
  let v66 : BitVec 32 := Scalar.addi v32 c1_i32_48
  let c32_i32_49 : BitVec 32 := 32#32
  let v67 : BitVec 32 := Scalar.addi v66 c32_i32_49
  let c16_i32_50 : BitVec 32 := 16#32
  let v68 : BitVec 32 := Scalar.remsi v67 c16_i32_50
  let c15_i32_80 : BitVec 32 := 15#32
  let v97 : BitVec 1 := Scalar.cmpi .eq v68 c15_i32_80
  let c4_i32_81 : BitVec 32 := 4#32
  let c14_i32_78 : BitVec 32 := 14#32
  let v95 : BitVec 1 := Scalar.cmpi .eq v68 c14_i32_78
  let c8_i32_79 : BitVec 32 := 8#32
  let c13_i32_76 : BitVec 32 := 13#32
  let v93 : BitVec 1 := Scalar.cmpi .eq v68 c13_i32_76
  let c12_i32_77 : BitVec 32 := 12#32
  let c12_i32_74 : BitVec 32 := 12#32
  let v91 : BitVec 1 := Scalar.cmpi .eq v68 c12_i32_74
  let c15_i32_75 : BitVec 32 := 15#32
  let c11_i32_72 : BitVec 32 := 11#32
  let v89 : BitVec 1 := Scalar.cmpi .eq v68 c11_i32_72
  let c11_i32_73 : BitVec 32 := 11#32
  let c10_i32_70 : BitVec 32 := 10#32
  let v87 : BitVec 1 := Scalar.cmpi .eq v68 c10_i32_70
  let c7_i32_71 : BitVec 32 := 7#32
  let c9_i32_68 : BitVec 32 := 9#32
  let v85 : BitVec 1 := Scalar.cmpi .eq v68 c9_i32_68
  let c3_i32_69 : BitVec 32 := 3#32
  let c8_i32_66 : BitVec 32 := 8#32
  let v83 : BitVec 1 := Scalar.cmpi .eq v68 c8_i32_66
  let c2_i32_67 : BitVec 32 := 2#32
  let c7_i32_64 : BitVec 32 := 7#32
  let v81 : BitVec 1 := Scalar.cmpi .eq v68 c7_i32_64
  let c6_i32_65 : BitVec 32 := 6#32
  let c6_i32_62 : BitVec 32 := 6#32
  let v79 : BitVec 1 := Scalar.cmpi .eq v68 c6_i32_62
  let c10_i32_63 : BitVec 32 := 10#32
  let c5_i32_60 : BitVec 32 := 5#32
  let v77 : BitVec 1 := Scalar.cmpi .eq v68 c5_i32_60
  let c14_i32_61 : BitVec 32 := 14#32
  let c4_i32_58 : BitVec 32 := 4#32
  let v75 : BitVec 1 := Scalar.cmpi .eq v68 c4_i32_58
  let c13_i32_59 : BitVec 32 := 13#32
  let c3_i32_56 : BitVec 32 := 3#32
  let v73 : BitVec 1 := Scalar.cmpi .eq v68 c3_i32_56
  let c9_i32_57 : BitVec 32 := 9#32
  let c2_i32_54 : BitVec 32 := 2#32
  let v71 : BitVec 1 := Scalar.cmpi .eq v68 c2_i32_54
  let c5_i32_55 : BitVec 32 := 5#32
  let c1_i32_51 : BitVec 32 := 1#32
  let v69 : BitVec 1 := Scalar.cmpi .eq v68 c1_i32_51
  let c1_i32_52 : BitVec 32 := 1#32
  let c0_i32_53 : BitVec 32 := 0#32
  let v70 : BitVec 32 := Scalar.select v69 c1_i32_52 c0_i32_53
  let v72 : BitVec 32 := Scalar.select v71 c5_i32_55 v70
  let v74 : BitVec 32 := Scalar.select v73 c9_i32_57 v72
  let v76 : BitVec 32 := Scalar.select v75 c13_i32_59 v74
  let v78 : BitVec 32 := Scalar.select v77 c14_i32_61 v76
  let v80 : BitVec 32 := Scalar.select v79 c10_i32_63 v78
  let v82 : BitVec 32 := Scalar.select v81 c6_i32_65 v80
  let v84 : BitVec 32 := Scalar.select v83 c2_i32_67 v82
  let v86 : BitVec 32 := Scalar.select v85 c3_i32_69 v84
  let v88 : BitVec 32 := Scalar.select v87 c7_i32_71 v86
  let v90 : BitVec 32 := Scalar.select v89 c11_i32_73 v88
  let v92 : BitVec 32 := Scalar.select v91 c15_i32_75 v90
  let v94 : BitVec 32 := Scalar.select v93 c12_i32_77 v92
  let v96 : BitVec 32 := Scalar.select v95 c8_i32_79 v94
  let v98 : BitVec 32 := Scalar.select v97 c4_i32_81 v96
  let c1_i32_2032 : BitVec 32 := 1#32
  let v1594 : BitVec 32 := Scalar.muli v98 c1_i32_2032
  let v1595 : BitVec 32 := Scalar.addi c0_i32_2033 v1594
  v1595.toNat
def k0_dev53 (d0 : Dev nD) : Nat :=
  let c0_i32_2055 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_48 : BitVec 32 := 1#32
  let v66 : BitVec 32 := Scalar.addi v32 c1_i32_48
  let c32_i32_49 : BitVec 32 := 32#32
  let v67 : BitVec 32 := Scalar.addi v66 c32_i32_49
  let c16_i32_50 : BitVec 32 := 16#32
  let v68 : BitVec 32 := Scalar.remsi v67 c16_i32_50
  let c15_i32_80 : BitVec 32 := 15#32
  let v97 : BitVec 1 := Scalar.cmpi .eq v68 c15_i32_80
  let c4_i32_81 : BitVec 32 := 4#32
  let c14_i32_78 : BitVec 32 := 14#32
  let v95 : BitVec 1 := Scalar.cmpi .eq v68 c14_i32_78
  let c8_i32_79 : BitVec 32 := 8#32
  let c13_i32_76 : BitVec 32 := 13#32
  let v93 : BitVec 1 := Scalar.cmpi .eq v68 c13_i32_76
  let c12_i32_77 : BitVec 32 := 12#32
  let c12_i32_74 : BitVec 32 := 12#32
  let v91 : BitVec 1 := Scalar.cmpi .eq v68 c12_i32_74
  let c15_i32_75 : BitVec 32 := 15#32
  let c11_i32_72 : BitVec 32 := 11#32
  let v89 : BitVec 1 := Scalar.cmpi .eq v68 c11_i32_72
  let c11_i32_73 : BitVec 32 := 11#32
  let c10_i32_70 : BitVec 32 := 10#32
  let v87 : BitVec 1 := Scalar.cmpi .eq v68 c10_i32_70
  let c7_i32_71 : BitVec 32 := 7#32
  let c9_i32_68 : BitVec 32 := 9#32
  let v85 : BitVec 1 := Scalar.cmpi .eq v68 c9_i32_68
  let c3_i32_69 : BitVec 32 := 3#32
  let c8_i32_66 : BitVec 32 := 8#32
  let v83 : BitVec 1 := Scalar.cmpi .eq v68 c8_i32_66
  let c2_i32_67 : BitVec 32 := 2#32
  let c7_i32_64 : BitVec 32 := 7#32
  let v81 : BitVec 1 := Scalar.cmpi .eq v68 c7_i32_64
  let c6_i32_65 : BitVec 32 := 6#32
  let c6_i32_62 : BitVec 32 := 6#32
  let v79 : BitVec 1 := Scalar.cmpi .eq v68 c6_i32_62
  let c10_i32_63 : BitVec 32 := 10#32
  let c5_i32_60 : BitVec 32 := 5#32
  let v77 : BitVec 1 := Scalar.cmpi .eq v68 c5_i32_60
  let c14_i32_61 : BitVec 32 := 14#32
  let c4_i32_58 : BitVec 32 := 4#32
  let v75 : BitVec 1 := Scalar.cmpi .eq v68 c4_i32_58
  let c13_i32_59 : BitVec 32 := 13#32
  let c3_i32_56 : BitVec 32 := 3#32
  let v73 : BitVec 1 := Scalar.cmpi .eq v68 c3_i32_56
  let c9_i32_57 : BitVec 32 := 9#32
  let c2_i32_54 : BitVec 32 := 2#32
  let v71 : BitVec 1 := Scalar.cmpi .eq v68 c2_i32_54
  let c5_i32_55 : BitVec 32 := 5#32
  let c1_i32_51 : BitVec 32 := 1#32
  let v69 : BitVec 1 := Scalar.cmpi .eq v68 c1_i32_51
  let c1_i32_52 : BitVec 32 := 1#32
  let c0_i32_53 : BitVec 32 := 0#32
  let v70 : BitVec 32 := Scalar.select v69 c1_i32_52 c0_i32_53
  let v72 : BitVec 32 := Scalar.select v71 c5_i32_55 v70
  let v74 : BitVec 32 := Scalar.select v73 c9_i32_57 v72
  let v76 : BitVec 32 := Scalar.select v75 c13_i32_59 v74
  let v78 : BitVec 32 := Scalar.select v77 c14_i32_61 v76
  let v80 : BitVec 32 := Scalar.select v79 c10_i32_63 v78
  let v82 : BitVec 32 := Scalar.select v81 c6_i32_65 v80
  let v84 : BitVec 32 := Scalar.select v83 c2_i32_67 v82
  let v86 : BitVec 32 := Scalar.select v85 c3_i32_69 v84
  let v88 : BitVec 32 := Scalar.select v87 c7_i32_71 v86
  let v90 : BitVec 32 := Scalar.select v89 c11_i32_73 v88
  let v92 : BitVec 32 := Scalar.select v91 c15_i32_75 v90
  let v94 : BitVec 32 := Scalar.select v93 c12_i32_77 v92
  let v96 : BitVec 32 := Scalar.select v95 c8_i32_79 v94
  let v98 : BitVec 32 := Scalar.select v97 c4_i32_81 v96
  let c1_i32_2054 : BitVec 32 := 1#32
  let v1605 : BitVec 32 := Scalar.muli v98 c1_i32_2054
  let v1606 : BitVec 32 := Scalar.addi c0_i32_2055 v1605
  v1606.toNat
def k0_dev54 (d0 : Dev nD) : Nat :=
  let c0_i32_2083 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_48 : BitVec 32 := 1#32
  let v66 : BitVec 32 := Scalar.addi v32 c1_i32_48
  let c32_i32_49 : BitVec 32 := 32#32
  let v67 : BitVec 32 := Scalar.addi v66 c32_i32_49
  let c16_i32_50 : BitVec 32 := 16#32
  let v68 : BitVec 32 := Scalar.remsi v67 c16_i32_50
  let c15_i32_80 : BitVec 32 := 15#32
  let v97 : BitVec 1 := Scalar.cmpi .eq v68 c15_i32_80
  let c4_i32_81 : BitVec 32 := 4#32
  let c14_i32_78 : BitVec 32 := 14#32
  let v95 : BitVec 1 := Scalar.cmpi .eq v68 c14_i32_78
  let c8_i32_79 : BitVec 32 := 8#32
  let c13_i32_76 : BitVec 32 := 13#32
  let v93 : BitVec 1 := Scalar.cmpi .eq v68 c13_i32_76
  let c12_i32_77 : BitVec 32 := 12#32
  let c12_i32_74 : BitVec 32 := 12#32
  let v91 : BitVec 1 := Scalar.cmpi .eq v68 c12_i32_74
  let c15_i32_75 : BitVec 32 := 15#32
  let c11_i32_72 : BitVec 32 := 11#32
  let v89 : BitVec 1 := Scalar.cmpi .eq v68 c11_i32_72
  let c11_i32_73 : BitVec 32 := 11#32
  let c10_i32_70 : BitVec 32 := 10#32
  let v87 : BitVec 1 := Scalar.cmpi .eq v68 c10_i32_70
  let c7_i32_71 : BitVec 32 := 7#32
  let c9_i32_68 : BitVec 32 := 9#32
  let v85 : BitVec 1 := Scalar.cmpi .eq v68 c9_i32_68
  let c3_i32_69 : BitVec 32 := 3#32
  let c8_i32_66 : BitVec 32 := 8#32
  let v83 : BitVec 1 := Scalar.cmpi .eq v68 c8_i32_66
  let c2_i32_67 : BitVec 32 := 2#32
  let c7_i32_64 : BitVec 32 := 7#32
  let v81 : BitVec 1 := Scalar.cmpi .eq v68 c7_i32_64
  let c6_i32_65 : BitVec 32 := 6#32
  let c6_i32_62 : BitVec 32 := 6#32
  let v79 : BitVec 1 := Scalar.cmpi .eq v68 c6_i32_62
  let c10_i32_63 : BitVec 32 := 10#32
  let c5_i32_60 : BitVec 32 := 5#32
  let v77 : BitVec 1 := Scalar.cmpi .eq v68 c5_i32_60
  let c14_i32_61 : BitVec 32 := 14#32
  let c4_i32_58 : BitVec 32 := 4#32
  let v75 : BitVec 1 := Scalar.cmpi .eq v68 c4_i32_58
  let c13_i32_59 : BitVec 32 := 13#32
  let c3_i32_56 : BitVec 32 := 3#32
  let v73 : BitVec 1 := Scalar.cmpi .eq v68 c3_i32_56
  let c9_i32_57 : BitVec 32 := 9#32
  let c2_i32_54 : BitVec 32 := 2#32
  let v71 : BitVec 1 := Scalar.cmpi .eq v68 c2_i32_54
  let c5_i32_55 : BitVec 32 := 5#32
  let c1_i32_51 : BitVec 32 := 1#32
  let v69 : BitVec 1 := Scalar.cmpi .eq v68 c1_i32_51
  let c1_i32_52 : BitVec 32 := 1#32
  let c0_i32_53 : BitVec 32 := 0#32
  let v70 : BitVec 32 := Scalar.select v69 c1_i32_52 c0_i32_53
  let v72 : BitVec 32 := Scalar.select v71 c5_i32_55 v70
  let v74 : BitVec 32 := Scalar.select v73 c9_i32_57 v72
  let v76 : BitVec 32 := Scalar.select v75 c13_i32_59 v74
  let v78 : BitVec 32 := Scalar.select v77 c14_i32_61 v76
  let v80 : BitVec 32 := Scalar.select v79 c10_i32_63 v78
  let v82 : BitVec 32 := Scalar.select v81 c6_i32_65 v80
  let v84 : BitVec 32 := Scalar.select v83 c2_i32_67 v82
  let v86 : BitVec 32 := Scalar.select v85 c3_i32_69 v84
  let v88 : BitVec 32 := Scalar.select v87 c7_i32_71 v86
  let v90 : BitVec 32 := Scalar.select v89 c11_i32_73 v88
  let v92 : BitVec 32 := Scalar.select v91 c15_i32_75 v90
  let v94 : BitVec 32 := Scalar.select v93 c12_i32_77 v92
  let v96 : BitVec 32 := Scalar.select v95 c8_i32_79 v94
  let v98 : BitVec 32 := Scalar.select v97 c4_i32_81 v96
  let c1_i32_2082 : BitVec 32 := 1#32
  let v1625 : BitVec 32 := Scalar.muli v98 c1_i32_2082
  let v1626 : BitVec 32 := Scalar.addi c0_i32_2083 v1625
  v1626.toNat
def k0_dev55 (d0 : Dev nD) : Nat :=
  let c0_i32_2111 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_48 : BitVec 32 := 1#32
  let v66 : BitVec 32 := Scalar.addi v32 c1_i32_48
  let c32_i32_49 : BitVec 32 := 32#32
  let v67 : BitVec 32 := Scalar.addi v66 c32_i32_49
  let c16_i32_50 : BitVec 32 := 16#32
  let v68 : BitVec 32 := Scalar.remsi v67 c16_i32_50
  let c15_i32_80 : BitVec 32 := 15#32
  let v97 : BitVec 1 := Scalar.cmpi .eq v68 c15_i32_80
  let c4_i32_81 : BitVec 32 := 4#32
  let c14_i32_78 : BitVec 32 := 14#32
  let v95 : BitVec 1 := Scalar.cmpi .eq v68 c14_i32_78
  let c8_i32_79 : BitVec 32 := 8#32
  let c13_i32_76 : BitVec 32 := 13#32
  let v93 : BitVec 1 := Scalar.cmpi .eq v68 c13_i32_76
  let c12_i32_77 : BitVec 32 := 12#32
  let c12_i32_74 : BitVec 32 := 12#32
  let v91 : BitVec 1 := Scalar.cmpi .eq v68 c12_i32_74
  let c15_i32_75 : BitVec 32 := 15#32
  let c11_i32_72 : BitVec 32 := 11#32
  let v89 : BitVec 1 := Scalar.cmpi .eq v68 c11_i32_72
  let c11_i32_73 : BitVec 32 := 11#32
  let c10_i32_70 : BitVec 32 := 10#32
  let v87 : BitVec 1 := Scalar.cmpi .eq v68 c10_i32_70
  let c7_i32_71 : BitVec 32 := 7#32
  let c9_i32_68 : BitVec 32 := 9#32
  let v85 : BitVec 1 := Scalar.cmpi .eq v68 c9_i32_68
  let c3_i32_69 : BitVec 32 := 3#32
  let c8_i32_66 : BitVec 32 := 8#32
  let v83 : BitVec 1 := Scalar.cmpi .eq v68 c8_i32_66
  let c2_i32_67 : BitVec 32 := 2#32
  let c7_i32_64 : BitVec 32 := 7#32
  let v81 : BitVec 1 := Scalar.cmpi .eq v68 c7_i32_64
  let c6_i32_65 : BitVec 32 := 6#32
  let c6_i32_62 : BitVec 32 := 6#32
  let v79 : BitVec 1 := Scalar.cmpi .eq v68 c6_i32_62
  let c10_i32_63 : BitVec 32 := 10#32
  let c5_i32_60 : BitVec 32 := 5#32
  let v77 : BitVec 1 := Scalar.cmpi .eq v68 c5_i32_60
  let c14_i32_61 : BitVec 32 := 14#32
  let c4_i32_58 : BitVec 32 := 4#32
  let v75 : BitVec 1 := Scalar.cmpi .eq v68 c4_i32_58
  let c13_i32_59 : BitVec 32 := 13#32
  let c3_i32_56 : BitVec 32 := 3#32
  let v73 : BitVec 1 := Scalar.cmpi .eq v68 c3_i32_56
  let c9_i32_57 : BitVec 32 := 9#32
  let c2_i32_54 : BitVec 32 := 2#32
  let v71 : BitVec 1 := Scalar.cmpi .eq v68 c2_i32_54
  let c5_i32_55 : BitVec 32 := 5#32
  let c1_i32_51 : BitVec 32 := 1#32
  let v69 : BitVec 1 := Scalar.cmpi .eq v68 c1_i32_51
  let c1_i32_52 : BitVec 32 := 1#32
  let c0_i32_53 : BitVec 32 := 0#32
  let v70 : BitVec 32 := Scalar.select v69 c1_i32_52 c0_i32_53
  let v72 : BitVec 32 := Scalar.select v71 c5_i32_55 v70
  let v74 : BitVec 32 := Scalar.select v73 c9_i32_57 v72
  let v76 : BitVec 32 := Scalar.select v75 c13_i32_59 v74
  let v78 : BitVec 32 := Scalar.select v77 c14_i32_61 v76
  let v80 : BitVec 32 := Scalar.select v79 c10_i32_63 v78
  let v82 : BitVec 32 := Scalar.select v81 c6_i32_65 v80
  let v84 : BitVec 32 := Scalar.select v83 c2_i32_67 v82
  let v86 : BitVec 32 := Scalar.select v85 c3_i32_69 v84
  let v88 : BitVec 32 := Scalar.select v87 c7_i32_71 v86
  let v90 : BitVec 32 := Scalar.select v89 c11_i32_73 v88
  let v92 : BitVec 32 := Scalar.select v91 c15_i32_75 v90
  let v94 : BitVec 32 := Scalar.select v93 c12_i32_77 v92
  let v96 : BitVec 32 := Scalar.select v95 c8_i32_79 v94
  let v98 : BitVec 32 := Scalar.select v97 c4_i32_81 v96
  let c1_i32_2110 : BitVec 32 := 1#32
  let v1645 : BitVec 32 := Scalar.muli v98 c1_i32_2110
  let v1646 : BitVec 32 := Scalar.addi c0_i32_2111 v1645
  v1646.toNat
def k0_dev56 (d0 : Dev nD) : Nat :=
  let c0_i32_2139 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_48 : BitVec 32 := 1#32
  let v66 : BitVec 32 := Scalar.addi v32 c1_i32_48
  let c32_i32_49 : BitVec 32 := 32#32
  let v67 : BitVec 32 := Scalar.addi v66 c32_i32_49
  let c16_i32_50 : BitVec 32 := 16#32
  let v68 : BitVec 32 := Scalar.remsi v67 c16_i32_50
  let c15_i32_80 : BitVec 32 := 15#32
  let v97 : BitVec 1 := Scalar.cmpi .eq v68 c15_i32_80
  let c4_i32_81 : BitVec 32 := 4#32
  let c14_i32_78 : BitVec 32 := 14#32
  let v95 : BitVec 1 := Scalar.cmpi .eq v68 c14_i32_78
  let c8_i32_79 : BitVec 32 := 8#32
  let c13_i32_76 : BitVec 32 := 13#32
  let v93 : BitVec 1 := Scalar.cmpi .eq v68 c13_i32_76
  let c12_i32_77 : BitVec 32 := 12#32
  let c12_i32_74 : BitVec 32 := 12#32
  let v91 : BitVec 1 := Scalar.cmpi .eq v68 c12_i32_74
  let c15_i32_75 : BitVec 32 := 15#32
  let c11_i32_72 : BitVec 32 := 11#32
  let v89 : BitVec 1 := Scalar.cmpi .eq v68 c11_i32_72
  let c11_i32_73 : BitVec 32 := 11#32
  let c10_i32_70 : BitVec 32 := 10#32
  let v87 : BitVec 1 := Scalar.cmpi .eq v68 c10_i32_70
  let c7_i32_71 : BitVec 32 := 7#32
  let c9_i32_68 : BitVec 32 := 9#32
  let v85 : BitVec 1 := Scalar.cmpi .eq v68 c9_i32_68
  let c3_i32_69 : BitVec 32 := 3#32
  let c8_i32_66 : BitVec 32 := 8#32
  let v83 : BitVec 1 := Scalar.cmpi .eq v68 c8_i32_66
  let c2_i32_67 : BitVec 32 := 2#32
  let c7_i32_64 : BitVec 32 := 7#32
  let v81 : BitVec 1 := Scalar.cmpi .eq v68 c7_i32_64
  let c6_i32_65 : BitVec 32 := 6#32
  let c6_i32_62 : BitVec 32 := 6#32
  let v79 : BitVec 1 := Scalar.cmpi .eq v68 c6_i32_62
  let c10_i32_63 : BitVec 32 := 10#32
  let c5_i32_60 : BitVec 32 := 5#32
  let v77 : BitVec 1 := Scalar.cmpi .eq v68 c5_i32_60
  let c14_i32_61 : BitVec 32 := 14#32
  let c4_i32_58 : BitVec 32 := 4#32
  let v75 : BitVec 1 := Scalar.cmpi .eq v68 c4_i32_58
  let c13_i32_59 : BitVec 32 := 13#32
  let c3_i32_56 : BitVec 32 := 3#32
  let v73 : BitVec 1 := Scalar.cmpi .eq v68 c3_i32_56
  let c9_i32_57 : BitVec 32 := 9#32
  let c2_i32_54 : BitVec 32 := 2#32
  let v71 : BitVec 1 := Scalar.cmpi .eq v68 c2_i32_54
  let c5_i32_55 : BitVec 32 := 5#32
  let c1_i32_51 : BitVec 32 := 1#32
  let v69 : BitVec 1 := Scalar.cmpi .eq v68 c1_i32_51
  let c1_i32_52 : BitVec 32 := 1#32
  let c0_i32_53 : BitVec 32 := 0#32
  let v70 : BitVec 32 := Scalar.select v69 c1_i32_52 c0_i32_53
  let v72 : BitVec 32 := Scalar.select v71 c5_i32_55 v70
  let v74 : BitVec 32 := Scalar.select v73 c9_i32_57 v72
  let v76 : BitVec 32 := Scalar.select v75 c13_i32_59 v74
  let v78 : BitVec 32 := Scalar.select v77 c14_i32_61 v76
  let v80 : BitVec 32 := Scalar.select v79 c10_i32_63 v78
  let v82 : BitVec 32 := Scalar.select v81 c6_i32_65 v80
  let v84 : BitVec 32 := Scalar.select v83 c2_i32_67 v82
  let v86 : BitVec 32 := Scalar.select v85 c3_i32_69 v84
  let v88 : BitVec 32 := Scalar.select v87 c7_i32_71 v86
  let v90 : BitVec 32 := Scalar.select v89 c11_i32_73 v88
  let v92 : BitVec 32 := Scalar.select v91 c15_i32_75 v90
  let v94 : BitVec 32 := Scalar.select v93 c12_i32_77 v92
  let v96 : BitVec 32 := Scalar.select v95 c8_i32_79 v94
  let v98 : BitVec 32 := Scalar.select v97 c4_i32_81 v96
  let c1_i32_2138 : BitVec 32 := 1#32
  let v1665 : BitVec 32 := Scalar.muli v98 c1_i32_2138
  let v1666 : BitVec 32 := Scalar.addi c0_i32_2139 v1665
  v1666.toNat
def k0_dev57 (d0 : Dev nD) : Nat :=
  let c0_i32_2167 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_48 : BitVec 32 := 1#32
  let v66 : BitVec 32 := Scalar.addi v32 c1_i32_48
  let c32_i32_49 : BitVec 32 := 32#32
  let v67 : BitVec 32 := Scalar.addi v66 c32_i32_49
  let c16_i32_50 : BitVec 32 := 16#32
  let v68 : BitVec 32 := Scalar.remsi v67 c16_i32_50
  let c15_i32_80 : BitVec 32 := 15#32
  let v97 : BitVec 1 := Scalar.cmpi .eq v68 c15_i32_80
  let c4_i32_81 : BitVec 32 := 4#32
  let c14_i32_78 : BitVec 32 := 14#32
  let v95 : BitVec 1 := Scalar.cmpi .eq v68 c14_i32_78
  let c8_i32_79 : BitVec 32 := 8#32
  let c13_i32_76 : BitVec 32 := 13#32
  let v93 : BitVec 1 := Scalar.cmpi .eq v68 c13_i32_76
  let c12_i32_77 : BitVec 32 := 12#32
  let c12_i32_74 : BitVec 32 := 12#32
  let v91 : BitVec 1 := Scalar.cmpi .eq v68 c12_i32_74
  let c15_i32_75 : BitVec 32 := 15#32
  let c11_i32_72 : BitVec 32 := 11#32
  let v89 : BitVec 1 := Scalar.cmpi .eq v68 c11_i32_72
  let c11_i32_73 : BitVec 32 := 11#32
  let c10_i32_70 : BitVec 32 := 10#32
  let v87 : BitVec 1 := Scalar.cmpi .eq v68 c10_i32_70
  let c7_i32_71 : BitVec 32 := 7#32
  let c9_i32_68 : BitVec 32 := 9#32
  let v85 : BitVec 1 := Scalar.cmpi .eq v68 c9_i32_68
  let c3_i32_69 : BitVec 32 := 3#32
  let c8_i32_66 : BitVec 32 := 8#32
  let v83 : BitVec 1 := Scalar.cmpi .eq v68 c8_i32_66
  let c2_i32_67 : BitVec 32 := 2#32
  let c7_i32_64 : BitVec 32 := 7#32
  let v81 : BitVec 1 := Scalar.cmpi .eq v68 c7_i32_64
  let c6_i32_65 : BitVec 32 := 6#32
  let c6_i32_62 : BitVec 32 := 6#32
  let v79 : BitVec 1 := Scalar.cmpi .eq v68 c6_i32_62
  let c10_i32_63 : BitVec 32 := 10#32
  let c5_i32_60 : BitVec 32 := 5#32
  let v77 : BitVec 1 := Scalar.cmpi .eq v68 c5_i32_60
  let c14_i32_61 : BitVec 32 := 14#32
  let c4_i32_58 : BitVec 32 := 4#32
  let v75 : BitVec 1 := Scalar.cmpi .eq v68 c4_i32_58
  let c13_i32_59 : BitVec 32 := 13#32
  let c3_i32_56 : BitVec 32 := 3#32
  let v73 : BitVec 1 := Scalar.cmpi .eq v68 c3_i32_56
  let c9_i32_57 : BitVec 32 := 9#32
  let c2_i32_54 : BitVec 32 := 2#32
  let v71 : BitVec 1 := Scalar.cmpi .eq v68 c2_i32_54
  let c5_i32_55 : BitVec 32 := 5#32
  let c1_i32_51 : BitVec 32 := 1#32
  let v69 : BitVec 1 := Scalar.cmpi .eq v68 c1_i32_51
  let c1_i32_52 : BitVec 32 := 1#32
  let c0_i32_53 : BitVec 32 := 0#32
  let v70 : BitVec 32 := Scalar.select v69 c1_i32_52 c0_i32_53
  let v72 : BitVec 32 := Scalar.select v71 c5_i32_55 v70
  let v74 : BitVec 32 := Scalar.select v73 c9_i32_57 v72
  let v76 : BitVec 32 := Scalar.select v75 c13_i32_59 v74
  let v78 : BitVec 32 := Scalar.select v77 c14_i32_61 v76
  let v80 : BitVec 32 := Scalar.select v79 c10_i32_63 v78
  let v82 : BitVec 32 := Scalar.select v81 c6_i32_65 v80
  let v84 : BitVec 32 := Scalar.select v83 c2_i32_67 v82
  let v86 : BitVec 32 := Scalar.select v85 c3_i32_69 v84
  let v88 : BitVec 32 := Scalar.select v87 c7_i32_71 v86
  let v90 : BitVec 32 := Scalar.select v89 c11_i32_73 v88
  let v92 : BitVec 32 := Scalar.select v91 c15_i32_75 v90
  let v94 : BitVec 32 := Scalar.select v93 c12_i32_77 v92
  let v96 : BitVec 32 := Scalar.select v95 c8_i32_79 v94
  let v98 : BitVec 32 := Scalar.select v97 c4_i32_81 v96
  let c1_i32_2166 : BitVec 32 := 1#32
  let v1685 : BitVec 32 := Scalar.muli v98 c1_i32_2166
  let v1686 : BitVec 32 := Scalar.addi c0_i32_2167 v1685
  v1686.toNat
def k0_dev58 (d0 : Dev nD) : Nat :=
  let c0_i32_2195 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_48 : BitVec 32 := 1#32
  let v66 : BitVec 32 := Scalar.addi v32 c1_i32_48
  let c32_i32_49 : BitVec 32 := 32#32
  let v67 : BitVec 32 := Scalar.addi v66 c32_i32_49
  let c16_i32_50 : BitVec 32 := 16#32
  let v68 : BitVec 32 := Scalar.remsi v67 c16_i32_50
  let c15_i32_80 : BitVec 32 := 15#32
  let v97 : BitVec 1 := Scalar.cmpi .eq v68 c15_i32_80
  let c4_i32_81 : BitVec 32 := 4#32
  let c14_i32_78 : BitVec 32 := 14#32
  let v95 : BitVec 1 := Scalar.cmpi .eq v68 c14_i32_78
  let c8_i32_79 : BitVec 32 := 8#32
  let c13_i32_76 : BitVec 32 := 13#32
  let v93 : BitVec 1 := Scalar.cmpi .eq v68 c13_i32_76
  let c12_i32_77 : BitVec 32 := 12#32
  let c12_i32_74 : BitVec 32 := 12#32
  let v91 : BitVec 1 := Scalar.cmpi .eq v68 c12_i32_74
  let c15_i32_75 : BitVec 32 := 15#32
  let c11_i32_72 : BitVec 32 := 11#32
  let v89 : BitVec 1 := Scalar.cmpi .eq v68 c11_i32_72
  let c11_i32_73 : BitVec 32 := 11#32
  let c10_i32_70 : BitVec 32 := 10#32
  let v87 : BitVec 1 := Scalar.cmpi .eq v68 c10_i32_70
  let c7_i32_71 : BitVec 32 := 7#32
  let c9_i32_68 : BitVec 32 := 9#32
  let v85 : BitVec 1 := Scalar.cmpi .eq v68 c9_i32_68
  let c3_i32_69 : BitVec 32 := 3#32
  let c8_i32_66 : BitVec 32 := 8#32
  let v83 : BitVec 1 := Scalar.cmpi .eq v68 c8_i32_66
  let c2_i32_67 : BitVec 32 := 2#32
  let c7_i32_64 : BitVec 32 := 7#32
  let v81 : BitVec 1 := Scalar.cmpi .eq v68 c7_i32_64
  let c6_i32_65 : BitVec 32 := 6#32
  let c6_i32_62 : BitVec 32 := 6#32
  let v79 : BitVec 1 := Scalar.cmpi .eq v68 c6_i32_62
  let c10_i32_63 : BitVec 32 := 10#32
  let c5_i32_60 : BitVec 32 := 5#32
  let v77 : BitVec 1 := Scalar.cmpi .eq v68 c5_i32_60
  let c14_i32_61 : BitVec 32 := 14#32
  let c4_i32_58 : BitVec 32 := 4#32
  let v75 : BitVec 1 := Scalar.cmpi .eq v68 c4_i32_58
  let c13_i32_59 : BitVec 32 := 13#32
  let c3_i32_56 : BitVec 32 := 3#32
  let v73 : BitVec 1 := Scalar.cmpi .eq v68 c3_i32_56
  let c9_i32_57 : BitVec 32 := 9#32
  let c2_i32_54 : BitVec 32 := 2#32
  let v71 : BitVec 1 := Scalar.cmpi .eq v68 c2_i32_54
  let c5_i32_55 : BitVec 32 := 5#32
  let c1_i32_51 : BitVec 32 := 1#32
  let v69 : BitVec 1 := Scalar.cmpi .eq v68 c1_i32_51
  let c1_i32_52 : BitVec 32 := 1#32
  let c0_i32_53 : BitVec 32 := 0#32
  let v70 : BitVec 32 := Scalar.select v69 c1_i32_52 c0_i32_53
  let v72 : BitVec 32 := Scalar.select v71 c5_i32_55 v70
  let v74 : BitVec 32 := Scalar.select v73 c9_i32_57 v72
  let v76 : BitVec 32 := Scalar.select v75 c13_i32_59 v74
  let v78 : BitVec 32 := Scalar.select v77 c14_i32_61 v76
  let v80 : BitVec 32 := Scalar.select v79 c10_i32_63 v78
  let v82 : BitVec 32 := Scalar.select v81 c6_i32_65 v80
  let v84 : BitVec 32 := Scalar.select v83 c2_i32_67 v82
  let v86 : BitVec 32 := Scalar.select v85 c3_i32_69 v84
  let v88 : BitVec 32 := Scalar.select v87 c7_i32_71 v86
  let v90 : BitVec 32 := Scalar.select v89 c11_i32_73 v88
  let v92 : BitVec 32 := Scalar.select v91 c15_i32_75 v90
  let v94 : BitVec 32 := Scalar.select v93 c12_i32_77 v92
  let v96 : BitVec 32 := Scalar.select v95 c8_i32_79 v94
  let v98 : BitVec 32 := Scalar.select v97 c4_i32_81 v96
  let c1_i32_2194 : BitVec 32 := 1#32
  let v1705 : BitVec 32 := Scalar.muli v98 c1_i32_2194
  let v1706 : BitVec 32 := Scalar.addi c0_i32_2195 v1705
  v1706.toNat
def k0_dev59 (d0 : Dev nD) : Nat :=
  let c0_i32_2223 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_48 : BitVec 32 := 1#32
  let v66 : BitVec 32 := Scalar.addi v32 c1_i32_48
  let c32_i32_49 : BitVec 32 := 32#32
  let v67 : BitVec 32 := Scalar.addi v66 c32_i32_49
  let c16_i32_50 : BitVec 32 := 16#32
  let v68 : BitVec 32 := Scalar.remsi v67 c16_i32_50
  let c15_i32_80 : BitVec 32 := 15#32
  let v97 : BitVec 1 := Scalar.cmpi .eq v68 c15_i32_80
  let c4_i32_81 : BitVec 32 := 4#32
  let c14_i32_78 : BitVec 32 := 14#32
  let v95 : BitVec 1 := Scalar.cmpi .eq v68 c14_i32_78
  let c8_i32_79 : BitVec 32 := 8#32
  let c13_i32_76 : BitVec 32 := 13#32
  let v93 : BitVec 1 := Scalar.cmpi .eq v68 c13_i32_76
  let c12_i32_77 : BitVec 32 := 12#32
  let c12_i32_74 : BitVec 32 := 12#32
  let v91 : BitVec 1 := Scalar.cmpi .eq v68 c12_i32_74
  let c15_i32_75 : BitVec 32 := 15#32
  let c11_i32_72 : BitVec 32 := 11#32
  let v89 : BitVec 1 := Scalar.cmpi .eq v68 c11_i32_72
  let c11_i32_73 : BitVec 32 := 11#32
  let c10_i32_70 : BitVec 32 := 10#32
  let v87 : BitVec 1 := Scalar.cmpi .eq v68 c10_i32_70
  let c7_i32_71 : BitVec 32 := 7#32
  let c9_i32_68 : BitVec 32 := 9#32
  let v85 : BitVec 1 := Scalar.cmpi .eq v68 c9_i32_68
  let c3_i32_69 : BitVec 32 := 3#32
  let c8_i32_66 : BitVec 32 := 8#32
  let v83 : BitVec 1 := Scalar.cmpi .eq v68 c8_i32_66
  let c2_i32_67 : BitVec 32 := 2#32
  let c7_i32_64 : BitVec 32 := 7#32
  let v81 : BitVec 1 := Scalar.cmpi .eq v68 c7_i32_64
  let c6_i32_65 : BitVec 32 := 6#32
  let c6_i32_62 : BitVec 32 := 6#32
  let v79 : BitVec 1 := Scalar.cmpi .eq v68 c6_i32_62
  let c10_i32_63 : BitVec 32 := 10#32
  let c5_i32_60 : BitVec 32 := 5#32
  let v77 : BitVec 1 := Scalar.cmpi .eq v68 c5_i32_60
  let c14_i32_61 : BitVec 32 := 14#32
  let c4_i32_58 : BitVec 32 := 4#32
  let v75 : BitVec 1 := Scalar.cmpi .eq v68 c4_i32_58
  let c13_i32_59 : BitVec 32 := 13#32
  let c3_i32_56 : BitVec 32 := 3#32
  let v73 : BitVec 1 := Scalar.cmpi .eq v68 c3_i32_56
  let c9_i32_57 : BitVec 32 := 9#32
  let c2_i32_54 : BitVec 32 := 2#32
  let v71 : BitVec 1 := Scalar.cmpi .eq v68 c2_i32_54
  let c5_i32_55 : BitVec 32 := 5#32
  let c1_i32_51 : BitVec 32 := 1#32
  let v69 : BitVec 1 := Scalar.cmpi .eq v68 c1_i32_51
  let c1_i32_52 : BitVec 32 := 1#32
  let c0_i32_53 : BitVec 32 := 0#32
  let v70 : BitVec 32 := Scalar.select v69 c1_i32_52 c0_i32_53
  let v72 : BitVec 32 := Scalar.select v71 c5_i32_55 v70
  let v74 : BitVec 32 := Scalar.select v73 c9_i32_57 v72
  let v76 : BitVec 32 := Scalar.select v75 c13_i32_59 v74
  let v78 : BitVec 32 := Scalar.select v77 c14_i32_61 v76
  let v80 : BitVec 32 := Scalar.select v79 c10_i32_63 v78
  let v82 : BitVec 32 := Scalar.select v81 c6_i32_65 v80
  let v84 : BitVec 32 := Scalar.select v83 c2_i32_67 v82
  let v86 : BitVec 32 := Scalar.select v85 c3_i32_69 v84
  let v88 : BitVec 32 := Scalar.select v87 c7_i32_71 v86
  let v90 : BitVec 32 := Scalar.select v89 c11_i32_73 v88
  let v92 : BitVec 32 := Scalar.select v91 c15_i32_75 v90
  let v94 : BitVec 32 := Scalar.select v93 c12_i32_77 v92
  let v96 : BitVec 32 := Scalar.select v95 c8_i32_79 v94
  let v98 : BitVec 32 := Scalar.select v97 c4_i32_81 v96
  let c1_i32_2222 : BitVec 32 := 1#32
  let v1725 : BitVec 32 := Scalar.muli v98 c1_i32_2222
  let v1726 : BitVec 32 := Scalar.addi c0_i32_2223 v1725
  v1726.toNat
def k0_dev60 (d0 : Dev nD) : Nat :=
  let c0_i32_2251 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_48 : BitVec 32 := 1#32
  let v66 : BitVec 32 := Scalar.addi v32 c1_i32_48
  let c32_i32_49 : BitVec 32 := 32#32
  let v67 : BitVec 32 := Scalar.addi v66 c32_i32_49
  let c16_i32_50 : BitVec 32 := 16#32
  let v68 : BitVec 32 := Scalar.remsi v67 c16_i32_50
  let c15_i32_80 : BitVec 32 := 15#32
  let v97 : BitVec 1 := Scalar.cmpi .eq v68 c15_i32_80
  let c4_i32_81 : BitVec 32 := 4#32
  let c14_i32_78 : BitVec 32 := 14#32
  let v95 : BitVec 1 := Scalar.cmpi .eq v68 c14_i32_78
  let c8_i32_79 : BitVec 32 := 8#32
  let c13_i32_76 : BitVec 32 := 13#32
  let v93 : BitVec 1 := Scalar.cmpi .eq v68 c13_i32_76
  let c12_i32_77 : BitVec 32 := 12#32
  let c12_i32_74 : BitVec 32 := 12#32
  let v91 : BitVec 1 := Scalar.cmpi .eq v68 c12_i32_74
  let c15_i32_75 : BitVec 32 := 15#32
  let c11_i32_72 : BitVec 32 := 11#32
  let v89 : BitVec 1 := Scalar.cmpi .eq v68 c11_i32_72
  let c11_i32_73 : BitVec 32 := 11#32
  let c10_i32_70 : BitVec 32 := 10#32
  let v87 : BitVec 1 := Scalar.cmpi .eq v68 c10_i32_70
  let c7_i32_71 : BitVec 32 := 7#32
  let c9_i32_68 : BitVec 32 := 9#32
  let v85 : BitVec 1 := Scalar.cmpi .eq v68 c9_i32_68
  let c3_i32_69 : BitVec 32 := 3#32
  let c8_i32_66 : BitVec 32 := 8#32
  let v83 : BitVec 1 := Scalar.cmpi .eq v68 c8_i32_66
  let c2_i32_67 : BitVec 32 := 2#32
  let c7_i32_64 : BitVec 32 := 7#32
  let v81 : BitVec 1 := Scalar.cmpi .eq v68 c7_i32_64
  let c6_i32_65 : BitVec 32 := 6#32
  let c6_i32_62 : BitVec 32 := 6#32
  let v79 : BitVec 1 := Scalar.cmpi .eq v68 c6_i32_62
  let c10_i32_63 : BitVec 32 := 10#32
  let c5_i32_60 : BitVec 32 := 5#32
  let v77 : BitVec 1 := Scalar.cmpi .eq v68 c5_i32_60
  let c14_i32_61 : BitVec 32 := 14#32
  let c4_i32_58 : BitVec 32 := 4#32
  let v75 : BitVec 1 := Scalar.cmpi .eq v68 c4_i32_58
  let c13_i32_59 : BitVec 32 := 13#32
  let c3_i32_56 : BitVec 32 := 3#32
  let v73 : BitVec 1 := Scalar.cmpi .eq v68 c3_i32_56
  let c9_i32_57 : BitVec 32 := 9#32
  let c2_i32_54 : BitVec 32 := 2#32
  let v71 : BitVec 1 := Scalar.cmpi .eq v68 c2_i32_54
  let c5_i32_55 : BitVec 32 := 5#32
  let c1_i32_51 : BitVec 32 := 1#32
  let v69 : BitVec 1 := Scalar.cmpi .eq v68 c1_i32_51
  let c1_i32_52 : BitVec 32 := 1#32
  let c0_i32_53 : BitVec 32 := 0#32
  let v70 : BitVec 32 := Scalar.select v69 c1_i32_52 c0_i32_53
  let v72 : BitVec 32 := Scalar.select v71 c5_i32_55 v70
  let v74 : BitVec 32 := Scalar.select v73 c9_i32_57 v72
  let v76 : BitVec 32 := Scalar.select v75 c13_i32_59 v74
  let v78 : BitVec 32 := Scalar.select v77 c14_i32_61 v76
  let v80 : BitVec 32 := Scalar.select v79 c10_i32_63 v78
  let v82 : BitVec 32 := Scalar.select v81 c6_i32_65 v80
  let v84 : BitVec 32 := Scalar.select v83 c2_i32_67 v82
  let v86 : BitVec 32 := Scalar.select v85 c3_i32_69 v84
  let v88 : BitVec 32 := Scalar.select v87 c7_i32_71 v86
  let v90 : BitVec 32 := Scalar.select v89 c11_i32_73 v88
  let v92 : BitVec 32 := Scalar.select v91 c15_i32_75 v90
  let v94 : BitVec 32 := Scalar.select v93 c12_i32_77 v92
  let v96 : BitVec 32 := Scalar.select v95 c8_i32_79 v94
  let v98 : BitVec 32 := Scalar.select v97 c4_i32_81 v96
  let c1_i32_2250 : BitVec 32 := 1#32
  let v1745 : BitVec 32 := Scalar.muli v98 c1_i32_2250
  let v1746 : BitVec 32 := Scalar.addi c0_i32_2251 v1745
  v1746.toNat
def k0_dev61 (d0 : Dev nD) : Nat :=
  let c0_i32_2279 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c_m1_i32 : BitVec 32 := 4294967295#32
  let v33 : BitVec 32 := Scalar.addi v32 c_m1_i32
  let c32_i32 : BitVec 32 := 32#32
  let v34 : BitVec 32 := Scalar.addi v33 c32_i32
  let c16_i32_16 : BitVec 32 := 16#32
  let v35 : BitVec 32 := Scalar.remsi v34 c16_i32_16
  let c15_i32_46 : BitVec 32 := 15#32
  let v64 : BitVec 1 := Scalar.cmpi .eq v35 c15_i32_46
  let c4_i32_47 : BitVec 32 := 4#32
  let c14_i32_44 : BitVec 32 := 14#32
  let v62 : BitVec 1 := Scalar.cmpi .eq v35 c14_i32_44
  let c8_i32_45 : BitVec 32 := 8#32
  let c13_i32_42 : BitVec 32 := 13#32
  let v60 : BitVec 1 := Scalar.cmpi .eq v35 c13_i32_42
  let c12_i32_43 : BitVec 32 := 12#32
  let c12_i32_40 : BitVec 32 := 12#32
  let v58 : BitVec 1 := Scalar.cmpi .eq v35 c12_i32_40
  let c15_i32_41 : BitVec 32 := 15#32
  let c11_i32_38 : BitVec 32 := 11#32
  let v56 : BitVec 1 := Scalar.cmpi .eq v35 c11_i32_38
  let c11_i32_39 : BitVec 32 := 11#32
  let c10_i32_36 : BitVec 32 := 10#32
  let v54 : BitVec 1 := Scalar.cmpi .eq v35 c10_i32_36
  let c7_i32_37 : BitVec 32 := 7#32
  let c9_i32_34 : BitVec 32 := 9#32
  let v52 : BitVec 1 := Scalar.cmpi .eq v35 c9_i32_34
  let c3_i32_35 : BitVec 32 := 3#32
  let c8_i32_32 : BitVec 32 := 8#32
  let v50 : BitVec 1 := Scalar.cmpi .eq v35 c8_i32_32
  let c2_i32_33 : BitVec 32 := 2#32
  let c7_i32_30 : BitVec 32 := 7#32
  let v48 : BitVec 1 := Scalar.cmpi .eq v35 c7_i32_30
  let c6_i32_31 : BitVec 32 := 6#32
  let c6_i32_28 : BitVec 32 := 6#32
  let v46 : BitVec 1 := Scalar.cmpi .eq v35 c6_i32_28
  let c10_i32_29 : BitVec 32 := 10#32
  let c5_i32_26 : BitVec 32 := 5#32
  let v44 : BitVec 1 := Scalar.cmpi .eq v35 c5_i32_26
  let c14_i32_27 : BitVec 32 := 14#32
  let c4_i32_24 : BitVec 32 := 4#32
  let v42 : BitVec 1 := Scalar.cmpi .eq v35 c4_i32_24
  let c13_i32_25 : BitVec 32 := 13#32
  let c3_i32_22 : BitVec 32 := 3#32
  let v40 : BitVec 1 := Scalar.cmpi .eq v35 c3_i32_22
  let c9_i32_23 : BitVec 32 := 9#32
  let c2_i32_20 : BitVec 32 := 2#32
  let v38 : BitVec 1 := Scalar.cmpi .eq v35 c2_i32_20
  let c5_i32_21 : BitVec 32 := 5#32
  let c1_i32_17 : BitVec 32 := 1#32
  let v36 : BitVec 1 := Scalar.cmpi .eq v35 c1_i32_17
  let c1_i32_18 : BitVec 32 := 1#32
  let c0_i32_19 : BitVec 32 := 0#32
  let v37 : BitVec 32 := Scalar.select v36 c1_i32_18 c0_i32_19
  let v39 : BitVec 32 := Scalar.select v38 c5_i32_21 v37
  let v41 : BitVec 32 := Scalar.select v40 c9_i32_23 v39
  let v43 : BitVec 32 := Scalar.select v42 c13_i32_25 v41
  let v45 : BitVec 32 := Scalar.select v44 c14_i32_27 v43
  let v47 : BitVec 32 := Scalar.select v46 c10_i32_29 v45
  let v49 : BitVec 32 := Scalar.select v48 c6_i32_31 v47
  let v51 : BitVec 32 := Scalar.select v50 c2_i32_33 v49
  let v53 : BitVec 32 := Scalar.select v52 c3_i32_35 v51
  let v55 : BitVec 32 := Scalar.select v54 c7_i32_37 v53
  let v57 : BitVec 32 := Scalar.select v56 c11_i32_39 v55
  let v59 : BitVec 32 := Scalar.select v58 c15_i32_41 v57
  let v61 : BitVec 32 := Scalar.select v60 c12_i32_43 v59
  let v63 : BitVec 32 := Scalar.select v62 c8_i32_45 v61
  let v65 : BitVec 32 := Scalar.select v64 c4_i32_47 v63
  let c1_i32_2278 : BitVec 32 := 1#32
  let v1765 : BitVec 32 := Scalar.muli v65 c1_i32_2278
  let v1766 : BitVec 32 := Scalar.addi c0_i32_2279 v1765
  v1766.toNat
def k0_dev62 (d0 : Dev nD) : Nat :=
  let c0_i32_2307 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c_m1_i32 : BitVec 32 := 4294967295#32
  let v33 : BitVec 32 := Scalar.addi v32 c_m1_i32
  let c32_i32 : BitVec 32 := 32#32
  let v34 : BitVec 32 := Scalar.addi v33 c32_i32
  let c16_i32_16 : BitVec 32 := 16#32
  let v35 : BitVec 32 := Scalar.remsi v34 c16_i32_16
  let c15_i32_46 : BitVec 32 := 15#32
  let v64 : BitVec 1 := Scalar.cmpi .eq v35 c15_i32_46
  let c4_i32_47 : BitVec 32 := 4#32
  let c14_i32_44 : BitVec 32 := 14#32
  let v62 : BitVec 1 := Scalar.cmpi .eq v35 c14_i32_44
  let c8_i32_45 : BitVec 32 := 8#32
  let c13_i32_42 : BitVec 32 := 13#32
  let v60 : BitVec 1 := Scalar.cmpi .eq v35 c13_i32_42
  let c12_i32_43 : BitVec 32 := 12#32
  let c12_i32_40 : BitVec 32 := 12#32
  let v58 : BitVec 1 := Scalar.cmpi .eq v35 c12_i32_40
  let c15_i32_41 : BitVec 32 := 15#32
  let c11_i32_38 : BitVec 32 := 11#32
  let v56 : BitVec 1 := Scalar.cmpi .eq v35 c11_i32_38
  let c11_i32_39 : BitVec 32 := 11#32
  let c10_i32_36 : BitVec 32 := 10#32
  let v54 : BitVec 1 := Scalar.cmpi .eq v35 c10_i32_36
  let c7_i32_37 : BitVec 32 := 7#32
  let c9_i32_34 : BitVec 32 := 9#32
  let v52 : BitVec 1 := Scalar.cmpi .eq v35 c9_i32_34
  let c3_i32_35 : BitVec 32 := 3#32
  let c8_i32_32 : BitVec 32 := 8#32
  let v50 : BitVec 1 := Scalar.cmpi .eq v35 c8_i32_32
  let c2_i32_33 : BitVec 32 := 2#32
  let c7_i32_30 : BitVec 32 := 7#32
  let v48 : BitVec 1 := Scalar.cmpi .eq v35 c7_i32_30
  let c6_i32_31 : BitVec 32 := 6#32
  let c6_i32_28 : BitVec 32 := 6#32
  let v46 : BitVec 1 := Scalar.cmpi .eq v35 c6_i32_28
  let c10_i32_29 : BitVec 32 := 10#32
  let c5_i32_26 : BitVec 32 := 5#32
  let v44 : BitVec 1 := Scalar.cmpi .eq v35 c5_i32_26
  let c14_i32_27 : BitVec 32 := 14#32
  let c4_i32_24 : BitVec 32 := 4#32
  let v42 : BitVec 1 := Scalar.cmpi .eq v35 c4_i32_24
  let c13_i32_25 : BitVec 32 := 13#32
  let c3_i32_22 : BitVec 32 := 3#32
  let v40 : BitVec 1 := Scalar.cmpi .eq v35 c3_i32_22
  let c9_i32_23 : BitVec 32 := 9#32
  let c2_i32_20 : BitVec 32 := 2#32
  let v38 : BitVec 1 := Scalar.cmpi .eq v35 c2_i32_20
  let c5_i32_21 : BitVec 32 := 5#32
  let c1_i32_17 : BitVec 32 := 1#32
  let v36 : BitVec 1 := Scalar.cmpi .eq v35 c1_i32_17
  let c1_i32_18 : BitVec 32 := 1#32
  let c0_i32_19 : BitVec 32 := 0#32
  let v37 : BitVec 32 := Scalar.select v36 c1_i32_18 c0_i32_19
  let v39 : BitVec 32 := Scalar.select v38 c5_i32_21 v37
  let v41 : BitVec 32 := Scalar.select v40 c9_i32_23 v39
  let v43 : BitVec 32 := Scalar.select v42 c13_i32_25 v41
  let v45 : BitVec 32 := Scalar.select v44 c14_i32_27 v43
  let v47 : BitVec 32 := Scalar.select v46 c10_i32_29 v45
  let v49 : BitVec 32 := Scalar.select v48 c6_i32_31 v47
  let v51 : BitVec 32 := Scalar.select v50 c2_i32_33 v49
  let v53 : BitVec 32 := Scalar.select v52 c3_i32_35 v51
  let v55 : BitVec 32 := Scalar.select v54 c7_i32_37 v53
  let v57 : BitVec 32 := Scalar.select v56 c11_i32_39 v55
  let v59 : BitVec 32 := Scalar.select v58 c15_i32_41 v57
  let v61 : BitVec 32 := Scalar.select v60 c12_i32_43 v59
  let v63 : BitVec 32 := Scalar.select v62 c8_i32_45 v61
  let v65 : BitVec 32 := Scalar.select v64 c4_i32_47 v63
  let c1_i32_2306 : BitVec 32 := 1#32
  let v1785 : BitVec 32 := Scalar.muli v65 c1_i32_2306
  let v1786 : BitVec 32 := Scalar.addi c0_i32_2307 v1785
  v1786.toNat
def k0_dev63 (d0 : Dev nD) : Nat :=
  let c0_i32_2335 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c_m1_i32 : BitVec 32 := 4294967295#32
  let v33 : BitVec 32 := Scalar.addi v32 c_m1_i32
  let c32_i32 : BitVec 32 := 32#32
  let v34 : BitVec 32 := Scalar.addi v33 c32_i32
  let c16_i32_16 : BitVec 32 := 16#32
  let v35 : BitVec 32 := Scalar.remsi v34 c16_i32_16
  let c15_i32_46 : BitVec 32 := 15#32
  let v64 : BitVec 1 := Scalar.cmpi .eq v35 c15_i32_46
  let c4_i32_47 : BitVec 32 := 4#32
  let c14_i32_44 : BitVec 32 := 14#32
  let v62 : BitVec 1 := Scalar.cmpi .eq v35 c14_i32_44
  let c8_i32_45 : BitVec 32 := 8#32
  let c13_i32_42 : BitVec 32 := 13#32
  let v60 : BitVec 1 := Scalar.cmpi .eq v35 c13_i32_42
  let c12_i32_43 : BitVec 32 := 12#32
  let c12_i32_40 : BitVec 32 := 12#32
  let v58 : BitVec 1 := Scalar.cmpi .eq v35 c12_i32_40
  let c15_i32_41 : BitVec 32 := 15#32
  let c11_i32_38 : BitVec 32 := 11#32
  let v56 : BitVec 1 := Scalar.cmpi .eq v35 c11_i32_38
  let c11_i32_39 : BitVec 32 := 11#32
  let c10_i32_36 : BitVec 32 := 10#32
  let v54 : BitVec 1 := Scalar.cmpi .eq v35 c10_i32_36
  let c7_i32_37 : BitVec 32 := 7#32
  let c9_i32_34 : BitVec 32 := 9#32
  let v52 : BitVec 1 := Scalar.cmpi .eq v35 c9_i32_34
  let c3_i32_35 : BitVec 32 := 3#32
  let c8_i32_32 : BitVec 32 := 8#32
  let v50 : BitVec 1 := Scalar.cmpi .eq v35 c8_i32_32
  let c2_i32_33 : BitVec 32 := 2#32
  let c7_i32_30 : BitVec 32 := 7#32
  let v48 : BitVec 1 := Scalar.cmpi .eq v35 c7_i32_30
  let c6_i32_31 : BitVec 32 := 6#32
  let c6_i32_28 : BitVec 32 := 6#32
  let v46 : BitVec 1 := Scalar.cmpi .eq v35 c6_i32_28
  let c10_i32_29 : BitVec 32 := 10#32
  let c5_i32_26 : BitVec 32 := 5#32
  let v44 : BitVec 1 := Scalar.cmpi .eq v35 c5_i32_26
  let c14_i32_27 : BitVec 32 := 14#32
  let c4_i32_24 : BitVec 32 := 4#32
  let v42 : BitVec 1 := Scalar.cmpi .eq v35 c4_i32_24
  let c13_i32_25 : BitVec 32 := 13#32
  let c3_i32_22 : BitVec 32 := 3#32
  let v40 : BitVec 1 := Scalar.cmpi .eq v35 c3_i32_22
  let c9_i32_23 : BitVec 32 := 9#32
  let c2_i32_20 : BitVec 32 := 2#32
  let v38 : BitVec 1 := Scalar.cmpi .eq v35 c2_i32_20
  let c5_i32_21 : BitVec 32 := 5#32
  let c1_i32_17 : BitVec 32 := 1#32
  let v36 : BitVec 1 := Scalar.cmpi .eq v35 c1_i32_17
  let c1_i32_18 : BitVec 32 := 1#32
  let c0_i32_19 : BitVec 32 := 0#32
  let v37 : BitVec 32 := Scalar.select v36 c1_i32_18 c0_i32_19
  let v39 : BitVec 32 := Scalar.select v38 c5_i32_21 v37
  let v41 : BitVec 32 := Scalar.select v40 c9_i32_23 v39
  let v43 : BitVec 32 := Scalar.select v42 c13_i32_25 v41
  let v45 : BitVec 32 := Scalar.select v44 c14_i32_27 v43
  let v47 : BitVec 32 := Scalar.select v46 c10_i32_29 v45
  let v49 : BitVec 32 := Scalar.select v48 c6_i32_31 v47
  let v51 : BitVec 32 := Scalar.select v50 c2_i32_33 v49
  let v53 : BitVec 32 := Scalar.select v52 c3_i32_35 v51
  let v55 : BitVec 32 := Scalar.select v54 c7_i32_37 v53
  let v57 : BitVec 32 := Scalar.select v56 c11_i32_39 v55
  let v59 : BitVec 32 := Scalar.select v58 c15_i32_41 v57
  let v61 : BitVec 32 := Scalar.select v60 c12_i32_43 v59
  let v63 : BitVec 32 := Scalar.select v62 c8_i32_45 v61
  let v65 : BitVec 32 := Scalar.select v64 c4_i32_47 v63
  let c1_i32_2334 : BitVec 32 := 1#32
  let v1805 : BitVec 32 := Scalar.muli v65 c1_i32_2334
  let v1806 : BitVec 32 := Scalar.addi c0_i32_2335 v1805
  v1806.toNat
def k0_dev64 (d0 : Dev nD) : Nat :=
  let c0_i32_2363 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c_m1_i32 : BitVec 32 := 4294967295#32
  let v33 : BitVec 32 := Scalar.addi v32 c_m1_i32
  let c32_i32 : BitVec 32 := 32#32
  let v34 : BitVec 32 := Scalar.addi v33 c32_i32
  let c16_i32_16 : BitVec 32 := 16#32
  let v35 : BitVec 32 := Scalar.remsi v34 c16_i32_16
  let c15_i32_46 : BitVec 32 := 15#32
  let v64 : BitVec 1 := Scalar.cmpi .eq v35 c15_i32_46
  let c4_i32_47 : BitVec 32 := 4#32
  let c14_i32_44 : BitVec 32 := 14#32
  let v62 : BitVec 1 := Scalar.cmpi .eq v35 c14_i32_44
  let c8_i32_45 : BitVec 32 := 8#32
  let c13_i32_42 : BitVec 32 := 13#32
  let v60 : BitVec 1 := Scalar.cmpi .eq v35 c13_i32_42
  let c12_i32_43 : BitVec 32 := 12#32
  let c12_i32_40 : BitVec 32 := 12#32
  let v58 : BitVec 1 := Scalar.cmpi .eq v35 c12_i32_40
  let c15_i32_41 : BitVec 32 := 15#32
  let c11_i32_38 : BitVec 32 := 11#32
  let v56 : BitVec 1 := Scalar.cmpi .eq v35 c11_i32_38
  let c11_i32_39 : BitVec 32 := 11#32
  let c10_i32_36 : BitVec 32 := 10#32
  let v54 : BitVec 1 := Scalar.cmpi .eq v35 c10_i32_36
  let c7_i32_37 : BitVec 32 := 7#32
  let c9_i32_34 : BitVec 32 := 9#32
  let v52 : BitVec 1 := Scalar.cmpi .eq v35 c9_i32_34
  let c3_i32_35 : BitVec 32 := 3#32
  let c8_i32_32 : BitVec 32 := 8#32
  let v50 : BitVec 1 := Scalar.cmpi .eq v35 c8_i32_32
  let c2_i32_33 : BitVec 32 := 2#32
  let c7_i32_30 : BitVec 32 := 7#32
  let v48 : BitVec 1 := Scalar.cmpi .eq v35 c7_i32_30
  let c6_i32_31 : BitVec 32 := 6#32
  let c6_i32_28 : BitVec 32 := 6#32
  let v46 : BitVec 1 := Scalar.cmpi .eq v35 c6_i32_28
  let c10_i32_29 : BitVec 32 := 10#32
  let c5_i32_26 : BitVec 32 := 5#32
  let v44 : BitVec 1 := Scalar.cmpi .eq v35 c5_i32_26
  let c14_i32_27 : BitVec 32 := 14#32
  let c4_i32_24 : BitVec 32 := 4#32
  let v42 : BitVec 1 := Scalar.cmpi .eq v35 c4_i32_24
  let c13_i32_25 : BitVec 32 := 13#32
  let c3_i32_22 : BitVec 32 := 3#32
  let v40 : BitVec 1 := Scalar.cmpi .eq v35 c3_i32_22
  let c9_i32_23 : BitVec 32 := 9#32
  let c2_i32_20 : BitVec 32 := 2#32
  let v38 : BitVec 1 := Scalar.cmpi .eq v35 c2_i32_20
  let c5_i32_21 : BitVec 32 := 5#32
  let c1_i32_17 : BitVec 32 := 1#32
  let v36 : BitVec 1 := Scalar.cmpi .eq v35 c1_i32_17
  let c1_i32_18 : BitVec 32 := 1#32
  let c0_i32_19 : BitVec 32 := 0#32
  let v37 : BitVec 32 := Scalar.select v36 c1_i32_18 c0_i32_19
  let v39 : BitVec 32 := Scalar.select v38 c5_i32_21 v37
  let v41 : BitVec 32 := Scalar.select v40 c9_i32_23 v39
  let v43 : BitVec 32 := Scalar.select v42 c13_i32_25 v41
  let v45 : BitVec 32 := Scalar.select v44 c14_i32_27 v43
  let v47 : BitVec 32 := Scalar.select v46 c10_i32_29 v45
  let v49 : BitVec 32 := Scalar.select v48 c6_i32_31 v47
  let v51 : BitVec 32 := Scalar.select v50 c2_i32_33 v49
  let v53 : BitVec 32 := Scalar.select v52 c3_i32_35 v51
  let v55 : BitVec 32 := Scalar.select v54 c7_i32_37 v53
  let v57 : BitVec 32 := Scalar.select v56 c11_i32_39 v55
  let v59 : BitVec 32 := Scalar.select v58 c15_i32_41 v57
  let v61 : BitVec 32 := Scalar.select v60 c12_i32_43 v59
  let v63 : BitVec 32 := Scalar.select v62 c8_i32_45 v61
  let v65 : BitVec 32 := Scalar.select v64 c4_i32_47 v63
  let c1_i32_2362 : BitVec 32 := 1#32
  let v1825 : BitVec 32 := Scalar.muli v65 c1_i32_2362
  let v1826 : BitVec 32 := Scalar.addi c0_i32_2363 v1825
  v1826.toNat
def k0_dev65 (d0 : Dev nD) : Nat :=
  let c0_i32_2391 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c_m1_i32 : BitVec 32 := 4294967295#32
  let v33 : BitVec 32 := Scalar.addi v32 c_m1_i32
  let c32_i32 : BitVec 32 := 32#32
  let v34 : BitVec 32 := Scalar.addi v33 c32_i32
  let c16_i32_16 : BitVec 32 := 16#32
  let v35 : BitVec 32 := Scalar.remsi v34 c16_i32_16
  let c15_i32_46 : BitVec 32 := 15#32
  let v64 : BitVec 1 := Scalar.cmpi .eq v35 c15_i32_46
  let c4_i32_47 : BitVec 32 := 4#32
  let c14_i32_44 : BitVec 32 := 14#32
  let v62 : BitVec 1 := Scalar.cmpi .eq v35 c14_i32_44
  let c8_i32_45 : BitVec 32 := 8#32
  let c13_i32_42 : BitVec 32 := 13#32
  let v60 : BitVec 1 := Scalar.cmpi .eq v35 c13_i32_42
  let c12_i32_43 : BitVec 32 := 12#32
  let c12_i32_40 : BitVec 32 := 12#32
  let v58 : BitVec 1 := Scalar.cmpi .eq v35 c12_i32_40
  let c15_i32_41 : BitVec 32 := 15#32
  let c11_i32_38 : BitVec 32 := 11#32
  let v56 : BitVec 1 := Scalar.cmpi .eq v35 c11_i32_38
  let c11_i32_39 : BitVec 32 := 11#32
  let c10_i32_36 : BitVec 32 := 10#32
  let v54 : BitVec 1 := Scalar.cmpi .eq v35 c10_i32_36
  let c7_i32_37 : BitVec 32 := 7#32
  let c9_i32_34 : BitVec 32 := 9#32
  let v52 : BitVec 1 := Scalar.cmpi .eq v35 c9_i32_34
  let c3_i32_35 : BitVec 32 := 3#32
  let c8_i32_32 : BitVec 32 := 8#32
  let v50 : BitVec 1 := Scalar.cmpi .eq v35 c8_i32_32
  let c2_i32_33 : BitVec 32 := 2#32
  let c7_i32_30 : BitVec 32 := 7#32
  let v48 : BitVec 1 := Scalar.cmpi .eq v35 c7_i32_30
  let c6_i32_31 : BitVec 32 := 6#32
  let c6_i32_28 : BitVec 32 := 6#32
  let v46 : BitVec 1 := Scalar.cmpi .eq v35 c6_i32_28
  let c10_i32_29 : BitVec 32 := 10#32
  let c5_i32_26 : BitVec 32 := 5#32
  let v44 : BitVec 1 := Scalar.cmpi .eq v35 c5_i32_26
  let c14_i32_27 : BitVec 32 := 14#32
  let c4_i32_24 : BitVec 32 := 4#32
  let v42 : BitVec 1 := Scalar.cmpi .eq v35 c4_i32_24
  let c13_i32_25 : BitVec 32 := 13#32
  let c3_i32_22 : BitVec 32 := 3#32
  let v40 : BitVec 1 := Scalar.cmpi .eq v35 c3_i32_22
  let c9_i32_23 : BitVec 32 := 9#32
  let c2_i32_20 : BitVec 32 := 2#32
  let v38 : BitVec 1 := Scalar.cmpi .eq v35 c2_i32_20
  let c5_i32_21 : BitVec 32 := 5#32
  let c1_i32_17 : BitVec 32 := 1#32
  let v36 : BitVec 1 := Scalar.cmpi .eq v35 c1_i32_17
  let c1_i32_18 : BitVec 32 := 1#32
  let c0_i32_19 : BitVec 32 := 0#32
  let v37 : BitVec 32 := Scalar.select v36 c1_i32_18 c0_i32_19
  let v39 : BitVec 32 := Scalar.select v38 c5_i32_21 v37
  let v41 : BitVec 32 := Scalar.select v40 c9_i32_23 v39
  let v43 : BitVec 32 := Scalar.select v42 c13_i32_25 v41
  let v45 : BitVec 32 := Scalar.select v44 c14_i32_27 v43
  let v47 : BitVec 32 := Scalar.select v46 c10_i32_29 v45
  let v49 : BitVec 32 := Scalar.select v48 c6_i32_31 v47
  let v51 : BitVec 32 := Scalar.select v50 c2_i32_33 v49
  let v53 : BitVec 32 := Scalar.select v52 c3_i32_35 v51
  let v55 : BitVec 32 := Scalar.select v54 c7_i32_37 v53
  let v57 : BitVec 32 := Scalar.select v56 c11_i32_39 v55
  let v59 : BitVec 32 := Scalar.select v58 c15_i32_41 v57
  let v61 : BitVec 32 := Scalar.select v60 c12_i32_43 v59
  let v63 : BitVec 32 := Scalar.select v62 c8_i32_45 v61
  let v65 : BitVec 32 := Scalar.select v64 c4_i32_47 v63
  let c1_i32_2390 : BitVec 32 := 1#32
  let v1845 : BitVec 32 := Scalar.muli v65 c1_i32_2390
  let v1846 : BitVec 32 := Scalar.addi c0_i32_2391 v1845
  v1846.toNat
def k0_dev66 (d0 : Dev nD) : Nat :=
  let c0_i32_2419 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c_m1_i32 : BitVec 32 := 4294967295#32
  let v33 : BitVec 32 := Scalar.addi v32 c_m1_i32
  let c32_i32 : BitVec 32 := 32#32
  let v34 : BitVec 32 := Scalar.addi v33 c32_i32
  let c16_i32_16 : BitVec 32 := 16#32
  let v35 : BitVec 32 := Scalar.remsi v34 c16_i32_16
  let c15_i32_46 : BitVec 32 := 15#32
  let v64 : BitVec 1 := Scalar.cmpi .eq v35 c15_i32_46
  let c4_i32_47 : BitVec 32 := 4#32
  let c14_i32_44 : BitVec 32 := 14#32
  let v62 : BitVec 1 := Scalar.cmpi .eq v35 c14_i32_44
  let c8_i32_45 : BitVec 32 := 8#32
  let c13_i32_42 : BitVec 32 := 13#32
  let v60 : BitVec 1 := Scalar.cmpi .eq v35 c13_i32_42
  let c12_i32_43 : BitVec 32 := 12#32
  let c12_i32_40 : BitVec 32 := 12#32
  let v58 : BitVec 1 := Scalar.cmpi .eq v35 c12_i32_40
  let c15_i32_41 : BitVec 32 := 15#32
  let c11_i32_38 : BitVec 32 := 11#32
  let v56 : BitVec 1 := Scalar.cmpi .eq v35 c11_i32_38
  let c11_i32_39 : BitVec 32 := 11#32
  let c10_i32_36 : BitVec 32 := 10#32
  let v54 : BitVec 1 := Scalar.cmpi .eq v35 c10_i32_36
  let c7_i32_37 : BitVec 32 := 7#32
  let c9_i32_34 : BitVec 32 := 9#32
  let v52 : BitVec 1 := Scalar.cmpi .eq v35 c9_i32_34
  let c3_i32_35 : BitVec 32 := 3#32
  let c8_i32_32 : BitVec 32 := 8#32
  let v50 : BitVec 1 := Scalar.cmpi .eq v35 c8_i32_32
  let c2_i32_33 : BitVec 32 := 2#32
  let c7_i32_30 : BitVec 32 := 7#32
  let v48 : BitVec 1 := Scalar.cmpi .eq v35 c7_i32_30
  let c6_i32_31 : BitVec 32 := 6#32
  let c6_i32_28 : BitVec 32 := 6#32
  let v46 : BitVec 1 := Scalar.cmpi .eq v35 c6_i32_28
  let c10_i32_29 : BitVec 32 := 10#32
  let c5_i32_26 : BitVec 32 := 5#32
  let v44 : BitVec 1 := Scalar.cmpi .eq v35 c5_i32_26
  let c14_i32_27 : BitVec 32 := 14#32
  let c4_i32_24 : BitVec 32 := 4#32
  let v42 : BitVec 1 := Scalar.cmpi .eq v35 c4_i32_24
  let c13_i32_25 : BitVec 32 := 13#32
  let c3_i32_22 : BitVec 32 := 3#32
  let v40 : BitVec 1 := Scalar.cmpi .eq v35 c3_i32_22
  let c9_i32_23 : BitVec 32 := 9#32
  let c2_i32_20 : BitVec 32 := 2#32
  let v38 : BitVec 1 := Scalar.cmpi .eq v35 c2_i32_20
  let c5_i32_21 : BitVec 32 := 5#32
  let c1_i32_17 : BitVec 32 := 1#32
  let v36 : BitVec 1 := Scalar.cmpi .eq v35 c1_i32_17
  let c1_i32_18 : BitVec 32 := 1#32
  let c0_i32_19 : BitVec 32 := 0#32
  let v37 : BitVec 32 := Scalar.select v36 c1_i32_18 c0_i32_19
  let v39 : BitVec 32 := Scalar.select v38 c5_i32_21 v37
  let v41 : BitVec 32 := Scalar.select v40 c9_i32_23 v39
  let v43 : BitVec 32 := Scalar.select v42 c13_i32_25 v41
  let v45 : BitVec 32 := Scalar.select v44 c14_i32_27 v43
  let v47 : BitVec 32 := Scalar.select v46 c10_i32_29 v45
  let v49 : BitVec 32 := Scalar.select v48 c6_i32_31 v47
  let v51 : BitVec 32 := Scalar.select v50 c2_i32_33 v49
  let v53 : BitVec 32 := Scalar.select v52 c3_i32_35 v51
  let v55 : BitVec 32 := Scalar.select v54 c7_i32_37 v53
  let v57 : BitVec 32 := Scalar.select v56 c11_i32_39 v55
  let v59 : BitVec 32 := Scalar.select v58 c15_i32_41 v57
  let v61 : BitVec 32 := Scalar.select v60 c12_i32_43 v59
  let v63 : BitVec 32 := Scalar.select v62 c8_i32_45 v61
  let v65 : BitVec 32 := Scalar.select v64 c4_i32_47 v63
  let c1_i32_2418 : BitVec 32 := 1#32
  let v1865 : BitVec 32 := Scalar.muli v65 c1_i32_2418
  let v1866 : BitVec 32 := Scalar.addi c0_i32_2419 v1865
  v1866.toNat
def k0_dev67 (d0 : Dev nD) : Nat :=
  let c0_i32_2447 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c_m1_i32 : BitVec 32 := 4294967295#32
  let v33 : BitVec 32 := Scalar.addi v32 c_m1_i32
  let c32_i32 : BitVec 32 := 32#32
  let v34 : BitVec 32 := Scalar.addi v33 c32_i32
  let c16_i32_16 : BitVec 32 := 16#32
  let v35 : BitVec 32 := Scalar.remsi v34 c16_i32_16
  let c15_i32_46 : BitVec 32 := 15#32
  let v64 : BitVec 1 := Scalar.cmpi .eq v35 c15_i32_46
  let c4_i32_47 : BitVec 32 := 4#32
  let c14_i32_44 : BitVec 32 := 14#32
  let v62 : BitVec 1 := Scalar.cmpi .eq v35 c14_i32_44
  let c8_i32_45 : BitVec 32 := 8#32
  let c13_i32_42 : BitVec 32 := 13#32
  let v60 : BitVec 1 := Scalar.cmpi .eq v35 c13_i32_42
  let c12_i32_43 : BitVec 32 := 12#32
  let c12_i32_40 : BitVec 32 := 12#32
  let v58 : BitVec 1 := Scalar.cmpi .eq v35 c12_i32_40
  let c15_i32_41 : BitVec 32 := 15#32
  let c11_i32_38 : BitVec 32 := 11#32
  let v56 : BitVec 1 := Scalar.cmpi .eq v35 c11_i32_38
  let c11_i32_39 : BitVec 32 := 11#32
  let c10_i32_36 : BitVec 32 := 10#32
  let v54 : BitVec 1 := Scalar.cmpi .eq v35 c10_i32_36
  let c7_i32_37 : BitVec 32 := 7#32
  let c9_i32_34 : BitVec 32 := 9#32
  let v52 : BitVec 1 := Scalar.cmpi .eq v35 c9_i32_34
  let c3_i32_35 : BitVec 32 := 3#32
  let c8_i32_32 : BitVec 32 := 8#32
  let v50 : BitVec 1 := Scalar.cmpi .eq v35 c8_i32_32
  let c2_i32_33 : BitVec 32 := 2#32
  let c7_i32_30 : BitVec 32 := 7#32
  let v48 : BitVec 1 := Scalar.cmpi .eq v35 c7_i32_30
  let c6_i32_31 : BitVec 32 := 6#32
  let c6_i32_28 : BitVec 32 := 6#32
  let v46 : BitVec 1 := Scalar.cmpi .eq v35 c6_i32_28
  let c10_i32_29 : BitVec 32 := 10#32
  let c5_i32_26 : BitVec 32 := 5#32
  let v44 : BitVec 1 := Scalar.cmpi .eq v35 c5_i32_26
  let c14_i32_27 : BitVec 32 := 14#32
  let c4_i32_24 : BitVec 32 := 4#32
  let v42 : BitVec 1 := Scalar.cmpi .eq v35 c4_i32_24
  let c13_i32_25 : BitVec 32 := 13#32
  let c3_i32_22 : BitVec 32 := 3#32
  let v40 : BitVec 1 := Scalar.cmpi .eq v35 c3_i32_22
  let c9_i32_23 : BitVec 32 := 9#32
  let c2_i32_20 : BitVec 32 := 2#32
  let v38 : BitVec 1 := Scalar.cmpi .eq v35 c2_i32_20
  let c5_i32_21 : BitVec 32 := 5#32
  let c1_i32_17 : BitVec 32 := 1#32
  let v36 : BitVec 1 := Scalar.cmpi .eq v35 c1_i32_17
  let c1_i32_18 : BitVec 32 := 1#32
  let c0_i32_19 : BitVec 32 := 0#32
  let v37 : BitVec 32 := Scalar.select v36 c1_i32_18 c0_i32_19
  let v39 : BitVec 32 := Scalar.select v38 c5_i32_21 v37
  let v41 : BitVec 32 := Scalar.select v40 c9_i32_23 v39
  let v43 : BitVec 32 := Scalar.select v42 c13_i32_25 v41
  let v45 : BitVec 32 := Scalar.select v44 c14_i32_27 v43
  let v47 : BitVec 32 := Scalar.select v46 c10_i32_29 v45
  let v49 : BitVec 32 := Scalar.select v48 c6_i32_31 v47
  let v51 : BitVec 32 := Scalar.select v50 c2_i32_33 v49
  let v53 : BitVec 32 := Scalar.select v52 c3_i32_35 v51
  let v55 : BitVec 32 := Scalar.select v54 c7_i32_37 v53
  let v57 : BitVec 32 := Scalar.select v56 c11_i32_39 v55
  let v59 : BitVec 32 := Scalar.select v58 c15_i32_41 v57
  let v61 : BitVec 32 := Scalar.select v60 c12_i32_43 v59
  let v63 : BitVec 32 := Scalar.select v62 c8_i32_45 v61
  let v65 : BitVec 32 := Scalar.select v64 c4_i32_47 v63
  let c1_i32_2446 : BitVec 32 := 1#32
  let v1885 : BitVec 32 := Scalar.muli v65 c1_i32_2446
  let v1886 : BitVec 32 := Scalar.addi c0_i32_2447 v1885
  v1886.toNat
def k0_dev68 (d0 : Dev nD) : Nat :=
  let c0_i32_2475 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c_m1_i32 : BitVec 32 := 4294967295#32
  let v33 : BitVec 32 := Scalar.addi v32 c_m1_i32
  let c32_i32 : BitVec 32 := 32#32
  let v34 : BitVec 32 := Scalar.addi v33 c32_i32
  let c16_i32_16 : BitVec 32 := 16#32
  let v35 : BitVec 32 := Scalar.remsi v34 c16_i32_16
  let c15_i32_46 : BitVec 32 := 15#32
  let v64 : BitVec 1 := Scalar.cmpi .eq v35 c15_i32_46
  let c4_i32_47 : BitVec 32 := 4#32
  let c14_i32_44 : BitVec 32 := 14#32
  let v62 : BitVec 1 := Scalar.cmpi .eq v35 c14_i32_44
  let c8_i32_45 : BitVec 32 := 8#32
  let c13_i32_42 : BitVec 32 := 13#32
  let v60 : BitVec 1 := Scalar.cmpi .eq v35 c13_i32_42
  let c12_i32_43 : BitVec 32 := 12#32
  let c12_i32_40 : BitVec 32 := 12#32
  let v58 : BitVec 1 := Scalar.cmpi .eq v35 c12_i32_40
  let c15_i32_41 : BitVec 32 := 15#32
  let c11_i32_38 : BitVec 32 := 11#32
  let v56 : BitVec 1 := Scalar.cmpi .eq v35 c11_i32_38
  let c11_i32_39 : BitVec 32 := 11#32
  let c10_i32_36 : BitVec 32 := 10#32
  let v54 : BitVec 1 := Scalar.cmpi .eq v35 c10_i32_36
  let c7_i32_37 : BitVec 32 := 7#32
  let c9_i32_34 : BitVec 32 := 9#32
  let v52 : BitVec 1 := Scalar.cmpi .eq v35 c9_i32_34
  let c3_i32_35 : BitVec 32 := 3#32
  let c8_i32_32 : BitVec 32 := 8#32
  let v50 : BitVec 1 := Scalar.cmpi .eq v35 c8_i32_32
  let c2_i32_33 : BitVec 32 := 2#32
  let c7_i32_30 : BitVec 32 := 7#32
  let v48 : BitVec 1 := Scalar.cmpi .eq v35 c7_i32_30
  let c6_i32_31 : BitVec 32 := 6#32
  let c6_i32_28 : BitVec 32 := 6#32
  let v46 : BitVec 1 := Scalar.cmpi .eq v35 c6_i32_28
  let c10_i32_29 : BitVec 32 := 10#32
  let c5_i32_26 : BitVec 32 := 5#32
  let v44 : BitVec 1 := Scalar.cmpi .eq v35 c5_i32_26
  let c14_i32_27 : BitVec 32 := 14#32
  let c4_i32_24 : BitVec 32 := 4#32
  let v42 : BitVec 1 := Scalar.cmpi .eq v35 c4_i32_24
  let c13_i32_25 : BitVec 32 := 13#32
  let c3_i32_22 : BitVec 32 := 3#32
  let v40 : BitVec 1 := Scalar.cmpi .eq v35 c3_i32_22
  let c9_i32_23 : BitVec 32 := 9#32
  let c2_i32_20 : BitVec 32 := 2#32
  let v38 : BitVec 1 := Scalar.cmpi .eq v35 c2_i32_20
  let c5_i32_21 : BitVec 32 := 5#32
  let c1_i32_17 : BitVec 32 := 1#32
  let v36 : BitVec 1 := Scalar.cmpi .eq v35 c1_i32_17
  let c1_i32_18 : BitVec 32 := 1#32
  let c0_i32_19 : BitVec 32 := 0#32
  let v37 : BitVec 32 := Scalar.select v36 c1_i32_18 c0_i32_19
  let v39 : BitVec 32 := Scalar.select v38 c5_i32_21 v37
  let v41 : BitVec 32 := Scalar.select v40 c9_i32_23 v39
  let v43 : BitVec 32 := Scalar.select v42 c13_i32_25 v41
  let v45 : BitVec 32 := Scalar.select v44 c14_i32_27 v43
  let v47 : BitVec 32 := Scalar.select v46 c10_i32_29 v45
  let v49 : BitVec 32 := Scalar.select v48 c6_i32_31 v47
  let v51 : BitVec 32 := Scalar.select v50 c2_i32_33 v49
  let v53 : BitVec 32 := Scalar.select v52 c3_i32_35 v51
  let v55 : BitVec 32 := Scalar.select v54 c7_i32_37 v53
  let v57 : BitVec 32 := Scalar.select v56 c11_i32_39 v55
  let v59 : BitVec 32 := Scalar.select v58 c15_i32_41 v57
  let v61 : BitVec 32 := Scalar.select v60 c12_i32_43 v59
  let v63 : BitVec 32 := Scalar.select v62 c8_i32_45 v61
  let v65 : BitVec 32 := Scalar.select v64 c4_i32_47 v63
  let c1_i32_2474 : BitVec 32 := 1#32
  let v1905 : BitVec 32 := Scalar.muli v65 c1_i32_2474
  let v1906 : BitVec 32 := Scalar.addi c0_i32_2475 v1905
  v1906.toNat
def k0_dev69 (d0 : Dev nD) : Nat :=
  let c0_i32_2714 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c_m1_i32 : BitVec 32 := 4294967295#32
  let v33 : BitVec 32 := Scalar.addi v32 c_m1_i32
  let c32_i32 : BitVec 32 := 32#32
  let v34 : BitVec 32 := Scalar.addi v33 c32_i32
  let c16_i32_16 : BitVec 32 := 16#32
  let v35 : BitVec 32 := Scalar.remsi v34 c16_i32_16
  let c15_i32_46 : BitVec 32 := 15#32
  let v64 : BitVec 1 := Scalar.cmpi .eq v35 c15_i32_46
  let c4_i32_47 : BitVec 32 := 4#32
  let c14_i32_44 : BitVec 32 := 14#32
  let v62 : BitVec 1 := Scalar.cmpi .eq v35 c14_i32_44
  let c8_i32_45 : BitVec 32 := 8#32
  let c13_i32_42 : BitVec 32 := 13#32
  let v60 : BitVec 1 := Scalar.cmpi .eq v35 c13_i32_42
  let c12_i32_43 : BitVec 32 := 12#32
  let c12_i32_40 : BitVec 32 := 12#32
  let v58 : BitVec 1 := Scalar.cmpi .eq v35 c12_i32_40
  let c15_i32_41 : BitVec 32 := 15#32
  let c11_i32_38 : BitVec 32 := 11#32
  let v56 : BitVec 1 := Scalar.cmpi .eq v35 c11_i32_38
  let c11_i32_39 : BitVec 32 := 11#32
  let c10_i32_36 : BitVec 32 := 10#32
  let v54 : BitVec 1 := Scalar.cmpi .eq v35 c10_i32_36
  let c7_i32_37 : BitVec 32 := 7#32
  let c9_i32_34 : BitVec 32 := 9#32
  let v52 : BitVec 1 := Scalar.cmpi .eq v35 c9_i32_34
  let c3_i32_35 : BitVec 32 := 3#32
  let c8_i32_32 : BitVec 32 := 8#32
  let v50 : BitVec 1 := Scalar.cmpi .eq v35 c8_i32_32
  let c2_i32_33 : BitVec 32 := 2#32
  let c7_i32_30 : BitVec 32 := 7#32
  let v48 : BitVec 1 := Scalar.cmpi .eq v35 c7_i32_30
  let c6_i32_31 : BitVec 32 := 6#32
  let c6_i32_28 : BitVec 32 := 6#32
  let v46 : BitVec 1 := Scalar.cmpi .eq v35 c6_i32_28
  let c10_i32_29 : BitVec 32 := 10#32
  let c5_i32_26 : BitVec 32 := 5#32
  let v44 : BitVec 1 := Scalar.cmpi .eq v35 c5_i32_26
  let c14_i32_27 : BitVec 32 := 14#32
  let c4_i32_24 : BitVec 32 := 4#32
  let v42 : BitVec 1 := Scalar.cmpi .eq v35 c4_i32_24
  let c13_i32_25 : BitVec 32 := 13#32
  let c3_i32_22 : BitVec 32 := 3#32
  let v40 : BitVec 1 := Scalar.cmpi .eq v35 c3_i32_22
  let c9_i32_23 : BitVec 32 := 9#32
  let c2_i32_20 : BitVec 32 := 2#32
  let v38 : BitVec 1 := Scalar.cmpi .eq v35 c2_i32_20
  let c5_i32_21 : BitVec 32 := 5#32
  let c1_i32_17 : BitVec 32 := 1#32
  let v36 : BitVec 1 := Scalar.cmpi .eq v35 c1_i32_17
  let c1_i32_18 : BitVec 32 := 1#32
  let c0_i32_19 : BitVec 32 := 0#32
  let v37 : BitVec 32 := Scalar.select v36 c1_i32_18 c0_i32_19
  let v39 : BitVec 32 := Scalar.select v38 c5_i32_21 v37
  let v41 : BitVec 32 := Scalar.select v40 c9_i32_23 v39
  let v43 : BitVec 32 := Scalar.select v42 c13_i32_25 v41
  let v45 : BitVec 32 := Scalar.select v44 c14_i32_27 v43
  let v47 : BitVec 32 := Scalar.select v46 c10_i32_29 v45
  let v49 : BitVec 32 := Scalar.select v48 c6_i32_31 v47
  let v51 : BitVec 32 := Scalar.select v50 c2_i32_33 v49
  let v53 : BitVec 32 := Scalar.select v52 c3_i32_35 v51
  let v55 : BitVec 32 := Scalar.select v54 c7_i32_37 v53
  let v57 : BitVec 32 := Scalar.select v56 c11_i32_39 v55
  let v59 : BitVec 32 := Scalar.select v58 c15_i32_41 v57
  let v61 : BitVec 32 := Scalar.select v60 c12_i32_43 v59
  let v63 : BitVec 32 := Scalar.select v62 c8_i32_45 v61
  let v65 : BitVec 32 := Scalar.select v64 c4_i32_47 v63
  let c1_i32_2713 : BitVec 32 := 1#32
  let v2048 : BitVec 32 := Scalar.muli v65 c1_i32_2713
  let v2049 : BitVec 32 := Scalar.addi c0_i32_2714 v2048
  v2049.toNat
def k0_dev70 (d0 : Dev nD) : Nat :=
  let c0_i32_2717 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_48 : BitVec 32 := 1#32
  let v66 : BitVec 32 := Scalar.addi v32 c1_i32_48
  let c32_i32_49 : BitVec 32 := 32#32
  let v67 : BitVec 32 := Scalar.addi v66 c32_i32_49
  let c16_i32_50 : BitVec 32 := 16#32
  let v68 : BitVec 32 := Scalar.remsi v67 c16_i32_50
  let c15_i32_80 : BitVec 32 := 15#32
  let v97 : BitVec 1 := Scalar.cmpi .eq v68 c15_i32_80
  let c4_i32_81 : BitVec 32 := 4#32
  let c14_i32_78 : BitVec 32 := 14#32
  let v95 : BitVec 1 := Scalar.cmpi .eq v68 c14_i32_78
  let c8_i32_79 : BitVec 32 := 8#32
  let c13_i32_76 : BitVec 32 := 13#32
  let v93 : BitVec 1 := Scalar.cmpi .eq v68 c13_i32_76
  let c12_i32_77 : BitVec 32 := 12#32
  let c12_i32_74 : BitVec 32 := 12#32
  let v91 : BitVec 1 := Scalar.cmpi .eq v68 c12_i32_74
  let c15_i32_75 : BitVec 32 := 15#32
  let c11_i32_72 : BitVec 32 := 11#32
  let v89 : BitVec 1 := Scalar.cmpi .eq v68 c11_i32_72
  let c11_i32_73 : BitVec 32 := 11#32
  let c10_i32_70 : BitVec 32 := 10#32
  let v87 : BitVec 1 := Scalar.cmpi .eq v68 c10_i32_70
  let c7_i32_71 : BitVec 32 := 7#32
  let c9_i32_68 : BitVec 32 := 9#32
  let v85 : BitVec 1 := Scalar.cmpi .eq v68 c9_i32_68
  let c3_i32_69 : BitVec 32 := 3#32
  let c8_i32_66 : BitVec 32 := 8#32
  let v83 : BitVec 1 := Scalar.cmpi .eq v68 c8_i32_66
  let c2_i32_67 : BitVec 32 := 2#32
  let c7_i32_64 : BitVec 32 := 7#32
  let v81 : BitVec 1 := Scalar.cmpi .eq v68 c7_i32_64
  let c6_i32_65 : BitVec 32 := 6#32
  let c6_i32_62 : BitVec 32 := 6#32
  let v79 : BitVec 1 := Scalar.cmpi .eq v68 c6_i32_62
  let c10_i32_63 : BitVec 32 := 10#32
  let c5_i32_60 : BitVec 32 := 5#32
  let v77 : BitVec 1 := Scalar.cmpi .eq v68 c5_i32_60
  let c14_i32_61 : BitVec 32 := 14#32
  let c4_i32_58 : BitVec 32 := 4#32
  let v75 : BitVec 1 := Scalar.cmpi .eq v68 c4_i32_58
  let c13_i32_59 : BitVec 32 := 13#32
  let c3_i32_56 : BitVec 32 := 3#32
  let v73 : BitVec 1 := Scalar.cmpi .eq v68 c3_i32_56
  let c9_i32_57 : BitVec 32 := 9#32
  let c2_i32_54 : BitVec 32 := 2#32
  let v71 : BitVec 1 := Scalar.cmpi .eq v68 c2_i32_54
  let c5_i32_55 : BitVec 32 := 5#32
  let c1_i32_51 : BitVec 32 := 1#32
  let v69 : BitVec 1 := Scalar.cmpi .eq v68 c1_i32_51
  let c1_i32_52 : BitVec 32 := 1#32
  let c0_i32_53 : BitVec 32 := 0#32
  let v70 : BitVec 32 := Scalar.select v69 c1_i32_52 c0_i32_53
  let v72 : BitVec 32 := Scalar.select v71 c5_i32_55 v70
  let v74 : BitVec 32 := Scalar.select v73 c9_i32_57 v72
  let v76 : BitVec 32 := Scalar.select v75 c13_i32_59 v74
  let v78 : BitVec 32 := Scalar.select v77 c14_i32_61 v76
  let v80 : BitVec 32 := Scalar.select v79 c10_i32_63 v78
  let v82 : BitVec 32 := Scalar.select v81 c6_i32_65 v80
  let v84 : BitVec 32 := Scalar.select v83 c2_i32_67 v82
  let v86 : BitVec 32 := Scalar.select v85 c3_i32_69 v84
  let v88 : BitVec 32 := Scalar.select v87 c7_i32_71 v86
  let v90 : BitVec 32 := Scalar.select v89 c11_i32_73 v88
  let v92 : BitVec 32 := Scalar.select v91 c15_i32_75 v90
  let v94 : BitVec 32 := Scalar.select v93 c12_i32_77 v92
  let v96 : BitVec 32 := Scalar.select v95 c8_i32_79 v94
  let v98 : BitVec 32 := Scalar.select v97 c4_i32_81 v96
  let c1_i32_2716 : BitVec 32 := 1#32
  let v2050 : BitVec 32 := Scalar.muli v98 c1_i32_2716
  let v2051 : BitVec 32 := Scalar.addi c0_i32_2717 v2050
  v2051.toNat
def k0_dev71 (d0 : Dev nD) : Nat :=
  let c0_i32_2743 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_48 : BitVec 32 := 1#32
  let v66 : BitVec 32 := Scalar.addi v32 c1_i32_48
  let c32_i32_49 : BitVec 32 := 32#32
  let v67 : BitVec 32 := Scalar.addi v66 c32_i32_49
  let c16_i32_50 : BitVec 32 := 16#32
  let v68 : BitVec 32 := Scalar.remsi v67 c16_i32_50
  let c15_i32_80 : BitVec 32 := 15#32
  let v97 : BitVec 1 := Scalar.cmpi .eq v68 c15_i32_80
  let c4_i32_81 : BitVec 32 := 4#32
  let c14_i32_78 : BitVec 32 := 14#32
  let v95 : BitVec 1 := Scalar.cmpi .eq v68 c14_i32_78
  let c8_i32_79 : BitVec 32 := 8#32
  let c13_i32_76 : BitVec 32 := 13#32
  let v93 : BitVec 1 := Scalar.cmpi .eq v68 c13_i32_76
  let c12_i32_77 : BitVec 32 := 12#32
  let c12_i32_74 : BitVec 32 := 12#32
  let v91 : BitVec 1 := Scalar.cmpi .eq v68 c12_i32_74
  let c15_i32_75 : BitVec 32 := 15#32
  let c11_i32_72 : BitVec 32 := 11#32
  let v89 : BitVec 1 := Scalar.cmpi .eq v68 c11_i32_72
  let c11_i32_73 : BitVec 32 := 11#32
  let c10_i32_70 : BitVec 32 := 10#32
  let v87 : BitVec 1 := Scalar.cmpi .eq v68 c10_i32_70
  let c7_i32_71 : BitVec 32 := 7#32
  let c9_i32_68 : BitVec 32 := 9#32
  let v85 : BitVec 1 := Scalar.cmpi .eq v68 c9_i32_68
  let c3_i32_69 : BitVec 32 := 3#32
  let c8_i32_66 : BitVec 32 := 8#32
  let v83 : BitVec 1 := Scalar.cmpi .eq v68 c8_i32_66
  let c2_i32_67 : BitVec 32 := 2#32
  let c7_i32_64 : BitVec 32 := 7#32
  let v81 : BitVec 1 := Scalar.cmpi .eq v68 c7_i32_64
  let c6_i32_65 : BitVec 32 := 6#32
  let c6_i32_62 : BitVec 32 := 6#32
  let v79 : BitVec 1 := Scalar.cmpi .eq v68 c6_i32_62
  let c10_i32_63 : BitVec 32 := 10#32
  let c5_i32_60 : BitVec 32 := 5#32
  let v77 : BitVec 1 := Scalar.cmpi .eq v68 c5_i32_60
  let c14_i32_61 : BitVec 32 := 14#32
  let c4_i32_58 : BitVec 32 := 4#32
  let v75 : BitVec 1 := Scalar.cmpi .eq v68 c4_i32_58
  let c13_i32_59 : BitVec 32 := 13#32
  let c3_i32_56 : BitVec 32 := 3#32
  let v73 : BitVec 1 := Scalar.cmpi .eq v68 c3_i32_56
  let c9_i32_57 : BitVec 32 := 9#32
  let c2_i32_54 : BitVec 32 := 2#32
  let v71 : BitVec 1 := Scalar.cmpi .eq v68 c2_i32_54
  let c5_i32_55 : BitVec 32 := 5#32
  let c1_i32_51 : BitVec 32 := 1#32
  let v69 : BitVec 1 := Scalar.cmpi .eq v68 c1_i32_51
  let c1_i32_52 : BitVec 32 := 1#32
  let c0_i32_53 : BitVec 32 := 0#32
  let v70 : BitVec 32 := Scalar.select v69 c1_i32_52 c0_i32_53
  let v72 : BitVec 32 := Scalar.select v71 c5_i32_55 v70
  let v74 : BitVec 32 := Scalar.select v73 c9_i32_57 v72
  let v76 : BitVec 32 := Scalar.select v75 c13_i32_59 v74
  let v78 : BitVec 32 := Scalar.select v77 c14_i32_61 v76
  let v80 : BitVec 32 := Scalar.select v79 c10_i32_63 v78
  let v82 : BitVec 32 := Scalar.select v81 c6_i32_65 v80
  let v84 : BitVec 32 := Scalar.select v83 c2_i32_67 v82
  let v86 : BitVec 32 := Scalar.select v85 c3_i32_69 v84
  let v88 : BitVec 32 := Scalar.select v87 c7_i32_71 v86
  let v90 : BitVec 32 := Scalar.select v89 c11_i32_73 v88
  let v92 : BitVec 32 := Scalar.select v91 c15_i32_75 v90
  let v94 : BitVec 32 := Scalar.select v93 c12_i32_77 v92
  let v96 : BitVec 32 := Scalar.select v95 c8_i32_79 v94
  let v98 : BitVec 32 := Scalar.select v97 c4_i32_81 v96
  let c1_i32_2742 : BitVec 32 := 1#32
  let v2061 : BitVec 32 := Scalar.muli v98 c1_i32_2742
  let v2062 : BitVec 32 := Scalar.addi c0_i32_2743 v2061
  v2062.toNat
def k0_dev72 (d0 : Dev nD) : Nat :=
  let c0_i32_2771 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_48 : BitVec 32 := 1#32
  let v66 : BitVec 32 := Scalar.addi v32 c1_i32_48
  let c32_i32_49 : BitVec 32 := 32#32
  let v67 : BitVec 32 := Scalar.addi v66 c32_i32_49
  let c16_i32_50 : BitVec 32 := 16#32
  let v68 : BitVec 32 := Scalar.remsi v67 c16_i32_50
  let c15_i32_80 : BitVec 32 := 15#32
  let v97 : BitVec 1 := Scalar.cmpi .eq v68 c15_i32_80
  let c4_i32_81 : BitVec 32 := 4#32
  let c14_i32_78 : BitVec 32 := 14#32
  let v95 : BitVec 1 := Scalar.cmpi .eq v68 c14_i32_78
  let c8_i32_79 : BitVec 32 := 8#32
  let c13_i32_76 : BitVec 32 := 13#32
  let v93 : BitVec 1 := Scalar.cmpi .eq v68 c13_i32_76
  let c12_i32_77 : BitVec 32 := 12#32
  let c12_i32_74 : BitVec 32 := 12#32
  let v91 : BitVec 1 := Scalar.cmpi .eq v68 c12_i32_74
  let c15_i32_75 : BitVec 32 := 15#32
  let c11_i32_72 : BitVec 32 := 11#32
  let v89 : BitVec 1 := Scalar.cmpi .eq v68 c11_i32_72
  let c11_i32_73 : BitVec 32 := 11#32
  let c10_i32_70 : BitVec 32 := 10#32
  let v87 : BitVec 1 := Scalar.cmpi .eq v68 c10_i32_70
  let c7_i32_71 : BitVec 32 := 7#32
  let c9_i32_68 : BitVec 32 := 9#32
  let v85 : BitVec 1 := Scalar.cmpi .eq v68 c9_i32_68
  let c3_i32_69 : BitVec 32 := 3#32
  let c8_i32_66 : BitVec 32 := 8#32
  let v83 : BitVec 1 := Scalar.cmpi .eq v68 c8_i32_66
  let c2_i32_67 : BitVec 32 := 2#32
  let c7_i32_64 : BitVec 32 := 7#32
  let v81 : BitVec 1 := Scalar.cmpi .eq v68 c7_i32_64
  let c6_i32_65 : BitVec 32 := 6#32
  let c6_i32_62 : BitVec 32 := 6#32
  let v79 : BitVec 1 := Scalar.cmpi .eq v68 c6_i32_62
  let c10_i32_63 : BitVec 32 := 10#32
  let c5_i32_60 : BitVec 32 := 5#32
  let v77 : BitVec 1 := Scalar.cmpi .eq v68 c5_i32_60
  let c14_i32_61 : BitVec 32 := 14#32
  let c4_i32_58 : BitVec 32 := 4#32
  let v75 : BitVec 1 := Scalar.cmpi .eq v68 c4_i32_58
  let c13_i32_59 : BitVec 32 := 13#32
  let c3_i32_56 : BitVec 32 := 3#32
  let v73 : BitVec 1 := Scalar.cmpi .eq v68 c3_i32_56
  let c9_i32_57 : BitVec 32 := 9#32
  let c2_i32_54 : BitVec 32 := 2#32
  let v71 : BitVec 1 := Scalar.cmpi .eq v68 c2_i32_54
  let c5_i32_55 : BitVec 32 := 5#32
  let c1_i32_51 : BitVec 32 := 1#32
  let v69 : BitVec 1 := Scalar.cmpi .eq v68 c1_i32_51
  let c1_i32_52 : BitVec 32 := 1#32
  let c0_i32_53 : BitVec 32 := 0#32
  let v70 : BitVec 32 := Scalar.select v69 c1_i32_52 c0_i32_53
  let v72 : BitVec 32 := Scalar.select v71 c5_i32_55 v70
  let v74 : BitVec 32 := Scalar.select v73 c9_i32_57 v72
  let v76 : BitVec 32 := Scalar.select v75 c13_i32_59 v74
  let v78 : BitVec 32 := Scalar.select v77 c14_i32_61 v76
  let v80 : BitVec 32 := Scalar.select v79 c10_i32_63 v78
  let v82 : BitVec 32 := Scalar.select v81 c6_i32_65 v80
  let v84 : BitVec 32 := Scalar.select v83 c2_i32_67 v82
  let v86 : BitVec 32 := Scalar.select v85 c3_i32_69 v84
  let v88 : BitVec 32 := Scalar.select v87 c7_i32_71 v86
  let v90 : BitVec 32 := Scalar.select v89 c11_i32_73 v88
  let v92 : BitVec 32 := Scalar.select v91 c15_i32_75 v90
  let v94 : BitVec 32 := Scalar.select v93 c12_i32_77 v92
  let v96 : BitVec 32 := Scalar.select v95 c8_i32_79 v94
  let v98 : BitVec 32 := Scalar.select v97 c4_i32_81 v96
  let c1_i32_2770 : BitVec 32 := 1#32
  let v2081 : BitVec 32 := Scalar.muli v98 c1_i32_2770
  let v2082 : BitVec 32 := Scalar.addi c0_i32_2771 v2081
  v2082.toNat
def k0_dev73 (d0 : Dev nD) : Nat :=
  let c0_i32_2799 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_48 : BitVec 32 := 1#32
  let v66 : BitVec 32 := Scalar.addi v32 c1_i32_48
  let c32_i32_49 : BitVec 32 := 32#32
  let v67 : BitVec 32 := Scalar.addi v66 c32_i32_49
  let c16_i32_50 : BitVec 32 := 16#32
  let v68 : BitVec 32 := Scalar.remsi v67 c16_i32_50
  let c15_i32_80 : BitVec 32 := 15#32
  let v97 : BitVec 1 := Scalar.cmpi .eq v68 c15_i32_80
  let c4_i32_81 : BitVec 32 := 4#32
  let c14_i32_78 : BitVec 32 := 14#32
  let v95 : BitVec 1 := Scalar.cmpi .eq v68 c14_i32_78
  let c8_i32_79 : BitVec 32 := 8#32
  let c13_i32_76 : BitVec 32 := 13#32
  let v93 : BitVec 1 := Scalar.cmpi .eq v68 c13_i32_76
  let c12_i32_77 : BitVec 32 := 12#32
  let c12_i32_74 : BitVec 32 := 12#32
  let v91 : BitVec 1 := Scalar.cmpi .eq v68 c12_i32_74
  let c15_i32_75 : BitVec 32 := 15#32
  let c11_i32_72 : BitVec 32 := 11#32
  let v89 : BitVec 1 := Scalar.cmpi .eq v68 c11_i32_72
  let c11_i32_73 : BitVec 32 := 11#32
  let c10_i32_70 : BitVec 32 := 10#32
  let v87 : BitVec 1 := Scalar.cmpi .eq v68 c10_i32_70
  let c7_i32_71 : BitVec 32 := 7#32
  let c9_i32_68 : BitVec 32 := 9#32
  let v85 : BitVec 1 := Scalar.cmpi .eq v68 c9_i32_68
  let c3_i32_69 : BitVec 32 := 3#32
  let c8_i32_66 : BitVec 32 := 8#32
  let v83 : BitVec 1 := Scalar.cmpi .eq v68 c8_i32_66
  let c2_i32_67 : BitVec 32 := 2#32
  let c7_i32_64 : BitVec 32 := 7#32
  let v81 : BitVec 1 := Scalar.cmpi .eq v68 c7_i32_64
  let c6_i32_65 : BitVec 32 := 6#32
  let c6_i32_62 : BitVec 32 := 6#32
  let v79 : BitVec 1 := Scalar.cmpi .eq v68 c6_i32_62
  let c10_i32_63 : BitVec 32 := 10#32
  let c5_i32_60 : BitVec 32 := 5#32
  let v77 : BitVec 1 := Scalar.cmpi .eq v68 c5_i32_60
  let c14_i32_61 : BitVec 32 := 14#32
  let c4_i32_58 : BitVec 32 := 4#32
  let v75 : BitVec 1 := Scalar.cmpi .eq v68 c4_i32_58
  let c13_i32_59 : BitVec 32 := 13#32
  let c3_i32_56 : BitVec 32 := 3#32
  let v73 : BitVec 1 := Scalar.cmpi .eq v68 c3_i32_56
  let c9_i32_57 : BitVec 32 := 9#32
  let c2_i32_54 : BitVec 32 := 2#32
  let v71 : BitVec 1 := Scalar.cmpi .eq v68 c2_i32_54
  let c5_i32_55 : BitVec 32 := 5#32
  let c1_i32_51 : BitVec 32 := 1#32
  let v69 : BitVec 1 := Scalar.cmpi .eq v68 c1_i32_51
  let c1_i32_52 : BitVec 32 := 1#32
  let c0_i32_53 : BitVec 32 := 0#32
  let v70 : BitVec 32 := Scalar.select v69 c1_i32_52 c0_i32_53
  let v72 : BitVec 32 := Scalar.select v71 c5_i32_55 v70
  let v74 : BitVec 32 := Scalar.select v73 c9_i32_57 v72
  let v76 : BitVec 32 := Scalar.select v75 c13_i32_59 v74
  let v78 : BitVec 32 := Scalar.select v77 c14_i32_61 v76
  let v80 : BitVec 32 := Scalar.select v79 c10_i32_63 v78
  let v82 : BitVec 32 := Scalar.select v81 c6_i32_65 v80
  let v84 : BitVec 32 := Scalar.select v83 c2_i32_67 v82
  let v86 : BitVec 32 := Scalar.select v85 c3_i32_69 v84
  let v88 : BitVec 32 := Scalar.select v87 c7_i32_71 v86
  let v90 : BitVec 32 := Scalar.select v89 c11_i32_73 v88
  let v92 : BitVec 32 := Scalar.select v91 c15_i32_75 v90
  let v94 : BitVec 32 := Scalar.select v93 c12_i32_77 v92
  let v96 : BitVec 32 := Scalar.select v95 c8_i32_79 v94
  let v98 : BitVec 32 := Scalar.select v97 c4_i32_81 v96
  let c1_i32_2798 : BitVec 32 := 1#32
  let v2101 : BitVec 32 := Scalar.muli v98 c1_i32_2798
  let v2102 : BitVec 32 := Scalar.addi c0_i32_2799 v2101
  v2102.toNat
def k0_dev74 (d0 : Dev nD) : Nat :=
  let c0_i32_2827 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_48 : BitVec 32 := 1#32
  let v66 : BitVec 32 := Scalar.addi v32 c1_i32_48
  let c32_i32_49 : BitVec 32 := 32#32
  let v67 : BitVec 32 := Scalar.addi v66 c32_i32_49
  let c16_i32_50 : BitVec 32 := 16#32
  let v68 : BitVec 32 := Scalar.remsi v67 c16_i32_50
  let c15_i32_80 : BitVec 32 := 15#32
  let v97 : BitVec 1 := Scalar.cmpi .eq v68 c15_i32_80
  let c4_i32_81 : BitVec 32 := 4#32
  let c14_i32_78 : BitVec 32 := 14#32
  let v95 : BitVec 1 := Scalar.cmpi .eq v68 c14_i32_78
  let c8_i32_79 : BitVec 32 := 8#32
  let c13_i32_76 : BitVec 32 := 13#32
  let v93 : BitVec 1 := Scalar.cmpi .eq v68 c13_i32_76
  let c12_i32_77 : BitVec 32 := 12#32
  let c12_i32_74 : BitVec 32 := 12#32
  let v91 : BitVec 1 := Scalar.cmpi .eq v68 c12_i32_74
  let c15_i32_75 : BitVec 32 := 15#32
  let c11_i32_72 : BitVec 32 := 11#32
  let v89 : BitVec 1 := Scalar.cmpi .eq v68 c11_i32_72
  let c11_i32_73 : BitVec 32 := 11#32
  let c10_i32_70 : BitVec 32 := 10#32
  let v87 : BitVec 1 := Scalar.cmpi .eq v68 c10_i32_70
  let c7_i32_71 : BitVec 32 := 7#32
  let c9_i32_68 : BitVec 32 := 9#32
  let v85 : BitVec 1 := Scalar.cmpi .eq v68 c9_i32_68
  let c3_i32_69 : BitVec 32 := 3#32
  let c8_i32_66 : BitVec 32 := 8#32
  let v83 : BitVec 1 := Scalar.cmpi .eq v68 c8_i32_66
  let c2_i32_67 : BitVec 32 := 2#32
  let c7_i32_64 : BitVec 32 := 7#32
  let v81 : BitVec 1 := Scalar.cmpi .eq v68 c7_i32_64
  let c6_i32_65 : BitVec 32 := 6#32
  let c6_i32_62 : BitVec 32 := 6#32
  let v79 : BitVec 1 := Scalar.cmpi .eq v68 c6_i32_62
  let c10_i32_63 : BitVec 32 := 10#32
  let c5_i32_60 : BitVec 32 := 5#32
  let v77 : BitVec 1 := Scalar.cmpi .eq v68 c5_i32_60
  let c14_i32_61 : BitVec 32 := 14#32
  let c4_i32_58 : BitVec 32 := 4#32
  let v75 : BitVec 1 := Scalar.cmpi .eq v68 c4_i32_58
  let c13_i32_59 : BitVec 32 := 13#32
  let c3_i32_56 : BitVec 32 := 3#32
  let v73 : BitVec 1 := Scalar.cmpi .eq v68 c3_i32_56
  let c9_i32_57 : BitVec 32 := 9#32
  let c2_i32_54 : BitVec 32 := 2#32
  let v71 : BitVec 1 := Scalar.cmpi .eq v68 c2_i32_54
  let c5_i32_55 : BitVec 32 := 5#32
  let c1_i32_51 : BitVec 32 := 1#32
  let v69 : BitVec 1 := Scalar.cmpi .eq v68 c1_i32_51
  let c1_i32_52 : BitVec 32 := 1#32
  let c0_i32_53 : BitVec 32 := 0#32
  let v70 : BitVec 32 := Scalar.select v69 c1_i32_52 c0_i32_53
  let v72 : BitVec 32 := Scalar.select v71 c5_i32_55 v70
  let v74 : BitVec 32 := Scalar.select v73 c9_i32_57 v72
  let v76 : BitVec 32 := Scalar.select v75 c13_i32_59 v74
  let v78 : BitVec 32 := Scalar.select v77 c14_i32_61 v76
  let v80 : BitVec 32 := Scalar.select v79 c10_i32_63 v78
  let v82 : BitVec 32 := Scalar.select v81 c6_i32_65 v80
  let v84 : BitVec 32 := Scalar.select v83 c2_i32_67 v82
  let v86 : BitVec 32 := Scalar.select v85 c3_i32_69 v84
  let v88 : BitVec 32 := Scalar.select v87 c7_i32_71 v86
  let v90 : BitVec 32 := Scalar.select v89 c11_i32_73 v88
  let v92 : BitVec 32 := Scalar.select v91 c15_i32_75 v90
  let v94 : BitVec 32 := Scalar.select v93 c12_i32_77 v92
  let v96 : BitVec 32 := Scalar.select v95 c8_i32_79 v94
  let v98 : BitVec 32 := Scalar.select v97 c4_i32_81 v96
  let c1_i32_2826 : BitVec 32 := 1#32
  let v2121 : BitVec 32 := Scalar.muli v98 c1_i32_2826
  let v2122 : BitVec 32 := Scalar.addi c0_i32_2827 v2121
  v2122.toNat
def k0_dev75 (d0 : Dev nD) : Nat :=
  let c0_i32_2855 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_48 : BitVec 32 := 1#32
  let v66 : BitVec 32 := Scalar.addi v32 c1_i32_48
  let c32_i32_49 : BitVec 32 := 32#32
  let v67 : BitVec 32 := Scalar.addi v66 c32_i32_49
  let c16_i32_50 : BitVec 32 := 16#32
  let v68 : BitVec 32 := Scalar.remsi v67 c16_i32_50
  let c15_i32_80 : BitVec 32 := 15#32
  let v97 : BitVec 1 := Scalar.cmpi .eq v68 c15_i32_80
  let c4_i32_81 : BitVec 32 := 4#32
  let c14_i32_78 : BitVec 32 := 14#32
  let v95 : BitVec 1 := Scalar.cmpi .eq v68 c14_i32_78
  let c8_i32_79 : BitVec 32 := 8#32
  let c13_i32_76 : BitVec 32 := 13#32
  let v93 : BitVec 1 := Scalar.cmpi .eq v68 c13_i32_76
  let c12_i32_77 : BitVec 32 := 12#32
  let c12_i32_74 : BitVec 32 := 12#32
  let v91 : BitVec 1 := Scalar.cmpi .eq v68 c12_i32_74
  let c15_i32_75 : BitVec 32 := 15#32
  let c11_i32_72 : BitVec 32 := 11#32
  let v89 : BitVec 1 := Scalar.cmpi .eq v68 c11_i32_72
  let c11_i32_73 : BitVec 32 := 11#32
  let c10_i32_70 : BitVec 32 := 10#32
  let v87 : BitVec 1 := Scalar.cmpi .eq v68 c10_i32_70
  let c7_i32_71 : BitVec 32 := 7#32
  let c9_i32_68 : BitVec 32 := 9#32
  let v85 : BitVec 1 := Scalar.cmpi .eq v68 c9_i32_68
  let c3_i32_69 : BitVec 32 := 3#32
  let c8_i32_66 : BitVec 32 := 8#32
  let v83 : BitVec 1 := Scalar.cmpi .eq v68 c8_i32_66
  let c2_i32_67 : BitVec 32 := 2#32
  let c7_i32_64 : BitVec 32 := 7#32
  let v81 : BitVec 1 := Scalar.cmpi .eq v68 c7_i32_64
  let c6_i32_65 : BitVec 32 := 6#32
  let c6_i32_62 : BitVec 32 := 6#32
  let v79 : BitVec 1 := Scalar.cmpi .eq v68 c6_i32_62
  let c10_i32_63 : BitVec 32 := 10#32
  let c5_i32_60 : BitVec 32 := 5#32
  let v77 : BitVec 1 := Scalar.cmpi .eq v68 c5_i32_60
  let c14_i32_61 : BitVec 32 := 14#32
  let c4_i32_58 : BitVec 32 := 4#32
  let v75 : BitVec 1 := Scalar.cmpi .eq v68 c4_i32_58
  let c13_i32_59 : BitVec 32 := 13#32
  let c3_i32_56 : BitVec 32 := 3#32
  let v73 : BitVec 1 := Scalar.cmpi .eq v68 c3_i32_56
  let c9_i32_57 : BitVec 32 := 9#32
  let c2_i32_54 : BitVec 32 := 2#32
  let v71 : BitVec 1 := Scalar.cmpi .eq v68 c2_i32_54
  let c5_i32_55 : BitVec 32 := 5#32
  let c1_i32_51 : BitVec 32 := 1#32
  let v69 : BitVec 1 := Scalar.cmpi .eq v68 c1_i32_51
  let c1_i32_52 : BitVec 32 := 1#32
  let c0_i32_53 : BitVec 32 := 0#32
  let v70 : BitVec 32 := Scalar.select v69 c1_i32_52 c0_i32_53
  let v72 : BitVec 32 := Scalar.select v71 c5_i32_55 v70
  let v74 : BitVec 32 := Scalar.select v73 c9_i32_57 v72
  let v76 : BitVec 32 := Scalar.select v75 c13_i32_59 v74
  let v78 : BitVec 32 := Scalar.select v77 c14_i32_61 v76
  let v80 : BitVec 32 := Scalar.select v79 c10_i32_63 v78
  let v82 : BitVec 32 := Scalar.select v81 c6_i32_65 v80
  let v84 : BitVec 32 := Scalar.select v83 c2_i32_67 v82
  let v86 : BitVec 32 := Scalar.select v85 c3_i32_69 v84
  let v88 : BitVec 32 := Scalar.select v87 c7_i32_71 v86
  let v90 : BitVec 32 := Scalar.select v89 c11_i32_73 v88
  let v92 : BitVec 32 := Scalar.select v91 c15_i32_75 v90
  let v94 : BitVec 32 := Scalar.select v93 c12_i32_77 v92
  let v96 : BitVec 32 := Scalar.select v95 c8_i32_79 v94
  let v98 : BitVec 32 := Scalar.select v97 c4_i32_81 v96
  let c1_i32_2854 : BitVec 32 := 1#32
  let v2141 : BitVec 32 := Scalar.muli v98 c1_i32_2854
  let v2142 : BitVec 32 := Scalar.addi c0_i32_2855 v2141
  v2142.toNat
def k0_dev76 (d0 : Dev nD) : Nat :=
  let c0_i32_2883 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_48 : BitVec 32 := 1#32
  let v66 : BitVec 32 := Scalar.addi v32 c1_i32_48
  let c32_i32_49 : BitVec 32 := 32#32
  let v67 : BitVec 32 := Scalar.addi v66 c32_i32_49
  let c16_i32_50 : BitVec 32 := 16#32
  let v68 : BitVec 32 := Scalar.remsi v67 c16_i32_50
  let c15_i32_80 : BitVec 32 := 15#32
  let v97 : BitVec 1 := Scalar.cmpi .eq v68 c15_i32_80
  let c4_i32_81 : BitVec 32 := 4#32
  let c14_i32_78 : BitVec 32 := 14#32
  let v95 : BitVec 1 := Scalar.cmpi .eq v68 c14_i32_78
  let c8_i32_79 : BitVec 32 := 8#32
  let c13_i32_76 : BitVec 32 := 13#32
  let v93 : BitVec 1 := Scalar.cmpi .eq v68 c13_i32_76
  let c12_i32_77 : BitVec 32 := 12#32
  let c12_i32_74 : BitVec 32 := 12#32
  let v91 : BitVec 1 := Scalar.cmpi .eq v68 c12_i32_74
  let c15_i32_75 : BitVec 32 := 15#32
  let c11_i32_72 : BitVec 32 := 11#32
  let v89 : BitVec 1 := Scalar.cmpi .eq v68 c11_i32_72
  let c11_i32_73 : BitVec 32 := 11#32
  let c10_i32_70 : BitVec 32 := 10#32
  let v87 : BitVec 1 := Scalar.cmpi .eq v68 c10_i32_70
  let c7_i32_71 : BitVec 32 := 7#32
  let c9_i32_68 : BitVec 32 := 9#32
  let v85 : BitVec 1 := Scalar.cmpi .eq v68 c9_i32_68
  let c3_i32_69 : BitVec 32 := 3#32
  let c8_i32_66 : BitVec 32 := 8#32
  let v83 : BitVec 1 := Scalar.cmpi .eq v68 c8_i32_66
  let c2_i32_67 : BitVec 32 := 2#32
  let c7_i32_64 : BitVec 32 := 7#32
  let v81 : BitVec 1 := Scalar.cmpi .eq v68 c7_i32_64
  let c6_i32_65 : BitVec 32 := 6#32
  let c6_i32_62 : BitVec 32 := 6#32
  let v79 : BitVec 1 := Scalar.cmpi .eq v68 c6_i32_62
  let c10_i32_63 : BitVec 32 := 10#32
  let c5_i32_60 : BitVec 32 := 5#32
  let v77 : BitVec 1 := Scalar.cmpi .eq v68 c5_i32_60
  let c14_i32_61 : BitVec 32 := 14#32
  let c4_i32_58 : BitVec 32 := 4#32
  let v75 : BitVec 1 := Scalar.cmpi .eq v68 c4_i32_58
  let c13_i32_59 : BitVec 32 := 13#32
  let c3_i32_56 : BitVec 32 := 3#32
  let v73 : BitVec 1 := Scalar.cmpi .eq v68 c3_i32_56
  let c9_i32_57 : BitVec 32 := 9#32
  let c2_i32_54 : BitVec 32 := 2#32
  let v71 : BitVec 1 := Scalar.cmpi .eq v68 c2_i32_54
  let c5_i32_55 : BitVec 32 := 5#32
  let c1_i32_51 : BitVec 32 := 1#32
  let v69 : BitVec 1 := Scalar.cmpi .eq v68 c1_i32_51
  let c1_i32_52 : BitVec 32 := 1#32
  let c0_i32_53 : BitVec 32 := 0#32
  let v70 : BitVec 32 := Scalar.select v69 c1_i32_52 c0_i32_53
  let v72 : BitVec 32 := Scalar.select v71 c5_i32_55 v70
  let v74 : BitVec 32 := Scalar.select v73 c9_i32_57 v72
  let v76 : BitVec 32 := Scalar.select v75 c13_i32_59 v74
  let v78 : BitVec 32 := Scalar.select v77 c14_i32_61 v76
  let v80 : BitVec 32 := Scalar.select v79 c10_i32_63 v78
  let v82 : BitVec 32 := Scalar.select v81 c6_i32_65 v80
  let v84 : BitVec 32 := Scalar.select v83 c2_i32_67 v82
  let v86 : BitVec 32 := Scalar.select v85 c3_i32_69 v84
  let v88 : BitVec 32 := Scalar.select v87 c7_i32_71 v86
  let v90 : BitVec 32 := Scalar.select v89 c11_i32_73 v88
  let v92 : BitVec 32 := Scalar.select v91 c15_i32_75 v90
  let v94 : BitVec 32 := Scalar.select v93 c12_i32_77 v92
  let v96 : BitVec 32 := Scalar.select v95 c8_i32_79 v94
  let v98 : BitVec 32 := Scalar.select v97 c4_i32_81 v96
  let c1_i32_2882 : BitVec 32 := 1#32
  let v2161 : BitVec 32 := Scalar.muli v98 c1_i32_2882
  let v2162 : BitVec 32 := Scalar.addi c0_i32_2883 v2161
  v2162.toNat
def k0_dev77 (d0 : Dev nD) : Nat :=
  let c0_i32_2911 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_48 : BitVec 32 := 1#32
  let v66 : BitVec 32 := Scalar.addi v32 c1_i32_48
  let c32_i32_49 : BitVec 32 := 32#32
  let v67 : BitVec 32 := Scalar.addi v66 c32_i32_49
  let c16_i32_50 : BitVec 32 := 16#32
  let v68 : BitVec 32 := Scalar.remsi v67 c16_i32_50
  let c15_i32_80 : BitVec 32 := 15#32
  let v97 : BitVec 1 := Scalar.cmpi .eq v68 c15_i32_80
  let c4_i32_81 : BitVec 32 := 4#32
  let c14_i32_78 : BitVec 32 := 14#32
  let v95 : BitVec 1 := Scalar.cmpi .eq v68 c14_i32_78
  let c8_i32_79 : BitVec 32 := 8#32
  let c13_i32_76 : BitVec 32 := 13#32
  let v93 : BitVec 1 := Scalar.cmpi .eq v68 c13_i32_76
  let c12_i32_77 : BitVec 32 := 12#32
  let c12_i32_74 : BitVec 32 := 12#32
  let v91 : BitVec 1 := Scalar.cmpi .eq v68 c12_i32_74
  let c15_i32_75 : BitVec 32 := 15#32
  let c11_i32_72 : BitVec 32 := 11#32
  let v89 : BitVec 1 := Scalar.cmpi .eq v68 c11_i32_72
  let c11_i32_73 : BitVec 32 := 11#32
  let c10_i32_70 : BitVec 32 := 10#32
  let v87 : BitVec 1 := Scalar.cmpi .eq v68 c10_i32_70
  let c7_i32_71 : BitVec 32 := 7#32
  let c9_i32_68 : BitVec 32 := 9#32
  let v85 : BitVec 1 := Scalar.cmpi .eq v68 c9_i32_68
  let c3_i32_69 : BitVec 32 := 3#32
  let c8_i32_66 : BitVec 32 := 8#32
  let v83 : BitVec 1 := Scalar.cmpi .eq v68 c8_i32_66
  let c2_i32_67 : BitVec 32 := 2#32
  let c7_i32_64 : BitVec 32 := 7#32
  let v81 : BitVec 1 := Scalar.cmpi .eq v68 c7_i32_64
  let c6_i32_65 : BitVec 32 := 6#32
  let c6_i32_62 : BitVec 32 := 6#32
  let v79 : BitVec 1 := Scalar.cmpi .eq v68 c6_i32_62
  let c10_i32_63 : BitVec 32 := 10#32
  let c5_i32_60 : BitVec 32 := 5#32
  let v77 : BitVec 1 := Scalar.cmpi .eq v68 c5_i32_60
  let c14_i32_61 : BitVec 32 := 14#32
  let c4_i32_58 : BitVec 32 := 4#32
  let v75 : BitVec 1 := Scalar.cmpi .eq v68 c4_i32_58
  let c13_i32_59 : BitVec 32 := 13#32
  let c3_i32_56 : BitVec 32 := 3#32
  let v73 : BitVec 1 := Scalar.cmpi .eq v68 c3_i32_56
  let c9_i32_57 : BitVec 32 := 9#32
  let c2_i32_54 : BitVec 32 := 2#32
  let v71 : BitVec 1 := Scalar.cmpi .eq v68 c2_i32_54
  let c5_i32_55 : BitVec 32 := 5#32
  let c1_i32_51 : BitVec 32 := 1#32
  let v69 : BitVec 1 := Scalar.cmpi .eq v68 c1_i32_51
  let c1_i32_52 : BitVec 32 := 1#32
  let c0_i32_53 : BitVec 32 := 0#32
  let v70 : BitVec 32 := Scalar.select v69 c1_i32_52 c0_i32_53
  let v72 : BitVec 32 := Scalar.select v71 c5_i32_55 v70
  let v74 : BitVec 32 := Scalar.select v73 c9_i32_57 v72
  let v76 : BitVec 32 := Scalar.select v75 c13_i32_59 v74
  let v78 : BitVec 32 := Scalar.select v77 c14_i32_61 v76
  let v80 : BitVec 32 := Scalar.select v79 c10_i32_63 v78
  let v82 : BitVec 32 := Scalar.select v81 c6_i32_65 v80
  let v84 : BitVec 32 := Scalar.select v83 c2_i32_67 v82
  let v86 : BitVec 32 := Scalar.select v85 c3_i32_69 v84
  let v88 : BitVec 32 := Scalar.select v87 c7_i32_71 v86
  let v90 : BitVec 32 := Scalar.select v89 c11_i32_73 v88
  let v92 : BitVec 32 := Scalar.select v91 c15_i32_75 v90
  let v94 : BitVec 32 := Scalar.select v93 c12_i32_77 v92
  let v96 : BitVec 32 := Scalar.select v95 c8_i32_79 v94
  let v98 : BitVec 32 := Scalar.select v97 c4_i32_81 v96
  let c1_i32_2910 : BitVec 32 := 1#32
  let v2181 : BitVec 32 := Scalar.muli v98 c1_i32_2910
  let v2182 : BitVec 32 := Scalar.addi c0_i32_2911 v2181
  v2182.toNat
def k0_dev78 (d0 : Dev nD) : Nat :=
  let c0_i32_2939 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_48 : BitVec 32 := 1#32
  let v66 : BitVec 32 := Scalar.addi v32 c1_i32_48
  let c32_i32_49 : BitVec 32 := 32#32
  let v67 : BitVec 32 := Scalar.addi v66 c32_i32_49
  let c16_i32_50 : BitVec 32 := 16#32
  let v68 : BitVec 32 := Scalar.remsi v67 c16_i32_50
  let c15_i32_80 : BitVec 32 := 15#32
  let v97 : BitVec 1 := Scalar.cmpi .eq v68 c15_i32_80
  let c4_i32_81 : BitVec 32 := 4#32
  let c14_i32_78 : BitVec 32 := 14#32
  let v95 : BitVec 1 := Scalar.cmpi .eq v68 c14_i32_78
  let c8_i32_79 : BitVec 32 := 8#32
  let c13_i32_76 : BitVec 32 := 13#32
  let v93 : BitVec 1 := Scalar.cmpi .eq v68 c13_i32_76
  let c12_i32_77 : BitVec 32 := 12#32
  let c12_i32_74 : BitVec 32 := 12#32
  let v91 : BitVec 1 := Scalar.cmpi .eq v68 c12_i32_74
  let c15_i32_75 : BitVec 32 := 15#32
  let c11_i32_72 : BitVec 32 := 11#32
  let v89 : BitVec 1 := Scalar.cmpi .eq v68 c11_i32_72
  let c11_i32_73 : BitVec 32 := 11#32
  let c10_i32_70 : BitVec 32 := 10#32
  let v87 : BitVec 1 := Scalar.cmpi .eq v68 c10_i32_70
  let c7_i32_71 : BitVec 32 := 7#32
  let c9_i32_68 : BitVec 32 := 9#32
  let v85 : BitVec 1 := Scalar.cmpi .eq v68 c9_i32_68
  let c3_i32_69 : BitVec 32 := 3#32
  let c8_i32_66 : BitVec 32 := 8#32
  let v83 : BitVec 1 := Scalar.cmpi .eq v68 c8_i32_66
  let c2_i32_67 : BitVec 32 := 2#32
  let c7_i32_64 : BitVec 32 := 7#32
  let v81 : BitVec 1 := Scalar.cmpi .eq v68 c7_i32_64
  let c6_i32_65 : BitVec 32 := 6#32
  let c6_i32_62 : BitVec 32 := 6#32
  let v79 : BitVec 1 := Scalar.cmpi .eq v68 c6_i32_62
  let c10_i32_63 : BitVec 32 := 10#32
  let c5_i32_60 : BitVec 32 := 5#32
  let v77 : BitVec 1 := Scalar.cmpi .eq v68 c5_i32_60
  let c14_i32_61 : BitVec 32 := 14#32
  let c4_i32_58 : BitVec 32 := 4#32
  let v75 : BitVec 1 := Scalar.cmpi .eq v68 c4_i32_58
  let c13_i32_59 : BitVec 32 := 13#32
  let c3_i32_56 : BitVec 32 := 3#32
  let v73 : BitVec 1 := Scalar.cmpi .eq v68 c3_i32_56
  let c9_i32_57 : BitVec 32 := 9#32
  let c2_i32_54 : BitVec 32 := 2#32
  let v71 : BitVec 1 := Scalar.cmpi .eq v68 c2_i32_54
  let c5_i32_55 : BitVec 32 := 5#32
  let c1_i32_51 : BitVec 32 := 1#32
  let v69 : BitVec 1 := Scalar.cmpi .eq v68 c1_i32_51
  let c1_i32_52 : BitVec 32 := 1#32
  let c0_i32_53 : BitVec 32 := 0#32
  let v70 : BitVec 32 := Scalar.select v69 c1_i32_52 c0_i32_53
  let v72 : BitVec 32 := Scalar.select v71 c5_i32_55 v70
  let v74 : BitVec 32 := Scalar.select v73 c9_i32_57 v72
  let v76 : BitVec 32 := Scalar.select v75 c13_i32_59 v74
  let v78 : BitVec 32 := Scalar.select v77 c14_i32_61 v76
  let v80 : BitVec 32 := Scalar.select v79 c10_i32_63 v78
  let v82 : BitVec 32 := Scalar.select v81 c6_i32_65 v80
  let v84 : BitVec 32 := Scalar.select v83 c2_i32_67 v82
  let v86 : BitVec 32 := Scalar.select v85 c3_i32_69 v84
  let v88 : BitVec 32 := Scalar.select v87 c7_i32_71 v86
  let v90 : BitVec 32 := Scalar.select v89 c11_i32_73 v88
  let v92 : BitVec 32 := Scalar.select v91 c15_i32_75 v90
  let v94 : BitVec 32 := Scalar.select v93 c12_i32_77 v92
  let v96 : BitVec 32 := Scalar.select v95 c8_i32_79 v94
  let v98 : BitVec 32 := Scalar.select v97 c4_i32_81 v96
  let c1_i32_2938 : BitVec 32 := 1#32
  let v2201 : BitVec 32 := Scalar.muli v98 c1_i32_2938
  let v2202 : BitVec 32 := Scalar.addi c0_i32_2939 v2201
  v2202.toNat
def k0_dev79 (d0 : Dev nD) : Nat :=
  let c0_i32_2967 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c_m1_i32 : BitVec 32 := 4294967295#32
  let v33 : BitVec 32 := Scalar.addi v32 c_m1_i32
  let c32_i32 : BitVec 32 := 32#32
  let v34 : BitVec 32 := Scalar.addi v33 c32_i32
  let c16_i32_16 : BitVec 32 := 16#32
  let v35 : BitVec 32 := Scalar.remsi v34 c16_i32_16
  let c15_i32_46 : BitVec 32 := 15#32
  let v64 : BitVec 1 := Scalar.cmpi .eq v35 c15_i32_46
  let c4_i32_47 : BitVec 32 := 4#32
  let c14_i32_44 : BitVec 32 := 14#32
  let v62 : BitVec 1 := Scalar.cmpi .eq v35 c14_i32_44
  let c8_i32_45 : BitVec 32 := 8#32
  let c13_i32_42 : BitVec 32 := 13#32
  let v60 : BitVec 1 := Scalar.cmpi .eq v35 c13_i32_42
  let c12_i32_43 : BitVec 32 := 12#32
  let c12_i32_40 : BitVec 32 := 12#32
  let v58 : BitVec 1 := Scalar.cmpi .eq v35 c12_i32_40
  let c15_i32_41 : BitVec 32 := 15#32
  let c11_i32_38 : BitVec 32 := 11#32
  let v56 : BitVec 1 := Scalar.cmpi .eq v35 c11_i32_38
  let c11_i32_39 : BitVec 32 := 11#32
  let c10_i32_36 : BitVec 32 := 10#32
  let v54 : BitVec 1 := Scalar.cmpi .eq v35 c10_i32_36
  let c7_i32_37 : BitVec 32 := 7#32
  let c9_i32_34 : BitVec 32 := 9#32
  let v52 : BitVec 1 := Scalar.cmpi .eq v35 c9_i32_34
  let c3_i32_35 : BitVec 32 := 3#32
  let c8_i32_32 : BitVec 32 := 8#32
  let v50 : BitVec 1 := Scalar.cmpi .eq v35 c8_i32_32
  let c2_i32_33 : BitVec 32 := 2#32
  let c7_i32_30 : BitVec 32 := 7#32
  let v48 : BitVec 1 := Scalar.cmpi .eq v35 c7_i32_30
  let c6_i32_31 : BitVec 32 := 6#32
  let c6_i32_28 : BitVec 32 := 6#32
  let v46 : BitVec 1 := Scalar.cmpi .eq v35 c6_i32_28
  let c10_i32_29 : BitVec 32 := 10#32
  let c5_i32_26 : BitVec 32 := 5#32
  let v44 : BitVec 1 := Scalar.cmpi .eq v35 c5_i32_26
  let c14_i32_27 : BitVec 32 := 14#32
  let c4_i32_24 : BitVec 32 := 4#32
  let v42 : BitVec 1 := Scalar.cmpi .eq v35 c4_i32_24
  let c13_i32_25 : BitVec 32 := 13#32
  let c3_i32_22 : BitVec 32 := 3#32
  let v40 : BitVec 1 := Scalar.cmpi .eq v35 c3_i32_22
  let c9_i32_23 : BitVec 32 := 9#32
  let c2_i32_20 : BitVec 32 := 2#32
  let v38 : BitVec 1 := Scalar.cmpi .eq v35 c2_i32_20
  let c5_i32_21 : BitVec 32 := 5#32
  let c1_i32_17 : BitVec 32 := 1#32
  let v36 : BitVec 1 := Scalar.cmpi .eq v35 c1_i32_17
  let c1_i32_18 : BitVec 32 := 1#32
  let c0_i32_19 : BitVec 32 := 0#32
  let v37 : BitVec 32 := Scalar.select v36 c1_i32_18 c0_i32_19
  let v39 : BitVec 32 := Scalar.select v38 c5_i32_21 v37
  let v41 : BitVec 32 := Scalar.select v40 c9_i32_23 v39
  let v43 : BitVec 32 := Scalar.select v42 c13_i32_25 v41
  let v45 : BitVec 32 := Scalar.select v44 c14_i32_27 v43
  let v47 : BitVec 32 := Scalar.select v46 c10_i32_29 v45
  let v49 : BitVec 32 := Scalar.select v48 c6_i32_31 v47
  let v51 : BitVec 32 := Scalar.select v50 c2_i32_33 v49
  let v53 : BitVec 32 := Scalar.select v52 c3_i32_35 v51
  let v55 : BitVec 32 := Scalar.select v54 c7_i32_37 v53
  let v57 : BitVec 32 := Scalar.select v56 c11_i32_39 v55
  let v59 : BitVec 32 := Scalar.select v58 c15_i32_41 v57
  let v61 : BitVec 32 := Scalar.select v60 c12_i32_43 v59
  let v63 : BitVec 32 := Scalar.select v62 c8_i32_45 v61
  let v65 : BitVec 32 := Scalar.select v64 c4_i32_47 v63
  let c1_i32_2966 : BitVec 32 := 1#32
  let v2221 : BitVec 32 := Scalar.muli v65 c1_i32_2966
  let v2222 : BitVec 32 := Scalar.addi c0_i32_2967 v2221
  v2222.toNat
def k0_dev80 (d0 : Dev nD) : Nat :=
  let c0_i32_2995 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c_m1_i32 : BitVec 32 := 4294967295#32
  let v33 : BitVec 32 := Scalar.addi v32 c_m1_i32
  let c32_i32 : BitVec 32 := 32#32
  let v34 : BitVec 32 := Scalar.addi v33 c32_i32
  let c16_i32_16 : BitVec 32 := 16#32
  let v35 : BitVec 32 := Scalar.remsi v34 c16_i32_16
  let c15_i32_46 : BitVec 32 := 15#32
  let v64 : BitVec 1 := Scalar.cmpi .eq v35 c15_i32_46
  let c4_i32_47 : BitVec 32 := 4#32
  let c14_i32_44 : BitVec 32 := 14#32
  let v62 : BitVec 1 := Scalar.cmpi .eq v35 c14_i32_44
  let c8_i32_45 : BitVec 32 := 8#32
  let c13_i32_42 : BitVec 32 := 13#32
  let v60 : BitVec 1 := Scalar.cmpi .eq v35 c13_i32_42
  let c12_i32_43 : BitVec 32 := 12#32
  let c12_i32_40 : BitVec 32 := 12#32
  let v58 : BitVec 1 := Scalar.cmpi .eq v35 c12_i32_40
  let c15_i32_41 : BitVec 32 := 15#32
  let c11_i32_38 : BitVec 32 := 11#32
  let v56 : BitVec 1 := Scalar.cmpi .eq v35 c11_i32_38
  let c11_i32_39 : BitVec 32 := 11#32
  let c10_i32_36 : BitVec 32 := 10#32
  let v54 : BitVec 1 := Scalar.cmpi .eq v35 c10_i32_36
  let c7_i32_37 : BitVec 32 := 7#32
  let c9_i32_34 : BitVec 32 := 9#32
  let v52 : BitVec 1 := Scalar.cmpi .eq v35 c9_i32_34
  let c3_i32_35 : BitVec 32 := 3#32
  let c8_i32_32 : BitVec 32 := 8#32
  let v50 : BitVec 1 := Scalar.cmpi .eq v35 c8_i32_32
  let c2_i32_33 : BitVec 32 := 2#32
  let c7_i32_30 : BitVec 32 := 7#32
  let v48 : BitVec 1 := Scalar.cmpi .eq v35 c7_i32_30
  let c6_i32_31 : BitVec 32 := 6#32
  let c6_i32_28 : BitVec 32 := 6#32
  let v46 : BitVec 1 := Scalar.cmpi .eq v35 c6_i32_28
  let c10_i32_29 : BitVec 32 := 10#32
  let c5_i32_26 : BitVec 32 := 5#32
  let v44 : BitVec 1 := Scalar.cmpi .eq v35 c5_i32_26
  let c14_i32_27 : BitVec 32 := 14#32
  let c4_i32_24 : BitVec 32 := 4#32
  let v42 : BitVec 1 := Scalar.cmpi .eq v35 c4_i32_24
  let c13_i32_25 : BitVec 32 := 13#32
  let c3_i32_22 : BitVec 32 := 3#32
  let v40 : BitVec 1 := Scalar.cmpi .eq v35 c3_i32_22
  let c9_i32_23 : BitVec 32 := 9#32
  let c2_i32_20 : BitVec 32 := 2#32
  let v38 : BitVec 1 := Scalar.cmpi .eq v35 c2_i32_20
  let c5_i32_21 : BitVec 32 := 5#32
  let c1_i32_17 : BitVec 32 := 1#32
  let v36 : BitVec 1 := Scalar.cmpi .eq v35 c1_i32_17
  let c1_i32_18 : BitVec 32 := 1#32
  let c0_i32_19 : BitVec 32 := 0#32
  let v37 : BitVec 32 := Scalar.select v36 c1_i32_18 c0_i32_19
  let v39 : BitVec 32 := Scalar.select v38 c5_i32_21 v37
  let v41 : BitVec 32 := Scalar.select v40 c9_i32_23 v39
  let v43 : BitVec 32 := Scalar.select v42 c13_i32_25 v41
  let v45 : BitVec 32 := Scalar.select v44 c14_i32_27 v43
  let v47 : BitVec 32 := Scalar.select v46 c10_i32_29 v45
  let v49 : BitVec 32 := Scalar.select v48 c6_i32_31 v47
  let v51 : BitVec 32 := Scalar.select v50 c2_i32_33 v49
  let v53 : BitVec 32 := Scalar.select v52 c3_i32_35 v51
  let v55 : BitVec 32 := Scalar.select v54 c7_i32_37 v53
  let v57 : BitVec 32 := Scalar.select v56 c11_i32_39 v55
  let v59 : BitVec 32 := Scalar.select v58 c15_i32_41 v57
  let v61 : BitVec 32 := Scalar.select v60 c12_i32_43 v59
  let v63 : BitVec 32 := Scalar.select v62 c8_i32_45 v61
  let v65 : BitVec 32 := Scalar.select v64 c4_i32_47 v63
  let c1_i32_2994 : BitVec 32 := 1#32
  let v2241 : BitVec 32 := Scalar.muli v65 c1_i32_2994
  let v2242 : BitVec 32 := Scalar.addi c0_i32_2995 v2241
  v2242.toNat
def k0_dev81 (d0 : Dev nD) : Nat :=
  let c0_i32_3023 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c_m1_i32 : BitVec 32 := 4294967295#32
  let v33 : BitVec 32 := Scalar.addi v32 c_m1_i32
  let c32_i32 : BitVec 32 := 32#32
  let v34 : BitVec 32 := Scalar.addi v33 c32_i32
  let c16_i32_16 : BitVec 32 := 16#32
  let v35 : BitVec 32 := Scalar.remsi v34 c16_i32_16
  let c15_i32_46 : BitVec 32 := 15#32
  let v64 : BitVec 1 := Scalar.cmpi .eq v35 c15_i32_46
  let c4_i32_47 : BitVec 32 := 4#32
  let c14_i32_44 : BitVec 32 := 14#32
  let v62 : BitVec 1 := Scalar.cmpi .eq v35 c14_i32_44
  let c8_i32_45 : BitVec 32 := 8#32
  let c13_i32_42 : BitVec 32 := 13#32
  let v60 : BitVec 1 := Scalar.cmpi .eq v35 c13_i32_42
  let c12_i32_43 : BitVec 32 := 12#32
  let c12_i32_40 : BitVec 32 := 12#32
  let v58 : BitVec 1 := Scalar.cmpi .eq v35 c12_i32_40
  let c15_i32_41 : BitVec 32 := 15#32
  let c11_i32_38 : BitVec 32 := 11#32
  let v56 : BitVec 1 := Scalar.cmpi .eq v35 c11_i32_38
  let c11_i32_39 : BitVec 32 := 11#32
  let c10_i32_36 : BitVec 32 := 10#32
  let v54 : BitVec 1 := Scalar.cmpi .eq v35 c10_i32_36
  let c7_i32_37 : BitVec 32 := 7#32
  let c9_i32_34 : BitVec 32 := 9#32
  let v52 : BitVec 1 := Scalar.cmpi .eq v35 c9_i32_34
  let c3_i32_35 : BitVec 32 := 3#32
  let c8_i32_32 : BitVec 32 := 8#32
  let v50 : BitVec 1 := Scalar.cmpi .eq v35 c8_i32_32
  let c2_i32_33 : BitVec 32 := 2#32
  let c7_i32_30 : BitVec 32 := 7#32
  let v48 : BitVec 1 := Scalar.cmpi .eq v35 c7_i32_30
  let c6_i32_31 : BitVec 32 := 6#32
  let c6_i32_28 : BitVec 32 := 6#32
  let v46 : BitVec 1 := Scalar.cmpi .eq v35 c6_i32_28
  let c10_i32_29 : BitVec 32 := 10#32
  let c5_i32_26 : BitVec 32 := 5#32
  let v44 : BitVec 1 := Scalar.cmpi .eq v35 c5_i32_26
  let c14_i32_27 : BitVec 32 := 14#32
  let c4_i32_24 : BitVec 32 := 4#32
  let v42 : BitVec 1 := Scalar.cmpi .eq v35 c4_i32_24
  let c13_i32_25 : BitVec 32 := 13#32
  let c3_i32_22 : BitVec 32 := 3#32
  let v40 : BitVec 1 := Scalar.cmpi .eq v35 c3_i32_22
  let c9_i32_23 : BitVec 32 := 9#32
  let c2_i32_20 : BitVec 32 := 2#32
  let v38 : BitVec 1 := Scalar.cmpi .eq v35 c2_i32_20
  let c5_i32_21 : BitVec 32 := 5#32
  let c1_i32_17 : BitVec 32 := 1#32
  let v36 : BitVec 1 := Scalar.cmpi .eq v35 c1_i32_17
  let c1_i32_18 : BitVec 32 := 1#32
  let c0_i32_19 : BitVec 32 := 0#32
  let v37 : BitVec 32 := Scalar.select v36 c1_i32_18 c0_i32_19
  let v39 : BitVec 32 := Scalar.select v38 c5_i32_21 v37
  let v41 : BitVec 32 := Scalar.select v40 c9_i32_23 v39
  let v43 : BitVec 32 := Scalar.select v42 c13_i32_25 v41
  let v45 : BitVec 32 := Scalar.select v44 c14_i32_27 v43
  let v47 : BitVec 32 := Scalar.select v46 c10_i32_29 v45
  let v49 : BitVec 32 := Scalar.select v48 c6_i32_31 v47
  let v51 : BitVec 32 := Scalar.select v50 c2_i32_33 v49
  let v53 : BitVec 32 := Scalar.select v52 c3_i32_35 v51
  let v55 : BitVec 32 := Scalar.select v54 c7_i32_37 v53
  let v57 : BitVec 32 := Scalar.select v56 c11_i32_39 v55
  let v59 : BitVec 32 := Scalar.select v58 c15_i32_41 v57
  let v61 : BitVec 32 := Scalar.select v60 c12_i32_43 v59
  let v63 : BitVec 32 := Scalar.select v62 c8_i32_45 v61
  let v65 : BitVec 32 := Scalar.select v64 c4_i32_47 v63
  let c1_i32_3022 : BitVec 32 := 1#32
  let v2261 : BitVec 32 := Scalar.muli v65 c1_i32_3022
  let v2262 : BitVec 32 := Scalar.addi c0_i32_3023 v2261
  v2262.toNat
def k0_dev82 (d0 : Dev nD) : Nat :=
  let c0_i32_3051 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c_m1_i32 : BitVec 32 := 4294967295#32
  let v33 : BitVec 32 := Scalar.addi v32 c_m1_i32
  let c32_i32 : BitVec 32 := 32#32
  let v34 : BitVec 32 := Scalar.addi v33 c32_i32
  let c16_i32_16 : BitVec 32 := 16#32
  let v35 : BitVec 32 := Scalar.remsi v34 c16_i32_16
  let c15_i32_46 : BitVec 32 := 15#32
  let v64 : BitVec 1 := Scalar.cmpi .eq v35 c15_i32_46
  let c4_i32_47 : BitVec 32 := 4#32
  let c14_i32_44 : BitVec 32 := 14#32
  let v62 : BitVec 1 := Scalar.cmpi .eq v35 c14_i32_44
  let c8_i32_45 : BitVec 32 := 8#32
  let c13_i32_42 : BitVec 32 := 13#32
  let v60 : BitVec 1 := Scalar.cmpi .eq v35 c13_i32_42
  let c12_i32_43 : BitVec 32 := 12#32
  let c12_i32_40 : BitVec 32 := 12#32
  let v58 : BitVec 1 := Scalar.cmpi .eq v35 c12_i32_40
  let c15_i32_41 : BitVec 32 := 15#32
  let c11_i32_38 : BitVec 32 := 11#32
  let v56 : BitVec 1 := Scalar.cmpi .eq v35 c11_i32_38
  let c11_i32_39 : BitVec 32 := 11#32
  let c10_i32_36 : BitVec 32 := 10#32
  let v54 : BitVec 1 := Scalar.cmpi .eq v35 c10_i32_36
  let c7_i32_37 : BitVec 32 := 7#32
  let c9_i32_34 : BitVec 32 := 9#32
  let v52 : BitVec 1 := Scalar.cmpi .eq v35 c9_i32_34
  let c3_i32_35 : BitVec 32 := 3#32
  let c8_i32_32 : BitVec 32 := 8#32
  let v50 : BitVec 1 := Scalar.cmpi .eq v35 c8_i32_32
  let c2_i32_33 : BitVec 32 := 2#32
  let c7_i32_30 : BitVec 32 := 7#32
  let v48 : BitVec 1 := Scalar.cmpi .eq v35 c7_i32_30
  let c6_i32_31 : BitVec 32 := 6#32
  let c6_i32_28 : BitVec 32 := 6#32
  let v46 : BitVec 1 := Scalar.cmpi .eq v35 c6_i32_28
  let c10_i32_29 : BitVec 32 := 10#32
  let c5_i32_26 : BitVec 32 := 5#32
  let v44 : BitVec 1 := Scalar.cmpi .eq v35 c5_i32_26
  let c14_i32_27 : BitVec 32 := 14#32
  let c4_i32_24 : BitVec 32 := 4#32
  let v42 : BitVec 1 := Scalar.cmpi .eq v35 c4_i32_24
  let c13_i32_25 : BitVec 32 := 13#32
  let c3_i32_22 : BitVec 32 := 3#32
  let v40 : BitVec 1 := Scalar.cmpi .eq v35 c3_i32_22
  let c9_i32_23 : BitVec 32 := 9#32
  let c2_i32_20 : BitVec 32 := 2#32
  let v38 : BitVec 1 := Scalar.cmpi .eq v35 c2_i32_20
  let c5_i32_21 : BitVec 32 := 5#32
  let c1_i32_17 : BitVec 32 := 1#32
  let v36 : BitVec 1 := Scalar.cmpi .eq v35 c1_i32_17
  let c1_i32_18 : BitVec 32 := 1#32
  let c0_i32_19 : BitVec 32 := 0#32
  let v37 : BitVec 32 := Scalar.select v36 c1_i32_18 c0_i32_19
  let v39 : BitVec 32 := Scalar.select v38 c5_i32_21 v37
  let v41 : BitVec 32 := Scalar.select v40 c9_i32_23 v39
  let v43 : BitVec 32 := Scalar.select v42 c13_i32_25 v41
  let v45 : BitVec 32 := Scalar.select v44 c14_i32_27 v43
  let v47 : BitVec 32 := Scalar.select v46 c10_i32_29 v45
  let v49 : BitVec 32 := Scalar.select v48 c6_i32_31 v47
  let v51 : BitVec 32 := Scalar.select v50 c2_i32_33 v49
  let v53 : BitVec 32 := Scalar.select v52 c3_i32_35 v51
  let v55 : BitVec 32 := Scalar.select v54 c7_i32_37 v53
  let v57 : BitVec 32 := Scalar.select v56 c11_i32_39 v55
  let v59 : BitVec 32 := Scalar.select v58 c15_i32_41 v57
  let v61 : BitVec 32 := Scalar.select v60 c12_i32_43 v59
  let v63 : BitVec 32 := Scalar.select v62 c8_i32_45 v61
  let v65 : BitVec 32 := Scalar.select v64 c4_i32_47 v63
  let c1_i32_3050 : BitVec 32 := 1#32
  let v2281 : BitVec 32 := Scalar.muli v65 c1_i32_3050
  let v2282 : BitVec 32 := Scalar.addi c0_i32_3051 v2281
  v2282.toNat
def k0_dev83 (d0 : Dev nD) : Nat :=
  let c0_i32_3079 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c_m1_i32 : BitVec 32 := 4294967295#32
  let v33 : BitVec 32 := Scalar.addi v32 c_m1_i32
  let c32_i32 : BitVec 32 := 32#32
  let v34 : BitVec 32 := Scalar.addi v33 c32_i32
  let c16_i32_16 : BitVec 32 := 16#32
  let v35 : BitVec 32 := Scalar.remsi v34 c16_i32_16
  let c15_i32_46 : BitVec 32 := 15#32
  let v64 : BitVec 1 := Scalar.cmpi .eq v35 c15_i32_46
  let c4_i32_47 : BitVec 32 := 4#32
  let c14_i32_44 : BitVec 32 := 14#32
  let v62 : BitVec 1 := Scalar.cmpi .eq v35 c14_i32_44
  let c8_i32_45 : BitVec 32 := 8#32
  let c13_i32_42 : BitVec 32 := 13#32
  let v60 : BitVec 1 := Scalar.cmpi .eq v35 c13_i32_42
  let c12_i32_43 : BitVec 32 := 12#32
  let c12_i32_40 : BitVec 32 := 12#32
  let v58 : BitVec 1 := Scalar.cmpi .eq v35 c12_i32_40
  let c15_i32_41 : BitVec 32 := 15#32
  let c11_i32_38 : BitVec 32 := 11#32
  let v56 : BitVec 1 := Scalar.cmpi .eq v35 c11_i32_38
  let c11_i32_39 : BitVec 32 := 11#32
  let c10_i32_36 : BitVec 32 := 10#32
  let v54 : BitVec 1 := Scalar.cmpi .eq v35 c10_i32_36
  let c7_i32_37 : BitVec 32 := 7#32
  let c9_i32_34 : BitVec 32 := 9#32
  let v52 : BitVec 1 := Scalar.cmpi .eq v35 c9_i32_34
  let c3_i32_35 : BitVec 32 := 3#32
  let c8_i32_32 : BitVec 32 := 8#32
  let v50 : BitVec 1 := Scalar.cmpi .eq v35 c8_i32_32
  let c2_i32_33 : BitVec 32 := 2#32
  let c7_i32_30 : BitVec 32 := 7#32
  let v48 : BitVec 1 := Scalar.cmpi .eq v35 c7_i32_30
  let c6_i32_31 : BitVec 32 := 6#32
  let c6_i32_28 : BitVec 32 := 6#32
  let v46 : BitVec 1 := Scalar.cmpi .eq v35 c6_i32_28
  let c10_i32_29 : BitVec 32 := 10#32
  let c5_i32_26 : BitVec 32 := 5#32
  let v44 : BitVec 1 := Scalar.cmpi .eq v35 c5_i32_26
  let c14_i32_27 : BitVec 32 := 14#32
  let c4_i32_24 : BitVec 32 := 4#32
  let v42 : BitVec 1 := Scalar.cmpi .eq v35 c4_i32_24
  let c13_i32_25 : BitVec 32 := 13#32
  let c3_i32_22 : BitVec 32 := 3#32
  let v40 : BitVec 1 := Scalar.cmpi .eq v35 c3_i32_22
  let c9_i32_23 : BitVec 32 := 9#32
  let c2_i32_20 : BitVec 32 := 2#32
  let v38 : BitVec 1 := Scalar.cmpi .eq v35 c2_i32_20
  let c5_i32_21 : BitVec 32 := 5#32
  let c1_i32_17 : BitVec 32 := 1#32
  let v36 : BitVec 1 := Scalar.cmpi .eq v35 c1_i32_17
  let c1_i32_18 : BitVec 32 := 1#32
  let c0_i32_19 : BitVec 32 := 0#32
  let v37 : BitVec 32 := Scalar.select v36 c1_i32_18 c0_i32_19
  let v39 : BitVec 32 := Scalar.select v38 c5_i32_21 v37
  let v41 : BitVec 32 := Scalar.select v40 c9_i32_23 v39
  let v43 : BitVec 32 := Scalar.select v42 c13_i32_25 v41
  let v45 : BitVec 32 := Scalar.select v44 c14_i32_27 v43
  let v47 : BitVec 32 := Scalar.select v46 c10_i32_29 v45
  let v49 : BitVec 32 := Scalar.select v48 c6_i32_31 v47
  let v51 : BitVec 32 := Scalar.select v50 c2_i32_33 v49
  let v53 : BitVec 32 := Scalar.select v52 c3_i32_35 v51
  let v55 : BitVec 32 := Scalar.select v54 c7_i32_37 v53
  let v57 : BitVec 32 := Scalar.select v56 c11_i32_39 v55
  let v59 : BitVec 32 := Scalar.select v58 c15_i32_41 v57
  let v61 : BitVec 32 := Scalar.select v60 c12_i32_43 v59
  let v63 : BitVec 32 := Scalar.select v62 c8_i32_45 v61
  let v65 : BitVec 32 := Scalar.select v64 c4_i32_47 v63
  let c1_i32_3078 : BitVec 32 := 1#32
  let v2301 : BitVec 32 := Scalar.muli v65 c1_i32_3078
  let v2302 : BitVec 32 := Scalar.addi c0_i32_3079 v2301
  v2302.toNat
def k0_dev84 (d0 : Dev nD) : Nat :=
  let c0_i32_3107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c_m1_i32 : BitVec 32 := 4294967295#32
  let v33 : BitVec 32 := Scalar.addi v32 c_m1_i32
  let c32_i32 : BitVec 32 := 32#32
  let v34 : BitVec 32 := Scalar.addi v33 c32_i32
  let c16_i32_16 : BitVec 32 := 16#32
  let v35 : BitVec 32 := Scalar.remsi v34 c16_i32_16
  let c15_i32_46 : BitVec 32 := 15#32
  let v64 : BitVec 1 := Scalar.cmpi .eq v35 c15_i32_46
  let c4_i32_47 : BitVec 32 := 4#32
  let c14_i32_44 : BitVec 32 := 14#32
  let v62 : BitVec 1 := Scalar.cmpi .eq v35 c14_i32_44
  let c8_i32_45 : BitVec 32 := 8#32
  let c13_i32_42 : BitVec 32 := 13#32
  let v60 : BitVec 1 := Scalar.cmpi .eq v35 c13_i32_42
  let c12_i32_43 : BitVec 32 := 12#32
  let c12_i32_40 : BitVec 32 := 12#32
  let v58 : BitVec 1 := Scalar.cmpi .eq v35 c12_i32_40
  let c15_i32_41 : BitVec 32 := 15#32
  let c11_i32_38 : BitVec 32 := 11#32
  let v56 : BitVec 1 := Scalar.cmpi .eq v35 c11_i32_38
  let c11_i32_39 : BitVec 32 := 11#32
  let c10_i32_36 : BitVec 32 := 10#32
  let v54 : BitVec 1 := Scalar.cmpi .eq v35 c10_i32_36
  let c7_i32_37 : BitVec 32 := 7#32
  let c9_i32_34 : BitVec 32 := 9#32
  let v52 : BitVec 1 := Scalar.cmpi .eq v35 c9_i32_34
  let c3_i32_35 : BitVec 32 := 3#32
  let c8_i32_32 : BitVec 32 := 8#32
  let v50 : BitVec 1 := Scalar.cmpi .eq v35 c8_i32_32
  let c2_i32_33 : BitVec 32 := 2#32
  let c7_i32_30 : BitVec 32 := 7#32
  let v48 : BitVec 1 := Scalar.cmpi .eq v35 c7_i32_30
  let c6_i32_31 : BitVec 32 := 6#32
  let c6_i32_28 : BitVec 32 := 6#32
  let v46 : BitVec 1 := Scalar.cmpi .eq v35 c6_i32_28
  let c10_i32_29 : BitVec 32 := 10#32
  let c5_i32_26 : BitVec 32 := 5#32
  let v44 : BitVec 1 := Scalar.cmpi .eq v35 c5_i32_26
  let c14_i32_27 : BitVec 32 := 14#32
  let c4_i32_24 : BitVec 32 := 4#32
  let v42 : BitVec 1 := Scalar.cmpi .eq v35 c4_i32_24
  let c13_i32_25 : BitVec 32 := 13#32
  let c3_i32_22 : BitVec 32 := 3#32
  let v40 : BitVec 1 := Scalar.cmpi .eq v35 c3_i32_22
  let c9_i32_23 : BitVec 32 := 9#32
  let c2_i32_20 : BitVec 32 := 2#32
  let v38 : BitVec 1 := Scalar.cmpi .eq v35 c2_i32_20
  let c5_i32_21 : BitVec 32 := 5#32
  let c1_i32_17 : BitVec 32 := 1#32
  let v36 : BitVec 1 := Scalar.cmpi .eq v35 c1_i32_17
  let c1_i32_18 : BitVec 32 := 1#32
  let c0_i32_19 : BitVec 32 := 0#32
  let v37 : BitVec 32 := Scalar.select v36 c1_i32_18 c0_i32_19
  let v39 : BitVec 32 := Scalar.select v38 c5_i32_21 v37
  let v41 : BitVec 32 := Scalar.select v40 c9_i32_23 v39
  let v43 : BitVec 32 := Scalar.select v42 c13_i32_25 v41
  let v45 : BitVec 32 := Scalar.select v44 c14_i32_27 v43
  let v47 : BitVec 32 := Scalar.select v46 c10_i32_29 v45
  let v49 : BitVec 32 := Scalar.select v48 c6_i32_31 v47
  let v51 : BitVec 32 := Scalar.select v50 c2_i32_33 v49
  let v53 : BitVec 32 := Scalar.select v52 c3_i32_35 v51
  let v55 : BitVec 32 := Scalar.select v54 c7_i32_37 v53
  let v57 : BitVec 32 := Scalar.select v56 c11_i32_39 v55
  let v59 : BitVec 32 := Scalar.select v58 c15_i32_41 v57
  let v61 : BitVec 32 := Scalar.select v60 c12_i32_43 v59
  let v63 : BitVec 32 := Scalar.select v62 c8_i32_45 v61
  let v65 : BitVec 32 := Scalar.select v64 c4_i32_47 v63
  let c1_i32_3106 : BitVec 32 := 1#32
  let v2321 : BitVec 32 := Scalar.muli v65 c1_i32_3106
  let v2322 : BitVec 32 := Scalar.addi c0_i32_3107 v2321
  v2322.toNat
def k0_dev85 (d0 : Dev nD) : Nat :=
  let c0_i32_3135 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c_m1_i32 : BitVec 32 := 4294967295#32
  let v33 : BitVec 32 := Scalar.addi v32 c_m1_i32
  let c32_i32 : BitVec 32 := 32#32
  let v34 : BitVec 32 := Scalar.addi v33 c32_i32
  let c16_i32_16 : BitVec 32 := 16#32
  let v35 : BitVec 32 := Scalar.remsi v34 c16_i32_16
  let c15_i32_46 : BitVec 32 := 15#32
  let v64 : BitVec 1 := Scalar.cmpi .eq v35 c15_i32_46
  let c4_i32_47 : BitVec 32 := 4#32
  let c14_i32_44 : BitVec 32 := 14#32
  let v62 : BitVec 1 := Scalar.cmpi .eq v35 c14_i32_44
  let c8_i32_45 : BitVec 32 := 8#32
  let c13_i32_42 : BitVec 32 := 13#32
  let v60 : BitVec 1 := Scalar.cmpi .eq v35 c13_i32_42
  let c12_i32_43 : BitVec 32 := 12#32
  let c12_i32_40 : BitVec 32 := 12#32
  let v58 : BitVec 1 := Scalar.cmpi .eq v35 c12_i32_40
  let c15_i32_41 : BitVec 32 := 15#32
  let c11_i32_38 : BitVec 32 := 11#32
  let v56 : BitVec 1 := Scalar.cmpi .eq v35 c11_i32_38
  let c11_i32_39 : BitVec 32 := 11#32
  let c10_i32_36 : BitVec 32 := 10#32
  let v54 : BitVec 1 := Scalar.cmpi .eq v35 c10_i32_36
  let c7_i32_37 : BitVec 32 := 7#32
  let c9_i32_34 : BitVec 32 := 9#32
  let v52 : BitVec 1 := Scalar.cmpi .eq v35 c9_i32_34
  let c3_i32_35 : BitVec 32 := 3#32
  let c8_i32_32 : BitVec 32 := 8#32
  let v50 : BitVec 1 := Scalar.cmpi .eq v35 c8_i32_32
  let c2_i32_33 : BitVec 32 := 2#32
  let c7_i32_30 : BitVec 32 := 7#32
  let v48 : BitVec 1 := Scalar.cmpi .eq v35 c7_i32_30
  let c6_i32_31 : BitVec 32 := 6#32
  let c6_i32_28 : BitVec 32 := 6#32
  let v46 : BitVec 1 := Scalar.cmpi .eq v35 c6_i32_28
  let c10_i32_29 : BitVec 32 := 10#32
  let c5_i32_26 : BitVec 32 := 5#32
  let v44 : BitVec 1 := Scalar.cmpi .eq v35 c5_i32_26
  let c14_i32_27 : BitVec 32 := 14#32
  let c4_i32_24 : BitVec 32 := 4#32
  let v42 : BitVec 1 := Scalar.cmpi .eq v35 c4_i32_24
  let c13_i32_25 : BitVec 32 := 13#32
  let c3_i32_22 : BitVec 32 := 3#32
  let v40 : BitVec 1 := Scalar.cmpi .eq v35 c3_i32_22
  let c9_i32_23 : BitVec 32 := 9#32
  let c2_i32_20 : BitVec 32 := 2#32
  let v38 : BitVec 1 := Scalar.cmpi .eq v35 c2_i32_20
  let c5_i32_21 : BitVec 32 := 5#32
  let c1_i32_17 : BitVec 32 := 1#32
  let v36 : BitVec 1 := Scalar.cmpi .eq v35 c1_i32_17
  let c1_i32_18 : BitVec 32 := 1#32
  let c0_i32_19 : BitVec 32 := 0#32
  let v37 : BitVec 32 := Scalar.select v36 c1_i32_18 c0_i32_19
  let v39 : BitVec 32 := Scalar.select v38 c5_i32_21 v37
  let v41 : BitVec 32 := Scalar.select v40 c9_i32_23 v39
  let v43 : BitVec 32 := Scalar.select v42 c13_i32_25 v41
  let v45 : BitVec 32 := Scalar.select v44 c14_i32_27 v43
  let v47 : BitVec 32 := Scalar.select v46 c10_i32_29 v45
  let v49 : BitVec 32 := Scalar.select v48 c6_i32_31 v47
  let v51 : BitVec 32 := Scalar.select v50 c2_i32_33 v49
  let v53 : BitVec 32 := Scalar.select v52 c3_i32_35 v51
  let v55 : BitVec 32 := Scalar.select v54 c7_i32_37 v53
  let v57 : BitVec 32 := Scalar.select v56 c11_i32_39 v55
  let v59 : BitVec 32 := Scalar.select v58 c15_i32_41 v57
  let v61 : BitVec 32 := Scalar.select v60 c12_i32_43 v59
  let v63 : BitVec 32 := Scalar.select v62 c8_i32_45 v61
  let v65 : BitVec 32 := Scalar.select v64 c4_i32_47 v63
  let c1_i32_3134 : BitVec 32 := 1#32
  let v2341 : BitVec 32 := Scalar.muli v65 c1_i32_3134
  let v2342 : BitVec 32 := Scalar.addi c0_i32_3135 v2341
  v2342.toNat
def k0_dev86 (d0 : Dev nD) : Nat :=
  let c0_i32_3163 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c_m1_i32 : BitVec 32 := 4294967295#32
  let v33 : BitVec 32 := Scalar.addi v32 c_m1_i32
  let c32_i32 : BitVec 32 := 32#32
  let v34 : BitVec 32 := Scalar.addi v33 c32_i32
  let c16_i32_16 : BitVec 32 := 16#32
  let v35 : BitVec 32 := Scalar.remsi v34 c16_i32_16
  let c15_i32_46 : BitVec 32 := 15#32
  let v64 : BitVec 1 := Scalar.cmpi .eq v35 c15_i32_46
  let c4_i32_47 : BitVec 32 := 4#32
  let c14_i32_44 : BitVec 32 := 14#32
  let v62 : BitVec 1 := Scalar.cmpi .eq v35 c14_i32_44
  let c8_i32_45 : BitVec 32 := 8#32
  let c13_i32_42 : BitVec 32 := 13#32
  let v60 : BitVec 1 := Scalar.cmpi .eq v35 c13_i32_42
  let c12_i32_43 : BitVec 32 := 12#32
  let c12_i32_40 : BitVec 32 := 12#32
  let v58 : BitVec 1 := Scalar.cmpi .eq v35 c12_i32_40
  let c15_i32_41 : BitVec 32 := 15#32
  let c11_i32_38 : BitVec 32 := 11#32
  let v56 : BitVec 1 := Scalar.cmpi .eq v35 c11_i32_38
  let c11_i32_39 : BitVec 32 := 11#32
  let c10_i32_36 : BitVec 32 := 10#32
  let v54 : BitVec 1 := Scalar.cmpi .eq v35 c10_i32_36
  let c7_i32_37 : BitVec 32 := 7#32
  let c9_i32_34 : BitVec 32 := 9#32
  let v52 : BitVec 1 := Scalar.cmpi .eq v35 c9_i32_34
  let c3_i32_35 : BitVec 32 := 3#32
  let c8_i32_32 : BitVec 32 := 8#32
  let v50 : BitVec 1 := Scalar.cmpi .eq v35 c8_i32_32
  let c2_i32_33 : BitVec 32 := 2#32
  let c7_i32_30 : BitVec 32 := 7#32
  let v48 : BitVec 1 := Scalar.cmpi .eq v35 c7_i32_30
  let c6_i32_31 : BitVec 32 := 6#32
  let c6_i32_28 : BitVec 32 := 6#32
  let v46 : BitVec 1 := Scalar.cmpi .eq v35 c6_i32_28
  let c10_i32_29 : BitVec 32 := 10#32
  let c5_i32_26 : BitVec 32 := 5#32
  let v44 : BitVec 1 := Scalar.cmpi .eq v35 c5_i32_26
  let c14_i32_27 : BitVec 32 := 14#32
  let c4_i32_24 : BitVec 32 := 4#32
  let v42 : BitVec 1 := Scalar.cmpi .eq v35 c4_i32_24
  let c13_i32_25 : BitVec 32 := 13#32
  let c3_i32_22 : BitVec 32 := 3#32
  let v40 : BitVec 1 := Scalar.cmpi .eq v35 c3_i32_22
  let c9_i32_23 : BitVec 32 := 9#32
  let c2_i32_20 : BitVec 32 := 2#32
  let v38 : BitVec 1 := Scalar.cmpi .eq v35 c2_i32_20
  let c5_i32_21 : BitVec 32 := 5#32
  let c1_i32_17 : BitVec 32 := 1#32
  let v36 : BitVec 1 := Scalar.cmpi .eq v35 c1_i32_17
  let c1_i32_18 : BitVec 32 := 1#32
  let c0_i32_19 : BitVec 32 := 0#32
  let v37 : BitVec 32 := Scalar.select v36 c1_i32_18 c0_i32_19
  let v39 : BitVec 32 := Scalar.select v38 c5_i32_21 v37
  let v41 : BitVec 32 := Scalar.select v40 c9_i32_23 v39
  let v43 : BitVec 32 := Scalar.select v42 c13_i32_25 v41
  let v45 : BitVec 32 := Scalar.select v44 c14_i32_27 v43
  let v47 : BitVec 32 := Scalar.select v46 c10_i32_29 v45
  let v49 : BitVec 32 := Scalar.select v48 c6_i32_31 v47
  let v51 : BitVec 32 := Scalar.select v50 c2_i32_33 v49
  let v53 : BitVec 32 := Scalar.select v52 c3_i32_35 v51
  let v55 : BitVec 32 := Scalar.select v54 c7_i32_37 v53
  let v57 : BitVec 32 := Scalar.select v56 c11_i32_39 v55
  let v59 : BitVec 32 := Scalar.select v58 c15_i32_41 v57
  let v61 : BitVec 32 := Scalar.select v60 c12_i32_43 v59
  let v63 : BitVec 32 := Scalar.select v62 c8_i32_45 v61
  let v65 : BitVec 32 := Scalar.select v64 c4_i32_47 v63
  let c1_i32_3162 : BitVec 32 := 1#32
  let v2361 : BitVec 32 := Scalar.muli v65 c1_i32_3162
  let v2362 : BitVec 32 := Scalar.addi c0_i32_3163 v2361
  v2362.toNat
def k0_dev87 (d0 : Dev nD) : Nat :=
  let c0_i32_3402 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c_m1_i32 : BitVec 32 := 4294967295#32
  let v33 : BitVec 32 := Scalar.addi v32 c_m1_i32
  let c32_i32 : BitVec 32 := 32#32
  let v34 : BitVec 32 := Scalar.addi v33 c32_i32
  let c16_i32_16 : BitVec 32 := 16#32
  let v35 : BitVec 32 := Scalar.remsi v34 c16_i32_16
  let c15_i32_46 : BitVec 32 := 15#32
  let v64 : BitVec 1 := Scalar.cmpi .eq v35 c15_i32_46
  let c4_i32_47 : BitVec 32 := 4#32
  let c14_i32_44 : BitVec 32 := 14#32
  let v62 : BitVec 1 := Scalar.cmpi .eq v35 c14_i32_44
  let c8_i32_45 : BitVec 32 := 8#32
  let c13_i32_42 : BitVec 32 := 13#32
  let v60 : BitVec 1 := Scalar.cmpi .eq v35 c13_i32_42
  let c12_i32_43 : BitVec 32 := 12#32
  let c12_i32_40 : BitVec 32 := 12#32
  let v58 : BitVec 1 := Scalar.cmpi .eq v35 c12_i32_40
  let c15_i32_41 : BitVec 32 := 15#32
  let c11_i32_38 : BitVec 32 := 11#32
  let v56 : BitVec 1 := Scalar.cmpi .eq v35 c11_i32_38
  let c11_i32_39 : BitVec 32 := 11#32
  let c10_i32_36 : BitVec 32 := 10#32
  let v54 : BitVec 1 := Scalar.cmpi .eq v35 c10_i32_36
  let c7_i32_37 : BitVec 32 := 7#32
  let c9_i32_34 : BitVec 32 := 9#32
  let v52 : BitVec 1 := Scalar.cmpi .eq v35 c9_i32_34
  let c3_i32_35 : BitVec 32 := 3#32
  let c8_i32_32 : BitVec 32 := 8#32
  let v50 : BitVec 1 := Scalar.cmpi .eq v35 c8_i32_32
  let c2_i32_33 : BitVec 32 := 2#32
  let c7_i32_30 : BitVec 32 := 7#32
  let v48 : BitVec 1 := Scalar.cmpi .eq v35 c7_i32_30
  let c6_i32_31 : BitVec 32 := 6#32
  let c6_i32_28 : BitVec 32 := 6#32
  let v46 : BitVec 1 := Scalar.cmpi .eq v35 c6_i32_28
  let c10_i32_29 : BitVec 32 := 10#32
  let c5_i32_26 : BitVec 32 := 5#32
  let v44 : BitVec 1 := Scalar.cmpi .eq v35 c5_i32_26
  let c14_i32_27 : BitVec 32 := 14#32
  let c4_i32_24 : BitVec 32 := 4#32
  let v42 : BitVec 1 := Scalar.cmpi .eq v35 c4_i32_24
  let c13_i32_25 : BitVec 32 := 13#32
  let c3_i32_22 : BitVec 32 := 3#32
  let v40 : BitVec 1 := Scalar.cmpi .eq v35 c3_i32_22
  let c9_i32_23 : BitVec 32 := 9#32
  let c2_i32_20 : BitVec 32 := 2#32
  let v38 : BitVec 1 := Scalar.cmpi .eq v35 c2_i32_20
  let c5_i32_21 : BitVec 32 := 5#32
  let c1_i32_17 : BitVec 32 := 1#32
  let v36 : BitVec 1 := Scalar.cmpi .eq v35 c1_i32_17
  let c1_i32_18 : BitVec 32 := 1#32
  let c0_i32_19 : BitVec 32 := 0#32
  let v37 : BitVec 32 := Scalar.select v36 c1_i32_18 c0_i32_19
  let v39 : BitVec 32 := Scalar.select v38 c5_i32_21 v37
  let v41 : BitVec 32 := Scalar.select v40 c9_i32_23 v39
  let v43 : BitVec 32 := Scalar.select v42 c13_i32_25 v41
  let v45 : BitVec 32 := Scalar.select v44 c14_i32_27 v43
  let v47 : BitVec 32 := Scalar.select v46 c10_i32_29 v45
  let v49 : BitVec 32 := Scalar.select v48 c6_i32_31 v47
  let v51 : BitVec 32 := Scalar.select v50 c2_i32_33 v49
  let v53 : BitVec 32 := Scalar.select v52 c3_i32_35 v51
  let v55 : BitVec 32 := Scalar.select v54 c7_i32_37 v53
  let v57 : BitVec 32 := Scalar.select v56 c11_i32_39 v55
  let v59 : BitVec 32 := Scalar.select v58 c15_i32_41 v57
  let v61 : BitVec 32 := Scalar.select v60 c12_i32_43 v59
  let v63 : BitVec 32 := Scalar.select v62 c8_i32_45 v61
  let v65 : BitVec 32 := Scalar.select v64 c4_i32_47 v63
  let c1_i32_3401 : BitVec 32 := 1#32
  let v2504 : BitVec 32 := Scalar.muli v65 c1_i32_3401
  let v2505 : BitVec 32 := Scalar.addi c0_i32_3402 v2504
  v2505.toNat
def k0_dev88 (d0 : Dev nD) : Nat :=
  let c0_i32_3405 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_48 : BitVec 32 := 1#32
  let v66 : BitVec 32 := Scalar.addi v32 c1_i32_48
  let c32_i32_49 : BitVec 32 := 32#32
  let v67 : BitVec 32 := Scalar.addi v66 c32_i32_49
  let c16_i32_50 : BitVec 32 := 16#32
  let v68 : BitVec 32 := Scalar.remsi v67 c16_i32_50
  let c15_i32_80 : BitVec 32 := 15#32
  let v97 : BitVec 1 := Scalar.cmpi .eq v68 c15_i32_80
  let c4_i32_81 : BitVec 32 := 4#32
  let c14_i32_78 : BitVec 32 := 14#32
  let v95 : BitVec 1 := Scalar.cmpi .eq v68 c14_i32_78
  let c8_i32_79 : BitVec 32 := 8#32
  let c13_i32_76 : BitVec 32 := 13#32
  let v93 : BitVec 1 := Scalar.cmpi .eq v68 c13_i32_76
  let c12_i32_77 : BitVec 32 := 12#32
  let c12_i32_74 : BitVec 32 := 12#32
  let v91 : BitVec 1 := Scalar.cmpi .eq v68 c12_i32_74
  let c15_i32_75 : BitVec 32 := 15#32
  let c11_i32_72 : BitVec 32 := 11#32
  let v89 : BitVec 1 := Scalar.cmpi .eq v68 c11_i32_72
  let c11_i32_73 : BitVec 32 := 11#32
  let c10_i32_70 : BitVec 32 := 10#32
  let v87 : BitVec 1 := Scalar.cmpi .eq v68 c10_i32_70
  let c7_i32_71 : BitVec 32 := 7#32
  let c9_i32_68 : BitVec 32 := 9#32
  let v85 : BitVec 1 := Scalar.cmpi .eq v68 c9_i32_68
  let c3_i32_69 : BitVec 32 := 3#32
  let c8_i32_66 : BitVec 32 := 8#32
  let v83 : BitVec 1 := Scalar.cmpi .eq v68 c8_i32_66
  let c2_i32_67 : BitVec 32 := 2#32
  let c7_i32_64 : BitVec 32 := 7#32
  let v81 : BitVec 1 := Scalar.cmpi .eq v68 c7_i32_64
  let c6_i32_65 : BitVec 32 := 6#32
  let c6_i32_62 : BitVec 32 := 6#32
  let v79 : BitVec 1 := Scalar.cmpi .eq v68 c6_i32_62
  let c10_i32_63 : BitVec 32 := 10#32
  let c5_i32_60 : BitVec 32 := 5#32
  let v77 : BitVec 1 := Scalar.cmpi .eq v68 c5_i32_60
  let c14_i32_61 : BitVec 32 := 14#32
  let c4_i32_58 : BitVec 32 := 4#32
  let v75 : BitVec 1 := Scalar.cmpi .eq v68 c4_i32_58
  let c13_i32_59 : BitVec 32 := 13#32
  let c3_i32_56 : BitVec 32 := 3#32
  let v73 : BitVec 1 := Scalar.cmpi .eq v68 c3_i32_56
  let c9_i32_57 : BitVec 32 := 9#32
  let c2_i32_54 : BitVec 32 := 2#32
  let v71 : BitVec 1 := Scalar.cmpi .eq v68 c2_i32_54
  let c5_i32_55 : BitVec 32 := 5#32
  let c1_i32_51 : BitVec 32 := 1#32
  let v69 : BitVec 1 := Scalar.cmpi .eq v68 c1_i32_51
  let c1_i32_52 : BitVec 32 := 1#32
  let c0_i32_53 : BitVec 32 := 0#32
  let v70 : BitVec 32 := Scalar.select v69 c1_i32_52 c0_i32_53
  let v72 : BitVec 32 := Scalar.select v71 c5_i32_55 v70
  let v74 : BitVec 32 := Scalar.select v73 c9_i32_57 v72
  let v76 : BitVec 32 := Scalar.select v75 c13_i32_59 v74
  let v78 : BitVec 32 := Scalar.select v77 c14_i32_61 v76
  let v80 : BitVec 32 := Scalar.select v79 c10_i32_63 v78
  let v82 : BitVec 32 := Scalar.select v81 c6_i32_65 v80
  let v84 : BitVec 32 := Scalar.select v83 c2_i32_67 v82
  let v86 : BitVec 32 := Scalar.select v85 c3_i32_69 v84
  let v88 : BitVec 32 := Scalar.select v87 c7_i32_71 v86
  let v90 : BitVec 32 := Scalar.select v89 c11_i32_73 v88
  let v92 : BitVec 32 := Scalar.select v91 c15_i32_75 v90
  let v94 : BitVec 32 := Scalar.select v93 c12_i32_77 v92
  let v96 : BitVec 32 := Scalar.select v95 c8_i32_79 v94
  let v98 : BitVec 32 := Scalar.select v97 c4_i32_81 v96
  let c1_i32_3404 : BitVec 32 := 1#32
  let v2506 : BitVec 32 := Scalar.muli v98 c1_i32_3404
  let v2507 : BitVec 32 := Scalar.addi c0_i32_3405 v2506
  v2507.toNat
def k0_dev89 (d0 : Dev nD) : Nat :=
  let c0_i32_3431 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_48 : BitVec 32 := 1#32
  let v66 : BitVec 32 := Scalar.addi v32 c1_i32_48
  let c32_i32_49 : BitVec 32 := 32#32
  let v67 : BitVec 32 := Scalar.addi v66 c32_i32_49
  let c16_i32_50 : BitVec 32 := 16#32
  let v68 : BitVec 32 := Scalar.remsi v67 c16_i32_50
  let c15_i32_80 : BitVec 32 := 15#32
  let v97 : BitVec 1 := Scalar.cmpi .eq v68 c15_i32_80
  let c4_i32_81 : BitVec 32 := 4#32
  let c14_i32_78 : BitVec 32 := 14#32
  let v95 : BitVec 1 := Scalar.cmpi .eq v68 c14_i32_78
  let c8_i32_79 : BitVec 32 := 8#32
  let c13_i32_76 : BitVec 32 := 13#32
  let v93 : BitVec 1 := Scalar.cmpi .eq v68 c13_i32_76
  let c12_i32_77 : BitVec 32 := 12#32
  let c12_i32_74 : BitVec 32 := 12#32
  let v91 : BitVec 1 := Scalar.cmpi .eq v68 c12_i32_74
  let c15_i32_75 : BitVec 32 := 15#32
  let c11_i32_72 : BitVec 32 := 11#32
  let v89 : BitVec 1 := Scalar.cmpi .eq v68 c11_i32_72
  let c11_i32_73 : BitVec 32 := 11#32
  let c10_i32_70 : BitVec 32 := 10#32
  let v87 : BitVec 1 := Scalar.cmpi .eq v68 c10_i32_70
  let c7_i32_71 : BitVec 32 := 7#32
  let c9_i32_68 : BitVec 32 := 9#32
  let v85 : BitVec 1 := Scalar.cmpi .eq v68 c9_i32_68
  let c3_i32_69 : BitVec 32 := 3#32
  let c8_i32_66 : BitVec 32 := 8#32
  let v83 : BitVec 1 := Scalar.cmpi .eq v68 c8_i32_66
  let c2_i32_67 : BitVec 32 := 2#32
  let c7_i32_64 : BitVec 32 := 7#32
  let v81 : BitVec 1 := Scalar.cmpi .eq v68 c7_i32_64
  let c6_i32_65 : BitVec 32 := 6#32
  let c6_i32_62 : BitVec 32 := 6#32
  let v79 : BitVec 1 := Scalar.cmpi .eq v68 c6_i32_62
  let c10_i32_63 : BitVec 32 := 10#32
  let c5_i32_60 : BitVec 32 := 5#32
  let v77 : BitVec 1 := Scalar.cmpi .eq v68 c5_i32_60
  let c14_i32_61 : BitVec 32 := 14#32
  let c4_i32_58 : BitVec 32 := 4#32
  let v75 : BitVec 1 := Scalar.cmpi .eq v68 c4_i32_58
  let c13_i32_59 : BitVec 32 := 13#32
  let c3_i32_56 : BitVec 32 := 3#32
  let v73 : BitVec 1 := Scalar.cmpi .eq v68 c3_i32_56
  let c9_i32_57 : BitVec 32 := 9#32
  let c2_i32_54 : BitVec 32 := 2#32
  let v71 : BitVec 1 := Scalar.cmpi .eq v68 c2_i32_54
  let c5_i32_55 : BitVec 32 := 5#32
  let c1_i32_51 : BitVec 32 := 1#32
  let v69 : BitVec 1 := Scalar.cmpi .eq v68 c1_i32_51
  let c1_i32_52 : BitVec 32 := 1#32
  let c0_i32_53 : BitVec 32 := 0#32
  let v70 : BitVec 32 := Scalar.select v69 c1_i32_52 c0_i32_53
  let v72 : BitVec 32 := Scalar.select v71 c5_i32_55 v70
  let v74 : BitVec 32 := Scalar.select v73 c9_i32_57 v72
  let v76 : BitVec 32 := Scalar.select v75 c13_i32_59 v74
  let v78 : BitVec 32 := Scalar.select v77 c14_i32_61 v76
  let v80 : BitVec 32 := Scalar.select v79 c10_i32_63 v78
  let v82 : BitVec 32 := Scalar.select v81 c6_i32_65 v80
  let v84 : BitVec 32 := Scalar.select v83 c2_i32_67 v82
  let v86 : BitVec 32 := Scalar.select v85 c3_i32_69 v84
  let v88 : BitVec 32 := Scalar.select v87 c7_i32_71 v86
  let v90 : BitVec 32 := Scalar.select v89 c11_i32_73 v88
  let v92 : BitVec 32 := Scalar.select v91 c15_i32_75 v90
  let v94 : BitVec 32 := Scalar.select v93 c12_i32_77 v92
  let v96 : BitVec 32 := Scalar.select v95 c8_i32_79 v94
  let v98 : BitVec 32 := Scalar.select v97 c4_i32_81 v96
  let c1_i32_3430 : BitVec 32 := 1#32
  let v2517 : BitVec 32 := Scalar.muli v98 c1_i32_3430
  let v2518 : BitVec 32 := Scalar.addi c0_i32_3431 v2517
  v2518.toNat
def k0_dev90 (d0 : Dev nD) : Nat :=
  let c0_i32_3459 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_48 : BitVec 32 := 1#32
  let v66 : BitVec 32 := Scalar.addi v32 c1_i32_48
  let c32_i32_49 : BitVec 32 := 32#32
  let v67 : BitVec 32 := Scalar.addi v66 c32_i32_49
  let c16_i32_50 : BitVec 32 := 16#32
  let v68 : BitVec 32 := Scalar.remsi v67 c16_i32_50
  let c15_i32_80 : BitVec 32 := 15#32
  let v97 : BitVec 1 := Scalar.cmpi .eq v68 c15_i32_80
  let c4_i32_81 : BitVec 32 := 4#32
  let c14_i32_78 : BitVec 32 := 14#32
  let v95 : BitVec 1 := Scalar.cmpi .eq v68 c14_i32_78
  let c8_i32_79 : BitVec 32 := 8#32
  let c13_i32_76 : BitVec 32 := 13#32
  let v93 : BitVec 1 := Scalar.cmpi .eq v68 c13_i32_76
  let c12_i32_77 : BitVec 32 := 12#32
  let c12_i32_74 : BitVec 32 := 12#32
  let v91 : BitVec 1 := Scalar.cmpi .eq v68 c12_i32_74
  let c15_i32_75 : BitVec 32 := 15#32
  let c11_i32_72 : BitVec 32 := 11#32
  let v89 : BitVec 1 := Scalar.cmpi .eq v68 c11_i32_72
  let c11_i32_73 : BitVec 32 := 11#32
  let c10_i32_70 : BitVec 32 := 10#32
  let v87 : BitVec 1 := Scalar.cmpi .eq v68 c10_i32_70
  let c7_i32_71 : BitVec 32 := 7#32
  let c9_i32_68 : BitVec 32 := 9#32
  let v85 : BitVec 1 := Scalar.cmpi .eq v68 c9_i32_68
  let c3_i32_69 : BitVec 32 := 3#32
  let c8_i32_66 : BitVec 32 := 8#32
  let v83 : BitVec 1 := Scalar.cmpi .eq v68 c8_i32_66
  let c2_i32_67 : BitVec 32 := 2#32
  let c7_i32_64 : BitVec 32 := 7#32
  let v81 : BitVec 1 := Scalar.cmpi .eq v68 c7_i32_64
  let c6_i32_65 : BitVec 32 := 6#32
  let c6_i32_62 : BitVec 32 := 6#32
  let v79 : BitVec 1 := Scalar.cmpi .eq v68 c6_i32_62
  let c10_i32_63 : BitVec 32 := 10#32
  let c5_i32_60 : BitVec 32 := 5#32
  let v77 : BitVec 1 := Scalar.cmpi .eq v68 c5_i32_60
  let c14_i32_61 : BitVec 32 := 14#32
  let c4_i32_58 : BitVec 32 := 4#32
  let v75 : BitVec 1 := Scalar.cmpi .eq v68 c4_i32_58
  let c13_i32_59 : BitVec 32 := 13#32
  let c3_i32_56 : BitVec 32 := 3#32
  let v73 : BitVec 1 := Scalar.cmpi .eq v68 c3_i32_56
  let c9_i32_57 : BitVec 32 := 9#32
  let c2_i32_54 : BitVec 32 := 2#32
  let v71 : BitVec 1 := Scalar.cmpi .eq v68 c2_i32_54
  let c5_i32_55 : BitVec 32 := 5#32
  let c1_i32_51 : BitVec 32 := 1#32
  let v69 : BitVec 1 := Scalar.cmpi .eq v68 c1_i32_51
  let c1_i32_52 : BitVec 32 := 1#32
  let c0_i32_53 : BitVec 32 := 0#32
  let v70 : BitVec 32 := Scalar.select v69 c1_i32_52 c0_i32_53
  let v72 : BitVec 32 := Scalar.select v71 c5_i32_55 v70
  let v74 : BitVec 32 := Scalar.select v73 c9_i32_57 v72
  let v76 : BitVec 32 := Scalar.select v75 c13_i32_59 v74
  let v78 : BitVec 32 := Scalar.select v77 c14_i32_61 v76
  let v80 : BitVec 32 := Scalar.select v79 c10_i32_63 v78
  let v82 : BitVec 32 := Scalar.select v81 c6_i32_65 v80
  let v84 : BitVec 32 := Scalar.select v83 c2_i32_67 v82
  let v86 : BitVec 32 := Scalar.select v85 c3_i32_69 v84
  let v88 : BitVec 32 := Scalar.select v87 c7_i32_71 v86
  let v90 : BitVec 32 := Scalar.select v89 c11_i32_73 v88
  let v92 : BitVec 32 := Scalar.select v91 c15_i32_75 v90
  let v94 : BitVec 32 := Scalar.select v93 c12_i32_77 v92
  let v96 : BitVec 32 := Scalar.select v95 c8_i32_79 v94
  let v98 : BitVec 32 := Scalar.select v97 c4_i32_81 v96
  let c1_i32_3458 : BitVec 32 := 1#32
  let v2537 : BitVec 32 := Scalar.muli v98 c1_i32_3458
  let v2538 : BitVec 32 := Scalar.addi c0_i32_3459 v2537
  v2538.toNat
def k0_dev91 (d0 : Dev nD) : Nat :=
  let c0_i32_3487 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_48 : BitVec 32 := 1#32
  let v66 : BitVec 32 := Scalar.addi v32 c1_i32_48
  let c32_i32_49 : BitVec 32 := 32#32
  let v67 : BitVec 32 := Scalar.addi v66 c32_i32_49
  let c16_i32_50 : BitVec 32 := 16#32
  let v68 : BitVec 32 := Scalar.remsi v67 c16_i32_50
  let c15_i32_80 : BitVec 32 := 15#32
  let v97 : BitVec 1 := Scalar.cmpi .eq v68 c15_i32_80
  let c4_i32_81 : BitVec 32 := 4#32
  let c14_i32_78 : BitVec 32 := 14#32
  let v95 : BitVec 1 := Scalar.cmpi .eq v68 c14_i32_78
  let c8_i32_79 : BitVec 32 := 8#32
  let c13_i32_76 : BitVec 32 := 13#32
  let v93 : BitVec 1 := Scalar.cmpi .eq v68 c13_i32_76
  let c12_i32_77 : BitVec 32 := 12#32
  let c12_i32_74 : BitVec 32 := 12#32
  let v91 : BitVec 1 := Scalar.cmpi .eq v68 c12_i32_74
  let c15_i32_75 : BitVec 32 := 15#32
  let c11_i32_72 : BitVec 32 := 11#32
  let v89 : BitVec 1 := Scalar.cmpi .eq v68 c11_i32_72
  let c11_i32_73 : BitVec 32 := 11#32
  let c10_i32_70 : BitVec 32 := 10#32
  let v87 : BitVec 1 := Scalar.cmpi .eq v68 c10_i32_70
  let c7_i32_71 : BitVec 32 := 7#32
  let c9_i32_68 : BitVec 32 := 9#32
  let v85 : BitVec 1 := Scalar.cmpi .eq v68 c9_i32_68
  let c3_i32_69 : BitVec 32 := 3#32
  let c8_i32_66 : BitVec 32 := 8#32
  let v83 : BitVec 1 := Scalar.cmpi .eq v68 c8_i32_66
  let c2_i32_67 : BitVec 32 := 2#32
  let c7_i32_64 : BitVec 32 := 7#32
  let v81 : BitVec 1 := Scalar.cmpi .eq v68 c7_i32_64
  let c6_i32_65 : BitVec 32 := 6#32
  let c6_i32_62 : BitVec 32 := 6#32
  let v79 : BitVec 1 := Scalar.cmpi .eq v68 c6_i32_62
  let c10_i32_63 : BitVec 32 := 10#32
  let c5_i32_60 : BitVec 32 := 5#32
  let v77 : BitVec 1 := Scalar.cmpi .eq v68 c5_i32_60
  let c14_i32_61 : BitVec 32 := 14#32
  let c4_i32_58 : BitVec 32 := 4#32
  let v75 : BitVec 1 := Scalar.cmpi .eq v68 c4_i32_58
  let c13_i32_59 : BitVec 32 := 13#32
  let c3_i32_56 : BitVec 32 := 3#32
  let v73 : BitVec 1 := Scalar.cmpi .eq v68 c3_i32_56
  let c9_i32_57 : BitVec 32 := 9#32
  let c2_i32_54 : BitVec 32 := 2#32
  let v71 : BitVec 1 := Scalar.cmpi .eq v68 c2_i32_54
  let c5_i32_55 : BitVec 32 := 5#32
  let c1_i32_51 : BitVec 32 := 1#32
  let v69 : BitVec 1 := Scalar.cmpi .eq v68 c1_i32_51
  let c1_i32_52 : BitVec 32 := 1#32
  let c0_i32_53 : BitVec 32 := 0#32
  let v70 : BitVec 32 := Scalar.select v69 c1_i32_52 c0_i32_53
  let v72 : BitVec 32 := Scalar.select v71 c5_i32_55 v70
  let v74 : BitVec 32 := Scalar.select v73 c9_i32_57 v72
  let v76 : BitVec 32 := Scalar.select v75 c13_i32_59 v74
  let v78 : BitVec 32 := Scalar.select v77 c14_i32_61 v76
  let v80 : BitVec 32 := Scalar.select v79 c10_i32_63 v78
  let v82 : BitVec 32 := Scalar.select v81 c6_i32_65 v80
  let v84 : BitVec 32 := Scalar.select v83 c2_i32_67 v82
  let v86 : BitVec 32 := Scalar.select v85 c3_i32_69 v84
  let v88 : BitVec 32 := Scalar.select v87 c7_i32_71 v86
  let v90 : BitVec 32 := Scalar.select v89 c11_i32_73 v88
  let v92 : BitVec 32 := Scalar.select v91 c15_i32_75 v90
  let v94 : BitVec 32 := Scalar.select v93 c12_i32_77 v92
  let v96 : BitVec 32 := Scalar.select v95 c8_i32_79 v94
  let v98 : BitVec 32 := Scalar.select v97 c4_i32_81 v96
  let c1_i32_3486 : BitVec 32 := 1#32
  let v2557 : BitVec 32 := Scalar.muli v98 c1_i32_3486
  let v2558 : BitVec 32 := Scalar.addi c0_i32_3487 v2557
  v2558.toNat
def k0_dev92 (d0 : Dev nD) : Nat :=
  let c0_i32_3515 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_48 : BitVec 32 := 1#32
  let v66 : BitVec 32 := Scalar.addi v32 c1_i32_48
  let c32_i32_49 : BitVec 32 := 32#32
  let v67 : BitVec 32 := Scalar.addi v66 c32_i32_49
  let c16_i32_50 : BitVec 32 := 16#32
  let v68 : BitVec 32 := Scalar.remsi v67 c16_i32_50
  let c15_i32_80 : BitVec 32 := 15#32
  let v97 : BitVec 1 := Scalar.cmpi .eq v68 c15_i32_80
  let c4_i32_81 : BitVec 32 := 4#32
  let c14_i32_78 : BitVec 32 := 14#32
  let v95 : BitVec 1 := Scalar.cmpi .eq v68 c14_i32_78
  let c8_i32_79 : BitVec 32 := 8#32
  let c13_i32_76 : BitVec 32 := 13#32
  let v93 : BitVec 1 := Scalar.cmpi .eq v68 c13_i32_76
  let c12_i32_77 : BitVec 32 := 12#32
  let c12_i32_74 : BitVec 32 := 12#32
  let v91 : BitVec 1 := Scalar.cmpi .eq v68 c12_i32_74
  let c15_i32_75 : BitVec 32 := 15#32
  let c11_i32_72 : BitVec 32 := 11#32
  let v89 : BitVec 1 := Scalar.cmpi .eq v68 c11_i32_72
  let c11_i32_73 : BitVec 32 := 11#32
  let c10_i32_70 : BitVec 32 := 10#32
  let v87 : BitVec 1 := Scalar.cmpi .eq v68 c10_i32_70
  let c7_i32_71 : BitVec 32 := 7#32
  let c9_i32_68 : BitVec 32 := 9#32
  let v85 : BitVec 1 := Scalar.cmpi .eq v68 c9_i32_68
  let c3_i32_69 : BitVec 32 := 3#32
  let c8_i32_66 : BitVec 32 := 8#32
  let v83 : BitVec 1 := Scalar.cmpi .eq v68 c8_i32_66
  let c2_i32_67 : BitVec 32 := 2#32
  let c7_i32_64 : BitVec 32 := 7#32
  let v81 : BitVec 1 := Scalar.cmpi .eq v68 c7_i32_64
  let c6_i32_65 : BitVec 32 := 6#32
  let c6_i32_62 : BitVec 32 := 6#32
  let v79 : BitVec 1 := Scalar.cmpi .eq v68 c6_i32_62
  let c10_i32_63 : BitVec 32 := 10#32
  let c5_i32_60 : BitVec 32 := 5#32
  let v77 : BitVec 1 := Scalar.cmpi .eq v68 c5_i32_60
  let c14_i32_61 : BitVec 32 := 14#32
  let c4_i32_58 : BitVec 32 := 4#32
  let v75 : BitVec 1 := Scalar.cmpi .eq v68 c4_i32_58
  let c13_i32_59 : BitVec 32 := 13#32
  let c3_i32_56 : BitVec 32 := 3#32
  let v73 : BitVec 1 := Scalar.cmpi .eq v68 c3_i32_56
  let c9_i32_57 : BitVec 32 := 9#32
  let c2_i32_54 : BitVec 32 := 2#32
  let v71 : BitVec 1 := Scalar.cmpi .eq v68 c2_i32_54
  let c5_i32_55 : BitVec 32 := 5#32
  let c1_i32_51 : BitVec 32 := 1#32
  let v69 : BitVec 1 := Scalar.cmpi .eq v68 c1_i32_51
  let c1_i32_52 : BitVec 32 := 1#32
  let c0_i32_53 : BitVec 32 := 0#32
  let v70 : BitVec 32 := Scalar.select v69 c1_i32_52 c0_i32_53
  let v72 : BitVec 32 := Scalar.select v71 c5_i32_55 v70
  let v74 : BitVec 32 := Scalar.select v73 c9_i32_57 v72
  let v76 : BitVec 32 := Scalar.select v75 c13_i32_59 v74
  let v78 : BitVec 32 := Scalar.select v77 c14_i32_61 v76
  let v80 : BitVec 32 := Scalar.select v79 c10_i32_63 v78
  let v82 : BitVec 32 := Scalar.select v81 c6_i32_65 v80
  let v84 : BitVec 32 := Scalar.select v83 c2_i32_67 v82
  let v86 : BitVec 32 := Scalar.select v85 c3_i32_69 v84
  let v88 : BitVec 32 := Scalar.select v87 c7_i32_71 v86
  let v90 : BitVec 32 := Scalar.select v89 c11_i32_73 v88
  let v92 : BitVec 32 := Scalar.select v91 c15_i32_75 v90
  let v94 : BitVec 32 := Scalar.select v93 c12_i32_77 v92
  let v96 : BitVec 32 := Scalar.select v95 c8_i32_79 v94
  let v98 : BitVec 32 := Scalar.select v97 c4_i32_81 v96
  let c1_i32_3514 : BitVec 32 := 1#32
  let v2577 : BitVec 32 := Scalar.muli v98 c1_i32_3514
  let v2578 : BitVec 32 := Scalar.addi c0_i32_3515 v2577
  v2578.toNat
def k0_dev93 (d0 : Dev nD) : Nat :=
  let c0_i32_3543 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_48 : BitVec 32 := 1#32
  let v66 : BitVec 32 := Scalar.addi v32 c1_i32_48
  let c32_i32_49 : BitVec 32 := 32#32
  let v67 : BitVec 32 := Scalar.addi v66 c32_i32_49
  let c16_i32_50 : BitVec 32 := 16#32
  let v68 : BitVec 32 := Scalar.remsi v67 c16_i32_50
  let c15_i32_80 : BitVec 32 := 15#32
  let v97 : BitVec 1 := Scalar.cmpi .eq v68 c15_i32_80
  let c4_i32_81 : BitVec 32 := 4#32
  let c14_i32_78 : BitVec 32 := 14#32
  let v95 : BitVec 1 := Scalar.cmpi .eq v68 c14_i32_78
  let c8_i32_79 : BitVec 32 := 8#32
  let c13_i32_76 : BitVec 32 := 13#32
  let v93 : BitVec 1 := Scalar.cmpi .eq v68 c13_i32_76
  let c12_i32_77 : BitVec 32 := 12#32
  let c12_i32_74 : BitVec 32 := 12#32
  let v91 : BitVec 1 := Scalar.cmpi .eq v68 c12_i32_74
  let c15_i32_75 : BitVec 32 := 15#32
  let c11_i32_72 : BitVec 32 := 11#32
  let v89 : BitVec 1 := Scalar.cmpi .eq v68 c11_i32_72
  let c11_i32_73 : BitVec 32 := 11#32
  let c10_i32_70 : BitVec 32 := 10#32
  let v87 : BitVec 1 := Scalar.cmpi .eq v68 c10_i32_70
  let c7_i32_71 : BitVec 32 := 7#32
  let c9_i32_68 : BitVec 32 := 9#32
  let v85 : BitVec 1 := Scalar.cmpi .eq v68 c9_i32_68
  let c3_i32_69 : BitVec 32 := 3#32
  let c8_i32_66 : BitVec 32 := 8#32
  let v83 : BitVec 1 := Scalar.cmpi .eq v68 c8_i32_66
  let c2_i32_67 : BitVec 32 := 2#32
  let c7_i32_64 : BitVec 32 := 7#32
  let v81 : BitVec 1 := Scalar.cmpi .eq v68 c7_i32_64
  let c6_i32_65 : BitVec 32 := 6#32
  let c6_i32_62 : BitVec 32 := 6#32
  let v79 : BitVec 1 := Scalar.cmpi .eq v68 c6_i32_62
  let c10_i32_63 : BitVec 32 := 10#32
  let c5_i32_60 : BitVec 32 := 5#32
  let v77 : BitVec 1 := Scalar.cmpi .eq v68 c5_i32_60
  let c14_i32_61 : BitVec 32 := 14#32
  let c4_i32_58 : BitVec 32 := 4#32
  let v75 : BitVec 1 := Scalar.cmpi .eq v68 c4_i32_58
  let c13_i32_59 : BitVec 32 := 13#32
  let c3_i32_56 : BitVec 32 := 3#32
  let v73 : BitVec 1 := Scalar.cmpi .eq v68 c3_i32_56
  let c9_i32_57 : BitVec 32 := 9#32
  let c2_i32_54 : BitVec 32 := 2#32
  let v71 : BitVec 1 := Scalar.cmpi .eq v68 c2_i32_54
  let c5_i32_55 : BitVec 32 := 5#32
  let c1_i32_51 : BitVec 32 := 1#32
  let v69 : BitVec 1 := Scalar.cmpi .eq v68 c1_i32_51
  let c1_i32_52 : BitVec 32 := 1#32
  let c0_i32_53 : BitVec 32 := 0#32
  let v70 : BitVec 32 := Scalar.select v69 c1_i32_52 c0_i32_53
  let v72 : BitVec 32 := Scalar.select v71 c5_i32_55 v70
  let v74 : BitVec 32 := Scalar.select v73 c9_i32_57 v72
  let v76 : BitVec 32 := Scalar.select v75 c13_i32_59 v74
  let v78 : BitVec 32 := Scalar.select v77 c14_i32_61 v76
  let v80 : BitVec 32 := Scalar.select v79 c10_i32_63 v78
  let v82 : BitVec 32 := Scalar.select v81 c6_i32_65 v80
  let v84 : BitVec 32 := Scalar.select v83 c2_i32_67 v82
  let v86 : BitVec 32 := Scalar.select v85 c3_i32_69 v84
  let v88 : BitVec 32 := Scalar.select v87 c7_i32_71 v86
  let v90 : BitVec 32 := Scalar.select v89 c11_i32_73 v88
  let v92 : BitVec 32 := Scalar.select v91 c15_i32_75 v90
  let v94 : BitVec 32 := Scalar.select v93 c12_i32_77 v92
  let v96 : BitVec 32 := Scalar.select v95 c8_i32_79 v94
  let v98 : BitVec 32 := Scalar.select v97 c4_i32_81 v96
  let c1_i32_3542 : BitVec 32 := 1#32
  let v2597 : BitVec 32 := Scalar.muli v98 c1_i32_3542
  let v2598 : BitVec 32 := Scalar.addi c0_i32_3543 v2597
  v2598.toNat
def k0_dev94 (d0 : Dev nD) : Nat :=
  let c0_i32_3571 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_48 : BitVec 32 := 1#32
  let v66 : BitVec 32 := Scalar.addi v32 c1_i32_48
  let c32_i32_49 : BitVec 32 := 32#32
  let v67 : BitVec 32 := Scalar.addi v66 c32_i32_49
  let c16_i32_50 : BitVec 32 := 16#32
  let v68 : BitVec 32 := Scalar.remsi v67 c16_i32_50
  let c15_i32_80 : BitVec 32 := 15#32
  let v97 : BitVec 1 := Scalar.cmpi .eq v68 c15_i32_80
  let c4_i32_81 : BitVec 32 := 4#32
  let c14_i32_78 : BitVec 32 := 14#32
  let v95 : BitVec 1 := Scalar.cmpi .eq v68 c14_i32_78
  let c8_i32_79 : BitVec 32 := 8#32
  let c13_i32_76 : BitVec 32 := 13#32
  let v93 : BitVec 1 := Scalar.cmpi .eq v68 c13_i32_76
  let c12_i32_77 : BitVec 32 := 12#32
  let c12_i32_74 : BitVec 32 := 12#32
  let v91 : BitVec 1 := Scalar.cmpi .eq v68 c12_i32_74
  let c15_i32_75 : BitVec 32 := 15#32
  let c11_i32_72 : BitVec 32 := 11#32
  let v89 : BitVec 1 := Scalar.cmpi .eq v68 c11_i32_72
  let c11_i32_73 : BitVec 32 := 11#32
  let c10_i32_70 : BitVec 32 := 10#32
  let v87 : BitVec 1 := Scalar.cmpi .eq v68 c10_i32_70
  let c7_i32_71 : BitVec 32 := 7#32
  let c9_i32_68 : BitVec 32 := 9#32
  let v85 : BitVec 1 := Scalar.cmpi .eq v68 c9_i32_68
  let c3_i32_69 : BitVec 32 := 3#32
  let c8_i32_66 : BitVec 32 := 8#32
  let v83 : BitVec 1 := Scalar.cmpi .eq v68 c8_i32_66
  let c2_i32_67 : BitVec 32 := 2#32
  let c7_i32_64 : BitVec 32 := 7#32
  let v81 : BitVec 1 := Scalar.cmpi .eq v68 c7_i32_64
  let c6_i32_65 : BitVec 32 := 6#32
  let c6_i32_62 : BitVec 32 := 6#32
  let v79 : BitVec 1 := Scalar.cmpi .eq v68 c6_i32_62
  let c10_i32_63 : BitVec 32 := 10#32
  let c5_i32_60 : BitVec 32 := 5#32
  let v77 : BitVec 1 := Scalar.cmpi .eq v68 c5_i32_60
  let c14_i32_61 : BitVec 32 := 14#32
  let c4_i32_58 : BitVec 32 := 4#32
  let v75 : BitVec 1 := Scalar.cmpi .eq v68 c4_i32_58
  let c13_i32_59 : BitVec 32 := 13#32
  let c3_i32_56 : BitVec 32 := 3#32
  let v73 : BitVec 1 := Scalar.cmpi .eq v68 c3_i32_56
  let c9_i32_57 : BitVec 32 := 9#32
  let c2_i32_54 : BitVec 32 := 2#32
  let v71 : BitVec 1 := Scalar.cmpi .eq v68 c2_i32_54
  let c5_i32_55 : BitVec 32 := 5#32
  let c1_i32_51 : BitVec 32 := 1#32
  let v69 : BitVec 1 := Scalar.cmpi .eq v68 c1_i32_51
  let c1_i32_52 : BitVec 32 := 1#32
  let c0_i32_53 : BitVec 32 := 0#32
  let v70 : BitVec 32 := Scalar.select v69 c1_i32_52 c0_i32_53
  let v72 : BitVec 32 := Scalar.select v71 c5_i32_55 v70
  let v74 : BitVec 32 := Scalar.select v73 c9_i32_57 v72
  let v76 : BitVec 32 := Scalar.select v75 c13_i32_59 v74
  let v78 : BitVec 32 := Scalar.select v77 c14_i32_61 v76
  let v80 : BitVec 32 := Scalar.select v79 c10_i32_63 v78
  let v82 : BitVec 32 := Scalar.select v81 c6_i32_65 v80
  let v84 : BitVec 32 := Scalar.select v83 c2_i32_67 v82
  let v86 : BitVec 32 := Scalar.select v85 c3_i32_69 v84
  let v88 : BitVec 32 := Scalar.select v87 c7_i32_71 v86
  let v90 : BitVec 32 := Scalar.select v89 c11_i32_73 v88
  let v92 : BitVec 32 := Scalar.select v91 c15_i32_75 v90
  let v94 : BitVec 32 := Scalar.select v93 c12_i32_77 v92
  let v96 : BitVec 32 := Scalar.select v95 c8_i32_79 v94
  let v98 : BitVec 32 := Scalar.select v97 c4_i32_81 v96
  let c1_i32_3570 : BitVec 32 := 1#32
  let v2617 : BitVec 32 := Scalar.muli v98 c1_i32_3570
  let v2618 : BitVec 32 := Scalar.addi c0_i32_3571 v2617
  v2618.toNat
def k0_dev95 (d0 : Dev nD) : Nat :=
  let c0_i32_3599 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_48 : BitVec 32 := 1#32
  let v66 : BitVec 32 := Scalar.addi v32 c1_i32_48
  let c32_i32_49 : BitVec 32 := 32#32
  let v67 : BitVec 32 := Scalar.addi v66 c32_i32_49
  let c16_i32_50 : BitVec 32 := 16#32
  let v68 : BitVec 32 := Scalar.remsi v67 c16_i32_50
  let c15_i32_80 : BitVec 32 := 15#32
  let v97 : BitVec 1 := Scalar.cmpi .eq v68 c15_i32_80
  let c4_i32_81 : BitVec 32 := 4#32
  let c14_i32_78 : BitVec 32 := 14#32
  let v95 : BitVec 1 := Scalar.cmpi .eq v68 c14_i32_78
  let c8_i32_79 : BitVec 32 := 8#32
  let c13_i32_76 : BitVec 32 := 13#32
  let v93 : BitVec 1 := Scalar.cmpi .eq v68 c13_i32_76
  let c12_i32_77 : BitVec 32 := 12#32
  let c12_i32_74 : BitVec 32 := 12#32
  let v91 : BitVec 1 := Scalar.cmpi .eq v68 c12_i32_74
  let c15_i32_75 : BitVec 32 := 15#32
  let c11_i32_72 : BitVec 32 := 11#32
  let v89 : BitVec 1 := Scalar.cmpi .eq v68 c11_i32_72
  let c11_i32_73 : BitVec 32 := 11#32
  let c10_i32_70 : BitVec 32 := 10#32
  let v87 : BitVec 1 := Scalar.cmpi .eq v68 c10_i32_70
  let c7_i32_71 : BitVec 32 := 7#32
  let c9_i32_68 : BitVec 32 := 9#32
  let v85 : BitVec 1 := Scalar.cmpi .eq v68 c9_i32_68
  let c3_i32_69 : BitVec 32 := 3#32
  let c8_i32_66 : BitVec 32 := 8#32
  let v83 : BitVec 1 := Scalar.cmpi .eq v68 c8_i32_66
  let c2_i32_67 : BitVec 32 := 2#32
  let c7_i32_64 : BitVec 32 := 7#32
  let v81 : BitVec 1 := Scalar.cmpi .eq v68 c7_i32_64
  let c6_i32_65 : BitVec 32 := 6#32
  let c6_i32_62 : BitVec 32 := 6#32
  let v79 : BitVec 1 := Scalar.cmpi .eq v68 c6_i32_62
  let c10_i32_63 : BitVec 32 := 10#32
  let c5_i32_60 : BitVec 32 := 5#32
  let v77 : BitVec 1 := Scalar.cmpi .eq v68 c5_i32_60
  let c14_i32_61 : BitVec 32 := 14#32
  let c4_i32_58 : BitVec 32 := 4#32
  let v75 : BitVec 1 := Scalar.cmpi .eq v68 c4_i32_58
  let c13_i32_59 : BitVec 32 := 13#32
  let c3_i32_56 : BitVec 32 := 3#32
  let v73 : BitVec 1 := Scalar.cmpi .eq v68 c3_i32_56
  let c9_i32_57 : BitVec 32 := 9#32
  let c2_i32_54 : BitVec 32 := 2#32
  let v71 : BitVec 1 := Scalar.cmpi .eq v68 c2_i32_54
  let c5_i32_55 : BitVec 32 := 5#32
  let c1_i32_51 : BitVec 32 := 1#32
  let v69 : BitVec 1 := Scalar.cmpi .eq v68 c1_i32_51
  let c1_i32_52 : BitVec 32 := 1#32
  let c0_i32_53 : BitVec 32 := 0#32
  let v70 : BitVec 32 := Scalar.select v69 c1_i32_52 c0_i32_53
  let v72 : BitVec 32 := Scalar.select v71 c5_i32_55 v70
  let v74 : BitVec 32 := Scalar.select v73 c9_i32_57 v72
  let v76 : BitVec 32 := Scalar.select v75 c13_i32_59 v74
  let v78 : BitVec 32 := Scalar.select v77 c14_i32_61 v76
  let v80 : BitVec 32 := Scalar.select v79 c10_i32_63 v78
  let v82 : BitVec 32 := Scalar.select v81 c6_i32_65 v80
  let v84 : BitVec 32 := Scalar.select v83 c2_i32_67 v82
  let v86 : BitVec 32 := Scalar.select v85 c3_i32_69 v84
  let v88 : BitVec 32 := Scalar.select v87 c7_i32_71 v86
  let v90 : BitVec 32 := Scalar.select v89 c11_i32_73 v88
  let v92 : BitVec 32 := Scalar.select v91 c15_i32_75 v90
  let v94 : BitVec 32 := Scalar.select v93 c12_i32_77 v92
  let v96 : BitVec 32 := Scalar.select v95 c8_i32_79 v94
  let v98 : BitVec 32 := Scalar.select v97 c4_i32_81 v96
  let c1_i32_3598 : BitVec 32 := 1#32
  let v2637 : BitVec 32 := Scalar.muli v98 c1_i32_3598
  let v2638 : BitVec 32 := Scalar.addi c0_i32_3599 v2637
  v2638.toNat
def k0_dev96 (d0 : Dev nD) : Nat :=
  let c0_i32_3627 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_48 : BitVec 32 := 1#32
  let v66 : BitVec 32 := Scalar.addi v32 c1_i32_48
  let c32_i32_49 : BitVec 32 := 32#32
  let v67 : BitVec 32 := Scalar.addi v66 c32_i32_49
  let c16_i32_50 : BitVec 32 := 16#32
  let v68 : BitVec 32 := Scalar.remsi v67 c16_i32_50
  let c15_i32_80 : BitVec 32 := 15#32
  let v97 : BitVec 1 := Scalar.cmpi .eq v68 c15_i32_80
  let c4_i32_81 : BitVec 32 := 4#32
  let c14_i32_78 : BitVec 32 := 14#32
  let v95 : BitVec 1 := Scalar.cmpi .eq v68 c14_i32_78
  let c8_i32_79 : BitVec 32 := 8#32
  let c13_i32_76 : BitVec 32 := 13#32
  let v93 : BitVec 1 := Scalar.cmpi .eq v68 c13_i32_76
  let c12_i32_77 : BitVec 32 := 12#32
  let c12_i32_74 : BitVec 32 := 12#32
  let v91 : BitVec 1 := Scalar.cmpi .eq v68 c12_i32_74
  let c15_i32_75 : BitVec 32 := 15#32
  let c11_i32_72 : BitVec 32 := 11#32
  let v89 : BitVec 1 := Scalar.cmpi .eq v68 c11_i32_72
  let c11_i32_73 : BitVec 32 := 11#32
  let c10_i32_70 : BitVec 32 := 10#32
  let v87 : BitVec 1 := Scalar.cmpi .eq v68 c10_i32_70
  let c7_i32_71 : BitVec 32 := 7#32
  let c9_i32_68 : BitVec 32 := 9#32
  let v85 : BitVec 1 := Scalar.cmpi .eq v68 c9_i32_68
  let c3_i32_69 : BitVec 32 := 3#32
  let c8_i32_66 : BitVec 32 := 8#32
  let v83 : BitVec 1 := Scalar.cmpi .eq v68 c8_i32_66
  let c2_i32_67 : BitVec 32 := 2#32
  let c7_i32_64 : BitVec 32 := 7#32
  let v81 : BitVec 1 := Scalar.cmpi .eq v68 c7_i32_64
  let c6_i32_65 : BitVec 32 := 6#32
  let c6_i32_62 : BitVec 32 := 6#32
  let v79 : BitVec 1 := Scalar.cmpi .eq v68 c6_i32_62
  let c10_i32_63 : BitVec 32 := 10#32
  let c5_i32_60 : BitVec 32 := 5#32
  let v77 : BitVec 1 := Scalar.cmpi .eq v68 c5_i32_60
  let c14_i32_61 : BitVec 32 := 14#32
  let c4_i32_58 : BitVec 32 := 4#32
  let v75 : BitVec 1 := Scalar.cmpi .eq v68 c4_i32_58
  let c13_i32_59 : BitVec 32 := 13#32
  let c3_i32_56 : BitVec 32 := 3#32
  let v73 : BitVec 1 := Scalar.cmpi .eq v68 c3_i32_56
  let c9_i32_57 : BitVec 32 := 9#32
  let c2_i32_54 : BitVec 32 := 2#32
  let v71 : BitVec 1 := Scalar.cmpi .eq v68 c2_i32_54
  let c5_i32_55 : BitVec 32 := 5#32
  let c1_i32_51 : BitVec 32 := 1#32
  let v69 : BitVec 1 := Scalar.cmpi .eq v68 c1_i32_51
  let c1_i32_52 : BitVec 32 := 1#32
  let c0_i32_53 : BitVec 32 := 0#32
  let v70 : BitVec 32 := Scalar.select v69 c1_i32_52 c0_i32_53
  let v72 : BitVec 32 := Scalar.select v71 c5_i32_55 v70
  let v74 : BitVec 32 := Scalar.select v73 c9_i32_57 v72
  let v76 : BitVec 32 := Scalar.select v75 c13_i32_59 v74
  let v78 : BitVec 32 := Scalar.select v77 c14_i32_61 v76
  let v80 : BitVec 32 := Scalar.select v79 c10_i32_63 v78
  let v82 : BitVec 32 := Scalar.select v81 c6_i32_65 v80
  let v84 : BitVec 32 := Scalar.select v83 c2_i32_67 v82
  let v86 : BitVec 32 := Scalar.select v85 c3_i32_69 v84
  let v88 : BitVec 32 := Scalar.select v87 c7_i32_71 v86
  let v90 : BitVec 32 := Scalar.select v89 c11_i32_73 v88
  let v92 : BitVec 32 := Scalar.select v91 c15_i32_75 v90
  let v94 : BitVec 32 := Scalar.select v93 c12_i32_77 v92
  let v96 : BitVec 32 := Scalar.select v95 c8_i32_79 v94
  let v98 : BitVec 32 := Scalar.select v97 c4_i32_81 v96
  let c1_i32_3626 : BitVec 32 := 1#32
  let v2657 : BitVec 32 := Scalar.muli v98 c1_i32_3626
  let v2658 : BitVec 32 := Scalar.addi c0_i32_3627 v2657
  v2658.toNat
def k0_dev97 (d0 : Dev nD) : Nat :=
  let c0_i32_3655 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c_m1_i32 : BitVec 32 := 4294967295#32
  let v33 : BitVec 32 := Scalar.addi v32 c_m1_i32
  let c32_i32 : BitVec 32 := 32#32
  let v34 : BitVec 32 := Scalar.addi v33 c32_i32
  let c16_i32_16 : BitVec 32 := 16#32
  let v35 : BitVec 32 := Scalar.remsi v34 c16_i32_16
  let c15_i32_46 : BitVec 32 := 15#32
  let v64 : BitVec 1 := Scalar.cmpi .eq v35 c15_i32_46
  let c4_i32_47 : BitVec 32 := 4#32
  let c14_i32_44 : BitVec 32 := 14#32
  let v62 : BitVec 1 := Scalar.cmpi .eq v35 c14_i32_44
  let c8_i32_45 : BitVec 32 := 8#32
  let c13_i32_42 : BitVec 32 := 13#32
  let v60 : BitVec 1 := Scalar.cmpi .eq v35 c13_i32_42
  let c12_i32_43 : BitVec 32 := 12#32
  let c12_i32_40 : BitVec 32 := 12#32
  let v58 : BitVec 1 := Scalar.cmpi .eq v35 c12_i32_40
  let c15_i32_41 : BitVec 32 := 15#32
  let c11_i32_38 : BitVec 32 := 11#32
  let v56 : BitVec 1 := Scalar.cmpi .eq v35 c11_i32_38
  let c11_i32_39 : BitVec 32 := 11#32
  let c10_i32_36 : BitVec 32 := 10#32
  let v54 : BitVec 1 := Scalar.cmpi .eq v35 c10_i32_36
  let c7_i32_37 : BitVec 32 := 7#32
  let c9_i32_34 : BitVec 32 := 9#32
  let v52 : BitVec 1 := Scalar.cmpi .eq v35 c9_i32_34
  let c3_i32_35 : BitVec 32 := 3#32
  let c8_i32_32 : BitVec 32 := 8#32
  let v50 : BitVec 1 := Scalar.cmpi .eq v35 c8_i32_32
  let c2_i32_33 : BitVec 32 := 2#32
  let c7_i32_30 : BitVec 32 := 7#32
  let v48 : BitVec 1 := Scalar.cmpi .eq v35 c7_i32_30
  let c6_i32_31 : BitVec 32 := 6#32
  let c6_i32_28 : BitVec 32 := 6#32
  let v46 : BitVec 1 := Scalar.cmpi .eq v35 c6_i32_28
  let c10_i32_29 : BitVec 32 := 10#32
  let c5_i32_26 : BitVec 32 := 5#32
  let v44 : BitVec 1 := Scalar.cmpi .eq v35 c5_i32_26
  let c14_i32_27 : BitVec 32 := 14#32
  let c4_i32_24 : BitVec 32 := 4#32
  let v42 : BitVec 1 := Scalar.cmpi .eq v35 c4_i32_24
  let c13_i32_25 : BitVec 32 := 13#32
  let c3_i32_22 : BitVec 32 := 3#32
  let v40 : BitVec 1 := Scalar.cmpi .eq v35 c3_i32_22
  let c9_i32_23 : BitVec 32 := 9#32
  let c2_i32_20 : BitVec 32 := 2#32
  let v38 : BitVec 1 := Scalar.cmpi .eq v35 c2_i32_20
  let c5_i32_21 : BitVec 32 := 5#32
  let c1_i32_17 : BitVec 32 := 1#32
  let v36 : BitVec 1 := Scalar.cmpi .eq v35 c1_i32_17
  let c1_i32_18 : BitVec 32 := 1#32
  let c0_i32_19 : BitVec 32 := 0#32
  let v37 : BitVec 32 := Scalar.select v36 c1_i32_18 c0_i32_19
  let v39 : BitVec 32 := Scalar.select v38 c5_i32_21 v37
  let v41 : BitVec 32 := Scalar.select v40 c9_i32_23 v39
  let v43 : BitVec 32 := Scalar.select v42 c13_i32_25 v41
  let v45 : BitVec 32 := Scalar.select v44 c14_i32_27 v43
  let v47 : BitVec 32 := Scalar.select v46 c10_i32_29 v45
  let v49 : BitVec 32 := Scalar.select v48 c6_i32_31 v47
  let v51 : BitVec 32 := Scalar.select v50 c2_i32_33 v49
  let v53 : BitVec 32 := Scalar.select v52 c3_i32_35 v51
  let v55 : BitVec 32 := Scalar.select v54 c7_i32_37 v53
  let v57 : BitVec 32 := Scalar.select v56 c11_i32_39 v55
  let v59 : BitVec 32 := Scalar.select v58 c15_i32_41 v57
  let v61 : BitVec 32 := Scalar.select v60 c12_i32_43 v59
  let v63 : BitVec 32 := Scalar.select v62 c8_i32_45 v61
  let v65 : BitVec 32 := Scalar.select v64 c4_i32_47 v63
  let c1_i32_3654 : BitVec 32 := 1#32
  let v2677 : BitVec 32 := Scalar.muli v65 c1_i32_3654
  let v2678 : BitVec 32 := Scalar.addi c0_i32_3655 v2677
  v2678.toNat
def k0_dev98 (d0 : Dev nD) : Nat :=
  let c0_i32_3683 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c_m1_i32 : BitVec 32 := 4294967295#32
  let v33 : BitVec 32 := Scalar.addi v32 c_m1_i32
  let c32_i32 : BitVec 32 := 32#32
  let v34 : BitVec 32 := Scalar.addi v33 c32_i32
  let c16_i32_16 : BitVec 32 := 16#32
  let v35 : BitVec 32 := Scalar.remsi v34 c16_i32_16
  let c15_i32_46 : BitVec 32 := 15#32
  let v64 : BitVec 1 := Scalar.cmpi .eq v35 c15_i32_46
  let c4_i32_47 : BitVec 32 := 4#32
  let c14_i32_44 : BitVec 32 := 14#32
  let v62 : BitVec 1 := Scalar.cmpi .eq v35 c14_i32_44
  let c8_i32_45 : BitVec 32 := 8#32
  let c13_i32_42 : BitVec 32 := 13#32
  let v60 : BitVec 1 := Scalar.cmpi .eq v35 c13_i32_42
  let c12_i32_43 : BitVec 32 := 12#32
  let c12_i32_40 : BitVec 32 := 12#32
  let v58 : BitVec 1 := Scalar.cmpi .eq v35 c12_i32_40
  let c15_i32_41 : BitVec 32 := 15#32
  let c11_i32_38 : BitVec 32 := 11#32
  let v56 : BitVec 1 := Scalar.cmpi .eq v35 c11_i32_38
  let c11_i32_39 : BitVec 32 := 11#32
  let c10_i32_36 : BitVec 32 := 10#32
  let v54 : BitVec 1 := Scalar.cmpi .eq v35 c10_i32_36
  let c7_i32_37 : BitVec 32 := 7#32
  let c9_i32_34 : BitVec 32 := 9#32
  let v52 : BitVec 1 := Scalar.cmpi .eq v35 c9_i32_34
  let c3_i32_35 : BitVec 32 := 3#32
  let c8_i32_32 : BitVec 32 := 8#32
  let v50 : BitVec 1 := Scalar.cmpi .eq v35 c8_i32_32
  let c2_i32_33 : BitVec 32 := 2#32
  let c7_i32_30 : BitVec 32 := 7#32
  let v48 : BitVec 1 := Scalar.cmpi .eq v35 c7_i32_30
  let c6_i32_31 : BitVec 32 := 6#32
  let c6_i32_28 : BitVec 32 := 6#32
  let v46 : BitVec 1 := Scalar.cmpi .eq v35 c6_i32_28
  let c10_i32_29 : BitVec 32 := 10#32
  let c5_i32_26 : BitVec 32 := 5#32
  let v44 : BitVec 1 := Scalar.cmpi .eq v35 c5_i32_26
  let c14_i32_27 : BitVec 32 := 14#32
  let c4_i32_24 : BitVec 32 := 4#32
  let v42 : BitVec 1 := Scalar.cmpi .eq v35 c4_i32_24
  let c13_i32_25 : BitVec 32 := 13#32
  let c3_i32_22 : BitVec 32 := 3#32
  let v40 : BitVec 1 := Scalar.cmpi .eq v35 c3_i32_22
  let c9_i32_23 : BitVec 32 := 9#32
  let c2_i32_20 : BitVec 32 := 2#32
  let v38 : BitVec 1 := Scalar.cmpi .eq v35 c2_i32_20
  let c5_i32_21 : BitVec 32 := 5#32
  let c1_i32_17 : BitVec 32 := 1#32
  let v36 : BitVec 1 := Scalar.cmpi .eq v35 c1_i32_17
  let c1_i32_18 : BitVec 32 := 1#32
  let c0_i32_19 : BitVec 32 := 0#32
  let v37 : BitVec 32 := Scalar.select v36 c1_i32_18 c0_i32_19
  let v39 : BitVec 32 := Scalar.select v38 c5_i32_21 v37
  let v41 : BitVec 32 := Scalar.select v40 c9_i32_23 v39
  let v43 : BitVec 32 := Scalar.select v42 c13_i32_25 v41
  let v45 : BitVec 32 := Scalar.select v44 c14_i32_27 v43
  let v47 : BitVec 32 := Scalar.select v46 c10_i32_29 v45
  let v49 : BitVec 32 := Scalar.select v48 c6_i32_31 v47
  let v51 : BitVec 32 := Scalar.select v50 c2_i32_33 v49
  let v53 : BitVec 32 := Scalar.select v52 c3_i32_35 v51
  let v55 : BitVec 32 := Scalar.select v54 c7_i32_37 v53
  let v57 : BitVec 32 := Scalar.select v56 c11_i32_39 v55
  let v59 : BitVec 32 := Scalar.select v58 c15_i32_41 v57
  let v61 : BitVec 32 := Scalar.select v60 c12_i32_43 v59
  let v63 : BitVec 32 := Scalar.select v62 c8_i32_45 v61
  let v65 : BitVec 32 := Scalar.select v64 c4_i32_47 v63
  let c1_i32_3682 : BitVec 32 := 1#32
  let v2697 : BitVec 32 := Scalar.muli v65 c1_i32_3682
  let v2698 : BitVec 32 := Scalar.addi c0_i32_3683 v2697
  v2698.toNat
def k0_dev99 (d0 : Dev nD) : Nat :=
  let c0_i32_3711 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c_m1_i32 : BitVec 32 := 4294967295#32
  let v33 : BitVec 32 := Scalar.addi v32 c_m1_i32
  let c32_i32 : BitVec 32 := 32#32
  let v34 : BitVec 32 := Scalar.addi v33 c32_i32
  let c16_i32_16 : BitVec 32 := 16#32
  let v35 : BitVec 32 := Scalar.remsi v34 c16_i32_16
  let c15_i32_46 : BitVec 32 := 15#32
  let v64 : BitVec 1 := Scalar.cmpi .eq v35 c15_i32_46
  let c4_i32_47 : BitVec 32 := 4#32
  let c14_i32_44 : BitVec 32 := 14#32
  let v62 : BitVec 1 := Scalar.cmpi .eq v35 c14_i32_44
  let c8_i32_45 : BitVec 32 := 8#32
  let c13_i32_42 : BitVec 32 := 13#32
  let v60 : BitVec 1 := Scalar.cmpi .eq v35 c13_i32_42
  let c12_i32_43 : BitVec 32 := 12#32
  let c12_i32_40 : BitVec 32 := 12#32
  let v58 : BitVec 1 := Scalar.cmpi .eq v35 c12_i32_40
  let c15_i32_41 : BitVec 32 := 15#32
  let c11_i32_38 : BitVec 32 := 11#32
  let v56 : BitVec 1 := Scalar.cmpi .eq v35 c11_i32_38
  let c11_i32_39 : BitVec 32 := 11#32
  let c10_i32_36 : BitVec 32 := 10#32
  let v54 : BitVec 1 := Scalar.cmpi .eq v35 c10_i32_36
  let c7_i32_37 : BitVec 32 := 7#32
  let c9_i32_34 : BitVec 32 := 9#32
  let v52 : BitVec 1 := Scalar.cmpi .eq v35 c9_i32_34
  let c3_i32_35 : BitVec 32 := 3#32
  let c8_i32_32 : BitVec 32 := 8#32
  let v50 : BitVec 1 := Scalar.cmpi .eq v35 c8_i32_32
  let c2_i32_33 : BitVec 32 := 2#32
  let c7_i32_30 : BitVec 32 := 7#32
  let v48 : BitVec 1 := Scalar.cmpi .eq v35 c7_i32_30
  let c6_i32_31 : BitVec 32 := 6#32
  let c6_i32_28 : BitVec 32 := 6#32
  let v46 : BitVec 1 := Scalar.cmpi .eq v35 c6_i32_28
  let c10_i32_29 : BitVec 32 := 10#32
  let c5_i32_26 : BitVec 32 := 5#32
  let v44 : BitVec 1 := Scalar.cmpi .eq v35 c5_i32_26
  let c14_i32_27 : BitVec 32 := 14#32
  let c4_i32_24 : BitVec 32 := 4#32
  let v42 : BitVec 1 := Scalar.cmpi .eq v35 c4_i32_24
  let c13_i32_25 : BitVec 32 := 13#32
  let c3_i32_22 : BitVec 32 := 3#32
  let v40 : BitVec 1 := Scalar.cmpi .eq v35 c3_i32_22
  let c9_i32_23 : BitVec 32 := 9#32
  let c2_i32_20 : BitVec 32 := 2#32
  let v38 : BitVec 1 := Scalar.cmpi .eq v35 c2_i32_20
  let c5_i32_21 : BitVec 32 := 5#32
  let c1_i32_17 : BitVec 32 := 1#32
  let v36 : BitVec 1 := Scalar.cmpi .eq v35 c1_i32_17
  let c1_i32_18 : BitVec 32 := 1#32
  let c0_i32_19 : BitVec 32 := 0#32
  let v37 : BitVec 32 := Scalar.select v36 c1_i32_18 c0_i32_19
  let v39 : BitVec 32 := Scalar.select v38 c5_i32_21 v37
  let v41 : BitVec 32 := Scalar.select v40 c9_i32_23 v39
  let v43 : BitVec 32 := Scalar.select v42 c13_i32_25 v41
  let v45 : BitVec 32 := Scalar.select v44 c14_i32_27 v43
  let v47 : BitVec 32 := Scalar.select v46 c10_i32_29 v45
  let v49 : BitVec 32 := Scalar.select v48 c6_i32_31 v47
  let v51 : BitVec 32 := Scalar.select v50 c2_i32_33 v49
  let v53 : BitVec 32 := Scalar.select v52 c3_i32_35 v51
  let v55 : BitVec 32 := Scalar.select v54 c7_i32_37 v53
  let v57 : BitVec 32 := Scalar.select v56 c11_i32_39 v55
  let v59 : BitVec 32 := Scalar.select v58 c15_i32_41 v57
  let v61 : BitVec 32 := Scalar.select v60 c12_i32_43 v59
  let v63 : BitVec 32 := Scalar.select v62 c8_i32_45 v61
  let v65 : BitVec 32 := Scalar.select v64 c4_i32_47 v63
  let c1_i32_3710 : BitVec 32 := 1#32
  let v2717 : BitVec 32 := Scalar.muli v65 c1_i32_3710
  let v2718 : BitVec 32 := Scalar.addi c0_i32_3711 v2717
  v2718.toNat
def k0_dev100 (d0 : Dev nD) : Nat :=
  let c0_i32_3739 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c_m1_i32 : BitVec 32 := 4294967295#32
  let v33 : BitVec 32 := Scalar.addi v32 c_m1_i32
  let c32_i32 : BitVec 32 := 32#32
  let v34 : BitVec 32 := Scalar.addi v33 c32_i32
  let c16_i32_16 : BitVec 32 := 16#32
  let v35 : BitVec 32 := Scalar.remsi v34 c16_i32_16
  let c15_i32_46 : BitVec 32 := 15#32
  let v64 : BitVec 1 := Scalar.cmpi .eq v35 c15_i32_46
  let c4_i32_47 : BitVec 32 := 4#32
  let c14_i32_44 : BitVec 32 := 14#32
  let v62 : BitVec 1 := Scalar.cmpi .eq v35 c14_i32_44
  let c8_i32_45 : BitVec 32 := 8#32
  let c13_i32_42 : BitVec 32 := 13#32
  let v60 : BitVec 1 := Scalar.cmpi .eq v35 c13_i32_42
  let c12_i32_43 : BitVec 32 := 12#32
  let c12_i32_40 : BitVec 32 := 12#32
  let v58 : BitVec 1 := Scalar.cmpi .eq v35 c12_i32_40
  let c15_i32_41 : BitVec 32 := 15#32
  let c11_i32_38 : BitVec 32 := 11#32
  let v56 : BitVec 1 := Scalar.cmpi .eq v35 c11_i32_38
  let c11_i32_39 : BitVec 32 := 11#32
  let c10_i32_36 : BitVec 32 := 10#32
  let v54 : BitVec 1 := Scalar.cmpi .eq v35 c10_i32_36
  let c7_i32_37 : BitVec 32 := 7#32
  let c9_i32_34 : BitVec 32 := 9#32
  let v52 : BitVec 1 := Scalar.cmpi .eq v35 c9_i32_34
  let c3_i32_35 : BitVec 32 := 3#32
  let c8_i32_32 : BitVec 32 := 8#32
  let v50 : BitVec 1 := Scalar.cmpi .eq v35 c8_i32_32
  let c2_i32_33 : BitVec 32 := 2#32
  let c7_i32_30 : BitVec 32 := 7#32
  let v48 : BitVec 1 := Scalar.cmpi .eq v35 c7_i32_30
  let c6_i32_31 : BitVec 32 := 6#32
  let c6_i32_28 : BitVec 32 := 6#32
  let v46 : BitVec 1 := Scalar.cmpi .eq v35 c6_i32_28
  let c10_i32_29 : BitVec 32 := 10#32
  let c5_i32_26 : BitVec 32 := 5#32
  let v44 : BitVec 1 := Scalar.cmpi .eq v35 c5_i32_26
  let c14_i32_27 : BitVec 32 := 14#32
  let c4_i32_24 : BitVec 32 := 4#32
  let v42 : BitVec 1 := Scalar.cmpi .eq v35 c4_i32_24
  let c13_i32_25 : BitVec 32 := 13#32
  let c3_i32_22 : BitVec 32 := 3#32
  let v40 : BitVec 1 := Scalar.cmpi .eq v35 c3_i32_22
  let c9_i32_23 : BitVec 32 := 9#32
  let c2_i32_20 : BitVec 32 := 2#32
  let v38 : BitVec 1 := Scalar.cmpi .eq v35 c2_i32_20
  let c5_i32_21 : BitVec 32 := 5#32
  let c1_i32_17 : BitVec 32 := 1#32
  let v36 : BitVec 1 := Scalar.cmpi .eq v35 c1_i32_17
  let c1_i32_18 : BitVec 32 := 1#32
  let c0_i32_19 : BitVec 32 := 0#32
  let v37 : BitVec 32 := Scalar.select v36 c1_i32_18 c0_i32_19
  let v39 : BitVec 32 := Scalar.select v38 c5_i32_21 v37
  let v41 : BitVec 32 := Scalar.select v40 c9_i32_23 v39
  let v43 : BitVec 32 := Scalar.select v42 c13_i32_25 v41
  let v45 : BitVec 32 := Scalar.select v44 c14_i32_27 v43
  let v47 : BitVec 32 := Scalar.select v46 c10_i32_29 v45
  let v49 : BitVec 32 := Scalar.select v48 c6_i32_31 v47
  let v51 : BitVec 32 := Scalar.select v50 c2_i32_33 v49
  let v53 : BitVec 32 := Scalar.select v52 c3_i32_35 v51
  let v55 : BitVec 32 := Scalar.select v54 c7_i32_37 v53
  let v57 : BitVec 32 := Scalar.select v56 c11_i32_39 v55
  let v59 : BitVec 32 := Scalar.select v58 c15_i32_41 v57
  let v61 : BitVec 32 := Scalar.select v60 c12_i32_43 v59
  let v63 : BitVec 32 := Scalar.select v62 c8_i32_45 v61
  let v65 : BitVec 32 := Scalar.select v64 c4_i32_47 v63
  let c1_i32_3738 : BitVec 32 := 1#32
  let v2737 : BitVec 32 := Scalar.muli v65 c1_i32_3738
  let v2738 : BitVec 32 := Scalar.addi c0_i32_3739 v2737
  v2738.toNat
def k0_dev101 (d0 : Dev nD) : Nat :=
  let c0_i32_3767 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c_m1_i32 : BitVec 32 := 4294967295#32
  let v33 : BitVec 32 := Scalar.addi v32 c_m1_i32
  let c32_i32 : BitVec 32 := 32#32
  let v34 : BitVec 32 := Scalar.addi v33 c32_i32
  let c16_i32_16 : BitVec 32 := 16#32
  let v35 : BitVec 32 := Scalar.remsi v34 c16_i32_16
  let c15_i32_46 : BitVec 32 := 15#32
  let v64 : BitVec 1 := Scalar.cmpi .eq v35 c15_i32_46
  let c4_i32_47 : BitVec 32 := 4#32
  let c14_i32_44 : BitVec 32 := 14#32
  let v62 : BitVec 1 := Scalar.cmpi .eq v35 c14_i32_44
  let c8_i32_45 : BitVec 32 := 8#32
  let c13_i32_42 : BitVec 32 := 13#32
  let v60 : BitVec 1 := Scalar.cmpi .eq v35 c13_i32_42
  let c12_i32_43 : BitVec 32 := 12#32
  let c12_i32_40 : BitVec 32 := 12#32
  let v58 : BitVec 1 := Scalar.cmpi .eq v35 c12_i32_40
  let c15_i32_41 : BitVec 32 := 15#32
  let c11_i32_38 : BitVec 32 := 11#32
  let v56 : BitVec 1 := Scalar.cmpi .eq v35 c11_i32_38
  let c11_i32_39 : BitVec 32 := 11#32
  let c10_i32_36 : BitVec 32 := 10#32
  let v54 : BitVec 1 := Scalar.cmpi .eq v35 c10_i32_36
  let c7_i32_37 : BitVec 32 := 7#32
  let c9_i32_34 : BitVec 32 := 9#32
  let v52 : BitVec 1 := Scalar.cmpi .eq v35 c9_i32_34
  let c3_i32_35 : BitVec 32 := 3#32
  let c8_i32_32 : BitVec 32 := 8#32
  let v50 : BitVec 1 := Scalar.cmpi .eq v35 c8_i32_32
  let c2_i32_33 : BitVec 32 := 2#32
  let c7_i32_30 : BitVec 32 := 7#32
  let v48 : BitVec 1 := Scalar.cmpi .eq v35 c7_i32_30
  let c6_i32_31 : BitVec 32 := 6#32
  let c6_i32_28 : BitVec 32 := 6#32
  let v46 : BitVec 1 := Scalar.cmpi .eq v35 c6_i32_28
  let c10_i32_29 : BitVec 32 := 10#32
  let c5_i32_26 : BitVec 32 := 5#32
  let v44 : BitVec 1 := Scalar.cmpi .eq v35 c5_i32_26
  let c14_i32_27 : BitVec 32 := 14#32
  let c4_i32_24 : BitVec 32 := 4#32
  let v42 : BitVec 1 := Scalar.cmpi .eq v35 c4_i32_24
  let c13_i32_25 : BitVec 32 := 13#32
  let c3_i32_22 : BitVec 32 := 3#32
  let v40 : BitVec 1 := Scalar.cmpi .eq v35 c3_i32_22
  let c9_i32_23 : BitVec 32 := 9#32
  let c2_i32_20 : BitVec 32 := 2#32
  let v38 : BitVec 1 := Scalar.cmpi .eq v35 c2_i32_20
  let c5_i32_21 : BitVec 32 := 5#32
  let c1_i32_17 : BitVec 32 := 1#32
  let v36 : BitVec 1 := Scalar.cmpi .eq v35 c1_i32_17
  let c1_i32_18 : BitVec 32 := 1#32
  let c0_i32_19 : BitVec 32 := 0#32
  let v37 : BitVec 32 := Scalar.select v36 c1_i32_18 c0_i32_19
  let v39 : BitVec 32 := Scalar.select v38 c5_i32_21 v37
  let v41 : BitVec 32 := Scalar.select v40 c9_i32_23 v39
  let v43 : BitVec 32 := Scalar.select v42 c13_i32_25 v41
  let v45 : BitVec 32 := Scalar.select v44 c14_i32_27 v43
  let v47 : BitVec 32 := Scalar.select v46 c10_i32_29 v45
  let v49 : BitVec 32 := Scalar.select v48 c6_i32_31 v47
  let v51 : BitVec 32 := Scalar.select v50 c2_i32_33 v49
  let v53 : BitVec 32 := Scalar.select v52 c3_i32_35 v51
  let v55 : BitVec 32 := Scalar.select v54 c7_i32_37 v53
  let v57 : BitVec 32 := Scalar.select v56 c11_i32_39 v55
  let v59 : BitVec 32 := Scalar.select v58 c15_i32_41 v57
  let v61 : BitVec 32 := Scalar.select v60 c12_i32_43 v59
  let v63 : BitVec 32 := Scalar.select v62 c8_i32_45 v61
  let v65 : BitVec 32 := Scalar.select v64 c4_i32_47 v63
  let c1_i32_3766 : BitVec 32 := 1#32
  let v2757 : BitVec 32 := Scalar.muli v65 c1_i32_3766
  let v2758 : BitVec 32 := Scalar.addi c0_i32_3767 v2757
  v2758.toNat
def k0_dev102 (d0 : Dev nD) : Nat :=
  let c0_i32_3795 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c_m1_i32 : BitVec 32 := 4294967295#32
  let v33 : BitVec 32 := Scalar.addi v32 c_m1_i32
  let c32_i32 : BitVec 32 := 32#32
  let v34 : BitVec 32 := Scalar.addi v33 c32_i32
  let c16_i32_16 : BitVec 32 := 16#32
  let v35 : BitVec 32 := Scalar.remsi v34 c16_i32_16
  let c15_i32_46 : BitVec 32 := 15#32
  let v64 : BitVec 1 := Scalar.cmpi .eq v35 c15_i32_46
  let c4_i32_47 : BitVec 32 := 4#32
  let c14_i32_44 : BitVec 32 := 14#32
  let v62 : BitVec 1 := Scalar.cmpi .eq v35 c14_i32_44
  let c8_i32_45 : BitVec 32 := 8#32
  let c13_i32_42 : BitVec 32 := 13#32
  let v60 : BitVec 1 := Scalar.cmpi .eq v35 c13_i32_42
  let c12_i32_43 : BitVec 32 := 12#32
  let c12_i32_40 : BitVec 32 := 12#32
  let v58 : BitVec 1 := Scalar.cmpi .eq v35 c12_i32_40
  let c15_i32_41 : BitVec 32 := 15#32
  let c11_i32_38 : BitVec 32 := 11#32
  let v56 : BitVec 1 := Scalar.cmpi .eq v35 c11_i32_38
  let c11_i32_39 : BitVec 32 := 11#32
  let c10_i32_36 : BitVec 32 := 10#32
  let v54 : BitVec 1 := Scalar.cmpi .eq v35 c10_i32_36
  let c7_i32_37 : BitVec 32 := 7#32
  let c9_i32_34 : BitVec 32 := 9#32
  let v52 : BitVec 1 := Scalar.cmpi .eq v35 c9_i32_34
  let c3_i32_35 : BitVec 32 := 3#32
  let c8_i32_32 : BitVec 32 := 8#32
  let v50 : BitVec 1 := Scalar.cmpi .eq v35 c8_i32_32
  let c2_i32_33 : BitVec 32 := 2#32
  let c7_i32_30 : BitVec 32 := 7#32
  let v48 : BitVec 1 := Scalar.cmpi .eq v35 c7_i32_30
  let c6_i32_31 : BitVec 32 := 6#32
  let c6_i32_28 : BitVec 32 := 6#32
  let v46 : BitVec 1 := Scalar.cmpi .eq v35 c6_i32_28
  let c10_i32_29 : BitVec 32 := 10#32
  let c5_i32_26 : BitVec 32 := 5#32
  let v44 : BitVec 1 := Scalar.cmpi .eq v35 c5_i32_26
  let c14_i32_27 : BitVec 32 := 14#32
  let c4_i32_24 : BitVec 32 := 4#32
  let v42 : BitVec 1 := Scalar.cmpi .eq v35 c4_i32_24
  let c13_i32_25 : BitVec 32 := 13#32
  let c3_i32_22 : BitVec 32 := 3#32
  let v40 : BitVec 1 := Scalar.cmpi .eq v35 c3_i32_22
  let c9_i32_23 : BitVec 32 := 9#32
  let c2_i32_20 : BitVec 32 := 2#32
  let v38 : BitVec 1 := Scalar.cmpi .eq v35 c2_i32_20
  let c5_i32_21 : BitVec 32 := 5#32
  let c1_i32_17 : BitVec 32 := 1#32
  let v36 : BitVec 1 := Scalar.cmpi .eq v35 c1_i32_17
  let c1_i32_18 : BitVec 32 := 1#32
  let c0_i32_19 : BitVec 32 := 0#32
  let v37 : BitVec 32 := Scalar.select v36 c1_i32_18 c0_i32_19
  let v39 : BitVec 32 := Scalar.select v38 c5_i32_21 v37
  let v41 : BitVec 32 := Scalar.select v40 c9_i32_23 v39
  let v43 : BitVec 32 := Scalar.select v42 c13_i32_25 v41
  let v45 : BitVec 32 := Scalar.select v44 c14_i32_27 v43
  let v47 : BitVec 32 := Scalar.select v46 c10_i32_29 v45
  let v49 : BitVec 32 := Scalar.select v48 c6_i32_31 v47
  let v51 : BitVec 32 := Scalar.select v50 c2_i32_33 v49
  let v53 : BitVec 32 := Scalar.select v52 c3_i32_35 v51
  let v55 : BitVec 32 := Scalar.select v54 c7_i32_37 v53
  let v57 : BitVec 32 := Scalar.select v56 c11_i32_39 v55
  let v59 : BitVec 32 := Scalar.select v58 c15_i32_41 v57
  let v61 : BitVec 32 := Scalar.select v60 c12_i32_43 v59
  let v63 : BitVec 32 := Scalar.select v62 c8_i32_45 v61
  let v65 : BitVec 32 := Scalar.select v64 c4_i32_47 v63
  let c1_i32_3794 : BitVec 32 := 1#32
  let v2777 : BitVec 32 := Scalar.muli v65 c1_i32_3794
  let v2778 : BitVec 32 := Scalar.addi c0_i32_3795 v2777
  v2778.toNat
def k0_dev103 (d0 : Dev nD) : Nat :=
  let c0_i32_3823 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c_m1_i32 : BitVec 32 := 4294967295#32
  let v33 : BitVec 32 := Scalar.addi v32 c_m1_i32
  let c32_i32 : BitVec 32 := 32#32
  let v34 : BitVec 32 := Scalar.addi v33 c32_i32
  let c16_i32_16 : BitVec 32 := 16#32
  let v35 : BitVec 32 := Scalar.remsi v34 c16_i32_16
  let c15_i32_46 : BitVec 32 := 15#32
  let v64 : BitVec 1 := Scalar.cmpi .eq v35 c15_i32_46
  let c4_i32_47 : BitVec 32 := 4#32
  let c14_i32_44 : BitVec 32 := 14#32
  let v62 : BitVec 1 := Scalar.cmpi .eq v35 c14_i32_44
  let c8_i32_45 : BitVec 32 := 8#32
  let c13_i32_42 : BitVec 32 := 13#32
  let v60 : BitVec 1 := Scalar.cmpi .eq v35 c13_i32_42
  let c12_i32_43 : BitVec 32 := 12#32
  let c12_i32_40 : BitVec 32 := 12#32
  let v58 : BitVec 1 := Scalar.cmpi .eq v35 c12_i32_40
  let c15_i32_41 : BitVec 32 := 15#32
  let c11_i32_38 : BitVec 32 := 11#32
  let v56 : BitVec 1 := Scalar.cmpi .eq v35 c11_i32_38
  let c11_i32_39 : BitVec 32 := 11#32
  let c10_i32_36 : BitVec 32 := 10#32
  let v54 : BitVec 1 := Scalar.cmpi .eq v35 c10_i32_36
  let c7_i32_37 : BitVec 32 := 7#32
  let c9_i32_34 : BitVec 32 := 9#32
  let v52 : BitVec 1 := Scalar.cmpi .eq v35 c9_i32_34
  let c3_i32_35 : BitVec 32 := 3#32
  let c8_i32_32 : BitVec 32 := 8#32
  let v50 : BitVec 1 := Scalar.cmpi .eq v35 c8_i32_32
  let c2_i32_33 : BitVec 32 := 2#32
  let c7_i32_30 : BitVec 32 := 7#32
  let v48 : BitVec 1 := Scalar.cmpi .eq v35 c7_i32_30
  let c6_i32_31 : BitVec 32 := 6#32
  let c6_i32_28 : BitVec 32 := 6#32
  let v46 : BitVec 1 := Scalar.cmpi .eq v35 c6_i32_28
  let c10_i32_29 : BitVec 32 := 10#32
  let c5_i32_26 : BitVec 32 := 5#32
  let v44 : BitVec 1 := Scalar.cmpi .eq v35 c5_i32_26
  let c14_i32_27 : BitVec 32 := 14#32
  let c4_i32_24 : BitVec 32 := 4#32
  let v42 : BitVec 1 := Scalar.cmpi .eq v35 c4_i32_24
  let c13_i32_25 : BitVec 32 := 13#32
  let c3_i32_22 : BitVec 32 := 3#32
  let v40 : BitVec 1 := Scalar.cmpi .eq v35 c3_i32_22
  let c9_i32_23 : BitVec 32 := 9#32
  let c2_i32_20 : BitVec 32 := 2#32
  let v38 : BitVec 1 := Scalar.cmpi .eq v35 c2_i32_20
  let c5_i32_21 : BitVec 32 := 5#32
  let c1_i32_17 : BitVec 32 := 1#32
  let v36 : BitVec 1 := Scalar.cmpi .eq v35 c1_i32_17
  let c1_i32_18 : BitVec 32 := 1#32
  let c0_i32_19 : BitVec 32 := 0#32
  let v37 : BitVec 32 := Scalar.select v36 c1_i32_18 c0_i32_19
  let v39 : BitVec 32 := Scalar.select v38 c5_i32_21 v37
  let v41 : BitVec 32 := Scalar.select v40 c9_i32_23 v39
  let v43 : BitVec 32 := Scalar.select v42 c13_i32_25 v41
  let v45 : BitVec 32 := Scalar.select v44 c14_i32_27 v43
  let v47 : BitVec 32 := Scalar.select v46 c10_i32_29 v45
  let v49 : BitVec 32 := Scalar.select v48 c6_i32_31 v47
  let v51 : BitVec 32 := Scalar.select v50 c2_i32_33 v49
  let v53 : BitVec 32 := Scalar.select v52 c3_i32_35 v51
  let v55 : BitVec 32 := Scalar.select v54 c7_i32_37 v53
  let v57 : BitVec 32 := Scalar.select v56 c11_i32_39 v55
  let v59 : BitVec 32 := Scalar.select v58 c15_i32_41 v57
  let v61 : BitVec 32 := Scalar.select v60 c12_i32_43 v59
  let v63 : BitVec 32 := Scalar.select v62 c8_i32_45 v61
  let v65 : BitVec 32 := Scalar.select v64 c4_i32_47 v63
  let c1_i32_3822 : BitVec 32 := 1#32
  let v2797 : BitVec 32 := Scalar.muli v65 c1_i32_3822
  let v2798 : BitVec 32 := Scalar.addi c0_i32_3823 v2797
  v2798.toNat
def k0_dev104 (d0 : Dev nD) : Nat :=
  let c0_i32_3851 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c_m1_i32 : BitVec 32 := 4294967295#32
  let v33 : BitVec 32 := Scalar.addi v32 c_m1_i32
  let c32_i32 : BitVec 32 := 32#32
  let v34 : BitVec 32 := Scalar.addi v33 c32_i32
  let c16_i32_16 : BitVec 32 := 16#32
  let v35 : BitVec 32 := Scalar.remsi v34 c16_i32_16
  let c15_i32_46 : BitVec 32 := 15#32
  let v64 : BitVec 1 := Scalar.cmpi .eq v35 c15_i32_46
  let c4_i32_47 : BitVec 32 := 4#32
  let c14_i32_44 : BitVec 32 := 14#32
  let v62 : BitVec 1 := Scalar.cmpi .eq v35 c14_i32_44
  let c8_i32_45 : BitVec 32 := 8#32
  let c13_i32_42 : BitVec 32 := 13#32
  let v60 : BitVec 1 := Scalar.cmpi .eq v35 c13_i32_42
  let c12_i32_43 : BitVec 32 := 12#32
  let c12_i32_40 : BitVec 32 := 12#32
  let v58 : BitVec 1 := Scalar.cmpi .eq v35 c12_i32_40
  let c15_i32_41 : BitVec 32 := 15#32
  let c11_i32_38 : BitVec 32 := 11#32
  let v56 : BitVec 1 := Scalar.cmpi .eq v35 c11_i32_38
  let c11_i32_39 : BitVec 32 := 11#32
  let c10_i32_36 : BitVec 32 := 10#32
  let v54 : BitVec 1 := Scalar.cmpi .eq v35 c10_i32_36
  let c7_i32_37 : BitVec 32 := 7#32
  let c9_i32_34 : BitVec 32 := 9#32
  let v52 : BitVec 1 := Scalar.cmpi .eq v35 c9_i32_34
  let c3_i32_35 : BitVec 32 := 3#32
  let c8_i32_32 : BitVec 32 := 8#32
  let v50 : BitVec 1 := Scalar.cmpi .eq v35 c8_i32_32
  let c2_i32_33 : BitVec 32 := 2#32
  let c7_i32_30 : BitVec 32 := 7#32
  let v48 : BitVec 1 := Scalar.cmpi .eq v35 c7_i32_30
  let c6_i32_31 : BitVec 32 := 6#32
  let c6_i32_28 : BitVec 32 := 6#32
  let v46 : BitVec 1 := Scalar.cmpi .eq v35 c6_i32_28
  let c10_i32_29 : BitVec 32 := 10#32
  let c5_i32_26 : BitVec 32 := 5#32
  let v44 : BitVec 1 := Scalar.cmpi .eq v35 c5_i32_26
  let c14_i32_27 : BitVec 32 := 14#32
  let c4_i32_24 : BitVec 32 := 4#32
  let v42 : BitVec 1 := Scalar.cmpi .eq v35 c4_i32_24
  let c13_i32_25 : BitVec 32 := 13#32
  let c3_i32_22 : BitVec 32 := 3#32
  let v40 : BitVec 1 := Scalar.cmpi .eq v35 c3_i32_22
  let c9_i32_23 : BitVec 32 := 9#32
  let c2_i32_20 : BitVec 32 := 2#32
  let v38 : BitVec 1 := Scalar.cmpi .eq v35 c2_i32_20
  let c5_i32_21 : BitVec 32 := 5#32
  let c1_i32_17 : BitVec 32 := 1#32
  let v36 : BitVec 1 := Scalar.cmpi .eq v35 c1_i32_17
  let c1_i32_18 : BitVec 32 := 1#32
  let c0_i32_19 : BitVec 32 := 0#32
  let v37 : BitVec 32 := Scalar.select v36 c1_i32_18 c0_i32_19
  let v39 : BitVec 32 := Scalar.select v38 c5_i32_21 v37
  let v41 : BitVec 32 := Scalar.select v40 c9_i32_23 v39
  let v43 : BitVec 32 := Scalar.select v42 c13_i32_25 v41
  let v45 : BitVec 32 := Scalar.select v44 c14_i32_27 v43
  let v47 : BitVec 32 := Scalar.select v46 c10_i32_29 v45
  let v49 : BitVec 32 := Scalar.select v48 c6_i32_31 v47
  let v51 : BitVec 32 := Scalar.select v50 c2_i32_33 v49
  let v53 : BitVec 32 := Scalar.select v52 c3_i32_35 v51
  let v55 : BitVec 32 := Scalar.select v54 c7_i32_37 v53
  let v57 : BitVec 32 := Scalar.select v56 c11_i32_39 v55
  let v59 : BitVec 32 := Scalar.select v58 c15_i32_41 v57
  let v61 : BitVec 32 := Scalar.select v60 c12_i32_43 v59
  let v63 : BitVec 32 := Scalar.select v62 c8_i32_45 v61
  let v65 : BitVec 32 := Scalar.select v64 c4_i32_47 v63
  let c1_i32_3850 : BitVec 32 := 1#32
  let v2817 : BitVec 32 := Scalar.muli v65 c1_i32_3850
  let v2818 : BitVec 32 := Scalar.addi c0_i32_3851 v2817
  v2818.toNat
def k0_dev105 (d0 : Dev nD) : Nat :=
  let c0_i32_4090 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c_m1_i32 : BitVec 32 := 4294967295#32
  let v33 : BitVec 32 := Scalar.addi v32 c_m1_i32
  let c32_i32 : BitVec 32 := 32#32
  let v34 : BitVec 32 := Scalar.addi v33 c32_i32
  let c16_i32_16 : BitVec 32 := 16#32
  let v35 : BitVec 32 := Scalar.remsi v34 c16_i32_16
  let c15_i32_46 : BitVec 32 := 15#32
  let v64 : BitVec 1 := Scalar.cmpi .eq v35 c15_i32_46
  let c4_i32_47 : BitVec 32 := 4#32
  let c14_i32_44 : BitVec 32 := 14#32
  let v62 : BitVec 1 := Scalar.cmpi .eq v35 c14_i32_44
  let c8_i32_45 : BitVec 32 := 8#32
  let c13_i32_42 : BitVec 32 := 13#32
  let v60 : BitVec 1 := Scalar.cmpi .eq v35 c13_i32_42
  let c12_i32_43 : BitVec 32 := 12#32
  let c12_i32_40 : BitVec 32 := 12#32
  let v58 : BitVec 1 := Scalar.cmpi .eq v35 c12_i32_40
  let c15_i32_41 : BitVec 32 := 15#32
  let c11_i32_38 : BitVec 32 := 11#32
  let v56 : BitVec 1 := Scalar.cmpi .eq v35 c11_i32_38
  let c11_i32_39 : BitVec 32 := 11#32
  let c10_i32_36 : BitVec 32 := 10#32
  let v54 : BitVec 1 := Scalar.cmpi .eq v35 c10_i32_36
  let c7_i32_37 : BitVec 32 := 7#32
  let c9_i32_34 : BitVec 32 := 9#32
  let v52 : BitVec 1 := Scalar.cmpi .eq v35 c9_i32_34
  let c3_i32_35 : BitVec 32 := 3#32
  let c8_i32_32 : BitVec 32 := 8#32
  let v50 : BitVec 1 := Scalar.cmpi .eq v35 c8_i32_32
  let c2_i32_33 : BitVec 32 := 2#32
  let c7_i32_30 : BitVec 32 := 7#32
  let v48 : BitVec 1 := Scalar.cmpi .eq v35 c7_i32_30
  let c6_i32_31 : BitVec 32 := 6#32
  let c6_i32_28 : BitVec 32 := 6#32
  let v46 : BitVec 1 := Scalar.cmpi .eq v35 c6_i32_28
  let c10_i32_29 : BitVec 32 := 10#32
  let c5_i32_26 : BitVec 32 := 5#32
  let v44 : BitVec 1 := Scalar.cmpi .eq v35 c5_i32_26
  let c14_i32_27 : BitVec 32 := 14#32
  let c4_i32_24 : BitVec 32 := 4#32
  let v42 : BitVec 1 := Scalar.cmpi .eq v35 c4_i32_24
  let c13_i32_25 : BitVec 32 := 13#32
  let c3_i32_22 : BitVec 32 := 3#32
  let v40 : BitVec 1 := Scalar.cmpi .eq v35 c3_i32_22
  let c9_i32_23 : BitVec 32 := 9#32
  let c2_i32_20 : BitVec 32 := 2#32
  let v38 : BitVec 1 := Scalar.cmpi .eq v35 c2_i32_20
  let c5_i32_21 : BitVec 32 := 5#32
  let c1_i32_17 : BitVec 32 := 1#32
  let v36 : BitVec 1 := Scalar.cmpi .eq v35 c1_i32_17
  let c1_i32_18 : BitVec 32 := 1#32
  let c0_i32_19 : BitVec 32 := 0#32
  let v37 : BitVec 32 := Scalar.select v36 c1_i32_18 c0_i32_19
  let v39 : BitVec 32 := Scalar.select v38 c5_i32_21 v37
  let v41 : BitVec 32 := Scalar.select v40 c9_i32_23 v39
  let v43 : BitVec 32 := Scalar.select v42 c13_i32_25 v41
  let v45 : BitVec 32 := Scalar.select v44 c14_i32_27 v43
  let v47 : BitVec 32 := Scalar.select v46 c10_i32_29 v45
  let v49 : BitVec 32 := Scalar.select v48 c6_i32_31 v47
  let v51 : BitVec 32 := Scalar.select v50 c2_i32_33 v49
  let v53 : BitVec 32 := Scalar.select v52 c3_i32_35 v51
  let v55 : BitVec 32 := Scalar.select v54 c7_i32_37 v53
  let v57 : BitVec 32 := Scalar.select v56 c11_i32_39 v55
  let v59 : BitVec 32 := Scalar.select v58 c15_i32_41 v57
  let v61 : BitVec 32 := Scalar.select v60 c12_i32_43 v59
  let v63 : BitVec 32 := Scalar.select v62 c8_i32_45 v61
  let v65 : BitVec 32 := Scalar.select v64 c4_i32_47 v63
  let c1_i32_4089 : BitVec 32 := 1#32
  let v2960 : BitVec 32 := Scalar.muli v65 c1_i32_4089
  let v2961 : BitVec 32 := Scalar.addi c0_i32_4090 v2960
  v2961.toNat
def k0_dev106 (d0 : Dev nD) : Nat :=
  let c0_i32_4093 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_48 : BitVec 32 := 1#32
  let v66 : BitVec 32 := Scalar.addi v32 c1_i32_48
  let c32_i32_49 : BitVec 32 := 32#32
  let v67 : BitVec 32 := Scalar.addi v66 c32_i32_49
  let c16_i32_50 : BitVec 32 := 16#32
  let v68 : BitVec 32 := Scalar.remsi v67 c16_i32_50
  let c15_i32_80 : BitVec 32 := 15#32
  let v97 : BitVec 1 := Scalar.cmpi .eq v68 c15_i32_80
  let c4_i32_81 : BitVec 32 := 4#32
  let c14_i32_78 : BitVec 32 := 14#32
  let v95 : BitVec 1 := Scalar.cmpi .eq v68 c14_i32_78
  let c8_i32_79 : BitVec 32 := 8#32
  let c13_i32_76 : BitVec 32 := 13#32
  let v93 : BitVec 1 := Scalar.cmpi .eq v68 c13_i32_76
  let c12_i32_77 : BitVec 32 := 12#32
  let c12_i32_74 : BitVec 32 := 12#32
  let v91 : BitVec 1 := Scalar.cmpi .eq v68 c12_i32_74
  let c15_i32_75 : BitVec 32 := 15#32
  let c11_i32_72 : BitVec 32 := 11#32
  let v89 : BitVec 1 := Scalar.cmpi .eq v68 c11_i32_72
  let c11_i32_73 : BitVec 32 := 11#32
  let c10_i32_70 : BitVec 32 := 10#32
  let v87 : BitVec 1 := Scalar.cmpi .eq v68 c10_i32_70
  let c7_i32_71 : BitVec 32 := 7#32
  let c9_i32_68 : BitVec 32 := 9#32
  let v85 : BitVec 1 := Scalar.cmpi .eq v68 c9_i32_68
  let c3_i32_69 : BitVec 32 := 3#32
  let c8_i32_66 : BitVec 32 := 8#32
  let v83 : BitVec 1 := Scalar.cmpi .eq v68 c8_i32_66
  let c2_i32_67 : BitVec 32 := 2#32
  let c7_i32_64 : BitVec 32 := 7#32
  let v81 : BitVec 1 := Scalar.cmpi .eq v68 c7_i32_64
  let c6_i32_65 : BitVec 32 := 6#32
  let c6_i32_62 : BitVec 32 := 6#32
  let v79 : BitVec 1 := Scalar.cmpi .eq v68 c6_i32_62
  let c10_i32_63 : BitVec 32 := 10#32
  let c5_i32_60 : BitVec 32 := 5#32
  let v77 : BitVec 1 := Scalar.cmpi .eq v68 c5_i32_60
  let c14_i32_61 : BitVec 32 := 14#32
  let c4_i32_58 : BitVec 32 := 4#32
  let v75 : BitVec 1 := Scalar.cmpi .eq v68 c4_i32_58
  let c13_i32_59 : BitVec 32 := 13#32
  let c3_i32_56 : BitVec 32 := 3#32
  let v73 : BitVec 1 := Scalar.cmpi .eq v68 c3_i32_56
  let c9_i32_57 : BitVec 32 := 9#32
  let c2_i32_54 : BitVec 32 := 2#32
  let v71 : BitVec 1 := Scalar.cmpi .eq v68 c2_i32_54
  let c5_i32_55 : BitVec 32 := 5#32
  let c1_i32_51 : BitVec 32 := 1#32
  let v69 : BitVec 1 := Scalar.cmpi .eq v68 c1_i32_51
  let c1_i32_52 : BitVec 32 := 1#32
  let c0_i32_53 : BitVec 32 := 0#32
  let v70 : BitVec 32 := Scalar.select v69 c1_i32_52 c0_i32_53
  let v72 : BitVec 32 := Scalar.select v71 c5_i32_55 v70
  let v74 : BitVec 32 := Scalar.select v73 c9_i32_57 v72
  let v76 : BitVec 32 := Scalar.select v75 c13_i32_59 v74
  let v78 : BitVec 32 := Scalar.select v77 c14_i32_61 v76
  let v80 : BitVec 32 := Scalar.select v79 c10_i32_63 v78
  let v82 : BitVec 32 := Scalar.select v81 c6_i32_65 v80
  let v84 : BitVec 32 := Scalar.select v83 c2_i32_67 v82
  let v86 : BitVec 32 := Scalar.select v85 c3_i32_69 v84
  let v88 : BitVec 32 := Scalar.select v87 c7_i32_71 v86
  let v90 : BitVec 32 := Scalar.select v89 c11_i32_73 v88
  let v92 : BitVec 32 := Scalar.select v91 c15_i32_75 v90
  let v94 : BitVec 32 := Scalar.select v93 c12_i32_77 v92
  let v96 : BitVec 32 := Scalar.select v95 c8_i32_79 v94
  let v98 : BitVec 32 := Scalar.select v97 c4_i32_81 v96
  let c1_i32_4092 : BitVec 32 := 1#32
  let v2962 : BitVec 32 := Scalar.muli v98 c1_i32_4092
  let v2963 : BitVec 32 := Scalar.addi c0_i32_4093 v2962
  v2963.toNat
def k0_dev107 (d0 : Dev nD) : Nat :=
  let c0_i32_4119 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_48 : BitVec 32 := 1#32
  let v66 : BitVec 32 := Scalar.addi v32 c1_i32_48
  let c32_i32_49 : BitVec 32 := 32#32
  let v67 : BitVec 32 := Scalar.addi v66 c32_i32_49
  let c16_i32_50 : BitVec 32 := 16#32
  let v68 : BitVec 32 := Scalar.remsi v67 c16_i32_50
  let c15_i32_80 : BitVec 32 := 15#32
  let v97 : BitVec 1 := Scalar.cmpi .eq v68 c15_i32_80
  let c4_i32_81 : BitVec 32 := 4#32
  let c14_i32_78 : BitVec 32 := 14#32
  let v95 : BitVec 1 := Scalar.cmpi .eq v68 c14_i32_78
  let c8_i32_79 : BitVec 32 := 8#32
  let c13_i32_76 : BitVec 32 := 13#32
  let v93 : BitVec 1 := Scalar.cmpi .eq v68 c13_i32_76
  let c12_i32_77 : BitVec 32 := 12#32
  let c12_i32_74 : BitVec 32 := 12#32
  let v91 : BitVec 1 := Scalar.cmpi .eq v68 c12_i32_74
  let c15_i32_75 : BitVec 32 := 15#32
  let c11_i32_72 : BitVec 32 := 11#32
  let v89 : BitVec 1 := Scalar.cmpi .eq v68 c11_i32_72
  let c11_i32_73 : BitVec 32 := 11#32
  let c10_i32_70 : BitVec 32 := 10#32
  let v87 : BitVec 1 := Scalar.cmpi .eq v68 c10_i32_70
  let c7_i32_71 : BitVec 32 := 7#32
  let c9_i32_68 : BitVec 32 := 9#32
  let v85 : BitVec 1 := Scalar.cmpi .eq v68 c9_i32_68
  let c3_i32_69 : BitVec 32 := 3#32
  let c8_i32_66 : BitVec 32 := 8#32
  let v83 : BitVec 1 := Scalar.cmpi .eq v68 c8_i32_66
  let c2_i32_67 : BitVec 32 := 2#32
  let c7_i32_64 : BitVec 32 := 7#32
  let v81 : BitVec 1 := Scalar.cmpi .eq v68 c7_i32_64
  let c6_i32_65 : BitVec 32 := 6#32
  let c6_i32_62 : BitVec 32 := 6#32
  let v79 : BitVec 1 := Scalar.cmpi .eq v68 c6_i32_62
  let c10_i32_63 : BitVec 32 := 10#32
  let c5_i32_60 : BitVec 32 := 5#32
  let v77 : BitVec 1 := Scalar.cmpi .eq v68 c5_i32_60
  let c14_i32_61 : BitVec 32 := 14#32
  let c4_i32_58 : BitVec 32 := 4#32
  let v75 : BitVec 1 := Scalar.cmpi .eq v68 c4_i32_58
  let c13_i32_59 : BitVec 32 := 13#32
  let c3_i32_56 : BitVec 32 := 3#32
  let v73 : BitVec 1 := Scalar.cmpi .eq v68 c3_i32_56
  let c9_i32_57 : BitVec 32 := 9#32
  let c2_i32_54 : BitVec 32 := 2#32
  let v71 : BitVec 1 := Scalar.cmpi .eq v68 c2_i32_54
  let c5_i32_55 : BitVec 32 := 5#32
  let c1_i32_51 : BitVec 32 := 1#32
  let v69 : BitVec 1 := Scalar.cmpi .eq v68 c1_i32_51
  let c1_i32_52 : BitVec 32 := 1#32
  let c0_i32_53 : BitVec 32 := 0#32
  let v70 : BitVec 32 := Scalar.select v69 c1_i32_52 c0_i32_53
  let v72 : BitVec 32 := Scalar.select v71 c5_i32_55 v70
  let v74 : BitVec 32 := Scalar.select v73 c9_i32_57 v72
  let v76 : BitVec 32 := Scalar.select v75 c13_i32_59 v74
  let v78 : BitVec 32 := Scalar.select v77 c14_i32_61 v76
  let v80 : BitVec 32 := Scalar.select v79 c10_i32_63 v78
  let v82 : BitVec 32 := Scalar.select v81 c6_i32_65 v80
  let v84 : BitVec 32 := Scalar.select v83 c2_i32_67 v82
  let v86 : BitVec 32 := Scalar.select v85 c3_i32_69 v84
  let v88 : BitVec 32 := Scalar.select v87 c7_i32_71 v86
  let v90 : BitVec 32 := Scalar.select v89 c11_i32_73 v88
  let v92 : BitVec 32 := Scalar.select v91 c15_i32_75 v90
  let v94 : BitVec 32 := Scalar.select v93 c12_i32_77 v92
  let v96 : BitVec 32 := Scalar.select v95 c8_i32_79 v94
  let v98 : BitVec 32 := Scalar.select v97 c4_i32_81 v96
  let c1_i32_4118 : BitVec 32 := 1#32
  let v2973 : BitVec 32 := Scalar.muli v98 c1_i32_4118
  let v2974 : BitVec 32 := Scalar.addi c0_i32_4119 v2973
  v2974.toNat
def k0_dev108 (d0 : Dev nD) : Nat :=
  let c0_i32_4147 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_48 : BitVec 32 := 1#32
  let v66 : BitVec 32 := Scalar.addi v32 c1_i32_48
  let c32_i32_49 : BitVec 32 := 32#32
  let v67 : BitVec 32 := Scalar.addi v66 c32_i32_49
  let c16_i32_50 : BitVec 32 := 16#32
  let v68 : BitVec 32 := Scalar.remsi v67 c16_i32_50
  let c15_i32_80 : BitVec 32 := 15#32
  let v97 : BitVec 1 := Scalar.cmpi .eq v68 c15_i32_80
  let c4_i32_81 : BitVec 32 := 4#32
  let c14_i32_78 : BitVec 32 := 14#32
  let v95 : BitVec 1 := Scalar.cmpi .eq v68 c14_i32_78
  let c8_i32_79 : BitVec 32 := 8#32
  let c13_i32_76 : BitVec 32 := 13#32
  let v93 : BitVec 1 := Scalar.cmpi .eq v68 c13_i32_76
  let c12_i32_77 : BitVec 32 := 12#32
  let c12_i32_74 : BitVec 32 := 12#32
  let v91 : BitVec 1 := Scalar.cmpi .eq v68 c12_i32_74
  let c15_i32_75 : BitVec 32 := 15#32
  let c11_i32_72 : BitVec 32 := 11#32
  let v89 : BitVec 1 := Scalar.cmpi .eq v68 c11_i32_72
  let c11_i32_73 : BitVec 32 := 11#32
  let c10_i32_70 : BitVec 32 := 10#32
  let v87 : BitVec 1 := Scalar.cmpi .eq v68 c10_i32_70
  let c7_i32_71 : BitVec 32 := 7#32
  let c9_i32_68 : BitVec 32 := 9#32
  let v85 : BitVec 1 := Scalar.cmpi .eq v68 c9_i32_68
  let c3_i32_69 : BitVec 32 := 3#32
  let c8_i32_66 : BitVec 32 := 8#32
  let v83 : BitVec 1 := Scalar.cmpi .eq v68 c8_i32_66
  let c2_i32_67 : BitVec 32 := 2#32
  let c7_i32_64 : BitVec 32 := 7#32
  let v81 : BitVec 1 := Scalar.cmpi .eq v68 c7_i32_64
  let c6_i32_65 : BitVec 32 := 6#32
  let c6_i32_62 : BitVec 32 := 6#32
  let v79 : BitVec 1 := Scalar.cmpi .eq v68 c6_i32_62
  let c10_i32_63 : BitVec 32 := 10#32
  let c5_i32_60 : BitVec 32 := 5#32
  let v77 : BitVec 1 := Scalar.cmpi .eq v68 c5_i32_60
  let c14_i32_61 : BitVec 32 := 14#32
  let c4_i32_58 : BitVec 32 := 4#32
  let v75 : BitVec 1 := Scalar.cmpi .eq v68 c4_i32_58
  let c13_i32_59 : BitVec 32 := 13#32
  let c3_i32_56 : BitVec 32 := 3#32
  let v73 : BitVec 1 := Scalar.cmpi .eq v68 c3_i32_56
  let c9_i32_57 : BitVec 32 := 9#32
  let c2_i32_54 : BitVec 32 := 2#32
  let v71 : BitVec 1 := Scalar.cmpi .eq v68 c2_i32_54
  let c5_i32_55 : BitVec 32 := 5#32
  let c1_i32_51 : BitVec 32 := 1#32
  let v69 : BitVec 1 := Scalar.cmpi .eq v68 c1_i32_51
  let c1_i32_52 : BitVec 32 := 1#32
  let c0_i32_53 : BitVec 32 := 0#32
  let v70 : BitVec 32 := Scalar.select v69 c1_i32_52 c0_i32_53
  let v72 : BitVec 32 := Scalar.select v71 c5_i32_55 v70
  let v74 : BitVec 32 := Scalar.select v73 c9_i32_57 v72
  let v76 : BitVec 32 := Scalar.select v75 c13_i32_59 v74
  let v78 : BitVec 32 := Scalar.select v77 c14_i32_61 v76
  let v80 : BitVec 32 := Scalar.select v79 c10_i32_63 v78
  let v82 : BitVec 32 := Scalar.select v81 c6_i32_65 v80
  let v84 : BitVec 32 := Scalar.select v83 c2_i32_67 v82
  let v86 : BitVec 32 := Scalar.select v85 c3_i32_69 v84
  let v88 : BitVec 32 := Scalar.select v87 c7_i32_71 v86
  let v90 : BitVec 32 := Scalar.select v89 c11_i32_73 v88
  let v92 : BitVec 32 := Scalar.select v91 c15_i32_75 v90
  let v94 : BitVec 32 := Scalar.select v93 c12_i32_77 v92
  let v96 : BitVec 32 := Scalar.select v95 c8_i32_79 v94
  let v98 : BitVec 32 := Scalar.select v97 c4_i32_81 v96
  let c1_i32_4146 : BitVec 32 := 1#32
  let v2993 : BitVec 32 := Scalar.muli v98 c1_i32_4146
  let v2994 : BitVec 32 := Scalar.addi c0_i32_4147 v2993
  v2994.toNat
def k0_dev109 (d0 : Dev nD) : Nat :=
  let c0_i32_4175 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_48 : BitVec 32 := 1#32
  let v66 : BitVec 32 := Scalar.addi v32 c1_i32_48
  let c32_i32_49 : BitVec 32 := 32#32
  let v67 : BitVec 32 := Scalar.addi v66 c32_i32_49
  let c16_i32_50 : BitVec 32 := 16#32
  let v68 : BitVec 32 := Scalar.remsi v67 c16_i32_50
  let c15_i32_80 : BitVec 32 := 15#32
  let v97 : BitVec 1 := Scalar.cmpi .eq v68 c15_i32_80
  let c4_i32_81 : BitVec 32 := 4#32
  let c14_i32_78 : BitVec 32 := 14#32
  let v95 : BitVec 1 := Scalar.cmpi .eq v68 c14_i32_78
  let c8_i32_79 : BitVec 32 := 8#32
  let c13_i32_76 : BitVec 32 := 13#32
  let v93 : BitVec 1 := Scalar.cmpi .eq v68 c13_i32_76
  let c12_i32_77 : BitVec 32 := 12#32
  let c12_i32_74 : BitVec 32 := 12#32
  let v91 : BitVec 1 := Scalar.cmpi .eq v68 c12_i32_74
  let c15_i32_75 : BitVec 32 := 15#32
  let c11_i32_72 : BitVec 32 := 11#32
  let v89 : BitVec 1 := Scalar.cmpi .eq v68 c11_i32_72
  let c11_i32_73 : BitVec 32 := 11#32
  let c10_i32_70 : BitVec 32 := 10#32
  let v87 : BitVec 1 := Scalar.cmpi .eq v68 c10_i32_70
  let c7_i32_71 : BitVec 32 := 7#32
  let c9_i32_68 : BitVec 32 := 9#32
  let v85 : BitVec 1 := Scalar.cmpi .eq v68 c9_i32_68
  let c3_i32_69 : BitVec 32 := 3#32
  let c8_i32_66 : BitVec 32 := 8#32
  let v83 : BitVec 1 := Scalar.cmpi .eq v68 c8_i32_66
  let c2_i32_67 : BitVec 32 := 2#32
  let c7_i32_64 : BitVec 32 := 7#32
  let v81 : BitVec 1 := Scalar.cmpi .eq v68 c7_i32_64
  let c6_i32_65 : BitVec 32 := 6#32
  let c6_i32_62 : BitVec 32 := 6#32
  let v79 : BitVec 1 := Scalar.cmpi .eq v68 c6_i32_62
  let c10_i32_63 : BitVec 32 := 10#32
  let c5_i32_60 : BitVec 32 := 5#32
  let v77 : BitVec 1 := Scalar.cmpi .eq v68 c5_i32_60
  let c14_i32_61 : BitVec 32 := 14#32
  let c4_i32_58 : BitVec 32 := 4#32
  let v75 : BitVec 1 := Scalar.cmpi .eq v68 c4_i32_58
  let c13_i32_59 : BitVec 32 := 13#32
  let c3_i32_56 : BitVec 32 := 3#32
  let v73 : BitVec 1 := Scalar.cmpi .eq v68 c3_i32_56
  let c9_i32_57 : BitVec 32 := 9#32
  let c2_i32_54 : BitVec 32 := 2#32
  let v71 : BitVec 1 := Scalar.cmpi .eq v68 c2_i32_54
  let c5_i32_55 : BitVec 32 := 5#32
  let c1_i32_51 : BitVec 32 := 1#32
  let v69 : BitVec 1 := Scalar.cmpi .eq v68 c1_i32_51
  let c1_i32_52 : BitVec 32 := 1#32
  let c0_i32_53 : BitVec 32 := 0#32
  let v70 : BitVec 32 := Scalar.select v69 c1_i32_52 c0_i32_53
  let v72 : BitVec 32 := Scalar.select v71 c5_i32_55 v70
  let v74 : BitVec 32 := Scalar.select v73 c9_i32_57 v72
  let v76 : BitVec 32 := Scalar.select v75 c13_i32_59 v74
  let v78 : BitVec 32 := Scalar.select v77 c14_i32_61 v76
  let v80 : BitVec 32 := Scalar.select v79 c10_i32_63 v78
  let v82 : BitVec 32 := Scalar.select v81 c6_i32_65 v80
  let v84 : BitVec 32 := Scalar.select v83 c2_i32_67 v82
  let v86 : BitVec 32 := Scalar.select v85 c3_i32_69 v84
  let v88 : BitVec 32 := Scalar.select v87 c7_i32_71 v86
  let v90 : BitVec 32 := Scalar.select v89 c11_i32_73 v88
  let v92 : BitVec 32 := Scalar.select v91 c15_i32_75 v90
  let v94 : BitVec 32 := Scalar.select v93 c12_i32_77 v92
  let v96 : BitVec 32 := Scalar.select v95 c8_i32_79 v94
  let v98 : BitVec 32 := Scalar.select v97 c4_i32_81 v96
  let c1_i32_4174 : BitVec 32 := 1#32
  let v3013 : BitVec 32 := Scalar.muli v98 c1_i32_4174
  let v3014 : BitVec 32 := Scalar.addi c0_i32_4175 v3013
  v3014.toNat
def k0_dev110 (d0 : Dev nD) : Nat :=
  let c0_i32_4203 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_48 : BitVec 32 := 1#32
  let v66 : BitVec 32 := Scalar.addi v32 c1_i32_48
  let c32_i32_49 : BitVec 32 := 32#32
  let v67 : BitVec 32 := Scalar.addi v66 c32_i32_49
  let c16_i32_50 : BitVec 32 := 16#32
  let v68 : BitVec 32 := Scalar.remsi v67 c16_i32_50
  let c15_i32_80 : BitVec 32 := 15#32
  let v97 : BitVec 1 := Scalar.cmpi .eq v68 c15_i32_80
  let c4_i32_81 : BitVec 32 := 4#32
  let c14_i32_78 : BitVec 32 := 14#32
  let v95 : BitVec 1 := Scalar.cmpi .eq v68 c14_i32_78
  let c8_i32_79 : BitVec 32 := 8#32
  let c13_i32_76 : BitVec 32 := 13#32
  let v93 : BitVec 1 := Scalar.cmpi .eq v68 c13_i32_76
  let c12_i32_77 : BitVec 32 := 12#32
  let c12_i32_74 : BitVec 32 := 12#32
  let v91 : BitVec 1 := Scalar.cmpi .eq v68 c12_i32_74
  let c15_i32_75 : BitVec 32 := 15#32
  let c11_i32_72 : BitVec 32 := 11#32
  let v89 : BitVec 1 := Scalar.cmpi .eq v68 c11_i32_72
  let c11_i32_73 : BitVec 32 := 11#32
  let c10_i32_70 : BitVec 32 := 10#32
  let v87 : BitVec 1 := Scalar.cmpi .eq v68 c10_i32_70
  let c7_i32_71 : BitVec 32 := 7#32
  let c9_i32_68 : BitVec 32 := 9#32
  let v85 : BitVec 1 := Scalar.cmpi .eq v68 c9_i32_68
  let c3_i32_69 : BitVec 32 := 3#32
  let c8_i32_66 : BitVec 32 := 8#32
  let v83 : BitVec 1 := Scalar.cmpi .eq v68 c8_i32_66
  let c2_i32_67 : BitVec 32 := 2#32
  let c7_i32_64 : BitVec 32 := 7#32
  let v81 : BitVec 1 := Scalar.cmpi .eq v68 c7_i32_64
  let c6_i32_65 : BitVec 32 := 6#32
  let c6_i32_62 : BitVec 32 := 6#32
  let v79 : BitVec 1 := Scalar.cmpi .eq v68 c6_i32_62
  let c10_i32_63 : BitVec 32 := 10#32
  let c5_i32_60 : BitVec 32 := 5#32
  let v77 : BitVec 1 := Scalar.cmpi .eq v68 c5_i32_60
  let c14_i32_61 : BitVec 32 := 14#32
  let c4_i32_58 : BitVec 32 := 4#32
  let v75 : BitVec 1 := Scalar.cmpi .eq v68 c4_i32_58
  let c13_i32_59 : BitVec 32 := 13#32
  let c3_i32_56 : BitVec 32 := 3#32
  let v73 : BitVec 1 := Scalar.cmpi .eq v68 c3_i32_56
  let c9_i32_57 : BitVec 32 := 9#32
  let c2_i32_54 : BitVec 32 := 2#32
  let v71 : BitVec 1 := Scalar.cmpi .eq v68 c2_i32_54
  let c5_i32_55 : BitVec 32 := 5#32
  let c1_i32_51 : BitVec 32 := 1#32
  let v69 : BitVec 1 := Scalar.cmpi .eq v68 c1_i32_51
  let c1_i32_52 : BitVec 32 := 1#32
  let c0_i32_53 : BitVec 32 := 0#32
  let v70 : BitVec 32 := Scalar.select v69 c1_i32_52 c0_i32_53
  let v72 : BitVec 32 := Scalar.select v71 c5_i32_55 v70
  let v74 : BitVec 32 := Scalar.select v73 c9_i32_57 v72
  let v76 : BitVec 32 := Scalar.select v75 c13_i32_59 v74
  let v78 : BitVec 32 := Scalar.select v77 c14_i32_61 v76
  let v80 : BitVec 32 := Scalar.select v79 c10_i32_63 v78
  let v82 : BitVec 32 := Scalar.select v81 c6_i32_65 v80
  let v84 : BitVec 32 := Scalar.select v83 c2_i32_67 v82
  let v86 : BitVec 32 := Scalar.select v85 c3_i32_69 v84
  let v88 : BitVec 32 := Scalar.select v87 c7_i32_71 v86
  let v90 : BitVec 32 := Scalar.select v89 c11_i32_73 v88
  let v92 : BitVec 32 := Scalar.select v91 c15_i32_75 v90
  let v94 : BitVec 32 := Scalar.select v93 c12_i32_77 v92
  let v96 : BitVec 32 := Scalar.select v95 c8_i32_79 v94
  let v98 : BitVec 32 := Scalar.select v97 c4_i32_81 v96
  let c1_i32_4202 : BitVec 32 := 1#32
  let v3033 : BitVec 32 := Scalar.muli v98 c1_i32_4202
  let v3034 : BitVec 32 := Scalar.addi c0_i32_4203 v3033
  v3034.toNat
def k0_dev111 (d0 : Dev nD) : Nat :=
  let c0_i32_4231 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_48 : BitVec 32 := 1#32
  let v66 : BitVec 32 := Scalar.addi v32 c1_i32_48
  let c32_i32_49 : BitVec 32 := 32#32
  let v67 : BitVec 32 := Scalar.addi v66 c32_i32_49
  let c16_i32_50 : BitVec 32 := 16#32
  let v68 : BitVec 32 := Scalar.remsi v67 c16_i32_50
  let c15_i32_80 : BitVec 32 := 15#32
  let v97 : BitVec 1 := Scalar.cmpi .eq v68 c15_i32_80
  let c4_i32_81 : BitVec 32 := 4#32
  let c14_i32_78 : BitVec 32 := 14#32
  let v95 : BitVec 1 := Scalar.cmpi .eq v68 c14_i32_78
  let c8_i32_79 : BitVec 32 := 8#32
  let c13_i32_76 : BitVec 32 := 13#32
  let v93 : BitVec 1 := Scalar.cmpi .eq v68 c13_i32_76
  let c12_i32_77 : BitVec 32 := 12#32
  let c12_i32_74 : BitVec 32 := 12#32
  let v91 : BitVec 1 := Scalar.cmpi .eq v68 c12_i32_74
  let c15_i32_75 : BitVec 32 := 15#32
  let c11_i32_72 : BitVec 32 := 11#32
  let v89 : BitVec 1 := Scalar.cmpi .eq v68 c11_i32_72
  let c11_i32_73 : BitVec 32 := 11#32
  let c10_i32_70 : BitVec 32 := 10#32
  let v87 : BitVec 1 := Scalar.cmpi .eq v68 c10_i32_70
  let c7_i32_71 : BitVec 32 := 7#32
  let c9_i32_68 : BitVec 32 := 9#32
  let v85 : BitVec 1 := Scalar.cmpi .eq v68 c9_i32_68
  let c3_i32_69 : BitVec 32 := 3#32
  let c8_i32_66 : BitVec 32 := 8#32
  let v83 : BitVec 1 := Scalar.cmpi .eq v68 c8_i32_66
  let c2_i32_67 : BitVec 32 := 2#32
  let c7_i32_64 : BitVec 32 := 7#32
  let v81 : BitVec 1 := Scalar.cmpi .eq v68 c7_i32_64
  let c6_i32_65 : BitVec 32 := 6#32
  let c6_i32_62 : BitVec 32 := 6#32
  let v79 : BitVec 1 := Scalar.cmpi .eq v68 c6_i32_62
  let c10_i32_63 : BitVec 32 := 10#32
  let c5_i32_60 : BitVec 32 := 5#32
  let v77 : BitVec 1 := Scalar.cmpi .eq v68 c5_i32_60
  let c14_i32_61 : BitVec 32 := 14#32
  let c4_i32_58 : BitVec 32 := 4#32
  let v75 : BitVec 1 := Scalar.cmpi .eq v68 c4_i32_58
  let c13_i32_59 : BitVec 32 := 13#32
  let c3_i32_56 : BitVec 32 := 3#32
  let v73 : BitVec 1 := Scalar.cmpi .eq v68 c3_i32_56
  let c9_i32_57 : BitVec 32 := 9#32
  let c2_i32_54 : BitVec 32 := 2#32
  let v71 : BitVec 1 := Scalar.cmpi .eq v68 c2_i32_54
  let c5_i32_55 : BitVec 32 := 5#32
  let c1_i32_51 : BitVec 32 := 1#32
  let v69 : BitVec 1 := Scalar.cmpi .eq v68 c1_i32_51
  let c1_i32_52 : BitVec 32 := 1#32
  let c0_i32_53 : BitVec 32 := 0#32
  let v70 : BitVec 32 := Scalar.select v69 c1_i32_52 c0_i32_53
  let v72 : BitVec 32 := Scalar.select v71 c5_i32_55 v70
  let v74 : BitVec 32 := Scalar.select v73 c9_i32_57 v72
  let v76 : BitVec 32 := Scalar.select v75 c13_i32_59 v74
  let v78 : BitVec 32 := Scalar.select v77 c14_i32_61 v76
  let v80 : BitVec 32 := Scalar.select v79 c10_i32_63 v78
  let v82 : BitVec 32 := Scalar.select v81 c6_i32_65 v80
  let v84 : BitVec 32 := Scalar.select v83 c2_i32_67 v82
  let v86 : BitVec 32 := Scalar.select v85 c3_i32_69 v84
  let v88 : BitVec 32 := Scalar.select v87 c7_i32_71 v86
  let v90 : BitVec 32 := Scalar.select v89 c11_i32_73 v88
  let v92 : BitVec 32 := Scalar.select v91 c15_i32_75 v90
  let v94 : BitVec 32 := Scalar.select v93 c12_i32_77 v92
  let v96 : BitVec 32 := Scalar.select v95 c8_i32_79 v94
  let v98 : BitVec 32 := Scalar.select v97 c4_i32_81 v96
  let c1_i32_4230 : BitVec 32 := 1#32
  let v3053 : BitVec 32 := Scalar.muli v98 c1_i32_4230
  let v3054 : BitVec 32 := Scalar.addi c0_i32_4231 v3053
  v3054.toNat
def k0_dev112 (d0 : Dev nD) : Nat :=
  let c0_i32_4259 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_48 : BitVec 32 := 1#32
  let v66 : BitVec 32 := Scalar.addi v32 c1_i32_48
  let c32_i32_49 : BitVec 32 := 32#32
  let v67 : BitVec 32 := Scalar.addi v66 c32_i32_49
  let c16_i32_50 : BitVec 32 := 16#32
  let v68 : BitVec 32 := Scalar.remsi v67 c16_i32_50
  let c15_i32_80 : BitVec 32 := 15#32
  let v97 : BitVec 1 := Scalar.cmpi .eq v68 c15_i32_80
  let c4_i32_81 : BitVec 32 := 4#32
  let c14_i32_78 : BitVec 32 := 14#32
  let v95 : BitVec 1 := Scalar.cmpi .eq v68 c14_i32_78
  let c8_i32_79 : BitVec 32 := 8#32
  let c13_i32_76 : BitVec 32 := 13#32
  let v93 : BitVec 1 := Scalar.cmpi .eq v68 c13_i32_76
  let c12_i32_77 : BitVec 32 := 12#32
  let c12_i32_74 : BitVec 32 := 12#32
  let v91 : BitVec 1 := Scalar.cmpi .eq v68 c12_i32_74
  let c15_i32_75 : BitVec 32 := 15#32
  let c11_i32_72 : BitVec 32 := 11#32
  let v89 : BitVec 1 := Scalar.cmpi .eq v68 c11_i32_72
  let c11_i32_73 : BitVec 32 := 11#32
  let c10_i32_70 : BitVec 32 := 10#32
  let v87 : BitVec 1 := Scalar.cmpi .eq v68 c10_i32_70
  let c7_i32_71 : BitVec 32 := 7#32
  let c9_i32_68 : BitVec 32 := 9#32
  let v85 : BitVec 1 := Scalar.cmpi .eq v68 c9_i32_68
  let c3_i32_69 : BitVec 32 := 3#32
  let c8_i32_66 : BitVec 32 := 8#32
  let v83 : BitVec 1 := Scalar.cmpi .eq v68 c8_i32_66
  let c2_i32_67 : BitVec 32 := 2#32
  let c7_i32_64 : BitVec 32 := 7#32
  let v81 : BitVec 1 := Scalar.cmpi .eq v68 c7_i32_64
  let c6_i32_65 : BitVec 32 := 6#32
  let c6_i32_62 : BitVec 32 := 6#32
  let v79 : BitVec 1 := Scalar.cmpi .eq v68 c6_i32_62
  let c10_i32_63 : BitVec 32 := 10#32
  let c5_i32_60 : BitVec 32 := 5#32
  let v77 : BitVec 1 := Scalar.cmpi .eq v68 c5_i32_60
  let c14_i32_61 : BitVec 32 := 14#32
  let c4_i32_58 : BitVec 32 := 4#32
  let v75 : BitVec 1 := Scalar.cmpi .eq v68 c4_i32_58
  let c13_i32_59 : BitVec 32 := 13#32
  let c3_i32_56 : BitVec 32 := 3#32
  let v73 : BitVec 1 := Scalar.cmpi .eq v68 c3_i32_56
  let c9_i32_57 : BitVec 32 := 9#32
  let c2_i32_54 : BitVec 32 := 2#32
  let v71 : BitVec 1 := Scalar.cmpi .eq v68 c2_i32_54
  let c5_i32_55 : BitVec 32 := 5#32
  let c1_i32_51 : BitVec 32 := 1#32
  let v69 : BitVec 1 := Scalar.cmpi .eq v68 c1_i32_51
  let c1_i32_52 : BitVec 32 := 1#32
  let c0_i32_53 : BitVec 32 := 0#32
  let v70 : BitVec 32 := Scalar.select v69 c1_i32_52 c0_i32_53
  let v72 : BitVec 32 := Scalar.select v71 c5_i32_55 v70
  let v74 : BitVec 32 := Scalar.select v73 c9_i32_57 v72
  let v76 : BitVec 32 := Scalar.select v75 c13_i32_59 v74
  let v78 : BitVec 32 := Scalar.select v77 c14_i32_61 v76
  let v80 : BitVec 32 := Scalar.select v79 c10_i32_63 v78
  let v82 : BitVec 32 := Scalar.select v81 c6_i32_65 v80
  let v84 : BitVec 32 := Scalar.select v83 c2_i32_67 v82
  let v86 : BitVec 32 := Scalar.select v85 c3_i32_69 v84
  let v88 : BitVec 32 := Scalar.select v87 c7_i32_71 v86
  let v90 : BitVec 32 := Scalar.select v89 c11_i32_73 v88
  let v92 : BitVec 32 := Scalar.select v91 c15_i32_75 v90
  let v94 : BitVec 32 := Scalar.select v93 c12_i32_77 v92
  let v96 : BitVec 32 := Scalar.select v95 c8_i32_79 v94
  let v98 : BitVec 32 := Scalar.select v97 c4_i32_81 v96
  let c1_i32_4258 : BitVec 32 := 1#32
  let v3073 : BitVec 32 := Scalar.muli v98 c1_i32_4258
  let v3074 : BitVec 32 := Scalar.addi c0_i32_4259 v3073
  v3074.toNat
def k0_dev113 (d0 : Dev nD) : Nat :=
  let c0_i32_4287 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_48 : BitVec 32 := 1#32
  let v66 : BitVec 32 := Scalar.addi v32 c1_i32_48
  let c32_i32_49 : BitVec 32 := 32#32
  let v67 : BitVec 32 := Scalar.addi v66 c32_i32_49
  let c16_i32_50 : BitVec 32 := 16#32
  let v68 : BitVec 32 := Scalar.remsi v67 c16_i32_50
  let c15_i32_80 : BitVec 32 := 15#32
  let v97 : BitVec 1 := Scalar.cmpi .eq v68 c15_i32_80
  let c4_i32_81 : BitVec 32 := 4#32
  let c14_i32_78 : BitVec 32 := 14#32
  let v95 : BitVec 1 := Scalar.cmpi .eq v68 c14_i32_78
  let c8_i32_79 : BitVec 32 := 8#32
  let c13_i32_76 : BitVec 32 := 13#32
  let v93 : BitVec 1 := Scalar.cmpi .eq v68 c13_i32_76
  let c12_i32_77 : BitVec 32 := 12#32
  let c12_i32_74 : BitVec 32 := 12#32
  let v91 : BitVec 1 := Scalar.cmpi .eq v68 c12_i32_74
  let c15_i32_75 : BitVec 32 := 15#32
  let c11_i32_72 : BitVec 32 := 11#32
  let v89 : BitVec 1 := Scalar.cmpi .eq v68 c11_i32_72
  let c11_i32_73 : BitVec 32 := 11#32
  let c10_i32_70 : BitVec 32 := 10#32
  let v87 : BitVec 1 := Scalar.cmpi .eq v68 c10_i32_70
  let c7_i32_71 : BitVec 32 := 7#32
  let c9_i32_68 : BitVec 32 := 9#32
  let v85 : BitVec 1 := Scalar.cmpi .eq v68 c9_i32_68
  let c3_i32_69 : BitVec 32 := 3#32
  let c8_i32_66 : BitVec 32 := 8#32
  let v83 : BitVec 1 := Scalar.cmpi .eq v68 c8_i32_66
  let c2_i32_67 : BitVec 32 := 2#32
  let c7_i32_64 : BitVec 32 := 7#32
  let v81 : BitVec 1 := Scalar.cmpi .eq v68 c7_i32_64
  let c6_i32_65 : BitVec 32 := 6#32
  let c6_i32_62 : BitVec 32 := 6#32
  let v79 : BitVec 1 := Scalar.cmpi .eq v68 c6_i32_62
  let c10_i32_63 : BitVec 32 := 10#32
  let c5_i32_60 : BitVec 32 := 5#32
  let v77 : BitVec 1 := Scalar.cmpi .eq v68 c5_i32_60
  let c14_i32_61 : BitVec 32 := 14#32
  let c4_i32_58 : BitVec 32 := 4#32
  let v75 : BitVec 1 := Scalar.cmpi .eq v68 c4_i32_58
  let c13_i32_59 : BitVec 32 := 13#32
  let c3_i32_56 : BitVec 32 := 3#32
  let v73 : BitVec 1 := Scalar.cmpi .eq v68 c3_i32_56
  let c9_i32_57 : BitVec 32 := 9#32
  let c2_i32_54 : BitVec 32 := 2#32
  let v71 : BitVec 1 := Scalar.cmpi .eq v68 c2_i32_54
  let c5_i32_55 : BitVec 32 := 5#32
  let c1_i32_51 : BitVec 32 := 1#32
  let v69 : BitVec 1 := Scalar.cmpi .eq v68 c1_i32_51
  let c1_i32_52 : BitVec 32 := 1#32
  let c0_i32_53 : BitVec 32 := 0#32
  let v70 : BitVec 32 := Scalar.select v69 c1_i32_52 c0_i32_53
  let v72 : BitVec 32 := Scalar.select v71 c5_i32_55 v70
  let v74 : BitVec 32 := Scalar.select v73 c9_i32_57 v72
  let v76 : BitVec 32 := Scalar.select v75 c13_i32_59 v74
  let v78 : BitVec 32 := Scalar.select v77 c14_i32_61 v76
  let v80 : BitVec 32 := Scalar.select v79 c10_i32_63 v78
  let v82 : BitVec 32 := Scalar.select v81 c6_i32_65 v80
  let v84 : BitVec 32 := Scalar.select v83 c2_i32_67 v82
  let v86 : BitVec 32 := Scalar.select v85 c3_i32_69 v84
  let v88 : BitVec 32 := Scalar.select v87 c7_i32_71 v86
  let v90 : BitVec 32 := Scalar.select v89 c11_i32_73 v88
  let v92 : BitVec 32 := Scalar.select v91 c15_i32_75 v90
  let v94 : BitVec 32 := Scalar.select v93 c12_i32_77 v92
  let v96 : BitVec 32 := Scalar.select v95 c8_i32_79 v94
  let v98 : BitVec 32 := Scalar.select v97 c4_i32_81 v96
  let c1_i32_4286 : BitVec 32 := 1#32
  let v3093 : BitVec 32 := Scalar.muli v98 c1_i32_4286
  let v3094 : BitVec 32 := Scalar.addi c0_i32_4287 v3093
  v3094.toNat
def k0_dev114 (d0 : Dev nD) : Nat :=
  let c0_i32_4315 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_48 : BitVec 32 := 1#32
  let v66 : BitVec 32 := Scalar.addi v32 c1_i32_48
  let c32_i32_49 : BitVec 32 := 32#32
  let v67 : BitVec 32 := Scalar.addi v66 c32_i32_49
  let c16_i32_50 : BitVec 32 := 16#32
  let v68 : BitVec 32 := Scalar.remsi v67 c16_i32_50
  let c15_i32_80 : BitVec 32 := 15#32
  let v97 : BitVec 1 := Scalar.cmpi .eq v68 c15_i32_80
  let c4_i32_81 : BitVec 32 := 4#32
  let c14_i32_78 : BitVec 32 := 14#32
  let v95 : BitVec 1 := Scalar.cmpi .eq v68 c14_i32_78
  let c8_i32_79 : BitVec 32 := 8#32
  let c13_i32_76 : BitVec 32 := 13#32
  let v93 : BitVec 1 := Scalar.cmpi .eq v68 c13_i32_76
  let c12_i32_77 : BitVec 32 := 12#32
  let c12_i32_74 : BitVec 32 := 12#32
  let v91 : BitVec 1 := Scalar.cmpi .eq v68 c12_i32_74
  let c15_i32_75 : BitVec 32 := 15#32
  let c11_i32_72 : BitVec 32 := 11#32
  let v89 : BitVec 1 := Scalar.cmpi .eq v68 c11_i32_72
  let c11_i32_73 : BitVec 32 := 11#32
  let c10_i32_70 : BitVec 32 := 10#32
  let v87 : BitVec 1 := Scalar.cmpi .eq v68 c10_i32_70
  let c7_i32_71 : BitVec 32 := 7#32
  let c9_i32_68 : BitVec 32 := 9#32
  let v85 : BitVec 1 := Scalar.cmpi .eq v68 c9_i32_68
  let c3_i32_69 : BitVec 32 := 3#32
  let c8_i32_66 : BitVec 32 := 8#32
  let v83 : BitVec 1 := Scalar.cmpi .eq v68 c8_i32_66
  let c2_i32_67 : BitVec 32 := 2#32
  let c7_i32_64 : BitVec 32 := 7#32
  let v81 : BitVec 1 := Scalar.cmpi .eq v68 c7_i32_64
  let c6_i32_65 : BitVec 32 := 6#32
  let c6_i32_62 : BitVec 32 := 6#32
  let v79 : BitVec 1 := Scalar.cmpi .eq v68 c6_i32_62
  let c10_i32_63 : BitVec 32 := 10#32
  let c5_i32_60 : BitVec 32 := 5#32
  let v77 : BitVec 1 := Scalar.cmpi .eq v68 c5_i32_60
  let c14_i32_61 : BitVec 32 := 14#32
  let c4_i32_58 : BitVec 32 := 4#32
  let v75 : BitVec 1 := Scalar.cmpi .eq v68 c4_i32_58
  let c13_i32_59 : BitVec 32 := 13#32
  let c3_i32_56 : BitVec 32 := 3#32
  let v73 : BitVec 1 := Scalar.cmpi .eq v68 c3_i32_56
  let c9_i32_57 : BitVec 32 := 9#32
  let c2_i32_54 : BitVec 32 := 2#32
  let v71 : BitVec 1 := Scalar.cmpi .eq v68 c2_i32_54
  let c5_i32_55 : BitVec 32 := 5#32
  let c1_i32_51 : BitVec 32 := 1#32
  let v69 : BitVec 1 := Scalar.cmpi .eq v68 c1_i32_51
  let c1_i32_52 : BitVec 32 := 1#32
  let c0_i32_53 : BitVec 32 := 0#32
  let v70 : BitVec 32 := Scalar.select v69 c1_i32_52 c0_i32_53
  let v72 : BitVec 32 := Scalar.select v71 c5_i32_55 v70
  let v74 : BitVec 32 := Scalar.select v73 c9_i32_57 v72
  let v76 : BitVec 32 := Scalar.select v75 c13_i32_59 v74
  let v78 : BitVec 32 := Scalar.select v77 c14_i32_61 v76
  let v80 : BitVec 32 := Scalar.select v79 c10_i32_63 v78
  let v82 : BitVec 32 := Scalar.select v81 c6_i32_65 v80
  let v84 : BitVec 32 := Scalar.select v83 c2_i32_67 v82
  let v86 : BitVec 32 := Scalar.select v85 c3_i32_69 v84
  let v88 : BitVec 32 := Scalar.select v87 c7_i32_71 v86
  let v90 : BitVec 32 := Scalar.select v89 c11_i32_73 v88
  let v92 : BitVec 32 := Scalar.select v91 c15_i32_75 v90
  let v94 : BitVec 32 := Scalar.select v93 c12_i32_77 v92
  let v96 : BitVec 32 := Scalar.select v95 c8_i32_79 v94
  let v98 : BitVec 32 := Scalar.select v97 c4_i32_81 v96
  let c1_i32_4314 : BitVec 32 := 1#32
  let v3113 : BitVec 32 := Scalar.muli v98 c1_i32_4314
  let v3114 : BitVec 32 := Scalar.addi c0_i32_4315 v3113
  v3114.toNat
def k0_dev115 (d0 : Dev nD) : Nat :=
  let c0_i32_4343 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c_m1_i32 : BitVec 32 := 4294967295#32
  let v33 : BitVec 32 := Scalar.addi v32 c_m1_i32
  let c32_i32 : BitVec 32 := 32#32
  let v34 : BitVec 32 := Scalar.addi v33 c32_i32
  let c16_i32_16 : BitVec 32 := 16#32
  let v35 : BitVec 32 := Scalar.remsi v34 c16_i32_16
  let c15_i32_46 : BitVec 32 := 15#32
  let v64 : BitVec 1 := Scalar.cmpi .eq v35 c15_i32_46
  let c4_i32_47 : BitVec 32 := 4#32
  let c14_i32_44 : BitVec 32 := 14#32
  let v62 : BitVec 1 := Scalar.cmpi .eq v35 c14_i32_44
  let c8_i32_45 : BitVec 32 := 8#32
  let c13_i32_42 : BitVec 32 := 13#32
  let v60 : BitVec 1 := Scalar.cmpi .eq v35 c13_i32_42
  let c12_i32_43 : BitVec 32 := 12#32
  let c12_i32_40 : BitVec 32 := 12#32
  let v58 : BitVec 1 := Scalar.cmpi .eq v35 c12_i32_40
  let c15_i32_41 : BitVec 32 := 15#32
  let c11_i32_38 : BitVec 32 := 11#32
  let v56 : BitVec 1 := Scalar.cmpi .eq v35 c11_i32_38
  let c11_i32_39 : BitVec 32 := 11#32
  let c10_i32_36 : BitVec 32 := 10#32
  let v54 : BitVec 1 := Scalar.cmpi .eq v35 c10_i32_36
  let c7_i32_37 : BitVec 32 := 7#32
  let c9_i32_34 : BitVec 32 := 9#32
  let v52 : BitVec 1 := Scalar.cmpi .eq v35 c9_i32_34
  let c3_i32_35 : BitVec 32 := 3#32
  let c8_i32_32 : BitVec 32 := 8#32
  let v50 : BitVec 1 := Scalar.cmpi .eq v35 c8_i32_32
  let c2_i32_33 : BitVec 32 := 2#32
  let c7_i32_30 : BitVec 32 := 7#32
  let v48 : BitVec 1 := Scalar.cmpi .eq v35 c7_i32_30
  let c6_i32_31 : BitVec 32 := 6#32
  let c6_i32_28 : BitVec 32 := 6#32
  let v46 : BitVec 1 := Scalar.cmpi .eq v35 c6_i32_28
  let c10_i32_29 : BitVec 32 := 10#32
  let c5_i32_26 : BitVec 32 := 5#32
  let v44 : BitVec 1 := Scalar.cmpi .eq v35 c5_i32_26
  let c14_i32_27 : BitVec 32 := 14#32
  let c4_i32_24 : BitVec 32 := 4#32
  let v42 : BitVec 1 := Scalar.cmpi .eq v35 c4_i32_24
  let c13_i32_25 : BitVec 32 := 13#32
  let c3_i32_22 : BitVec 32 := 3#32
  let v40 : BitVec 1 := Scalar.cmpi .eq v35 c3_i32_22
  let c9_i32_23 : BitVec 32 := 9#32
  let c2_i32_20 : BitVec 32 := 2#32
  let v38 : BitVec 1 := Scalar.cmpi .eq v35 c2_i32_20
  let c5_i32_21 : BitVec 32 := 5#32
  let c1_i32_17 : BitVec 32 := 1#32
  let v36 : BitVec 1 := Scalar.cmpi .eq v35 c1_i32_17
  let c1_i32_18 : BitVec 32 := 1#32
  let c0_i32_19 : BitVec 32 := 0#32
  let v37 : BitVec 32 := Scalar.select v36 c1_i32_18 c0_i32_19
  let v39 : BitVec 32 := Scalar.select v38 c5_i32_21 v37
  let v41 : BitVec 32 := Scalar.select v40 c9_i32_23 v39
  let v43 : BitVec 32 := Scalar.select v42 c13_i32_25 v41
  let v45 : BitVec 32 := Scalar.select v44 c14_i32_27 v43
  let v47 : BitVec 32 := Scalar.select v46 c10_i32_29 v45
  let v49 : BitVec 32 := Scalar.select v48 c6_i32_31 v47
  let v51 : BitVec 32 := Scalar.select v50 c2_i32_33 v49
  let v53 : BitVec 32 := Scalar.select v52 c3_i32_35 v51
  let v55 : BitVec 32 := Scalar.select v54 c7_i32_37 v53
  let v57 : BitVec 32 := Scalar.select v56 c11_i32_39 v55
  let v59 : BitVec 32 := Scalar.select v58 c15_i32_41 v57
  let v61 : BitVec 32 := Scalar.select v60 c12_i32_43 v59
  let v63 : BitVec 32 := Scalar.select v62 c8_i32_45 v61
  let v65 : BitVec 32 := Scalar.select v64 c4_i32_47 v63
  let c1_i32_4342 : BitVec 32 := 1#32
  let v3133 : BitVec 32 := Scalar.muli v65 c1_i32_4342
  let v3134 : BitVec 32 := Scalar.addi c0_i32_4343 v3133
  v3134.toNat
def k0_dev116 (d0 : Dev nD) : Nat :=
  let c0_i32_4371 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c_m1_i32 : BitVec 32 := 4294967295#32
  let v33 : BitVec 32 := Scalar.addi v32 c_m1_i32
  let c32_i32 : BitVec 32 := 32#32
  let v34 : BitVec 32 := Scalar.addi v33 c32_i32
  let c16_i32_16 : BitVec 32 := 16#32
  let v35 : BitVec 32 := Scalar.remsi v34 c16_i32_16
  let c15_i32_46 : BitVec 32 := 15#32
  let v64 : BitVec 1 := Scalar.cmpi .eq v35 c15_i32_46
  let c4_i32_47 : BitVec 32 := 4#32
  let c14_i32_44 : BitVec 32 := 14#32
  let v62 : BitVec 1 := Scalar.cmpi .eq v35 c14_i32_44
  let c8_i32_45 : BitVec 32 := 8#32
  let c13_i32_42 : BitVec 32 := 13#32
  let v60 : BitVec 1 := Scalar.cmpi .eq v35 c13_i32_42
  let c12_i32_43 : BitVec 32 := 12#32
  let c12_i32_40 : BitVec 32 := 12#32
  let v58 : BitVec 1 := Scalar.cmpi .eq v35 c12_i32_40
  let c15_i32_41 : BitVec 32 := 15#32
  let c11_i32_38 : BitVec 32 := 11#32
  let v56 : BitVec 1 := Scalar.cmpi .eq v35 c11_i32_38
  let c11_i32_39 : BitVec 32 := 11#32
  let c10_i32_36 : BitVec 32 := 10#32
  let v54 : BitVec 1 := Scalar.cmpi .eq v35 c10_i32_36
  let c7_i32_37 : BitVec 32 := 7#32
  let c9_i32_34 : BitVec 32 := 9#32
  let v52 : BitVec 1 := Scalar.cmpi .eq v35 c9_i32_34
  let c3_i32_35 : BitVec 32 := 3#32
  let c8_i32_32 : BitVec 32 := 8#32
  let v50 : BitVec 1 := Scalar.cmpi .eq v35 c8_i32_32
  let c2_i32_33 : BitVec 32 := 2#32
  let c7_i32_30 : BitVec 32 := 7#32
  let v48 : BitVec 1 := Scalar.cmpi .eq v35 c7_i32_30
  let c6_i32_31 : BitVec 32 := 6#32
  let c6_i32_28 : BitVec 32 := 6#32
  let v46 : BitVec 1 := Scalar.cmpi .eq v35 c6_i32_28
  let c10_i32_29 : BitVec 32 := 10#32
  let c5_i32_26 : BitVec 32 := 5#32
  let v44 : BitVec 1 := Scalar.cmpi .eq v35 c5_i32_26
  let c14_i32_27 : BitVec 32 := 14#32
  let c4_i32_24 : BitVec 32 := 4#32
  let v42 : BitVec 1 := Scalar.cmpi .eq v35 c4_i32_24
  let c13_i32_25 : BitVec 32 := 13#32
  let c3_i32_22 : BitVec 32 := 3#32
  let v40 : BitVec 1 := Scalar.cmpi .eq v35 c3_i32_22
  let c9_i32_23 : BitVec 32 := 9#32
  let c2_i32_20 : BitVec 32 := 2#32
  let v38 : BitVec 1 := Scalar.cmpi .eq v35 c2_i32_20
  let c5_i32_21 : BitVec 32 := 5#32
  let c1_i32_17 : BitVec 32 := 1#32
  let v36 : BitVec 1 := Scalar.cmpi .eq v35 c1_i32_17
  let c1_i32_18 : BitVec 32 := 1#32
  let c0_i32_19 : BitVec 32 := 0#32
  let v37 : BitVec 32 := Scalar.select v36 c1_i32_18 c0_i32_19
  let v39 : BitVec 32 := Scalar.select v38 c5_i32_21 v37
  let v41 : BitVec 32 := Scalar.select v40 c9_i32_23 v39
  let v43 : BitVec 32 := Scalar.select v42 c13_i32_25 v41
  let v45 : BitVec 32 := Scalar.select v44 c14_i32_27 v43
  let v47 : BitVec 32 := Scalar.select v46 c10_i32_29 v45
  let v49 : BitVec 32 := Scalar.select v48 c6_i32_31 v47
  let v51 : BitVec 32 := Scalar.select v50 c2_i32_33 v49
  let v53 : BitVec 32 := Scalar.select v52 c3_i32_35 v51
  let v55 : BitVec 32 := Scalar.select v54 c7_i32_37 v53
  let v57 : BitVec 32 := Scalar.select v56 c11_i32_39 v55
  let v59 : BitVec 32 := Scalar.select v58 c15_i32_41 v57
  let v61 : BitVec 32 := Scalar.select v60 c12_i32_43 v59
  let v63 : BitVec 32 := Scalar.select v62 c8_i32_45 v61
  let v65 : BitVec 32 := Scalar.select v64 c4_i32_47 v63
  let c1_i32_4370 : BitVec 32 := 1#32
  let v3153 : BitVec 32 := Scalar.muli v65 c1_i32_4370
  let v3154 : BitVec 32 := Scalar.addi c0_i32_4371 v3153
  v3154.toNat
def k0_dev117 (d0 : Dev nD) : Nat :=
  let c0_i32_4399 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c_m1_i32 : BitVec 32 := 4294967295#32
  let v33 : BitVec 32 := Scalar.addi v32 c_m1_i32
  let c32_i32 : BitVec 32 := 32#32
  let v34 : BitVec 32 := Scalar.addi v33 c32_i32
  let c16_i32_16 : BitVec 32 := 16#32
  let v35 : BitVec 32 := Scalar.remsi v34 c16_i32_16
  let c15_i32_46 : BitVec 32 := 15#32
  let v64 : BitVec 1 := Scalar.cmpi .eq v35 c15_i32_46
  let c4_i32_47 : BitVec 32 := 4#32
  let c14_i32_44 : BitVec 32 := 14#32
  let v62 : BitVec 1 := Scalar.cmpi .eq v35 c14_i32_44
  let c8_i32_45 : BitVec 32 := 8#32
  let c13_i32_42 : BitVec 32 := 13#32
  let v60 : BitVec 1 := Scalar.cmpi .eq v35 c13_i32_42
  let c12_i32_43 : BitVec 32 := 12#32
  let c12_i32_40 : BitVec 32 := 12#32
  let v58 : BitVec 1 := Scalar.cmpi .eq v35 c12_i32_40
  let c15_i32_41 : BitVec 32 := 15#32
  let c11_i32_38 : BitVec 32 := 11#32
  let v56 : BitVec 1 := Scalar.cmpi .eq v35 c11_i32_38
  let c11_i32_39 : BitVec 32 := 11#32
  let c10_i32_36 : BitVec 32 := 10#32
  let v54 : BitVec 1 := Scalar.cmpi .eq v35 c10_i32_36
  let c7_i32_37 : BitVec 32 := 7#32
  let c9_i32_34 : BitVec 32 := 9#32
  let v52 : BitVec 1 := Scalar.cmpi .eq v35 c9_i32_34
  let c3_i32_35 : BitVec 32 := 3#32
  let c8_i32_32 : BitVec 32 := 8#32
  let v50 : BitVec 1 := Scalar.cmpi .eq v35 c8_i32_32
  let c2_i32_33 : BitVec 32 := 2#32
  let c7_i32_30 : BitVec 32 := 7#32
  let v48 : BitVec 1 := Scalar.cmpi .eq v35 c7_i32_30
  let c6_i32_31 : BitVec 32 := 6#32
  let c6_i32_28 : BitVec 32 := 6#32
  let v46 : BitVec 1 := Scalar.cmpi .eq v35 c6_i32_28
  let c10_i32_29 : BitVec 32 := 10#32
  let c5_i32_26 : BitVec 32 := 5#32
  let v44 : BitVec 1 := Scalar.cmpi .eq v35 c5_i32_26
  let c14_i32_27 : BitVec 32 := 14#32
  let c4_i32_24 : BitVec 32 := 4#32
  let v42 : BitVec 1 := Scalar.cmpi .eq v35 c4_i32_24
  let c13_i32_25 : BitVec 32 := 13#32
  let c3_i32_22 : BitVec 32 := 3#32
  let v40 : BitVec 1 := Scalar.cmpi .eq v35 c3_i32_22
  let c9_i32_23 : BitVec 32 := 9#32
  let c2_i32_20 : BitVec 32 := 2#32
  let v38 : BitVec 1 := Scalar.cmpi .eq v35 c2_i32_20
  let c5_i32_21 : BitVec 32 := 5#32
  let c1_i32_17 : BitVec 32 := 1#32
  let v36 : BitVec 1 := Scalar.cmpi .eq v35 c1_i32_17
  let c1_i32_18 : BitVec 32 := 1#32
  let c0_i32_19 : BitVec 32 := 0#32
  let v37 : BitVec 32 := Scalar.select v36 c1_i32_18 c0_i32_19
  let v39 : BitVec 32 := Scalar.select v38 c5_i32_21 v37
  let v41 : BitVec 32 := Scalar.select v40 c9_i32_23 v39
  let v43 : BitVec 32 := Scalar.select v42 c13_i32_25 v41
  let v45 : BitVec 32 := Scalar.select v44 c14_i32_27 v43
  let v47 : BitVec 32 := Scalar.select v46 c10_i32_29 v45
  let v49 : BitVec 32 := Scalar.select v48 c6_i32_31 v47
  let v51 : BitVec 32 := Scalar.select v50 c2_i32_33 v49
  let v53 : BitVec 32 := Scalar.select v52 c3_i32_35 v51
  let v55 : BitVec 32 := Scalar.select v54 c7_i32_37 v53
  let v57 : BitVec 32 := Scalar.select v56 c11_i32_39 v55
  let v59 : BitVec 32 := Scalar.select v58 c15_i32_41 v57
  let v61 : BitVec 32 := Scalar.select v60 c12_i32_43 v59
  let v63 : BitVec 32 := Scalar.select v62 c8_i32_45 v61
  let v65 : BitVec 32 := Scalar.select v64 c4_i32_47 v63
  let c1_i32_4398 : BitVec 32 := 1#32
  let v3173 : BitVec 32 := Scalar.muli v65 c1_i32_4398
  let v3174 : BitVec 32 := Scalar.addi c0_i32_4399 v3173
  v3174.toNat
def k0_dev118 (d0 : Dev nD) : Nat :=
  let c0_i32_4427 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c_m1_i32 : BitVec 32 := 4294967295#32
  let v33 : BitVec 32 := Scalar.addi v32 c_m1_i32
  let c32_i32 : BitVec 32 := 32#32
  let v34 : BitVec 32 := Scalar.addi v33 c32_i32
  let c16_i32_16 : BitVec 32 := 16#32
  let v35 : BitVec 32 := Scalar.remsi v34 c16_i32_16
  let c15_i32_46 : BitVec 32 := 15#32
  let v64 : BitVec 1 := Scalar.cmpi .eq v35 c15_i32_46
  let c4_i32_47 : BitVec 32 := 4#32
  let c14_i32_44 : BitVec 32 := 14#32
  let v62 : BitVec 1 := Scalar.cmpi .eq v35 c14_i32_44
  let c8_i32_45 : BitVec 32 := 8#32
  let c13_i32_42 : BitVec 32 := 13#32
  let v60 : BitVec 1 := Scalar.cmpi .eq v35 c13_i32_42
  let c12_i32_43 : BitVec 32 := 12#32
  let c12_i32_40 : BitVec 32 := 12#32
  let v58 : BitVec 1 := Scalar.cmpi .eq v35 c12_i32_40
  let c15_i32_41 : BitVec 32 := 15#32
  let c11_i32_38 : BitVec 32 := 11#32
  let v56 : BitVec 1 := Scalar.cmpi .eq v35 c11_i32_38
  let c11_i32_39 : BitVec 32 := 11#32
  let c10_i32_36 : BitVec 32 := 10#32
  let v54 : BitVec 1 := Scalar.cmpi .eq v35 c10_i32_36
  let c7_i32_37 : BitVec 32 := 7#32
  let c9_i32_34 : BitVec 32 := 9#32
  let v52 : BitVec 1 := Scalar.cmpi .eq v35 c9_i32_34
  let c3_i32_35 : BitVec 32 := 3#32
  let c8_i32_32 : BitVec 32 := 8#32
  let v50 : BitVec 1 := Scalar.cmpi .eq v35 c8_i32_32
  let c2_i32_33 : BitVec 32 := 2#32
  let c7_i32_30 : BitVec 32 := 7#32
  let v48 : BitVec 1 := Scalar.cmpi .eq v35 c7_i32_30
  let c6_i32_31 : BitVec 32 := 6#32
  let c6_i32_28 : BitVec 32 := 6#32
  let v46 : BitVec 1 := Scalar.cmpi .eq v35 c6_i32_28
  let c10_i32_29 : BitVec 32 := 10#32
  let c5_i32_26 : BitVec 32 := 5#32
  let v44 : BitVec 1 := Scalar.cmpi .eq v35 c5_i32_26
  let c14_i32_27 : BitVec 32 := 14#32
  let c4_i32_24 : BitVec 32 := 4#32
  let v42 : BitVec 1 := Scalar.cmpi .eq v35 c4_i32_24
  let c13_i32_25 : BitVec 32 := 13#32
  let c3_i32_22 : BitVec 32 := 3#32
  let v40 : BitVec 1 := Scalar.cmpi .eq v35 c3_i32_22
  let c9_i32_23 : BitVec 32 := 9#32
  let c2_i32_20 : BitVec 32 := 2#32
  let v38 : BitVec 1 := Scalar.cmpi .eq v35 c2_i32_20
  let c5_i32_21 : BitVec 32 := 5#32
  let c1_i32_17 : BitVec 32 := 1#32
  let v36 : BitVec 1 := Scalar.cmpi .eq v35 c1_i32_17
  let c1_i32_18 : BitVec 32 := 1#32
  let c0_i32_19 : BitVec 32 := 0#32
  let v37 : BitVec 32 := Scalar.select v36 c1_i32_18 c0_i32_19
  let v39 : BitVec 32 := Scalar.select v38 c5_i32_21 v37
  let v41 : BitVec 32 := Scalar.select v40 c9_i32_23 v39
  let v43 : BitVec 32 := Scalar.select v42 c13_i32_25 v41
  let v45 : BitVec 32 := Scalar.select v44 c14_i32_27 v43
  let v47 : BitVec 32 := Scalar.select v46 c10_i32_29 v45
  let v49 : BitVec 32 := Scalar.select v48 c6_i32_31 v47
  let v51 : BitVec 32 := Scalar.select v50 c2_i32_33 v49
  let v53 : BitVec 32 := Scalar.select v52 c3_i32_35 v51
  let v55 : BitVec 32 := Scalar.select v54 c7_i32_37 v53
  let v57 : BitVec 32 := Scalar.select v56 c11_i32_39 v55
  let v59 : BitVec 32 := Scalar.select v58 c15_i32_41 v57
  let v61 : BitVec 32 := Scalar.select v60 c12_i32_43 v59
  let v63 : BitVec 32 := Scalar.select v62 c8_i32_45 v61
  let v65 : BitVec 32 := Scalar.select v64 c4_i32_47 v63
  let c1_i32_4426 : BitVec 32 := 1#32
  let v3193 : BitVec 32 := Scalar.muli v65 c1_i32_4426
  let v3194 : BitVec 32 := Scalar.addi c0_i32_4427 v3193
  v3194.toNat
def k0_dev119 (d0 : Dev nD) : Nat :=
  let c0_i32_4455 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c_m1_i32 : BitVec 32 := 4294967295#32
  let v33 : BitVec 32 := Scalar.addi v32 c_m1_i32
  let c32_i32 : BitVec 32 := 32#32
  let v34 : BitVec 32 := Scalar.addi v33 c32_i32
  let c16_i32_16 : BitVec 32 := 16#32
  let v35 : BitVec 32 := Scalar.remsi v34 c16_i32_16
  let c15_i32_46 : BitVec 32 := 15#32
  let v64 : BitVec 1 := Scalar.cmpi .eq v35 c15_i32_46
  let c4_i32_47 : BitVec 32 := 4#32
  let c14_i32_44 : BitVec 32 := 14#32
  let v62 : BitVec 1 := Scalar.cmpi .eq v35 c14_i32_44
  let c8_i32_45 : BitVec 32 := 8#32
  let c13_i32_42 : BitVec 32 := 13#32
  let v60 : BitVec 1 := Scalar.cmpi .eq v35 c13_i32_42
  let c12_i32_43 : BitVec 32 := 12#32
  let c12_i32_40 : BitVec 32 := 12#32
  let v58 : BitVec 1 := Scalar.cmpi .eq v35 c12_i32_40
  let c15_i32_41 : BitVec 32 := 15#32
  let c11_i32_38 : BitVec 32 := 11#32
  let v56 : BitVec 1 := Scalar.cmpi .eq v35 c11_i32_38
  let c11_i32_39 : BitVec 32 := 11#32
  let c10_i32_36 : BitVec 32 := 10#32
  let v54 : BitVec 1 := Scalar.cmpi .eq v35 c10_i32_36
  let c7_i32_37 : BitVec 32 := 7#32
  let c9_i32_34 : BitVec 32 := 9#32
  let v52 : BitVec 1 := Scalar.cmpi .eq v35 c9_i32_34
  let c3_i32_35 : BitVec 32 := 3#32
  let c8_i32_32 : BitVec 32 := 8#32
  let v50 : BitVec 1 := Scalar.cmpi .eq v35 c8_i32_32
  let c2_i32_33 : BitVec 32 := 2#32
  let c7_i32_30 : BitVec 32 := 7#32
  let v48 : BitVec 1 := Scalar.cmpi .eq v35 c7_i32_30
  let c6_i32_31 : BitVec 32 := 6#32
  let c6_i32_28 : BitVec 32 := 6#32
  let v46 : BitVec 1 := Scalar.cmpi .eq v35 c6_i32_28
  let c10_i32_29 : BitVec 32 := 10#32
  let c5_i32_26 : BitVec 32 := 5#32
  let v44 : BitVec 1 := Scalar.cmpi .eq v35 c5_i32_26
  let c14_i32_27 : BitVec 32 := 14#32
  let c4_i32_24 : BitVec 32 := 4#32
  let v42 : BitVec 1 := Scalar.cmpi .eq v35 c4_i32_24
  let c13_i32_25 : BitVec 32 := 13#32
  let c3_i32_22 : BitVec 32 := 3#32
  let v40 : BitVec 1 := Scalar.cmpi .eq v35 c3_i32_22
  let c9_i32_23 : BitVec 32 := 9#32
  let c2_i32_20 : BitVec 32 := 2#32
  let v38 : BitVec 1 := Scalar.cmpi .eq v35 c2_i32_20
  let c5_i32_21 : BitVec 32 := 5#32
  let c1_i32_17 : BitVec 32 := 1#32
  let v36 : BitVec 1 := Scalar.cmpi .eq v35 c1_i32_17
  let c1_i32_18 : BitVec 32 := 1#32
  let c0_i32_19 : BitVec 32 := 0#32
  let v37 : BitVec 32 := Scalar.select v36 c1_i32_18 c0_i32_19
  let v39 : BitVec 32 := Scalar.select v38 c5_i32_21 v37
  let v41 : BitVec 32 := Scalar.select v40 c9_i32_23 v39
  let v43 : BitVec 32 := Scalar.select v42 c13_i32_25 v41
  let v45 : BitVec 32 := Scalar.select v44 c14_i32_27 v43
  let v47 : BitVec 32 := Scalar.select v46 c10_i32_29 v45
  let v49 : BitVec 32 := Scalar.select v48 c6_i32_31 v47
  let v51 : BitVec 32 := Scalar.select v50 c2_i32_33 v49
  let v53 : BitVec 32 := Scalar.select v52 c3_i32_35 v51
  let v55 : BitVec 32 := Scalar.select v54 c7_i32_37 v53
  let v57 : BitVec 32 := Scalar.select v56 c11_i32_39 v55
  let v59 : BitVec 32 := Scalar.select v58 c15_i32_41 v57
  let v61 : BitVec 32 := Scalar.select v60 c12_i32_43 v59
  let v63 : BitVec 32 := Scalar.select v62 c8_i32_45 v61
  let v65 : BitVec 32 := Scalar.select v64 c4_i32_47 v63
  let c1_i32_4454 : BitVec 32 := 1#32
  let v3213 : BitVec 32 := Scalar.muli v65 c1_i32_4454
  let v3214 : BitVec 32 := Scalar.addi c0_i32_4455 v3213
  v3214.toNat
def k0_dev120 (d0 : Dev nD) : Nat :=
  let c0_i32_4483 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c_m1_i32 : BitVec 32 := 4294967295#32
  let v33 : BitVec 32 := Scalar.addi v32 c_m1_i32
  let c32_i32 : BitVec 32 := 32#32
  let v34 : BitVec 32 := Scalar.addi v33 c32_i32
  let c16_i32_16 : BitVec 32 := 16#32
  let v35 : BitVec 32 := Scalar.remsi v34 c16_i32_16
  let c15_i32_46 : BitVec 32 := 15#32
  let v64 : BitVec 1 := Scalar.cmpi .eq v35 c15_i32_46
  let c4_i32_47 : BitVec 32 := 4#32
  let c14_i32_44 : BitVec 32 := 14#32
  let v62 : BitVec 1 := Scalar.cmpi .eq v35 c14_i32_44
  let c8_i32_45 : BitVec 32 := 8#32
  let c13_i32_42 : BitVec 32 := 13#32
  let v60 : BitVec 1 := Scalar.cmpi .eq v35 c13_i32_42
  let c12_i32_43 : BitVec 32 := 12#32
  let c12_i32_40 : BitVec 32 := 12#32
  let v58 : BitVec 1 := Scalar.cmpi .eq v35 c12_i32_40
  let c15_i32_41 : BitVec 32 := 15#32
  let c11_i32_38 : BitVec 32 := 11#32
  let v56 : BitVec 1 := Scalar.cmpi .eq v35 c11_i32_38
  let c11_i32_39 : BitVec 32 := 11#32
  let c10_i32_36 : BitVec 32 := 10#32
  let v54 : BitVec 1 := Scalar.cmpi .eq v35 c10_i32_36
  let c7_i32_37 : BitVec 32 := 7#32
  let c9_i32_34 : BitVec 32 := 9#32
  let v52 : BitVec 1 := Scalar.cmpi .eq v35 c9_i32_34
  let c3_i32_35 : BitVec 32 := 3#32
  let c8_i32_32 : BitVec 32 := 8#32
  let v50 : BitVec 1 := Scalar.cmpi .eq v35 c8_i32_32
  let c2_i32_33 : BitVec 32 := 2#32
  let c7_i32_30 : BitVec 32 := 7#32
  let v48 : BitVec 1 := Scalar.cmpi .eq v35 c7_i32_30
  let c6_i32_31 : BitVec 32 := 6#32
  let c6_i32_28 : BitVec 32 := 6#32
  let v46 : BitVec 1 := Scalar.cmpi .eq v35 c6_i32_28
  let c10_i32_29 : BitVec 32 := 10#32
  let c5_i32_26 : BitVec 32 := 5#32
  let v44 : BitVec 1 := Scalar.cmpi .eq v35 c5_i32_26
  let c14_i32_27 : BitVec 32 := 14#32
  let c4_i32_24 : BitVec 32 := 4#32
  let v42 : BitVec 1 := Scalar.cmpi .eq v35 c4_i32_24
  let c13_i32_25 : BitVec 32 := 13#32
  let c3_i32_22 : BitVec 32 := 3#32
  let v40 : BitVec 1 := Scalar.cmpi .eq v35 c3_i32_22
  let c9_i32_23 : BitVec 32 := 9#32
  let c2_i32_20 : BitVec 32 := 2#32
  let v38 : BitVec 1 := Scalar.cmpi .eq v35 c2_i32_20
  let c5_i32_21 : BitVec 32 := 5#32
  let c1_i32_17 : BitVec 32 := 1#32
  let v36 : BitVec 1 := Scalar.cmpi .eq v35 c1_i32_17
  let c1_i32_18 : BitVec 32 := 1#32
  let c0_i32_19 : BitVec 32 := 0#32
  let v37 : BitVec 32 := Scalar.select v36 c1_i32_18 c0_i32_19
  let v39 : BitVec 32 := Scalar.select v38 c5_i32_21 v37
  let v41 : BitVec 32 := Scalar.select v40 c9_i32_23 v39
  let v43 : BitVec 32 := Scalar.select v42 c13_i32_25 v41
  let v45 : BitVec 32 := Scalar.select v44 c14_i32_27 v43
  let v47 : BitVec 32 := Scalar.select v46 c10_i32_29 v45
  let v49 : BitVec 32 := Scalar.select v48 c6_i32_31 v47
  let v51 : BitVec 32 := Scalar.select v50 c2_i32_33 v49
  let v53 : BitVec 32 := Scalar.select v52 c3_i32_35 v51
  let v55 : BitVec 32 := Scalar.select v54 c7_i32_37 v53
  let v57 : BitVec 32 := Scalar.select v56 c11_i32_39 v55
  let v59 : BitVec 32 := Scalar.select v58 c15_i32_41 v57
  let v61 : BitVec 32 := Scalar.select v60 c12_i32_43 v59
  let v63 : BitVec 32 := Scalar.select v62 c8_i32_45 v61
  let v65 : BitVec 32 := Scalar.select v64 c4_i32_47 v63
  let c1_i32_4482 : BitVec 32 := 1#32
  let v3233 : BitVec 32 := Scalar.muli v65 c1_i32_4482
  let v3234 : BitVec 32 := Scalar.addi c0_i32_4483 v3233
  v3234.toNat
def k0_dev121 (d0 : Dev nD) : Nat :=
  let c0_i32_4511 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c_m1_i32 : BitVec 32 := 4294967295#32
  let v33 : BitVec 32 := Scalar.addi v32 c_m1_i32
  let c32_i32 : BitVec 32 := 32#32
  let v34 : BitVec 32 := Scalar.addi v33 c32_i32
  let c16_i32_16 : BitVec 32 := 16#32
  let v35 : BitVec 32 := Scalar.remsi v34 c16_i32_16
  let c15_i32_46 : BitVec 32 := 15#32
  let v64 : BitVec 1 := Scalar.cmpi .eq v35 c15_i32_46
  let c4_i32_47 : BitVec 32 := 4#32
  let c14_i32_44 : BitVec 32 := 14#32
  let v62 : BitVec 1 := Scalar.cmpi .eq v35 c14_i32_44
  let c8_i32_45 : BitVec 32 := 8#32
  let c13_i32_42 : BitVec 32 := 13#32
  let v60 : BitVec 1 := Scalar.cmpi .eq v35 c13_i32_42
  let c12_i32_43 : BitVec 32 := 12#32
  let c12_i32_40 : BitVec 32 := 12#32
  let v58 : BitVec 1 := Scalar.cmpi .eq v35 c12_i32_40
  let c15_i32_41 : BitVec 32 := 15#32
  let c11_i32_38 : BitVec 32 := 11#32
  let v56 : BitVec 1 := Scalar.cmpi .eq v35 c11_i32_38
  let c11_i32_39 : BitVec 32 := 11#32
  let c10_i32_36 : BitVec 32 := 10#32
  let v54 : BitVec 1 := Scalar.cmpi .eq v35 c10_i32_36
  let c7_i32_37 : BitVec 32 := 7#32
  let c9_i32_34 : BitVec 32 := 9#32
  let v52 : BitVec 1 := Scalar.cmpi .eq v35 c9_i32_34
  let c3_i32_35 : BitVec 32 := 3#32
  let c8_i32_32 : BitVec 32 := 8#32
  let v50 : BitVec 1 := Scalar.cmpi .eq v35 c8_i32_32
  let c2_i32_33 : BitVec 32 := 2#32
  let c7_i32_30 : BitVec 32 := 7#32
  let v48 : BitVec 1 := Scalar.cmpi .eq v35 c7_i32_30
  let c6_i32_31 : BitVec 32 := 6#32
  let c6_i32_28 : BitVec 32 := 6#32
  let v46 : BitVec 1 := Scalar.cmpi .eq v35 c6_i32_28
  let c10_i32_29 : BitVec 32 := 10#32
  let c5_i32_26 : BitVec 32 := 5#32
  let v44 : BitVec 1 := Scalar.cmpi .eq v35 c5_i32_26
  let c14_i32_27 : BitVec 32 := 14#32
  let c4_i32_24 : BitVec 32 := 4#32
  let v42 : BitVec 1 := Scalar.cmpi .eq v35 c4_i32_24
  let c13_i32_25 : BitVec 32 := 13#32
  let c3_i32_22 : BitVec 32 := 3#32
  let v40 : BitVec 1 := Scalar.cmpi .eq v35 c3_i32_22
  let c9_i32_23 : BitVec 32 := 9#32
  let c2_i32_20 : BitVec 32 := 2#32
  let v38 : BitVec 1 := Scalar.cmpi .eq v35 c2_i32_20
  let c5_i32_21 : BitVec 32 := 5#32
  let c1_i32_17 : BitVec 32 := 1#32
  let v36 : BitVec 1 := Scalar.cmpi .eq v35 c1_i32_17
  let c1_i32_18 : BitVec 32 := 1#32
  let c0_i32_19 : BitVec 32 := 0#32
  let v37 : BitVec 32 := Scalar.select v36 c1_i32_18 c0_i32_19
  let v39 : BitVec 32 := Scalar.select v38 c5_i32_21 v37
  let v41 : BitVec 32 := Scalar.select v40 c9_i32_23 v39
  let v43 : BitVec 32 := Scalar.select v42 c13_i32_25 v41
  let v45 : BitVec 32 := Scalar.select v44 c14_i32_27 v43
  let v47 : BitVec 32 := Scalar.select v46 c10_i32_29 v45
  let v49 : BitVec 32 := Scalar.select v48 c6_i32_31 v47
  let v51 : BitVec 32 := Scalar.select v50 c2_i32_33 v49
  let v53 : BitVec 32 := Scalar.select v52 c3_i32_35 v51
  let v55 : BitVec 32 := Scalar.select v54 c7_i32_37 v53
  let v57 : BitVec 32 := Scalar.select v56 c11_i32_39 v55
  let v59 : BitVec 32 := Scalar.select v58 c15_i32_41 v57
  let v61 : BitVec 32 := Scalar.select v60 c12_i32_43 v59
  let v63 : BitVec 32 := Scalar.select v62 c8_i32_45 v61
  let v65 : BitVec 32 := Scalar.select v64 c4_i32_47 v63
  let c1_i32_4510 : BitVec 32 := 1#32
  let v3253 : BitVec 32 := Scalar.muli v65 c1_i32_4510
  let v3254 : BitVec 32 := Scalar.addi c0_i32_4511 v3253
  v3254.toNat
def k0_dev122 (d0 : Dev nD) : Nat :=
  let c0_i32_4539 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c_m1_i32 : BitVec 32 := 4294967295#32
  let v33 : BitVec 32 := Scalar.addi v32 c_m1_i32
  let c32_i32 : BitVec 32 := 32#32
  let v34 : BitVec 32 := Scalar.addi v33 c32_i32
  let c16_i32_16 : BitVec 32 := 16#32
  let v35 : BitVec 32 := Scalar.remsi v34 c16_i32_16
  let c15_i32_46 : BitVec 32 := 15#32
  let v64 : BitVec 1 := Scalar.cmpi .eq v35 c15_i32_46
  let c4_i32_47 : BitVec 32 := 4#32
  let c14_i32_44 : BitVec 32 := 14#32
  let v62 : BitVec 1 := Scalar.cmpi .eq v35 c14_i32_44
  let c8_i32_45 : BitVec 32 := 8#32
  let c13_i32_42 : BitVec 32 := 13#32
  let v60 : BitVec 1 := Scalar.cmpi .eq v35 c13_i32_42
  let c12_i32_43 : BitVec 32 := 12#32
  let c12_i32_40 : BitVec 32 := 12#32
  let v58 : BitVec 1 := Scalar.cmpi .eq v35 c12_i32_40
  let c15_i32_41 : BitVec 32 := 15#32
  let c11_i32_38 : BitVec 32 := 11#32
  let v56 : BitVec 1 := Scalar.cmpi .eq v35 c11_i32_38
  let c11_i32_39 : BitVec 32 := 11#32
  let c10_i32_36 : BitVec 32 := 10#32
  let v54 : BitVec 1 := Scalar.cmpi .eq v35 c10_i32_36
  let c7_i32_37 : BitVec 32 := 7#32
  let c9_i32_34 : BitVec 32 := 9#32
  let v52 : BitVec 1 := Scalar.cmpi .eq v35 c9_i32_34
  let c3_i32_35 : BitVec 32 := 3#32
  let c8_i32_32 : BitVec 32 := 8#32
  let v50 : BitVec 1 := Scalar.cmpi .eq v35 c8_i32_32
  let c2_i32_33 : BitVec 32 := 2#32
  let c7_i32_30 : BitVec 32 := 7#32
  let v48 : BitVec 1 := Scalar.cmpi .eq v35 c7_i32_30
  let c6_i32_31 : BitVec 32 := 6#32
  let c6_i32_28 : BitVec 32 := 6#32
  let v46 : BitVec 1 := Scalar.cmpi .eq v35 c6_i32_28
  let c10_i32_29 : BitVec 32 := 10#32
  let c5_i32_26 : BitVec 32 := 5#32
  let v44 : BitVec 1 := Scalar.cmpi .eq v35 c5_i32_26
  let c14_i32_27 : BitVec 32 := 14#32
  let c4_i32_24 : BitVec 32 := 4#32
  let v42 : BitVec 1 := Scalar.cmpi .eq v35 c4_i32_24
  let c13_i32_25 : BitVec 32 := 13#32
  let c3_i32_22 : BitVec 32 := 3#32
  let v40 : BitVec 1 := Scalar.cmpi .eq v35 c3_i32_22
  let c9_i32_23 : BitVec 32 := 9#32
  let c2_i32_20 : BitVec 32 := 2#32
  let v38 : BitVec 1 := Scalar.cmpi .eq v35 c2_i32_20
  let c5_i32_21 : BitVec 32 := 5#32
  let c1_i32_17 : BitVec 32 := 1#32
  let v36 : BitVec 1 := Scalar.cmpi .eq v35 c1_i32_17
  let c1_i32_18 : BitVec 32 := 1#32
  let c0_i32_19 : BitVec 32 := 0#32
  let v37 : BitVec 32 := Scalar.select v36 c1_i32_18 c0_i32_19
  let v39 : BitVec 32 := Scalar.select v38 c5_i32_21 v37
  let v41 : BitVec 32 := Scalar.select v40 c9_i32_23 v39
  let v43 : BitVec 32 := Scalar.select v42 c13_i32_25 v41
  let v45 : BitVec 32 := Scalar.select v44 c14_i32_27 v43
  let v47 : BitVec 32 := Scalar.select v46 c10_i32_29 v45
  let v49 : BitVec 32 := Scalar.select v48 c6_i32_31 v47
  let v51 : BitVec 32 := Scalar.select v50 c2_i32_33 v49
  let v53 : BitVec 32 := Scalar.select v52 c3_i32_35 v51
  let v55 : BitVec 32 := Scalar.select v54 c7_i32_37 v53
  let v57 : BitVec 32 := Scalar.select v56 c11_i32_39 v55
  let v59 : BitVec 32 := Scalar.select v58 c15_i32_41 v57
  let v61 : BitVec 32 := Scalar.select v60 c12_i32_43 v59
  let v63 : BitVec 32 := Scalar.select v62 c8_i32_45 v61
  let v65 : BitVec 32 := Scalar.select v64 c4_i32_47 v63
  let c1_i32_4538 : BitVec 32 := 1#32
  let v3273 : BitVec 32 := Scalar.muli v65 c1_i32_4538
  let v3274 : BitVec 32 := Scalar.addi c0_i32_4539 v3273
  v3274.toNat
def k0_dev123 (d0 : Dev nD) : Nat :=
  let c0_i32_4801 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_48 : BitVec 32 := 1#32
  let v66 : BitVec 32 := Scalar.addi v32 c1_i32_48
  let c32_i32_49 : BitVec 32 := 32#32
  let v67 : BitVec 32 := Scalar.addi v66 c32_i32_49
  let c16_i32_50 : BitVec 32 := 16#32
  let v68 : BitVec 32 := Scalar.remsi v67 c16_i32_50
  let c15_i32_80 : BitVec 32 := 15#32
  let v97 : BitVec 1 := Scalar.cmpi .eq v68 c15_i32_80
  let c4_i32_81 : BitVec 32 := 4#32
  let c14_i32_78 : BitVec 32 := 14#32
  let v95 : BitVec 1 := Scalar.cmpi .eq v68 c14_i32_78
  let c8_i32_79 : BitVec 32 := 8#32
  let c13_i32_76 : BitVec 32 := 13#32
  let v93 : BitVec 1 := Scalar.cmpi .eq v68 c13_i32_76
  let c12_i32_77 : BitVec 32 := 12#32
  let c12_i32_74 : BitVec 32 := 12#32
  let v91 : BitVec 1 := Scalar.cmpi .eq v68 c12_i32_74
  let c15_i32_75 : BitVec 32 := 15#32
  let c11_i32_72 : BitVec 32 := 11#32
  let v89 : BitVec 1 := Scalar.cmpi .eq v68 c11_i32_72
  let c11_i32_73 : BitVec 32 := 11#32
  let c10_i32_70 : BitVec 32 := 10#32
  let v87 : BitVec 1 := Scalar.cmpi .eq v68 c10_i32_70
  let c7_i32_71 : BitVec 32 := 7#32
  let c9_i32_68 : BitVec 32 := 9#32
  let v85 : BitVec 1 := Scalar.cmpi .eq v68 c9_i32_68
  let c3_i32_69 : BitVec 32 := 3#32
  let c8_i32_66 : BitVec 32 := 8#32
  let v83 : BitVec 1 := Scalar.cmpi .eq v68 c8_i32_66
  let c2_i32_67 : BitVec 32 := 2#32
  let c7_i32_64 : BitVec 32 := 7#32
  let v81 : BitVec 1 := Scalar.cmpi .eq v68 c7_i32_64
  let c6_i32_65 : BitVec 32 := 6#32
  let c6_i32_62 : BitVec 32 := 6#32
  let v79 : BitVec 1 := Scalar.cmpi .eq v68 c6_i32_62
  let c10_i32_63 : BitVec 32 := 10#32
  let c5_i32_60 : BitVec 32 := 5#32
  let v77 : BitVec 1 := Scalar.cmpi .eq v68 c5_i32_60
  let c14_i32_61 : BitVec 32 := 14#32
  let c4_i32_58 : BitVec 32 := 4#32
  let v75 : BitVec 1 := Scalar.cmpi .eq v68 c4_i32_58
  let c13_i32_59 : BitVec 32 := 13#32
  let c3_i32_56 : BitVec 32 := 3#32
  let v73 : BitVec 1 := Scalar.cmpi .eq v68 c3_i32_56
  let c9_i32_57 : BitVec 32 := 9#32
  let c2_i32_54 : BitVec 32 := 2#32
  let v71 : BitVec 1 := Scalar.cmpi .eq v68 c2_i32_54
  let c5_i32_55 : BitVec 32 := 5#32
  let c1_i32_51 : BitVec 32 := 1#32
  let v69 : BitVec 1 := Scalar.cmpi .eq v68 c1_i32_51
  let c1_i32_52 : BitVec 32 := 1#32
  let c0_i32_53 : BitVec 32 := 0#32
  let v70 : BitVec 32 := Scalar.select v69 c1_i32_52 c0_i32_53
  let v72 : BitVec 32 := Scalar.select v71 c5_i32_55 v70
  let v74 : BitVec 32 := Scalar.select v73 c9_i32_57 v72
  let v76 : BitVec 32 := Scalar.select v75 c13_i32_59 v74
  let v78 : BitVec 32 := Scalar.select v77 c14_i32_61 v76
  let v80 : BitVec 32 := Scalar.select v79 c10_i32_63 v78
  let v82 : BitVec 32 := Scalar.select v81 c6_i32_65 v80
  let v84 : BitVec 32 := Scalar.select v83 c2_i32_67 v82
  let v86 : BitVec 32 := Scalar.select v85 c3_i32_69 v84
  let v88 : BitVec 32 := Scalar.select v87 c7_i32_71 v86
  let v90 : BitVec 32 := Scalar.select v89 c11_i32_73 v88
  let v92 : BitVec 32 := Scalar.select v91 c15_i32_75 v90
  let v94 : BitVec 32 := Scalar.select v93 c12_i32_77 v92
  let v96 : BitVec 32 := Scalar.select v95 c8_i32_79 v94
  let v98 : BitVec 32 := Scalar.select v97 c4_i32_81 v96
  let c1_i32_4800 : BitVec 32 := 1#32
  let v3425 : BitVec 32 := Scalar.muli v98 c1_i32_4800
  let v3426 : BitVec 32 := Scalar.addi c0_i32_4801 v3425
  v3426.toNat
def k0_dev124 (d0 : Dev nD) : Nat :=
  let c0_i32_4829 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_48 : BitVec 32 := 1#32
  let v66 : BitVec 32 := Scalar.addi v32 c1_i32_48
  let c32_i32_49 : BitVec 32 := 32#32
  let v67 : BitVec 32 := Scalar.addi v66 c32_i32_49
  let c16_i32_50 : BitVec 32 := 16#32
  let v68 : BitVec 32 := Scalar.remsi v67 c16_i32_50
  let c15_i32_80 : BitVec 32 := 15#32
  let v97 : BitVec 1 := Scalar.cmpi .eq v68 c15_i32_80
  let c4_i32_81 : BitVec 32 := 4#32
  let c14_i32_78 : BitVec 32 := 14#32
  let v95 : BitVec 1 := Scalar.cmpi .eq v68 c14_i32_78
  let c8_i32_79 : BitVec 32 := 8#32
  let c13_i32_76 : BitVec 32 := 13#32
  let v93 : BitVec 1 := Scalar.cmpi .eq v68 c13_i32_76
  let c12_i32_77 : BitVec 32 := 12#32
  let c12_i32_74 : BitVec 32 := 12#32
  let v91 : BitVec 1 := Scalar.cmpi .eq v68 c12_i32_74
  let c15_i32_75 : BitVec 32 := 15#32
  let c11_i32_72 : BitVec 32 := 11#32
  let v89 : BitVec 1 := Scalar.cmpi .eq v68 c11_i32_72
  let c11_i32_73 : BitVec 32 := 11#32
  let c10_i32_70 : BitVec 32 := 10#32
  let v87 : BitVec 1 := Scalar.cmpi .eq v68 c10_i32_70
  let c7_i32_71 : BitVec 32 := 7#32
  let c9_i32_68 : BitVec 32 := 9#32
  let v85 : BitVec 1 := Scalar.cmpi .eq v68 c9_i32_68
  let c3_i32_69 : BitVec 32 := 3#32
  let c8_i32_66 : BitVec 32 := 8#32
  let v83 : BitVec 1 := Scalar.cmpi .eq v68 c8_i32_66
  let c2_i32_67 : BitVec 32 := 2#32
  let c7_i32_64 : BitVec 32 := 7#32
  let v81 : BitVec 1 := Scalar.cmpi .eq v68 c7_i32_64
  let c6_i32_65 : BitVec 32 := 6#32
  let c6_i32_62 : BitVec 32 := 6#32
  let v79 : BitVec 1 := Scalar.cmpi .eq v68 c6_i32_62
  let c10_i32_63 : BitVec 32 := 10#32
  let c5_i32_60 : BitVec 32 := 5#32
  let v77 : BitVec 1 := Scalar.cmpi .eq v68 c5_i32_60
  let c14_i32_61 : BitVec 32 := 14#32
  let c4_i32_58 : BitVec 32 := 4#32
  let v75 : BitVec 1 := Scalar.cmpi .eq v68 c4_i32_58
  let c13_i32_59 : BitVec 32 := 13#32
  let c3_i32_56 : BitVec 32 := 3#32
  let v73 : BitVec 1 := Scalar.cmpi .eq v68 c3_i32_56
  let c9_i32_57 : BitVec 32 := 9#32
  let c2_i32_54 : BitVec 32 := 2#32
  let v71 : BitVec 1 := Scalar.cmpi .eq v68 c2_i32_54
  let c5_i32_55 : BitVec 32 := 5#32
  let c1_i32_51 : BitVec 32 := 1#32
  let v69 : BitVec 1 := Scalar.cmpi .eq v68 c1_i32_51
  let c1_i32_52 : BitVec 32 := 1#32
  let c0_i32_53 : BitVec 32 := 0#32
  let v70 : BitVec 32 := Scalar.select v69 c1_i32_52 c0_i32_53
  let v72 : BitVec 32 := Scalar.select v71 c5_i32_55 v70
  let v74 : BitVec 32 := Scalar.select v73 c9_i32_57 v72
  let v76 : BitVec 32 := Scalar.select v75 c13_i32_59 v74
  let v78 : BitVec 32 := Scalar.select v77 c14_i32_61 v76
  let v80 : BitVec 32 := Scalar.select v79 c10_i32_63 v78
  let v82 : BitVec 32 := Scalar.select v81 c6_i32_65 v80
  let v84 : BitVec 32 := Scalar.select v83 c2_i32_67 v82
  let v86 : BitVec 32 := Scalar.select v85 c3_i32_69 v84
  let v88 : BitVec 32 := Scalar.select v87 c7_i32_71 v86
  let v90 : BitVec 32 := Scalar.select v89 c11_i32_73 v88
  let v92 : BitVec 32 := Scalar.select v91 c15_i32_75 v90
  let v94 : BitVec 32 := Scalar.select v93 c12_i32_77 v92
  let v96 : BitVec 32 := Scalar.select v95 c8_i32_79 v94
  let v98 : BitVec 32 := Scalar.select v97 c4_i32_81 v96
  let c1_i32_4828 : BitVec 32 := 1#32
  let v3445 : BitVec 32 := Scalar.muli v98 c1_i32_4828
  let v3446 : BitVec 32 := Scalar.addi c0_i32_4829 v3445
  v3446.toNat
def k0_dev125 (d0 : Dev nD) : Nat :=
  let c0_i32_4857 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_48 : BitVec 32 := 1#32
  let v66 : BitVec 32 := Scalar.addi v32 c1_i32_48
  let c32_i32_49 : BitVec 32 := 32#32
  let v67 : BitVec 32 := Scalar.addi v66 c32_i32_49
  let c16_i32_50 : BitVec 32 := 16#32
  let v68 : BitVec 32 := Scalar.remsi v67 c16_i32_50
  let c15_i32_80 : BitVec 32 := 15#32
  let v97 : BitVec 1 := Scalar.cmpi .eq v68 c15_i32_80
  let c4_i32_81 : BitVec 32 := 4#32
  let c14_i32_78 : BitVec 32 := 14#32
  let v95 : BitVec 1 := Scalar.cmpi .eq v68 c14_i32_78
  let c8_i32_79 : BitVec 32 := 8#32
  let c13_i32_76 : BitVec 32 := 13#32
  let v93 : BitVec 1 := Scalar.cmpi .eq v68 c13_i32_76
  let c12_i32_77 : BitVec 32 := 12#32
  let c12_i32_74 : BitVec 32 := 12#32
  let v91 : BitVec 1 := Scalar.cmpi .eq v68 c12_i32_74
  let c15_i32_75 : BitVec 32 := 15#32
  let c11_i32_72 : BitVec 32 := 11#32
  let v89 : BitVec 1 := Scalar.cmpi .eq v68 c11_i32_72
  let c11_i32_73 : BitVec 32 := 11#32
  let c10_i32_70 : BitVec 32 := 10#32
  let v87 : BitVec 1 := Scalar.cmpi .eq v68 c10_i32_70
  let c7_i32_71 : BitVec 32 := 7#32
  let c9_i32_68 : BitVec 32 := 9#32
  let v85 : BitVec 1 := Scalar.cmpi .eq v68 c9_i32_68
  let c3_i32_69 : BitVec 32 := 3#32
  let c8_i32_66 : BitVec 32 := 8#32
  let v83 : BitVec 1 := Scalar.cmpi .eq v68 c8_i32_66
  let c2_i32_67 : BitVec 32 := 2#32
  let c7_i32_64 : BitVec 32 := 7#32
  let v81 : BitVec 1 := Scalar.cmpi .eq v68 c7_i32_64
  let c6_i32_65 : BitVec 32 := 6#32
  let c6_i32_62 : BitVec 32 := 6#32
  let v79 : BitVec 1 := Scalar.cmpi .eq v68 c6_i32_62
  let c10_i32_63 : BitVec 32 := 10#32
  let c5_i32_60 : BitVec 32 := 5#32
  let v77 : BitVec 1 := Scalar.cmpi .eq v68 c5_i32_60
  let c14_i32_61 : BitVec 32 := 14#32
  let c4_i32_58 : BitVec 32 := 4#32
  let v75 : BitVec 1 := Scalar.cmpi .eq v68 c4_i32_58
  let c13_i32_59 : BitVec 32 := 13#32
  let c3_i32_56 : BitVec 32 := 3#32
  let v73 : BitVec 1 := Scalar.cmpi .eq v68 c3_i32_56
  let c9_i32_57 : BitVec 32 := 9#32
  let c2_i32_54 : BitVec 32 := 2#32
  let v71 : BitVec 1 := Scalar.cmpi .eq v68 c2_i32_54
  let c5_i32_55 : BitVec 32 := 5#32
  let c1_i32_51 : BitVec 32 := 1#32
  let v69 : BitVec 1 := Scalar.cmpi .eq v68 c1_i32_51
  let c1_i32_52 : BitVec 32 := 1#32
  let c0_i32_53 : BitVec 32 := 0#32
  let v70 : BitVec 32 := Scalar.select v69 c1_i32_52 c0_i32_53
  let v72 : BitVec 32 := Scalar.select v71 c5_i32_55 v70
  let v74 : BitVec 32 := Scalar.select v73 c9_i32_57 v72
  let v76 : BitVec 32 := Scalar.select v75 c13_i32_59 v74
  let v78 : BitVec 32 := Scalar.select v77 c14_i32_61 v76
  let v80 : BitVec 32 := Scalar.select v79 c10_i32_63 v78
  let v82 : BitVec 32 := Scalar.select v81 c6_i32_65 v80
  let v84 : BitVec 32 := Scalar.select v83 c2_i32_67 v82
  let v86 : BitVec 32 := Scalar.select v85 c3_i32_69 v84
  let v88 : BitVec 32 := Scalar.select v87 c7_i32_71 v86
  let v90 : BitVec 32 := Scalar.select v89 c11_i32_73 v88
  let v92 : BitVec 32 := Scalar.select v91 c15_i32_75 v90
  let v94 : BitVec 32 := Scalar.select v93 c12_i32_77 v92
  let v96 : BitVec 32 := Scalar.select v95 c8_i32_79 v94
  let v98 : BitVec 32 := Scalar.select v97 c4_i32_81 v96
  let c1_i32_4856 : BitVec 32 := 1#32
  let v3465 : BitVec 32 := Scalar.muli v98 c1_i32_4856
  let v3466 : BitVec 32 := Scalar.addi c0_i32_4857 v3465
  v3466.toNat
def k0_dev126 (d0 : Dev nD) : Nat :=
  let c0_i32_4885 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_48 : BitVec 32 := 1#32
  let v66 : BitVec 32 := Scalar.addi v32 c1_i32_48
  let c32_i32_49 : BitVec 32 := 32#32
  let v67 : BitVec 32 := Scalar.addi v66 c32_i32_49
  let c16_i32_50 : BitVec 32 := 16#32
  let v68 : BitVec 32 := Scalar.remsi v67 c16_i32_50
  let c15_i32_80 : BitVec 32 := 15#32
  let v97 : BitVec 1 := Scalar.cmpi .eq v68 c15_i32_80
  let c4_i32_81 : BitVec 32 := 4#32
  let c14_i32_78 : BitVec 32 := 14#32
  let v95 : BitVec 1 := Scalar.cmpi .eq v68 c14_i32_78
  let c8_i32_79 : BitVec 32 := 8#32
  let c13_i32_76 : BitVec 32 := 13#32
  let v93 : BitVec 1 := Scalar.cmpi .eq v68 c13_i32_76
  let c12_i32_77 : BitVec 32 := 12#32
  let c12_i32_74 : BitVec 32 := 12#32
  let v91 : BitVec 1 := Scalar.cmpi .eq v68 c12_i32_74
  let c15_i32_75 : BitVec 32 := 15#32
  let c11_i32_72 : BitVec 32 := 11#32
  let v89 : BitVec 1 := Scalar.cmpi .eq v68 c11_i32_72
  let c11_i32_73 : BitVec 32 := 11#32
  let c10_i32_70 : BitVec 32 := 10#32
  let v87 : BitVec 1 := Scalar.cmpi .eq v68 c10_i32_70
  let c7_i32_71 : BitVec 32 := 7#32
  let c9_i32_68 : BitVec 32 := 9#32
  let v85 : BitVec 1 := Scalar.cmpi .eq v68 c9_i32_68
  let c3_i32_69 : BitVec 32 := 3#32
  let c8_i32_66 : BitVec 32 := 8#32
  let v83 : BitVec 1 := Scalar.cmpi .eq v68 c8_i32_66
  let c2_i32_67 : BitVec 32 := 2#32
  let c7_i32_64 : BitVec 32 := 7#32
  let v81 : BitVec 1 := Scalar.cmpi .eq v68 c7_i32_64
  let c6_i32_65 : BitVec 32 := 6#32
  let c6_i32_62 : BitVec 32 := 6#32
  let v79 : BitVec 1 := Scalar.cmpi .eq v68 c6_i32_62
  let c10_i32_63 : BitVec 32 := 10#32
  let c5_i32_60 : BitVec 32 := 5#32
  let v77 : BitVec 1 := Scalar.cmpi .eq v68 c5_i32_60
  let c14_i32_61 : BitVec 32 := 14#32
  let c4_i32_58 : BitVec 32 := 4#32
  let v75 : BitVec 1 := Scalar.cmpi .eq v68 c4_i32_58
  let c13_i32_59 : BitVec 32 := 13#32
  let c3_i32_56 : BitVec 32 := 3#32
  let v73 : BitVec 1 := Scalar.cmpi .eq v68 c3_i32_56
  let c9_i32_57 : BitVec 32 := 9#32
  let c2_i32_54 : BitVec 32 := 2#32
  let v71 : BitVec 1 := Scalar.cmpi .eq v68 c2_i32_54
  let c5_i32_55 : BitVec 32 := 5#32
  let c1_i32_51 : BitVec 32 := 1#32
  let v69 : BitVec 1 := Scalar.cmpi .eq v68 c1_i32_51
  let c1_i32_52 : BitVec 32 := 1#32
  let c0_i32_53 : BitVec 32 := 0#32
  let v70 : BitVec 32 := Scalar.select v69 c1_i32_52 c0_i32_53
  let v72 : BitVec 32 := Scalar.select v71 c5_i32_55 v70
  let v74 : BitVec 32 := Scalar.select v73 c9_i32_57 v72
  let v76 : BitVec 32 := Scalar.select v75 c13_i32_59 v74
  let v78 : BitVec 32 := Scalar.select v77 c14_i32_61 v76
  let v80 : BitVec 32 := Scalar.select v79 c10_i32_63 v78
  let v82 : BitVec 32 := Scalar.select v81 c6_i32_65 v80
  let v84 : BitVec 32 := Scalar.select v83 c2_i32_67 v82
  let v86 : BitVec 32 := Scalar.select v85 c3_i32_69 v84
  let v88 : BitVec 32 := Scalar.select v87 c7_i32_71 v86
  let v90 : BitVec 32 := Scalar.select v89 c11_i32_73 v88
  let v92 : BitVec 32 := Scalar.select v91 c15_i32_75 v90
  let v94 : BitVec 32 := Scalar.select v93 c12_i32_77 v92
  let v96 : BitVec 32 := Scalar.select v95 c8_i32_79 v94
  let v98 : BitVec 32 := Scalar.select v97 c4_i32_81 v96
  let c1_i32_4884 : BitVec 32 := 1#32
  let v3485 : BitVec 32 := Scalar.muli v98 c1_i32_4884
  let v3486 : BitVec 32 := Scalar.addi c0_i32_4885 v3485
  v3486.toNat
def k0_dev127 (d0 : Dev nD) : Nat :=
  let c0_i32_4913 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c_m1_i32 : BitVec 32 := 4294967295#32
  let v33 : BitVec 32 := Scalar.addi v32 c_m1_i32
  let c32_i32 : BitVec 32 := 32#32
  let v34 : BitVec 32 := Scalar.addi v33 c32_i32
  let c16_i32_16 : BitVec 32 := 16#32
  let v35 : BitVec 32 := Scalar.remsi v34 c16_i32_16
  let c15_i32_46 : BitVec 32 := 15#32
  let v64 : BitVec 1 := Scalar.cmpi .eq v35 c15_i32_46
  let c4_i32_47 : BitVec 32 := 4#32
  let c14_i32_44 : BitVec 32 := 14#32
  let v62 : BitVec 1 := Scalar.cmpi .eq v35 c14_i32_44
  let c8_i32_45 : BitVec 32 := 8#32
  let c13_i32_42 : BitVec 32 := 13#32
  let v60 : BitVec 1 := Scalar.cmpi .eq v35 c13_i32_42
  let c12_i32_43 : BitVec 32 := 12#32
  let c12_i32_40 : BitVec 32 := 12#32
  let v58 : BitVec 1 := Scalar.cmpi .eq v35 c12_i32_40
  let c15_i32_41 : BitVec 32 := 15#32
  let c11_i32_38 : BitVec 32 := 11#32
  let v56 : BitVec 1 := Scalar.cmpi .eq v35 c11_i32_38
  let c11_i32_39 : BitVec 32 := 11#32
  let c10_i32_36 : BitVec 32 := 10#32
  let v54 : BitVec 1 := Scalar.cmpi .eq v35 c10_i32_36
  let c7_i32_37 : BitVec 32 := 7#32
  let c9_i32_34 : BitVec 32 := 9#32
  let v52 : BitVec 1 := Scalar.cmpi .eq v35 c9_i32_34
  let c3_i32_35 : BitVec 32 := 3#32
  let c8_i32_32 : BitVec 32 := 8#32
  let v50 : BitVec 1 := Scalar.cmpi .eq v35 c8_i32_32
  let c2_i32_33 : BitVec 32 := 2#32
  let c7_i32_30 : BitVec 32 := 7#32
  let v48 : BitVec 1 := Scalar.cmpi .eq v35 c7_i32_30
  let c6_i32_31 : BitVec 32 := 6#32
  let c6_i32_28 : BitVec 32 := 6#32
  let v46 : BitVec 1 := Scalar.cmpi .eq v35 c6_i32_28
  let c10_i32_29 : BitVec 32 := 10#32
  let c5_i32_26 : BitVec 32 := 5#32
  let v44 : BitVec 1 := Scalar.cmpi .eq v35 c5_i32_26
  let c14_i32_27 : BitVec 32 := 14#32
  let c4_i32_24 : BitVec 32 := 4#32
  let v42 : BitVec 1 := Scalar.cmpi .eq v35 c4_i32_24
  let c13_i32_25 : BitVec 32 := 13#32
  let c3_i32_22 : BitVec 32 := 3#32
  let v40 : BitVec 1 := Scalar.cmpi .eq v35 c3_i32_22
  let c9_i32_23 : BitVec 32 := 9#32
  let c2_i32_20 : BitVec 32 := 2#32
  let v38 : BitVec 1 := Scalar.cmpi .eq v35 c2_i32_20
  let c5_i32_21 : BitVec 32 := 5#32
  let c1_i32_17 : BitVec 32 := 1#32
  let v36 : BitVec 1 := Scalar.cmpi .eq v35 c1_i32_17
  let c1_i32_18 : BitVec 32 := 1#32
  let c0_i32_19 : BitVec 32 := 0#32
  let v37 : BitVec 32 := Scalar.select v36 c1_i32_18 c0_i32_19
  let v39 : BitVec 32 := Scalar.select v38 c5_i32_21 v37
  let v41 : BitVec 32 := Scalar.select v40 c9_i32_23 v39
  let v43 : BitVec 32 := Scalar.select v42 c13_i32_25 v41
  let v45 : BitVec 32 := Scalar.select v44 c14_i32_27 v43
  let v47 : BitVec 32 := Scalar.select v46 c10_i32_29 v45
  let v49 : BitVec 32 := Scalar.select v48 c6_i32_31 v47
  let v51 : BitVec 32 := Scalar.select v50 c2_i32_33 v49
  let v53 : BitVec 32 := Scalar.select v52 c3_i32_35 v51
  let v55 : BitVec 32 := Scalar.select v54 c7_i32_37 v53
  let v57 : BitVec 32 := Scalar.select v56 c11_i32_39 v55
  let v59 : BitVec 32 := Scalar.select v58 c15_i32_41 v57
  let v61 : BitVec 32 := Scalar.select v60 c12_i32_43 v59
  let v63 : BitVec 32 := Scalar.select v62 c8_i32_45 v61
  let v65 : BitVec 32 := Scalar.select v64 c4_i32_47 v63
  let c1_i32_4912 : BitVec 32 := 1#32
  let v3505 : BitVec 32 := Scalar.muli v65 c1_i32_4912
  let v3506 : BitVec 32 := Scalar.addi c0_i32_4913 v3505
  v3506.toNat
def k0_dev128 (d0 : Dev nD) : Nat :=
  let c0_i32_4941 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c_m1_i32 : BitVec 32 := 4294967295#32
  let v33 : BitVec 32 := Scalar.addi v32 c_m1_i32
  let c32_i32 : BitVec 32 := 32#32
  let v34 : BitVec 32 := Scalar.addi v33 c32_i32
  let c16_i32_16 : BitVec 32 := 16#32
  let v35 : BitVec 32 := Scalar.remsi v34 c16_i32_16
  let c15_i32_46 : BitVec 32 := 15#32
  let v64 : BitVec 1 := Scalar.cmpi .eq v35 c15_i32_46
  let c4_i32_47 : BitVec 32 := 4#32
  let c14_i32_44 : BitVec 32 := 14#32
  let v62 : BitVec 1 := Scalar.cmpi .eq v35 c14_i32_44
  let c8_i32_45 : BitVec 32 := 8#32
  let c13_i32_42 : BitVec 32 := 13#32
  let v60 : BitVec 1 := Scalar.cmpi .eq v35 c13_i32_42
  let c12_i32_43 : BitVec 32 := 12#32
  let c12_i32_40 : BitVec 32 := 12#32
  let v58 : BitVec 1 := Scalar.cmpi .eq v35 c12_i32_40
  let c15_i32_41 : BitVec 32 := 15#32
  let c11_i32_38 : BitVec 32 := 11#32
  let v56 : BitVec 1 := Scalar.cmpi .eq v35 c11_i32_38
  let c11_i32_39 : BitVec 32 := 11#32
  let c10_i32_36 : BitVec 32 := 10#32
  let v54 : BitVec 1 := Scalar.cmpi .eq v35 c10_i32_36
  let c7_i32_37 : BitVec 32 := 7#32
  let c9_i32_34 : BitVec 32 := 9#32
  let v52 : BitVec 1 := Scalar.cmpi .eq v35 c9_i32_34
  let c3_i32_35 : BitVec 32 := 3#32
  let c8_i32_32 : BitVec 32 := 8#32
  let v50 : BitVec 1 := Scalar.cmpi .eq v35 c8_i32_32
  let c2_i32_33 : BitVec 32 := 2#32
  let c7_i32_30 : BitVec 32 := 7#32
  let v48 : BitVec 1 := Scalar.cmpi .eq v35 c7_i32_30
  let c6_i32_31 : BitVec 32 := 6#32
  let c6_i32_28 : BitVec 32 := 6#32
  let v46 : BitVec 1 := Scalar.cmpi .eq v35 c6_i32_28
  let c10_i32_29 : BitVec 32 := 10#32
  let c5_i32_26 : BitVec 32 := 5#32
  let v44 : BitVec 1 := Scalar.cmpi .eq v35 c5_i32_26
  let c14_i32_27 : BitVec 32 := 14#32
  let c4_i32_24 : BitVec 32 := 4#32
  let v42 : BitVec 1 := Scalar.cmpi .eq v35 c4_i32_24
  let c13_i32_25 : BitVec 32 := 13#32
  let c3_i32_22 : BitVec 32 := 3#32
  let v40 : BitVec 1 := Scalar.cmpi .eq v35 c3_i32_22
  let c9_i32_23 : BitVec 32 := 9#32
  let c2_i32_20 : BitVec 32 := 2#32
  let v38 : BitVec 1 := Scalar.cmpi .eq v35 c2_i32_20
  let c5_i32_21 : BitVec 32 := 5#32
  let c1_i32_17 : BitVec 32 := 1#32
  let v36 : BitVec 1 := Scalar.cmpi .eq v35 c1_i32_17
  let c1_i32_18 : BitVec 32 := 1#32
  let c0_i32_19 : BitVec 32 := 0#32
  let v37 : BitVec 32 := Scalar.select v36 c1_i32_18 c0_i32_19
  let v39 : BitVec 32 := Scalar.select v38 c5_i32_21 v37
  let v41 : BitVec 32 := Scalar.select v40 c9_i32_23 v39
  let v43 : BitVec 32 := Scalar.select v42 c13_i32_25 v41
  let v45 : BitVec 32 := Scalar.select v44 c14_i32_27 v43
  let v47 : BitVec 32 := Scalar.select v46 c10_i32_29 v45
  let v49 : BitVec 32 := Scalar.select v48 c6_i32_31 v47
  let v51 : BitVec 32 := Scalar.select v50 c2_i32_33 v49
  let v53 : BitVec 32 := Scalar.select v52 c3_i32_35 v51
  let v55 : BitVec 32 := Scalar.select v54 c7_i32_37 v53
  let v57 : BitVec 32 := Scalar.select v56 c11_i32_39 v55
  let v59 : BitVec 32 := Scalar.select v58 c15_i32_41 v57
  let v61 : BitVec 32 := Scalar.select v60 c12_i32_43 v59
  let v63 : BitVec 32 := Scalar.select v62 c8_i32_45 v61
  let v65 : BitVec 32 := Scalar.select v64 c4_i32_47 v63
  let c1_i32_4940 : BitVec 32 := 1#32
  let v3525 : BitVec 32 := Scalar.muli v65 c1_i32_4940
  let v3526 : BitVec 32 := Scalar.addi c0_i32_4941 v3525
  v3526.toNat
def k0_dev129 (d0 : Dev nD) : Nat :=
  let c0_i32_4969 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c_m1_i32 : BitVec 32 := 4294967295#32
  let v33 : BitVec 32 := Scalar.addi v32 c_m1_i32
  let c32_i32 : BitVec 32 := 32#32
  let v34 : BitVec 32 := Scalar.addi v33 c32_i32
  let c16_i32_16 : BitVec 32 := 16#32
  let v35 : BitVec 32 := Scalar.remsi v34 c16_i32_16
  let c15_i32_46 : BitVec 32 := 15#32
  let v64 : BitVec 1 := Scalar.cmpi .eq v35 c15_i32_46
  let c4_i32_47 : BitVec 32 := 4#32
  let c14_i32_44 : BitVec 32 := 14#32
  let v62 : BitVec 1 := Scalar.cmpi .eq v35 c14_i32_44
  let c8_i32_45 : BitVec 32 := 8#32
  let c13_i32_42 : BitVec 32 := 13#32
  let v60 : BitVec 1 := Scalar.cmpi .eq v35 c13_i32_42
  let c12_i32_43 : BitVec 32 := 12#32
  let c12_i32_40 : BitVec 32 := 12#32
  let v58 : BitVec 1 := Scalar.cmpi .eq v35 c12_i32_40
  let c15_i32_41 : BitVec 32 := 15#32
  let c11_i32_38 : BitVec 32 := 11#32
  let v56 : BitVec 1 := Scalar.cmpi .eq v35 c11_i32_38
  let c11_i32_39 : BitVec 32 := 11#32
  let c10_i32_36 : BitVec 32 := 10#32
  let v54 : BitVec 1 := Scalar.cmpi .eq v35 c10_i32_36
  let c7_i32_37 : BitVec 32 := 7#32
  let c9_i32_34 : BitVec 32 := 9#32
  let v52 : BitVec 1 := Scalar.cmpi .eq v35 c9_i32_34
  let c3_i32_35 : BitVec 32 := 3#32
  let c8_i32_32 : BitVec 32 := 8#32
  let v50 : BitVec 1 := Scalar.cmpi .eq v35 c8_i32_32
  let c2_i32_33 : BitVec 32 := 2#32
  let c7_i32_30 : BitVec 32 := 7#32
  let v48 : BitVec 1 := Scalar.cmpi .eq v35 c7_i32_30
  let c6_i32_31 : BitVec 32 := 6#32
  let c6_i32_28 : BitVec 32 := 6#32
  let v46 : BitVec 1 := Scalar.cmpi .eq v35 c6_i32_28
  let c10_i32_29 : BitVec 32 := 10#32
  let c5_i32_26 : BitVec 32 := 5#32
  let v44 : BitVec 1 := Scalar.cmpi .eq v35 c5_i32_26
  let c14_i32_27 : BitVec 32 := 14#32
  let c4_i32_24 : BitVec 32 := 4#32
  let v42 : BitVec 1 := Scalar.cmpi .eq v35 c4_i32_24
  let c13_i32_25 : BitVec 32 := 13#32
  let c3_i32_22 : BitVec 32 := 3#32
  let v40 : BitVec 1 := Scalar.cmpi .eq v35 c3_i32_22
  let c9_i32_23 : BitVec 32 := 9#32
  let c2_i32_20 : BitVec 32 := 2#32
  let v38 : BitVec 1 := Scalar.cmpi .eq v35 c2_i32_20
  let c5_i32_21 : BitVec 32 := 5#32
  let c1_i32_17 : BitVec 32 := 1#32
  let v36 : BitVec 1 := Scalar.cmpi .eq v35 c1_i32_17
  let c1_i32_18 : BitVec 32 := 1#32
  let c0_i32_19 : BitVec 32 := 0#32
  let v37 : BitVec 32 := Scalar.select v36 c1_i32_18 c0_i32_19
  let v39 : BitVec 32 := Scalar.select v38 c5_i32_21 v37
  let v41 : BitVec 32 := Scalar.select v40 c9_i32_23 v39
  let v43 : BitVec 32 := Scalar.select v42 c13_i32_25 v41
  let v45 : BitVec 32 := Scalar.select v44 c14_i32_27 v43
  let v47 : BitVec 32 := Scalar.select v46 c10_i32_29 v45
  let v49 : BitVec 32 := Scalar.select v48 c6_i32_31 v47
  let v51 : BitVec 32 := Scalar.select v50 c2_i32_33 v49
  let v53 : BitVec 32 := Scalar.select v52 c3_i32_35 v51
  let v55 : BitVec 32 := Scalar.select v54 c7_i32_37 v53
  let v57 : BitVec 32 := Scalar.select v56 c11_i32_39 v55
  let v59 : BitVec 32 := Scalar.select v58 c15_i32_41 v57
  let v61 : BitVec 32 := Scalar.select v60 c12_i32_43 v59
  let v63 : BitVec 32 := Scalar.select v62 c8_i32_45 v61
  let v65 : BitVec 32 := Scalar.select v64 c4_i32_47 v63
  let c1_i32_4968 : BitVec 32 := 1#32
  let v3545 : BitVec 32 := Scalar.muli v65 c1_i32_4968
  let v3546 : BitVec 32 := Scalar.addi c0_i32_4969 v3545
  v3546.toNat
def k0_dev130 (d0 : Dev nD) : Nat :=
  let c0_i32_4997 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c_m1_i32 : BitVec 32 := 4294967295#32
  let v33 : BitVec 32 := Scalar.addi v32 c_m1_i32
  let c32_i32 : BitVec 32 := 32#32
  let v34 : BitVec 32 := Scalar.addi v33 c32_i32
  let c16_i32_16 : BitVec 32 := 16#32
  let v35 : BitVec 32 := Scalar.remsi v34 c16_i32_16
  let c15_i32_46 : BitVec 32 := 15#32
  let v64 : BitVec 1 := Scalar.cmpi .eq v35 c15_i32_46
  let c4_i32_47 : BitVec 32 := 4#32
  let c14_i32_44 : BitVec 32 := 14#32
  let v62 : BitVec 1 := Scalar.cmpi .eq v35 c14_i32_44
  let c8_i32_45 : BitVec 32 := 8#32
  let c13_i32_42 : BitVec 32 := 13#32
  let v60 : BitVec 1 := Scalar.cmpi .eq v35 c13_i32_42
  let c12_i32_43 : BitVec 32 := 12#32
  let c12_i32_40 : BitVec 32 := 12#32
  let v58 : BitVec 1 := Scalar.cmpi .eq v35 c12_i32_40
  let c15_i32_41 : BitVec 32 := 15#32
  let c11_i32_38 : BitVec 32 := 11#32
  let v56 : BitVec 1 := Scalar.cmpi .eq v35 c11_i32_38
  let c11_i32_39 : BitVec 32 := 11#32
  let c10_i32_36 : BitVec 32 := 10#32
  let v54 : BitVec 1 := Scalar.cmpi .eq v35 c10_i32_36
  let c7_i32_37 : BitVec 32 := 7#32
  let c9_i32_34 : BitVec 32 := 9#32
  let v52 : BitVec 1 := Scalar.cmpi .eq v35 c9_i32_34
  let c3_i32_35 : BitVec 32 := 3#32
  let c8_i32_32 : BitVec 32 := 8#32
  let v50 : BitVec 1 := Scalar.cmpi .eq v35 c8_i32_32
  let c2_i32_33 : BitVec 32 := 2#32
  let c7_i32_30 : BitVec 32 := 7#32
  let v48 : BitVec 1 := Scalar.cmpi .eq v35 c7_i32_30
  let c6_i32_31 : BitVec 32 := 6#32
  let c6_i32_28 : BitVec 32 := 6#32
  let v46 : BitVec 1 := Scalar.cmpi .eq v35 c6_i32_28
  let c10_i32_29 : BitVec 32 := 10#32
  let c5_i32_26 : BitVec 32 := 5#32
  let v44 : BitVec 1 := Scalar.cmpi .eq v35 c5_i32_26
  let c14_i32_27 : BitVec 32 := 14#32
  let c4_i32_24 : BitVec 32 := 4#32
  let v42 : BitVec 1 := Scalar.cmpi .eq v35 c4_i32_24
  let c13_i32_25 : BitVec 32 := 13#32
  let c3_i32_22 : BitVec 32 := 3#32
  let v40 : BitVec 1 := Scalar.cmpi .eq v35 c3_i32_22
  let c9_i32_23 : BitVec 32 := 9#32
  let c2_i32_20 : BitVec 32 := 2#32
  let v38 : BitVec 1 := Scalar.cmpi .eq v35 c2_i32_20
  let c5_i32_21 : BitVec 32 := 5#32
  let c1_i32_17 : BitVec 32 := 1#32
  let v36 : BitVec 1 := Scalar.cmpi .eq v35 c1_i32_17
  let c1_i32_18 : BitVec 32 := 1#32
  let c0_i32_19 : BitVec 32 := 0#32
  let v37 : BitVec 32 := Scalar.select v36 c1_i32_18 c0_i32_19
  let v39 : BitVec 32 := Scalar.select v38 c5_i32_21 v37
  let v41 : BitVec 32 := Scalar.select v40 c9_i32_23 v39
  let v43 : BitVec 32 := Scalar.select v42 c13_i32_25 v41
  let v45 : BitVec 32 := Scalar.select v44 c14_i32_27 v43
  let v47 : BitVec 32 := Scalar.select v46 c10_i32_29 v45
  let v49 : BitVec 32 := Scalar.select v48 c6_i32_31 v47
  let v51 : BitVec 32 := Scalar.select v50 c2_i32_33 v49
  let v53 : BitVec 32 := Scalar.select v52 c3_i32_35 v51
  let v55 : BitVec 32 := Scalar.select v54 c7_i32_37 v53
  let v57 : BitVec 32 := Scalar.select v56 c11_i32_39 v55
  let v59 : BitVec 32 := Scalar.select v58 c15_i32_41 v57
  let v61 : BitVec 32 := Scalar.select v60 c12_i32_43 v59
  let v63 : BitVec 32 := Scalar.select v62 c8_i32_45 v61
  let v65 : BitVec 32 := Scalar.select v64 c4_i32_47 v63
  let c1_i32_4996 : BitVec 32 := 1#32
  let v3565 : BitVec 32 := Scalar.muli v65 c1_i32_4996
  let v3566 : BitVec 32 := Scalar.addi c0_i32_4997 v3565
  v3566.toNat
def k0_off3 (d0 : Dev nD) (c0_i32_5411 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c8_i32_552 : BitVec 32 := 8#32
  let v561 : BitVec 32 := Scalar.addi v32 c8_i32_552
  let c32_i32_553 : BitVec 32 := 32#32
  let v562 : BitVec 32 := Scalar.addi v561 c32_i32_553
  let c16_i32_554 : BitVec 32 := 16#32
  let v563 : BitVec 32 := Scalar.remsi v562 c16_i32_554
  let c15_i32_584 : BitVec 32 := 15#32
  let v592 : BitVec 1 := Scalar.cmpi .eq v563 c15_i32_584
  let c4_i32_585 : BitVec 32 := 4#32
  let c14_i32_582 : BitVec 32 := 14#32
  let v590 : BitVec 1 := Scalar.cmpi .eq v563 c14_i32_582
  let c8_i32_583 : BitVec 32 := 8#32
  let c13_i32_580 : BitVec 32 := 13#32
  let v588 : BitVec 1 := Scalar.cmpi .eq v563 c13_i32_580
  let c12_i32_581 : BitVec 32 := 12#32
  let c12_i32_578 : BitVec 32 := 12#32
  let v586 : BitVec 1 := Scalar.cmpi .eq v563 c12_i32_578
  let c15_i32_579 : BitVec 32 := 15#32
  let c11_i32_576 : BitVec 32 := 11#32
  let v584 : BitVec 1 := Scalar.cmpi .eq v563 c11_i32_576
  let c11_i32_577 : BitVec 32 := 11#32
  let c10_i32_574 : BitVec 32 := 10#32
  let v582 : BitVec 1 := Scalar.cmpi .eq v563 c10_i32_574
  let c7_i32_575 : BitVec 32 := 7#32
  let c9_i32_572 : BitVec 32 := 9#32
  let v580 : BitVec 1 := Scalar.cmpi .eq v563 c9_i32_572
  let c3_i32_573 : BitVec 32 := 3#32
  let c8_i32_570 : BitVec 32 := 8#32
  let v578 : BitVec 1 := Scalar.cmpi .eq v563 c8_i32_570
  let c2_i32_571 : BitVec 32 := 2#32
  let c7_i32_568 : BitVec 32 := 7#32
  let v576 : BitVec 1 := Scalar.cmpi .eq v563 c7_i32_568
  let c6_i32_569 : BitVec 32 := 6#32
  let c6_i32_566 : BitVec 32 := 6#32
  let v574 : BitVec 1 := Scalar.cmpi .eq v563 c6_i32_566
  let c10_i32_567 : BitVec 32 := 10#32
  let c5_i32_564 : BitVec 32 := 5#32
  let v572 : BitVec 1 := Scalar.cmpi .eq v563 c5_i32_564
  let c14_i32_565 : BitVec 32 := 14#32
  let c4_i32_562 : BitVec 32 := 4#32
  let v570 : BitVec 1 := Scalar.cmpi .eq v563 c4_i32_562
  let c13_i32_563 : BitVec 32 := 13#32
  let c3_i32_560 : BitVec 32 := 3#32
  let v568 : BitVec 1 := Scalar.cmpi .eq v563 c3_i32_560
  let c9_i32_561 : BitVec 32 := 9#32
  let c2_i32_558 : BitVec 32 := 2#32
  let v566 : BitVec 1 := Scalar.cmpi .eq v563 c2_i32_558
  let c5_i32_559 : BitVec 32 := 5#32
  let c1_i32_555 : BitVec 32 := 1#32
  let v564 : BitVec 1 := Scalar.cmpi .eq v563 c1_i32_555
  let c1_i32_556 : BitVec 32 := 1#32
  let c0_i32_557 : BitVec 32 := 0#32
  let v565 : BitVec 32 := Scalar.select v564 c1_i32_556 c0_i32_557
  let v567 : BitVec 32 := Scalar.select v566 c5_i32_559 v565
  let v569 : BitVec 32 := Scalar.select v568 c9_i32_561 v567
  let v571 : BitVec 32 := Scalar.select v570 c13_i32_563 v569
  let v573 : BitVec 32 := Scalar.select v572 c14_i32_565 v571
  let v575 : BitVec 32 := Scalar.select v574 c10_i32_567 v573
  let v577 : BitVec 32 := Scalar.select v576 c6_i32_569 v575
  let v579 : BitVec 32 := Scalar.select v578 c2_i32_571 v577
  let v581 : BitVec 32 := Scalar.select v580 c3_i32_573 v579
  let v583 : BitVec 32 := Scalar.select v582 c7_i32_575 v581
  let v585 : BitVec 32 := Scalar.select v584 c11_i32_577 v583
  let v587 : BitVec 32 := Scalar.select v586 c15_i32_579 v585
  let v589 : BitVec 32 := Scalar.select v588 c12_i32_581 v587
  let v591 : BitVec 32 := Scalar.select v590 c8_i32_583 v589
  let v593 : BitVec 32 := Scalar.select v592 c4_i32_585 v591
  let c256_i32_5410 : BitVec 32 := 256#32
  let v3822 : BitVec 32 := Scalar.muli v593 c256_i32_5410
  let v3823 : BitVec 32 := Scalar.addi v3822 c0_i32_5411
  let v3824 : Index := Scalar.indexCast v3823
  let c0_5412 : Index := 0#32
  ![v3824.toNat, 0]
abbrev stage0_0 : Fin 1 → Memref sig .tc .vmem S256x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩

abbrev nBuf : Space → Nat
  | .hbm => 3
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Prog.lean ====
/-
The kernel's body as a LIST of instructions.

The body is a straight line of effects: two barrier signals and a barrier wait, then per hop a fixed
pattern of receive waits, remote copies, matrix products, send waits, and credits.  Here each kind of
effect is an instruction, symbolic in its direction, hop and piece, the body is the run of one list of
them (`body_eq`), and everything after this module reasons by kind of instruction.

A direction is a `Bool`: `false` is clockwise (to the right neighbour, buffer `arg3`), `true` is
counter-clockwise (to the left neighbour, buffer `arg4`).
-/
module

public import proofs.«01_k».proof.KernelIdeal
public import Idealize.ShloMosaic.Lib.Pipeline.Launch
public import Idealize.ShloMosaic.Lib.Pipeline.Regions
public import Idealize.ShloMosaic.Lib.Pipeline.Kit
public import Idealize.ShloMosaic.Lib.Tactic

@[expose] public section

noncomputable section

namespace Cert.RingProof

open Cert.KernelIdeal
open Idealize.ShloMosaic Idealize.SL.Sem

variable {F : FTy → Type} [FloatOps F] [Facts]
open Facts₀ Facts

/-! ## The buffers, pieces and semaphores -/

/-- The staged block of `x`, the staged block of `w`, and the staged result. -/
abbrev xM : Memref sig .tc .vmem S256x4096 .f32 := Memref.whole cc0_stg0_0
abbrev wM : Memref sig .tc .vmem S4096x512 .f32 := Memref.whole cc0_stg1_0
abbrev oM : Memref sig .tc .vmem S4096x512 .f32 := Memref.whole cc0_stg2_0

/-- The communication buffer of a direction. -/
def commRef (d : Bool) : Ref sig .tc := ⟨.vmem, bif d then 4 else 3, by cases d <;> rfl⟩

def comm : Bool → Memref sig .tc .vmem S4x256x4096 .f32
  | false => Memref.whole cc0_scratch0
  | true => Memref.whole cc0_scratch1

def sendSems : Bool → DmaSems sig S4x8
  | false => cc0_scratch2
  | true => cc0_scratch4

def recvSems : Bool → DmaSems sig S4x8
  | false => cc0_scratch3
  | true => cc0_scratch5

def creditSem : Bool → Sem sig
  | false => (cc0_scratch6 : Sems sig S_).sem
  | true => (cc0_scratch7 : Sems sig S_).sem

abbrev barS : Sem sig := (SemArray.scalar (sig.barrier 0 rfl) : Sems sig S_).sem

theorem inb_sem : ∀ (s : Fin 4) (i : Fin 8) a, (![s.val, i.val] : Fin 2 → ℕ) a + S1x1.size a ≤ S4x8.size a := by decide
theorem inb_piece : ∀ (s : Fin 4) (i : Fin 8) a, (![s.val, 32 * i.val, 0] : Fin 3 → ℕ) a + S1x32x4096.size a ≤ S4x256x4096.size a := by
  decide
theorem inb_slot : ∀ (s : Fin 4) a, (![s.val, 0, 0] : Fin 3 → ℕ) a + S1x256x4096.size a ≤ S4x256x4096.size a := by decide
theorem inb_row : ∀ (i : Fin 8) a, (![32 * i.val, 0] : Fin 2 → ℕ) a + S32x4096.size a ≤ S256x4096.size a := by decide
theorem inb_half : ∀ (d : Bool) a, (![0, 128 * d.toNat, 0] : Fin 3 → ℕ) a + S1x128x4096.size a ≤ S4x256x4096.size a := by decide

/-- A cell of a 4 × 8 array of transfer semaphores. -/
def cellAt (A : DmaSems sig S4x8) (s : Fin 4) (i : Fin 8) : DmaSem sig :=
  ((A.slice (Rect.unit (s := S4x8) ![s.val, i.val] S1x1.size (inb_sem s i))).squeeze S_ squeezes_S1x1_S_).sem

/-- The slot the rows of hop `h` are sent FROM at the sender (for `h ≠ 0`), and `slot (h + 1)` the slot
    they are sent INTO. -/
def slot (h : ℕ) : Fin 4 := ⟨h % 4, Nat.mod_lt _ (by decide)⟩

/-- Piece `i` (32 rows) of slot `s`, as a transfer's destination names it. -/
def piece (d : Bool) (s : Fin 4) (i : Fin 8) : Memref sig .tc .vmem S32x4096 .f32 :=
  ((comm d).slice (Rect.unit (s := S4x256x4096) ![s.val, 32 * i.val, 0] S1x32x4096.size (inb_piece s i)) (fun _ => rfl)).squeeze S32x4096
    squeezes_S1x32x4096_S32x4096

/-- Slot `s`. -/
def slotM (d : Bool) (s : Fin 4) : Memref sig .tc .vmem S256x4096 .f32 :=
  ((comm d).slice (Rect.unit (s := S4x256x4096) ![s.val, 0, 0] S1x256x4096.size (inb_slot s)) (fun _ => rfl)).squeeze S256x4096
    squeezes_S1x256x4096_S256x4096

/-- The half of slot 0 the last hop fills: the upper half clockwise, the lower half counter-clockwise. -/
def halfM (d : Bool) : Memref sig .tc .vmem S128x4096 .f32 :=
  ((comm d).slice (Rect.unit (s := S4x256x4096) ![0, 128 * d.toNat, 0] S1x128x4096.size (inb_half d)) (fun _ => rfl)).squeeze S128x4096
    squeezes_S1x128x4096_S128x4096

/-- Rows `32 i …` of a block. -/
def rowsOf (m : Memref sig .tc .vmem S256x4096 .f32) (i : Fin 8) : Memref sig .tc .vmem S32x4096 .f32 :=
  m.slice (Rect.unit (s := S256x4096) ![32 * i.val, 0] S32x4096.size (inb_row i)) (fun _ => rfl)

/-- The block a hop sends: the device's own rows at hop 0, afterwards the slot the hop before filled. -/
def srcM (d : Bool) : ℕ → Memref sig .tc .vmem S256x4096 .f32
  | 0 => xM
  | h + 1 => slotM d (slot (h + 1))

/-- Piece `i` of what hop `h` sends. -/
abbrev src (d : Bool) (h : ℕ) (i : Fin 8) : Memref sig .tc .vmem S32x4096 .f32 := rowsOf (srcM d h) i

abbrev sendSem (d : Bool) (h : ℕ) (i : Fin 8) : DmaSem sig := cellAt (sendSems d) (slot h) i
abbrev recvSem (d : Bool) (h : ℕ) (i : Fin 8) : DmaSem sig := cellAt (recvSems d) (slot (h + 1)) i

/-- The neighbour a direction sends to. -/
def toward (d0 : Dev nD) : Bool → Dev nD
  | false => ⟨k0_dev2 d0, k0_dev2_lt d0⟩
  | true => ⟨k0_dev1 d0, k0_dev1_lt d0⟩

/-- Which of the fourteen row offsets the product of hop `h` (1 … 7) stores at. -/
def offIx (d : Bool) (h : ℕ) : Fin 14 := Fin.ofNat 14 (2 * (h - 1) + d.toNat)

/-! ## The products -/

/-- The product of a block of 256 rows with `w`. -/
def pay (v : Vec F S256x4096 .f32) (w : Vec F S4096x512 .f32) : FVec F S256x512 .f32 :=
  matmul dot_S256x4096_S4096x512_S256x512_1_0_0_1_n_n none v (shapeCast S4096x512 w shapeCasts_S4096x512_S4096x512)
    (constant S256x512 .f32 0x00000000#32)

/-- The product of a block of 128 rows with `w`. -/
def payHalf (v : Vec F S128x4096 .f32) (w : Vec F S4096x512 .f32) : FVec F S128x512 .f32 :=
  matmul dot_S128x4096_S4096x512_S128x512_1_0_0_1_n_n none v (shapeCast S4096x512 w shapeCasts_S4096x512_S4096x512)
    (constant S128x512 .f32 0x00000000#32)

/-! ## The instructions -/

/-- The kinds of effect of the body. -/
inductive Instr : Type
  /-- signal the barrier of the neighbour in direction `d` -/
  | barSig (d : Bool)
  /-- wait for both neighbours at the barrier -/
  | barWait
  /-- start the copy of piece `i` of hop `h` -/
  | send (d : Bool) (h : ℕ) (i : Fin 8)
  /-- wait for the arrival of piece `i` of hop `h` -/
  | recv (d : Bool) (h : ℕ) (i : Fin 8)
  /-- wait for the departure of piece `i` of hop `h` -/
  | sent (d : Bool) (h : ℕ) (i : Fin 8)
  /-- tell the sender of direction `d` that one more slot is free, for the `k`-th time -/
  | credSig (d : Bool) (k : ℕ)
  /-- wait to be told that, for the `k`-th time -/
  | credWait (d : Bool) (k : ℕ)
  /-- the product of the own rows -/
  | gemmOwn
  /-- the product of the rows in hand at hop `h` -/
  | gemm (d : Bool) (h : ℕ)
  /-- the product of the half block of the last hop -/
  | gemmHalf (d : Bool)

/-- Rows of the result. -/
abbrev rect256 (o : Fin 2 → ℕ) (h : ∀ a, o a + S256x512.size a ≤ S4096x512.size a) : Rect S4096x512 :=
  Rect.unit (s := S4096x512) o S256x512.size h
abbrev rect128 (o : Fin 2 → ℕ) (h : ∀ a, o a + S128x512.size a ≤ S4096x512.size a) : Rect S4096x512 :=
  Rect.unit (s := S4096x512) o S128x512.size h
abbrev rectW : Rect S4096x512 := Rect.unit (s := S4096x512) ![0, 0] S4096x512.size inb_S4096x512_S4096x512_0_0
abbrev rectX : Rect S256x4096 := Rect.unit (s := S256x4096) ![0, 0] S256x4096.size inb_S256x4096_S256x4096_0_0
abbrev rectH : Rect S128x4096 := Rect.unit (s := S128x4096) ![0, 0] S128x4096.size inb_S128x4096_S128x4096_0_0

/-- Load 256 rows and `w`, multiply, store at offset `o`: the three loads (the last one's value is not
    used) and the store. -/
def mulAt (f : Vec F S256x4096 .f32 → Vec F S4096x512 .f32 → FVec F S256x512 .f32) (m : Memref sig .tc .vmem S256x4096 .f32)
    (o : Fin 2 → ℕ) (h : ∀ a, o a + S256x512.size a ≤ S4096x512.size a)
    (k : Prog (TpuEff nD τ sig (Elt F) Λ₀ .tc) PUnit) : Prog (TpuEff nD τ sig (Elt F) Λ₀ .tc) PUnit :=
  .op (.load m rectX.toLoadRect (View.loadsAt_vmem h_S256x4096)) fun v =>
  .op (.load wM rectW.toLoadRect (View.loadsAt_vmem h_S4096x512)) fun w =>
  .op (.load oM (rect256 o h).toLoadRect (View.loadsAt_vmem h_S256x512)) fun _ =>
  .op (.store oM (rect256 o h) (f v w) Finset.univ (View.stores_vmem_bits_univ h_S256x512 rfl) (.inl rfl)) fun _ => k

/-- The same of 128 rows. -/
def mulHalfAt (m : Memref sig .tc .vmem S128x4096 .f32)
    (o : Fin 2 → ℕ) (h : ∀ a, o a + S128x512.size a ≤ S4096x512.size a)
    (k : Prog (TpuEff nD τ sig (Elt F) Λ₀ .tc) PUnit) : Prog (TpuEff nD τ sig (Elt F) Λ₀ .tc) PUnit :=
  .op (.load m rectH.toLoadRect (View.loadsAt_vmem h_S128x4096)) fun v =>
  .op (.load wM rectW.toLoadRect (View.loadsAt_vmem h_S4096x512)) fun w =>
  .op (.load oM (rect128 o h).toLoadRect (View.loadsAt_vmem h_S128x512)) fun _ =>
  .op (.store oM (rect128 o h) (payHalf v w) Finset.univ (View.stores_vmem_bits_univ h_S128x512 rfl) (.inl rfl)) fun _ => k

/-- One instruction, then `k`. -/
def Instr.run (d0 : Dev nD) (k : Prog (TpuEff nD τ sig (Elt F) Λ₀ .tc) PUnit) :
    Instr → Prog (TpuEff nD τ sig (Elt F) Λ₀ .tc) PUnit
  | .barSig d => .op (.semSignal (toward d0 d, .tc) barS ((1 : ℕ) : ℤ)) fun _ => k
  | .barWait => .op (.semWait barS ((2 : ℕ) : ℤ)) fun _ => k
  | .send d h i => .op (.enqueueDma (src d h i)
        (.remote (Dev.tc (toward d0 d)) (piece d (slot (h + 1)) i) (.dma (sendSem d h i))) (.dma (recvSem d h i))
        (View.wordExact_bits rfl) (View.wordExact_bits rfl) ⟨⟨rfl, Or.inl rfl⟩, trivial⟩) fun _ => k
  | .recv d h i => .op (.waitDma2 (recvSem d h i) (src d h i) (piece d (slot (h + 1)) i)
        (View.wordExact_bits rfl) (View.wordExact_bits rfl)) fun _ => k
  | .sent d h i => .op (.waitDma2 (sendSem d h i) (piece d (slot (h + 1)) i) (src d h i)
        (View.wordExact_bits rfl) (View.wordExact_bits rfl)) fun _ => k
  | .credSig d _ => .op (.semSignal (toward d0 (!d), .tc) (creditSem d) ((1 : ℕ) : ℤ)) fun _ => k
  | .credWait d _ => .op (.semWait (creditSem d) ((1 : ℕ) : ℤ)) fun _ => k
  | .gemmOwn => mulAt (fun v w => pay (shapeCast S256x4096 v shapeCasts_S256x4096_S256x4096) w) xM (k0_off1 d0) (k0_off1_inb d0) k
  | .gemm d h => mulAt pay (slotM d (slot h)) (k0_off2 d0 (k0_off2_at (offIx d h))) (k0_off2_inb d0 (offIx d h)) k
  | .gemmHalf d => mulHalfAt (halfM d) (k0_off3 d0 (BitVec.ofNat 32 (128 * (Fin.ofNat 2 d.toNat).val))) (k0_off3_inb d0 (Fin.ofNat 2 d.toNat)) k

/-- A list of instructions, then `k`. -/
def runL (d0 : Dev nD) : List Instr → Prog (TpuEff nD τ sig (Elt F) Λ₀ .tc) PUnit → Prog (TpuEff nD τ sig (Elt F) Λ₀ .tc) PUnit
  | [], k => k
  | i :: l, k => i.run d0 (runL d0 l k)

theorem runL_append (d0 : Dev nD) (l l' : List Instr) (k : Prog (TpuEff nD τ sig (Elt F) Λ₀ .tc) PUnit) :
    runL d0 (l ++ l') k = runL d0 l (runL d0 l' k) := by
  induction l with
  | nil => rfl
  | cons i l ih => exact congrArg (fun k => i.run d0 k) ih

/-! ## The list -/

abbrev all8 : List (Fin 8) := [0, 1, 2, 3, 4, 5, 6, 7]
/-- The pieces of the last hop: the upper half clockwise, the lower half counter-clockwise. -/
def last4 : Bool → List (Fin 8)
  | false => [0, 1, 2, 3]
  | true => [4, 5, 6, 7]

/-- The pieces of hop `h`. -/
def pieces (d : Bool) (h : ℕ) : List (Fin 8) := bif h == 7 then last4 d else all8

/-- Hop `h ≥ 1`: wait for a piece, send it on. -/
def relay (d : Bool) (h : ℕ) (l : List (Fin 8)) : List Instr := l.flatMap fun i => [.recv d (h - 1) i, .send d h i]

/-- The send waits of hop `h`, the two directions in turn. -/
def drain (h : ℕ) : List Instr := all8.flatMap fun i => [.sent false h i, .sent true h i]

/-- Hop `h`, `1 ≤ h ≤ 6`. -/
def hop (h : ℕ) : List Instr :=
  (if 4 ≤ h then [.credWait false (h - 4), .credWait true (h - 4)] else [])
    ++ relay false h all8 ++ relay true h all8 ++ [.gemm false h, .gemm true h] ++ drain (h - 1)
    ++ (if 2 ≤ h ∧ h ≤ 5 then [.credSig false (h - 2), .credSig true (h - 2)] else [])

def hop0 : List Instr :=
  [.barSig true, .barSig false, .barWait] ++ all8.map (.send false 0) ++ all8.map (.send true 0) ++ [.gemmOwn]

def hop7 : List Instr :=
  [.credWait false 3, .credWait true 3] ++ relay false 7 [0, 1, 2, 3] ++ relay true 7 [4, 5, 6, 7]
    ++ [Instr.recv false 6 4, .recv false 6 5, .recv false 6 6, .recv false 6 7,
        .recv true 6 0, .recv true 6 1, .recv true 6 2, .recv true 6 3, .gemm false 7, .gemm true 7] ++ drain 6

def fin : List Instr :=
  [Instr.recv false 7 0, .recv false 7 1, .recv false 7 2, .recv false 7 3, .gemmHalf false,
   .recv true 7 4, .recv true 7 5, .recv true 7 6, .recv true 7 7, .gemmHalf true,
   .sent false 7 0, .sent false 7 1, .sent false 7 2, .sent false 7 3,
   .sent true 7 4, .sent true 7 5, .sent true 7 6, .sent true 7 7]

/-- The whole body after the device id is read. -/
def prog : List Instr :=
  hop0 ++ hop 1 ++ hop 2 ++ hop 3 ++ hop 4 ++ hop 5 ++ hop 6 ++ hop7 ++ fin

/-- The body is the run of the list. -/
theorem body_eq : cc0_body (F := F) xM (Memref.isWhole_whole _) wM (Memref.isWhole_whole _) oM (Memref.isWhole_whole _)
      (Memref.whole cc0_scratch0) (Memref.isWhole_whole _) (Memref.whole cc0_scratch1) (Memref.isWhole_whole _)
      cc0_scratch2 cc0_scratch3 cc0_scratch4 cc0_scratch5 cc0_scratch6 cc0_scratch7
    = .op .deviceId fun d0 => runL d0 prog (.ret ⟨⟩) := by
  chain_rfl

end Cert.RingProof

end
-- ==== Proof.Geo.lean ====
/-
The ring and the views.

`toward` is a neighbour map of the ring in either direction, and the two are inverse (`toward_back`,
`back_toward`).  `org d h c` is the device whose rows device `c` has in hand at hop `h` of direction
`d`.  The views of a piece, of a slot and of a half slot place the elements their names say.
-/
module

public import proofs.«01_k».proof.Proof.Prog
public import proofs.«01_k».proof.Proof.Gen.KernelIdeal
public import Idealize.ShloMosaic.Lib.Memref
public import Idealize.ShloMosaic.Lib.ValueLayout
public import Idealize.ShloMosaic.Lib.ViewIndex

@[expose] public section

noncomputable section

namespace Cert.RingProof

open Cert.KernelIdeal Cert.KernelIdeal.Gen
open Idealize.ShloMosaic Idealize.ShloMosaic.ValueIdx
open Idealize.SL Idealize.SL.RA Idealize.SL.BI
open scoped Idealize.SL.BI
open Idealize.SL.BI.BIBase Idealize.SL.BI.Laws Idealize.SL.ProofMode Idealize.SL.Sem

/-! ## The ring -/

theorem toward_back (d : Bool) (c : Dev nD) : toward (toward c (!d)) d = c := by
  revert d c; decide +kernel
theorem back_toward (d : Bool) (c : Dev nD) : toward (toward c d) (!d) = c := by
  have := toward_back (!d) c; rwa [Bool.not_not] at this
theorem toward_ne (c : Dev nD) : toward c false ≠ toward c true := by
  revert c; decide +kernel

/-- The ring as a permutation of the devices. -/
def ring (d : Bool) : Dev nD ≃ Dev nD := ⟨fun c => toward c d, fun c => toward c (!d), back_toward d, toward_back d⟩

/-- Whose rows device `c` has in hand at hop `h` of direction `d`. -/
def org (d : Bool) : ℕ → Dev nD → Dev nD
  | 0, c => c
  | h + 1, c => org d h (toward c (!d))

theorem org_toward (d : Bool) (h : ℕ) (c : Dev nD) : org d (h + 1) (toward c d) = org d h c :=
  congrArg (org d h) (back_toward d c)

theorem off2_aux : ∀ (d : Bool) (h : Fin 7) (c : Dev nD),
    k0_off2 c (k0_off2_at (offIx d (h.val + 1))) = ![256 * (org d (h.val + 1) c).val, 0] := by decide +kernel
theorem off2_eq (d : Bool) (h : ℕ) (h1 : 1 ≤ h) (h7 : h ≤ 7) (c : Dev nD) :
    k0_off2 c (k0_off2_at (offIx d h)) = ![256 * (org d h c).val, 0] := by
  have := off2_aux d ⟨h - 1, by omega⟩ c
  rwa [show (⟨h - 1, by omega⟩ : Fin 7).val + 1 = h from by show h - 1 + 1 = h; omega] at this
theorem off3_eq : ∀ (d : Bool) (c : Dev nD),
    k0_off3 c (BitVec.ofNat 32 (128 * (Fin.ofNat 2 d.toNat).val)) = ![256 * (org false 8 c).val + 128 * d.toNat, 0] := by decide +kernel
theorem off1_eq : ∀ c : Dev nD, k0_off1 c = ![256 * c.val, 0] := by decide +kernel
theorem org8 : ∀ (d : Bool) (c : Dev nD), org d 8 c = org false 8 c := by decide +kernel
theorem org_ne8 : ∀ (d : Bool) (h : Fin 8) (c : Dev nD), org d h.val c ≠ org false 8 c := by decide +kernel
/-- Every device's rows come by. -/
theorem org_cover : ∀ (c b : Dev nD), b = c ∨ (∃ (d : Bool) (h : Fin 7), b = org d (h.val + 1) c) ∨ b = org false 8 c := by decide +kernel

/-! ## Where the views place their elements -/

theorem slot_lt (s : Fin 4) (i : Fin 8) (x : Fin 32) : 32 * i.val + x.val < 256 := by omega

/-- Element `(x, y)` of slot `s` is element `(s, x, y)` of the buffer. -/
theorem slotM_emb_false (s : Fin 4) (x : Fin 256) (y : Fin 4096) :
    (slotM false s).view.emb (ix2 x y) = (ix3 s x y : S4x256x4096.Idx) := by
  show (Rect.unit (s := S4x256x4096) ![s.val, 0, 0] S1x256x4096.size (inb_slot s)).emb (Shape.reshapeEquiv _ (ix2 x y)) = _
  rw [reshapeEquiv_ix2_1ab]
  refine Shape.idx3_ext ?_ ?_ ?_ <;> simp [Rect.emb_apply, ix3]
theorem slotM_emb_true (s : Fin 4) (x : Fin 256) (y : Fin 4096) :
    (slotM true s).view.emb (ix2 x y) = (ix3 s x y : S4x256x4096.Idx) := by
  show (Rect.unit (s := S4x256x4096) ![s.val, 0, 0] S1x256x4096.size (inb_slot s)).emb (Shape.reshapeEquiv _ (ix2 x y)) = _
  rw [reshapeEquiv_ix2_1ab]
  refine Shape.idx3_ext ?_ ?_ ?_ <;> simp [Rect.emb_apply, ix3]

/-- Element `(x, y)` of piece `i` of slot `s` is element `(s, 32 i + x, y)` of the buffer. -/
theorem piece_emb_false (s : Fin 4) (i : Fin 8) (x : Fin 32) (y : Fin 4096) :
    (piece false s i).view.emb (ix2 x y) = (ix3 s ⟨32 * i.val + x.val, slot_lt s i x⟩ y : S4x256x4096.Idx) := by
  show (Rect.unit (s := S4x256x4096) ![s.val, 32 * i.val, 0] S1x32x4096.size (inb_piece s i)).emb (Shape.reshapeEquiv _ (ix2 x y)) = _
  rw [reshapeEquiv_ix2_1ab]
  refine Shape.idx3_ext ?_ ?_ ?_ <;> simp [Rect.emb_apply, ix3]
theorem piece_emb_true (s : Fin 4) (i : Fin 8) (x : Fin 32) (y : Fin 4096) :
    (piece true s i).view.emb (ix2 x y) = (ix3 s ⟨32 * i.val + x.val, slot_lt s i x⟩ y : S4x256x4096.Idx) := by
  show (Rect.unit (s := S4x256x4096) ![s.val, 32 * i.val, 0] S1x32x4096.size (inb_piece s i)).emb (Shape.reshapeEquiv _ (ix2 x y)) = _
  rw [reshapeEquiv_ix2_1ab]
  refine Shape.idx3_ext ?_ ?_ ?_ <;> simp [Rect.emb_apply, ix3]

theorem half_lt (d : Bool) (x : Fin 128) : 128 * d.toNat + x.val < 256 := by cases d <;> simp <;> omega

/-- Element `(x, y)` of a half is element `(0, 128 d + x, y)` of the buffer. -/
theorem half_emb_false (x : Fin 128) (y : Fin 4096) :
    (halfM false).view.emb (ix2 x y) = (ix3 0 ⟨128 * false.toNat + x.val, half_lt false x⟩ y : S4x256x4096.Idx) := by
  show (Rect.unit (s := S4x256x4096) ![0, 128 * false.toNat, 0] S1x128x4096.size (inb_half false)).emb (Shape.reshapeEquiv _ (ix2 x y)) = _
  rw [reshapeEquiv_ix2_1ab]
  refine Shape.idx3_ext ?_ ?_ ?_ <;> simp [Rect.emb_apply, ix3]
theorem half_emb_true (x : Fin 128) (y : Fin 4096) :
    (halfM true).view.emb (ix2 x y) = (ix3 0 ⟨128 * true.toNat + x.val, half_lt true x⟩ y : S4x256x4096.Idx) := by
  show (Rect.unit (s := S4x256x4096) ![0, 128 * true.toNat, 0] S1x128x4096.size (inb_half true)).emb (Shape.reshapeEquiv _ (ix2 x y)) = _
  rw [reshapeEquiv_ix2_1ab]
  refine Shape.idx3_ext ?_ ?_ ?_ <;> simp [Rect.emb_apply, ix3]

/-- The rectangle of rows `32 i …` of a block. -/
abbrev rowR (i : Fin 8) : Rect S256x4096 := Rect.unit (s := S256x4096) ![32 * i.val, 0] S32x4096.size (inb_row i)

theorem rowR_emb (i : Fin 8) (x : Fin 32) (y : Fin 4096) :
    (rowR i).emb (ix2 x y) = (ix2 ⟨32 * i.val + x.val, slot_lt 0 i x⟩ y : S256x4096.Idx) := by
  funext a; apply Fin.ext; match a with
  | ⟨0, _⟩ => simp [Rect.emb_apply, ix2]
  | ⟨1, _⟩ => simp [Rect.emb_apply, ix2]

theorem row_cover (x : Fin 256) (y : Fin 4096) :
    (rowR ⟨x.val / 32, by omega⟩).emb (ix2 ⟨x.val % 32, by omega⟩ y) = (ix2 x y : S256x4096.Idx) := by
  rw [rowR_emb]; congr 1; apply Fin.ext; show 32 * (x.val / 32) + x.val % 32 = x.val; omega

theorem rowR_disj (i j : Fin 8) (h : i ≠ j) : Disjoint (rowR i).set (rowR j).set := by
  rw [Finset.disjoint_left]; intro x hx hy
  rw [Rect.mem_set_unit] at hx hy
  have h1 := hx 0; have h2 := hy 0
  simp only [Matrix.cons_val_zero] at h1 h2
  have e : S32x4096.size 0 = 32 := rfl
  exact h (Fin.ext (by omega))

/-- The piece an element of a block lies in, and where in it. -/
def rowOf (x : S256x4096.Idx) : Fin 8 := ⟨(x 0).val / 32, by have h : (x 0).val < 256 := (x 0).isLt; omega⟩
def inRow (x : S256x4096.Idx) : S32x4096.Idx := ix2 (n0 := 32) (n1 := 4096) ⟨(x 0).val % 32, by omega⟩ (x 1)

theorem row_at (x : S256x4096.Idx) : (rowR (rowOf x)).emb (inRow x) = x :=
  (row_cover (x 0) (x 1)).trans (eq_ix2 x).symm

theorem rowR_cov : (Finset.univ : Finset (Fin 8)).biUnion (fun t => (rowR t).set) = Finset.univ := by
  refine Finset.eq_univ_iff_forall.mpr fun x => Finset.mem_biUnion.mpr ⟨rowOf x, Finset.mem_univ _, ?_⟩
  have h : (rowR (rowOf x)).emb (inRow x) ∈ (rowR (rowOf x)).set := by
    rw [← Rect.map_emb_univ]; exact Finset.mem_map_of_mem _ (Finset.mem_univ _)
  rwa [row_at] at h

end Cert.RingProof

end
-- ==== Proof.Own.lean ====
/-
The resource algebra, and what owning a piece, a slot or a communication buffer comes to.
-/
module

public import proofs.«01_k».proof.Proof.Geo
public import Idealize.ShloMosaic.Lib.Rounds
public import Idealize.ShloMosaic.Lib.Release
public import Idealize.ShloMosaic.Lib.Pipeline.Launch
public import Idealize.ShloMosaic.Lib.Pipeline.Kit
public import Idealize.ShloMosaic.Lib.Tactic

@[expose] public section

noncomputable section

namespace Cert.RingProof

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

/-- A slot of a communication buffer that is handed back once: the device that has it, the direction,
    and which hand-back. -/
abbrev RKey : Type := Dev nD × Bool × ℕ
abbrev UB : Type := URounds (GSem nD τ sig) ℕ
abbrev UC : Type := Release.USlots RKey
abbrev UU : Type := UR sig nD τ × (UB × UC)

local notation "𝕄" => MT nD τ sig ℕ (Elt F) ℕ UU ℕ

abbrev EP : Emb (UR sig nD τ) (MT nD τ sig ℕ (Elt F) ℕ UU ℕ) := embL
abbrev ERC : Emb (UB × UC) (MT nD τ sig ℕ (Elt F) ℕ UU ℕ) := embR
abbrev ER : Emb UB (MT nD τ sig ℕ (Elt F) ℕ UU ℕ) := (Emb.inl : Emb UB (UB × UC)).trans embR
abbrev EC : Emb UC (MT nD τ sig ℕ (Elt F) ℕ UU ℕ) := (Emb.inr : Emb UC (UB × UC)).trans embR

/-! ## Owning at some contents -/

/-- Owning a memref's elements outright, whatever they are. -/
def ownAny (c : Thread nD τ) {sp : Space} {sh : Shape} {e : EltTy} (m : Memref sig c.2.kind sp sh e) : sProp 𝕄 :=
  iprop(∃ X, owns c m fullShare X)

instance ownAny_storable (c : Thread nD τ) {sp : Space} {sh : Shape} {e : EltTy} (m : Memref sig c.2.kind sp sh e) :
    BI.Storable (upEmb : UEmb _ 𝕄) (ownAny (F := F) c m) := by unfold ownAny; infer_instance

theorem ownAny_eq (c : Thread nD τ) {sp : Space} {sh : Shape} {e : EltTy} (m : Memref sig c.2.kind sp sh e) :
    (ownAny (F := F) c m : sProp 𝕄) = iprop(∃ f, (m.view.loc c ↦[m.view.set]{fullShare} f)) := by
  unfold ownAny
  have h₁ : iprop(∃ X, owns c m fullShare X) ⊢ (iprop(∃ f, (m.view.loc c ↦[m.view.set]{fullShare} f)) : sProp 𝕄) := by
    unfold owns; iintro ⟨%X, %f, %hf, H⟩; iexists f; iexact H
  have h₂ : iprop(∃ f, (m.view.loc c ↦[m.view.set]{fullShare} f)) ⊢ (iprop(∃ X, owns c m fullShare X) : sProp 𝕄) := by
    iintro ⟨%f, H⟩; iexists _; iapply (owns_intro c m fullShare f); iexact H
  exact BI.equiv_iff.mp ⟨h₁, h₂⟩

theorem ownAny_of (c : Thread nD τ) {sp : Space} {sh : Shape} {e : EltTy} (m : Memref sig c.2.kind sp sh e) (X : sh.Idx → Elt F e) :
    (owns c m fullShare X : sProp 𝕄) ⊢ ownAny c m := by unfold ownAny; iintro H; iexists X; iexact H

/-- Two full ownerships of a memref that has an element are contradictory. -/
theorem ownAny_excl (c : Thread nD τ) {sp : Space} {sh : Shape} {e : EltTy} (m : Memref sig c.2.kind sp sh e) (h : 0 < sh.numel) :
    iprop(ownAny (F := F) c m ∗ ownAny c m) ⊢ (⌜False⌝ : sProp 𝕄) := by
  rw [ownAny_eq]
  obtain ⟨i, hi⟩ := m.view.set_nonempty h
  iintro ⟨⟨%f, H⟩, ⟨%g, H'⟩⟩
  iapply (pointsTo_full_full_false (ℓ := m.view.loc c) (f := f) (g := g) hi hi)
  isplitl [H] <;> iassumption

/-- Shares of one memref compose, with one contents. -/
theorem owns_split (c : Thread nD τ) {sp : Space} {sh : Shape} {e : EltTy} (m : Memref sig c.2.kind sp sh e)
    {q q₁ q₂ : PosShare TreeShare} (h : q ∈ PCS.op q₁ q₂) (X : sh.Idx → Elt F e) :
    (owns c m q X : sProp 𝕄) ⊢ iprop(owns c m q₁ X ∗ owns c m q₂ X) := by
  unfold owns
  iintro ⟨%f, %hf, H⟩
  ihave H' := (pointsTo_share h).1 $$ H
  icases H' with ⟨H1, H2⟩
  isplitl [H1]
  · iexists f; isplitr; · ipureintro; exact hf
    iexact H1
  · iexists f; isplitr; · ipureintro; exact hf
    iexact H2

theorem owns_combine (c : Thread nD τ) {sp : Space} {sh : Shape} {e : EltTy} (m : Memref sig c.2.kind sp sh e)
    {q q₁ q₂ : PosShare TreeShare} (h : q ∈ PCS.op q₁ q₂) (X Y : sh.Idx → Elt F e) :
    iprop(owns c m q₁ X ∗ owns c m q₂ Y) ⊢ (owns c m q X : sProp 𝕄) := by
  unfold owns
  iintro ⟨⟨%f, %hf, H⟩, ⟨%g, %hg, H'⟩⟩
  ihave %hag := (pointsTo_agree) $$ [H H']
  · isplitl [H] <;> iassumption
  iexists f
  isplitr; · ipureintro; exact hf
  iapply (pointsTo_share h).2
  isplitl [H]; · iexact H
  rw [pointsTo_congr (f := f) (g := g) fun i hi => (hag i (Finset.mem_inter.mpr ⟨hi, hi⟩)).1]
  iexact H'

/-! ## Pieces and rows -/

/-- A piece of a slot is the slot's rows. -/
theorem piece_rows (c : Dev nD) (d : Bool) (s : Fin 4) (i : Fin 8) (q : PosShare TreeShare) (X : S32x4096.Idx → Elt F .f32) :
    (owns (c.tc : Thread nD τ) (piece d s i) q X : sProp 𝕄) = owns (c.tc : Thread nD τ) (rowsOf (slotM d s) i) q X := by
  cases d
  · have he : ∀ x : S32x4096.Idx, (piece false s i).view.emb x = (rowsOf (slotM false s) i).view.emb x := fun x => by
      refine ((congrArg _ (eq_ix2 (n0 := 32) (n1 := 4096) x)).trans (piece_emb_false s i (x 0) (x 1))).trans (Eq.symm ?_)
      refine (congrArg (slotM false s).view.emb ((congrArg _ (eq_ix2 (n0 := 32) (n1 := 4096) x)).trans (rowR_emb i (x 0) (x 1)))).trans ?_
      exact slotM_emb_false s _ _
    have hset : (piece false s i).view.set = (rowsOf (slotM false s) i).view.set :=
      congrArg (fun g : S32x4096.Idx ↪ S4x256x4096.Idx => Finset.univ.map g) (DFunLike.ext _ _ he)
    have hr : ∀ f : S4x256x4096.Idx → Elt F .f32, (piece false s i).view.read (Elt F) f = (rowsOf (slotM false s) i).view.read (Elt F) f :=
      fun f => funext fun x => congrArg f (he x)
    exact congrArg₂ (fun (S : Finset S4x256x4096.Idx) (R : (S4x256x4096.Idx → Elt F .f32) → S32x4096.Idx → Elt F .f32) =>
      (iprop(∃ f : Buf (Elt F) ((c.tc : Thread nD τ).loc cc0_scratch0), ⌜R f = X⌝ ∗ ((c.tc : Thread nD τ).loc cc0_scratch0 ↦[S]{q} f)) : sProp 𝕄)) hset (funext hr)
  · have he : ∀ x : S32x4096.Idx, (piece true s i).view.emb x = (rowsOf (slotM true s) i).view.emb x := fun x => by
      refine ((congrArg _ (eq_ix2 (n0 := 32) (n1 := 4096) x)).trans (piece_emb_true s i (x 0) (x 1))).trans (Eq.symm ?_)
      refine (congrArg (slotM true s).view.emb ((congrArg _ (eq_ix2 (n0 := 32) (n1 := 4096) x)).trans (rowR_emb i (x 0) (x 1)))).trans ?_
      exact slotM_emb_true s _ _
    have hset : (piece true s i).view.set = (rowsOf (slotM true s) i).view.set :=
      congrArg (fun g : S32x4096.Idx ↪ S4x256x4096.Idx => Finset.univ.map g) (DFunLike.ext _ _ he)
    have hr : ∀ f : S4x256x4096.Idx → Elt F .f32, (piece true s i).view.read (Elt F) f = (rowsOf (slotM true s) i).view.read (Elt F) f :=
      fun f => funext fun x => congrArg f (he x)
    exact congrArg₂ (fun (S : Finset S4x256x4096.Idx) (R : (S4x256x4096.Idx → Elt F .f32) → S32x4096.Idx → Elt F .f32) =>
      (iprop(∃ f : Buf (Elt F) ((c.tc : Thread nD τ).loc cc0_scratch1), ⌜R f = X⌝ ∗ ((c.tc : Thread nD τ).loc cc0_scratch1 ↦[S]{q} f)) : sProp 𝕄)) hset (funext hr)

theorem piece_rows_any (c : Dev nD) (d : Bool) (s : Fin 4) (i : Fin 8) :
    (ownAny (F := F) (c.tc : Thread nD τ) (piece d s i) : sProp 𝕄) = ownAny (c.tc : Thread nD τ) (rowsOf (slotM d s) i) := by
  unfold ownAny; exact congrArg (fun P : (S32x4096.Idx → Elt F .f32) → sProp 𝕄 => iprop(∃ X, P X)) (funext fun X => piece_rows c d s i fullShare X)

/-- Rows `32 i …` of the contents of a block. -/
def rows (X : S256x4096.Idx → Elt F .f32) (i : Fin 8) : S32x4096.Idx → Elt F .f32 := fun j => X ((rowR i).emb j)

section Rows

variable (c : Dev nD) (m : Memref sig .tc .vmem S256x4096 .f32) (q : PosShare TreeShare) (X : S256x4096.Idx → Elt F .f32)

/-- The elements of some rows of a block. -/
def rowsSet (S : Finset (Fin 8)) : Finset m.view.ty.Idx := S.biUnion fun i => (m.view.slice (rowR i)).set

theorem rows_split : (owns (c.tc : Thread nD τ) m q X : sProp 𝕄)
    ⊢ bigSep Finset.univ fun i => owns (c.tc : Thread nD τ) (rowsOf m i) q (rows X i) :=
  owns_rects (c.tc : Thread nD τ) m q rowR (fun _ _ => rfl) rowR_disj rowR_cov X

theorem rows_join : bigSep Finset.univ (fun i => owns (c.tc : Thread nD τ) (rowsOf m i) q (rows X i))
    ⊢ (owns (c.tc : Thread nD τ) m q X : sProp 𝕄) :=
  owns_of_rects (c.tc : Thread nD τ) m q rowR (fun _ _ => rfl) rowR_disj rowR_cov X

/-- Some of the rows, as one points-to that reads what it should; and back. -/
theorem rows_gather (S : Finset (Fin 8)) :
    bigSep S (fun i => owns (c.tc : Thread nD τ) (rowsOf m i) q (rows X i))
      ⊢ (iprop(∃ g : m.view.ty.Contents (Elt F), ⌜∀ x, rowOf x ∈ S → m.view.read (Elt F) g x = X x⌝
            ∗ (m.view.loc (c.tc : Thread nD τ) ↦[rowsSet m S]{q} g)
            ∗ ((m.view.loc (c.tc : Thread nD τ) ↦[rowsSet m S]{q} g)
                -∗ bigSep S (fun i => owns (c.tc : Thread nD τ) (rowsOf m i) q (rows X i)))) : sProp 𝕄) := by
  refine (owns_rects_join (c.tc : Thread nD τ) m q rowR (fun _ _ => rfl) rowR_disj X S).trans ?_
  iintro ⟨%g, %hg, H⟩
  iexists g
  isplitr
  · ipureintro; intro x hx; have := hg _ hx (inRow x); rwa [row_at] at this
  isplitl [H]; · iexact H
  iintro H
  have e : (bigSep S (fun i => owns (c.tc : Thread nD τ) (rowsOf m i) q (rows X i)) : sProp 𝕄)
      = (m.view.loc (c.tc : Thread nD τ) ↦[rowsSet m S]{q} g) := by
    rw [rowsSet, pointsTo_biUnion S _ fun t _ t' _ htt => by
      rw [View.set_slice, View.set_slice]; exact (Finset.disjoint_map _).mpr (rowR_disj t t' htt)]
    refine bigSep_congr fun i hi => ?_
    rw [← owns_slice_read (c.tc : Thread nD τ) m q (rowR i) (fun _ => rfl) g]
    exact congrArg _ (funext fun j => (hg i hi j).symm)
  rw [e]; iexact H

theorem mem_rowsSet (S : Finset (Fin 8)) (x : S256x4096.Idx) (hx : rowOf x ∈ S) : m.view.emb x ∈ rowsSet m S := by
  refine Finset.mem_biUnion.mpr ⟨_, hx, ?_⟩
  rw [View.set_slice]
  refine Finset.mem_map_of_mem _ ?_
  have h : (rowR (rowOf x)).emb (inRow x) ∈ (rowR (rowOf x)).set := by
    rw [← Rect.map_emb_univ]; exact Finset.mem_map_of_mem _ (Finset.mem_univ _)
  rwa [row_at] at h

end Rows

/-! ## A communication buffer and its thirty-two pieces -/

abbrev pieceR (p : Fin 4 × Fin 8) : Rect S4x256x4096 :=
  Rect.unit (s := S4x256x4096) ![p.1.val, 32 * p.2.val, 0] S1x32x4096.size (inb_piece p.1 p.2)

theorem pieceR_disj (p p' : Fin 4 × Fin 8) (h : p ≠ p') : Disjoint (pieceR p).set (pieceR p').set := by
  rw [Finset.disjoint_left]; intro x hx hy
  rw [Rect.mem_set_unit] at hx hy
  have h1 := hx 0; have h2 := hy 0; have h3 := hx 1; have h4 := hy 1
  simp only [Matrix.cons_val_zero, Matrix.cons_val_one] at h1 h2 h3 h4
  have e : S1x32x4096.size 0 = 1 := rfl
  have e' : S1x32x4096.size 1 = 32 := rfl
  exact h (Prod.ext (Fin.ext (by omega)) (Fin.ext (by omega)))

theorem pieceR_cov : (Finset.univ : Finset (Fin 4 × Fin 8)).biUnion (fun t => (pieceR t).set) = Finset.univ := by
  refine Finset.eq_univ_iff_forall.mpr fun x => ?_
  have h0 : (x 0).val < 4 := (x 0).isLt
  have h1 : (x 1).val < 256 := (x 1).isLt
  have h2 : (x 2).val < 4096 := (x 2).isLt
  refine Finset.mem_biUnion.mpr ⟨(⟨(x 0).val, h0⟩, ⟨(x 1).val / 32, by omega⟩), Finset.mem_univ _, Rect.mem_set_unit.mpr fun a => ?_⟩
  match a with
  | ⟨0, _⟩ => show (x 0).val ≤ (x 0).val ∧ (x 0).val < (x 0).val + 1; omega
  | ⟨1, _⟩ => show 32 * ((x 1).val / 32) ≤ (x 1).val ∧ (x 1).val < 32 * ((x 1).val / 32) + 32; omega
  | ⟨2, _⟩ => show 0 ≤ (x 2).val ∧ (x 2).val < 0 + 4096; omega

theorem piece_set (d : Bool) (s : Fin 4) (i : Fin 8) :
    (piece d s i).view.set = ((comm d).view.slice (pieceR (s, i))).set := View.set_reshape _ _

theorem pieces_disj (d : Bool) : ∀ t ∈ (Finset.univ : Finset (Fin 4 × Fin 8)), ∀ t' ∈ (Finset.univ : Finset (Fin 4 × Fin 8)), t ≠ t' →
    Disjoint ((comm d).view.slice (pieceR t)).set ((comm d).view.slice (pieceR t')).set := fun t _ t' _ htt => by
  rw [View.set_slice, View.set_slice]; exact (Finset.disjoint_map _).mpr (pieceR_disj t t' htt)

theorem comm_set (d : Bool) : (comm d).view.set = Finset.univ.biUnion fun t => ((comm d).view.slice (pieceR t)).set := by
  ext x
  constructor
  · intro hx
    rw [View.set, Finset.mem_map] at hx
    obtain ⟨y, -, rfl⟩ := hx
    obtain ⟨t, ht, hy⟩ := Finset.mem_biUnion.mp (pieceR_cov.symm ▸ Finset.mem_univ y)
    exact Finset.mem_biUnion.mpr ⟨t, ht, by rw [View.set_slice]; exact Finset.mem_map_of_mem _ hy⟩
  · intro hx
    obtain ⟨t, -, hx⟩ := Finset.mem_biUnion.mp hx
    exact View.set_slice_subset _ _ hx

theorem comm_split (c : Dev nD) (d : Bool) : (ownAny (F := F) (c.tc : Thread nD τ) (comm d) : sProp 𝕄)
    ⊢ bigSep Finset.univ fun p : Fin 4 × Fin 8 => ownAny (c.tc : Thread nD τ) (piece d p.1 p.2) := by
  have h : ∀ f (p : Fin 4 × Fin 8), ((comm d).view.loc (c.tc : Thread nD τ) ↦[((comm d).view.slice (pieceR p)).set]{fullShare} f)
      ⊢ (ownAny (F := F) (c.tc : Thread nD τ) (piece d p.1 p.2) : sProp 𝕄) := fun f p => by
    rw [ownAny_eq, piece_set]; iintro H; iexists f; iexact H
  have h' : ∀ f, ((comm d).view.loc (c.tc : Thread nD τ) ↦[(comm d).view.set]{fullShare} f)
      ⊢ (bigSep Finset.univ fun p : Fin 4 × Fin 8 => ownAny (F := F) (c.tc : Thread nD τ) (piece d p.1 p.2) : sProp 𝕄) := fun f => by
    rw [comm_set, pointsTo_biUnion _ _ (pieces_disj d)]
    exact bigSep_mono fun p _ => h f p
  rw [ownAny_eq]
  iintro ⟨%f, H⟩
  iapply (h' f)
  iexact H

theorem comm_join (c : Dev nD) (d : Bool) : bigSep Finset.univ (fun p : Fin 4 × Fin 8 => ownAny (F := F) (c.tc : Thread nD τ) (piece d p.1 p.2))
    ⊢ (ownAny (c.tc : Thread nD τ) (comm d) : sProp 𝕄) := by
  have h1 : ∀ p : Fin 4 × Fin 8, (ownAny (F := F) (c.tc : Thread nD τ) (piece d p.1 p.2) : sProp 𝕄)
      = iprop(∃ f : Buf (Elt F) ((comm d).view.loc (c.tc : Thread nD τ)), ((comm d).view.loc (c.tc : Thread nD τ) ↦[((comm d).view.slice (pieceR p)).set]{fullShare} f)) := fun p => by
    rw [ownAny_eq, piece_set]; rfl
  rw [bigSep_congr fun p _ => h1 p, ownAny_eq, comm_set]
  refine (bigSep_exists_pi _ _).trans ?_
  iintro ⟨%fs, H⟩
  ihave H' := (pointsTo_biUnion_join (ℓ := (comm d).view.loc (c.tc : Thread nD τ)) Finset.univ _ fs (fs (0, 0)) (pieces_disj d)) $$ H
  icases H' with ⟨%g, -, H⟩
  iexists g; iexact H

end Cert.RingProof

end
-- ==== Proof.Mask.lean ====
/-
Families of resources indexed by the set bits of a number.

`fam m R` is the separating conjunction of `R n` over the bits `n` set in `m`.  Taking some of the
bits out of a family, and putting bits in, are the two equalities `fam_take` and `fam_put`; sums have
the same two.
-/
module

public import proofs.«01_k».proof.Proof.Own

@[expose] public section

noncomputable section

namespace Cert.RingProof

open Idealize.ShloMosaic
open Idealize.SL Idealize.SL.RA Idealize.SL.BI
open scoped Idealize.SL.BI
open Idealize.SL.BI.BIBase Idealize.SL.BI.Laws Idealize.SL.ProofMode Idealize.SL.Sem

/-- The bits set in `m`. -/
def bits (m : ℕ) : Finset ℕ := (Finset.range m).filter fun n => m.testBit n = true

theorem mem_bits {m n : ℕ} : n ∈ bits m ↔ m.testBit n = true := by
  unfold bits
  rw [Finset.mem_filter, Finset.mem_range]
  exact ⟨fun h => h.2, fun h => ⟨lt_of_lt_of_le Nat.lt_two_pow_self (Nat.ge_two_pow_of_testBit h), h⟩⟩

theorem bits_split {m x : ℕ} (h : m &&& x = x) : bits m = bits x ∪ bits (m ^^^ x) ∧ Disjoint (bits x) (bits (m ^^^ x)) := by
  have hb (n : ℕ) (hx : x.testBit n = true) : m.testBit n = true := by
    have := congrArg (fun y => y.testBit n) h
    simp only [Nat.testBit_and, hx, Bool.and_true] at this
    exact this
  constructor
  · ext n
    rw [Finset.mem_union, mem_bits, mem_bits, mem_bits, Nat.testBit_xor]
    cases hx : x.testBit n
    · simp
    · simp [hb n hx]
  · rw [Finset.disjoint_left]
    intro n hn hn'
    rw [mem_bits] at hn hn'
    rw [Nat.testBit_xor, hn, hb n hn] at hn'
    exact absurd hn' (by decide)

theorem xor_take {m x : ℕ} (h : m &&& x = 0) : (m ^^^ x) &&& x = x := by
  apply Nat.eq_of_testBit_eq; intro n
  have := congrArg (fun y => y.testBit n) h
  simp only [Nat.testBit_and, Nat.zero_testBit] at this
  rw [Nat.testBit_and, Nat.testBit_xor]
  revert this
  cases m.testBit n <;> cases x.testBit n <;> decide

theorem bits_zero : bits 0 = ∅ := by unfold bits; simp

theorem bits_pow (n : ℕ) : bits (2 ^ n) = {n} := by
  ext k
  rw [mem_bits, Finset.mem_singleton, Nat.testBit_two_pow]
  simp [eq_comm]

/-- The bits of a number below `2 ^ B` are the images of a finite set, checked bit by bit. -/
theorem bits_eq {T : Type} [DecidableEq T] (S : Finset T) (e : T → ℕ) (m B : ℕ) (hB : m < 2 ^ B)
    (h : (Finset.range B).filter (fun n => m.testBit n = true) = S.image e) : bits m = S.image e := by
  rw [← h]; ext n
  rw [mem_bits, Finset.mem_filter, Finset.mem_range]
  exact ⟨fun hn => ⟨(Nat.pow_lt_pow_iff_right (by decide)).mp (lt_of_le_of_lt (Nat.ge_two_pow_of_testBit hn) hB), hn⟩, fun hn => hn.2⟩

section Fam

variable {M : Type} [URA M]

/-- The resources of the set bits. -/
def fam (m : ℕ) (R : ℕ → sProp M) : sProp M := bigSep (bits m) R

theorem fam_zero (R : ℕ → sProp M) : fam 0 R = iprop(emp) := by unfold fam; rw [bits_zero, bigSep_empty]; rfl

theorem fam_pow (n : ℕ) (R : ℕ → sProp M) : fam (2 ^ n) R = R n := by unfold fam; rw [bits_pow, bigSep_singleton]

theorem fam_take {m x : ℕ} (h : m &&& x = x) (R : ℕ → sProp M) : fam m R = iprop(fam x R ∗ fam (m ^^^ x) R) := by
  unfold fam; rw [(bits_split h).1, bigSep_union (bits_split h).2]; rfl

theorem fam_put {m x : ℕ} (h : m &&& x = 0) (R : ℕ → sProp M) : fam (m ^^^ x) R = iprop(fam x R ∗ fam m R) := by
  have := fam_take (xor_take h) R
  rwa [Nat.xor_assoc, Nat.xor_self, Nat.xor_zero] at this

theorem fam_image {T : Type} [DecidableEq T] (S : Finset T) (e : T → ℕ) (he : ∀ a ∈ S, ∀ b ∈ S, e a = e b → a = b) (m : ℕ)
    (h : bits m = S.image e) (R : ℕ → sProp M) : fam m R = bigSep S fun t => R (e t) := by
  unfold fam
  rw [h]
  clear h
  induction S using Finset.induction_on with
  | empty => rw [Finset.image_empty, bigSep_empty, bigSep_empty]
  | insert a s ha ih =>
    rw [Finset.image_insert, bigSep_insert, bigSep_insert ha, ih fun x hx y hy => he x (Finset.mem_insert_of_mem hx) y (Finset.mem_insert_of_mem hy)]
    intro hm
    obtain ⟨b, hb, hab⟩ := Finset.mem_image.mp hm
    have := he b (Finset.mem_insert_of_mem hb) a (Finset.mem_insert_self _ _) hab
    exact ha (this ▸ hb)

theorem fam_take1 {m n : ℕ} (h : m &&& 2 ^ n = 2 ^ n) (R : ℕ → sProp M) : fam m R ⊢ iprop(R n ∗ fam (m ^^^ 2 ^ n) R) := by
  rw [fam_take h, fam_pow]
theorem fam_put1 {m n : ℕ} (h : m &&& 2 ^ n = 0) (R : ℕ → sProp M) : iprop(R n ∗ fam m R) ⊢ fam (m ^^^ 2 ^ n) R := by
  rw [fam_put h, fam_pow]

theorem fam_mono (m : ℕ) {R R' : ℕ → sProp M} (h : ∀ n, R n ⊢ R' n) : fam m R ⊢ fam m R' := bigSep_mono fun n _ => h n

/-! ### Keys of a direction, a hop and a piece, and keys of a direction and a number -/

def key (d : Bool) (h : ℕ) (i : Fin 8) : ℕ := 16 * h + 8 * d.toNat + i.val
def kd (n : ℕ) : Bool := n / 8 % 2 == 1
def kh (n : ℕ) : ℕ := n / 16
def ki (n : ℕ) : Fin 8 := ⟨n % 8, Nat.mod_lt _ (by decide)⟩

def key2 (d : Bool) (k : ℕ) : ℕ := 2 * k + d.toNat
def dd (n : ℕ) : Bool := n % 2 == 1
def dk (n : ℕ) : ℕ := n / 2

theorem kd_key (d : Bool) (h : ℕ) (i : Fin 8) : kd (key d h i) = d := by
  have hd := Bool.toNat_le d
  have : (key d h i) / 8 % 2 = d.toNat := by unfold key; omega
  unfold kd; rw [this]; cases d <;> rfl
theorem kh_key (d : Bool) (h : ℕ) (i : Fin 8) : kh (key d h i) = h := by
  have hd := Bool.toNat_le d; unfold kh key; omega
theorem ki_key (d : Bool) (h : ℕ) (i : Fin 8) : ki (key d h i) = i := by
  have hd := Bool.toNat_le d; apply Fin.ext; show key d h i % 8 = i.val; unfold key; omega
theorem dd_key (d : Bool) (k : ℕ) : dd (key2 d k) = d := by
  have hd := Bool.toNat_le d
  have : key2 d k % 2 = d.toNat := by unfold key2; omega
  unfold dd; rw [this]; cases d <;> rfl
theorem dk_key (d : Bool) (k : ℕ) : dk (key2 d k) = k := by
  have hd := Bool.toNat_le d; unfold dk key2; omega

def fam3 (m : ℕ) (R : Bool → ℕ → Fin 8 → sProp M) : sProp M := fam m fun n => R (kd n) (kh n) (ki n)
def fam2 (m : ℕ) (R : Bool → ℕ → sProp M) : sProp M := fam m fun n => R (dd n) (dk n)

abbrev bit3 (d : Bool) (h : ℕ) (i : Fin 8) : ℕ := 2 ^ key d h i
abbrev bit2 (d : Bool) (k : ℕ) : ℕ := 2 ^ key2 d k

theorem take3 {m : ℕ} {d : Bool} {h : ℕ} {i : Fin 8} (hm : m &&& bit3 d h i = bit3 d h i) (R : Bool → ℕ → Fin 8 → sProp M) :
    fam3 m R ⊢ iprop(R d h i ∗ fam3 (m ^^^ bit3 d h i) R) := by
  have := fam_take1 hm fun n => R (kd n) (kh n) (ki n)
  rwa [kd_key, kh_key, ki_key] at this
theorem put3 {m : ℕ} {d : Bool} {h : ℕ} {i : Fin 8} (hm : m &&& bit3 d h i = 0) (R : Bool → ℕ → Fin 8 → sProp M) :
    iprop(R d h i ∗ fam3 m R) ⊢ fam3 (m ^^^ bit3 d h i) R := by
  have := fam_put1 hm fun n => R (kd n) (kh n) (ki n)
  rwa [kd_key, kh_key, ki_key] at this
theorem take2 {m : ℕ} {d : Bool} {k : ℕ} (hm : m &&& bit2 d k = bit2 d k) (R : Bool → ℕ → sProp M) :
    fam2 m R ⊢ iprop(R d k ∗ fam2 (m ^^^ bit2 d k) R) := by
  have := fam_take1 hm fun n => R (dd n) (dk n)
  rwa [dd_key, dk_key] at this
theorem put2 {m : ℕ} {d : Bool} {k : ℕ} (hm : m &&& bit2 d k = 0) (R : Bool → ℕ → sProp M) :
    iprop(R d k ∗ fam2 m R) ⊢ fam2 (m ^^^ bit2 d k) R := by
  have := fam_put1 hm fun n => R (dd n) (dk n)
  rwa [dd_key, dk_key] at this

theorem fam3_put {m x : ℕ} (h : m &&& x = 0) (R : Bool → ℕ → Fin 8 → sProp M) : iprop(fam3 x R ∗ fam3 m R) ⊢ fam3 (m ^^^ x) R :=
  Entails.of_eq (fam_put h _).symm

/-- The keys of the pieces whose bits are set in `b`, of one direction and hop. -/
def row (d : Bool) (h : ℕ) (b : ℕ) : ℕ := b <<< (16 * h + 8 * d.toNat)

theorem bits_row (d : Bool) (h : ℕ) (b : ℕ) (hb : b < 2 ^ 8) :
    bits (row d h b) = (Finset.univ.filter fun i : Fin 8 => b.testBit i.val = true).image (key d h) := by
  ext n
  rw [mem_bits, Finset.mem_image]
  unfold row
  rw [Nat.testBit_shiftLeft, Bool.and_eq_true, decide_eq_true_eq]
  constructor
  · rintro ⟨h1, h2⟩
    have h3 : n - (16 * h + 8 * d.toNat) < 8 := (Nat.pow_lt_pow_iff_right (by decide)).mp (lt_of_le_of_lt (Nat.ge_two_pow_of_testBit h2) hb)
    exact ⟨⟨_, h3⟩, Finset.mem_filter.mpr ⟨Finset.mem_univ _, h2⟩, by unfold key; simp only; omega⟩
  · rintro ⟨i, hi, rfl⟩
    unfold key
    refine ⟨by omega, ?_⟩
    rw [Nat.add_sub_cancel_left]; exact (Finset.mem_filter.mp hi).2

theorem fam3_row (d : Bool) (h : ℕ) (b : ℕ) (hb : b < 2 ^ 8) (R : Bool → ℕ → Fin 8 → sProp M) :
    fam3 (row d h b) R = bigSep (Finset.univ.filter fun i : Fin 8 => b.testBit i.val = true) (R d h) := by
  unfold fam3
  rw [fam_image _ (key d h) (fun a _ a' _ e => Fin.ext (by unfold key at e; omega)) _ (bits_row d h b hb)]
  exact bigSep_congr fun i _ => by rw [kd_key, kh_key, ki_key]

theorem takeRow {m : ℕ} {d : Bool} {h b : ℕ} (hb : b < 2 ^ 8) (hm : m &&& row d h b = row d h b) (R : Bool → ℕ → Fin 8 → sProp M) :
    fam3 m R ⊢ iprop(bigSep (Finset.univ.filter fun i : Fin 8 => b.testBit i.val = true) (R d h) ∗ fam3 (m ^^^ row d h b) R) := by
  rw [← fam3_row d h b hb]; exact Entails.of_eq (fam_take hm _)
theorem putRow {m : ℕ} {d : Bool} {h b : ℕ} (hb : b < 2 ^ 8) (hm : m &&& row d h b = 0) (R : Bool → ℕ → Fin 8 → sProp M) :
    iprop(bigSep (Finset.univ.filter fun i : Fin 8 => b.testBit i.val = true) (R d h) ∗ fam3 m R) ⊢ fam3 (m ^^^ row d h b) R := by
  rw [← fam3_row d h b hb]; exact Entails.of_eq (fam_put hm _).symm
theorem retakeRow {m : ℕ} {d : Bool} {h b : ℕ} (hb : b < 2 ^ 8) (hm : m &&& row d h b = row d h b) (R : Bool → ℕ → Fin 8 → sProp M) :
    iprop(bigSep (Finset.univ.filter fun i : Fin 8 => b.testBit i.val = true) (R d h) ∗ fam3 (m ^^^ row d h b) R) ⊢ fam3 m R := by
  rw [← fam3_row d h b hb]; exact Entails.of_eq (fam_take hm _).symm
theorem retake3 {m : ℕ} {d : Bool} {h : ℕ} {i : Fin 8} (hm : m &&& bit3 d h i = bit3 d h i) (R : Bool → ℕ → Fin 8 → sProp M) :
    iprop(R d h i ∗ fam3 (m ^^^ bit3 d h i) R) ⊢ fam3 m R := by
  have := Entails.of_eq (fam_take hm fun n => R (kd n) (kh n) (ki n)).symm
  rwa [fam_pow, kd_key, kh_key, ki_key] at this

end Fam

/-! ## Sums -/

variable {A : Type} [AddCommMonoid A]

def famSum (m : ℕ) (f : ℕ → A) : A := ∑ n ∈ bits m, f n

theorem famSum_zero (f : ℕ → A) : famSum 0 f = 0 := by unfold famSum; rw [bits_zero, Finset.sum_empty]

theorem famSum_take {m n : ℕ} (h : m &&& 2 ^ n = 2 ^ n) (f : ℕ → A) : famSum m f = famSum (m ^^^ 2 ^ n) f + f n := by
  unfold famSum
  rw [(bits_split h).1, Finset.sum_union (bits_split h).2, bits_pow, Finset.sum_singleton, add_comm]

theorem le_of_mod {m s n : ℕ} (h : m % 2 ^ s = 0) (hn : n ∈ bits m) : s ≤ n := by
  rw [mem_bits] at hn
  by_contra hlt
  have h1 := Nat.testBit_mod_two_pow m s n
  rw [h, Nat.zero_testBit, hn] at h1
  simp at h1; omega

end Cert.RingProof

end
-- ==== Proof.Cells.lean ====
/-
The semaphores of a device, numbered, and the keys of the protocol's resources.

`Ce` is the type of a device's protocol cells: the barrier, the two credit semaphores, and the send and
receive semaphores of both directions.
-/
module

public import proofs.«01_k».proof.Proof.Mask
public import proofs.«01_k».proof.Proof.Gen.KernelIdeal.Skeleton
public import proofs.«01_k».proof.Proof.Gen.KernelIdeal.Launch
public import Mathlib.Data.Fintype.Sum
public import Mathlib.Data.Fintype.Prod

@[expose] public section

noncomputable section

namespace Cert.RingProof

open Cert.KernelIdeal Cert.KernelIdeal.Gen
open Idealize.ShloMosaic
open Idealize.ShloMosaic.TcCoe

/-- The barrier; the credit semaphore of a direction; and (receive?, direction, slot, piece). -/
abbrev Ce : Type := Unit ⊕ (Bool ⊕ (Bool × Bool × Fin 4 × Fin 8))

abbrev Ce.bar : Ce := .inl ()
abbrev Ce.cred (d : Bool) : Ce := .inr (.inl d)
abbrev Ce.snd (d : Bool) (s : Fin 4) (i : Fin 8) : Ce := .inr (.inr (false, d, s, i))
abbrev Ce.rcv (d : Bool) (s : Fin 4) (i : Fin 8) : Ce := .inr (.inr (true, d, s, i))

/-- The semaphores of a device other than the barrier. -/
def ownSem : Bool ⊕ (Bool × Bool × Fin 4 × Fin 8) → SemLoc sig
  | .inl d => .reg (creditSem d)
  | .inr (false, d, s, i) => .dma (cellAt (sendSems d) s i)
  | .inr (true, d, s, i) => .dma (cellAt (recvSems d) s i)

def semOf : Ce → SemLoc sig
  | .inl _ => .reg barS
  | .inr x => ownSem x

/-- The cell a semaphore is. -/
def ceOf : SemLoc sig → Option Ce
  | .reg s => if s.val = 2 then some Ce.bar else some (Ce.cred (s.val == 1))
  | .dma s => if s.val < 3 then none else
      some (.inr (.inr ((s.val - 3) / 32 % 2 == 1, (s.val - 3) / 64 == 1, ⟨(s.val - 3) / 8 % 4, Nat.mod_lt _ (by decide)⟩,
        ⟨(s.val - 3) % 8, Nat.mod_lt _ (by decide)⟩)))

theorem ceOf_cred (d : Bool) : ceOf (.reg (creditSem d)) = some (Ce.cred d) := by cases d <;> rfl

theorem snd_val : ∀ (d : Bool) (s : Fin 4) (i : Fin 8), (cellAt (sendSems d) s i).val = 3 + 64 * d.toNat + 8 * s.val + i.val := by decide +kernel
theorem rcv_val : ∀ (d : Bool) (s : Fin 4) (i : Fin 8), (cellAt (recvSems d) s i).val = 35 + 64 * d.toNat + 8 * s.val + i.val := by decide +kernel

theorem ceOf_dma_val (q : DmaSem sig) (r d : Bool) (s : Fin 4) (i : Fin 8) (h : q.val = 3 + 32 * r.toNat + 64 * d.toNat + 8 * s.val + i.val) :
    ceOf (.dma q) = some (.inr (.inr (r, d, s, i))) := by
  have hr : r.toNat ≤ 1 := Bool.toNat_le r
  have hd : d.toNat ≤ 1 := Bool.toNat_le d
  show (if q.val < 3 then none else (some (Sum.inr (Sum.inr (_, _, _, _))) : Option Ce)) = _
  rw [if_neg (by omega)]
  have e1 : ((q.val - 3) / 32 % 2 == 1) = r := by
    have : (q.val - 3) / 32 % 2 = r.toNat := by omega
    rw [this]; cases r <;> rfl
  have e2 : ((q.val - 3) / 64 == 1) = d := by
    have : (q.val - 3) / 64 = d.toNat := by omega
    rw [this]; cases d <;> rfl
  have e3 : (⟨(q.val - 3) / 8 % 4, Nat.mod_lt _ (by decide)⟩ : Fin 4) = s := Fin.ext (show (q.val - 3) / 8 % 4 = s.val by omega)
  have e4 : (⟨(q.val - 3) % 8, Nat.mod_lt _ (by decide)⟩ : Fin 8) = i := Fin.ext (show (q.val - 3) % 8 = i.val by omega)
  rw [e1, e2, e3, e4]

theorem ceOf_dma (r d : Bool) (s : Fin 4) (i : Fin 8) : ceOf (ownSem (.inr (r, d, s, i))) = some (.inr (.inr (r, d, s, i))) := by
  cases r
  · exact ceOf_dma_val _ _ _ _ _ (by rw [snd_val]; simp)
  · exact ceOf_dma_val _ _ _ _ _ (by rw [rcv_val]; simp)

theorem ceOf_semOf (x : Ce) : ceOf (semOf x) = some x := by
  rcases x with _ | d | ⟨r, d, s, i⟩
  · rfl
  · exact ceOf_cred d
  · exact ceOf_dma r d s i

theorem semOf_injective : Function.Injective semOf := fun x y h => by
  have := congrArg ceOf h
  rw [ceOf_semOf, ceOf_semOf] at this
  exact Option.some.inj this

theorem ownSem_injective : Function.Injective ownSem := fun x y h => Sum.inr_injective (semOf_injective (a₁ := .inr x) (a₂ := .inr y) h)

/-- A protocol cell of a device. -/
abbrev kcell (p : Dev nD × Ce) : GSem nD τ sig := ((p.1.tc : Thread nD τ), semOf p.2)

theorem kcell_injective : Function.Injective kcell := by
  rintro ⟨c, x⟩ ⟨c', x'⟩ h
  have h1 : c = c' := congrArg (fun g : GSem nD τ sig => g.1.1) h
  have h2 : semOf x = semOf x' := congrArg Prod.snd h
  rw [h1, semOf_injective h2]

abbrev barC (c : Dev nD) : GSem nD τ sig := ((c.tc : Thread nD τ), .reg barS)
abbrev credC (c : Dev nD) (d : Bool) : GSem nD τ sig := ((c.tc : Thread nD τ), .reg (creditSem d))
abbrev sndC (c : Dev nD) (d : Bool) (h : ℕ) (i : Fin 8) : GSem nD τ sig := ((c.tc : Thread nD τ), .dma (sendSem d h i))
abbrev rcvC (c : Dev nD) (d : Bool) (h : ℕ) (i : Fin 8) : GSem nD τ sig := ((c.tc : Thread nD τ), .dma (recvSem d h i))

theorem stage_lt : ∀ (w : Fin 3) (s : Fin (spec0 w).nbuf), ((spec0 w).sem s).val < 3 := by decide

theorem sems_disj (x : Bool ⊕ (Bool × Bool × Fin 4 × Fin 8)) (w : Fin 3) (s : Fin (spec0 w).nbuf) : ownSem x ≠ .dma ((spec0 w).sem s) := fun h => by
  have h1 := ceOf_semOf (.inr x)
  rw [show semOf (.inr x) = ownSem x from rfl, h] at h1
  have h2 : ceOf (.dma ((spec0 w).sem s)) = none := by
    show (if ((spec0 w).sem s).val < 3 then none else (some (Sum.inr (Sum.inr (_, _, _, _))) : Option Ce)) = _
    exact if_pos (stage_lt w s)
  rw [h2] at h1
  exact absurd h1 (by simp)

end Cert.RingProof

end
-- ==== Proof.Proto.lean ====
/-
The protocol: what each cell is signalled for, and what a signal hands over.

A receive cell's rounds are the hops that fill its slot; each hands the receiver the piece holding the
rows it should.  A send cell's rounds hand the sender back the rows it lent.  A credit cell has one round
of four signals, the `j`-th telling that the slots of credits `0 … j` are released.  The barrier's two
signals hand over a direction's landing pieces of the first four hops.
-/
module

public import proofs.«01_k».proof.Proof.Cells

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (released readerAt writeTok releaseAuth slotInv)

variable {F : FTy → Type} [FloatOps F]

local notation "𝕄" => MT nD τ sig ℕ (Elt F) ℕ UU ℕ

/-! ## Amounts, hops and shares -/

/-- What one piece's transfer counts. -/
def NB : ℕ := (piece false 0 0).view.dmaCredit

theorem NB_pos : 0 < NB := by decide +kernel
theorem amount_piece (d : Bool) (s : Fin 4) (i : Fin 8) (q : DmaSem sig) : (piece d s i).view.amount (.dma q) = NB := by
  cases d <;> rfl
theorem amount_slotRow (d : Bool) (s : Fin 4) (i : Fin 8) (q : DmaSem sig) : (rowsOf (slotM d s) i).view.amount (.dma q) = NB := by
  cases d <;> rfl
theorem amount_xRow (i : Fin 8) (q : DmaSem sig) : (rowsOf xM i).view.amount (.dma q) = NB := rfl
theorem amount_src (d : Bool) (h : ℕ) (i : Fin 8) (q : DmaSem sig) : (src d h i).view.amount (.dma q) = NB := by
  cases h with
  | zero => exact amount_xRow i q
  | succ h => exact amount_slotRow d _ i q

/-- How many hops a piece makes. -/
def hops (d : Bool) (i : Fin 8) : ℕ := if decide (i.val < 4) != d then 8 else 7

/-- The pieces of hop `h`, as a set. -/
def pset (d : Bool) (h : ℕ) : Finset (Fin 8) := Finset.univ.filter fun i => h < hops d i

/-- The share a hop's source is lent at: `x` is lent in both directions and loaded meanwhile. -/
def qS (d : Bool) : ℕ → PosShare TreeShare
  | 0 => bif d then fullShare.left.right else fullShare.left.left
  | _ + 1 => fullShare.left

section Defs

variable (X : Dev nD → S256x4096.Idx → Elt F .f32)

/-- Rows `32 i …` of what device `c` has in hand at hop `h`. -/
abbrev val (c : Dev nD) (d : Bool) (h : ℕ) (i : Fin 8) : S32x4096.Idx → Elt F .f32 := rows (X (org d h c)) i

/-- What a sender needs of the neighbour to send into a piece. -/
def pmRes (n : Dev nD) (d : Bool) (h : ℕ) (i : Fin 8) : sProp 𝕄 :=
  iprop(ownAny (F := F) ((toward n d).tc : Thread nD τ) (piece d (slot (h + 1)) i) ∗ reached ER (rcvC (toward n d) d h i) (h / 4))

def barPay (n : Dev nD) (d : Bool) : sProp 𝕄 := bigSep Finset.univ fun p : Fin 4 × Fin 8 => pmRes (F := F) n d p.1.val p.2

/-- Slot `k + 1` of direction `d` is released at device `n`, and its receive cells are ready for hop `k + 4`. -/
def relPay (n : Dev nD) (d : Bool) (k : ℕ) : sProp 𝕄 :=
  iprop(released EC (n, d, k) 1 ∗ bigSep Finset.univ fun i : Fin 8 => reached ER (rcvC n d (k + 4) i) ((k + 4) / 4))

def credPay (n : Dev nD) (d : Bool) (j : ℕ) : sProp 𝕄 := bigSep (Finset.range (j + 1)) fun k => relPay (F := F) (toward n d) d k

/-- The pieces credit `k` hands back at device `n`. -/
def slotRes (n : Dev nD) (d : Bool) (k : ℕ) : sProp 𝕄 :=
  bigSep (pset d (k + 4)) fun i => ownAny (F := F) (n.tc : Thread nD τ) (piece d (slot (k + 4 + 1)) i)

def recvPay (n : Dev nD) (d : Bool) (s : Fin 4) (i : Fin 8) (h : ℕ) : sProp 𝕄 :=
  owns (n.tc : Thread nD τ) (piece d s i) fullShare (val X n d (h + 1) i)

def sendPay (n : Dev nD) (d : Bool) (i : Fin 8) (h : ℕ) : sProp 𝕄 :=
  owns (n.tc : Thread nD τ) (src d h i) (qS d h) (val X n d h i)

instance pmRes_storable (n : Dev nD) (d : Bool) (h : ℕ) (i : Fin 8) : BI.Storable (upEmb : UEmb _ 𝕄) (pmRes (F := F) n d h i) := by
  unfold pmRes; infer_instance
instance barPay_storable (n : Dev nD) (d : Bool) : BI.Storable (upEmb : UEmb _ 𝕄) (barPay (F := F) n d) := by
  unfold barPay; infer_instance
instance relPay_storable (n : Dev nD) (d : Bool) (k : ℕ) : BI.Storable (upEmb : UEmb _ 𝕄) (relPay (F := F) n d k) := by
  unfold relPay; infer_instance
instance relPay_persistent (n : Dev nD) (d : Bool) (k : ℕ) : BI.Persistent (relPay (F := F) n d k) := by
  unfold relPay; infer_instance
instance credPay_storable (n : Dev nD) (d : Bool) (k : ℕ) : BI.Storable (upEmb : UEmb _ 𝕄) (credPay (F := F) n d k) := by
  unfold credPay; infer_instance
instance credPay_persistent (n : Dev nD) (d : Bool) (k : ℕ) : BI.Persistent (credPay (F := F) n d k) := by
  unfold credPay; infer_instance
instance slotRes_storable (n : Dev nD) (d : Bool) (k : ℕ) : BI.Storable (upEmb : UEmb _ 𝕄) (slotRes (F := F) n d k) := by
  unfold slotRes; infer_instance
instance recvPay_storable (n : Dev nD) (d : Bool) (s : Fin 4) (i : Fin 8) (h : ℕ) : BI.Storable (upEmb : UEmb _ 𝕄) (recvPay X n d s i h) := by
  unfold recvPay; infer_instance
instance sendPay_storable (n : Dev nD) (d : Bool) (i : Fin 8) (h : ℕ) : BI.Storable (upEmb : UEmb _ 𝕄) (sendPay X n d i h) := by
  unfold sendPay; infer_instance

/-! ## The schedule -/

/-- The protocol cell a semaphore cell is. -/
def cell (g : GSem nD τ sig) : Option Ce := if g.1.2 = .tc then ceOf g.2 else none

theorem cell_kcell (p : Dev nD × Ce) : cell (kcell p) = some p.2 := (if_pos rfl).trans (ceOf_semOf p.2)

/-- The hop a round of a send or receive cell belongs to. -/
def hopOf (r : Bool) (s : Fin 4) (n : ℕ) : ℕ := bif r then 4 * n + (s.val + 3) % 4 else 4 * n + s.val

def dutyC : Option Ce → ℕ → Finset ℕ
  | some (.inl _), n => if n = 0 then {0, 1} else ∅
  | some (.inr (.inl _)), n => if n = 0 then Finset.range 4 else ∅
  | some (.inr (.inr (r, d, s, i))), n => if hopOf r s n < hops d i then {0} else ∅
  | none, _ => ∅

def amtC : Option Ce → ℕ
  | some (.inr (.inr _)) => NB
  | _ => 1

def payC (n : Dev nD) : Option Ce → ℕ → ℕ → sProp 𝕄
  | some (.inl _), _, j => barPay (F := F) n (j == 1)
  | some (.inr (.inl d)), _, j => credPay (F := F) n d j
  | some (.inr (.inr (false, d, s, i))), r, _ => sendPay X n d i (hopOf false s r)
  | some (.inr (.inr (true, d, s, i))), r, _ => recvPay X n d s i (hopOf true s r)
  | none, _, _ => iprop(emp)

theorem amtC_pos (x : Option Ce) : 0 < amtC x := by
  rcases x with _ | _ | _ | _ <;> first | exact Nat.one_pos | exact NB_pos

def sched : Rounds.Schedule (GSem nD τ sig) ℕ 𝕄 where
  duties g r := dutyC (cell g) r
  unitless _ := False
  amount g _ _ := amtC (cell g)
  payload g r j := payC X g.1.1 (cell g) r j
  amount_pos g _ _ _ := amtC_pos (cell g)

instance sched_payload_storable (g : GSem nD τ sig) (r : ℕ) (j : ℕ) : BI.Storable (upEmb : UEmb _ 𝕄) ((sched X).payload g r j) := by
  show BI.Storable upEmb (payC X g.1.1 (cell g) r j)
  rcases cell g with _ | _ | _ | ⟨_ | _, _⟩ <;> (unfold payC; infer_instance)

theorem sched_duties (p : Dev nD × Ce) (r : ℕ) : (sched X).duties (kcell p) r = dutyC (some p.2) r := congrArg (dutyC · r) (cell_kcell p)
theorem sched_amount (p : Dev nD × Ce) (r j : ℕ) : (sched X).amount (kcell p) r j = amtC (some p.2) := congrArg amtC (cell_kcell p)
theorem sched_payload (p : Dev nD × Ce) (r j : ℕ) : (sched X).payload (kcell p) r j = payC X p.1 (some p.2) r j := congrArg (payC X p.1 · r j) (cell_kcell p)

theorem sched_expect (p : Dev nD × Ce) (r : ℕ) : (sched X).expect (kcell p) r = (dutyC (some p.2) r).card * amtC (some p.2) := by
  unfold Schedule.expect Schedule.amountOf
  rw [sched_duties, Finset.sum_congr rfl fun j _ => sched_amount X p r j, Finset.sum_const, smul_eq_mul]

theorem hopOf_snd (h : ℕ) : hopOf false (slot h) (h / 4) = h := by
  show 4 * (h / 4) + h % 4 = h; omega
theorem hopOf_rcv (h : ℕ) : hopOf true (slot (h + 1)) (h / 4) = h := by
  show 4 * (h / 4) + ((h + 1) % 4 + 3) % 4 = h; omega

section Cell
variable (n : Dev nD) (d : Bool) (h : ℕ) (i : Fin 8)

abbrev pSnd (n : Dev nD) (d : Bool) (h : ℕ) (i : Fin 8) : Dev nD × Ce := (n, Ce.snd d (slot h) i)
abbrev pRcv (n : Dev nD) (d : Bool) (h : ℕ) (i : Fin 8) : Dev nD × Ce := (n, Ce.rcv d (slot (h + 1)) i)

theorem duties_snd (hh : h < hops d i) : (sched X).duties (sndC n d h i) (h / 4) = {0} := by
  refine (sched_duties X (pSnd n d h i) (h / 4)).trans (if_pos ?_); rw [hopOf_snd]; exact hh
theorem duties_rcv (hh : h < hops d i) : (sched X).duties (rcvC n d h i) (h / 4) = {0} := by
  refine (sched_duties X (pRcv n d h i) (h / 4)).trans (if_pos ?_); rw [hopOf_rcv]; exact hh
theorem duties_bar : (sched X).duties (barC n) 0 = {0, 1} := sched_duties X (n, Ce.bar) 0
theorem duties_cred : (sched X).duties (credC n d) 0 = Finset.range 4 := sched_duties X (n, Ce.cred d) 0

theorem amount_snd (r j : ℕ) : (sched X).amount (sndC n d h i) r j = NB := sched_amount X (pSnd n d h i) r j
theorem amount_rcv (r j : ℕ) : (sched X).amount (rcvC n d h i) r j = NB := sched_amount X (pRcv n d h i) r j
theorem amount_bar (r j : ℕ) : (sched X).amount (barC n) r j = 1 := sched_amount X (n, Ce.bar) r j
theorem amount_cred (r j : ℕ) : (sched X).amount (credC n d) r j = 1 := sched_amount X (n, Ce.cred d) r j

theorem payload_snd (j : ℕ) : (sched X).payload (sndC n d h i) (h / 4) j = owns (n.tc : Thread nD τ) (src d h i) (qS d h) (val X n d h i) := by
  refine (sched_payload X (pSnd n d h i) (h / 4) j).trans ?_
  show sendPay X n d i (hopOf false (slot h) (h / 4)) = _
  rw [hopOf_snd]; rfl
theorem payload_rcv (j : ℕ) : (sched X).payload (rcvC n d h i) (h / 4) j = owns (n.tc : Thread nD τ) (piece d (slot (h + 1)) i) fullShare (val X n d (h + 1) i) := by
  refine (sched_payload X (pRcv n d h i) (h / 4) j).trans ?_
  show recvPay X n d (slot (h + 1)) i (hopOf true (slot (h + 1)) (h / 4)) = _
  rw [hopOf_rcv]; rfl
theorem payload_bar (r j : ℕ) : (sched X).payload (barC n) r j = barPay n (j == 1) := sched_payload X (n, Ce.bar) r j
theorem payload_cred (r j : ℕ) : (sched X).payload (credC n d) r j = credPay n d j := sched_payload X (n, Ce.cred d) r j

theorem expect_snd (hh : h < hops d i) : (sched X).expect (sndC n d h i) (h / 4) = NB := by
  unfold Schedule.expect Schedule.amountOf; rw [duties_snd X n d h i hh, Finset.sum_singleton, amount_snd]
theorem expect_rcv (hh : h < hops d i) : (sched X).expect (rcvC n d h i) (h / 4) = NB := by
  unfold Schedule.expect Schedule.amountOf; rw [duties_rcv X n d h i hh, Finset.sum_singleton, amount_rcv]
theorem expect_bar : (sched X).expect (barC n) 0 = 2 := sched_expect X (n, Ce.bar) 0
theorem expect_cred : (sched X).expect (credC n d) 0 = 4 := sched_expect X (n, Ce.cred d) 0

end Cell

/-- From round 2 on no cell has duties, and the barrier and credit cells have none from round 1 on. -/
theorem duties_end (p : Dev nD × Ce) (R : ℕ) (hR : R = 2 ∨ (R = 1 ∧ ∀ y, p.2 ≠ .inr (.inr y))) (r : ℕ) (hr : R ≤ r) :
    (sched X).duties (kcell p) r = ∅ := by
  rw [sched_duties]
  obtain ⟨n, x⟩ := p
  rcases x with _ | _ | ⟨b, d, s, i⟩
  · exact if_neg (by omega)
  · exact if_neg (by omega)
  · rcases hR with rfl | ⟨-, hR⟩
    · refine if_neg ?_
      have h1 : hops d i ≤ 8 := by unfold hops; split <;> omega
      have h2 : 8 ≤ hopOf b s r := by unfold hopOf; cases b <;> simp <;> omega
      omega
    · exact absurd rfl (hR _)

end Defs

/-! ## Levels -/

def L (g : GSem nD τ sig) : Finset ℕ := if g.1.2 = .tc then Finset.range 64 else ∅
def lv (_ : GSem nD τ sig) (i : ℕ) : ℕ := i

theorem L_of_ne (g : GSem nD τ sig) (h : g.1.2 ≠ .tc) : L g = ∅ := if_neg h
theorem L_tc (c : Dev nD) (sm : SemLoc sig) : L ((c.tc : Thread nD τ), sm) = Finset.range 64 := if_pos rfl

end Cert.RingProof

end
-- ==== Proof.State.lean ====
/-
The state a device is in between two instructions: which resources it holds, as sets of bits.

`pre i σ` says that state `σ` holds what instruction `i` uses, `next i σ` is the state after it, and
`ok l σ` that a list can be run from `σ`.  `ok_prog` evaluates that for the kernel's list.
-/
module

public import proofs.«01_k».proof.Proof.Proto

@[expose] public section

noncomputable section

namespace Cert.RingProof

open Cert.KernelIdeal
open Idealize.ShloMosaic

/-- Which resources are held; what each bit stands for is `ST`. -/
structure St where
  /-- barrier signals still to send -/
  bs : ℕ
  /-- the barrier: 1 before the wait, 2 after -/
  ba : ℕ
  /-- transfers still to start -/
  ts : ℕ
  /-- transfers started and not waited for -/
  cs : ℕ
  /-- arrivals not waited for -/
  cr : ℕ
  /-- positions at the send cells -/
  ps : ℕ
  /-- positions at the receive cells -/
  pr : ℕ
  /-- pieces of the neighbours that may be sent into -/
  pm : ℕ
  /-- what the transfers read -/
  ss : ℕ
  /-- what the products read -/
  ls : ℕ
  /-- credits still to give -/
  cg : ℕ
  /-- how many credits are given -/
  cq : ℕ
  /-- credits still to wait for -/
  cw : ℕ
  /-- positions at the credit cells -/
  cp : ℕ
  /-- products stored -/
  dn : ℕ

/-- Where every state's debts are, as far as their levels go. -/
def lim (σ : St) : Bool := decide (σ.ts < 2 ^ 128) && decide (σ.cg < 2 ^ 8)

/-- All of `x`'s bits, and none of them. -/
def has (m x : ℕ) : Bool := m &&& x == x
def no (m x : ℕ) : Bool := m &&& x == 0

/-- The pieces of a hop, as bits. -/
def pmask (d : Bool) (h : ℕ) : ℕ := if h = 7 then (bif d then 0xF0 else 0x0F) else 0xFF

def pre : Instr → St → Bool
  | .barSig d, σ => has σ.bs (2 ^ d.toNat)
  | .barWait, σ => lim σ && (σ.bs == 0 && (σ.ba == 1 && no σ.pm (2 ^ 64 - 1)))
  | .send d h i, σ => decide (h < hops d i) && (has σ.ts (bit3 d h i) && (has σ.ps (bit3 d h i) && (has σ.pm (bit3 d h i) && (has σ.ss (bit3 d h i) && no σ.cs (bit3 d h i)))))
  | .recv d h i, σ => lim σ && (decide (h < hops d i) && (has σ.cr (bit3 d h i) && (has σ.pr (bit3 d h i) && (no (σ.pr ^^^ bit3 d h i) (bit3 d (h + 4) i)
      && (no σ.ss (bit3 d (h + 1) i) && (no σ.ls (bit3 d (h + 1) i) && (σ.ts % 2 ^ (16 * (h + 1)) == 0 && (σ.cg % 2 ^ (2 * (h - 1)) == 0 && σ.bs == 0))))))))
  | .sent d h i, σ => lim σ && (decide (h < hops d i) && (has σ.cs (bit3 d h i) && (has σ.ps (bit3 d h i) && (no (σ.ps ^^^ bit3 d h i) (bit3 d (h + 4) i)
      && no σ.ss (bit3 d h i)))))
  | .credSig d k, σ => decide (k < 4) && (has σ.cg (bit2 d k) && (has σ.cq (bit2 d k) && (no (σ.cq ^^^ bit2 d k) (bit2 d (k + 1))
      && (has σ.pr (row d (k + 4) 0xFF) && (has σ.ss (row d (k + 1) (pmask d (k + 4))) && has σ.ls (row d (k + 1) (pmask d (k + 4))))))))
  | .credWait d k, σ => lim σ && (decide (k < 4) && (has σ.cw (bit2 d k) && (has σ.cp (bit2 d k) && (no (σ.cp ^^^ bit2 d k) (bit2 d (k + 1))
      && (no σ.pm (row d (k + 4) (pmask d (k + 4))) && (σ.ts % 2 ^ (16 * (k + 2)) == 0 && (σ.cg % 2 ^ (2 * (k + 1)) == 0 && σ.bs == 0)))))))
  | .gemmOwn, _ => true
  | .gemm d h, σ => decide (1 ≤ h ∧ h ≤ 7) && has σ.ls (row d h 0xFF)
  | .gemmHalf d, σ => has σ.ls (row d 8 (pmask d 7))

def next : Instr → St → St
  | .barSig d, σ => { σ with bs := σ.bs ^^^ 2 ^ d.toNat }
  | .barWait, σ => { σ with ba := 2, pm := σ.pm ^^^ (2 ^ 64 - 1) }
  | .send d h i, σ => { σ with ts := σ.ts ^^^ bit3 d h i, pm := σ.pm ^^^ bit3 d h i, ss := σ.ss ^^^ bit3 d h i, cs := σ.cs ^^^ bit3 d h i }
  | .recv d h i, σ => { σ with cr := σ.cr ^^^ bit3 d h i, pr := (σ.pr ^^^ bit3 d h i) ^^^ bit3 d (h + 4) i,
                               ss := σ.ss ^^^ bit3 d (h + 1) i, ls := σ.ls ^^^ bit3 d (h + 1) i }
  | .sent d h i, σ => { σ with cs := σ.cs ^^^ bit3 d h i, ps := (σ.ps ^^^ bit3 d h i) ^^^ bit3 d (h + 4) i, ss := σ.ss ^^^ bit3 d h i }
  | .credSig d k, σ => { σ with cg := σ.cg ^^^ bit2 d k, cq := (σ.cq ^^^ bit2 d k) ^^^ bit2 d (k + 1),
                                ss := σ.ss ^^^ row d (k + 1) (pmask d (k + 4)), ls := σ.ls ^^^ row d (k + 1) (pmask d (k + 4)) }
  | .credWait d k, σ => { σ with cw := σ.cw ^^^ bit2 d k, cp := (σ.cp ^^^ bit2 d k) ^^^ bit2 d (k + 1),
                                 pm := σ.pm ^^^ row d (k + 4) (pmask d (k + 4)) }
  | .gemmOwn, σ => { σ with dn := σ.dn ||| 1 }
  | .gemm d h, σ => { σ with dn := σ.dn ||| 2 ^ (2 * h + d.toNat) }
  | .gemmHalf d, σ => { σ with dn := σ.dn ||| 2 ^ (16 + d.toNat) }

def ok : List Instr → St → Bool
  | [], _ => true
  | i :: l, σ => pre i σ && ok l (next i σ)

def after : List Instr → St → St
  | [], σ => σ
  | i :: l, σ => after l (next i σ)

/-- The bits of all transfers: hops 0 to 6 of every piece, and hop 7 of the last hop's pieces. -/
def allT : ℕ := 2 ^ 112 - 1 + (0xF00F <<< 112)

/-- At launch. -/
def σ₀ : St where
  bs := 3
  ba := 1
  ts := allT
  cs := 0
  cr := allT
  ps := 2 ^ 64 - 1
  pr := 2 ^ 64 - 1
  pm := 0
  ss := 0xFFFF
  ls := 0
  cg := 0xFF
  cq := 3
  cw := 0xFF
  cp := 3
  dn := 0

/-- The pieces in place at the end: slots 1, 2, 3 from hops 4, 5, 6; slot 0 from hop 7 or, where hop 7 does
    not go, from hop 3. -/
def lastM : ℕ := row false 4 0xF0 + row true 4 0x0F + (0xFFFFFFFFFFFF <<< 80) + row false 8 0x0F + row true 8 0xF0

/-- The positions at the end: every cell past its last round. -/
def lastP : ℕ := ((2 ^ 48 - 1) <<< 128) + row false 11 0x0F + row true 11 0xF0 + row false 7 0xF0 + row true 7 0x0F

/-- At the end. -/
def σ₁ : St where
  bs := 0
  ba := 2
  ts := 0
  cs := 0
  cr := 0
  ps := lastP
  pr := lastP
  pm := 0
  ss := 0xFFFF + lastM
  ls := lastM
  cg := 0
  cq := 0x300
  cw := 0
  cp := 0x300
  dn := 2 ^ 18 - 1 - 2

theorem ok_prog : ok prog σ₀ = true := by decide +kernel

theorem after_prog : after prog σ₀ = σ₁ := by
  have h : ∀ σ τ : St, (σ.bs == τ.bs && (σ.ba == τ.ba && (σ.ts == τ.ts && (σ.cs == τ.cs && (σ.cr == τ.cr && (σ.ps == τ.ps && (σ.pr == τ.pr
      && (σ.pm == τ.pm && (σ.ss == τ.ss && (σ.ls == τ.ls && (σ.cg == τ.cg && (σ.cq == τ.cq && (σ.cw == τ.cw && (σ.cp == τ.cp && σ.dn == τ.dn)))))))))))))) = true → σ = τ := by
    rintro ⟨⟩ ⟨⟩ h
    simp only [Bool.and_eq_true, beq_iff_eq] at h
    simp only [St.mk.injEq]; exact h
  exact h _ _ (by decide +kernel)

end Cert.RingProof

end
-- ==== Proof.Res.lean ====
/-
What a device holds in a state: the resources behind the bits, what it owes, and the facts every step
uses.
-/
module

public import proofs.«01_k».proof.Proof.State

@[expose] public section

noncomputable section

namespace Cert.RingProof

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (released readerAt writeTok releaseAuth slotInv)

variable {F : FTy → Type} [FloatOps F]

local notation "𝕄" => MT nD τ sig ℕ (Elt F) ℕ UU ℕ

abbrev 𝒱₀ : Variants := Variants.none

/-- A program of device `c`'s body, run to `Q`. -/
abbrev WP (c : Dev nD) (P : Prog (TpuEff nD τ sig (Elt F) Λ₀ .tc) PUnit) (Q : PUnit → sProp 𝕄) : sProp 𝕄 :=
  wp frame (wpE (defs₀ (F := F)) 𝒱₀ (c.tc : Thread nD τ) none) Set.univ P Q

theorem elim' {M : Type} [URA M] {I : Type} {s : Finset I} {i : I} (h : i ∈ s) {Φ : I → sProp M} : (bigSep s Φ : sProp M) ⊢ Φ i := by
  classical exact bigSep_elim h

/-! ## What a device owes -/

def oB (c : Dev nD) (m : ℕ) : CellTallies nD τ sig ℕ := famSum m fun n => tallyAt (barC (toward c (n == 1))) 1 1
def oG (c : Dev nD) (m : ℕ) : CellTallies nD τ sig ℕ := famSum m fun n => tallyAt (credC (toward c (!dd n)) (dd n)) (2 * dk n + 5) 1
def oT (c : Dev nD) (m : ℕ) : CellTallies nD τ sig ℕ := famSum m fun n => tallyAt (rcvC (toward c (kd n)) (kd n) (kh n) (ki n)) (2 * kh n + 2) NB

def owe (c : Dev nD) (σ : St) : CellTallies nD τ sig ℕ := (oB c σ.bs + oG c σ.cg) + oT c σ.ts

theorem oB_take (c : Dev nD) {m : ℕ} (d : Bool) (h : m &&& 2 ^ d.toNat = 2 ^ d.toNat) :
    oB c m = oB c (m ^^^ 2 ^ d.toNat) + tallyAt (barC (toward c d)) 1 1 := by
  have := famSum_take h fun n => tallyAt (barC (toward c (n == 1))) 1 1
  rwa [show (d.toNat == 1) = d from by cases d <;> rfl] at this
theorem oG_take (c : Dev nD) {m : ℕ} (d : Bool) (k : ℕ) (h : m &&& bit2 d k = bit2 d k) :
    oG c m = oG c (m ^^^ bit2 d k) + tallyAt (credC (toward c (!d)) d) (2 * k + 5) 1 := by
  have := famSum_take h fun n => (tallyAt (credC (toward c (!dd n)) (dd n)) (2 * dk n + 5) 1 : CellTallies nD τ sig ℕ)
  rwa [dd_key, dk_key] at this
theorem oT_take (c : Dev nD) {m : ℕ} (d : Bool) (h : ℕ) (i : Fin 8) (hm : m &&& bit3 d h i = bit3 d h i) :
    oT c m = oT c (m ^^^ bit3 d h i) + tallyAt (rcvC (toward c d) d h i) (2 * h + 2) NB := by
  have := famSum_take hm fun n => (tallyAt (rcvC (toward c (kd n)) (kd n) (kh n) (ki n)) (2 * kh n + 2) NB : CellTallies nD τ sig ℕ)
  rwa [kd_key, kh_key, ki_key] at this

theorem bits_lt {m B n : ℕ} (hB : m < 2 ^ B) (hn : n ∈ bits m) : n < B :=
  (Nat.pow_lt_pow_iff_right (by decide)).mp (lt_of_le_of_lt (Nat.ge_two_pow_of_testBit (mem_bits.mp hn)) hB)

theorem tallyAt_pos {g g' : GSem nD τ sig} {ι i k : ℕ} (h : 0 < (tallyAt g ι k : CellTallies nD τ sig ℕ) g' i) : g' = g ∧ i = ι := by
  rw [tallyAt_apply] at h
  by_contra hn
  rw [if_neg hn] at h; exact Nat.lt_irrefl 0 h

theorem add_pos_cases {A B : CellTallies nD τ sig ℕ} {g : GSem nD τ sig} {i : ℕ} (h : 0 < (A + B) g i) : 0 < A g i ∨ 0 < B g i := by
  rw [Pi.add_apply, Finsupp.add_apply] at h; omega

/-- A wait at index `ι` is below everything still owed. -/
theorem mayWait_owe (c : Dev nD) (sm : SemLoc sig) (σ : St) (hl : lim σ = true) (ι a b : ℕ) (hι : ι < 64)
    (ha : σ.ts % 2 ^ (16 * a) = 0) (hb : σ.cg % 2 ^ (2 * b) = 0) (hbs : σ.bs = 0 ∨ ι < 1) (h1 : ι < 2 * a + 2) (h2 : ι < 2 * b + 5) :
    (levAts L lv : sProp 𝕄) ⊢ MayWait (c.tc : Thread nD τ) sm ι (owe c σ) := by
  have hl' : σ.ts < 2 ^ 128 ∧ σ.cg < 2 ^ 8 := by
    unfold lim at hl; rwa [Bool.and_eq_true, decide_eq_true_eq, decide_eq_true_eq] at hl
  refine Pipeline.mayWait_of_levAts (by rw [L_tc]; exact Finset.mem_range.mpr hι) fun g i hg => ?_
  show i ∈ L g ∧ ι < i
  rcases add_pos_cases hg with hg | hg
  · rcases add_pos_cases hg with hg | hg
    · obtain ⟨n, hn, hg⟩ := Pipeline.sum_pos_exists hg
      obtain ⟨rfl, rfl⟩ := tallyAt_pos hg
      rw [L_tc]
      rcases hbs with h0 | h0
      · rw [h0, bits_zero] at hn; exact absurd hn (Finset.notMem_empty _)
      · exact ⟨by decide, h0⟩
    · obtain ⟨n, hn, hg⟩ := Pipeline.sum_pos_exists hg
      obtain ⟨rfl, rfl⟩ := tallyAt_pos hg
      rw [L_tc]
      have := le_of_mod hb hn
      have h8 := bits_lt hl'.2 hn
      unfold dk
      exact ⟨Finset.mem_range.mpr (by omega), by omega⟩
  · obtain ⟨n, hn, hg⟩ := Pipeline.sum_pos_exists hg
    obtain ⟨rfl, rfl⟩ := tallyAt_pos hg
    rw [L_tc]
    have := le_of_mod ha hn
    have h8 := bits_lt hl'.1 hn
    unfold kh
    exact ⟨Finset.mem_range.mpr (by omega), by omega⟩

/-! ## The result -/

section Result

variable (X : Dev nD → S256x4096.Idx → Elt F .f32) (Wt : Dev nD → S4096x512.Idx → Elt F .f32)

/-- The upper or lower half of a block. -/
def halfOf (x : S256x4096.Idx → Elt F .f32) (d : Bool) : S128x4096.Idx → Elt F .f32 := fun j =>
  x (ix2 (n0 := 256) (n1 := 4096) ⟨128 * d.toNat + (j 0).val, half_lt d (j 0)⟩ (j 1))

/-- The block of 256 rows a row of the result is in, and the row within it, and the same of blocks of 128 rows. -/
def blk (y : S4096x512.Idx) : ℕ := (y 0).val / 256
def blkDev (y : S4096x512.Idx) : Dev nD := ⟨(y 0).val / 256, by have h : (y 0).val < 4096 := (y 0).isLt; show _ < 16; omega⟩
def in256 (y : S4096x512.Idx) : S256x512.Idx := ix2 (n0 := 256) (n1 := 512) ⟨(y 0).val % 256, by omega⟩ (y 1)
def in128 (y : S4096x512.Idx) : S128x512.Idx := ix2 (n0 := 128) (n1 := 512) ⟨(y 0).val % 128, by omega⟩ (y 1)

/-- What device `c` computes: every block of rows times its `w`; the block that comes last is done in halves. -/
def OUT (c : Dev nD) : S4096x512.Idx → Elt F .f32 := fun y =>
  if (y 0).val / 256 = (org false 8 c).val then payHalf (halfOf (X (org false 8 c)) ((y 0).val / 128 % 2 == 1)) (Wt c) (in128 y)
  else pay (X (blkDev y)) (Wt c) (in256 y)

/-- The rows product `n` stores. -/
def Reg (c : Dev nD) (n : ℕ) (y : S4096x512.Idx) : Prop :=
  if n < 16 then (y 0).val / 256 = (org (dd n) (dk n) c).val else (y 0).val / 128 = 2 * (org false 8 c).val + (n - 16)

/-- The rows of the products done hold what they should. -/
def Agree (c : Dev nD) (m : ℕ) (f : S4096x512.Idx → Elt F .f32) : Prop :=
  ∀ n, m.testBit n = true → ∀ y, Reg c n y → f y = OUT X Wt c y

theorem agree_or (c : Dev nD) {m n : ℕ} {f g : S4096x512.Idx → Elt F .f32} (hf : Agree X Wt c m f)
    (h1 : ∀ y, Reg c n y → g y = OUT X Wt c y) (h2 : ∀ y, ¬ Reg c n y → g y = f y) : Agree X Wt c (m ||| 2 ^ n) g := by
  intro k hk y hy
  by_cases hn : Reg c n y
  · exact h1 y hn
  rw [h2 y hn]
  rw [Nat.testBit_or, Nat.testBit_two_pow, Bool.or_eq_true, decide_eq_true_eq] at hk
  rcases hk with hk | rfl
  · exact hf k hk y hy
  · exact absurd hy hn

/-- At the end every row is as it should be. -/
theorem agree_all (c : Dev nD) {f : S4096x512.Idx → Elt F .f32} (hf : Agree X Wt c (2 ^ 18 - 1 - 2) f) : f = OUT X Wt c := by
  funext y
  have hy : (y 0).val < 4096 := (y 0).isLt
  have hb' : ∀ n : Fin 18, n.val ≠ 1 → (2 ^ 18 - 1 - 2).testBit n.val = true := by decide
  have hb : ∀ n, n ≠ 1 → n < 18 → (2 ^ 18 - 1 - 2).testBit n = true := fun n h h' => hb' ⟨n, h'⟩ h
  rcases org_cover c (blkDev y) with h | ⟨d, h, hh⟩ | h
  · exact hf 0 (by decide) y (by unfold Reg; rw [if_pos (by decide)]; exact congrArg Fin.val h)
  · have hd := Bool.toNat_le d
    refine hf (key2 d (h.val + 1)) (hb _ (by unfold key2; omega) (by unfold key2; omega)) y ?_
    unfold Reg; rw [if_pos (by unfold key2; omega), dd_key, dk_key]; exact congrArg Fin.val hh
  · have h' : (y 0).val / 256 = (org false 8 c).val := congrArg Fin.val h
    rcases (by omega : (y 0).val / 128 = 2 * ((y 0).val / 256) ∨ (y 0).val / 128 = 2 * ((y 0).val / 256) + 1) with h2 | h2
    · exact hf 16 (by decide) y (by unfold Reg; rw [if_neg (by decide)]; omega)
    · exact hf 17 (by decide) y (by unfold Reg; rw [if_neg (by decide)]; omega)

end Result

/-! ## What a device holds -/

section Hold

variable (X : Dev nD → S256x4096.Idx → Elt F .f32) (Wt : Dev nD → S4096x512.Idx → Elt F .f32) (c : Dev nD)

def Rbs (n : ℕ) : sProp 𝕄 :=
  iprop(barPay (F := F) (toward c (n == 1)) (!(n == 1)) ∗ dutyTok ER (barC (toward c (n == 1))) 0 (!(n == 1)).toNat)
def Rba (n : ℕ) : sProp 𝕄 :=
  if n = 1 then iprop(atPos ER (barC c) 0 ∅ 0 ∗ cred (tallyAt (barC c) 1 2)) else atPos ER (barC c) 1 ∅ 0
abbrev Rts (d : Bool) (h : ℕ) (i : Fin 8) : sProp 𝕄 :=
  iprop(dutyTok ER (sndC c d h i) (h / 4) 0 ∗ dutyTok ER (rcvC (toward c d) d h i) (h / 4) 0)
abbrev Rcs (d : Bool) (h : ℕ) (i : Fin 8) : sProp 𝕄 := cred (tallyAt (sndC c d h i) 0 NB)
abbrev Rcr (d : Bool) (h : ℕ) (i : Fin 8) : sProp 𝕄 := cred (tallyAt (rcvC c d h i) (2 * h + 2) NB)
abbrev Rps (d : Bool) (h : ℕ) (i : Fin 8) : sProp 𝕄 := iprop(atPos ER (sndC c d h i) (h / 4) ∅ 0 ∗ reached ER (sndC c d h i) (h / 4))
abbrev Rpr (d : Bool) (h : ℕ) (i : Fin 8) : sProp 𝕄 := iprop(atPos ER (rcvC c d h i) (h / 4) ∅ 0 ∗ reached ER (rcvC c d h i) (h / 4))
abbrev Rss (d : Bool) (h : ℕ) (i : Fin 8) : sProp 𝕄 := owns (c.tc : Thread nD τ) (src d h i) (qS d h) (val X c d h i)
abbrev Rls (d : Bool) (h : ℕ) (i : Fin 8) : sProp 𝕄 := owns (c.tc : Thread nD τ) (src d h i) fullShare.right (val X c d h i)
abbrev Rcg (d : Bool) (k : ℕ) : sProp 𝕄 := iprop(dutyTok ER (credC (toward c (!d)) d) 0 k ∗ readerAt EC (c, d, k) 0)
def Rcq (d : Bool) (k : ℕ) : sProp 𝕄 := bigSep (Finset.range k) fun j => relPay (F := F) c d j
abbrev Rcw (d : Bool) (k : ℕ) : sProp 𝕄 := iprop(cred (tallyAt (credC c d) (2 * k + 5) 1) ∗ writeTok EC (toward c d, d, k) 1)
def Rcp (d : Bool) (k : ℕ) : sProp 𝕄 :=
  if k < 4 then iprop(∃ T : Finset ℕ, ⌜T ⊆ Finset.range 4 ∧ k ≤ T.card⌝ ∗ atPos ER (credC c d) 0 T k ∗ bigSep T (credPay (F := F) c d))
  else atPos ER (credC c d) 1 ∅ 0

/-- The staged `x`, as far as it is not lent to the transfers; the staged `w`; and the result so far. -/
def Rx : sProp 𝕄 := owns (c.tc : Thread nD τ) xM fullShare.right (X c)
def Rw : sProp 𝕄 := owns (c.tc : Thread nD τ) wM fullShare (Wt c)
def Rout (m : ℕ) : sProp 𝕄 :=
  iprop(∃ f : S4096x512.Idx → Elt F .f32, ⌜Agree X Wt c m f⌝ ∗ ((oM.view.loc (c.tc : Thread nD τ)) ↦{fullShare} f))

def ST (σ : St) : sProp 𝕄 :=
  iprop((∃ W, owes (c.tc : Thread nD τ) (owe c σ) W)
    ∗ fam σ.bs (Rbs (F := F) c) ∗ Rba (F := F) c σ.ba ∗ fam3 σ.ts (Rts (F := F) c) ∗ fam3 σ.cs (Rcs (F := F) c) ∗ fam3 σ.cr (Rcr (F := F) c)
    ∗ fam3 σ.ps (Rps (F := F) c) ∗ fam3 σ.pr (Rpr (F := F) c) ∗ fam3 σ.pm (pmRes (F := F) c) ∗ fam3 σ.ss (Rss X c) ∗ fam3 σ.ls (Rls X c)
    ∗ fam2 σ.cg (Rcg (F := F) c) ∗ fam2 σ.cq (Rcq (F := F) c) ∗ fam2 σ.cw (Rcw (F := F) c) ∗ fam2 σ.cp (Rcp (F := F) c)
    ∗ Rx X c ∗ Rw Wt c ∗ Rout X Wt c σ.dn)

variable (K : Dev nD × Ce → ℕ) (KS : Dev nD × Bool × Fin 4 → ℕ)

/-- What every device knows: the invariants, that every cell has reached round 0, and the levels. -/
def Recs : sProp 𝕄 :=
  iprop(bigSep Finset.univ (fun p : Dev nD × Ce => cellInv ER (sched X) (K p) (kcell p))
    ∗ bigSep Finset.univ (fun p : Dev nD × Bool × Fin 4 => slotInv EC (KS p) (p.1, p.2.1, p.2.2.val) (slotRes (F := F) p.1 p.2.1 p.2.2.val))
    ∗ bigSep Finset.univ (fun p : Dev nD × Ce => reached ER (kcell p) 0) ∗ levAts L lv)

instance recs_persistent : BI.Persistent (Recs X K KS) := by unfold Recs; infer_instance

theorem recs_cell (p : Dev nD × Ce) : Recs X K KS ⊢ cellInv ER (sched X) (K p) (kcell p) := by
  unfold Recs; iintro ⟨H, -⟩; iapply (elim' (Finset.mem_univ p)) $$ H
theorem recs_slot (n : Dev nD) (d : Bool) (k : ℕ) (hk : k < 4) :
    Recs X K KS ⊢ slotInv EC (KS (n, d, ⟨k, hk⟩)) (n, d, k) (slotRes (F := F) n d k) := by
  unfold Recs; iintro ⟨-, H, -⟩;
  iapply (elim' (Φ := fun p : Dev nD × Bool × Fin 4 => slotInv EC (KS p) (p.1, p.2.1, p.2.2.val) (slotRes (F := F) p.1 p.2.1 p.2.2.val))
    (Finset.mem_univ ((n, d, ⟨k, hk⟩) : Dev nD × Bool × Fin 4))) $$ H
theorem recs_reached (p : Dev nD × Ce) : Recs X K KS ⊢ reached ER (kcell p) 0 := by
  unfold Recs; iintro ⟨-, -, H, -⟩; iapply (elim' (Finset.mem_univ p)) $$ H
theorem recs_lev : (Recs X K KS : sProp 𝕄) ⊢ (levAts L lv : sProp 𝕄) := by
  unfold Recs; iintro ⟨-, -, -, H⟩; iexact H

theorem recs_may (sm : SemLoc sig) (σ : St) (hl : lim σ = true) (ι a b : ℕ) (hι : ι < 64)
    (ha : σ.ts % 2 ^ (16 * a) = 0) (hb : σ.cg % 2 ^ (2 * b) = 0) (hbs : σ.bs = 0 ∨ ι < 1) (h1 : ι < 2 * a + 2) (h2 : ι < 2 * b + 5) :
    Recs X K KS ⊢ (MayWait (c.tc : Thread nD τ) sm ι (owe c σ) : sProp 𝕄) :=
  (@recs_lev F _ X K KS).trans (mayWait_owe c sm σ hl ι a b hι ha hb hbs h1 h2)

end Hold

theorem slot_add4 (h : ℕ) : slot (h + 4) = slot h := Fin.ext (show (h + 4) % 4 = h % 4 by omega)
theorem slot_add5 (h : ℕ) : slot (h + 4 + 1) = slot (h + 1) := Fin.ext (show (h + 4 + 1) % 4 = (h + 1) % 4 by omega)
theorem div_add4 (h : ℕ) : (h + 4) / 4 = h / 4 + 1 := by omega
theorem snd_add4 (c : Dev nD) (d : Bool) (h : ℕ) (i : Fin 8) : sndC c d (h + 4) i = sndC c d h i := by unfold sndC sendSem; rw [slot_add4]
theorem rcv_add4 (c : Dev nD) (d : Bool) (h : ℕ) (i : Fin 8) : rcvC c d (h + 4) i = rcvC c d h i := by unfold rcvC recvSem; rw [slot_add5]

theorem pmask_filter4 : ∀ (d : Bool) (k : Fin 4), (Finset.univ.filter fun i : Fin 8 => (pmask d (k.val + 4)).testBit i.val = true) = pset d (k.val + 4) := by
  decide +kernel
theorem pmask_filter (d : Bool) (k : ℕ) (hk : k < 4) :
    (Finset.univ.filter fun i : Fin 8 => (pmask d (k + 4)).testBit i.val = true) = pset d (k + 4) := pmask_filter4 d ⟨k, hk⟩
theorem pmask_lt (d : Bool) (h : ℕ) : pmask d h < 2 ^ 8 := by unfold pmask; cases d <;> split <;> decide
theorem full_filter : (Finset.univ.filter fun i : Fin 8 => (0xFF : ℕ).testBit i.val = true) = Finset.univ := by decide

end Cert.RingProof

end
-- ==== Proof.Steps.lean ====
/-
One step of a device per kind of instruction: from a state that holds what the instruction uses, it runs,
and leaves the device in the next state.
-/
module

public import proofs.«01_k».proof.Proof.Res

@[expose] public section

noncomputable section

namespace Cert.RingProof

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (released readerAt writeTok releaseAuth slotInv)

variable {F : FTy → Type} [FloatOps F]

local notation "𝕄" => MT nD τ sig ℕ (Elt F) ℕ UU ℕ

variable (X : Dev nD → S256x4096.Idx → Elt F .f32) (Wt : Dev nD → S4096x512.Idx → Elt F .f32) (c : Dev nD)
variable (K : Dev nD × Ce → ℕ) (KS : Dev nD × Bool × Fin 4 → ℕ)
variable (k : Prog (TpuEff nD τ sig (Elt F) Λ₀ .tc) PUnit)

/-- The soundness of one instruction in a state. -/
def Step (Q : PUnit → sProp 𝕄) (i : Instr) (σ : St) : Prop :=
  iprop(Recs X K KS ∗ ST X Wt c σ ∗ (ST X Wt c (next i σ) -∗ WP c k Q)) ⊢ WP c (i.run c k) Q

/-! ## The barrier -/

theorem bs_take {m : ℕ} (d : Bool) (h : m &&& 2 ^ d.toNat = 2 ^ d.toNat) : fam m (Rbs (F := F) c)
    ⊢ iprop((barPay (F := F) (toward c d) (!d) ∗ dutyTok ER (barC (toward c d)) 0 (!d).toNat) ∗ fam (m ^^^ 2 ^ d.toNat) (Rbs (F := F) c)) := by
  have := fam_take1 h (Rbs (F := F) c)
  unfold Rbs at this ⊢
  rwa [show (d.toNat == 1) = d from by cases d <;> rfl] at this

theorem step_barSig (d : Bool) (σ : St) (Q : PUnit → sProp 𝕄) (h : pre (.barSig d) σ = true) : Step X Wt c K KS k Q (.barSig d) σ := by
  simp only [pre, has, beq_iff_eq] at h
  unfold Step ST
  iintro ⟨#HR, ⟨⟨%W, HO⟩, Hbs, Hba, Hts, Hcs, Hcr, Hps, Hpr, Hpm, Hss, Hls, Hcg, Hcq, Hcw, Hcp, Hx, Hw, Hout⟩, Hk⟩
  ihave Hb := (bs_take c d h) $$ Hbs
  icases Hb with ⟨⟨Hpay, Htok⟩, Hbs⟩
  iapply (Rounds.wp_signal 𝒱₀ ER (sched X) (c.tc : Thread nD τ) none (dst := ((toward c d).tc : Thread nD τ)) (sem := barS) (r := 0)
      (d := (!d).toNat) (k' := 1) (κ := K (toward c d, Ce.bar)) (by rw [duties_bar]; cases d <;> decide) (amount_bar X (toward c d) 0 _) 1
      (O₀ := owe c σ) (owe c (next (.barSig d) σ))
      (by unfold owe; rw [oB_take c d h]; dsimp only [next]; ac_rfl)) $$ [HO Hpay Htok]
  · isplitr; · iapply (recs_cell X K KS (toward c d, Ce.bar)); iexact HR
    isplitl [HO]; · iexact HO
    isplitl [Htok]; · iexact Htok
    isplitl [Hpay]
    · iapply (Entails.of_eq (show (barPay (F := F) (toward c d) (!d) : sProp 𝕄) = (sched X).payload (barC (toward c d)) 0 (!d).toNat from by
        rw [payload_bar]; cases d <;> rfl)) $$ Hpay
    · iapply (recs_reached X K KS (toward c d, Ce.bar)); iexact HR
  iintro HO
  iapply Hk
  isplitl [HO]; · iexists W; iexact HO
  isplitl [Hbs]; · iexact Hbs
  isplitl [Hba]; · iexact Hba
  isplitl [Hts]; · iexact Hts
  isplitl [Hcs]; · iexact Hcs
  isplitl [Hcr]; · iexact Hcr
  isplitl [Hps]; · iexact Hps
  isplitl [Hpr]; · iexact Hpr
  isplitl [Hpm]; · iexact Hpm
  isplitl [Hss]; · iexact Hss
  isplitl [Hls]; · iexact Hls
  isplitl [Hcg]; · iexact Hcg
  isplitl [Hcq]; · iexact Hcq
  isplitl [Hcw]; · iexact Hcw
  isplitl [Hcp]; · iexact Hcp
  isplitl [Hx]; · iexact Hx
  isplitl [Hw]; · iexact Hw
  iexact Hout

theorem key_inj (p p' : Bool × Fin 4 × Fin 8) (h : key p.1 p.2.1.val p.2.2 = key p'.1 p'.2.1.val p'.2.2) : p = p' := by
  obtain ⟨d, s, i⟩ := p
  obtain ⟨d', s', i'⟩ := p'
  have e1 := congrArg kd h; have e2 := congrArg kh h; have e3 := congrArg ki h
  rw [kd_key, kd_key] at e1; rw [kh_key, kh_key] at e2; rw [ki_key, ki_key] at e3
  dsimp only at e1 e2 e3
  rw [e1, Fin.ext e2, e3]

theorem all_bits : bits (2 ^ 64 - 1) = (Finset.univ : Finset (Bool × Fin 4 × Fin 8)).image fun p => key p.1 p.2.1.val p.2.2 :=
  bits_eq _ _ _ 64 (by decide) (by decide +kernel)

/-- The family over every piece of every slot in both directions. -/
theorem fam3_all (R : Bool → ℕ → Fin 8 → sProp 𝕄) :
    fam3 (2 ^ 64 - 1) R = bigSep Finset.univ fun p : Bool × Fin 4 × Fin 8 => R p.1 p.2.1.val p.2.2 := by
  unfold fam3
  rw [fam_image Finset.univ (fun p : Bool × Fin 4 × Fin 8 => key p.1 p.2.1.val p.2.2) (fun p _ p' _ h => key_inj p p' h) _ all_bits]
  exact bigSep_congr fun p _ => by rw [kd_key, kh_key, ki_key]

theorem fam3_all' (R : Bool → ℕ → Fin 8 → sProp 𝕄) :
    fam3 (2 ^ 64 - 1) R = iprop((bigSep Finset.univ fun p : Fin 4 × Fin 8 => R false p.1.val p.2) ∗ bigSep Finset.univ fun p : Fin 4 × Fin 8 => R true p.1.val p.2) := by
  rw [fam3_all, bigSep_univ_prod (fun p : Bool × Fin 4 × Fin 8 => R p.1 p.2.1.val p.2.2), bigSep_univ_eq_bigSepL [false, true] (by decide) (by decide), bigSepL_cons_cons, bigSepL_singleton]
  rfl

theorem rest_bar : bigSep ((sched X).duties (barC c) 0 \ ∅) (fun j => (sched X).payload (barC c) 0 j)
    = fam3 (2 ^ 64 - 1) (pmRes (F := F) c) := by
  rw [Finset.sdiff_empty, duties_bar, fam3_all', bigSep_insert (by decide), bigSep_singleton, payload_bar, payload_bar]
  rfl

theorem step_barWait (σ : St) (Q : PUnit → sProp 𝕄) (h : pre .barWait σ = true) : Step X Wt c K KS k Q .barWait σ := by
  simp only [pre, no, Bool.and_eq_true, beq_iff_eq] at h
  obtain ⟨hl, h0, h1, h2⟩ := h
  have e0 : Rba (F := F) c σ.ba = iprop(atPos ER (barC c) 0 ∅ 0 ∗ cred (tallyAt (barC c) 1 2)) := by rw [h1]; rfl
  unfold Step ST
  iintro ⟨#HR, ⟨⟨%W, HO⟩, Hbs, Hba, Hts, Hcs, Hcr, Hps, Hpr, Hpm, Hss, Hls, Hcg, Hcq, Hcw, Hcp, Hx, Hw, Hout⟩, Hk⟩
  ihave Hb := (Entails.of_eq e0) $$ Hba
  icases Hb with ⟨Hat, Hcb⟩
  iapply (Rounds.wp_wait_rest_token 𝒱₀ ER (sched X) (c.tc : Thread nD τ) none (sm := .reg barS) (κ := K (c, Ce.bar))
      (wpE_semWait_eq 𝒱₀ (c.tc : Thread nD τ) none Set.univ) (Set.mem_univ _) 1 (O := owe c σ) (W := W) (R := 0) (m := 0) (T := ∅)
      (expect_bar X c).symm) $$ [HO Hat Hcb]
  · isplitr; · iapply (recs_cell X K KS (c, Ce.bar)); iexact HR
    isplitl [Hcb]; · iexact Hcb
    isplitl [HO]; · iexact HO
    isplitr
    · iapply (recs_may X c K KS (.reg barS) σ hl 1 0 0 (by decide) (Nat.mod_one _) (Nat.mod_one _) (.inl h0) (by decide) (by decide)); iexact HR
    iexact Hat
  iintro ⟨HO, Hba, -, Hpay⟩
  ihave Hba := (Entails.of_eq (show (atPos ER (barC c) (0 + 1) ∅ 0 : sProp 𝕄) = Rba c 2 from rfl)) $$ Hba
  ihave Hp := (Entails.of_eq (rest_bar X c)) $$ Hpay
  ihave Hpm := (fam3_put h2 (pmRes (F := F) c)) $$ [Hp Hpm]
  · isplitl [Hp]; · iexact Hp
    iexact Hpm
  iapply Hk
  isplitl [HO]; · iexists _; iexact HO
  isplitl [Hbs]; · iexact Hbs
  isplitl [Hba]; · iexact Hba
  isplitl [Hts]; · iexact Hts
  isplitl [Hcs]; · iexact Hcs
  isplitl [Hcr]; · iexact Hcr
  isplitl [Hps]; · iexact Hps
  isplitl [Hpr]; · iexact Hpr
  isplitl [Hpm]; · iexact Hpm
  isplitl [Hss]; · iexact Hss
  isplitl [Hls]; · iexact Hls
  isplitl [Hcg]; · iexact Hcg
  isplitl [Hcq]; · iexact Hcq
  isplitl [Hcw]; · iexact Hcw
  isplitl [Hcp]; · iexact Hcp
  isplitl [Hx]; · iexact Hx
  isplitl [Hw]; · iexact Hw
  iexact Hout

/-! ## Transfers -/

theorem share_split : (fullShare : PosShare TreeShare) ∈ PCS.op fullShare.left fullShare.right := PosShare.mem_left_op_right fullShare

theorem dmaCredit_piece (d : Bool) (s : Fin 4) (i : Fin 8) : (piece d s i).view.dmaCredit = NB := amount_piece d s i (sendSem d 0 i)
theorem dmaCredit_src (d : Bool) (h : ℕ) (i : Fin 8) : (src d h i).view.dmaCredit = NB := amount_src d h i (sendSem d 0 i)

theorem step_send (d : Bool) (h : ℕ) (i : Fin 8) (σ : St) (Q : PUnit → sProp 𝕄) (hp : pre (.send d h i) σ = true) : Step X Wt c K KS k Q (.send d h i) σ := by
  simp only [pre, has, no, Bool.and_eq_true, beq_iff_eq, decide_eq_true_eq] at hp
  obtain ⟨hh, h1, h2, h3, h4, h5⟩ := hp
  have eT : (Rts (F := F) c d h i) = iprop(dutyTok ER (sndC c d h i) (h / 4) 0 ∗ dutyTok ER (rcvC (toward c d) d h i) (h / 4) 0) := rfl
  have eP : (Rps (F := F) c d h i) = iprop(atPos ER (sndC c d h i) (h / 4) ∅ 0 ∗ reached ER (sndC c d h i) (h / 4)) := rfl
  have eM : (pmRes (F := F) c d h i) = iprop((∃ f, ((piece d (slot (h + 1)) i).view.loc ((toward c d).tc : Thread nD τ) ↦[(piece d (slot (h + 1)) i).view.set]{fullShare} f))
      ∗ reached ER (rcvC (toward c d) d h i) (h / 4)) := by unfold pmRes; rw [ownAny_eq]
  have eS : (Rss X c d h i) = iprop(∃ f, ⌜(src d h i).view.read (Elt F) f = val X c d h i⌝ ∗ ((src d h i).view.loc (c.tc : Thread nD τ) ↦[(src d h i).view.set]{qS d h} f)) := rfl
  unfold Step ST
  iintro ⟨#HR, ⟨⟨%W, HO⟩, Hbs, Hba, Hts, Hcs, Hcr, Hps, Hpr, Hpm, Hss, Hls, Hcg, Hcq, Hcw, Hcp, Hx, Hw, Hout⟩, Hk⟩
  ihave H1 := (take3 h1 (Rts (F := F) c)) $$ Hts
  icases H1 with ⟨H1, Hts⟩
  ihave H1 := (Entails.of_eq eT) $$ H1
  icases H1 with ⟨Ht1, Ht2⟩
  ihave H2 := (take3 h2 (Rps (F := F) c)) $$ Hps
  icases H2 with ⟨H2, Hps⟩
  ihave H2 := (Entails.of_eq eP) $$ H2
  icases H2 with ⟨Hat, #Hr1⟩
  ihave Hps := (retake3 h2 (Rps (F := F) c)) $$ [Hat Hps]
  · isplitl [Hat]
    · iapply (Entails.of_eq eP.symm)
      isplitl [Hat]; · iexact Hat
      iexact Hr1
    iexact Hps
  ihave H3 := (take3 h3 (pmRes (F := F) c)) $$ Hpm
  icases H3 with ⟨H3, Hpm⟩
  ihave H3 := (Entails.of_eq eM) $$ H3
  icases H3 with ⟨⟨%fd, Hdst⟩, #Hr2⟩
  ihave H4 := (take3 h4 (Rss X c)) $$ Hss
  icases H4 with ⟨H4, Hss⟩
  ihave H4 := (Entails.of_eq eS) $$ H4
  icases H4 with ⟨%fs, %hfs, Hsrc⟩
  iapply (Rounds.wp_send_pointsTo 𝒱₀ ER (sched X) (c.tc : Thread nD τ) none (c' := ((toward c d).tc : Thread nD τ))
      (src := src d h i) (dst := piece d (slot (h + 1)) i) (sS := .dma (sendSem d h i)) (sem := .dma (recvSem d h i))
      (κ₁ := K (c, Ce.snd d (slot h) i)) (κ₂ := K (toward c d, Ce.rcv d (slot (h + 1)) i))
      (r₁ := h / 4) (r₂ := h / 4) (d₁ := 0) (d₂ := 0) (fs := fs) (fd := fd)
      (by rw [duties_snd X c d h i hh]; exact Finset.mem_singleton_self _) (by rw [duties_rcv X (toward c d) d h i hh]; exact Finset.mem_singleton_self _)
      (2 * h + 2) 0 NB (amount_piece d _ i _) (amount_snd X c d h i _ _) (amount_rcv X (toward c d) d h i _ _)
      (O₀ := owe c σ) (owe c (next (.send d h i) σ)) (by unfold owe; rw [oT_take c d h i h1]; dsimp only [next]; ac_rfl) (W := W)
      (by
        rw [payload_snd]; unfold owns
        iintro H; iexists fs
        isplitr; · ipureintro; exact hfs
        iexact H)
      (by
        rw [payload_rcv, show val X (toward c d) d (h + 1) i = val X c d h i from by unfold val; rw [org_toward]]; unfold owns
        iintro H; iexists _
        isplitr; swap; · iexact H
        ipureintro
        rw [View.read_write_univ, hfs])) $$ [Hsrc Hdst HO Ht1 Ht2]
  · isplitr; · iapply (recs_cell X K KS (c, Ce.snd d (slot h) i)); iexact HR
    isplitr; · iapply (recs_cell X K KS (toward c d, Ce.rcv d (slot (h + 1)) i)); iexact HR
    isplitl [Hsrc]; · iexact Hsrc
    isplitl [Hdst]; · iexact Hdst
    isplitl [HO]; · iexact HO
    isplitl [Ht1]; · iexact Ht1
    isplitr; · iexact Hr1
    isplitl [Ht2]; · iexact Ht2
    iexact Hr2
  iintro ⟨Hc, HO⟩
  ihave Hcs := (put3 h5 (Rcs (F := F) c)) $$ [Hc Hcs]
  · isplitl [Hc]; · iexact Hc
    iexact Hcs
  iapply Hk
  isplitl [HO]; · iexists W; iexact HO
  isplitl [Hbs]; · iexact Hbs
  isplitl [Hba]; · iexact Hba
  isplitl [Hts]; · iexact Hts
  isplitl [Hcs]; · iexact Hcs
  isplitl [Hcr]; · iexact Hcr
  isplitl [Hps]; · iexact Hps
  isplitl [Hpr]; · iexact Hpr
  isplitl [Hpm]; · iexact Hpm
  isplitl [Hss]; · iexact Hss
  isplitl [Hls]; · iexact Hls
  isplitl [Hcg]; · iexact Hcg
  isplitl [Hcq]; · iexact Hcq
  isplitl [Hcw]; · iexact Hcw
  isplitl [Hcp]; · iexact Hcp
  isplitl [Hx]; · iexact Hx
  isplitl [Hw]; · iexact Hw
  iexact Hout

theorem rest_rcv (d : Bool) (h : ℕ) (i : Fin 8) (hh : h < hops d i) :
    bigSep ((sched X).duties (rcvC c d h i) (h / 4) \ ∅) (fun j => (sched X).payload (rcvC c d h i) (h / 4) j)
      ⊢ (iprop(Rss X c d (h + 1) i ∗ Rls X c d (h + 1) i) : sProp 𝕄) := by
  rw [Finset.sdiff_empty, duties_rcv X c d h i hh, bigSep_singleton, payload_rcv, piece_rows]
  exact owns_split (c.tc : Thread nD τ) (rowsOf (slotM d (slot (h + 1))) i) share_split _

theorem step_recv (d : Bool) (h : ℕ) (i : Fin 8) (σ : St) (Q : PUnit → sProp 𝕄) (hp : pre (.recv d h i) σ = true) : Step X Wt c K KS k Q (.recv d h i) σ := by
  simp only [pre, has, no, Bool.and_eq_true, beq_iff_eq, decide_eq_true_eq] at hp
  obtain ⟨hl, hh, h1, h2, h3, h4, h5, h6, h7, h8⟩ := hp
  have h9 : h < 8 := lt_of_lt_of_le hh (by unfold hops; split <;> omega)
  have eP : (Rpr (F := F) c d h i) = iprop(atPos ER (rcvC c d h i) (h / 4) ∅ 0 ∗ reached ER (rcvC c d h i) (h / 4)) := rfl
  have eP' : (Rpr (F := F) c d (h + 4) i) = iprop(atPos ER (rcvC c d h i) (h / 4 + 1) ∅ 0 ∗ reached ER (rcvC c d h i) (h / 4 + 1)) := by
    unfold Rpr; rw [rcv_add4, div_add4]
  unfold Step ST
  iintro ⟨#HR, ⟨⟨%W, HO⟩, Hbs, Hba, Hts, Hcs, Hcr, Hps, Hpr, Hpm, Hss, Hls, Hcg, Hcq, Hcw, Hcp, Hx, Hw, Hout⟩, Hk⟩
  ihave H1 := (take3 h1 (Rcr (F := F) c)) $$ Hcr
  icases H1 with ⟨Hc, Hcr⟩
  ihave H2 := (take3 h2 (Rpr (F := F) c)) $$ Hpr
  icases H2 with ⟨H2, Hpr⟩
  ihave H2 := (Entails.of_eq eP) $$ H2
  icases H2 with ⟨Hat, -⟩
  iapply (Rounds.wp_wait_rest_token 𝒱₀ ER (sched X) (c.tc : Thread nD τ) none (sm := .dma (recvSem d h i)) (k' := NB) (κ := K (c, Ce.rcv d (slot (h + 1)) i))
      (fun Kt => (wpE_waitDma2_eq 𝒱₀ (c.tc : Thread nD τ) none Set.univ Kt).trans (by rw [dmaCredit_piece])) (Set.mem_univ _) (2 * h + 2)
      (O := owe c σ) (W := W) (R := h / 4) (m := 0) (T := ∅)
      (by rw [Nat.zero_add]; exact (expect_rcv X c d h i hh).symm)) $$ [HO Hat Hc]
  · isplitr; · iapply (recs_cell X K KS (c, Ce.rcv d (slot (h + 1)) i)); iexact HR
    isplitl [Hc]; · iexact Hc
    isplitl [HO]; · iexact HO
    isplitr
    · iapply (recs_may X c K KS (.dma (recvSem d h i)) σ hl (2 * h + 2) (h + 1) (h - 1) (by omega) h6 h7 (.inl h8) (by omega) (by omega)); iexact HR
    iexact Hat
  iintro ⟨HO, Hat, Hr, Hpay⟩
  ihave Hp := (rest_rcv X c d h i hh) $$ Hpay
  icases Hp with ⟨Hs, Hl⟩
  ihave Hpr := (put3 h3 (Rpr (F := F) c)) $$ [Hat Hr Hpr]
  · isplitl [Hat Hr]
    · iapply (Entails.of_eq eP'.symm)
      isplitl [Hat]; · iexact Hat
      iexact Hr
    iexact Hpr
  ihave Hss := (put3 h4 (Rss X c)) $$ [Hs Hss]
  · isplitl [Hs]; · iexact Hs
    iexact Hss
  ihave Hls := (put3 h5 (Rls X c)) $$ [Hl Hls]
  · isplitl [Hl]; · iexact Hl
    iexact Hls
  iapply Hk
  isplitl [HO]; · iexists _; iexact HO
  isplitl [Hbs]; · iexact Hbs
  isplitl [Hba]; · iexact Hba
  isplitl [Hts]; · iexact Hts
  isplitl [Hcs]; · iexact Hcs
  isplitl [Hcr]; · iexact Hcr
  isplitl [Hps]; · iexact Hps
  isplitl [Hpr]; · iexact Hpr
  isplitl [Hpm]; · iexact Hpm
  isplitl [Hss]; · iexact Hss
  isplitl [Hls]; · iexact Hls
  isplitl [Hcg]; · iexact Hcg
  isplitl [Hcq]; · iexact Hcq
  isplitl [Hcw]; · iexact Hcw
  isplitl [Hcp]; · iexact Hcp
  isplitl [Hx]; · iexact Hx
  isplitl [Hw]; · iexact Hw
  iexact Hout

theorem rest_snd (d : Bool) (h : ℕ) (i : Fin 8) (hh : h < hops d i) :
    bigSep ((sched X).duties (sndC c d h i) (h / 4) \ ∅) (fun j => (sched X).payload (sndC c d h i) (h / 4) j) = Rss X c d h i := by
  rw [Finset.sdiff_empty, duties_snd X c d h i hh, bigSep_singleton, payload_snd]

theorem step_sent (d : Bool) (h : ℕ) (i : Fin 8) (σ : St) (Q : PUnit → sProp 𝕄) (hp : pre (.sent d h i) σ = true) : Step X Wt c K KS k Q (.sent d h i) σ := by
  simp only [pre, has, no, Bool.and_eq_true, beq_iff_eq, decide_eq_true_eq] at hp
  obtain ⟨hl, hh, h1, h2, h3, h4⟩ := hp
  have eP : (Rps (F := F) c d h i) = iprop(atPos ER (sndC c d h i) (h / 4) ∅ 0 ∗ reached ER (sndC c d h i) (h / 4)) := rfl
  have eP' : (Rps (F := F) c d (h + 4) i) = iprop(atPos ER (sndC c d h i) (h / 4 + 1) ∅ 0 ∗ reached ER (sndC c d h i) (h / 4 + 1)) := by
    unfold Rps; rw [snd_add4, div_add4]
  unfold Step ST
  iintro ⟨#HR, ⟨⟨%W, HO⟩, Hbs, Hba, Hts, Hcs, Hcr, Hps, Hpr, Hpm, Hss, Hls, Hcg, Hcq, Hcw, Hcp, Hx, Hw, Hout⟩, Hk⟩
  ihave H1 := (take3 h1 (Rcs (F := F) c)) $$ Hcs
  icases H1 with ⟨Hc, Hcs⟩
  ihave H2 := (take3 h2 (Rps (F := F) c)) $$ Hps
  icases H2 with ⟨H2, Hps⟩
  ihave H2 := (Entails.of_eq eP) $$ H2
  icases H2 with ⟨Hat, -⟩
  iapply (Rounds.wp_wait_rest_token 𝒱₀ ER (sched X) (c.tc : Thread nD τ) none (sm := .dma (sendSem d h i)) (k' := NB) (κ := K (c, Ce.snd d (slot h) i))
      (fun Kt => (wpE_waitDma2_eq 𝒱₀ (c.tc : Thread nD τ) none Set.univ Kt).trans (by rw [dmaCredit_src])) (Set.mem_univ _) 0
      (O := owe c σ) (W := W) (R := h / 4) (m := 0) (T := ∅)
      (by rw [Nat.zero_add]; exact (expect_snd X c d h i hh).symm)) $$ [HO Hat Hc]
  · isplitr; · iapply (recs_cell X K KS (c, Ce.snd d (slot h) i)); iexact HR
    isplitl [Hc]; · iexact Hc
    isplitl [HO]; · iexact HO
    isplitr
    · iapply (recs_may X c K KS (.dma (sendSem d h i)) σ hl 0 0 0 (by decide) (Nat.mod_one _) (Nat.mod_one _) (.inr (by decide)) (by decide) (by decide)); iexact HR
    iexact Hat
  iintro ⟨HO, Hat, Hr, Hpay⟩
  ihave Hs := (Entails.of_eq (rest_snd X c d h i hh)) $$ Hpay
  ihave Hps := (put3 h3 (Rps (F := F) c)) $$ [Hat Hr Hps]
  · isplitl [Hat Hr]
    · iapply (Entails.of_eq eP'.symm)
      isplitl [Hat]; · iexact Hat
      iexact Hr
    iexact Hps
  ihave Hss := (put3 h4 (Rss X c)) $$ [Hs Hss]
  · isplitl [Hs]; · iexact Hs
    iexact Hss
  iapply Hk
  isplitl [HO]; · iexists _; iexact HO
  isplitl [Hbs]; · iexact Hbs
  isplitl [Hba]; · iexact Hba
  isplitl [Hts]; · iexact Hts
  isplitl [Hcs]; · iexact Hcs
  isplitl [Hcr]; · iexact Hcr
  isplitl [Hps]; · iexact Hps
  isplitl [Hpr]; · iexact Hpr
  isplitl [Hpm]; · iexact Hpm
  isplitl [Hss]; · iexact Hss
  isplitl [Hls]; · iexact Hls
  isplitl [Hcg]; · iexact Hcg
  isplitl [Hcq]; · iexact Hcq
  isplitl [Hcw]; · iexact Hcw
  isplitl [Hcp]; · iexact Hcp
  isplitl [Hx]; · iexact Hx
  isplitl [Hw]; · iexact Hw
  iexact Hout

end Cert.RingProof

end
-- ==== Proof.Steps2.lean ====
/-
One step of a device per kind of instruction: from a state that holds what the instruction uses, it runs,
and leaves the device in the next state.
-/
module

public import proofs.«01_k».proof.Proof.Steps

@[expose] public section

noncomputable section

namespace Cert.RingProof

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (released readerAt writeTok releaseAuth slotInv)

variable {F : FTy → Type} [FloatOps F]

local notation "𝕄" => MT nD τ sig ℕ (Elt F) ℕ UU ℕ

variable (X : Dev nD → S256x4096.Idx → Elt F .f32) (Wt : Dev nD → S4096x512.Idx → Elt F .f32) (c : Dev nD)
variable (K : Dev nD × Ce → ℕ) (KS : Dev nD × Bool × Fin 4 → ℕ)
variable (k : Prog (TpuEff nD τ sig (Elt F) Λ₀ .tc) PUnit)

/-! ## Credits -/

theorem pset_pos : ∀ (d : Bool) (k : Fin 4), ∃ i, i ∈ pset d (k.val + 4) := by decide +kernel

theorem slotRes_excl (n : Dev nD) (d : Bool) (j : ℕ) (hj : j < 4) : iprop(slotRes (F := F) n d j ∗ slotRes n d j) ⊢ (False : sProp 𝕄) := by
  obtain ⟨i, hi⟩ := pset_pos d ⟨j, hj⟩
  unfold slotRes
  iintro ⟨H, H'⟩
  ihave H := (elim' hi) $$ H
  ihave H' := (elim' hi) $$ H'
  iapply (ownAny_excl (F := F) (n.tc : Thread nD τ) (piece d (slot (j + 4 + 1)) i) (by decide))
  isplitl [H]; · iexact H
  iexact H'

/-- The pieces of a slot, whole again. -/
theorem slotRes_of (d : Bool) (j : ℕ) (hj : j < 4) :
    iprop(bigSep (Finset.univ.filter fun i : Fin 8 => (pmask d (j + 4)).testBit i.val = true) (Rss X c d (j + 1))
        ∗ bigSep (Finset.univ.filter fun i : Fin 8 => (pmask d (j + 4)).testBit i.val = true) (Rls X c d (j + 1)))
      ⊢ (slotRes (F := F) c d j : sProp 𝕄) := by
  rw [pmask_filter d j hj]
  unfold slotRes
  rw [← bigSep_sep']
  refine bigSep_mono fun i _ => ?_
  show iprop(Rss X c d (j + 1) i ∗ Rls X c d (j + 1) i) ⊢ (ownAny (F := F) (c.tc : Thread nD τ) (piece d (slot (j + 4 + 1)) i) : sProp 𝕄)
  rw [piece_rows_any, slot_add5]
  exact (owns_combine (c.tc : Thread nD τ) (rowsOf (slotM d (slot (j + 1))) i) share_split _ _).trans (ownAny_of _ _ _)

/-- The marks that the receive cells of a hop are at its round. -/
theorem reached_of (d : Bool) (h : ℕ) (S : Finset (Fin 8)) :
    bigSep S (Rpr (F := F) c d h) ⊢ (bigSep S (fun i => reached ER (rcvC c d h i) (h / 4)) : sProp 𝕄) :=
  bigSep_mono fun i _ => by
    show iprop(atPos ER (rcvC c d h i) (h / 4) ∅ 0 ∗ reached ER (rcvC c d h i) (h / 4)) ⊢ (reached ER (rcvC c d h i) (h / 4) : sProp 𝕄)
    iintro ⟨-, H⟩; iexact H

theorem reached_dup (d : Bool) (h : ℕ) {m : ℕ} (hm : m &&& row d h 0xFF = row d h 0xFF) :
    fam3 m (Rpr (F := F) c) ⊢ iprop((bigSep Finset.univ fun i => reached ER (rcvC c d h i) (h / 4)) ∗ fam3 m (Rpr (F := F) c)) := by
  have h1 : bigSep (Finset.univ.filter fun i : Fin 8 => (0xFF : ℕ).testBit i.val = true) (Rpr (F := F) c d h)
      ⊢ iprop(bigSep Finset.univ (fun i => reached ER (rcvC c d h i) (h / 4)) ∗ bigSep (Finset.univ.filter fun i : Fin 8 => (0xFF : ℕ).testBit i.val = true) (Rpr (F := F) c d h)) := by
    rw [full_filter, ← bigSep_sep']
    refine bigSep_mono fun i _ => ?_
    show iprop(atPos ER (rcvC c d h i) (h / 4) ∅ 0 ∗ reached ER (rcvC c d h i) (h / 4)) ⊢ _
    iintro ⟨Ha, #Hr⟩
    isplitr; · iexact Hr
    isplitl [Ha]; · iexact Ha
    iexact Hr
  iintro H
  ihave H := (takeRow (by decide) hm (Rpr (F := F) c)) $$ H
  icases H with ⟨Hrow, H⟩
  ihave Hrow := h1 $$ Hrow
  icases Hrow with ⟨Hr, Hrow⟩
  isplitl [Hr]; · iexact Hr
  iapply (retakeRow (by decide) hm (Rpr (F := F) c))
  isplitl [Hrow]; · iexact Hrow
  iexact H

theorem range_succ_sep (j : ℕ) (R : ℕ → sProp 𝕄) : iprop(R j ∗ bigSep (Finset.range j) R) ⊢ bigSep (Finset.range (j + 1)) R :=
  Entails.of_eq (by rw [Finset.range_add_one, bigSep_insert Finset.notMem_range_self]; rfl)

theorem step_credSig (d : Bool) (j : ℕ) (σ : St) (Q : PUnit → sProp 𝕄) (hp : pre (.credSig d j) σ = true) : Step X Wt c K KS k Q (.credSig d j) σ := by
  simp only [pre, has, no, Bool.and_eq_true, beq_iff_eq, decide_eq_true_eq] at hp
  obtain ⟨hj, h1, h2, h3, h4, h5, h6⟩ := hp
  have eq (j : ℕ) : (Rcq (F := F) c d j) = bigSep (Finset.range j) (relPay (F := F) c d) := rfl
  unfold Step ST
  iintro ⟨#HR, ⟨⟨%W, HO⟩, Hbs, Hba, Hts, Hcs, Hcr, Hps, Hpr, Hpm, Hss, Hls, Hcg, Hcq, Hcw, Hcp, Hx, Hw, Hout⟩, Hk⟩
  ihave H1 := (take2 h1 (Rcg (F := F) c)) $$ Hcg
  icases H1 with ⟨⟨Htok, Hrd⟩, Hcg⟩
  ihave H2 := (take2 h2 (Rcq (F := F) c)) $$ Hcq
  icases H2 with ⟨H2, Hcq⟩
  ihave #Hrel := (Entails.of_eq (eq j)) $$ H2
  ihave H4 := (reached_dup c d (j + 4) h4) $$ Hpr
  icases H4 with ⟨#Hre, Hpr⟩
  ihave H5 := (takeRow (pmask_lt d (j + 4)) h5 (Rss X c)) $$ Hss
  icases H5 with ⟨H5, Hss⟩
  ihave H6 := (takeRow (pmask_lt d (j + 4)) h6 (Rls X c)) $$ Hls
  icases H6 with ⟨H6, Hls⟩
  ihave Hslot := (slotRes_of X c d j hj) $$ [H5 H6]
  · isplitl [H5]; · iexact H5
    iexact H6
  imod (Release.slot_release (E := EC) (k := (c, d, j)) (S := slotRes (F := F) c d j) (Set.mem_univ (KS (c, d, ⟨j, hj⟩))) (slotRes_excl c d j hj) 0) $$ [Hrd Hslot] with ⟨-, #Hrl⟩
  · isplitr; · iapply (recs_slot X K KS c d j hj); iexact HR
    isplitl [Hrd]; · iexact Hrd
    iexact Hslot
  have e1 : (relPay (F := F) c d j) = iprop(released EC (c, d, j) 1 ∗ bigSep Finset.univ fun i : Fin 8 => reached ER (rcvC c d (j + 4) i) ((j + 4) / 4)) := rfl
  ihave #Hrel' := (range_succ_sep j (relPay (F := F) c d)) $$ []
  · isplitr
    · iapply (Entails.of_eq e1.symm)
      isplitr; · iexact Hrl
      iexact Hre
    iexact Hrel
  iapply (Rounds.wp_signal 𝒱₀ ER (sched X) (c.tc : Thread nD τ) none (dst := ((toward c (!d)).tc : Thread nD τ)) (sem := creditSem d) (r := 0)
      (d := j) (k' := 1) (κ := K (toward c (!d), Ce.cred d)) (by rw [duties_cred]; exact Finset.mem_range.mpr hj) (amount_cred X (toward c (!d)) d 0 _) (2 * j + 5)
      (O₀ := owe c σ) (owe c (next (.credSig d j) σ))
      (by unfold owe; rw [oG_take c d j h1]; dsimp only [next]; ac_rfl)) $$ [HO Htok]
  · isplitr; · iapply (recs_cell X K KS (toward c (!d), Ce.cred d)); iexact HR
    isplitl [HO]; · iexact HO
    isplitl [Htok]; · iexact Htok
    isplitr
    · iapply (Entails.of_eq (show (bigSep (Finset.range (j + 1)) (relPay (F := F) c d) : sProp 𝕄) = (sched X).payload (credC (toward c (!d)) d) 0 j from by
        rw [payload_cred]; unfold credPay; rw [toward_back]))
      iexact Hrel'
    · iapply (recs_reached X K KS (toward c (!d), Ce.cred d)); iexact HR
  iintro HO
  ihave Hcq := (put2 h3 (Rcq (F := F) c)) $$ [Hcq]
  · isplitr
    · iapply (Entails.of_eq (eq (j + 1)).symm); iexact Hrel'
    iexact Hcq
  iapply Hk
  isplitl [HO]; · iexists W; iexact HO
  isplitl [Hbs]; · iexact Hbs
  isplitl [Hba]; · iexact Hba
  isplitl [Hts]; · iexact Hts
  isplitl [Hcs]; · iexact Hcs
  isplitl [Hcr]; · iexact Hcr
  isplitl [Hps]; · iexact Hps
  isplitl [Hpr]; · iexact Hpr
  isplitl [Hpm]; · iexact Hpm
  isplitl [Hss]; · iexact Hss
  isplitl [Hls]; · iexact Hls
  isplitl [Hcg]; · iexact Hcg
  isplitl [Hcq]; · iexact Hcq
  isplitl [Hcw]; · iexact Hcw
  isplitl [Hcp]; · iexact Hcp
  isplitl [Hx]; · iexact Hx
  isplitl [Hw]; · iexact Hw
  iexact Hout

/-- Enough credits came to know that slot `j + 1` is released. -/
theorem rel_of (d : Bool) (j : ℕ) (S : Finset ℕ) (hS : ∃ x ∈ S, j ≤ x) :
    bigSep S (credPay (F := F) c d) ⊢ (relPay (F := F) (toward c d) d j : sProp 𝕄) := by
  obtain ⟨x, hx, hj⟩ := hS
  refine (bigSep_elim hx).trans ?_
  unfold credPay
  exact bigSep_elim (Finset.mem_range.mpr (by omega))

/-- The slot of a released credit, ready to be sent into. -/
theorem pm_of (d : Bool) (j : ℕ) (hj : j < 4) :
    iprop((bigSep Finset.univ fun i : Fin 8 => reached ER (rcvC (toward c d) d (j + 4) i) ((j + 4) / 4)) ∗ slotRes (F := F) (toward c d) d j)
      ⊢ bigSep (Finset.univ.filter fun i : Fin 8 => (pmask d (j + 4)).testBit i.val = true) (pmRes (F := F) c d (j + 4)) := by
  rw [pmask_filter d j hj]
  unfold slotRes
  refine bigSep_with_persistent fun i _ => ?_
  unfold pmRes
  iintro ⟨#H, H'⟩
  isplitl [H']; · iexact H'
  iapply (elim' (Φ := fun i : Fin 8 => reached ER (rcvC (toward c d) d (j + 4) i) ((j + 4) / 4)) (Finset.mem_univ i)); iexact H

/-- What a wait for a credit gives: the next position, and one more slot known released. -/
theorem wp_cred (d : Bool) (j : ℕ) (hj : j < 4) (O : CellTallies nD τ sig ℕ) (W : Waits sig ℕ) (Q : PUnit → sProp 𝕄) :
    iprop(cellInv ER (sched X) (K (c, Ce.cred d)) (credC c d) ∗ cred (tallyAt (credC c d) (2 * j + 5) 1) ∗ owes (c.tc : Thread nD τ) O W
        ∗ MayWait (c.tc : Thread nD τ) (.reg (creditSem d)) (2 * j + 5) O ∗ Rcp (F := F) c d j)
      ⊢ iprop(((∃ W', owes (c.tc : Thread nD τ) O W') ∗ Rcp (F := F) c d (j + 1) ∗ relPay (F := F) (toward c d) d j -∗ WP c k Q)
          -∗ WP c (.op (.semWait (creditSem d) ((1 : ℕ) : ℤ)) fun _ => k) Q) := by
  have e0 : Rcp (F := F) c d j = iprop(∃ T : Finset ℕ, ⌜T ⊆ Finset.range 4 ∧ j ≤ T.card⌝ ∗ atPos ER (credC c d) 0 T j ∗ bigSep T (credPay (F := F) c d)) := if_pos hj
  have ep (S : Finset ℕ) : bigSep S (fun x => (sched X).payload (credC c d) 0 x) = bigSep S (credPay (F := F) c d) :=
    bigSep_congr fun x _ => payload_cred X c d 0 x
  have eu (T S : Finset ℕ) (h : T ⊆ S) : iprop(bigSep T (credPay (F := F) c d) ∗ bigSep (S \ T) (credPay (F := F) c d)) = bigSep S (credPay (F := F) c d) := by
    conv_rhs => rw [← Finset.union_sdiff_of_subset h]
    rw [bigSep_union Finset.disjoint_sdiff]; rfl
  rw [e0]
  iintro ⟨Hinv, Hc, HO, Hm, ⟨%T, %hT, Hat, HT⟩⟩ Hk
  rcases Nat.lt_or_ge j 3 with h3 | h3
  · have e1 : Rcp (F := F) c d (j + 1) = iprop(∃ T : Finset ℕ, ⌜T ⊆ Finset.range 4 ∧ j + 1 ≤ T.card⌝ ∗ atPos ER (credC c d) 0 T (j + 1) ∗ bigSep T (credPay (F := F) c d)) := if_pos (by omega)
    iapply (Rounds.wp_wait 𝒱₀ ER (sched X) (c.tc : Thread nD τ) none (sm := .reg (creditSem d)) (k' := 1) (κ := K (c, Ce.cred d))
      (wpE_semWait_eq 𝒱₀ (c.tc : Thread nD τ) none Set.univ) (Set.mem_univ _) (cr := Finsupp.single (2 * j + 5) 1) (O := O) (W := W)
      {(.reg (creditSem d), 2 * j + 5)} (R := 0) (m := j) (T := T) (by rw [Util.total_single]) (image_single_subset (.reg (creditSem d)) (2 * j + 5) 1)) $$ [Hinv Hc HO Hm Hat]
    · isplitl [Hinv]; · iexact Hinv
      isplitl [Hc]; · iexact Hc
      isplitl [HO]; · iexact HO
      isplitl [Hm]; · iexact Hm
      iexact Hat
    iintro %S ⟨%hS, HO, Hat, Hpay⟩
    have hS' : S ⊆ Finset.range 4 := by have := hS.2.1; rwa [duties_cred] at this
    have hcard : j + 1 ≤ S.card := by
      have h1 := hS.2.2
      rw [duties_cred, expect_cred, Finset.card_sdiff_of_subset hS', Finset.card_range] at h1
      have h2 := Finset.card_le_card hS'
      rw [Finset.card_range] at h2
      omega
    have hx : ∃ x ∈ S, j ≤ x := by
      by_contra hn
      have : S ⊆ Finset.range j := fun x hx => Finset.mem_range.mpr (by by_contra hlt; exact hn ⟨x, hx, by omega⟩)
      have := Finset.card_le_card this
      rw [Finset.card_range] at this; omega
    ihave Hpay := (Entails.of_eq (ep (S \ T))) $$ Hpay
    ihave #HS := (Entails.of_eq (eu T S hS.1)) $$ [HT Hpay]
    · isplitl [HT]; · iexact HT
      iexact Hpay
    iapply Hk
    isplitl [HO]; · iexists _; iexact HO
    isplitl [Hat]
    · iapply (Entails.of_eq e1.symm)
      iexists S
      isplitr; · ipureintro; exact ⟨hS', hcard⟩
      isplitl [Hat]; · iexact Hat
      iexact HS
    iapply (rel_of c d j S hx); iexact HS
  · obtain rfl : j = 3 := by omega
    have e1 : Rcp (F := F) c d (3 + 1) = atPos ER (credC c d) 1 ∅ 0 := if_neg (by omega)
    iapply (Rounds.wp_wait_rest_token 𝒱₀ ER (sched X) (c.tc : Thread nD τ) none (sm := .reg (creditSem d)) (κ := K (c, Ce.cred d))
      (wpE_semWait_eq 𝒱₀ (c.tc : Thread nD τ) none Set.univ) (Set.mem_univ _) (2 * 3 + 5) (O := O) (W := W) (R := 0) (m := 3) (T := T)
      (expect_cred X c d).symm) $$ [Hinv Hc HO Hm Hat]
    · isplitl [Hinv]; · iexact Hinv
      isplitl [Hc]; · iexact Hc
      isplitl [HO]; · iexact HO
      isplitl [Hm]; · iexact Hm
      iexact Hat
    iintro ⟨HO, Hat, -, Hpay⟩
    ihave Hpay := (Entails.of_eq ((ep _).trans (by rw [duties_cred]))) $$ Hpay
    ihave #HS := (Entails.of_eq (eu T (Finset.range 4) hT.1)) $$ [HT Hpay]
    · isplitl [HT]; · iexact HT
      iexact Hpay
    iapply Hk
    isplitl [HO]; · iexists _; iexact HO
    isplitl [Hat]
    · iapply (Entails.of_eq e1.symm); iexact Hat
    iapply (rel_of c d 3 (Finset.range 4) ⟨3, by decide, le_refl _⟩); iexact HS

theorem step_credWait (d : Bool) (j : ℕ) (σ : St) (Q : PUnit → sProp 𝕄) (hp : pre (.credWait d j) σ = true) : Step X Wt c K KS k Q (.credWait d j) σ := by
  simp only [pre, has, no, Bool.and_eq_true, beq_iff_eq, decide_eq_true_eq] at hp
  obtain ⟨hl, hj, h1, h2, h3, h4, h5, h6, h7⟩ := hp
  have er : (relPay (F := F) (toward c d) d j) = iprop(released EC (toward c d, d, j) 1
      ∗ bigSep Finset.univ fun i : Fin 8 => reached ER (rcvC (toward c d) d (j + 4) i) ((j + 4) / 4)) := rfl
  unfold Step ST
  iintro ⟨#HR, ⟨⟨%W, HO⟩, Hbs, Hba, Hts, Hcs, Hcr, Hps, Hpr, Hpm, Hss, Hls, Hcg, Hcq, Hcw, Hcp, Hx, Hw, Hout⟩, Hk⟩
  ihave H1 := (take2 h1 (Rcw (F := F) c)) $$ Hcw
  icases H1 with ⟨⟨Hc, Hwt⟩, Hcw⟩
  ihave H2 := (take2 h2 (Rcp (F := F) c)) $$ Hcp
  icases H2 with ⟨Hp, Hcp⟩
  iapply (wp_cred X c K k d j hj (owe c σ) W Q) $$ [Hc HO Hp]
  · isplitr; · iapply (recs_cell X K KS (c, Ce.cred d)); iexact HR
    isplitl [Hc]; · iexact Hc
    isplitl [HO]; · iexact HO
    isplitr
    · iapply (recs_may X c K KS (.reg (creditSem d)) σ hl (2 * j + 5) (j + 2) (j + 1) (by omega) h5 h6 (.inl h7) (by omega) (by omega)); iexact HR
    iexact Hp
  iintro ⟨⟨%W', HO⟩, Hp, Hrel⟩
  ihave Hrel := (Entails.of_eq er) $$ Hrel
  icases Hrel with ⟨Hrl, Hre⟩
  imod (Release.slot_take (E := EC) (k := (toward c d, d, j)) (S := slotRes (F := F) (toward c d) d j) (Set.mem_univ (KS (toward c d, d, ⟨j, hj⟩))) 1) $$ [Hrl Hwt] with Hslot
  · isplitr; · iapply (recs_slot X K KS (toward c d) d j hj); iexact HR
    isplitl [Hrl]; · iexact Hrl
    iexact Hwt
  ihave Hpm' := (pm_of c d j hj) $$ [Hre Hslot]
  · isplitl [Hre]; · iexact Hre
    iexact Hslot
  ihave Hpm := (putRow (pmask_lt d (j + 4)) h4 (pmRes (F := F) c)) $$ [Hpm' Hpm]
  · isplitl [Hpm']; · iexact Hpm'
    iexact Hpm
  ihave Hcp := (put2 h3 (Rcp (F := F) c)) $$ [Hp Hcp]
  · isplitl [Hp]; · iexact Hp
    iexact Hcp
  iapply Hk
  isplitl [HO]; · iexists W'; iexact HO
  isplitl [Hbs]; · iexact Hbs
  isplitl [Hba]; · iexact Hba
  isplitl [Hts]; · iexact Hts
  isplitl [Hcs]; · iexact Hcs
  isplitl [Hcr]; · iexact Hcr
  isplitl [Hps]; · iexact Hps
  isplitl [Hpr]; · iexact Hpr
  isplitl [Hpm]; · iexact Hpm
  isplitl [Hss]; · iexact Hss
  isplitl [Hls]; · iexact Hls
  isplitl [Hcg]; · iexact Hcg
  isplitl [Hcq]; · iexact Hcq
  isplitl [Hcw]; · iexact Hcw
  isplitl [Hcp]; · iexact Hcp
  isplitl [Hx]; · iexact Hx
  isplitl [Hw]; · iexact Hw
  iexact Hout

end Cert.RingProof

end
-- ==== Proof.Steps3.lean ====
/-
One step of a device per kind of instruction: from a state that holds what the instruction uses, it runs,
and leaves the device in the next state.
-/
module

public import proofs.«01_k».proof.Proof.Steps2

@[expose] public section

noncomputable section

namespace Cert.RingProof

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (released readerAt writeTok releaseAuth slotInv)

variable {F : FTy → Type} [FloatOps F]

local notation "𝕄" => MT nD τ sig ℕ (Elt F) ℕ UU ℕ

variable (X : Dev nD → S256x4096.Idx → Elt F .f32) (Wt : Dev nD → S4096x512.Idx → Elt F .f32) (c : Dev nD)
variable (K : Dev nD × Ce → ℕ) (KS : Dev nD × Bool × Fin 4 → ℕ)
variable (k : Prog (TpuEff nD τ sig (Elt F) Λ₀ .tc) PUnit)

/-! ## Products -/

theorem rectX_emb (j : S256x4096.Idx) : rectX.emb j = j := by
  funext a; apply Fin.ext; match a with
  | ⟨0, _⟩ => simp [Rect.emb_apply]
  | ⟨1, _⟩ => simp [Rect.emb_apply]
theorem rectH_emb (j : S128x4096.Idx) : rectH.emb j = j := by
  funext a; apply Fin.ext; match a with
  | ⟨0, _⟩ => simp [Rect.emb_apply]
  | ⟨1, _⟩ => simp [Rect.emb_apply]
theorem rectW_emb (j : S4096x512.Idx) : rectW.emb j = j := by
  funext a; apply Fin.ext; match a with
  | ⟨0, _⟩ => simp [Rect.emb_apply]
  | ⟨1, _⟩ => simp [Rect.emb_apply]

theorem ext512 {n : ℕ} {y y' : (Shape.mk 2 ![n, 512]).Idx} (h0 : y 0 = y' 0) (h1 : y 1 = y' 1) : y = y' :=
  funext fun a => match a with
  | ⟨0, _⟩ => h0
  | ⟨1, _⟩ => h1

/-- A load of all of a block reads the block. -/
theorem readX (m : Memref sig .tc .vmem S256x4096 .f32) (g : m.view.ty.Contents (Elt F)) :
    m.view.readAt (Elt F) rectX.toLoadRect g = m.view.read (Elt F) g :=
  funext fun j => congrArg (m.view.read (Elt F) g) (rectX_emb j)
theorem readH (m : Memref sig .tc .vmem S128x4096 .f32) (g : m.view.ty.Contents (Elt F)) :
    m.view.readAt (Elt F) rectH.toLoadRect g = m.view.read (Elt F) g :=
  funext fun j => congrArg (m.view.read (Elt F) g) (rectH_emb j)
theorem readW (m : Memref sig .tc .vmem S4096x512 .f32) (g : m.view.ty.Contents (Elt F)) :
    m.view.readAt (Elt F) rectW.toLoadRect g = m.view.read (Elt F) g :=
  funext fun j => congrArg (m.view.read (Elt F) g) (rectW_emb j)

theorem setOn_sub {s : Shape} {e : EltTy} (v : View sig .tc .vmem s e) (S : Finset s.Idx) : v.setOn S ⊆ v.set :=
  Finset.map_subset_map.mpr (Finset.subset_univ S)

/-- The end of a product: load `w`, load the rows to be replaced, store the product `p w` at rectangle `r`,
    which are the rows of product `n`. -/
theorem wp_tail (r : Rect S4096x512) (hl1 : wM.view.LoadsAt rectW.toLoadRect) (hl2 : oM.view.LoadsAt r.toLoadRect)
    (hx : (oM.access r).Stores Finset.univ) (hm : (Finset.univ : Finset r.shape.Idx) = Finset.univ ∨ ∀ a, r.stride a = 1)
    (p : (S4096x512.Idx → Elt F .f32) → r.shape.Idx → Elt F .f32) (n dn : ℕ)
    (hreg : ∀ y, Reg c n y → ∃ j, r.emb j = y) (hreg' : ∀ j, Reg c n (r.emb j)) (hval : ∀ j, p (Wt c) j = OUT X Wt c (r.emb j)) (Q : PUnit → sProp 𝕄) :
    iprop(Rw Wt c ∗ Rout X Wt c dn)
      ⊢ iprop((Rw Wt c ∗ Rout X Wt c (dn ||| 2 ^ n) -∗ WP c k Q)
        -∗ WP c (.op (.load wM rectW.toLoadRect hl1) fun w => .op (.load oM r.toLoadRect hl2) fun _ => .op (.store oM r (p w) Finset.univ hx hm) fun _ => k) Q) := by
  have key : ∀ f : S4096x512.Idx → Elt F .f32, Agree X Wt c dn f →
      Agree X Wt c (dn ||| 2 ^ n) ((oM.access r).write (Elt F) f (p (Wt c)) Finset.univ : S4096x512.Idx → Elt F .f32) := by
    intro f hf
    refine agree_or X Wt c hf (fun y hy => ?_) fun y hy => ?_
    · obtain ⟨j, rfl⟩ := hreg y hy
      rw [← hval j]
      exact View.write_emb_of_mem (v := oM.access r) f (p (Wt c)) (Finset.mem_univ j)
    · refine View.write_of_not_mem (v := oM.access r) f (p (Wt c)) Finset.univ fun h => hy ?_
      obtain ⟨j, -, hj⟩ := Finset.mem_map.mp h
      rw [← hj]; exact hreg' j
  unfold Rw Rout
  rw [owns]
  iintro ⟨⟨%g, %hg, Hw⟩, ⟨%f, %hf, Ho⟩⟩ Hk
  iapply (wp_load 𝒱₀ (c.tc : Thread nD τ) none Set.univ (m := wM) (setOn_sub _ _)) $$ Hw; iintro Hw
  iapply (wp_load 𝒱₀ (c.tc : Thread nD τ) none Set.univ (m := oM) (Finset.subset_univ _)) $$ Ho; iintro Ho
  iapply (wp_store 𝒱₀ (c.tc : Thread nD τ) none Set.univ (m := oM) (r := r) (Mk := Finset.univ) (Finset.subset_univ _)) $$ Ho; iintro Ho
  iapply Hk
  isplitl [Hw]
  · iexists g; isplitr; · ipureintro; exact hg
    iexact Hw
  iexists _; isplitr
  · ipureintro
    have := key f hf
    rw [← hg, ← readW] at this
    exact this
  iexact Ho

theorem rect256_emb (b : ℕ) (h : ∀ a, (![256 * b, 0] : Fin 2 → ℕ) a + S256x512.size a ≤ S4096x512.size a) (j : S256x512.Idx) :
    (((rect256 ![256 * b, 0] h).emb j : S4096x512.Idx) 0).val = 256 * b + (j 0).val ∧ (rect256 ![256 * b, 0] h).emb j 1 = j 1 := by
  constructor
  · simp [Rect.emb_apply]
  · apply Fin.ext; simp [Rect.emb_apply]

theorem rect128_emb (b : ℕ) (h : ∀ a, (![b, 0] : Fin 2 → ℕ) a + S128x512.size a ≤ S4096x512.size a) (j : S128x512.Idx) :
    (((rect128 ![b, 0] h).emb j : S4096x512.Idx) 0).val = b + (j 0).val ∧ (rect128 ![b, 0] h).emb j 1 = j 1 := by
  constructor
  · simp [Rect.emb_apply]
  · apply Fin.ext; simp [Rect.emb_apply]

theorem emb256_of (b : Dev nD) (h : ∀ a, (![256 * b.val, 0] : Fin 2 → ℕ) a + S256x512.size a ≤ S4096x512.size a) (y : S4096x512.Idx)
    (hy : (y 0).val / 256 = b.val) : (rect256 ![256 * b.val, 0] h).emb (in256 y) = y := by
  refine ext512 ?_ ?_
  · refine Fin.ext ((rect256_emb b.val h (in256 y)).1.trans ?_)
    show 256 * b.val + (y 0).val % 256 = (y 0).val; omega
  · exact (rect256_emb b.val h (in256 y)).2

theorem in256_emb (b : ℕ) (h : ∀ a, (![256 * b, 0] : Fin 2 → ℕ) a + S256x512.size a ≤ S4096x512.size a) (j : S256x512.Idx) :
    in256 ((rect256 ![256 * b, 0] h).emb j) = j := by
  have hj : (j 0).val < 256 := (j 0).isLt
  refine ext512 (Fin.ext ?_) (rect256_emb b h j).2
  show (((rect256 ![256 * b, 0] h).emb j : S4096x512.Idx) 0).val % 256 = (j 0).val
  rw [(rect256_emb b h j).1]; omega

theorem emb128_of (b : ℕ) (hb : b % 128 = 0) (h : ∀ a, (![b, 0] : Fin 2 → ℕ) a + S128x512.size a ≤ S4096x512.size a) (y : S4096x512.Idx)
    (hy : (y 0).val / 128 = b / 128) : (rect128 ![b, 0] h).emb (in128 y) = y := by
  refine ext512 ?_ ?_
  · refine Fin.ext ((rect128_emb b h (in128 y)).1.trans ?_)
    show b + (y 0).val % 128 = (y 0).val; omega
  · exact (rect128_emb b h (in128 y)).2

theorem in128_emb (b : ℕ) (hb : b % 128 = 0) (h : ∀ a, (![b, 0] : Fin 2 → ℕ) a + S128x512.size a ≤ S4096x512.size a) (j : S128x512.Idx) :
    in128 ((rect128 ![b, 0] h).emb j) = j := by
  have hj : (j 0).val < 128 := (j 0).isLt
  refine ext512 (Fin.ext ?_) (rect128_emb b h j).2
  show (((rect128 ![b, 0] h).emb j : S4096x512.Idx) 0).val % 128 = (j 0).val
  rw [(rect128_emb b h j).1]; omega

/-- The product of a block that memref `m` holds: the rows of device `b`, product `n`. -/
theorem wp_mulAt (p : Vec F S256x4096 .f32 → Vec F S4096x512 .f32 → FVec F S256x512 .f32) (hp : ∀ v w, p v w = pay v w)
    (m : Memref sig .tc .vmem S256x4096 .f32) (q : PosShare TreeShare) (b : Dev nD) (n dn : ℕ) (hn : n < 16) (hb : b = org (dd n) (dk n) c) (h8 : b ≠ org false 8 c)
    (o : Fin 2 → ℕ) (h : ∀ a, o a + S256x512.size a ≤ S4096x512.size a) (ho : o = ![256 * b.val, 0]) (Q : PUnit → sProp 𝕄) :
    iprop(owns (c.tc : Thread nD τ) m q (X b) ∗ Rw Wt c ∗ Rout X Wt c dn)
      ⊢ iprop((owns (c.tc : Thread nD τ) m q (X b) ∗ Rw Wt c ∗ Rout X Wt c (dn ||| 2 ^ n) -∗ WP c k Q) -∗ WP c (mulAt p m o h k) Q) := by
  subst ho
  have hval : ∀ j, p (X b) (Wt c) j = OUT X Wt c ((rect256 ![256 * b.val, 0] h).emb j) := by
    intro j
    have hj : (j 0).val < 256 := (j 0).isLt
    have e0 := (rect256_emb b.val h j).1
    unfold OUT
    rw [if_neg fun hh => h8 (Fin.ext (by rw [← hh, e0]; omega)), hp]
    have e1 : blkDev ((rect256 ![256 * b.val, 0] h).emb j) = b := Fin.ext (by
      show (((rect256 ![256 * b.val, 0] h).emb j : S4096x512.Idx) 0).val / 256 = b.val
      rw [e0]; omega)
    rw [e1, in256_emb]
  rw [owns]
  iintro ⟨⟨%g, %hg, Hm⟩, Hw, Ho⟩ Hk
  iapply (wp_load 𝒱₀ (c.tc : Thread nD τ) none Set.univ (m := m) (setOn_sub _ _)) $$ Hm; iintro Hm
  iapply (wp_tail X Wt c k (rect256 ![256 * b.val, 0] h) _ _ _ _ (p (m.view.readAt (Elt F) rectX.toLoadRect g)) n dn
    (fun y hy => ⟨in256 y, emb256_of b h y (by unfold Reg at hy; rw [if_pos hn, ← hb] at hy; exact hy)⟩)
    (fun j => by
      have hj : (j 0).val < 256 := (j 0).isLt
      unfold Reg; rw [if_pos hn, ← hb, (rect256_emb b.val h j).1]; omega)
    (by rw [readX, hg]; exact hval) Q) $$ [Hw Ho]
  · isplitl [Hw]; · iexact Hw
    iexact Ho
  iintro ⟨Hw, Ho⟩
  iapply Hk
  isplitl [Hm]
  · iexists g; isplitr; · ipureintro; exact hg
    iexact Hm
  isplitl [Hw]; · iexact Hw
  iexact Ho

theorem step_gemmOwn (σ : St) (Q : PUnit → sProp 𝕄) : Step X Wt c K KS k Q .gemmOwn σ := by
  unfold Step ST
  iintro ⟨#HR, ⟨⟨%W, HO⟩, Hbs, Hba, Hts, Hcs, Hcr, Hps, Hpr, Hpm, Hss, Hls, Hcg, Hcq, Hcw, Hcp, Hx, Hw, Hout⟩, Hk⟩
  ihave Hx := (Entails.of_eq (show Rx X c = owns (c.tc : Thread nD τ) xM fullShare.right (X c) from rfl)) $$ Hx
  iapply (wp_mulAt X Wt c k (fun v w => pay (shapeCast S256x4096 v shapeCasts_S256x4096_S256x4096) w) (fun v w => by rw [shapeCast_self])
    xM fullShare.right c 0 σ.dn (by decide) rfl (org_ne8 false 0 c) (k0_off1 c) (k0_off1_inb c) (off1_eq c) Q) $$ [Hx Hw Hout]
  · isplitl [Hx]; · iexact Hx
    isplitl [Hw]; · iexact Hw
    iexact Hout
  iintro ⟨Hx, Hw, Hout⟩
  ihave Hx := (Entails.of_eq (show owns (c.tc : Thread nD τ) xM fullShare.right (X c) = Rx X c from rfl)) $$ Hx
  iapply Hk
  isplitl [HO]; · iexists W; iexact HO
  isplitl [Hbs]; · iexact Hbs
  isplitl [Hba]; · iexact Hba
  isplitl [Hts]; · iexact Hts
  isplitl [Hcs]; · iexact Hcs
  isplitl [Hcr]; · iexact Hcr
  isplitl [Hps]; · iexact Hps
  isplitl [Hpr]; · iexact Hpr
  isplitl [Hpm]; · iexact Hpm
  isplitl [Hss]; · iexact Hss
  isplitl [Hls]; · iexact Hls
  isplitl [Hcg]; · iexact Hcg
  isplitl [Hcq]; · iexact Hcq
  isplitl [Hcw]; · iexact Hcw
  isplitl [Hcp]; · iexact Hcp
  isplitl [Hx]; · iexact Hx
  isplitl [Hw]; · iexact Hw
  iexact Hout

theorem step_gemm (d : Bool) (h : ℕ) (σ : St) (Q : PUnit → sProp 𝕄) (hp : pre (.gemm d h) σ = true) : Step X Wt c K KS k Q (.gemm d h) σ := by
  simp only [pre, has, Bool.and_eq_true, beq_iff_eq, decide_eq_true_eq] at hp
  obtain ⟨⟨hh1, hh7⟩, h1⟩ := hp
  obtain ⟨h, rfl⟩ : ∃ h', h = h' + 1 := ⟨h - 1, by omega⟩
  have e : bigSep (Finset.univ.filter fun i : Fin 8 => (0xFF : ℕ).testBit i.val = true) (Rls X c d (h + 1))
      = bigSep Finset.univ fun i => owns (c.tc : Thread nD τ) (rowsOf (slotM d (slot (h + 1))) i) fullShare.right (rows (X (org d (h + 1) c)) i) := by
    rw [full_filter]; rfl
  have hd := Bool.toNat_le d
  unfold Step ST
  iintro ⟨#HR, ⟨⟨%W, HO⟩, Hbs, Hba, Hts, Hcs, Hcr, Hps, Hpr, Hpm, Hss, Hls, Hcg, Hcq, Hcw, Hcp, Hx, Hw, Hout⟩, Hk⟩
  ihave H1 := (takeRow (by decide) h1 (Rls X c)) $$ Hls
  icases H1 with ⟨Hrow, Hls⟩
  ihave Hrow := (Entails.of_eq e) $$ Hrow
  ihave Hm := (rows_join c (slotM d (slot (h + 1))) fullShare.right (X (org d (h + 1) c))) $$ Hrow
  iapply (wp_mulAt X Wt c k pay (fun v w => rfl) (slotM d (slot (h + 1))) fullShare.right (org d (h + 1) c) (key2 d (h + 1)) σ.dn (by unfold key2; omega)
    (by rw [dd_key, dk_key]) (org_ne8 d ⟨h + 1, by omega⟩ c) (k0_off2 c (k0_off2_at (offIx d (h + 1)))) (k0_off2_inb c (offIx d (h + 1)))
    (off2_eq d (h + 1) hh1 hh7 c) Q) $$ [Hm Hw Hout]
  · isplitl [Hm]; · iexact Hm
    isplitl [Hw]; · iexact Hw
    iexact Hout
  iintro ⟨Hm, Hw, Hout⟩
  ihave Hrow := (rows_split c (slotM d (slot (h + 1))) fullShare.right (X (org d (h + 1) c))) $$ Hm
  ihave Hrow := (Entails.of_eq e.symm) $$ Hrow
  ihave Hls := (retakeRow (by decide) h1 (Rls X c)) $$ [Hrow Hls]
  · isplitl [Hrow]; · iexact Hrow
    iexact Hls
  iapply Hk
  isplitl [HO]; · iexists W; iexact HO
  isplitl [Hbs]; · iexact Hbs
  isplitl [Hba]; · iexact Hba
  isplitl [Hts]; · iexact Hts
  isplitl [Hcs]; · iexact Hcs
  isplitl [Hcr]; · iexact Hcr
  isplitl [Hps]; · iexact Hps
  isplitl [Hpr]; · iexact Hpr
  isplitl [Hpm]; · iexact Hpm
  isplitl [Hss]; · iexact Hss
  isplitl [Hls]; · iexact Hls
  isplitl [Hcg]; · iexact Hcg
  isplitl [Hcq]; · iexact Hcq
  isplitl [Hcw]; · iexact Hcw
  isplitl [Hcp]; · iexact Hcp
  isplitl [Hx]; · iexact Hx
  isplitl [Hw]; · iexact Hw
  iexact Hout

/-! ### The half block -/

/-- Element `j` of a half is element `(128 d + …)` of slot 0. -/
def inSlot (d : Bool) (j : S128x4096.Idx) : S256x4096.Idx := ix2 (n0 := 256) (n1 := 4096) ⟨128 * d.toNat + (j 0).val, half_lt d (j 0)⟩ (j 1)

theorem half_emb_f (j : S128x4096.Idx) : (halfM false).view.emb j = (slotM false 0).view.emb (inSlot false j) :=
  ((congrArg _ (eq_ix2 (n0 := 128) (n1 := 4096) j)).trans (half_emb_false (j 0) (j 1))).trans (slotM_emb_false 0 _ _).symm
theorem half_emb_t (j : S128x4096.Idx) : (halfM true).view.emb j = (slotM true 0).view.emb (inSlot true j) :=
  ((congrArg _ (eq_ix2 (n0 := 128) (n1 := 4096) j)).trans (half_emb_true (j 0) (j 1))).trans (slotM_emb_true 0 _ _).symm

theorem half_row : ∀ (d : Bool) (i : Fin 8), i.val / 4 = d.toNat → (pmask d 7).testBit i.val = true := by decide +kernel
theorem inSlot_mem (d : Bool) (j : S128x4096.Idx) :
    rowOf (inSlot d j) ∈ Finset.univ.filter fun i : Fin 8 => (pmask d 7).testBit i.val = true := by
  refine Finset.mem_filter.mpr ⟨Finset.mem_univ _, ?_⟩
  have hj : (j 0).val < 128 := (j 0).isLt
  have e : (rowOf (inSlot d j)).val = (128 * d.toNat + (j 0).val) / 32 := rfl
  exact half_row d (rowOf (inSlot d j)) (by rw [e]; omega)

/-- The load of a half from the rows of slot 0 that arrived. -/
theorem wp_loadHalf (d : Bool) (V : S256x4096.Idx → Elt F .f32) (q : PosShare TreeShare) (hl : (halfM d).view.LoadsAt rectH.toLoadRect)
    (kk : (S128x4096.Idx → Elt F .f32) → Prog (TpuEff nD τ sig (Elt F) Λ₀ .tc) PUnit) (Q : PUnit → sProp 𝕄) :
    (bigSep (Finset.univ.filter fun i : Fin 8 => (pmask d 7).testBit i.val = true) fun i => owns (c.tc : Thread nD τ) (rowsOf (slotM d 0) i) q (rows V i))
      ⊢ iprop(((bigSep (Finset.univ.filter fun i : Fin 8 => (pmask d 7).testBit i.val = true) fun i => owns (c.tc : Thread nD τ) (rowsOf (slotM d 0) i) q (rows V i))
          -∗ WP c (kk (halfOf V d)) Q) -∗ WP c (.op (.load (halfM d) rectH.toLoadRect hl) kk) Q) := by
  refine (rows_gather c (slotM d 0) q V (Finset.univ.filter fun i : Fin 8 => (pmask d 7).testBit i.val = true)).trans ?_
  have hload : ∀ (g : (slotM d 0).view.ty.Contents (Elt F)) (hg : ∀ x, rowOf x ∈ (Finset.univ.filter fun i : Fin 8 => (pmask d 7).testBit i.val = true) → (slotM d 0).view.read (Elt F) g x = V x),
      ((slotM d 0).view.loc (c.tc : Thread nD τ) ↦[rowsSet (slotM d 0) (Finset.univ.filter fun i : Fin 8 => (pmask d 7).testBit i.val = true)]{q} g)
        ⊢ iprop((((slotM d 0).view.loc (c.tc : Thread nD τ) ↦[rowsSet (slotM d 0) (Finset.univ.filter fun i : Fin 8 => (pmask d 7).testBit i.val = true)]{q} g)
            -∗ WP c (kk (halfOf V d)) Q) -∗ WP c (.op (.load (halfM d) rectH.toLoadRect hl) kk) Q) := by
    intro g hg
    cases d with
    | false =>
      have hr : (halfM false).view.readAt (Elt F) rectH.toLoadRect (g : (halfM false).view.ty.Contents (Elt F)) = halfOf V false :=
        (readH (halfM false) g).trans (funext fun j => Eq.trans (congrArg (g : S4x256x4096.Idx → Elt F .f32) (half_emb_f j)) (hg _ (inSlot_mem false j)))
      have hs : (halfM false).view.setOn rectH.toLoadRect.set ⊆ rowsSet (slotM false 0) (Finset.univ.filter fun i : Fin 8 => (pmask false 7).testBit i.val = true) := by
        refine (setOn_sub _ _).trans fun x hx => ?_
        obtain ⟨j, -, rfl⟩ := Finset.mem_map.mp hx
        exact (half_emb_f j).symm ▸ mem_rowsSet (slotM false 0) _ _ (inSlot_mem false j)
      have h1 : ((halfM false).view.loc (c.tc : Thread nD τ) ↦[rowsSet (slotM false 0) (Finset.univ.filter fun i : Fin 8 => (pmask false 7).testBit i.val = true)]{q} g)
          ⊢ iprop((((halfM false).view.loc (c.tc : Thread nD τ) ↦[rowsSet (slotM false 0) (Finset.univ.filter fun i : Fin 8 => (pmask false 7).testBit i.val = true)]{q} g) -∗ WP c (kk ((halfM false).view.readAt (Elt F) rectH.toLoadRect g)) Q)
            -∗ WP c (.op (.load (halfM false) rectH.toLoadRect hl) kk) Q) :=
        wp_load 𝒱₀ (c.tc : Thread nD τ) none Set.univ (m := halfM false) hs
      have h2 : (halfM false).view.readAt (Elt F) rectH.toLoadRect g = halfOf V false := hr
      exact h2 ▸ h1
    | true =>
      have hr : (halfM true).view.readAt (Elt F) rectH.toLoadRect (g : (halfM true).view.ty.Contents (Elt F)) = halfOf V true :=
        (readH (halfM true) g).trans (funext fun j => Eq.trans (congrArg (g : S4x256x4096.Idx → Elt F .f32) (half_emb_t j)) (hg _ (inSlot_mem true j)))
      have hs : (halfM true).view.setOn rectH.toLoadRect.set ⊆ rowsSet (slotM true 0) (Finset.univ.filter fun i : Fin 8 => (pmask true 7).testBit i.val = true) := by
        refine (setOn_sub _ _).trans fun x hx => ?_
        obtain ⟨j, -, rfl⟩ := Finset.mem_map.mp hx
        exact (half_emb_t j).symm ▸ mem_rowsSet (slotM true 0) _ _ (inSlot_mem true j)
      have h1 : ((halfM true).view.loc (c.tc : Thread nD τ) ↦[rowsSet (slotM true 0) (Finset.univ.filter fun i : Fin 8 => (pmask true 7).testBit i.val = true)]{q} g)
          ⊢ iprop((((halfM true).view.loc (c.tc : Thread nD τ) ↦[rowsSet (slotM true 0) (Finset.univ.filter fun i : Fin 8 => (pmask true 7).testBit i.val = true)]{q} g) -∗ WP c (kk ((halfM true).view.readAt (Elt F) rectH.toLoadRect g)) Q)
            -∗ WP c (.op (.load (halfM true) rectH.toLoadRect hl) kk) Q) :=
        wp_load 𝒱₀ (c.tc : Thread nD τ) none Set.univ (m := halfM true) hs
      have h2 : (halfM true).view.readAt (Elt F) rectH.toLoadRect g = halfOf V true := hr
      exact h2 ▸ h1
  iintro ⟨%g, %hg, H, Hback⟩ Hk
  iapply (hload g hg) $$ H
  iintro H
  iapply Hk
  iapply Hback; iexact H

theorem half_val (d : Bool) (b : ℕ) (hb : b = 256 * (org false 8 c).val + 128 * d.toNat)
    (h : ∀ a, (![b, 0] : Fin 2 → ℕ) a + S128x512.size a ≤ S4096x512.size a) (j : S128x512.Idx) :
    payHalf (halfOf (X (org false 8 c)) d) (Wt c) j = OUT X Wt c ((rect128 ![b, 0] h).emb j) := by
  have hj : (j 0).val < 128 := (j 0).isLt
  have hd := Bool.toNat_le d
  have e0 := (rect128_emb b h j).1
  unfold OUT
  rw [if_pos (by rw [e0]; omega), in128_emb b (by omega)]
  have e1 : ((((rect128 ![b, 0] h).emb j : S4096x512.Idx) 0).val / 128 % 2 == 1) = d := by
    rw [e0]
    have : (b + (j 0).val) / 128 % 2 = d.toNat := by omega
    rw [this]; cases d <;> rfl
  rw [e1]

theorem step_gemmHalf (d : Bool) (σ : St) (Q : PUnit → sProp 𝕄) (hp : pre (.gemmHalf d) σ = true) : Step X Wt c K KS k Q (.gemmHalf d) σ := by
  simp only [pre, has, Bool.and_eq_true, beq_iff_eq, decide_eq_true_eq] at hp
  have e : bigSep (Finset.univ.filter fun i : Fin 8 => (pmask d 7).testBit i.val = true) (Rls X c d 8)
      = bigSep (Finset.univ.filter fun i : Fin 8 => (pmask d 7).testBit i.val = true)
          fun i => owns (c.tc : Thread nD τ) (rowsOf (slotM d 0) i) fullShare.right (rows (X (org false 8 c)) i) := by
    rw [← org8 d c]; rfl
  have hd := Bool.toNat_le d
  have hb := off3_eq d c
  generalize hB : 256 * (org false 8 c).val + 128 * d.toNat = B at hb
  have hinb := k0_off3_inb c (Fin.ofNat 2 d.toNat)
  unfold Step ST
  show _ ⊢ WP c (mulHalfAt (halfM d) (k0_off3 c (BitVec.ofNat 32 (128 * (Fin.ofNat 2 d.toNat).val))) (k0_off3_inb c (Fin.ofNat 2 d.toNat)) k) Q
  have gen : ∀ (o : Fin 2 → ℕ) (h : ∀ a, o a + S128x512.size a ≤ S4096x512.size a), o = ![B, 0] →
      iprop(bigSep (Finset.univ.filter fun i : Fin 8 => (pmask d 7).testBit i.val = true) (Rls X c d 8) ∗ Rw Wt c ∗ Rout X Wt c σ.dn)
        ⊢ iprop((bigSep (Finset.univ.filter fun i : Fin 8 => (pmask d 7).testBit i.val = true) (Rls X c d 8) ∗ Rw Wt c ∗ Rout X Wt c (σ.dn ||| 2 ^ (16 + d.toNat)) -∗ WP c k Q)
            -∗ WP c (mulHalfAt (halfM d) o h k) Q) := by
    intro o h ho
    subst ho
    rw [e]
    iintro ⟨Hr, Hw, Ho⟩ Hk
    iapply (wp_loadHalf c d (X (org false 8 c)) fullShare.right _ _ Q) $$ Hr
    iintro Hr
    iapply (wp_tail X Wt c k (rect128 ![B, 0] h) _ _ _ _ (payHalf (halfOf (X (org false 8 c)) d)) (16 + d.toNat) σ.dn
      (fun y hy => ⟨in128 y, emb128_of B (by omega) h y (by unfold Reg at hy; rw [if_neg (by omega)] at hy; omega)⟩)
      (fun j => by
        have hj : (j 0).val < 128 := (j 0).isLt
        unfold Reg; rw [if_neg (by omega), (rect128_emb B h j).1]; omega)
      (half_val X Wt c d B hB.symm h) Q) $$ [Hw Ho]
    · isplitl [Hw]; · iexact Hw
      iexact Ho
    iintro ⟨Hw, Ho⟩
    iapply Hk
    isplitl [Hr]; · iexact Hr
    isplitl [Hw]; · iexact Hw
    iexact Ho
  iintro ⟨#HR, ⟨⟨%W, HO⟩, Hbs, Hba, Hts, Hcs, Hcr, Hps, Hpr, Hpm, Hss, Hls, Hcg, Hcq, Hcw, Hcp, Hx, Hw, Hout⟩, Hk⟩
  ihave H1 := (takeRow (pmask_lt d 7) hp (Rls X c)) $$ Hls
  icases H1 with ⟨Hrow, Hls⟩
  iapply (gen _ _ hb) $$ [Hrow Hw Hout]
  · isplitl [Hrow]; · iexact Hrow
    isplitl [Hw]; · iexact Hw
    iexact Hout
  iintro ⟨Hrow, Hw, Hout⟩
  ihave Hls := (retakeRow (pmask_lt d 7) hp (Rls X c)) $$ [Hrow Hls]
  · isplitl [Hrow]; · iexact Hrow
    iexact Hls
  iapply Hk
  isplitl [HO]; · iexists W; iexact HO
  isplitl [Hbs]; · iexact Hbs
  isplitl [Hba]; · iexact Hba
  isplitl [Hts]; · iexact Hts
  isplitl [Hcs]; · iexact Hcs
  isplitl [Hcr]; · iexact Hcr
  isplitl [Hps]; · iexact Hps
  isplitl [Hpr]; · iexact Hpr
  isplitl [Hpm]; · iexact Hpm
  isplitl [Hss]; · iexact Hss
  isplitl [Hls]; · iexact Hls
  isplitl [Hcg]; · iexact Hcg
  isplitl [Hcq]; · iexact Hcq
  isplitl [Hcw]; · iexact Hcw
  isplitl [Hcp]; · iexact Hcp
  isplitl [Hx]; · iexact Hx
  isplitl [Hw]; · iexact Hw
  iexact Hout

end Cert.RingProof

end
-- ==== Proof.Run.lean ====
/-
The run of the instruction list: from the state at launch to the state at the end, and what a device
brings to the first and is left with in the second.
-/
module

public import proofs.«01_k».proof.Proof.Steps3

@[expose] public section

noncomputable section

namespace Cert.RingProof

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (released readerAt writeTok releaseAuth slotInv)

variable {F : FTy → Type} [FloatOps F]

local notation "𝕄" => MT nD τ sig ℕ (Elt F) ℕ UU ℕ

variable (X : Dev nD → S256x4096.Idx → Elt F .f32) (Wt : Dev nD → S4096x512.Idx → Elt F .f32) (c : Dev nD)
variable (K : Dev nD × Ce → ℕ) (KS : Dev nD × Bool × Fin 4 → ℕ)
variable (k : Prog (TpuEff nD τ sig (Elt F) Λ₀ .tc) PUnit)

theorem via {M : Type} [URA M] {A B C : sProp M} (h : B ⊢ C) (h' : A ⊢ B) : A ⊢ C := h'.trans h

/-! ## The list -/

theorem step (i : Instr) (σ : St) (Q : PUnit → sProp 𝕄) (hp : pre i σ = true) : Step X Wt c K KS k Q i σ := by
  cases i with
  | barSig d => exact step_barSig X Wt c K KS k d σ Q hp
  | barWait => exact step_barWait X Wt c K KS k σ Q hp
  | send d h i => exact step_send X Wt c K KS k d h i σ Q hp
  | recv d h i => exact step_recv X Wt c K KS k d h i σ Q hp
  | sent d h i => exact step_sent X Wt c K KS k d h i σ Q hp
  | credSig d j => exact step_credSig X Wt c K KS k d j σ Q hp
  | credWait d j => exact step_credWait X Wt c K KS k d j σ Q hp
  | gemmOwn => exact step_gemmOwn X Wt c K KS k σ Q
  | gemm d h => exact step_gemm X Wt c K KS k d h σ Q hp
  | gemmHalf d => exact step_gemmHalf X Wt c K KS k d σ Q hp

theorem run_list (Q : PUnit → sProp 𝕄) (l : List Instr) : ∀ σ : St, ok l σ = true →
    iprop(Recs X K KS ∗ ST X Wt c σ ∗ (ST X Wt c (after l σ) -∗ WP c k Q)) ⊢ WP c (runL c l k) Q := by
  induction l with
  | nil =>
    intro σ _
    iintro ⟨-, H, Hk⟩
    iapply Hk; iexact H
  | cons i l ih =>
    intro σ h
    have h' : pre i σ = true ∧ ok l (next i σ) = true := by unfold ok at h; rwa [Bool.and_eq_true] at h
    refine via (step X Wt c K KS (runL c l k) i σ Q h'.1) ?_
    iintro ⟨#HR, H, Hk⟩
    isplitr; · iexact HR
    isplitl [H]; · iexact H
    iintro H
    iapply (ih (next i σ) h'.2)
    isplitr; · iexact HR
    isplitl [H]; · iexact H
    iexact Hk

/-! ## Families over all of a kind -/

section Fam
variable {M : Type} [URA M]

theorem fam3_zero (R : Bool → ℕ → Fin 8 → sProp M) : fam3 0 R = iprop(emp) := fam_zero _

theorem fam_two (R : ℕ → sProp M) : iprop(R 0 ∗ R 1) ⊢ fam 3 R := by
  have h := fam_put1 (m := 2 ^ 0) (n := 1) (by decide) R
  rw [show (2 ^ 0 ^^^ 2 ^ 1 : ℕ) = 3 from by decide, fam_pow] at h
  refine via h ?_
  iintro ⟨H0, H1⟩
  isplitl [H1] <;> iassumption

theorem fam2_two (R : Bool → ℕ → sProp M) : iprop(R false 0 ∗ R true 0) ⊢ fam2 3 R := fam_two fun n => R (dd n) (dk n)

theorem fam_sep (m : ℕ) (R R' : ℕ → sProp M) : fam m (fun n => iprop(R n ∗ R' n)) = iprop(fam m R ∗ fam m R') := bigSep_sep' _ _ _

theorem fam3_sep (m : ℕ) (R R' : Bool → ℕ → Fin 8 → sProp M) :
    fam3 m (fun d h i => iprop(R d h i ∗ R' d h i)) = iprop(fam3 m R ∗ fam3 m R') := fam_sep m _ _
theorem fam2_sep (m : ℕ) (R R' : Bool → ℕ → sProp M) :
    fam2 m (fun d h => iprop(R d h ∗ R' d h)) = iprop(fam2 m R ∗ fam2 m R') := fam_sep m _ _

theorem bits_first : bits 0xFFFF = (Finset.univ : Finset (Bool × Fin 8)).image fun p => key p.1 0 p.2 :=
  bits_eq _ _ _ 16 (by decide) (by decide +kernel)

theorem fam3_first (R : Bool → ℕ → Fin 8 → sProp M) :
    fam3 0xFFFF R = iprop((bigSep Finset.univ fun i : Fin 8 => R false 0 i) ∗ bigSep Finset.univ fun i : Fin 8 => R true 0 i) := by
  unfold fam3
  rw [fam_image Finset.univ (fun p : Bool × Fin 8 => key p.1 0 p.2) (by decide +kernel) _ bits_first,
    bigSep_univ_prod (fun p : Bool × Fin 8 => R (kd (key p.1 0 p.2)) (kh (key p.1 0 p.2)) (ki (key p.1 0 p.2))),
    bigSep_univ_eq_bigSepL [false, true] (by decide) (by decide), bigSepL_cons_cons, bigSepL_singleton]
  simp only [kd_key, kh_key, ki_key]
  rfl

/-- The hop whose piece is in slot `s` at the end, and the hops that number the cells of slot `s` past their last round. -/
def hM (p : Bool × Fin 4 × Fin 8) : ℕ := if p.2.1 = 0 then (if hops p.1 p.2.2 = 8 then 8 else 4) else p.2.1.val + 4
def hS (p : Bool × Fin 4 × Fin 8) : ℕ := if p.2.1 = 3 then (if hops p.1 p.2.2 = 8 then 11 else 7) else p.2.1.val + 8
def hR (p : Bool × Fin 4 × Fin 8) : ℕ := if p.2.1 = 0 then (if hops p.1 p.2.2 = 8 then 11 else 7) else p.2.1.val + 7

theorem hM_slot : ∀ p, 1 ≤ hM p ∧ slot (hM p) = p.2.1 := by decide +kernel
theorem hS_slot : ∀ p, hops p.1 p.2.2 ≤ hS p ∧ slot (hS p) = p.2.1 := by decide +kernel
theorem hR_slot : ∀ p, hops p.1 p.2.2 ≤ hR p ∧ slot (hR p + 1) = p.2.1 := by decide +kernel

theorem bits_M : bits lastM = (Finset.univ : Finset (Bool × Fin 4 × Fin 8)).image fun p => key p.1 (hM p) p.2.2 :=
  bits_eq _ _ _ 144 (by decide +kernel) (by decide +kernel)
theorem bits_S : bits lastP = (Finset.univ : Finset (Bool × Fin 4 × Fin 8)).image fun p => key p.1 (hS p) p.2.2 :=
  bits_eq _ _ _ 192 (by decide +kernel) (by decide +kernel)
theorem bits_R : bits lastP = (Finset.univ : Finset (Bool × Fin 4 × Fin 8)).image fun p => key p.1 (hR p) p.2.2 :=
  bits_eq _ _ _ 192 (by decide +kernel) (by decide +kernel)

theorem fam3_of (m : ℕ) (h : Bool × Fin 4 × Fin 8 → ℕ) (g : ℕ → Fin 4) (hg : ∀ p, g (h p) = p.2.1)
    (hb : bits m = (Finset.univ : Finset (Bool × Fin 4 × Fin 8)).image fun p => key p.1 (h p) p.2.2) (R : Bool → ℕ → Fin 8 → sProp M) :
    fam3 m R = bigSep Finset.univ fun p => R p.1 (h p) p.2.2 := by
  unfold fam3
  rw [fam_image Finset.univ (fun p : Bool × Fin 4 × Fin 8 => key p.1 (h p) p.2.2) (fun p _ p' _ e => ?_) _ hb]
  · exact bigSep_congr fun p _ => by rw [kd_key, kh_key, ki_key]
  · have e1 := congrArg kd e; have e2 := congrArg kh e; have e3 := congrArg ki e
    rw [kd_key, kd_key] at e1; rw [kh_key, kh_key] at e2; rw [ki_key, ki_key] at e3
    exact Prod.ext e1 (Prod.ext ((hg p).symm.trans ((congrArg g e2).trans (hg p'))) e3)

end Fam

/-- The slots, turned by one. -/
def turn : Fin 4 ≃ Fin 4 := ⟨fun s => slot (s.val + 1), fun s => slot (s.val + 3), by decide, by decide⟩

/-! ## The state at launch -/

/-- What a device brings: its positions, the tokens of the signals it sends, the hand-back tokens of its slots and of
    its neighbours', and the credits of what it will receive. -/
def Pos : sProp 𝕄 := bigSep Finset.univ fun x : Ce => atPos ER (kcell (c, x)) 0 ∅ 0

def Toks : sProp 𝕄 :=
  iprop((dutyTok ER (barC (toward c false)) 0 1 ∗ dutyTok ER (barC (toward c true)) 0 0)
    ∗ fam2 0xFF (fun d k => dutyTok ER (credC (toward c (!d)) d) 0 k)
    ∗ fam3 allT (fun d h i => dutyTok ER (sndC c d h i) (h / 4) 0)
    ∗ fam3 allT (fun d h i => dutyTok ER (rcvC (toward c d) d h i) (h / 4) 0))

def Rels : sProp 𝕄 :=
  iprop(fam2 0xFF (fun d k => readerAt EC (c, d, k) 0) ∗ fam2 0xFF (fun d k => writeTok EC (toward c d, d, k) 1))

def Creds : sProp 𝕄 :=
  iprop(cred (tallyAt (barC c) 1 2) ∗ fam2 0xFF (fun d k => cred (tallyAt (credC c d) (2 * k + 5) 1)) ∗ fam3 allT (Rcr (F := F) c))

theorem pos_split : (Pos (F := F) c : sProp 𝕄) ⊢ iprop(atPos ER (barC c) 0 ∅ 0
      ∗ (atPos ER (credC c false) 0 ∅ 0 ∗ atPos ER (credC c true) 0 ∅ 0)
      ∗ (bigSep Finset.univ fun p : Bool × Fin 4 × Fin 8 => atPos ER (kcell (c, Ce.snd p.1 p.2.1 p.2.2)) 0 ∅ 0)
      ∗ (bigSep Finset.univ fun p : Bool × Fin 4 × Fin 8 => atPos ER (kcell (c, Ce.rcv p.1 p.2.1 p.2.2)) 0 ∅ 0)) := by
  unfold Pos
  rw [bigSep_univ_sum, bigSep_univ_sum,
    bigSep_univ_prod (fun p : Bool × Bool × Fin 4 × Fin 8 => (atPos ER (kcell (c, .inr (.inr p))) 0 ∅ 0 : sProp 𝕄)),
    bigSep_univ_eq_bigSepL [false, true] (by decide) (by decide), bigSepL_cons_cons, bigSepL_singleton,
    bigSep_univ_eq_bigSepL [false, true] (by decide) (by decide), bigSepL_cons_cons, bigSepL_singleton,
    bigSep_univ_eq_bigSepL [()] (by decide) (by decide), bigSepL_singleton]
  exact BI.Entails.refl _

theorem start_ps (m : ℕ) (hm : m = 2 ^ 64 - 1) : iprop(Recs X K KS ∗ bigSep Finset.univ fun p : Bool × Fin 4 × Fin 8 => atPos ER (kcell (c, Ce.snd p.1 p.2.1 p.2.2)) 0 ∅ 0)
    ⊢ (fam3 m (Rps (F := F) c) : sProp 𝕄) := by
  rw [hm, fam3_all]
  refine bigSep_with_persistent fun p _ => ?_
  have e1 : slot p.2.1.val = p.2.1 := Fin.ext (Nat.mod_eq_of_lt p.2.1.isLt)
  have e2 : p.2.1.val / 4 = 0 := Nat.div_eq_of_lt p.2.1.isLt
  have e3 : sndC c p.1 p.2.1.val p.2.2 = kcell (c, Ce.snd p.1 p.2.1 p.2.2) := by unfold sndC sendSem; rw [e1]; rfl
  unfold Rps
  rw [e3, e2]
  iintro ⟨#HR, H⟩
  isplitl [H]; · iexact H
  iapply (recs_reached X K KS (c, Ce.snd p.1 p.2.1 p.2.2)) $$ HR

theorem start_pr (m : ℕ) (hm : m = 2 ^ 64 - 1) : iprop(Recs X K KS ∗ bigSep Finset.univ fun p : Bool × Fin 4 × Fin 8 => atPos ER (kcell (c, Ce.rcv p.1 p.2.1 p.2.2)) 0 ∅ 0)
    ⊢ (fam3 m (Rpr (F := F) c) : sProp 𝕄) := by
  rw [hm, fam3_all, bigSep_univ_equiv (Equiv.prodCongr (Equiv.refl Bool) (Equiv.prodCongr turn (Equiv.refl (Fin 8))))
    (fun p : Bool × Fin 4 × Fin 8 => (atPos ER (kcell (c, Ce.rcv p.1 p.2.1 p.2.2)) 0 ∅ 0 : sProp 𝕄))]
  refine bigSep_with_persistent fun p _ => ?_
  have e2 : p.2.1.val / 4 = 0 := Nat.div_eq_of_lt p.2.1.isLt
  have e3 : rcvC c p.1 p.2.1.val p.2.2 = kcell (c, Ce.rcv p.1 (turn p.2.1) p.2.2) := rfl
  unfold Rpr
  rw [e3, e2]
  iintro ⟨#HR, H⟩
  isplitl [H]; · iexact H
  iapply (recs_reached X K KS (c, Ce.rcv p.1 (turn p.2.1) p.2.2)) $$ HR

theorem start_bar (d : Bool) : iprop(Recs X K KS ∗ ownAny (F := F) (c.tc : Thread nD τ) (comm (!d)))
    ⊢ (barPay (F := F) (toward c d) (!d) : sProp 𝕄) := by
  refine (sep_mono_right (comm_split c (!d))).trans ?_
  rw [bigSep_univ_equiv (Equiv.prodCongr turn (Equiv.refl (Fin 8)))
    (fun p : Fin 4 × Fin 8 => (ownAny (F := F) (c.tc : Thread nD τ) (piece (!d) p.1 p.2) : sProp 𝕄))]
  unfold barPay
  refine bigSep_with_persistent fun p _ => ?_
  have e2 : p.1.val / 4 = 0 := Nat.div_eq_of_lt p.1.isLt
  unfold pmRes
  rw [back_toward, e2]
  iintro ⟨#HR, H⟩
  isplitl [H]; · iexact H
  iapply (recs_reached X K KS (c, Ce.rcv (!d) (turn p.1) p.2)) $$ HR

theorem agree_zero (f : S4096x512.Idx → Elt F .f32) : Agree X Wt c 0 f := fun n h => by
  rw [Nat.zero_testBit] at h; exact absurd h (by decide)

theorem x_out : (owns (c.tc : Thread nD τ) xM fullShare (X c) : sProp 𝕄) ⊢ iprop(fam3 0xFFFF (Rss X c) ∗ Rx X c) := by
  rw [fam3_first]
  refine (owns_split (c.tc : Thread nD τ) xM share_split (X c)).trans (sep_mono_left ?_)
  refine (owns_split (c.tc : Thread nD τ) xM (PosShare.mem_left_op_right fullShare.left) (X c)).trans ?_
  exact BIClass.sep_mono (rows_split c xM _ (X c)) (rows_split c xM _ (X c))

theorem x_back : iprop(fam3 0xFFFF (Rss X c) ∗ Rx X c) ⊢ (owns (c.tc : Thread nD τ) xM fullShare (X c) : sProp 𝕄) := by
  rw [fam3_first]
  refine via (owns_combine (c.tc : Thread nD τ) xM share_split (X c) (X c)) (sep_mono_left ?_)
  refine via (owns_combine (c.tc : Thread nD τ) xM (PosShare.mem_left_op_right fullShare.left) (X c) (X c)) ?_
  exact BIClass.sep_mono (rows_join c xM _ (X c)) (rows_join c xM _ (X c))

theorem start_gen (σ : St) (e1 : σ.ss = 0xFFFF) (e2 : σ.ls = 0) (e3 : σ.pm = 0) (e4 : σ.cs = 0) (e5 : σ.ts = allT) (e6 : σ.cr = allT)
    (e7 : σ.cg = 0xFF) (e8 : σ.cw = 0xFF) (e9 : σ.bs = 3) (e10 : σ.ba = 1) (e11 : σ.ps = 2 ^ 64 - 1) (e12 : σ.pr = 2 ^ 64 - 1)
    (e13 : σ.cq = 3) (e14 : σ.cp = 3) (e15 : σ.dn = 0) : iprop(Recs X K KS ∗ (∃ W, owes (c.tc : Thread nD τ) (owe c σ) W) ∗ Pos (F := F) c ∗ Toks (F := F) c ∗ Rels (F := F) c ∗ Creds (F := F) c
      ∗ ownAny (F := F) (c.tc : Thread nD τ) (comm false) ∗ ownAny (F := F) (c.tc : Thread nD τ) (comm true)
      ∗ owns (c.tc : Thread nD τ) xM fullShare (X c) ∗ owns (c.tc : Thread nD τ) wM fullShare (Wt c)
      ∗ (∃ f, ((oM.view.loc (c.tc : Thread nD τ)) ↦{fullShare} f))) ⊢ (ST X Wt c σ : sProp 𝕄) := by
  have hps := start_ps X c K KS σ.ps e11
  have hpr := start_pr X c K KS σ.pr e12
  unfold ST Toks Rels Creds
  rw [e1, e2, e3, e4, e5, e6, e7, e8, e9, e10, e13, e14, e15]
  iintro ⟨#HR, HO, HP, ⟨⟨Hb1, Hb0⟩, Htg, Hts, Htr⟩, ⟨Hrd, Hwr⟩, ⟨Hcb, Hcc, Hcr⟩, H0, H1, Hx, Hw, Hout⟩
  ihave HP := (pos_split c) $$ HP
  icases HP with ⟨Hpb, ⟨Hpc0, Hpc1⟩, Hps, Hpr⟩
  ihave Hx := (x_out X c) $$ Hx
  icases Hx with ⟨Hss, Hx⟩
  isplitl [HO]; · iexact HO
  isplitl [Hb1 Hb0 H0 H1]
  · iapply (fam_two (Rbs (F := F) c))
    isplitl [Hb1 H1]
    · iapply (Entails.of_eq (show iprop(barPay (F := F) (toward c false) true ∗ dutyTok ER (barC (toward c false)) 0 1) = Rbs (F := F) c 0 from rfl))
      isplitl [H1]
      · iapply (start_bar X c K KS false)
        isplitr; · iexact HR
        iexact H1
      iexact Hb1
    · iapply (Entails.of_eq (show iprop(barPay (F := F) (toward c true) false ∗ dutyTok ER (barC (toward c true)) 0 0) = Rbs (F := F) c 1 from rfl))
      isplitl [H0]
      · iapply (start_bar X c K KS true)
        isplitr; · iexact HR
        iexact H0
      iexact Hb0
  isplitl [Hpb Hcb]
  · iapply (Entails.of_eq (show iprop(atPos ER (barC c) 0 ∅ 0 ∗ cred (tallyAt (barC c) 1 2)) = Rba (F := F) c 1 from rfl))
    isplitl [Hpb] <;> iassumption
  isplitl [Hts Htr]
  · iapply (Entails.of_eq (fam3_sep allT (fun d h i => (dutyTok ER (sndC c d h i) (h / 4) 0 : sProp 𝕄)) (fun d h i => dutyTok ER (rcvC (toward c d) d h i) (h / 4) 0)).symm)
    isplitl [Hts] <;> iassumption
  isplitr; · iapply (Entails.of_eq (fam3_zero _).symm); iempintro
  isplitl [Hcr]; · iexact Hcr
  isplitl [Hps]
  · iapply hps
    isplitr; · iexact HR
    iexact Hps
  isplitl [Hpr]
  · iapply hpr
    isplitr; · iexact HR
    iexact Hpr
  isplitr; · iapply (Entails.of_eq (fam3_zero _).symm); iempintro
  isplitl [Hss]; · iexact Hss
  isplitr; · iapply (Entails.of_eq (fam3_zero _).symm); iempintro
  isplitl [Htg Hrd]
  · iapply (Entails.of_eq (fam2_sep 0xFF (fun d k => (dutyTok ER (credC (toward c (!d)) d) 0 k : sProp 𝕄)) (fun d k => readerAt EC (c, d, k) 0)).symm)
    isplitl [Htg] <;> iassumption
  isplitr
  · iapply (fam2_two (Rcq (F := F) c))
    unfold Rcq
    rw [Finset.range_zero, bigSep_empty, bigSep_empty]
    isplitr <;> iempintro
  isplitl [Hcc Hwr]
  · iapply (Entails.of_eq (fam2_sep 0xFF (fun d k => (cred (tallyAt (credC c d) (2 * k + 5) 1) : sProp 𝕄)) (fun d k => writeTok EC (toward c d, d, k) 1)).symm)
    isplitl [Hcc] <;> iassumption
  isplitl [Hpc0 Hpc1]
  · iapply (fam2_two (Rcp (F := F) c))
    unfold Rcp
    rw [if_pos (by decide), if_pos (by decide)]
    isplitl [Hpc0]
    · iexists ∅
      isplitr; · ipureintro; exact ⟨Finset.empty_subset _, Nat.zero_le _⟩
      isplitl [Hpc0]; · iexact Hpc0
      rw [bigSep_empty]; iempintro
    · iexists ∅
      isplitr; · ipureintro; exact ⟨Finset.empty_subset _, Nat.zero_le _⟩
      isplitl [Hpc1]; · iexact Hpc1
      rw [bigSep_empty]; iempintro
  isplitl [Hx]; · iexact Hx
  isplitl [Hw]; · iapply (Entails.of_eq (show owns (c.tc : Thread nD τ) wM fullShare (Wt c) = Rw (F := F) Wt c from rfl)); iexact Hw
  icases Hout with ⟨%f, Hout⟩
  unfold Rout
  iexists f
  isplitr; · ipureintro; exact agree_zero X Wt c f
  iexact Hout

theorem start_ST : iprop(Recs X K KS ∗ (∃ W, owes (c.tc : Thread nD τ) (owe c σ₀) W) ∗ Pos (F := F) c ∗ Toks (F := F) c ∗ Rels (F := F) c ∗ Creds (F := F) c
      ∗ ownAny (F := F) (c.tc : Thread nD τ) (comm false) ∗ ownAny (F := F) (c.tc : Thread nD τ) (comm true)
      ∗ owns (c.tc : Thread nD τ) xM fullShare (X c) ∗ owns (c.tc : Thread nD τ) wM fullShare (Wt c)
      ∗ (∃ f, ((oM.view.loc (c.tc : Thread nD τ)) ↦{fullShare} f))) ⊢ (ST X Wt c σ₀ : sProp 𝕄) :=
  start_gen X Wt c K KS σ₀ rfl rfl rfl rfl rfl rfl rfl rfl rfl rfl rfl rfl rfl rfl rfl

/-! ## The state at the end -/

theorem close_bar : iprop(Recs X K KS ∗ Rba (F := F) c 2) ⊢ (iprop(|={Set.univ}=> semVal (barC c) 0) : sProp 𝕄) := by
  refine via (Rounds.cell_close ER (sched X) (Set.mem_univ (K (c, Ce.bar))) (fun h => h) (R := 1)
    (duties_end X (c, Ce.bar) 1 (Or.inr ⟨rfl, fun y h => by cases h⟩))) ?_
  iintro ⟨#HR, H⟩
  isplitr; · iapply (recs_cell X K KS (c, Ce.bar)) $$ HR
  iapply (Entails.of_eq (show Rba (F := F) c 2 = atPos ER (barC c) 1 ∅ 0 from rfl)); iexact H

theorem close_cred (d : Bool) : iprop(Recs X K KS ∗ Rcp (F := F) c d 4) ⊢ (iprop(|={Set.univ}=> semVal (credC c d) 0) : sProp 𝕄) := by
  refine via (Rounds.cell_close ER (sched X) (Set.mem_univ (K (c, Ce.cred d))) (fun h => h) (R := 1)
    (duties_end X (c, Ce.cred d) 1 (Or.inr ⟨rfl, fun y h => by cases h⟩))) ?_
  iintro ⟨#HR, H⟩
  isplitr; · iapply (recs_cell X K KS (c, Ce.cred d)) $$ HR
  iapply (Entails.of_eq (show Rcp (F := F) c d 4 = atPos ER (credC c d) 1 ∅ 0 from rfl)); iexact H

theorem end_snd (p : Bool × Fin 4 × Fin 8) (r : ℕ) (hr : hS p / 4 ≤ r) : (sched X).duties (sndC c p.1 (hS p) p.2.2) r = ∅ := by
  refine (sched_duties X (pSnd c p.1 (hS p) p.2.2) r).trans (if_neg ?_)
  have h1 := (hS_slot p).1
  have h2 : hopOf false (slot (hS p)) r = 4 * r + hS p % 4 := rfl
  omega
theorem end_rcv (p : Bool × Fin 4 × Fin 8) (r : ℕ) (hr : hR p / 4 ≤ r) : (sched X).duties (rcvC c p.1 (hR p) p.2.2) r = ∅ := by
  refine (sched_duties X (pRcv c p.1 (hR p) p.2.2) r).trans (if_neg ?_)
  have h1 := (hR_slot p).1
  have h2 : hopOf true (slot (hR p + 1)) r = 4 * r + ((hR p + 1) % 4 + 3) % 4 := rfl
  omega

theorem close_snd : iprop(Recs X K KS ∗ fam3 lastP (Rps (F := F) c))
    ⊢ (iprop(|={Set.univ}=> bigSep Finset.univ fun p : Bool × Fin 4 × Fin 8 => semVal (kcell (c, Ce.snd p.1 p.2.1 p.2.2)) 0) : sProp 𝕄) := by
  rw [fam3_of lastP hS slot (fun p => (hS_slot p).2) bits_S]
  refine via (bigSep_fupd Finset.univ _) (bigSep_with_persistent fun p _ => ?_)
  have e : kcell (c, Ce.snd p.1 p.2.1 p.2.2) = sndC c p.1 (hS p) p.2.2 := by unfold sndC sendSem; rw [(hS_slot p).2]; rfl
  rw [e]
  refine via (Rounds.cell_close ER (sched X) (Set.mem_univ (K (c, Ce.snd p.1 p.2.1 p.2.2))) (fun h => h) (R := hS p / 4) (end_snd X c p)) ?_
  iintro ⟨#HR, ⟨H, -⟩⟩
  isplitr
  · rw [← e]; iapply (recs_cell X K KS (c, Ce.snd p.1 p.2.1 p.2.2)) $$ HR
  iexact H

theorem close_rcv : iprop(Recs X K KS ∗ fam3 lastP (Rpr (F := F) c))
    ⊢ (iprop(|={Set.univ}=> bigSep Finset.univ fun p : Bool × Fin 4 × Fin 8 => semVal (kcell (c, Ce.rcv p.1 p.2.1 p.2.2)) 0) : sProp 𝕄) := by
  rw [fam3_of lastP hR (fun h => slot (h + 1)) (fun p => (hR_slot p).2) bits_R]
  refine via (bigSep_fupd Finset.univ _) (bigSep_with_persistent fun p _ => ?_)
  have e : kcell (c, Ce.rcv p.1 p.2.1 p.2.2) = rcvC c p.1 (hR p) p.2.2 := by unfold rcvC recvSem; rw [(hR_slot p).2]; rfl
  rw [e]
  refine via (Rounds.cell_close ER (sched X) (Set.mem_univ (K (c, Ce.rcv p.1 p.2.1 p.2.2))) (fun h => h) (R := hR p / 4) (end_rcv X c p)) ?_
  iintro ⟨#HR, ⟨H, -⟩⟩
  isplitr
  · rw [← e]; iapply (recs_cell X K KS (c, Ce.rcv p.1 p.2.1 p.2.2)) $$ HR
  iexact H

theorem piece_end (d : Bool) (h : ℕ) (i : Fin 8) (h1 : 1 ≤ h) :
    iprop(Rss X c d h i ∗ Rls X c d h i) ⊢ (ownAny (F := F) (c.tc : Thread nD τ) (piece d (slot h) i) : sProp 𝕄) := by
  obtain ⟨h, rfl⟩ : ∃ h', h = h' + 1 := ⟨h - 1, by omega⟩
  rw [piece_rows_any]
  exact (owns_combine (c.tc : Thread nD τ) (rowsOf (slotM d (slot (h + 1))) i) share_split _ _).trans (ownAny_of _ _ _)

theorem comm_end : iprop(fam3 lastM (Rss X c) ∗ fam3 lastM (Rls X c))
    ⊢ (iprop(ownAny (F := F) (c.tc : Thread nD τ) (comm false) ∗ ownAny (F := F) (c.tc : Thread nD τ) (comm true)) : sProp 𝕄) := by
  rw [← fam3_sep, fam3_of lastM hM slot (fun p => (hM_slot p).2) bits_M]
  have h : (bigSep Finset.univ fun p : Bool × Fin 4 × Fin 8 => iprop(Rss X c p.1 (hM p) p.2.2 ∗ Rls X c p.1 (hM p) p.2.2))
      ⊢ (bigSep Finset.univ fun p : Bool × Fin 4 × Fin 8 => ownAny (F := F) (c.tc : Thread nD τ) (piece p.1 p.2.1 p.2.2) : sProp 𝕄) :=
    bigSep_mono fun p _ => (piece_end X c p.1 (hM p) p.2.2 (hM_slot p).1).trans (Entails.of_eq (by rw [(hM_slot p).2]))
  refine h.trans ?_
  rw [bigSep_univ_prod (fun p : Bool × Fin 4 × Fin 8 => (ownAny (F := F) (c.tc : Thread nD τ) (piece p.1 p.2.1 p.2.2) : sProp 𝕄)),
    bigSep_univ_eq_bigSepL [false, true] (by decide) (by decide), bigSepL_cons_cons, bigSepL_singleton]
  exact BIClass.sep_mono (comm_join c false) (comm_join c true)

/-- What a device is left with. -/
def Left : sProp 𝕄 :=
  iprop((∃ W, owes (c.tc : Thread nD τ) (0 : CellTallies nD τ sig ℕ) W)
    ∗ owns (c.tc : Thread nD τ) xM fullShare (X c) ∗ owns (c.tc : Thread nD τ) wM fullShare (Wt c)
    ∗ ((oM.view.loc (c.tc : Thread nD τ)) ↦{fullShare} (OUT X Wt c))
    ∗ ownAny (F := F) (c.tc : Thread nD τ) (comm false) ∗ ownAny (F := F) (c.tc : Thread nD τ) (comm true)
    ∗ semVal (barC c) 0 ∗ bigSep Finset.univ fun x : Bool ⊕ (Bool × Bool × Fin 4 × Fin 8) => semVal ((c.tc : Thread nD τ), ownSem x) 0)

theorem owe_end : owe c σ₁ = 0 := by
  unfold owe oB oG oT
  rw [show σ₁.bs = 0 from rfl, show σ₁.cg = 0 from rfl, show σ₁.ts = 0 from rfl, famSum_zero, famSum_zero, famSum_zero, add_zero, add_zero]

theorem sems_end : iprop((semVal (credC c false) 0 ∗ semVal (credC c true) 0)
      ∗ (bigSep Finset.univ fun p : Bool × Fin 4 × Fin 8 => semVal (kcell (c, Ce.snd p.1 p.2.1 p.2.2)) 0)
      ∗ (bigSep Finset.univ fun p : Bool × Fin 4 × Fin 8 => semVal (kcell (c, Ce.rcv p.1 p.2.1 p.2.2)) 0))
    ⊢ (bigSep Finset.univ fun x : Bool ⊕ (Bool × Bool × Fin 4 × Fin 8) => semVal ((c.tc : Thread nD τ), ownSem x) 0 : sProp 𝕄) := by
  rw [bigSep_univ_sum,
    bigSep_univ_prod (fun p : Bool × Bool × Fin 4 × Fin 8 => (semVal ((c.tc : Thread nD τ), ownSem (.inr p)) 0 : sProp 𝕄)),
    bigSep_univ_eq_bigSepL [false, true] (by decide) (by decide), bigSepL_cons_cons, bigSepL_singleton,
    bigSep_univ_eq_bigSepL [false, true] (by decide) (by decide), bigSepL_cons_cons, bigSepL_singleton]
  exact BI.Entails.refl _

theorem fam2_last (R : Bool → ℕ → sProp 𝕄) : fam2 0x300 R ⊢ iprop(R false 4 ∗ R true 4) := by
  have h := (take2 (m := 0x300) (d := false) (k := 4) (by decide) R).trans (sep_mono_right (take2 (d := true) (k := 4) (by decide) R))
  refine h.trans ?_
  iintro ⟨H0, H1, -⟩
  isplitl [H0] <;> iassumption

theorem end_ST : iprop(Recs X K KS ∗ ST X Wt c σ₁) ⊢ (iprop(|={Set.univ}=> Left X Wt c) : sProp 𝕄) := by
  have ess : fam3 (0xFFFF + lastM) (Rss X c) = iprop(fam3 0xFFFF (Rss X c) ∗ fam3 lastM (Rss X c)) := by
    have := fam_take (m := 0xFFFF + lastM) (x := 0xFFFF) (by decide +kernel) (fun n => Rss X c (kd n) (kh n) (ki n))
    rwa [show (0xFFFF + lastM) ^^^ 0xFFFF = lastM from by decide +kernel] at this
  unfold ST
  rw [owe_end, show σ₁.ss = 0xFFFF + lastM from rfl, ess, show σ₁.ls = lastM from rfl, show σ₁.ba = 2 from rfl,
    show σ₁.ps = lastP from rfl, show σ₁.pr = lastP from rfl, show σ₁.cp = 0x300 from rfl, show σ₁.dn = 2 ^ 18 - 1 - 2 from rfl]
  iintro ⟨#HR, ⟨HO, -, Hba, -, -, -, Hps, Hpr, -, ⟨Hsx, Hss⟩, Hls, -, -, -, Hcp, Hx, Hw, Hout⟩⟩
  ihave Hcp := (fam2_last (Rcp (F := F) c)) $$ Hcp
  icases Hcp with ⟨Hc0, Hc1⟩
  imod (close_bar X c K KS) $$ [Hba] with HzB
  · isplitr; · iexact HR
    iexact Hba
  imod (close_cred X c K KS false) $$ [Hc0] with Hz0
  · isplitr; · iexact HR
    iexact Hc0
  imod (close_cred X c K KS true) $$ [Hc1] with Hz1
  · isplitr; · iexact HR
    iexact Hc1
  imod (close_snd X c K KS) $$ [Hps] with HzS
  · isplitr; · iexact HR
    iexact Hps
  imod (close_rcv X c K KS) $$ [Hpr] with HzR
  · isplitr; · iexact HR
    iexact Hpr
  imodintro
  ihave Hcm := (comm_end X c) $$ [Hss Hls]
  · isplitl [Hss] <;> iassumption
  icases Hcm with ⟨H0, H1⟩
  unfold Left
  isplitl [HO]; · iexact HO
  isplitl [Hsx Hx]
  · iapply (x_back X c)
    isplitl [Hsx] <;> iassumption
  isplitl [Hw]; · iapply (Entails.of_eq (show Rw (F := F) Wt c = owns (c.tc : Thread nD τ) wM fullShare (Wt c) from rfl)); iexact Hw
  isplitl [Hout]
  · unfold Rout
    icases Hout with ⟨%f, %hf, Hout⟩
    rw [← agree_all X Wt c hf]
    iexact Hout
  isplitl [H0]; · iexact H0
  isplitl [H1]; · iexact H1
  isplitl [HzB]; · iexact HzB
  iapply (sems_end c)
  isplitl [Hz0 Hz1]
  · isplitl [Hz0] <;> iassumption
  isplitl [HzS] <;> iassumption

/-! ## The body -/

theorem wp_dev (g : Dev nD → Prog (TpuEff nD τ sig (Elt F) Λ₀ .tc) PUnit) (Q : PUnit → sProp 𝕄) : WP c (g c) Q ⊢ WP c (.op .deviceId g) Q := by
  unfold WP
  rw [wp_deviceId]

theorem sound_body (Q : PUnit → sProp 𝕄) :
    iprop(Recs X K KS ∗ ST X Wt c σ₀ ∗ (Left X Wt c -∗ Q ⟨⟩))
      ⊢ WP c (cc0_body (F := F) xM (Memref.isWhole_whole _) wM (Memref.isWhole_whole _) oM (Memref.isWhole_whole _)
          (Memref.whole cc0_scratch0) (Memref.isWhole_whole _) (Memref.whole cc0_scratch1) (Memref.isWhole_whole _)
          cc0_scratch2 cc0_scratch3 cc0_scratch4 cc0_scratch5 cc0_scratch6 cc0_scratch7) Q := by
  have hrun := @run_list F _ X Wt c K KS (.ret ⟨⟩) Q prog σ₀ ok_prog
  rw [body_eq]
  refine via (wp_dev c (fun d0 => runL d0 prog (.ret ⟨⟩)) Q) (via hrun ?_)
  rw [after_prog]
  iintro ⟨#HR, H, Hk⟩
  isplitr; · iexact HR
  isplitl [H]; · iexact H
  iintro H
  unfold WP
  rw [wp_ret]
  imod (end_ST X Wt c K KS) $$ [H] with H
  · isplitr; · iexact HR
    iexact H
  imodintro
  iapply Hk; iexact H

end Cert.RingProof

end
-- ==== Proof.Deal.lean ====
/-
Dealing the protocol's resources: from what the launch makes for each device's own cells to what each
device brings to its run.
-/
module

public import proofs.«01_k».proof.Proof.Run

@[expose] public section

noncomputable section

namespace Cert.RingProof

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (released readerAt writeTok releaseAuth slotInv)

variable {F : FTy → Type} [FloatOps F]

local notation "𝕄" => MT nD τ sig ℕ (Elt F) ℕ UU ℕ

/-! ## Conjunctions re-indexed -/

section Big
variable {M : Type} [URA M]

/-- Two finite conjunctions change places. -/
theorem swap_conj {I J : Type} [DecidableEq I] (s : Finset I) (t : Finset J) (Φ : I → J → sProp M) :
    (bigSep s fun i => bigSep t fun j => Φ i j) = bigSep t fun j => bigSep s fun i => Φ i j := by
  induction s using Finset.induction_on with
  | empty => simp only [bigSep_empty]; exact (bigSep_emp_const t).symm
  | insert a s ha ih =>
    rw [bigSep_insert ha, ih]
    exact (bigSep_sep' t (fun j => Φ a j) _).symm.trans (bigSep_congr fun j _ => show BI.sep (Φ a j) (bigSep s fun i => Φ i j) = _ from (bigSep_insert (Φ := fun i => Φ i j) ha).symm)

/-- Some of the members of a conjunction, numbered without repeats. -/
theorem pull_conj {T I : Type} [Fintype T] [Fintype I] (f : T → I) (hf : Function.Injective f) (Φ : I → sProp M) :
    bigSep Finset.univ Φ ⊢ bigSep Finset.univ fun t => Φ (f t) := by
  classical
  rw [← bigSep_image_of_injOn (s := Finset.univ) (f := f) hf.injOn Φ]
  exact bigSep_subset (Finset.subset_univ _)

/-- A family on every device, each member carried around by a permutation of its own. -/
theorem deal {D : Type} [Fintype D] [DecidableEq D] (m : ℕ) (e : ℕ → D ≃ D) (Φ : ℕ → D → sProp M) :
    (bigSep Finset.univ fun c => fam m fun n => Φ n c) = bigSep Finset.univ fun c => fam m fun n => Φ n (e n c) := by
  unfold fam
  rw [swap_conj, swap_conj Finset.univ (bits m)]
  exact bigSep_congr fun n _ => bigSep_univ_equiv (e n) (Φ n)

theorem allT_lt : allT < 2 ^ 128 := by decide +kernel

theorem fam3_of_univ (m : ℕ) (hm : m < 2 ^ 128) (R : Bool → ℕ → Fin 8 → sProp M) :
    (bigSep Finset.univ fun p : Bool × Fin 8 × Fin 8 => R p.1 p.2.1.val p.2.2) ⊢ fam3 m R := by
  have hi : Function.Injective fun p : Bool × Fin 8 × Fin 8 => key p.1 p.2.1.val p.2.2 := fun p p' e => by
    have e1 := congrArg kd e; have e2 := congrArg kh e; have e3 := congrArg ki e
    simp only [kd_key, kh_key, ki_key] at e1 e2 e3
    exact Prod.ext e1 (Prod.ext (Fin.ext e2) e3)
  have h := Entails.of_eq (bigSep_image_of_injOn (s := Finset.univ) hi.injOn fun n => R (kd n) (kh n) (ki n)).symm
  simp only [kd_key, kh_key, ki_key] at h
  unfold fam3 fam
  refine h.trans (bigSep_subset fun n hn => ?_)
  have h8 := bits_lt hm hn
  refine Finset.mem_image.mpr ⟨(kd n, ⟨kh n, by unfold kh; omega⟩, ki n), Finset.mem_univ _, ?_⟩
  show 16 * (n / 16) + 8 * (n / 8 % 2 == 1).toNat + n % 8 = n
  rcases Nat.mod_two_eq_zero_or_one (n / 8) with h0 | h0 <;> rw [h0] <;> simp <;> omega

theorem fam2_of_univ (m : ℕ) (hm : m < 2 ^ 8) (R : Bool → ℕ → sProp M) :
    (bigSep Finset.univ fun p : Bool × Fin 4 => R p.1 p.2.val) ⊢ fam2 m R := by
  have hi : Function.Injective fun p : Bool × Fin 4 => key2 p.1 p.2.val := fun p p' e => by
    have e1 := congrArg dd e; have e2 := congrArg dk e
    simp only [dd_key, dk_key] at e1 e2
    exact Prod.ext e1 (Fin.ext e2)
  have h := Entails.of_eq (bigSep_image_of_injOn (s := Finset.univ) hi.injOn fun n => R (dd n) (dk n)).symm
  simp only [dd_key, dk_key] at h
  unfold fam2 fam
  refine h.trans (bigSep_subset fun n hn => ?_)
  have h8 := bits_lt hm hn
  refine Finset.mem_image.mpr ⟨(dd n, ⟨dk n, by unfold dk; omega⟩), Finset.mem_univ _, ?_⟩
  show 2 * (n / 2) + (n % 2 == 1).toNat = n
  rcases Nat.mod_two_eq_zero_or_one n with h0 | h0 <;> rw [h0] <;> simp <;> omega

theorem fam2_of_all (R : Bool → ℕ → sProp M) :
    (bigSep Finset.univ fun p : Bool × Fin 4 => R p.1 p.2.val) ⊢ fam2 0xFF R := fam2_of_univ 0xFF (by decide) R

end Big

/-! ## The tokens -/

/-- Every token of the rounds a cell has is made; what a device uses of its own cells' is numbered by `TokIx`:
    the barrier's two, the credit cells', the send cells' and the receive cells'. -/
abbrev TokIx : Type := Bool ⊕ (Bool × Fin 4) ⊕ (Bool × Fin 8 × Fin 8) ⊕ (Bool × Fin 8 × Fin 8)

abbrev CeTok : Type := Ce × Fin 2 × Fin 4

def rnd (h : Fin 8) : Fin 2 := ⟨h.val / 4, by omega⟩

def tokIx : TokIx → CeTok
  | .inl b => (Ce.bar, 0, if b then 1 else 0)
  | .inr (.inl (d, k)) => (Ce.cred d, 0, k)
  | .inr (.inr (.inl (d, h, i))) => (Ce.snd d (slot h.val) i, rnd h, 0)
  | .inr (.inr (.inr (d, h, i))) => (Ce.rcv d (slot (h.val + 1)) i, rnd h, 0)

def ixTok : CeTok → TokIx
  | (.inl _, _, j) => .inl (j == 1)
  | (.inr (.inl d), _, j) => .inr (.inl (d, j))
  | (.inr (.inr (false, d, s, i)), r, _) => .inr (.inr (.inl (d, ⟨4 * r.val + s.val, by omega⟩, i)))
  | (.inr (.inr (true, d, s, i)), r, _) => .inr (.inr (.inr (d, ⟨4 * r.val + (s.val + 3) % 4, by omega⟩, i)))

theorem ixTok_tokIx (t : TokIx) : ixTok (tokIx t) = t := by
  rcases t with b | ⟨d, k⟩ | ⟨d, h, i⟩ | ⟨d, h, i⟩
  · cases b <;> rfl
  · rfl
  · have e : (⟨4 * (h.val / 4) + h.val % 4, by omega⟩ : Fin 8) = h := Fin.ext (Nat.div_add_mod _ _)
    exact congrArg (fun x : Fin 8 => (Sum.inr (Sum.inr (Sum.inl (d, x, i))) : TokIx)) e
  · have e : (⟨4 * (h.val / 4) + ((h.val + 1) % 4 + 3) % 4, by omega⟩ : Fin 8) = h := Fin.ext (show 4 * (h.val / 4) + ((h.val + 1) % 4 + 3) % 4 = h.val by omega)
    exact congrArg (fun x : Fin 8 => (Sum.inr (Sum.inr (Sum.inr (d, x, i))) : TokIx)) e

theorem tokIx_injective : Function.Injective tokIx := Function.LeftInverse.injective ixTok_tokIx

abbrev tokAt (c : Dev nD) (q : CeTok) : GSem nD τ sig × ℕ × ℕ := (kcell (c, q.1), q.2.1.val, q.2.2.val)

theorem tokAt_injective : Function.Injective fun p : Dev nD × CeTok => tokAt p.1 p.2 := by
  rintro ⟨c, x, r, j⟩ ⟨c', x', r', j'⟩ h
  have h1 : (c, x) = (c', x') := kcell_injective (congrArg Prod.fst h)
  have h2 : r.val = r'.val := congrArg (fun q : GSem nD τ sig × ℕ × ℕ => q.2.1) h
  have h3 : j.val = j'.val := congrArg (fun q : GSem nD τ sig × ℕ × ℕ => q.2.2) h
  obtain ⟨rfl, rfl⟩ := Prod.mk.inj h1
  obtain rfl := Fin.ext h2
  obtain rfl := Fin.ext h3
  rfl

def cells : Finset (GSem nD τ sig) := Finset.univ.map ⟨kcell, kcell_injective⟩
def tokens : Finset (GSem nD τ sig × ℕ × ℕ) := Finset.univ.map ⟨fun p : Dev nD × CeTok => tokAt p.1 p.2, tokAt_injective⟩

theorem cells_conj (Φ : GSem nD τ sig → sProp 𝕄) :
    bigSep cells Φ = bigSep Finset.univ fun c : Dev nD => bigSep Finset.univ fun x : Ce => Φ (kcell (c, x)) := by
  unfold cells; rw [bigSep_map, bigSep_univ_prod]; rfl

theorem tokens_conj (Φ : GSem nD τ sig × ℕ × ℕ → sProp 𝕄) :
    bigSep tokens Φ = bigSep Finset.univ fun c : Dev nD => bigSep Finset.univ fun q : CeTok => Φ (tokAt c q) := by
  unfold tokens; rw [bigSep_map, bigSep_univ_prod]; rfl

abbrev tk (x : GSem nD τ sig × ℕ × ℕ) : sProp 𝕄 := dutyTok ER x.1 x.2.1 x.2.2

/-- The tokens of a device's own cells. -/
def TokOwn (c : Dev nD) : sProp 𝕄 :=
  iprop(dutyTok ER (barC c) 0 1 ∗ dutyTok ER (barC c) 0 0
    ∗ fam2 0xFF (fun d k => dutyTok ER (credC c d) 0 k)
    ∗ fam3 allT (fun d h i => dutyTok ER (sndC c d h i) (h / 4) 0)
    ∗ fam3 allT (fun d h i => dutyTok ER (rcvC c d h i) (h / 4) 0))

theorem tok_own (c : Dev nD) : (bigSep Finset.univ fun q : CeTok => (tk (F := F) (tokAt c q))) ⊢ TokOwn (F := F) c := by
  refine (pull_conj tokIx tokIx_injective _).trans ?_
  rw [bigSep_univ_sum, bigSep_univ_sum, bigSep_univ_sum,
    bigSep_univ_eq_bigSepL [false, true] (by decide) (by decide), bigSepL_cons_cons, bigSepL_singleton]
  have hm := allT_lt
  unfold TokOwn
  generalize allT = m at hm ⊢
  show iprop((_ ∗ _) ∗ _ ∗ _ ∗ _) ⊢ _
  iintro ⟨⟨H0, H1⟩, Hc, Hs, Hr⟩
  isplitl [H1]; · iexact H1
  isplitl [H0]; · iexact H0
  isplitl [Hc]
  · iapply (fam2_of_all (fun d k => (dutyTok ER (credC c d) 0 k : sProp 𝕄))); iexact Hc
  isplitl [Hs]
  · iapply (fam3_of_univ m hm fun d h i => dutyTok ER (sndC c d h i) (h / 4) 0); iexact Hs
  · iapply (fam3_of_univ m hm fun d h i => dutyTok ER (rcvC c d h i) (h / 4) 0); iexact Hr

theorem toks_around : (bigSep Finset.univ fun c : Dev nD => TokOwn (F := F) c) ⊢ bigSep Finset.univ fun c : Dev nD => Toks (F := F) c := by
  have hg : (bigSep Finset.univ fun c : Dev nD => fam2 0xFF fun d k => (dutyTok ER (credC c d) 0 k : sProp 𝕄))
      = bigSep Finset.univ fun c : Dev nD => fam2 0xFF fun d k => (dutyTok ER (credC (toward c (!d)) d) 0 k : sProp 𝕄) :=
    deal 0xFF (fun n => ring (!dd n)) fun n c => (dutyTok ER (credC c (dd n)) 0 (dk n) : sProp 𝕄)
  have hr : (bigSep Finset.univ fun c : Dev nD => fam3 allT fun d h i => (dutyTok ER (rcvC c d h i) (h / 4) 0 : sProp 𝕄))
      = bigSep Finset.univ fun c : Dev nD => fam3 allT fun d h i => (dutyTok ER (rcvC (toward c d) d h i) (h / 4) 0 : sProp 𝕄) :=
    deal allT (fun n => ring (kd n)) fun n c => (dutyTok ER (rcvC c (kd n) (kh n) (ki n)) (kh n / 4) 0 : sProp 𝕄)
  have h1 : (bigSep Finset.univ fun c : Dev nD => (dutyTok ER (barC c) 0 1 : sProp 𝕄))
      = bigSep Finset.univ fun c : Dev nD => (dutyTok ER (barC (toward c false)) 0 1 : sProp 𝕄) :=
    bigSep_univ_equiv (ring false) fun c : Dev nD => (dutyTok ER (barC c) 0 1 : sProp 𝕄)
  have h0 : (bigSep Finset.univ fun c : Dev nD => (dutyTok ER (barC c) 0 0 : sProp 𝕄))
      = bigSep Finset.univ fun c : Dev nD => (dutyTok ER (barC (toward c true)) 0 0 : sProp 𝕄) :=
    bigSep_univ_equiv (ring true) fun c : Dev nD => (dutyTok ER (barC c) 0 0 : sProp 𝕄)
  unfold TokOwn Toks
  simp only [bigSep_sep']
  rw [hg, hr, h1, h0]
  iintro ⟨H1, H0, Hg, Hs, Hr⟩
  isplitl [H1 H0]
  · isplitl [H1] <;> iassumption
  isplitl [Hg]; · iexact Hg
  isplitl [Hs] <;> iassumption

/-! ## The hand-back tokens -/

abbrev rkey (p : Dev nD × Bool × Fin 4) : RKey := (p.1, p.2.1, p.2.2.val)

theorem rkey_injective : Function.Injective rkey := by
  rintro ⟨c, d, k⟩ ⟨c', d', k'⟩ h
  obtain ⟨h1, h2⟩ := Prod.mk.inj h
  obtain ⟨h2, h3⟩ := Prod.mk.inj h2
  exact Prod.ext h1 (Prod.ext h2 (Fin.ext h3))

def rkeys : Finset RKey := Finset.univ.map ⟨rkey, rkey_injective⟩

theorem rkeys_conj (Φ : RKey → sProp 𝕄) : bigSep rkeys Φ = bigSep Finset.univ fun p : Dev nD × Bool × Fin 4 => Φ (rkey p) := by
  unfold rkeys; rw [bigSep_map]; rfl

theorem rkeys_one (Φ : RKey × ℕ → sProp 𝕄) :
    bigSep (rkeys ×ˢ Finset.range 1) Φ = bigSep Finset.univ fun p : Dev nD × Bool × Fin 4 => Φ (rkey p, 0) := by
  rw [Finset.range_one, Finset.product_singleton, bigSep_map, rkeys_conj]; rfl

theorem rels_deal : iprop((bigSep Finset.univ fun p : Dev nD × Bool × Fin 4 => (readerAt EC (rkey p) 0 : sProp 𝕄))
      ∗ bigSep Finset.univ fun p : Dev nD × Bool × Fin 4 => (writeTok EC (rkey p) 1 : sProp 𝕄))
    ⊢ bigSep Finset.univ fun c : Dev nD => Rels (F := F) c := by
  have hw : (bigSep Finset.univ fun c : Dev nD => fam2 0xFF fun d k => (writeTok EC (c, d, k) 1 : sProp 𝕄))
      = bigSep Finset.univ fun c : Dev nD => fam2 0xFF fun d k => (writeTok EC (toward c d, d, k) 1 : sProp 𝕄) :=
    deal 0xFF (fun n => ring (dd n)) fun n c => (writeTok EC (c, dd n, dk n) 1 : sProp 𝕄)
  unfold Rels
  rw [bigSep_sep', ← hw, bigSep_univ_prod (fun p : Dev nD × Bool × Fin 4 => (readerAt EC (rkey p) 0 : sProp 𝕄)),
    bigSep_univ_prod (fun p : Dev nD × Bool × Fin 4 => (writeTok EC (rkey p) 1 : sProp 𝕄))]
  exact BIClass.sep_mono (bigSep_mono fun c _ => fam2_of_all fun d k => (readerAt EC (c, d, k) 0 : sProp 𝕄))
    (bigSep_mono fun c _ => fam2_of_all fun d k => (writeTok EC (c, d, k) 1 : sProp 𝕄))

/-! ## What the launch makes, and what the devices get of it -/

variable (X : Dev nD → S256x4096.Idx → Elt F .f32)

/-- The hand-back tokens are made where device 0's are. -/
def Seed (c : Dev nD) : sProp 𝕄 := if c = 0 then BI.own (EC (Release.initSlots rkeys 1)) else iprop(emp)

theorem seed_eq : (bigSep Finset.univ fun c : Dev nD => Seed (F := F) c) = iprop(BI.own (EC (Release.initSlots rkeys 1)) ∗ emp) := by
  have h : (bigSep (Finset.univ.erase (0 : Dev nD)) fun c => Seed (F := F) c) = iprop(emp) :=
    (bigSep_congr fun c hc => if_neg (Finset.ne_of_mem_erase hc)).trans (bigSep_emp_const _)
  rw [bigSep_univ_at _ (0 : Dev nD), h]
  unfold Seed; rw [if_pos rfl]

def G (c : Dev nD) : sProp 𝕄 :=
  iprop((bigSep Finset.univ fun x : Ce => roundState ER (sched X) (kcell (c, x)) 0)
    ∗ (bigSep Finset.univ fun x : Ce => reached ER (kcell (c, x)) 0) ∗ Pos (F := F) c ∗ TokOwn (F := F) c ∗ Seed (F := F) c)

theorem fund_ring : BI.own (ERC (initOf cells tokens, Release.initSlots rkeys 1)) ⊢ (|==> bigSep Finset.univ (G X) : sProp 𝕄) := by
  iintro HX
  ihave H := (own_pair_emb ERC _ _) $$ HX
  icases H with ⟨HR, HC⟩
  imod (Rounds.fund ER (sched X) cells tokens) $$ HR with ⟨Hst, Hr, Hat, Htok⟩
  imodintro
  ihave Hst := (Entails.of_eq (cells_conj fun g => roundState ER (sched X) g 0)) $$ Hst
  ihave Hat := (Entails.of_eq (cells_conj fun g => atPos ER g 0 ∅ 0)) $$ Hat
  ihave Hr := (Entails.of_eq (cells_conj fun g => reached ER g 0)) $$ Hr
  ihave Htok := ((Entails.of_eq (tokens_conj fun x => tk x)).trans (bigSep_mono fun c _ => tok_own c)) $$ Htok
  unfold G; simp only [bigSep_sep']
  isplitl [Hst]; · iexact Hst
  isplitl [Hr]; · iexact Hr
  isplitl [Hat]; · iexact Hat
  isplitl [Htok]; · iexact Htok
  iapply (Entails.of_eq (seed_eq (F := F)).symm)
  isplitl [HC]; · iexact HC
  iempintro

end Cert.RingProof

end
-- ==== Proof.Launch.lean ====
/-
The launch: the invariants allocated and the resources dealt, the data of the pipelined region, the body's
obligation, and the run of the whole program.
-/
module

public import proofs.«01_k».proof.Proof.Deal
public import proofs.«01_k».proof.Proof.Gen.KernelIdeal.Points
public import Idealize.ShloMosaic.Lib.Pipeline.CollectiveSegs

@[expose] public section

noncomputable section

namespace Cert.RingProof

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (released readerAt writeTok releaseAuth slotInv)
open Idealize.ShloMosaic.Pipeline (Dat Cfg Window BodyObligation cellOf)

variable {F : FTy → Type} [FloatOps F]

local notation "𝕄" => MT nD τ sig ℕ (Elt F) ℕ UU ℕ

/-! ## The global step -/

section Glob
variable (X : Dev nD → S256x4096.Idx → Elt F .f32)

theorem ownSemFacts : Pipeline.OwnSemFacts cfg0.spec ownSem :=
  ⟨by decide +kernel, ownSem_injective, sems_disj⟩

abbrev ownS (c : Dev nD) : sProp 𝕄 := Pipeline.ownSems0 (Ix := ℕ) (Name := ℕ) (U := UU) (Lvl := ℕ) (Val := Elt F) (τ := τ) ownSem c

theorem unscopedSems0_eq (c : Dev nD) : (unscopedSems0 c : sProp 𝕄) = semVal (barC c) 0 := by
  unfold unscopedSems0; rw [bigSep_eq_bigSepL_of_eq [SemLoc.reg barS] (by decide) (by decide)]; rfl

theorem sems0 (c : Dev nD) : iprop(ownS (F := F) c ∗ unscopedSems0 c) ⊢ (bigSep Finset.univ fun x : Ce => semVal (kcell (c, x)) 0 : sProp 𝕄) := by
  rw [unscopedSems0_eq, bigSep_univ_sum, bigSep_univ_eq_bigSepL [()] (by decide) (by decide), bigSepL_singleton]
  unfold ownS Pipeline.ownSems0
  show _ ⊢ iprop(semVal (kcell (c, .inl ())) 0 ∗ bigSep Finset.univ fun x => semVal (kcell (c, .inr x)) 0)
  iintro ⟨HO, HB⟩
  isplitl [HB]; · iexact HB
  iexact HO

/-- What device `c` has once its cells are under invariants. -/
def Alloc (c : Dev nD) : sProp 𝕄 :=
  iprop((bigSep Finset.univ fun x : Ce => iprop(∃ κ : ℕ, cellInv ER (sched X) κ (kcell (c, x))))
    ∗ (bigSep Finset.univ fun x : Ce => reached ER (kcell (c, x)) 0) ∗ Pos (F := F) c ∗ TokOwn (F := F) c ∗ Seed (F := F) c)

theorem alloc_split : (bigSep Finset.univ (Alloc X) : sProp 𝕄)
    ⊢ iprop((bigSep Finset.univ fun p : Dev nD × Ce => iprop(∃ κ : ℕ, cellInv ER (sched X) κ (kcell p)))
      ∗ (bigSep Finset.univ fun p : Dev nD × Ce => reached ER (kcell p) 0) ∗ (bigSep Finset.univ fun c : Dev nD => Pos (F := F) c)
      ∗ (bigSep Finset.univ fun c : Dev nD => TokOwn (F := F) c) ∗ (bigSep Finset.univ fun c : Dev nD => Seed (F := F) c)) := by
  rw [show (Alloc X : Dev nD → sProp 𝕄) = fun c => Alloc X c from rfl]
  unfold Alloc
  rw [bigSep_sep', bigSep_sep', bigSep_sep', bigSep_sep', bigSep_univ_prod (fun p : Dev nD × Ce => iprop(∃ κ : ℕ, cellInv ER (sched X) κ (kcell p))),
    bigSep_univ_prod (fun p : Dev nD × Ce => (reached ER (kcell p) 0 : sProp 𝕄))]

theorem core_alloc (c : Dev nD) : iprop(ownS (F := F) c ∗ unscopedSems0 c ∗ G X c)
    ⊢ (iprop(|={Set.univ}=> Alloc X c) : sProp 𝕄) := by
  unfold G Alloc
  iintro ⟨Hos, Hus, Hst, Hrest⟩
  ihave Hv := (sems0 (F := F) c) $$ [Hos Hus]
  · isplitl [Hos] <;> iassumption
  imod (show iprop((bigSep Finset.univ fun x : Ce => semVal (kcell (c, x)) 0) ∗ bigSep Finset.univ fun x : Ce => roundState ER (sched X) (kcell (c, x)) 0)
      ⊢ (iprop(|={Set.univ}=> bigSep Finset.univ fun x : Ce => iprop(∃ κ : ℕ, cellInv ER (sched X) κ (kcell (c, x)))) : sProp 𝕄) from by
        rw [← bigSep_sep']
        exact (bigSep_mono fun x _ => (Rounds.body_intro ER (sched X) (kcell (c, x))).trans inv_alloc).trans (bigSep_fupd _ _)) $$ [Hv Hst] with Hinv
  · isplitl [Hv] <;> iassumption
  imodintro
  isplitl [Hinv]; · iexact Hinv
  iexact Hrest

variable (K : Dev nD × Ce → ℕ) (KS : Dev nD × Bool × Fin 4 → ℕ)

/-- What every device knows, but for the levels. -/
def Recs0 : sProp 𝕄 :=
  iprop(bigSep Finset.univ (fun p : Dev nD × Ce => cellInv ER (sched X) (K p) (kcell p))
    ∗ bigSep Finset.univ (fun p : Dev nD × Bool × Fin 4 => slotInv EC (KS p) (p.1, p.2.1, p.2.2.val) (slotRes (F := F) p.1 p.2.1 p.2.2.val))
    ∗ bigSep Finset.univ (fun p : Dev nD × Ce => reached ER (kcell p) 0))

instance recs0_persistent : BI.Persistent (Recs0 X K KS) := by unfold Recs0; infer_instance

theorem recs_of : iprop(Recs0 X K KS ∗ levAts L lv) ⊢ (Recs X K KS : sProp 𝕄) := by
  unfold Recs0 Recs
  iintro ⟨⟨H1, H2, H3⟩, H4⟩
  isplitl [H1]; · iexact H1
  isplitl [H2]; · iexact H2
  isplitl [H3] <;> iassumption

end Glob

section Glob2
variable (X : Dev nD → S256x4096.Idx → Elt F .f32)

/-- What the global step gives device `c`. -/
def G' (c : Dev nD) : sProp 𝕄 := iprop(∃ K KS, Recs0 X K KS ∗ Pos (F := F) c ∗ Toks (F := F) c ∗ Rels (F := F) c)

theorem alloc_all : (bigSep Finset.univ fun c => iprop(ownS (F := F) c ∗ unscopedSems0 c ∗ G X c))
    ⊢ (iprop(|={Set.univ}=> bigSep Finset.univ (Alloc X)) : sProp 𝕄) :=
  (bigSep_mono fun c _ => core_alloc X c).trans (bigSep_fupd Finset.univ _)

theorem glob : (bigSep Finset.univ fun c => iprop(ownS (F := F) c ∗ unscopedSems0 c ∗ G X c))
    ⊢ (iprop(|={Set.univ}=> bigSep Finset.univ (G' X)) : sProp 𝕄) := by
  classical
  iintro H
  imod (alloc_all X) $$ H with H
  ihave H := (alloc_split X) $$ H
  icases H with ⟨HI, #HR, HP, HT, HS⟩
  ihave HS := (Entails.of_eq (seed_eq (F := F))) $$ HS
  icases HS with ⟨HS, -⟩
  imod (Release.slots_init EC rkeys 1 (fun k : RKey => slotRes (F := F) k.1 k.2.1 k.2.2)) $$ HS with ⟨%ιs, -, HC, Hrd, Hwr⟩
  imodintro
  ihave HC := (Entails.of_eq (rkeys_conj fun k => slotInv EC (ιs k) k (slotRes (F := F) k.1 k.2.1 k.2.2))) $$ HC
  ihave Hrd := (Entails.of_eq (rkeys_conj fun k => (readerAt EC k 0 : sProp 𝕄))) $$ Hrd
  ihave Hwr := (Entails.of_eq (rkeys_one fun x => (writeTok EC x.1 (x.2 + 1) : sProp 𝕄))) $$ Hwr
  ihave HL := (rels_deal (F := F)) $$ [Hrd Hwr]
  · isplitl [Hrd] <;> iassumption
  ihave HT := (toks_around (F := F)) $$ HT
  ihave HK := (BI.bigSep_exists_pi Finset.univ (fun (p : Dev nD × Ce) (κ : ℕ) => (cellInv ER (sched X) κ (kcell p) : sProp 𝕄))) $$ HI
  icases HK with ⟨%K, HI⟩
  iapply (bigSep_with_persistent (R := Recs0 X K fun p => ιs (rkey p)) (Φ := fun c => iprop(Pos (F := F) c ∗ Toks (F := F) c ∗ Rels (F := F) c)) fun c _ => show _ ⊢ G' X c from by
    unfold G'
    iintro ⟨H1, H2⟩
    iexists K, fun p => ιs (rkey p)
    isplitl [H1] <;> iassumption)
  isplitl [HI HC]
  · unfold Recs0
    isplitl [HI]; · iexact HI
    isplitl [HC]; · iexact HC
    iexact HR
  rw [bigSep_sep', bigSep_sep']
  isplitl [HP]; · iexact HP
  isplitl [HT] <;> iassumption

end Glob2

/-! ## The credits -/

def O₀ (c : Dev nD) : CellTallies nD τ sig ℕ := owe c σ₀

theorem cred_fam (m : ℕ) (sm : ℕ → SemLoc sig) (e : ℕ → Bool) (ι n : ℕ → ℕ) (c : Dev nD) :
    (Pipeline.launchCred (fun d => famSum m fun x => (tallyAt ((toward d (e x)).tc, sm x) (ι x) (n x) : CellTallies nD τ sig ℕ)) c : sProp 𝕄)
      ⊢ fam m fun x => cred (tallyAt (c.tc, sm x) (ι x) (n x)) := by
  unfold famSum fam
  rw [Pipeline.launchCred_sum (bits m) (fun x d => (tallyAt ((toward d (e x)).tc, sm x) (ι x) (n x) : CellTallies nD τ sig ℕ)) c]
  exact bigSep_mono fun x _ => Pipeline.launchCred_tallyAt (sm x) (fun d => toward d (e x)) (fun d => toward d (!e x)) (toward_back (e x)) (back_toward (e x)) (ι x) (n x) c

theorem fam_three (R : ℕ → sProp 𝕄) : fam 3 R ⊢ iprop(R 1 ∗ R 0) := by
  have h := (fam_take1 (m := 3) (n := 1) (by decide) R)
  rwa [show (3 ^^^ 2 ^ 1 : ℕ) = 2 ^ 0 from by decide, fam_pow] at h

theorem creds_gen (c : Dev nD) (σ : St) (hb : σ.bs = 3) (hg : σ.cg = 0xFF) (ht : σ.ts = allT) :
    (Pipeline.launchCred (fun d => owe d σ) c : sProp 𝕄) ⊢ Creds (F := F) c := by
  unfold owe
  rw [hb, hg, ht, Pipeline.launchCred_add (fun d => oB d 3 + oG d 0xFF) (fun d => oT d allT) c,
    Pipeline.launchCred_add (fun d => oB d 3) (fun d => oG d 0xFF) c]
  unfold oB oG oT Creds
  generalize allT = m
  iintro ⟨⟨HB, HG⟩, HT⟩
  ihave HB := (cred_fam (F := F) 3 (fun _ => .reg barS) (fun n => (n == 1)) (fun _ => 1) (fun _ => 1) c) $$ HB
  ihave HG := (cred_fam (F := F) 0xFF (fun n => .reg (creditSem (dd n))) (fun n => (!dd n)) (fun n => 2 * dk n + 5) (fun _ => 1) c) $$ HG
  ihave HT := (cred_fam (F := F) m (fun n => .dma (recvSem (kd n) (kh n) (ki n))) (fun n => (kd n)) (fun n => 2 * kh n + 2) (fun _ => NB) c) $$ HT
  ihave HB := (fam_three _) $$ HB
  isplitl [HB]
  · iapply (Entails.of_eq (show cred (tallyAt (barC c) 1 1 + tallyAt (barC c) 1 1) = (cred (tallyAt (barC c) 1 2) : sProp 𝕄) from by rw [tallyAt_add]))
    iapply (cred_add _ _).2
    iexact HB
  isplitl [HG]
  · iapply (Entails.of_eq (show (fam 0xFF fun n => cred (tallyAt (c.tc, .reg (creditSem (dd n))) (2 * dk n + 5) 1) : sProp 𝕄)
      = fam2 0xFF (fun d k => cred (tallyAt (credC c d) (2 * k + 5) 1)) from rfl))
    iexact HG
  iapply (Entails.of_eq (show (fam m fun n => cred (tallyAt (c.tc, .dma (recvSem (kd n) (kh n) (ki n))) (2 * kh n + 2) NB) : sProp 𝕄)
      = fam3 m (Rcr c) from rfl))
  iexact HT

theorem creds (c : Dev nD) : (Pipeline.launchCred O₀ c : sProp 𝕄) ⊢ Creds (F := F) c := creds_gen c σ₀ rfl rfl rfl

/-! ## The region -/

section Region
variable (m : (ℓ : Loc nD τ sig) → Buf (Elt F) ℓ) (ρ : Dev nD → PrngReg)

def s₀ : MemSt nD τ sig (Elt F) := ⟨m, fun _ => 0, ρ⟩

/-- The blocks of `x` and of `w` on each device. -/
def Xm (c : Dev nD) : S256x4096.Idx → Elt F .f32 := m ((c.tc : Thread nD τ).loc main_arg0)
def Wm (c : Dev nD) : S4096x512.Idx → Elt F .f32 := m ((c.tc : Thread nD τ).loc main_arg1)

theorem read_blk0 (f : S256x4096.Idx → Elt F .f32) : (win0_0.blk t0_0).view.read (Elt F) f = f := by
  have hz : (fun a => (win0_0.index t0_0) a * main_arg0.ty.shape.size a) = fun _ => 0 := funext fun a => by fin_cases a <;> decide
  exact Memref.read_access_unit_zero (Elt F) main_arg0 hz (fun a => by fin_cases a <;> decide) f
theorem read_blk1 (f : S4096x512.Idx → Elt F .f32) : (win0_1.blk t0_0).view.read (Elt F) f = f := by
  have hz : (fun a => (win0_1.index t0_0) a * main_arg1.ty.shape.size a) = fun _ => 0 := funext fun a => by fin_cases a <;> decide
  exact Memref.read_access_unit_zero (Elt F) main_arg1 hz (fun a => by fin_cases a <;> decide) f
theorem read_blk2 (f : S4096x512.Idx → Elt F .f32) : (win0_2.blk t0_0).view.read (Elt F) f = f := by
  have hz : (fun a => (win0_2.index t0_0) a * main_v1.ty.shape.size a) = fun _ => 0 := funext fun a => by fin_cases a <;> decide
  exact Memref.read_access_unit_zero (Elt F) main_v1 hz (fun a => by fin_cases a <;> decide) f

def start (c : Dev nD) : sProp 𝕄 :=
  iprop((∃ K KS, Recs (Xm m) K KS ∗ Pos (F := F) c ∗ Toks (F := F) c ∗ Rels (F := F) c) ∗ Creds (F := F) c)

def comms (c : Dev nD) : sProp 𝕄 := iprop(ownAny (F := F) (c.tc : Thread nD τ) (comm false) ∗ ownAny (F := F) (c.tc : Thread nD τ) (comm true))

def Φ₀ (c : Dev nD) : sProp 𝕄 := iprop(start m c ∗ comms (F := F) c)
def Φ₁ (c : Dev nD) : sProp 𝕄 :=
  iprop(comms (F := F) c ∗ semVal (barC c) 0 ∗ bigSep Finset.univ fun x : Bool ⊕ (Bool × Bool × Fin 4 × Fin 8) => semVal ((c.tc : Thread nD τ), ownSem x) 0)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => Xm m c
    | ⟨1, _⟩ => Wm m c
    | ⟨2, _⟩ => OUT (Xm m) (Wm m) c
  Φ t := match t with
    | ⟨0, _⟩ => Φ₀ m c
    | ⟨_ + 1, _⟩ => Φ₁ (F := F) c
  q _ := fullShare
  owed t := match t with
    | ⟨0, _⟩ => O₀ c
    | ⟨_ + 1, _⟩ => 0

def stg (c : Dev nD) (b : Ref sig .tc) (f : Buf (Elt F) ((c.tc : Thread nD τ).loc b)) : sProp 𝕄 :=
  iprop(∃ g : Buf (Elt F) ((c.tc : Thread nD τ).loc b), ⌜g = f⌝ ∗ (((c.tc : Thread nD τ).loc b) ↦{fullShare} g))

theorem before0 (c : Dev nD) (d) : (dats m ρ 0 c).before (0 : Fin 3) t0_0 d = Xm m c := by
  unfold Dat.before; rw [if_pos (fetch0_0 t0_0)]
  exact read_blk0 (Xm m c)
theorem before1 (c : Dev nD) (d) : (dats m ρ 0 c).before (1 : Fin 3) t0_0 d = Wm m c := by
  unfold Dat.before; rw [if_pos (fetch0_1 t0_0)]
  exact read_blk1 (Wm m c)

theorem comms_eq (c : Dev nD) : (comms c : sProp 𝕄) = Pipeline.scopedRest cfg0.spec c := by
  rw [scopedRest0_eq]
  have hA : (ownAny (F := F) (c.tc : Thread nD τ) (comm false) : sProp 𝕄)
      = iprop(∃ f : Buf (Elt F) ((c : Thread nD τ).loc cc0_scratch0), ((c : Thread nD τ).loc cc0_scratch0) ↦{fullShare} f) := by
    unfold ownAny
    exact congrArg BIBase.exists (funext fun f => owns_whole (c.tc : Thread nD τ) cc0_scratch0 fullShare f)
  have hB : (ownAny (F := F) (c.tc : Thread nD τ) (comm true) : sProp 𝕄)
      = iprop(∃ f : Buf (Elt F) ((c : Thread nD τ).loc cc0_scratch1), ((c : Thread nD τ).loc cc0_scratch1) ↦{fullShare} f) := by
    unfold ownAny
    exact congrArg BIBase.exists (funext fun f => owns_whole (c.tc : Thread nD τ) cc0_scratch1 fullShare f)
  unfold comms
  rw [hA, hB]

/-! ## The body's obligation -/

def bodyPost (c : Dev nD) : sProp 𝕄 :=
  iprop(Φ₁ (F := F) c ∗ (dats m ρ 0 c).owesAt 0 t0_0.succ ∗ stg c cc0_stg0_0 (Xm m c) ∗ stg c cc0_stg1_0 (Wm m c) ∗ stg c cc0_stg2_0 (OUT (Xm m) (Wm m) c))

set_option maxRecDepth 4000 in
def bodyPre (c : Dev nD) : sProp 𝕄 :=
  iprop(Φ₀ m c ∗ (dats m ρ 0 c).owesAt 0 t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

theorem owes_pre (c : Dev nD) : ((dats m ρ 0 c).owesAt 0 t0_0.castSucc : sProp 𝕄) ⊢ iprop(∃ W, owes (c.tc : Thread nD τ) (owe c σ₀) W) := by
  unfold Dat.owesAt Pipeline.owesWithin
  rw [show (dats m ρ 0 c).owed t0_0.castSucc = owe c σ₀ from rfl]
  iintro ⟨%W, -, H⟩
  iexists W; iexact H

theorem owes_post (c : Dev nD) : iprop(∃ W, owes (c.tc : Thread nD τ) (0 : CellTallies nD τ sig ℕ) W) ⊢ ((dats m ρ 0 c).owesAt 0 t0_0.succ : sProp 𝕄) := by
  unfold Dat.owesAt Pipeline.owesWithin
  rw [show (dats m ρ 0 c).owed t0_0.succ = 0 from rfl]
  iintro ⟨%W, H⟩
  iexists W
  isplitr; · ipureintro; exact fun _ _ => Or.inl trivial
  iexact H

theorem stg_of (c : Dev nD) (b : Ref sig .tc) (f : Buf (Elt F) ((c.tc : Thread nD τ).loc b)) :
    (((c.tc : Thread nD τ).loc b) ↦{fullShare} f) ⊢ (stg c b f : sProp 𝕄) := by
  unfold stg
  iintro H
  iexists f
  isplitr; · ipureintro; rfl
  iexact H

theorem stg_owns (c : Dev nD) (b : Ref sig .tc) (f : b.ty.Contents (Elt F)) :
    (stg c b f : sProp 𝕄) = owns (c.tc : Thread nD τ) (Memref.whole b) fullShare f := (owns_whole_eq (c.tc : Thread nD τ) b fullShare f).symm

theorem pre_start (c : Dev nD) : bodyPre m ρ c ⊢ (iprop(∃ K KS, Recs (Xm m) K KS ∗ ST (Xm m) (Wm m) c σ₀) : sProp 𝕄) := by
  unfold bodyPre Φ₀ start comms
  iintro ⟨⟨⟨⟨%K, %KS, #HR, HP, HT, HL⟩, HC⟩, Ha, Hb⟩, Ho, ⟨%d0, Hx⟩, ⟨%d1, Hw⟩, ⟨%d2, Hout⟩⟩
  iexists K, KS
  isplitr; · iexact HR
  ihave Ho := (owes_pre m ρ c) $$ Ho
  ihave Hx := (Entails.of_eq (show stg c cc0_stg0_0 ((dats m ρ 0 c).before (0 : Fin 3) t0_0 d0) = (owns (c.tc : Thread nD τ) xM fullShare (Xm m c) : sProp 𝕄) from by
    rw [before0, stg_owns])) $$ Hx
  ihave Hw := (Entails.of_eq (show stg c cc0_stg1_0 ((dats m ρ 0 c).before (1 : Fin 3) t0_0 d1) = (owns (c.tc : Thread nD τ) wM fullShare (Wm m c) : sProp 𝕄) from by
    rw [before1, stg_owns])) $$ Hw
  iapply (start_ST (Xm m) (Wm m) c K KS)
  isplitr; · iexact HR
  isplitl [Ho]; · iexact Ho
  isplitl [HP]; · iexact HP
  isplitl [HT]; · iexact HT
  isplitl [HL]; · iexact HL
  isplitl [HC]; · iexact HC
  isplitl [Ha]; · iexact Ha
  isplitl [Hb]; · iexact Hb
  isplitl [Hx]; · iexact Hx
  isplitl [Hw]; · iexact Hw
  unfold stg
  icases Hout with ⟨%g, -, H⟩
  iexists g; iexact H

theorem left_post (c : Dev nD) : Left (Xm m) (Wm m) c ⊢ (bodyPost m ρ c : sProp 𝕄) := by
  unfold Left bodyPost Φ₁ comms
  iintro ⟨Ho, Hx, Hw, Hout, Ha, Hb, HzB, Hz⟩
  isplitl [Ha Hb HzB Hz]
  · isplitl [Ha Hb]
    · isplitl [Ha] <;> iassumption
    isplitl [HzB] <;> iassumption
  isplitl [Ho]; · iapply (owes_post m ρ c); iexact Ho
  isplitl [Hx]; · iapply (Entails.of_eq (stg_owns c cc0_stg0_0 (Xm m c)).symm); iexact Hx
  isplitl [Hw]; · iapply (Entails.of_eq (stg_owns c cc0_stg1_0 (Wm m c)).symm); iexact Hw
  iapply (stg_of c cc0_stg2_0 (OUT (Xm m) (Wm m) c))
  iexact Hout

set_option maxRecDepth 100000 in
/-- The body's obligation on core `c`. -/
theorem body_obligation (c : Dev nD) : BodyObligation (dats (F := F) m ρ 0 c) (defs₀ (F := F)) 𝒱₀ 0 Set.univ := fun t => by
  rw [fin_N0 t]
  rw [bigSep_W0, bigSep_W0]
  simp only [owns_whole_eq]
  show bodyPre m ρ c ⊢ WP c (cc0_body (F := F) xM (Memref.isWhole_whole _) wM (Memref.isWhole_whole _) oM (Memref.isWhole_whole _)
          (Memref.whole cc0_scratch0) (Memref.isWhole_whole _) (Memref.whole cc0_scratch1) (Memref.isWhole_whole _)
          cc0_scratch2 cc0_scratch3 cc0_scratch4 cc0_scratch5 cc0_scratch6 cc0_scratch7) (fun _ => bodyPost m ρ c)
  refine (pre_start m ρ c).trans ?_
  iintro ⟨%K, %KS, HR, H⟩
  iapply (sound_body (Xm m) (Wm m) c K KS fun _ => bodyPost m ρ c)
  isplitl [HR]; · iexact HR
  isplitl [H]; · iexact H
  iintro H
  iapply (left_post m ρ c); iexact H

/-! ## The launch's side conditions -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (Xm m) c)
      ⊢ (iprop(|={Set.univ}=> (start m c ∗ emp)) : sProp 𝕄) := by
  unfold start G'
  iintro ⟨-, Hlev, Hcr, -, ⟨%K, %KS, HR, HG⟩⟩
  ihave Hc := (creds (F := F) c) $$ Hcr
  imodintro
  isplitl
  · isplitl [HR Hlev HG]
    · iexists K, KS
      isplitl [HR Hlev]
      · iapply (recs_of (Xm m) K KS)
        isplitl [HR] <;> iassumption
      iexact HG
    iexact Hc
  · iempintro

theorem phi0_intro (c : Dev nD) :
    iprop(start m c ∗ Pipeline.prefHeld Pipeline.Prefetch.none c (fun _ => fullShare.right) (fun k => k.elim0) ∗ Pipeline.scopedRest cfg0.spec c)
      ⊢ ((dats m ρ 0 c).Φ 0 : sProp 𝕄) := by
  rw [show (dats m ρ 0 c).Φ 0 = Φ₀ m c from rfl, ← comms_eq]
  unfold Φ₀
  iintro ⟨Hs, -, Hr⟩
  isplitl [Hs] <;> iassumption

theorem phi1_exit (c : Dev nD) :
    (dats m ρ 0 c).Φ (Fin.last cfg0.N) ⊢ (iprop(unscopedSems0 c ∗ Pipeline.ownSems0 ownSem c ∗ Pipeline.scopedRest cfg0.spec c) : sProp 𝕄) := by
  rw [show (dats m ρ 0 c).Φ (Fin.last cfg0.N) = Φ₁ (F := F) c from rfl, ← comms_eq, unscopedSems0_eq]
  unfold Φ₁ Pipeline.ownSems0
  iintro ⟨Hr, HB, Hz⟩
  isplitl [HB]; · iexact HB
  isplitl [Hz] <;> iassumption

theorem wait_first (c : Dev nD) (sm : SemLoc sig) (σ : St) (h : lim σ = true) : (levAts L lv : sProp 𝕄) ⊢ MayWait (c.tc : Thread nD τ) sm 0 (owe c σ) :=
  mayWait_owe c sm σ h 0 0 0 (by decide) (Nat.mod_one _) (Nat.mod_one _) (Or.inr (by decide)) (by decide) (by decide)

theorem waits (c : Dev nD) : (levAts L lv : sProp 𝕄) ⊢ Pipeline.cellsWaits cfgs (dats m ρ) 0 0 c :=
  Pipeline.cellsWaits_intro cfgs (dats m ρ) 0 0 c fun w s t => by
    rcases t with ⟨_ | _, ht⟩
    · exact wait_first c _ σ₀ (by decide +kernel)
    · show _ ⊢ MayWait _ _ _ 0
      rw [MayWait_zero]
      iintro -
      iempintro

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

def u₀ : UU := (initOf (Pipeline.cells cfgs cellOf_inj) (Pipeline.launchToks cfgs cellOf_inj), (initOf cells tokens, Release.initSlots rkeys 1))

set_option maxRecDepth 100000 in
/-- For any float values, from any memory with zero counters, every weakly fair execution of the sixteen devices'
    programs ends, with each device's arrays at the contents computed and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (Xm m)) (G' := G' (Xm m)) (u₀ := u₀)
    (hu₀ := by
      unfold u₀
      iintro Hu
      ihave H := (ownU_pair _ _) $$ Hu
      icases H with ⟨HP, HX⟩
      imod (fund_ring (Xm m)) $$ HX with HG
      imodintro
      isplitl [HP] <;> iassumption)
    (hglob := glob (Xm m))
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arrays of `x` and of `w` hold what they held. -/
theorem finalA_x (c : Dev nD) : finalA m ρ c (0 : Fin 3) = m ((c.tc : Thread nD τ).loc main_arg0) :=
  (dats (F := F) m ρ 0 c).arrAt_in (0 : Fin 3) rfl _
theorem finalA_w (c : Dev nD) : finalA m ρ c (1 : Fin 3) = m ((c.tc : Thread nD τ).loc main_arg1) :=
  (dats (F := F) m ρ 0 c).arrAt_in (1 : Fin 3) rfl _

/-- The result array holds the device's block. -/
theorem finalA_o (c : Dev nD) : finalA m ρ c (2 : Fin 3) = OUT (Xm m) (Wm m) c := by
  have h : (win0_2.blk t0_0).view.read (Elt F) (finalA m ρ c (2 : Fin 3)) = OUT (Xm m) (Wm m) c := by
    unfold finalA
    rw [show cfg0.N = (t0_0 : Fin cfg0.N).val + 1 from rfl, (dats m ρ 0 c).arrAt_succ (2 : Fin 3) t0_0,
      show (cfg0.win 2).flush t0_0 = true from flush0_2 t0_0, if_pos rfl]
    exact View.read_write_univ _ _
  exact (read_blk2 (finalA m ρ c (2 : Fin 3))).symm.trans h

/-- What every run ends with. -/
theorem run_ends : θ_run defs (onTc (τ := τ) (main (F := F))) ⟨m, fun _ => 0, ρ⟩ (fun r => (∀ c : Dev nD,
      r.2.mem ((c.tc : Thread nD τ).loc main_v1) = OUT (Xm m) (Wm m) c
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c => ⟨(h.1 c (2 : Fin 3)).trans (finalA_o m ρ c),
    (h.1 c (0 : Fin 3)).trans (finalA_x m ρ c), (h.1 c (1 : Fin 3)).trans (finalA_w m ρ c)⟩, h.2⟩) (run_main m ρ)

/-- The same, read at the arguments alone. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c => (h.1 c).2, h.2⟩) (run_ends m ρ)

end Region

end Cert.RingProof

end
-- ==== Proof.Value.lean ====
/-
The value: at the ideal instance each device's result is its block of columns of the product of the whole arrays,
read entry by entry as a sum over the contracted coordinate.
-/
module

public import proofs.«01_k».proof.Proof.Launch
public import proofs.«01_k».proof.Proof.Gen.ReferenceIdeal.Run
public import Idealize.ShloMosaic.Lib.StackMember
public import Idealize.ShloMosaic.Lib.KernelVsHost
public import Idealize.ShloMosaic.Lib.Pipeline.Value
public import Idealize.ShloMosaic.Lib.Layout

@[expose] public section

noncomputable section

namespace Cert.RingProof

open Cert.KernelIdeal Cert.KernelIdeal.Gen
open Idealize.ShloMosaic Idealize.ShloMosaic.ValueIdx
open Idealize.ShloMosaic.TcCoe
open scoped BigOperators

/-! ## The kernel's products -/

theorem pay_apply (v : Vec Ideal S256x4096 .f32) (w : Vec Ideal S4096x512 .f32) (a : Fin 256) (b : Fin 512) :
    pay v w (ix2 (n0 := 256) (n1 := 512) a b)
      = ∑ k : Fin 4096, v (ix2 (n0 := 256) (n1 := 4096) a k) * w (ix2 (n0 := 4096) (n1 := 512) k b) := by
  unfold pay
  rw [shapeCast_self, matmul_zero_eq_dotGeneral]
  exact StackMember.dotGeneral_plain_apply none v w a b

theorem payHalf_apply (v : Vec Ideal S128x4096 .f32) (w : Vec Ideal S4096x512 .f32) (a : Fin 128) (b : Fin 512) :
    payHalf v w (ix2 (n0 := 128) (n1 := 512) a b)
      = ∑ k : Fin 4096, v (ix2 (n0 := 128) (n1 := 4096) a k) * w (ix2 (n0 := 4096) (n1 := 512) k b) := by
  unfold payHalf
  rw [shapeCast_self, matmul_zero_eq_dotGeneral]
  exact StackMember.dotGeneral_plain_apply none v w a b

theorem half_row_val (r : ℕ) : 128 * (r / 128 % 2 == 1).toNat + r % 128 = r % 256 := by
  rcases Nat.mod_two_eq_zero_or_one (r / 128) with h | h
  · rw [h, show ((0 : ℕ) == 1).toNat = 0 from rfl]; omega
  · rw [h, show ((1 : ℕ) == 1).toNat = 1 from rfl]; omega

variable (X : Dev nD → S256x4096.Idx → Elt Ideal .f32) (W : Dev nD → S4096x512.Idx → Elt Ideal .f32)

/-- Whichever way a block is multiplied, an entry of the result is the product of its row and its column. -/
theorem out_apply (c : Dev nD) (y : S4096x512.Idx) :
    OUT X W c y = ∑ k : Fin 4096, X (blkDev y) (ix2 (n0 := 256) (n1 := 4096) ⟨(y 0).val % 256, Nat.mod_lt _ (by decide)⟩ k)
      * W c (ix2 (n0 := 4096) (n1 := 512) k (y 1)) := by
  unfold OUT
  split
  · rename_i h
    have hd : org false 8 c = blkDev y := Fin.ext h.symm
    rw [hd]
    refine (payHalf_apply _ _ _ _).trans (Finset.sum_congr rfl fun k _ => ?_)
    refine congrArg (· * _) ?_
    unfold halfOf
    refine congrArg (X (blkDev y)) (congrArg₂ ix2 (Fin.ext (half_row_val (y 0).val)) rfl)
  · exact pay_apply _ _ _ _

/-! ## The reference's product -/

abbrev RefX : Type := (⟨2, ![4096, 4096]⟩ : Shape).Idx → Elt Ideal .f32
abbrev RefW : Type := (⟨2, ![4096, 8192]⟩ : Shape).Idx → Elt Ideal .f32

/-- The reference's result. -/
def refOut (x : RefX) (w : RefW) : RefW :=
  Host.dotGeneral (F := Ideal) (φ₁ := .f32) (φ₂ := .f32) Cert.ReferenceIdeal.dot_S4096x4096_S4096x8192_S4096x8192_1_0_0_1_n_n none x w

theorem refOut_apply (x : RefX) (w : RefW) (a : Fin 4096) (b : Fin 8192) :
    refOut x w (ix2 a b) = ∑ k : Fin 4096, x (ix2 a k) * w (ix2 k b) := by
  unfold refOut
  exact StackMember.dotGeneral_plain_apply none x w a b

/-- Where each device's arrays are its blocks of the whole ones, its result is its block of the reference's. -/
theorem out_block (x : RefX) (w : RefW)
    (hX : ∀ c, X c = Layout.block ⟨2, ![256, 4096]⟩ ⟨2, ![4096, 4096]⟩ 0 16 c x)
    (hW : ∀ c, W c = Layout.block ⟨2, ![4096, 512]⟩ ⟨2, ![4096, 8192]⟩ 1 16 c w) (c : Dev nD) :
    OUT X W c = Layout.block ⟨2, ![4096, 512]⟩ ⟨2, ![4096, 8192]⟩ 1 16 c (refOut x w) := by
  funext y
  refine (out_apply X W c y).trans (Eq.symm ?_)
  refine ((congrArg (refOut x w) (eq_ix2 _)).trans (refOut_apply x w _ _)).trans (Eq.symm ?_)
  refine Finset.sum_congr rfl fun k _ => ?_
  rw [hX, hW, Layout.block_apply, Layout.block_apply]
  refine congrArg₂ _ (congrArg x ?_) (congrArg w ?_)
  · refine (eq_ix2 _).trans (congrArg₂ ix2 (Fin.ext ?_) (Fin.ext ?_))
    · refine (Layout.idx_rows_val _ _ _).1.trans ?_
      show (y 0).val / 256 * 256 + (y 0).val % 256 = (y 0).val
      exact Nat.div_add_mod' _ _
    · exact (Layout.idx_rows_val _ _ _).2
  · refine (eq_ix2 _).trans (congrArg₂ ix2 (Fin.ext ?_) (Fin.ext ?_))
    · exact (Layout.idx_cols_val _ _ _).1
    · exact (Layout.idx_cols_val _ _ _).2

end Cert.RingProof

end
-- ==== Proof.lean ====
/-
The five claims. The program as compiled and the program read at the ideal values have the same text, so the run is
written once, for any float values (Proof/Launch.lean `run_ends`): each frame is that run at its own instance. The value
claim reads the run at the ideal values against the reference's one product (Proof/Value.lean `out_block`).
-/
module

public import proofs.«01_k».proof.Proof.Gen.ReferenceIdeal.Run
public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Value
public import Idealize.ShloMosaic.Adequacy
public import Idealize.ShloMosaic.Init
public import Idealize.ShloMosaic.Lib.Quiescent

@[expose] public section

noncomputable section

namespace Cert.Proof

open Idealize.ShloMosaic Idealize.SL.Sem Cert.Kernel

set_option maxRecDepth 100000 in
/-- The two programs have one body table. -/
theorem bodies_eq (F : FTy → Type) [FloatOps F] :
    @Cert.Kernel.defs₀ F _ Cert.Kernel.Gen.facts = @Cert.KernelIdeal.defs₀ F _ Cert.KernelIdeal.Gen.facts := by
  unfold Cert.Kernel.defs₀ Cert.KernelIdeal.defs₀
  refine congrArg Defs.onTc ?_
  funext ℓ x
  match ℓ, x with
  | 0, (t, s) => rfl

theorem defs_eq (F : FTy → Type) [FloatOps F] :
    @Cert.Kernel.defs F _ Cert.Kernel.Gen.facts = @Cert.KernelIdeal.defs F _ Cert.KernelIdeal.Gen.facts :=
  congrArg (Pipeline.defs (@Cert.KernelIdeal.pcfgs F Cert.KernelIdeal.Gen.facts)) (bodies_eq F)

/-- The kernel as compiled: its run is the same text's, read at the bits. -/
theorem frame_kernel : Cert.quiescent_Kernel := fun m ρ _ =>
  Eq.mpr (congrArg (fun d => θ_run d (onTc (τ := Cert.KernelIdeal.τ) (Cert.KernelIdeal.main (F := Bits))) ⟨m, fun _ => 0, ρ⟩
      (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
        ∧ r.2.sem = fun _ => 0)) (defs_eq Bits))
    (Cert.RingProof.run_frame (F := Bits) m ρ)

theorem frame_ideal : Cert.quiescent_KernelIdeal := fun m ρ _ =>
  Cert.RingProof.run_frame (F := Ideal) m ρ

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem value : Cert.algebraic_KernelIdeal_ReferenceIdeal := fun m ρ m' ρ' _ h =>
  ⟨Cert.RingProof.refOut (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono (fun _ hr c =>
      ⟨(hr.1 c).1.trans (Cert.RingProof.out_block _ _ _ _ (fun d => (h d).1) (fun d => (h d).2) c), (hr.1 c).2⟩)
      (Cert.RingProof.run_ends (F := Ideal) m ρ),
    (θ_run Cert.ReferenceIdeal.defs _ _).mono (fun _ hr => hr 0) (Cert.ReferenceIdeal.Value.run (F := Ideal) m' ρ')⟩

theorem claim : Cert.Claim := ⟨Cert.Kernel.Gen.facts, Cert.KernelIdeal.Gen.facts, Cert.ReferenceIdeal.Gen.facts,
  frame_kernel, frame_ideal, frame_reference, trivial, value⟩

end Cert.Proof

end
